-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_GatherFfn (m : (ℓ : Loc Cert.GatherFfn.nD Cert.GatherFfn.τ Cert.GatherFfn.sig) → Buf (Elt Bits) ℓ) : Prop :=
  True

def Pre_GatherFfnIdeal (m : (ℓ : Loc Cert.GatherFfnIdeal.nD Cert.GatherFfnIdeal.τ Cert.GatherFfnIdeal.sig) → Buf (Elt Ideal) ℓ) : Prop :=
  True

def Pre_WholeFfnIdeal (m : (ℓ : Loc Cert.WholeFfnIdeal.nD Cert.WholeFfnIdeal.τ Cert.WholeFfnIdeal.sig) → Buf (Elt Ideal) ℓ) : Prop :=
  True

def Pre_WholeFfn (m : (ℓ : Loc Cert.WholeFfn.nD Cert.WholeFfn.τ Cert.WholeFfn.sig) → Buf (Elt Bits) ℓ) : Prop :=
  True

def Pre_ScatterEven (m : (ℓ : Loc Cert.ScatterEven.nD Cert.ScatterEven.τ Cert.ScatterEven.sig) → Buf (Elt Bits) ℓ) : Prop :=
  True

def Pre_ScatterEvenIdeal (m : (ℓ : Loc Cert.ScatterEvenIdeal.nD Cert.ScatterEvenIdeal.τ Cert.ScatterEvenIdeal.sig) → Buf (Elt Ideal) ℓ) : Prop :=
  True

def Pre_SentEvenIdeal (m : (ℓ : Loc Cert.SentEvenIdeal.nD Cert.SentEvenIdeal.τ Cert.SentEvenIdeal.sig) → Buf (Elt Ideal) ℓ) : Prop :=
  True

def Pre_SentEven (m : (ℓ : Loc Cert.SentEven.nD Cert.SentEven.τ Cert.SentEven.sig) → Buf (Elt Bits) ℓ) : Prop :=
  True

def Pre_ScatterOdd (m : (ℓ : Loc Cert.ScatterOdd.nD Cert.ScatterOdd.τ Cert.ScatterOdd.sig) → Buf (Elt Bits) ℓ) : Prop :=
  True

def Pre_ScatterOddIdeal (m : (ℓ : Loc Cert.ScatterOddIdeal.nD Cert.ScatterOddIdeal.τ Cert.ScatterOddIdeal.sig) → Buf (Elt Ideal) ℓ) : Prop :=
  True

def Pre_SentOddIdeal (m : (ℓ : Loc Cert.SentOddIdeal.nD Cert.SentOddIdeal.τ Cert.SentOddIdeal.sig) → Buf (Elt Ideal) ℓ) : Prop :=
  True

def Pre_SentOdd (m : (ℓ : Loc Cert.SentOdd.nD Cert.SentOdd.τ Cert.SentOdd.sig) → Buf (Elt Bits) ℓ) : Prop :=
  True

def Pre_GatherEven (m : (ℓ : Loc Cert.GatherEven.nD Cert.GatherEven.τ Cert.GatherEven.sig) → Buf (Elt Bits) ℓ) : Prop :=
  True

def Pre_GatherEvenIdeal (m : (ℓ : Loc Cert.GatherEvenIdeal.nD Cert.GatherEvenIdeal.τ Cert.GatherEvenIdeal.sig) → Buf (Elt Ideal) ℓ) : Prop :=
  True

def Pre_WholeEvenIdeal (m : (ℓ : Loc Cert.WholeEvenIdeal.nD Cert.WholeEvenIdeal.τ Cert.WholeEvenIdeal.sig) → Buf (Elt Ideal) ℓ) : Prop :=
  True

def Pre_WholeEven (m : (ℓ : Loc Cert.WholeEven.nD Cert.WholeEven.τ Cert.WholeEven.sig) → Buf (Elt Bits) ℓ) : Prop :=
  True

def Pre_GatherOdd (m : (ℓ : Loc Cert.GatherOdd.nD Cert.GatherOdd.τ Cert.GatherOdd.sig) → Buf (Elt Bits) ℓ) : Prop :=
  True

def Pre_GatherOddIdeal (m : (ℓ : Loc Cert.GatherOddIdeal.nD Cert.GatherOddIdeal.τ Cert.GatherOddIdeal.sig) → Buf (Elt Ideal) ℓ) : Prop :=
  True

def Pre_WholeOddIdeal (m : (ℓ : Loc Cert.WholeOddIdeal.nD Cert.WholeOddIdeal.τ Cert.WholeOddIdeal.sig) → Buf (Elt Ideal) ℓ) : Prop :=
  True

def Pre_WholeOdd (m : (ℓ : Loc Cert.WholeOdd.nD Cert.WholeOdd.τ Cert.WholeOdd.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_StackedSmallIdeal (m : (ℓ : Loc Cert.StackedSmallIdeal.nD Cert.StackedSmallIdeal.τ Cert.StackedSmallIdeal.sig) → Buf (Elt Ideal) ℓ) : Prop :=
  True

def Pre_StackedSmall (m : (ℓ : Loc Cert.StackedSmall.nD Cert.StackedSmall.τ Cert.StackedSmall.sig) → Buf (Elt Bits) ℓ) : Prop :=
  True

def Pre_GatherMod (m : (ℓ : Loc Cert.GatherMod.nD Cert.GatherMod.τ Cert.GatherMod.sig) → Buf (Elt Bits) ℓ) : Prop :=
  True

def Pre_GatherModIdeal (m : (ℓ : Loc Cert.GatherModIdeal.nD Cert.GatherModIdeal.τ Cert.GatherModIdeal.sig) → Buf (Elt Ideal) ℓ) : Prop :=
  True

def Pre_StackedModIdeal (m : (ℓ : Loc Cert.StackedModIdeal.nD Cert.StackedModIdeal.τ Cert.StackedModIdeal.sig) → Buf (Elt Ideal) ℓ) : Prop :=
  True

def Pre_StackedMod (m : (ℓ : Loc Cert.StackedMod.nD Cert.StackedMod.τ Cert.StackedMod.sig) → Buf (Elt Bits) ℓ) : Prop :=
  True

def Pre_GatherDmod (m : (ℓ : Loc Cert.GatherDmod.nD Cert.GatherDmod.τ Cert.GatherDmod.sig) → Buf (Elt Bits) ℓ) : Prop :=
  True

def Pre_GatherDmodIdeal (m : (ℓ : Loc Cert.GatherDmodIdeal.nD Cert.GatherDmodIdeal.τ Cert.GatherDmodIdeal.sig) → Buf (Elt Ideal) ℓ) : Prop :=
  True

def Pre_StackedDmodIdeal (m : (ℓ : Loc Cert.StackedDmodIdeal.nD Cert.StackedDmodIdeal.τ Cert.StackedDmodIdeal.sig) → Buf (Elt Ideal) ℓ) : Prop :=
  True

def Pre_StackedDmod (m : (ℓ : Loc Cert.StackedDmod.nD Cert.StackedDmod.τ Cert.StackedDmod.sig) → Buf (Elt Bits) ℓ) : Prop :=
  True

def Pre_GatherGrads (m : (ℓ : Loc Cert.GatherGrads.nD Cert.GatherGrads.τ Cert.GatherGrads.sig) → Buf (Elt Bits) ℓ) : Prop :=
  True

def Pre_GatherGradsIdeal (m : (ℓ : Loc Cert.GatherGradsIdeal.nD Cert.GatherGradsIdeal.τ Cert.GatherGradsIdeal.sig) → Buf (Elt Ideal) ℓ) : Prop :=
  True

def Pre_StackedGradsIdeal (m : (ℓ : Loc Cert.StackedGradsIdeal.nD Cert.StackedGradsIdeal.τ Cert.StackedGradsIdeal.sig) → Buf (Elt Ideal) ℓ) : Prop :=
  True

def Pre_StackedGrads (m : (ℓ : Loc Cert.StackedGrads.nD Cert.StackedGrads.τ Cert.StackedGrads.sig) → Buf (Elt Bits) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_StepFfnIdeal (m : (ℓ : Loc Cert.StepFfnIdeal.nD Cert.StepFfnIdeal.τ Cert.StepFfnIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_StepOutIdeal (m : (ℓ : Loc Cert.StepOutIdeal.nD Cert.StepOutIdeal.τ Cert.StepOutIdeal.sig) → Buf (Elt Ideal) ℓ) : Prop :=
  True

def Pre_AdamEven (m : (ℓ : Loc Cert.AdamEven.nD Cert.AdamEven.τ Cert.AdamEven.sig) → Buf (Elt Bits) ℓ) : Prop :=
  True

def Pre_AdamEvenIdeal (m : (ℓ : Loc Cert.AdamEvenIdeal.nD Cert.AdamEvenIdeal.τ Cert.AdamEvenIdeal.sig) → Buf (Elt Ideal) ℓ) : Prop :=
  True

def Pre_StepEvenIdeal (m : (ℓ : Loc Cert.StepEvenIdeal.nD Cert.StepEvenIdeal.τ Cert.StepEvenIdeal.sig) → Buf (Elt Ideal) ℓ) : Prop :=
  True

def Pre_AdamOdd (m : (ℓ : Loc Cert.AdamOdd.nD Cert.AdamOdd.τ Cert.AdamOdd.sig) → Buf (Elt Bits) ℓ) : Prop :=
  True

def Pre_AdamOddIdeal (m : (ℓ : Loc Cert.AdamOddIdeal.nD Cert.AdamOddIdeal.τ Cert.AdamOddIdeal.sig) → Buf (Elt Ideal) ℓ) : Prop :=
  True

def Pre_StepOddIdeal (m : (ℓ : Loc Cert.StepOddIdeal.nD Cert.StepOddIdeal.τ Cert.StepOddIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_StepAdaIdeal (m : (ℓ : Loc Cert.StepAdaIdeal.nD Cert.StepAdaIdeal.τ Cert.StepAdaIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_StepSmallIdeal (m : (ℓ : Loc Cert.StepSmallIdeal.nD Cert.StepSmallIdeal.τ Cert.StepSmallIdeal.sig) → Buf (Elt Ideal) ℓ) : Prop :=
  True

def Pre_BiasGrads (m : (ℓ : Loc Cert.BiasGrads.nD Cert.BiasGrads.τ Cert.BiasGrads.sig) → Buf (Elt Bits) ℓ) : Prop :=
  True

def Pre_BiasGradsIdeal (m : (ℓ : Loc Cert.BiasGradsIdeal.nD Cert.BiasGradsIdeal.τ Cert.BiasGradsIdeal.sig) → Buf (Elt Ideal) ℓ) : Prop :=
  True

def Pre_BiasTotalIdeal (m : (ℓ : Loc Cert.BiasTotalIdeal.nD Cert.BiasTotalIdeal.τ Cert.BiasTotalIdeal.sig) → Buf (Elt Ideal) ℓ) : Prop :=
  True

def Pre_CutGrads (m : (ℓ : Loc Cert.CutGrads.nD Cert.CutGrads.τ Cert.CutGrads.sig) → Buf (Elt Bits) ℓ) : Prop :=
  True

def Pre_CutGradsIdeal (m : (ℓ : Loc Cert.CutGradsIdeal.nD Cert.CutGradsIdeal.τ Cert.CutGradsIdeal.sig) → Buf (Elt Ideal) ℓ) : Prop :=
  True

def Pre_WeightTotalsIdeal (m : (ℓ : Loc Cert.WeightTotalsIdeal.nD Cert.WeightTotalsIdeal.τ Cert.WeightTotalsIdeal.sig) → Buf (Elt Ideal) ℓ) : Prop :=
  True

def Pre_SumGrads (m : (ℓ : Loc Cert.SumGrads.nD Cert.SumGrads.τ Cert.SumGrads.sig) → Buf (Elt Bits) ℓ) : Prop :=
  True

def Pre_SumGradsIdeal (m : (ℓ : Loc Cert.SumGradsIdeal.nD Cert.SumGradsIdeal.τ Cert.SumGradsIdeal.sig) → Buf (Elt Ideal) ℓ) : Prop :=
  True

def Pre_TotalGradsIdeal (m : (ℓ : Loc Cert.TotalGradsIdeal.nD Cert.TotalGradsIdeal.τ Cert.TotalGradsIdeal.sig) → Buf (Elt Ideal) ℓ) : Prop :=
  True

def Pre_SumEarly (m : (ℓ : Loc Cert.SumEarly.nD Cert.SumEarly.τ Cert.SumEarly.sig) → Buf (Elt Bits) ℓ) : Prop :=
  True

def Pre_SumEarlyIdeal (m : (ℓ : Loc Cert.SumEarlyIdeal.nD Cert.SumEarlyIdeal.τ Cert.SumEarlyIdeal.sig) → Buf (Elt Ideal) ℓ) : Prop :=
  True

def Pre_TotalEarlyIdeal (m : (ℓ : Loc Cert.TotalEarlyIdeal.nD Cert.TotalEarlyIdeal.τ Cert.TotalEarlyIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_ModulationIdeal (m : (ℓ : Loc Cert.ModulationIdeal.nD Cert.ModulationIdeal.τ Cert.ModulationIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_ModGradsIdeal (m : (ℓ : Loc Cert.ModGradsIdeal.nD Cert.ModGradsIdeal.τ Cert.ModGradsIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormGradsIdeal (m : (ℓ : Loc Cert.NormGradsIdeal.nD Cert.NormGradsIdeal.τ Cert.NormGradsIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossIdeal (m : (ℓ : Loc Cert.LossIdeal.nD Cert.LossIdeal.τ Cert.LossIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_ProductGradIdeal (m : (ℓ : Loc Cert.ProductGradIdeal.nD Cert.ProductGradIdeal.τ Cert.ProductGradIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_HiddenIdeal (m : (ℓ : Loc Cert.HiddenIdeal.nD Cert.HiddenIdeal.τ Cert.HiddenIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_HiddenGradsIdeal (m : (ℓ : Loc Cert.HiddenGradsIdeal.nD Cert.HiddenGradsIdeal.τ Cert.HiddenGradsIdeal.sig) → Buf (Elt Ideal) ℓ) : Prop :=
  True

def Pre_BackGate (m : (ℓ : Loc Cert.BackGate.nD Cert.BackGate.τ Cert.BackGate.sig) → Buf (Elt Bits) ℓ) : Prop :=
  True

def Pre_BackGateIdeal (m : (ℓ : Loc Cert.BackGateIdeal.nD Cert.BackGateIdeal.τ Cert.BackGateIdeal.sig) → Buf (Elt Ideal) ℓ) : Prop :=
  True

def Pre_ThroughGateIdeal (m : (ℓ : Loc Cert.ThroughGateIdeal.nD Cert.ThroughGateIdeal.τ Cert.ThroughGateIdeal.sig) → Buf (Elt Ideal) ℓ) : Prop :=
  True

def Pre_BackUp (m : (ℓ : Loc Cert.BackUp.nD Cert.BackUp.τ Cert.BackUp.sig) → Buf (Elt Bits) ℓ) : Prop :=
  True

def Pre_BackUpIdeal (m : (ℓ : Loc Cert.BackUpIdeal.nD Cert.BackUpIdeal.τ Cert.BackUpIdeal.sig) → Buf (Elt Ideal) ℓ) : Prop :=
  True

def Pre_ThroughUpIdeal (m : (ℓ : Loc Cert.ThroughUpIdeal.nD Cert.ThroughUpIdeal.τ Cert.ThroughUpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_GatherFfn [hGatherFfn : Cert.GatherFfn.Facts] : Prop :=
  ∀ (m : (ℓ : Loc Cert.GatherFfn.nD Cert.GatherFfn.τ Cert.GatherFfn.sig) → Buf (Elt Bits) ℓ) (g : Dev Cert.GatherFfn.nD → PrngReg), Pre_GatherFfn m →
    θ_run (Cert.GatherFfn.defs (F := Bits)) (onTc (τ := Cert.GatherFfn.τ) (Cert.GatherFfn.main (F := Bits))) ⟨m, fun _ => 0, g⟩ (fun r => (∀ c : Dev Cert.GatherFfn.nD,
      r.2.mem ((c.tc : Thread Cert.GatherFfn.nD Cert.GatherFfn.τ).loc Cert.GatherFfn.main_arg0) = m ((c.tc : Thread Cert.GatherFfn.nD Cert.GatherFfn.τ).loc Cert.GatherFfn.main_arg0)
      ∧ r.2.mem ((c.tc : Thread Cert.GatherFfn.nD Cert.GatherFfn.τ).loc Cert.GatherFfn.main_arg1) = m ((c.tc : Thread Cert.GatherFfn.nD Cert.GatherFfn.τ).loc Cert.GatherFfn.main_arg1)
      ∧ r.2.mem ((c.tc : Thread Cert.GatherFfn.nD Cert.GatherFfn.τ).loc Cert.GatherFfn.main_arg2) = m ((c.tc : Thread Cert.GatherFfn.nD Cert.GatherFfn.τ).loc Cert.GatherFfn.main_arg2))
      ∧ r.2.sem = fun _ => 0)

def quiescent_GatherFfnIdeal [hGatherFfnIdeal : Cert.GatherFfnIdeal.Facts] : Prop :=
  ∀ (m : (ℓ : Loc Cert.GatherFfnIdeal.nD Cert.GatherFfnIdeal.τ Cert.GatherFfnIdeal.sig) → Buf (Elt Ideal) ℓ) (g : Dev Cert.GatherFfnIdeal.nD → PrngReg), Pre_GatherFfnIdeal m →
    θ_run (Cert.GatherFfnIdeal.defs (F := Ideal)) (onTc (τ := Cert.GatherFfnIdeal.τ) (Cert.GatherFfnIdeal.main (F := Ideal))) ⟨m, fun _ => 0, g⟩ (fun r => (∀ c : Dev Cert.GatherFfnIdeal.nD,
      r.2.mem ((c.tc : Thread Cert.GatherFfnIdeal.nD Cert.GatherFfnIdeal.τ).loc Cert.GatherFfnIdeal.main_arg0) = m ((c.tc : Thread Cert.GatherFfnIdeal.nD Cert.GatherFfnIdeal.τ).loc Cert.GatherFfnIdeal.main_arg0)
      ∧ r.2.mem ((c.tc : Thread Cert.GatherFfnIdeal.nD Cert.GatherFfnIdeal.τ).loc Cert.GatherFfnIdeal.main_arg1) = m ((c.tc : Thread Cert.GatherFfnIdeal.nD Cert.GatherFfnIdeal.τ).loc Cert.GatherFfnIdeal.main_arg1)
      ∧ r.2.mem ((c.tc : Thread Cert.GatherFfnIdeal.nD Cert.GatherFfnIdeal.τ).loc Cert.GatherFfnIdeal.main_arg2) = m ((c.tc : Thread Cert.GatherFfnIdeal.nD Cert.GatherFfnIdeal.τ).loc Cert.GatherFfnIdeal.main_arg2))
      ∧ r.2.sem = fun _ => 0)

def quiescent_WholeFfnIdeal [hWholeFfnIdeal : Cert.WholeFfnIdeal.Facts] : Prop :=
  ∀ (m : (ℓ : Loc Cert.WholeFfnIdeal.nD Cert.WholeFfnIdeal.τ Cert.WholeFfnIdeal.sig) → Buf (Elt Ideal) ℓ) (g : Dev Cert.WholeFfnIdeal.nD → PrngReg), Pre_WholeFfnIdeal m →
    θ_run (Cert.WholeFfnIdeal.defs (F := Ideal)) (onTc (τ := Cert.WholeFfnIdeal.τ) (Cert.WholeFfnIdeal.main (F := Ideal))) ⟨m, fun _ => 0, g⟩ (fun r => (∀ c : Dev Cert.WholeFfnIdeal.nD,
      r.2.mem ((c.tc : Thread Cert.WholeFfnIdeal.nD Cert.WholeFfnIdeal.τ).loc Cert.WholeFfnIdeal.main_arg0) = m ((c.tc : Thread Cert.WholeFfnIdeal.nD Cert.WholeFfnIdeal.τ).loc Cert.WholeFfnIdeal.main_arg0)
      ∧ r.2.mem ((c.tc : Thread Cert.WholeFfnIdeal.nD Cert.WholeFfnIdeal.τ).loc Cert.WholeFfnIdeal.main_arg1) = m ((c.tc : Thread Cert.WholeFfnIdeal.nD Cert.WholeFfnIdeal.τ).loc Cert.WholeFfnIdeal.main_arg1)
      ∧ r.2.mem ((c.tc : Thread Cert.WholeFfnIdeal.nD Cert.WholeFfnIdeal.τ).loc Cert.WholeFfnIdeal.main_arg2) = m ((c.tc : Thread Cert.WholeFfnIdeal.nD Cert.WholeFfnIdeal.τ).loc Cert.WholeFfnIdeal.main_arg2))
      ∧ r.2.sem = fun _ => 0)

def quiescent_WholeFfn [hWholeFfn : Cert.WholeFfn.Facts] : Prop :=
  ∀ (m : (ℓ : Loc Cert.WholeFfn.nD Cert.WholeFfn.τ Cert.WholeFfn.sig) → Buf (Elt Bits) ℓ) (g : Dev Cert.WholeFfn.nD → PrngReg), Pre_WholeFfn m →
    θ_run (Cert.WholeFfn.defs (F := Bits)) (onTc (τ := Cert.WholeFfn.τ) (Cert.WholeFfn.main (F := Bits))) ⟨m, fun _ => 0, g⟩ (fun r => (∀ c : Dev Cert.WholeFfn.nD,
      r.2.mem ((c.tc : Thread Cert.WholeFfn.nD Cert.WholeFfn.τ).loc Cert.WholeFfn.main_arg0) = m ((c.tc : Thread Cert.WholeFfn.nD Cert.WholeFfn.τ).loc Cert.WholeFfn.main_arg0)
      ∧ r.2.mem ((c.tc : Thread Cert.WholeFfn.nD Cert.WholeFfn.τ).loc Cert.WholeFfn.main_arg1) = m ((c.tc : Thread Cert.WholeFfn.nD Cert.WholeFfn.τ).loc Cert.WholeFfn.main_arg1)
      ∧ r.2.mem ((c.tc : Thread Cert.WholeFfn.nD Cert.WholeFfn.τ).loc Cert.WholeFfn.main_arg2) = m ((c.tc : Thread Cert.WholeFfn.nD Cert.WholeFfn.τ).loc Cert.WholeFfn.main_arg2))
      ∧ r.2.sem = fun _ => 0)

def quiescent_ScatterEven [hScatterEven : Cert.ScatterEven.Facts] : Prop :=
  ∀ (m : (ℓ : Loc Cert.ScatterEven.nD Cert.ScatterEven.τ Cert.ScatterEven.sig) → Buf (Elt Bits) ℓ) (g : Dev Cert.ScatterEven.nD → PrngReg), Pre_ScatterEven m →
    θ_run (Cert.ScatterEven.defs (F := Bits)) (onTc (τ := Cert.ScatterEven.τ) (Cert.ScatterEven.main (F := Bits))) ⟨m, fun _ => 0, g⟩ (fun r => (∀ c : Dev Cert.ScatterEven.nD,
      r.2.mem ((c.tc : Thread Cert.ScatterEven.nD Cert.ScatterEven.τ).loc Cert.ScatterEven.main_arg0) = m ((c.tc : Thread Cert.ScatterEven.nD Cert.ScatterEven.τ).loc Cert.ScatterEven.main_arg0)
      ∧ r.2.mem ((c.tc : Thread Cert.ScatterEven.nD Cert.ScatterEven.τ).loc Cert.ScatterEven.main_arg1) = m ((c.tc : Thread Cert.ScatterEven.nD Cert.ScatterEven.τ).loc Cert.ScatterEven.main_arg1))
      ∧ r.2.sem = fun _ => 0)

def quiescent_ScatterEvenIdeal [hScatterEvenIdeal : Cert.ScatterEvenIdeal.Facts] : Prop :=
  ∀ (m : (ℓ : Loc Cert.ScatterEvenIdeal.nD Cert.ScatterEvenIdeal.τ Cert.ScatterEvenIdeal.sig) → Buf (Elt Ideal) ℓ) (g : Dev Cert.ScatterEvenIdeal.nD → PrngReg), Pre_ScatterEvenIdeal m →
    θ_run (Cert.ScatterEvenIdeal.defs (F := Ideal)) (onTc (τ := Cert.ScatterEvenIdeal.τ) (Cert.ScatterEvenIdeal.main (F := Ideal))) ⟨m, fun _ => 0, g⟩ (fun r => (∀ c : Dev Cert.ScatterEvenIdeal.nD,
      r.2.mem ((c.tc : Thread Cert.ScatterEvenIdeal.nD Cert.ScatterEvenIdeal.τ).loc Cert.ScatterEvenIdeal.main_arg0) = m ((c.tc : Thread Cert.ScatterEvenIdeal.nD Cert.ScatterEvenIdeal.τ).loc Cert.ScatterEvenIdeal.main_arg0)
      ∧ r.2.mem ((c.tc : Thread Cert.ScatterEvenIdeal.nD Cert.ScatterEvenIdeal.τ).loc Cert.ScatterEvenIdeal.main_arg1) = m ((c.tc : Thread Cert.ScatterEvenIdeal.nD Cert.ScatterEvenIdeal.τ).loc Cert.ScatterEvenIdeal.main_arg1))
      ∧ r.2.sem = fun _ => 0)

def quiescent_SentEvenIdeal [hSentEvenIdeal : Cert.SentEvenIdeal.Facts] : Prop :=
  ∀ (m : (ℓ : Loc Cert.SentEvenIdeal.nD Cert.SentEvenIdeal.τ Cert.SentEvenIdeal.sig) → Buf (Elt Ideal) ℓ) (g : Dev Cert.SentEvenIdeal.nD → PrngReg), Pre_SentEvenIdeal m →
    θ_run (Cert.SentEvenIdeal.defs (F := Ideal)) (onTc (τ := Cert.SentEvenIdeal.τ) (Cert.SentEvenIdeal.main (F := Ideal))) ⟨m, fun _ => 0, g⟩ (fun r => (∀ c : Dev Cert.SentEvenIdeal.nD,
      r.2.mem ((c.tc : Thread Cert.SentEvenIdeal.nD Cert.SentEvenIdeal.τ).loc Cert.SentEvenIdeal.main_arg0) = m ((c.tc : Thread Cert.SentEvenIdeal.nD Cert.SentEvenIdeal.τ).loc Cert.SentEvenIdeal.main_arg0)
      ∧ r.2.mem ((c.tc : Thread Cert.SentEvenIdeal.nD Cert.SentEvenIdeal.τ).loc Cert.SentEvenIdeal.main_arg1) = m ((c.tc : Thread Cert.SentEvenIdeal.nD Cert.SentEvenIdeal.τ).loc Cert.SentEvenIdeal.main_arg1))
      ∧ r.2.sem = fun _ => 0)

def quiescent_SentEven [hSentEven : Cert.SentEven.Facts] : Prop :=
  ∀ (m : (ℓ : Loc Cert.SentEven.nD Cert.SentEven.τ Cert.SentEven.sig) → Buf (Elt Bits) ℓ) (g : Dev Cert.SentEven.nD → PrngReg), Pre_SentEven m →
    θ_run (Cert.SentEven.defs (F := Bits)) (onTc (τ := Cert.SentEven.τ) (Cert.SentEven.main (F := Bits))) ⟨m, fun _ => 0, g⟩ (fun r => (∀ c : Dev Cert.SentEven.nD,
      r.2.mem ((c.tc : Thread Cert.SentEven.nD Cert.SentEven.τ).loc Cert.SentEven.main_arg0) = m ((c.tc : Thread Cert.SentEven.nD Cert.SentEven.τ).loc Cert.SentEven.main_arg0)
      ∧ r.2.mem ((c.tc : Thread Cert.SentEven.nD Cert.SentEven.τ).loc Cert.SentEven.main_arg1) = m ((c.tc : Thread Cert.SentEven.nD Cert.SentEven.τ).loc Cert.SentEven.main_arg1))
      ∧ r.2.sem = fun _ => 0)

def quiescent_ScatterOdd [hScatterOdd : Cert.ScatterOdd.Facts] : Prop :=
  ∀ (m : (ℓ : Loc Cert.ScatterOdd.nD Cert.ScatterOdd.τ Cert.ScatterOdd.sig) → Buf (Elt Bits) ℓ) (g : Dev Cert.ScatterOdd.nD → PrngReg), Pre_ScatterOdd m →
    θ_run (Cert.ScatterOdd.defs (F := Bits)) (onTc (τ := Cert.ScatterOdd.τ) (Cert.ScatterOdd.main (F := Bits))) ⟨m, fun _ => 0, g⟩ (fun r => (∀ c : Dev Cert.ScatterOdd.nD,
      r.2.mem ((c.tc : Thread Cert.ScatterOdd.nD Cert.ScatterOdd.τ).loc Cert.ScatterOdd.main_arg0) = m ((c.tc : Thread Cert.ScatterOdd.nD Cert.ScatterOdd.τ).loc Cert.ScatterOdd.main_arg0)
      ∧ r.2.mem ((c.tc : Thread Cert.ScatterOdd.nD Cert.ScatterOdd.τ).loc Cert.ScatterOdd.main_arg1) = m ((c.tc : Thread Cert.ScatterOdd.nD Cert.ScatterOdd.τ).loc Cert.ScatterOdd.main_arg1))
      ∧ r.2.sem = fun _ => 0)

def quiescent_ScatterOddIdeal [hScatterOddIdeal : Cert.ScatterOddIdeal.Facts] : Prop :=
  ∀ (m : (ℓ : Loc Cert.ScatterOddIdeal.nD Cert.ScatterOddIdeal.τ Cert.ScatterOddIdeal.sig) → Buf (Elt Ideal) ℓ) (g : Dev Cert.ScatterOddIdeal.nD → PrngReg), Pre_ScatterOddIdeal m →
    θ_run (Cert.ScatterOddIdeal.defs (F := Ideal)) (onTc (τ := Cert.ScatterOddIdeal.τ) (Cert.ScatterOddIdeal.main (F := Ideal))) ⟨m, fun _ => 0, g⟩ (fun r => (∀ c : Dev Cert.ScatterOddIdeal.nD,
      r.2.mem ((c.tc : Thread Cert.ScatterOddIdeal.nD Cert.ScatterOddIdeal.τ).loc Cert.ScatterOddIdeal.main_arg0) = m ((c.tc : Thread Cert.ScatterOddIdeal.nD Cert.ScatterOddIdeal.τ).loc Cert.ScatterOddIdeal.main_arg0)
      ∧ r.2.mem ((c.tc : Thread Cert.ScatterOddIdeal.nD Cert.ScatterOddIdeal.τ).loc Cert.ScatterOddIdeal.main_arg1) = m ((c.tc : Thread Cert.ScatterOddIdeal.nD Cert.ScatterOddIdeal.τ).loc Cert.ScatterOddIdeal.main_arg1))
      ∧ r.2.sem = fun _ => 0)

def quiescent_SentOddIdeal [hSentOddIdeal : Cert.SentOddIdeal.Facts] : Prop :=
  ∀ (m : (ℓ : Loc Cert.SentOddIdeal.nD Cert.SentOddIdeal.τ Cert.SentOddIdeal.sig) → Buf (Elt Ideal) ℓ) (g : Dev Cert.SentOddIdeal.nD → PrngReg), Pre_SentOddIdeal m →
    θ_run (Cert.SentOddIdeal.defs (F := Ideal)) (onTc (τ := Cert.SentOddIdeal.τ) (Cert.SentOddIdeal.main (F := Ideal))) ⟨m, fun _ => 0, g⟩ (fun r => (∀ c : Dev Cert.SentOddIdeal.nD,
      r.2.mem ((c.tc : Thread Cert.SentOddIdeal.nD Cert.SentOddIdeal.τ).loc Cert.SentOddIdeal.main_arg0) = m ((c.tc : Thread Cert.SentOddIdeal.nD Cert.SentOddIdeal.τ).loc Cert.SentOddIdeal.main_arg0)
      ∧ r.2.mem ((c.tc : Thread Cert.SentOddIdeal.nD Cert.SentOddIdeal.τ).loc Cert.SentOddIdeal.main_arg1) = m ((c.tc : Thread Cert.SentOddIdeal.nD Cert.SentOddIdeal.τ).loc Cert.SentOddIdeal.main_arg1))
      ∧ r.2.sem = fun _ => 0)

def quiescent_SentOdd [hSentOdd : Cert.SentOdd.Facts] : Prop :=
  ∀ (m : (ℓ : Loc Cert.SentOdd.nD Cert.SentOdd.τ Cert.SentOdd.sig) → Buf (Elt Bits) ℓ) (g : Dev Cert.SentOdd.nD → PrngReg), Pre_SentOdd m →
    θ_run (Cert.SentOdd.defs (F := Bits)) (onTc (τ := Cert.SentOdd.τ) (Cert.SentOdd.main (F := Bits))) ⟨m, fun _ => 0, g⟩ (fun r => (∀ c : Dev Cert.SentOdd.nD,
      r.2.mem ((c.tc : Thread Cert.SentOdd.nD Cert.SentOdd.τ).loc Cert.SentOdd.main_arg0) = m ((c.tc : Thread Cert.SentOdd.nD Cert.SentOdd.τ).loc Cert.SentOdd.main_arg0)
      ∧ r.2.mem ((c.tc : Thread Cert.SentOdd.nD Cert.SentOdd.τ).loc Cert.SentOdd.main_arg1) = m ((c.tc : Thread Cert.SentOdd.nD Cert.SentOdd.τ).loc Cert.SentOdd.main_arg1))
      ∧ r.2.sem = fun _ => 0)

def quiescent_GatherEven [hGatherEven : Cert.GatherEven.Facts] : Prop :=
  ∀ (m : (ℓ : Loc Cert.GatherEven.nD Cert.GatherEven.τ Cert.GatherEven.sig) → Buf (Elt Bits) ℓ) (g : Dev Cert.GatherEven.nD → PrngReg), Pre_GatherEven m →
    θ_run (Cert.GatherEven.defs (F := Bits)) (onTc (τ := Cert.GatherEven.τ) (Cert.GatherEven.main (F := Bits))) ⟨m, fun _ => 0, g⟩ (fun r => (∀ c : Dev Cert.GatherEven.nD,
      r.2.mem ((c.tc : Thread Cert.GatherEven.nD Cert.GatherEven.τ).loc Cert.GatherEven.main_arg0) = m ((c.tc : Thread Cert.GatherEven.nD Cert.GatherEven.τ).loc Cert.GatherEven.main_arg0)
      ∧ r.2.mem ((c.tc : Thread Cert.GatherEven.nD Cert.GatherEven.τ).loc Cert.GatherEven.main_arg1) = m ((c.tc : Thread Cert.GatherEven.nD Cert.GatherEven.τ).loc Cert.GatherEven.main_arg1))
      ∧ r.2.sem = fun _ => 0)

def quiescent_GatherEvenIdeal [hGatherEvenIdeal : Cert.GatherEvenIdeal.Facts] : Prop :=
  ∀ (m : (ℓ : Loc Cert.GatherEvenIdeal.nD Cert.GatherEvenIdeal.τ Cert.GatherEvenIdeal.sig) → Buf (Elt Ideal) ℓ) (g : Dev Cert.GatherEvenIdeal.nD → PrngReg), Pre_GatherEvenIdeal m →
    θ_run (Cert.GatherEvenIdeal.defs (F := Ideal)) (onTc (τ := Cert.GatherEvenIdeal.τ) (Cert.GatherEvenIdeal.main (F := Ideal))) ⟨m, fun _ => 0, g⟩ (fun r => (∀ c : Dev Cert.GatherEvenIdeal.nD,
      r.2.mem ((c.tc : Thread Cert.GatherEvenIdeal.nD Cert.GatherEvenIdeal.τ).loc Cert.GatherEvenIdeal.main_arg0) = m ((c.tc : Thread Cert.GatherEvenIdeal.nD Cert.GatherEvenIdeal.τ).loc Cert.GatherEvenIdeal.main_arg0)
      ∧ r.2.mem ((c.tc : Thread Cert.GatherEvenIdeal.nD Cert.GatherEvenIdeal.τ).loc Cert.GatherEvenIdeal.main_arg1) = m ((c.tc : Thread Cert.GatherEvenIdeal.nD Cert.GatherEvenIdeal.τ).loc Cert.GatherEvenIdeal.main_arg1))
      ∧ r.2.sem = fun _ => 0)

def quiescent_WholeEvenIdeal [hWholeEvenIdeal : Cert.WholeEvenIdeal.Facts] : Prop :=
  ∀ (m : (ℓ : Loc Cert.WholeEvenIdeal.nD Cert.WholeEvenIdeal.τ Cert.WholeEvenIdeal.sig) → Buf (Elt Ideal) ℓ) (g : Dev Cert.WholeEvenIdeal.nD → PrngReg), Pre_WholeEvenIdeal m →
    θ_run (Cert.WholeEvenIdeal.defs (F := Ideal)) (onTc (τ := Cert.WholeEvenIdeal.τ) (Cert.WholeEvenIdeal.main (F := Ideal))) ⟨m, fun _ => 0, g⟩ (fun r => (∀ c : Dev Cert.WholeEvenIdeal.nD,
      r.2.mem ((c.tc : Thread Cert.WholeEvenIdeal.nD Cert.WholeEvenIdeal.τ).loc Cert.WholeEvenIdeal.main_arg0) = m ((c.tc : Thread Cert.WholeEvenIdeal.nD Cert.WholeEvenIdeal.τ).loc Cert.WholeEvenIdeal.main_arg0)
      ∧ r.2.mem ((c.tc : Thread Cert.WholeEvenIdeal.nD Cert.WholeEvenIdeal.τ).loc Cert.WholeEvenIdeal.main_arg1) = m ((c.tc : Thread Cert.WholeEvenIdeal.nD Cert.WholeEvenIdeal.τ).loc Cert.WholeEvenIdeal.main_arg1))
      ∧ r.2.sem = fun _ => 0)

def quiescent_WholeEven [hWholeEven : Cert.WholeEven.Facts] : Prop :=
  ∀ (m : (ℓ : Loc Cert.WholeEven.nD Cert.WholeEven.τ Cert.WholeEven.sig) → Buf (Elt Bits) ℓ) (g : Dev Cert.WholeEven.nD → PrngReg), Pre_WholeEven m →
    θ_run (Cert.WholeEven.defs (F := Bits)) (onTc (τ := Cert.WholeEven.τ) (Cert.WholeEven.main (F := Bits))) ⟨m, fun _ => 0, g⟩ (fun r => (∀ c : Dev Cert.WholeEven.nD,
      r.2.mem ((c.tc : Thread Cert.WholeEven.nD Cert.WholeEven.τ).loc Cert.WholeEven.main_arg0) = m ((c.tc : Thread Cert.WholeEven.nD Cert.WholeEven.τ).loc Cert.WholeEven.main_arg0)
      ∧ r.2.mem ((c.tc : Thread Cert.WholeEven.nD Cert.WholeEven.τ).loc Cert.WholeEven.main_arg1) = m ((c.tc : Thread Cert.WholeEven.nD Cert.WholeEven.τ).loc Cert.WholeEven.main_arg1))
      ∧ r.2.sem = fun _ => 0)

def quiescent_GatherOdd [hGatherOdd : Cert.GatherOdd.Facts] : Prop :=
  ∀ (m : (ℓ : Loc Cert.GatherOdd.nD Cert.GatherOdd.τ Cert.GatherOdd.sig) → Buf (Elt Bits) ℓ) (g : Dev Cert.GatherOdd.nD → PrngReg), Pre_GatherOdd m →
    θ_run (Cert.GatherOdd.defs (F := Bits)) (onTc (τ := Cert.GatherOdd.τ) (Cert.GatherOdd.main (F := Bits))) ⟨m, fun _ => 0, g⟩ (fun r => (∀ c : Dev Cert.GatherOdd.nD,
      r.2.mem ((c.tc : Thread Cert.GatherOdd.nD Cert.GatherOdd.τ).loc Cert.GatherOdd.main_arg0) = m ((c.tc : Thread Cert.GatherOdd.nD Cert.GatherOdd.τ).loc Cert.GatherOdd.main_arg0)
      ∧ r.2.mem ((c.tc : Thread Cert.GatherOdd.nD Cert.GatherOdd.τ).loc Cert.GatherOdd.main_arg1) = m ((c.tc : Thread Cert.GatherOdd.nD Cert.GatherOdd.τ).loc Cert.GatherOdd.main_arg1))
      ∧ r.2.sem = fun _ => 0)

def quiescent_GatherOddIdeal [hGatherOddIdeal : Cert.GatherOddIdeal.Facts] : Prop :=
  ∀ (m : (ℓ : Loc Cert.GatherOddIdeal.nD Cert.GatherOddIdeal.τ Cert.GatherOddIdeal.sig) → Buf (Elt Ideal) ℓ) (g : Dev Cert.GatherOddIdeal.nD → PrngReg), Pre_GatherOddIdeal m →
    θ_run (Cert.GatherOddIdeal.defs (F := Ideal)) (onTc (τ := Cert.GatherOddIdeal.τ) (Cert.GatherOddIdeal.main (F := Ideal))) ⟨m, fun _ => 0, g⟩ (fun r => (∀ c : Dev Cert.GatherOddIdeal.nD,
      r.2.mem ((c.tc : Thread Cert.GatherOddIdeal.nD Cert.GatherOddIdeal.τ).loc Cert.GatherOddIdeal.main_arg0) = m ((c.tc : Thread Cert.GatherOddIdeal.nD Cert.GatherOddIdeal.τ).loc Cert.GatherOddIdeal.main_arg0)
      ∧ r.2.mem ((c.tc : Thread Cert.GatherOddIdeal.nD Cert.GatherOddIdeal.τ).loc Cert.GatherOddIdeal.main_arg1) = m ((c.tc : Thread Cert.GatherOddIdeal.nD Cert.GatherOddIdeal.τ).loc Cert.GatherOddIdeal.main_arg1))
      ∧ r.2.sem = fun _ => 0)

def quiescent_WholeOddIdeal [hWholeOddIdeal : Cert.WholeOddIdeal.Facts] : Prop :=
  ∀ (m : (ℓ : Loc Cert.WholeOddIdeal.nD Cert.WholeOddIdeal.τ Cert.WholeOddIdeal.sig) → Buf (Elt Ideal) ℓ) (g : Dev Cert.WholeOddIdeal.nD → PrngReg), Pre_WholeOddIdeal m →
    θ_run (Cert.WholeOddIdeal.defs (F := Ideal)) (onTc (τ := Cert.WholeOddIdeal.τ) (Cert.WholeOddIdeal.main (F := Ideal))) ⟨m, fun _ => 0, g⟩ (fun r => (∀ c : Dev Cert.WholeOddIdeal.nD,
      r.2.mem ((c.tc : Thread Cert.WholeOddIdeal.nD Cert.WholeOddIdeal.τ).loc Cert.WholeOddIdeal.main_arg0) = m ((c.tc : Thread Cert.WholeOddIdeal.nD Cert.WholeOddIdeal.τ).loc Cert.WholeOddIdeal.main_arg0)
      ∧ r.2.mem ((c.tc : Thread Cert.WholeOddIdeal.nD Cert.WholeOddIdeal.τ).loc Cert.WholeOddIdeal.main_arg1) = m ((c.tc : Thread Cert.WholeOddIdeal.nD Cert.WholeOddIdeal.τ).loc Cert.WholeOddIdeal.main_arg1))
      ∧ r.2.sem = fun _ => 0)

def quiescent_WholeOdd [hWholeOdd : Cert.WholeOdd.Facts] : Prop :=
  ∀ (m : (ℓ : Loc Cert.WholeOdd.nD Cert.WholeOdd.τ Cert.WholeOdd.sig) → Buf (Elt Bits) ℓ) (g : Dev Cert.WholeOdd.nD → PrngReg), Pre_WholeOdd m →
    θ_run (Cert.WholeOdd.defs (F := Bits)) (onTc (τ := Cert.WholeOdd.τ) (Cert.WholeOdd.main (F := Bits))) ⟨m, fun _ => 0, g⟩ (fun r => (∀ c : Dev Cert.WholeOdd.nD,
      r.2.mem ((c.tc : Thread Cert.WholeOdd.nD Cert.WholeOdd.τ).loc Cert.WholeOdd.main_arg0) = m ((c.tc : Thread Cert.WholeOdd.nD Cert.WholeOdd.τ).loc Cert.WholeOdd.main_arg0)
      ∧ r.2.mem ((c.tc : Thread Cert.WholeOdd.nD Cert.WholeOdd.τ).loc Cert.WholeOdd.main_arg1) = m ((c.tc : Thread Cert.WholeOdd.nD Cert.WholeOdd.τ).loc Cert.WholeOdd.main_arg1))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_StackedSmallIdeal [hStackedSmallIdeal : Cert.StackedSmallIdeal.Facts] : Prop :=
  ∀ (m : (ℓ : Loc Cert.StackedSmallIdeal.nD Cert.StackedSmallIdeal.τ Cert.StackedSmallIdeal.sig) → Buf (Elt Ideal) ℓ) (g : Dev Cert.StackedSmallIdeal.nD → PrngReg), Pre_StackedSmallIdeal m →
    θ_run (Cert.StackedSmallIdeal.defs (F := Ideal)) (onTc (τ := Cert.StackedSmallIdeal.τ) (Cert.StackedSmallIdeal.main (F := Ideal))) ⟨m, fun _ => 0, g⟩ (fun r => (∀ c : Dev Cert.StackedSmallIdeal.nD,
      r.2.mem ((c.tc : Thread Cert.StackedSmallIdeal.nD Cert.StackedSmallIdeal.τ).loc Cert.StackedSmallIdeal.main_arg0) = m ((c.tc : Thread Cert.StackedSmallIdeal.nD Cert.StackedSmallIdeal.τ).loc Cert.StackedSmallIdeal.main_arg0))
      ∧ r.2.sem = fun _ => 0)

def quiescent_StackedSmall [hStackedSmall : Cert.StackedSmall.Facts] : Prop :=
  ∀ (m : (ℓ : Loc Cert.StackedSmall.nD Cert.StackedSmall.τ Cert.StackedSmall.sig) → Buf (Elt Bits) ℓ) (g : Dev Cert.StackedSmall.nD → PrngReg), Pre_StackedSmall m →
    θ_run (Cert.StackedSmall.defs (F := Bits)) (onTc (τ := Cert.StackedSmall.τ) (Cert.StackedSmall.main (F := Bits))) ⟨m, fun _ => 0, g⟩ (fun r => (∀ c : Dev Cert.StackedSmall.nD,
      r.2.mem ((c.tc : Thread Cert.StackedSmall.nD Cert.StackedSmall.τ).loc Cert.StackedSmall.main_arg0) = m ((c.tc : Thread Cert.StackedSmall.nD Cert.StackedSmall.τ).loc Cert.StackedSmall.main_arg0))
      ∧ r.2.sem = fun _ => 0)

def quiescent_GatherMod [hGatherMod : Cert.GatherMod.Facts] : Prop :=
  ∀ (m : (ℓ : Loc Cert.GatherMod.nD Cert.GatherMod.τ Cert.GatherMod.sig) → Buf (Elt Bits) ℓ) (g : Dev Cert.GatherMod.nD → PrngReg), Pre_GatherMod m →
    θ_run (Cert.GatherMod.defs (F := Bits)) (onTc (τ := Cert.GatherMod.τ) (Cert.GatherMod.main (F := Bits))) ⟨m, fun _ => 0, g⟩ (fun r => (∀ c : Dev Cert.GatherMod.nD,
      r.2.mem ((c.tc : Thread Cert.GatherMod.nD Cert.GatherMod.τ).loc Cert.GatherMod.main_arg0) = m ((c.tc : Thread Cert.GatherMod.nD Cert.GatherMod.τ).loc Cert.GatherMod.main_arg0))
      ∧ r.2.sem = fun _ => 0)

def quiescent_GatherModIdeal [hGatherModIdeal : Cert.GatherModIdeal.Facts] : Prop :=
  ∀ (m : (ℓ : Loc Cert.GatherModIdeal.nD Cert.GatherModIdeal.τ Cert.GatherModIdeal.sig) → Buf (Elt Ideal) ℓ) (g : Dev Cert.GatherModIdeal.nD → PrngReg), Pre_GatherModIdeal m →
    θ_run (Cert.GatherModIdeal.defs (F := Ideal)) (onTc (τ := Cert.GatherModIdeal.τ) (Cert.GatherModIdeal.main (F := Ideal))) ⟨m, fun _ => 0, g⟩ (fun r => (∀ c : Dev Cert.GatherModIdeal.nD,
      r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ r.2.sem = fun _ => 0)

def quiescent_StackedModIdeal [hStackedModIdeal : Cert.StackedModIdeal.Facts] : Prop :=
  ∀ (m : (ℓ : Loc Cert.StackedModIdeal.nD Cert.StackedModIdeal.τ Cert.StackedModIdeal.sig) → Buf (Elt Ideal) ℓ) (g : Dev Cert.StackedModIdeal.nD → PrngReg), Pre_StackedModIdeal m →
    θ_run (Cert.StackedModIdeal.defs (F := Ideal)) (onTc (τ := Cert.StackedModIdeal.τ) (Cert.StackedModIdeal.main (F := Ideal))) ⟨m, fun _ => 0, g⟩ (fun r => (∀ c : Dev Cert.StackedModIdeal.nD,
      r.2.mem ((c.tc : Thread Cert.StackedModIdeal.nD Cert.StackedModIdeal.τ).loc Cert.StackedModIdeal.main_arg0) = m ((c.tc : Thread Cert.StackedModIdeal.nD Cert.StackedModIdeal.τ).loc Cert.StackedModIdeal.main_arg0))
      ∧ r.2.sem = fun _ => 0)

def quiescent_StackedMod [hStackedMod : Cert.StackedMod.Facts] : Prop :=
  ∀ (m : (ℓ : Loc Cert.StackedMod.nD Cert.StackedMod.τ Cert.StackedMod.sig) → Buf (Elt Bits) ℓ) (g : Dev Cert.StackedMod.nD → PrngReg), Pre_StackedMod m →
    θ_run (Cert.StackedMod.defs (F := Bits)) (onTc (τ := Cert.StackedMod.τ) (Cert.StackedMod.main (F := Bits))) ⟨m, fun _ => 0, g⟩ (fun r => (∀ c : Dev Cert.StackedMod.nD,
      r.2.mem ((c.tc : Thread Cert.StackedMod.nD Cert.StackedMod.τ).loc Cert.StackedMod.main_arg0) = m ((c.tc : Thread Cert.StackedMod.nD Cert.StackedMod.τ).loc Cert.StackedMod.main_arg0))
      ∧ r.2.sem = fun _ => 0)

def quiescent_GatherDmod [hGatherDmod : Cert.GatherDmod.Facts] : Prop :=
  ∀ (m : (ℓ : Loc Cert.GatherDmod.nD Cert.GatherDmod.τ Cert.GatherDmod.sig) → Buf (Elt Bits) ℓ) (g : Dev Cert.GatherDmod.nD → PrngReg), Pre_GatherDmod m →
    θ_run (Cert.GatherDmod.defs (F := Bits)) (onTc (τ := Cert.GatherDmod.τ) (Cert.GatherDmod.main (F := Bits))) ⟨m, fun _ => 0, g⟩ (fun r => (∀ c : Dev Cert.GatherDmod.nD,
      r.2.mem ((c.tc : Thread Cert.GatherDmod.nD Cert.GatherDmod.τ).loc Cert.GatherDmod.main_arg0) = m ((c.tc : Thread Cert.GatherDmod.nD Cert.GatherDmod.τ).loc Cert.GatherDmod.main_arg0))
      ∧ r.2.sem = fun _ => 0)

def quiescent_GatherDmodIdeal [hGatherDmodIdeal : Cert.GatherDmodIdeal.Facts] : Prop :=
  ∀ (m : (ℓ : Loc Cert.GatherDmodIdeal.nD Cert.GatherDmodIdeal.τ Cert.GatherDmodIdeal.sig) → Buf (Elt Ideal) ℓ) (g : Dev Cert.GatherDmodIdeal.nD → PrngReg), Pre_GatherDmodIdeal m →
    θ_run (Cert.GatherDmodIdeal.defs (F := Ideal)) (onTc (τ := Cert.GatherDmodIdeal.τ) (Cert.GatherDmodIdeal.main (F := Ideal))) ⟨m, fun _ => 0, g⟩ (fun r => (∀ c : Dev Cert.GatherDmodIdeal.nD,
      r.2.mem ((c.tc : Thread Cert.GatherDmodIdeal.nD Cert.GatherDmodIdeal.τ).loc Cert.GatherDmodIdeal.main_arg0) = m ((c.tc : Thread Cert.GatherDmodIdeal.nD Cert.GatherDmodIdeal.τ).loc Cert.GatherDmodIdeal.main_arg0))
      ∧ r.2.sem = fun _ => 0)

def quiescent_StackedDmodIdeal [hStackedDmodIdeal : Cert.StackedDmodIdeal.Facts] : Prop :=
  ∀ (m : (ℓ : Loc Cert.StackedDmodIdeal.nD Cert.StackedDmodIdeal.τ Cert.StackedDmodIdeal.sig) → Buf (Elt Ideal) ℓ) (g : Dev Cert.StackedDmodIdeal.nD → PrngReg), Pre_StackedDmodIdeal m →
    θ_run (Cert.StackedDmodIdeal.defs (F := Ideal)) (onTc (τ := Cert.StackedDmodIdeal.τ) (Cert.StackedDmodIdeal.main (F := Ideal))) ⟨m, fun _ => 0, g⟩ (fun r => (∀ c : Dev Cert.StackedDmodIdeal.nD,
      r.2.mem ((c.tc : Thread Cert.StackedDmodIdeal.nD Cert.StackedDmodIdeal.τ).loc Cert.StackedDmodIdeal.main_arg0) = m ((c.tc : Thread Cert.StackedDmodIdeal.nD Cert.StackedDmodIdeal.τ).loc Cert.StackedDmodIdeal.main_arg0))
      ∧ r.2.sem = fun _ => 0)

def quiescent_StackedDmod [hStackedDmod : Cert.StackedDmod.Facts] : Prop :=
  ∀ (m : (ℓ : Loc Cert.StackedDmod.nD Cert.StackedDmod.τ Cert.StackedDmod.sig) → Buf (Elt Bits) ℓ) (g : Dev Cert.StackedDmod.nD → PrngReg), Pre_StackedDmod m →
    θ_run (Cert.StackedDmod.defs (F := Bits)) (onTc (τ := Cert.StackedDmod.τ) (Cert.StackedDmod.main (F := Bits))) ⟨m, fun _ => 0, g⟩ (fun r => (∀ c : Dev Cert.StackedDmod.nD,
      r.2.mem ((c.tc : Thread Cert.StackedDmod.nD Cert.StackedDmod.τ).loc Cert.StackedDmod.main_arg0) = m ((c.tc : Thread Cert.StackedDmod.nD Cert.StackedDmod.τ).loc Cert.StackedDmod.main_arg0))
      ∧ r.2.sem = fun _ => 0)

def quiescent_GatherGrads [hGatherGrads : Cert.GatherGrads.Facts] : Prop :=
  ∀ (m : (ℓ : Loc Cert.GatherGrads.nD Cert.GatherGrads.τ Cert.GatherGrads.sig) → Buf (Elt Bits) ℓ) (g : Dev Cert.GatherGrads.nD → PrngReg), Pre_GatherGrads m →
    θ_run (Cert.GatherGrads.defs (F := Bits)) (onTc (τ := Cert.GatherGrads.τ) (Cert.GatherGrads.main (F := Bits))) ⟨m, fun _ => 0, g⟩ (fun r => (∀ c : Dev Cert.GatherGrads.nD,
      r.2.mem ((c.tc : Thread Cert.GatherGrads.nD Cert.GatherGrads.τ).loc Cert.GatherGrads.main_arg0) = m ((c.tc : Thread Cert.GatherGrads.nD Cert.GatherGrads.τ).loc Cert.GatherGrads.main_arg0))
      ∧ r.2.sem = fun _ => 0)

def quiescent_GatherGradsIdeal [hGatherGradsIdeal : Cert.GatherGradsIdeal.Facts] : Prop :=
  ∀ (m : (ℓ : Loc Cert.GatherGradsIdeal.nD Cert.GatherGradsIdeal.τ Cert.GatherGradsIdeal.sig) → Buf (Elt Ideal) ℓ) (g : Dev Cert.GatherGradsIdeal.nD → PrngReg), Pre_GatherGradsIdeal m →
    θ_run (Cert.GatherGradsIdeal.defs (F := Ideal)) (onTc (τ := Cert.GatherGradsIdeal.τ) (Cert.GatherGradsIdeal.main (F := Ideal))) ⟨m, fun _ => 0, g⟩ (fun r => (∀ c : Dev Cert.GatherGradsIdeal.nD,
      r.2.mem ((c.tc : Thread Cert.GatherGradsIdeal.nD Cert.GatherGradsIdeal.τ).loc Cert.GatherGradsIdeal.main_arg0) = m ((c.tc : Thread Cert.GatherGradsIdeal.nD Cert.GatherGradsIdeal.τ).loc Cert.GatherGradsIdeal.main_arg0))
      ∧ r.2.sem = fun _ => 0)

def quiescent_StackedGradsIdeal [hStackedGradsIdeal : Cert.StackedGradsIdeal.Facts] : Prop :=
  ∀ (m : (ℓ : Loc Cert.StackedGradsIdeal.nD Cert.StackedGradsIdeal.τ Cert.StackedGradsIdeal.sig) → Buf (Elt Ideal) ℓ) (g : Dev Cert.StackedGradsIdeal.nD → PrngReg), Pre_StackedGradsIdeal m →
    θ_run (Cert.StackedGradsIdeal.defs (F := Ideal)) (onTc (τ := Cert.StackedGradsIdeal.τ) (Cert.StackedGradsIdeal.main (F := Ideal))) ⟨m, fun _ => 0, g⟩ (fun r => (∀ c : Dev Cert.StackedGradsIdeal.nD,
      r.2.mem ((c.tc : Thread Cert.StackedGradsIdeal.nD Cert.StackedGradsIdeal.τ).loc Cert.StackedGradsIdeal.main_arg0) = m ((c.tc : Thread Cert.StackedGradsIdeal.nD Cert.StackedGradsIdeal.τ).loc Cert.StackedGradsIdeal.main_arg0))
      ∧ r.2.sem = fun _ => 0)

def quiescent_StackedGrads [hStackedGrads : Cert.StackedGrads.Facts] : Prop :=
  ∀ (m : (ℓ : Loc Cert.StackedGrads.nD Cert.StackedGrads.τ Cert.StackedGrads.sig) → Buf (Elt Bits) ℓ) (g : Dev Cert.StackedGrads.nD → PrngReg), Pre_StackedGrads m →
    θ_run (Cert.StackedGrads.defs (F := Bits)) (onTc (τ := Cert.StackedGrads.τ) (Cert.StackedGrads.main (F := Bits))) ⟨m, fun _ => 0, g⟩ (fun r => (∀ c : Dev Cert.StackedGrads.nD,
      r.2.mem ((c.tc : Thread Cert.StackedGrads.nD Cert.StackedGrads.τ).loc Cert.StackedGrads.main_arg0) = m ((c.tc : Thread Cert.StackedGrads.nD Cert.StackedGrads.τ).loc Cert.StackedGrads.main_arg0))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4)
      ∧ r.2.mem ((c.tc : Thread Cert.AdamFfn.nD Cert.AdamFfn.τ).loc Cert.AdamFfn.main_arg5) = m ((c.tc : Thread Cert.AdamFfn.nD Cert.AdamFfn.τ).loc Cert.AdamFfn.main_arg5)
      ∧ r.2.mem ((c.tc : Thread Cert.AdamFfn.nD Cert.AdamFfn.τ).loc Cert.AdamFfn.main_arg6) = m ((c.tc : Thread Cert.AdamFfn.nD Cert.AdamFfn.τ).loc Cert.AdamFfn.main_arg6))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4)
      ∧ r.2.mem ((c.tc : Thread Cert.AdamFfnIdeal.nD Cert.AdamFfnIdeal.τ).loc Cert.AdamFfnIdeal.main_arg5) = m ((c.tc : Thread Cert.AdamFfnIdeal.nD Cert.AdamFfnIdeal.τ).loc Cert.AdamFfnIdeal.main_arg5)
      ∧ r.2.mem ((c.tc : Thread Cert.AdamFfnIdeal.nD Cert.AdamFfnIdeal.τ).loc Cert.AdamFfnIdeal.main_arg6) = m ((c.tc : Thread Cert.AdamFfnIdeal.nD Cert.AdamFfnIdeal.τ).loc Cert.AdamFfnIdeal.main_arg6))
      ∧ r.2.sem = fun _ => 0)

def quiescent_StepFfnIdeal [hStepFfnIdeal : Cert.StepFfnIdeal.Facts] : Prop :=
  ∀ (m : (ℓ : Loc Cert.StepFfnIdeal.nD Cert.StepFfnIdeal.τ Cert.StepFfnIdeal.sig) → Buf (Elt Ideal) ℓ) (g : Dev Cert.StepFfnIdeal.nD → PrngReg), Pre_StepFfnIdeal m →
    θ_run (Cert.StepFfnIdeal.defs (F := Ideal)) (onTc (τ := Cert.StepFfnIdeal.τ) (Cert.StepFfnIdeal.main (F := Ideal))) ⟨m, fun _ => 0, g⟩ (fun r => (∀ c : Dev Cert.StepFfnIdeal.nD,
      r.2.mem ((c.tc : Thread Cert.StepFfnIdeal.nD Cert.StepFfnIdeal.τ).loc Cert.StepFfnIdeal.main_arg0) = m ((c.tc : Thread Cert.StepFfnIdeal.nD Cert.StepFfnIdeal.τ).loc Cert.StepFfnIdeal.main_arg0)
      ∧ r.2.mem ((c.tc : Thread Cert.StepFfnIdeal.nD Cert.StepFfnIdeal.τ).loc Cert.StepFfnIdeal.main_arg1) = m ((c.tc : Thread Cert.StepFfnIdeal.nD Cert.StepFfnIdeal.τ).loc Cert.StepFfnIdeal.main_arg1)
      ∧ r.2.mem ((c.tc : Thread Cert.StepFfnIdeal.nD Cert.StepFfnIdeal.τ).loc Cert.StepFfnIdeal.main_arg2) = m ((c.tc : Thread Cert.StepFfnIdeal.nD Cert.StepFfnIdeal.τ).loc Cert.StepFfnIdeal.main_arg2)
      ∧ r.2.mem ((c.tc : Thread Cert.StepFfnIdeal.nD Cert.StepFfnIdeal.τ).loc Cert.StepFfnIdeal.main_arg3) = m ((c.tc : Thread Cert.StepFfnIdeal.nD Cert.StepFfnIdeal.τ).loc Cert.StepFfnIdeal.main_arg3)
      ∧ r.2.mem ((c.tc : Thread Cert.StepFfnIdeal.nD Cert.StepFfnIdeal.τ).loc Cert.StepFfnIdeal.main_arg4) = m ((c.tc : Thread Cert.StepFfnIdeal.nD Cert.StepFfnIdeal.τ).loc Cert.StepFfnIdeal.main_arg4)
      ∧ r.2.mem ((c.tc : Thread Cert.StepFfnIdeal.nD Cert.StepFfnIdeal.τ).loc Cert.StepFfnIdeal.main_arg5) = m ((c.tc : Thread Cert.StepFfnIdeal.nD Cert.StepFfnIdeal.τ).loc Cert.StepFfnIdeal.main_arg5)
      ∧ r.2.mem ((c.tc : Thread Cert.StepFfnIdeal.nD Cert.StepFfnIdeal.τ).loc Cert.StepFfnIdeal.main_arg6) = m ((c.tc : Thread Cert.StepFfnIdeal.nD Cert.StepFfnIdeal.τ).loc Cert.StepFfnIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3)
      ∧ r.2.mem ((c.tc : Thread Cert.StepOutIdeal.nD Cert.StepOutIdeal.τ).loc Cert.StepOutIdeal.main_arg4) = m ((c.tc : Thread Cert.StepOutIdeal.nD Cert.StepOutIdeal.τ).loc Cert.StepOutIdeal.main_arg4))
      ∧ r.2.sem = fun _ => 0)

def quiescent_AdamEven [hAdamEven : Cert.AdamEven.Facts] : Prop :=
  ∀ (m : (ℓ : Loc Cert.AdamEven.nD Cert.AdamEven.τ Cert.AdamEven.sig) → Buf (Elt Bits) ℓ) (g : Dev Cert.AdamEven.nD → PrngReg), Pre_AdamEven m →
    θ_run (Cert.AdamEven.defs (F := Bits)) (onTc (τ := Cert.AdamEven.τ) (Cert.AdamEven.main (F := Bits))) ⟨m, fun _ => 0, g⟩ (fun r => (∀ c : Dev Cert.AdamEven.nD,
      r.2.mem ((c.tc : Thread Cert.AdamEven.nD Cert.AdamEven.τ).loc Cert.AdamEven.main_arg0) = m ((c.tc : Thread Cert.AdamEven.nD Cert.AdamEven.τ).loc Cert.AdamEven.main_arg0)
      ∧ r.2.mem ((c.tc : Thread Cert.AdamEven.nD Cert.AdamEven.τ).loc Cert.AdamEven.main_arg1) = m ((c.tc : Thread Cert.AdamEven.nD Cert.AdamEven.τ).loc Cert.AdamEven.main_arg1)
      ∧ r.2.mem ((c.tc : Thread Cert.AdamEven.nD Cert.AdamEven.τ).loc Cert.AdamEven.main_arg2) = m ((c.tc : Thread Cert.AdamEven.nD Cert.AdamEven.τ).loc Cert.AdamEven.main_arg2)
      ∧ r.2.mem ((c.tc : Thread Cert.AdamEven.nD Cert.AdamEven.τ).loc Cert.AdamEven.main_arg3) = m ((c.tc : Thread Cert.AdamEven.nD Cert.AdamEven.τ).loc Cert.AdamEven.main_arg3)
      ∧ r.2.mem ((c.tc : Thread Cert.AdamEven.nD Cert.AdamEven.τ).loc Cert.AdamEven.main_arg4) = m ((c.tc : Thread Cert.AdamEven.nD Cert.AdamEven.τ).loc Cert.AdamEven.main_arg4))
      ∧ r.2.sem = fun _ => 0)

def quiescent_AdamEvenIdeal [hAdamEvenIdeal : Cert.AdamEvenIdeal.Facts] : Prop :=
  ∀ (m : (ℓ : Loc Cert.AdamEvenIdeal.nD Cert.AdamEvenIdeal.τ Cert.AdamEvenIdeal.sig) → Buf (Elt Ideal) ℓ) (g : Dev Cert.AdamEvenIdeal.nD → PrngReg), Pre_AdamEvenIdeal m →
    θ_run (Cert.AdamEvenIdeal.defs (F := Ideal)) (onTc (τ := Cert.AdamEvenIdeal.τ) (Cert.AdamEvenIdeal.main (F := Ideal))) ⟨m, fun _ => 0, g⟩ (fun r => (∀ c : Dev Cert.AdamEvenIdeal.nD,
      r.2.mem ((c.tc : Thread Cert.AdamEvenIdeal.nD Cert.AdamEvenIdeal.τ).loc Cert.AdamEvenIdeal.main_arg0) = m ((c.tc : Thread Cert.AdamEvenIdeal.nD Cert.AdamEvenIdeal.τ).loc Cert.AdamEvenIdeal.main_arg0)
      ∧ r.2.mem ((c.tc : Thread Cert.AdamEvenIdeal.nD Cert.AdamEvenIdeal.τ).loc Cert.AdamEvenIdeal.main_arg1) = m ((c.tc : Thread Cert.AdamEvenIdeal.nD Cert.AdamEvenIdeal.τ).loc Cert.AdamEvenIdeal.main_arg1)
      ∧ r.2.mem ((c.tc : Thread Cert.AdamEvenIdeal.nD Cert.AdamEvenIdeal.τ).loc Cert.AdamEvenIdeal.main_arg2) = m ((c.tc : Thread Cert.AdamEvenIdeal.nD Cert.AdamEvenIdeal.τ).loc Cert.AdamEvenIdeal.main_arg2)
      ∧ r.2.mem ((c.tc : Thread Cert.AdamEvenIdeal.nD Cert.AdamEvenIdeal.τ).loc Cert.AdamEvenIdeal.main_arg3) = m ((c.tc : Thread Cert.AdamEvenIdeal.nD Cert.AdamEvenIdeal.τ).loc Cert.AdamEvenIdeal.main_arg3)
      ∧ r.2.mem ((c.tc : Thread Cert.AdamEvenIdeal.nD Cert.AdamEvenIdeal.τ).loc Cert.AdamEvenIdeal.main_arg4) = m ((c.tc : Thread Cert.AdamEvenIdeal.nD Cert.AdamEvenIdeal.τ).loc Cert.AdamEvenIdeal.main_arg4))
      ∧ r.2.sem = fun _ => 0)

def quiescent_StepEvenIdeal [hStepEvenIdeal : Cert.StepEvenIdeal.Facts] : Prop :=
  ∀ (m : (ℓ : Loc Cert.StepEvenIdeal.nD Cert.StepEvenIdeal.τ Cert.StepEvenIdeal.sig) → Buf (Elt Ideal) ℓ) (g : Dev Cert.StepEvenIdeal.nD → PrngReg), Pre_StepEvenIdeal m →
    θ_run (Cert.StepEvenIdeal.defs (F := Ideal)) (onTc (τ := Cert.StepEvenIdeal.τ) (Cert.StepEvenIdeal.main (F := Ideal))) ⟨m, fun _ => 0, g⟩ (fun r => (∀ c : Dev Cert.StepEvenIdeal.nD,
      r.2.mem ((c.tc : Thread Cert.StepEvenIdeal.nD Cert.StepEvenIdeal.τ).loc Cert.StepEvenIdeal.main_arg0) = m ((c.tc : Thread Cert.StepEvenIdeal.nD Cert.StepEvenIdeal.τ).loc Cert.StepEvenIdeal.main_arg0)
      ∧ r.2.mem ((c.tc : Thread Cert.StepEvenIdeal.nD Cert.StepEvenIdeal.τ).loc Cert.StepEvenIdeal.main_arg1) = m ((c.tc : Thread Cert.StepEvenIdeal.nD Cert.StepEvenIdeal.τ).loc Cert.StepEvenIdeal.main_arg1)
      ∧ r.2.mem ((c.tc : Thread Cert.StepEvenIdeal.nD Cert.StepEvenIdeal.τ).loc Cert.StepEvenIdeal.main_arg2) = m ((c.tc : Thread Cert.StepEvenIdeal.nD Cert.StepEvenIdeal.τ).loc Cert.StepEvenIdeal.main_arg2)
      ∧ r.2.mem ((c.tc : Thread Cert.StepEvenIdeal.nD Cert.StepEvenIdeal.τ).loc Cert.StepEvenIdeal.main_arg3) = m ((c.tc : Thread Cert.StepEvenIdeal.nD Cert.StepEvenIdeal.τ).loc Cert.StepEvenIdeal.main_arg3)
      ∧ r.2.mem ((c.tc : Thread Cert.StepEvenIdeal.nD Cert.StepEvenIdeal.τ).loc Cert.StepEvenIdeal.main_arg4) = m ((c.tc : Thread Cert.StepEvenIdeal.nD Cert.StepEvenIdeal.τ).loc Cert.StepEvenIdeal.main_arg4))
      ∧ r.2.sem = fun _ => 0)

def quiescent_AdamOdd [hAdamOdd : Cert.AdamOdd.Facts] : Prop :=
  ∀ (m : (ℓ : Loc Cert.AdamOdd.nD Cert.AdamOdd.τ Cert.AdamOdd.sig) → Buf (Elt Bits) ℓ) (g : Dev Cert.AdamOdd.nD → PrngReg), Pre_AdamOdd m →
    θ_run (Cert.AdamOdd.defs (F := Bits)) (onTc (τ := Cert.AdamOdd.τ) (Cert.AdamOdd.main (F := Bits))) ⟨m, fun _ => 0, g⟩ (fun r => (∀ c : Dev Cert.AdamOdd.nD,
      r.2.mem ((c.tc : Thread Cert.AdamOdd.nD Cert.AdamOdd.τ).loc Cert.AdamOdd.main_arg0) = m ((c.tc : Thread Cert.AdamOdd.nD Cert.AdamOdd.τ).loc Cert.AdamOdd.main_arg0)
      ∧ r.2.mem ((c.tc : Thread Cert.AdamOdd.nD Cert.AdamOdd.τ).loc Cert.AdamOdd.main_arg1) = m ((c.tc : Thread Cert.AdamOdd.nD Cert.AdamOdd.τ).loc Cert.AdamOdd.main_arg1)
      ∧ r.2.mem ((c.tc : Thread Cert.AdamOdd.nD Cert.AdamOdd.τ).loc Cert.AdamOdd.main_arg2) = m ((c.tc : Thread Cert.AdamOdd.nD Cert.AdamOdd.τ).loc Cert.AdamOdd.main_arg2)
      ∧ r.2.mem ((c.tc : Thread Cert.AdamOdd.nD Cert.AdamOdd.τ).loc Cert.AdamOdd.main_arg3) = m ((c.tc : Thread Cert.AdamOdd.nD Cert.AdamOdd.τ).loc Cert.AdamOdd.main_arg3)
      ∧ r.2.mem ((c.tc : Thread Cert.AdamOdd.nD Cert.AdamOdd.τ).loc Cert.AdamOdd.main_arg4) = m ((c.tc : Thread Cert.AdamOdd.nD Cert.AdamOdd.τ).loc Cert.AdamOdd.main_arg4))
      ∧ r.2.sem = fun _ => 0)

def quiescent_AdamOddIdeal [hAdamOddIdeal : Cert.AdamOddIdeal.Facts] : Prop :=
  ∀ (m : (ℓ : Loc Cert.AdamOddIdeal.nD Cert.AdamOddIdeal.τ Cert.AdamOddIdeal.sig) → Buf (Elt Ideal) ℓ) (g : Dev Cert.AdamOddIdeal.nD → PrngReg), Pre_AdamOddIdeal m →
    θ_run (Cert.AdamOddIdeal.defs (F := Ideal)) (onTc (τ := Cert.AdamOddIdeal.τ) (Cert.AdamOddIdeal.main (F := Ideal))) ⟨m, fun _ => 0, g⟩ (fun r => (∀ c : Dev Cert.AdamOddIdeal.nD,
      r.2.mem ((c.tc : Thread Cert.AdamOddIdeal.nD Cert.AdamOddIdeal.τ).loc Cert.AdamOddIdeal.main_arg0) = m ((c.tc : Thread Cert.AdamOddIdeal.nD Cert.AdamOddIdeal.τ).loc Cert.AdamOddIdeal.main_arg0)
      ∧ r.2.mem ((c.tc : Thread Cert.AdamOddIdeal.nD Cert.AdamOddIdeal.τ).loc Cert.AdamOddIdeal.main_arg1) = m ((c.tc : Thread Cert.AdamOddIdeal.nD Cert.AdamOddIdeal.τ).loc Cert.AdamOddIdeal.main_arg1)
      ∧ r.2.mem ((c.tc : Thread Cert.AdamOddIdeal.nD Cert.AdamOddIdeal.τ).loc Cert.AdamOddIdeal.main_arg2) = m ((c.tc : Thread Cert.AdamOddIdeal.nD Cert.AdamOddIdeal.τ).loc Cert.AdamOddIdeal.main_arg2)
      ∧ r.2.mem ((c.tc : Thread Cert.AdamOddIdeal.nD Cert.AdamOddIdeal.τ).loc Cert.AdamOddIdeal.main_arg3) = m ((c.tc : Thread Cert.AdamOddIdeal.nD Cert.AdamOddIdeal.τ).loc Cert.AdamOddIdeal.main_arg3)
      ∧ r.2.mem ((c.tc : Thread Cert.AdamOddIdeal.nD Cert.AdamOddIdeal.τ).loc Cert.AdamOddIdeal.main_arg4) = m ((c.tc : Thread Cert.AdamOddIdeal.nD Cert.AdamOddIdeal.τ).loc Cert.AdamOddIdeal.main_arg4))
      ∧ r.2.sem = fun _ => 0)

def quiescent_StepOddIdeal [hStepOddIdeal : Cert.StepOddIdeal.Facts] : Prop :=
  ∀ (m : (ℓ : Loc Cert.StepOddIdeal.nD Cert.StepOddIdeal.τ Cert.StepOddIdeal.sig) → Buf (Elt Ideal) ℓ) (g : Dev Cert.StepOddIdeal.nD → PrngReg), Pre_StepOddIdeal m →
    θ_run (Cert.StepOddIdeal.defs (F := Ideal)) (onTc (τ := Cert.StepOddIdeal.τ) (Cert.StepOddIdeal.main (F := Ideal))) ⟨m, fun _ => 0, g⟩ (fun r => (∀ c : Dev Cert.StepOddIdeal.nD,
      r.2.mem ((c.tc : Thread Cert.StepOddIdeal.nD Cert.StepOddIdeal.τ).loc Cert.StepOddIdeal.main_arg0) = m ((c.tc : Thread Cert.StepOddIdeal.nD Cert.StepOddIdeal.τ).loc Cert.StepOddIdeal.main_arg0)
      ∧ r.2.mem ((c.tc : Thread Cert.StepOddIdeal.nD Cert.StepOddIdeal.τ).loc Cert.StepOddIdeal.main_arg1) = m ((c.tc : Thread Cert.StepOddIdeal.nD Cert.StepOddIdeal.τ).loc Cert.StepOddIdeal.main_arg1)
      ∧ r.2.mem ((c.tc : Thread Cert.StepOddIdeal.nD Cert.StepOddIdeal.τ).loc Cert.StepOddIdeal.main_arg2) = m ((c.tc : Thread Cert.StepOddIdeal.nD Cert.StepOddIdeal.τ).loc Cert.StepOddIdeal.main_arg2)
      ∧ r.2.mem ((c.tc : Thread Cert.StepOddIdeal.nD Cert.StepOddIdeal.τ).loc Cert.StepOddIdeal.main_arg3) = m ((c.tc : Thread Cert.StepOddIdeal.nD Cert.StepOddIdeal.τ).loc Cert.StepOddIdeal.main_arg3)
      ∧ r.2.mem ((c.tc : Thread Cert.StepOddIdeal.nD Cert.StepOddIdeal.τ).loc Cert.StepOddIdeal.main_arg4) = m ((c.tc : Thread Cert.StepOddIdeal.nD Cert.StepOddIdeal.τ).loc Cert.StepOddIdeal.main_arg4))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_BiasGrads [hBiasGrads : Cert.BiasGrads.Facts] : Prop :=
  ∀ (m : (ℓ : Loc Cert.BiasGrads.nD Cert.BiasGrads.τ Cert.BiasGrads.sig) → Buf (Elt Bits) ℓ) (g : Dev Cert.BiasGrads.nD → PrngReg), Pre_BiasGrads m →
    θ_run (Cert.BiasGrads.defs (F := Bits)) (onTc (τ := Cert.BiasGrads.τ) (Cert.BiasGrads.main (F := Bits))) ⟨m, fun _ => 0, g⟩ (fun r => (∀ c : Dev Cert.BiasGrads.nD,
      r.2.mem ((c.tc : Thread Cert.BiasGrads.nD Cert.BiasGrads.τ).loc Cert.BiasGrads.main_arg0) = m ((c.tc : Thread Cert.BiasGrads.nD Cert.BiasGrads.τ).loc Cert.BiasGrads.main_arg0))
      ∧ r.2.sem = fun _ => 0)

def quiescent_BiasGradsIdeal [hBiasGradsIdeal : Cert.BiasGradsIdeal.Facts] : Prop :=
  ∀ (m : (ℓ : Loc Cert.BiasGradsIdeal.nD Cert.BiasGradsIdeal.τ Cert.BiasGradsIdeal.sig) → Buf (Elt Ideal) ℓ) (g : Dev Cert.BiasGradsIdeal.nD → PrngReg), Pre_BiasGradsIdeal m →
    θ_run (Cert.BiasGradsIdeal.defs (F := Ideal)) (onTc (τ := Cert.BiasGradsIdeal.τ) (Cert.BiasGradsIdeal.main (F := Ideal))) ⟨m, fun _ => 0, g⟩ (fun r => (∀ c : Dev Cert.BiasGradsIdeal.nD,
      r.2.mem ((c.tc : Thread Cert.BiasGradsIdeal.nD Cert.BiasGradsIdeal.τ).loc Cert.BiasGradsIdeal.main_arg0) = m ((c.tc : Thread Cert.BiasGradsIdeal.nD Cert.BiasGradsIdeal.τ).loc Cert.BiasGradsIdeal.main_arg0))
      ∧ r.2.sem = fun _ => 0)

def quiescent_BiasTotalIdeal [hBiasTotalIdeal : Cert.BiasTotalIdeal.Facts] : Prop :=
  ∀ (m : (ℓ : Loc Cert.BiasTotalIdeal.nD Cert.BiasTotalIdeal.τ Cert.BiasTotalIdeal.sig) → Buf (Elt Ideal) ℓ) (g : Dev Cert.BiasTotalIdeal.nD → PrngReg), Pre_BiasTotalIdeal m →
    θ_run (Cert.BiasTotalIdeal.defs (F := Ideal)) (onTc (τ := Cert.BiasTotalIdeal.τ) (Cert.BiasTotalIdeal.main (F := Ideal))) ⟨m, fun _ => 0, g⟩ (fun r => (∀ c : Dev Cert.BiasTotalIdeal.nD,
      r.2.mem ((c.tc : Thread Cert.BiasTotalIdeal.nD Cert.BiasTotalIdeal.τ).loc Cert.BiasTotalIdeal.main_arg0) = m ((c.tc : Thread Cert.BiasTotalIdeal.nD Cert.BiasTotalIdeal.τ).loc Cert.BiasTotalIdeal.main_arg0))
      ∧ r.2.sem = fun _ => 0)

def quiescent_CutGrads [hCutGrads : Cert.CutGrads.Facts] : Prop :=
  ∀ (m : (ℓ : Loc Cert.CutGrads.nD Cert.CutGrads.τ Cert.CutGrads.sig) → Buf (Elt Bits) ℓ) (g : Dev Cert.CutGrads.nD → PrngReg), Pre_CutGrads m →
    θ_run (Cert.CutGrads.defs (F := Bits)) (onTc (τ := Cert.CutGrads.τ) (Cert.CutGrads.main (F := Bits))) ⟨m, fun _ => 0, g⟩ (fun r => (∀ c : Dev Cert.CutGrads.nD,
      r.2.mem ((c.tc : Thread Cert.CutGrads.nD Cert.CutGrads.τ).loc Cert.CutGrads.main_arg0) = m ((c.tc : Thread Cert.CutGrads.nD Cert.CutGrads.τ).loc Cert.CutGrads.main_arg0))
      ∧ r.2.sem = fun _ => 0)

def quiescent_CutGradsIdeal [hCutGradsIdeal : Cert.CutGradsIdeal.Facts] : Prop :=
  ∀ (m : (ℓ : Loc Cert.CutGradsIdeal.nD Cert.CutGradsIdeal.τ Cert.CutGradsIdeal.sig) → Buf (Elt Ideal) ℓ) (g : Dev Cert.CutGradsIdeal.nD → PrngReg), Pre_CutGradsIdeal m →
    θ_run (Cert.CutGradsIdeal.defs (F := Ideal)) (onTc (τ := Cert.CutGradsIdeal.τ) (Cert.CutGradsIdeal.main (F := Ideal))) ⟨m, fun _ => 0, g⟩ (fun r => (∀ c : Dev Cert.CutGradsIdeal.nD,
      r.2.mem ((c.tc : Thread Cert.CutGradsIdeal.nD Cert.CutGradsIdeal.τ).loc Cert.CutGradsIdeal.main_arg0) = m ((c.tc : Thread Cert.CutGradsIdeal.nD Cert.CutGradsIdeal.τ).loc Cert.CutGradsIdeal.main_arg0))
      ∧ r.2.sem = fun _ => 0)

def quiescent_WeightTotalsIdeal [hWeightTotalsIdeal : Cert.WeightTotalsIdeal.Facts] : Prop :=
  ∀ (m : (ℓ : Loc Cert.WeightTotalsIdeal.nD Cert.WeightTotalsIdeal.τ Cert.WeightTotalsIdeal.sig) → Buf (Elt Ideal) ℓ) (g : Dev Cert.WeightTotalsIdeal.nD → PrngReg), Pre_WeightTotalsIdeal m →
    θ_run (Cert.WeightTotalsIdeal.defs (F := Ideal)) (onTc (τ := Cert.WeightTotalsIdeal.τ) (Cert.WeightTotalsIdeal.main (F := Ideal))) ⟨m, fun _ => 0, g⟩ (fun r => (∀ c : Dev Cert.WeightTotalsIdeal.nD,
      r.2.mem ((c.tc : Thread Cert.WeightTotalsIdeal.nD Cert.WeightTotalsIdeal.τ).loc Cert.WeightTotalsIdeal.main_arg0) = m ((c.tc : Thread Cert.WeightTotalsIdeal.nD Cert.WeightTotalsIdeal.τ).loc Cert.WeightTotalsIdeal.main_arg0))
      ∧ r.2.sem = fun _ => 0)

def quiescent_SumGrads [hSumGrads : Cert.SumGrads.Facts] : Prop :=
  ∀ (m : (ℓ : Loc Cert.SumGrads.nD Cert.SumGrads.τ Cert.SumGrads.sig) → Buf (Elt Bits) ℓ) (g : Dev Cert.SumGrads.nD → PrngReg), Pre_SumGrads m →
    θ_run (Cert.SumGrads.defs (F := Bits)) (onTc (τ := Cert.SumGrads.τ) (Cert.SumGrads.main (F := Bits))) ⟨m, fun _ => 0, g⟩ (fun r => (∀ c : Dev Cert.SumGrads.nD,
      r.2.mem ((c.tc : Thread Cert.SumGrads.nD Cert.SumGrads.τ).loc Cert.SumGrads.main_arg0) = m ((c.tc : Thread Cert.SumGrads.nD Cert.SumGrads.τ).loc Cert.SumGrads.main_arg0))
      ∧ r.2.sem = fun _ => 0)

def quiescent_SumGradsIdeal [hSumGradsIdeal : Cert.SumGradsIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg), Pre_SumGradsIdeal m →
    θ_run (Cert.SumGradsIdeal.defs (F := Ideal)) (onTc (τ := Cert.SumGradsIdeal.τ) (Cert.SumGradsIdeal.main (F := Ideal))) ⟨m, fun _ => 0, g⟩ (fun r => (∀ c : Dev Cert.SumGradsIdeal.nD,
      r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ r.2.sem = fun _ => 0)

def quiescent_TotalGradsIdeal [hTotalGradsIdeal : Cert.TotalGradsIdeal.Facts] : Prop :=
  ∀ (m : (ℓ : Loc Cert.TotalGradsIdeal.nD Cert.TotalGradsIdeal.τ Cert.TotalGradsIdeal.sig) → Buf (Elt Ideal) ℓ) (g : Dev Cert.TotalGradsIdeal.nD → PrngReg), Pre_TotalGradsIdeal m →
    θ_run (Cert.TotalGradsIdeal.defs (F := Ideal)) (onTc (τ := Cert.TotalGradsIdeal.τ) (Cert.TotalGradsIdeal.main (F := Ideal))) ⟨m, fun _ => 0, g⟩ (fun r => (∀ c : Dev Cert.TotalGradsIdeal.nD,
      r.2.mem ((c.tc : Thread Cert.TotalGradsIdeal.nD Cert.TotalGradsIdeal.τ).loc Cert.TotalGradsIdeal.main_arg0) = m ((c.tc : Thread Cert.TotalGradsIdeal.nD Cert.TotalGradsIdeal.τ).loc Cert.TotalGradsIdeal.main_arg0))
      ∧ r.2.sem = fun _ => 0)

def quiescent_SumEarly [hSumEarly : Cert.SumEarly.Facts] : Prop :=
  ∀ (m : (ℓ : Loc Cert.SumEarly.nD Cert.SumEarly.τ Cert.SumEarly.sig) → Buf (Elt Bits) ℓ) (g : Dev Cert.SumEarly.nD → PrngReg), Pre_SumEarly m →
    θ_run (Cert.SumEarly.defs (F := Bits)) (onTc (τ := Cert.SumEarly.τ) (Cert.SumEarly.main (F := Bits))) ⟨m, fun _ => 0, g⟩ (fun r => (∀ c : Dev Cert.SumEarly.nD,
      r.2.mem ((c.tc : Thread Cert.SumEarly.nD Cert.SumEarly.τ).loc Cert.SumEarly.main_arg0) = m ((c.tc : Thread Cert.SumEarly.nD Cert.SumEarly.τ).loc Cert.SumEarly.main_arg0))
      ∧ r.2.sem = fun _ => 0)

def quiescent_SumEarlyIdeal [hSumEarlyIdeal : Cert.SumEarlyIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg), Pre_SumEarlyIdeal m →
    θ_run (Cert.SumEarlyIdeal.defs (F := Ideal)) (onTc (τ := Cert.SumEarlyIdeal.τ) (Cert.SumEarlyIdeal.main (F := Ideal))) ⟨m, fun _ => 0, g⟩ (fun r => (∀ c : Dev Cert.SumEarlyIdeal.nD,
      r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ r.2.sem = fun _ => 0)

def quiescent_TotalEarlyIdeal [hTotalEarlyIdeal : Cert.TotalEarlyIdeal.Facts] : Prop :=
  ∀ (m : (ℓ : Loc Cert.TotalEarlyIdeal.nD Cert.TotalEarlyIdeal.τ Cert.TotalEarlyIdeal.sig) → Buf (Elt Ideal) ℓ) (g : Dev Cert.TotalEarlyIdeal.nD → PrngReg), Pre_TotalEarlyIdeal m →
    θ_run (Cert.TotalEarlyIdeal.defs (F := Ideal)) (onTc (τ := Cert.TotalEarlyIdeal.τ) (Cert.TotalEarlyIdeal.main (F := Ideal))) ⟨m, fun _ => 0, g⟩ (fun r => (∀ c : Dev Cert.TotalEarlyIdeal.nD,
      r.2.mem ((c.tc : Thread Cert.TotalEarlyIdeal.nD Cert.TotalEarlyIdeal.τ).loc Cert.TotalEarlyIdeal.main_arg0) = m ((c.tc : Thread Cert.TotalEarlyIdeal.nD Cert.TotalEarlyIdeal.τ).loc Cert.TotalEarlyIdeal.main_arg0))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_ModGradsIdeal [hModGradsIdeal : Cert.ModGradsIdeal.Facts] : Prop :=
  ∀ (m : (ℓ : Loc Cert.ModGradsIdeal.nD Cert.ModGradsIdeal.τ Cert.ModGradsIdeal.sig) → Buf (Elt Ideal) ℓ) (g : Dev Cert.ModGradsIdeal.nD → PrngReg), Pre_ModGradsIdeal m →
    θ_run (Cert.ModGradsIdeal.defs (F := Ideal)) (onTc (τ := Cert.ModGradsIdeal.τ) (Cert.ModGradsIdeal.main (F := Ideal))) ⟨m, fun _ => 0, g⟩ (fun r => (∀ c : Dev Cert.ModGradsIdeal.nD,
      r.2.mem ((c.tc : Thread Cert.ModGradsIdeal.nD Cert.ModGradsIdeal.τ).loc Cert.ModGradsIdeal.main_arg0) = m ((c.tc : Thread Cert.ModGradsIdeal.nD Cert.ModGradsIdeal.τ).loc Cert.ModGradsIdeal.main_arg0)
      ∧ r.2.mem ((c.tc : Thread Cert.ModGradsIdeal.nD Cert.ModGradsIdeal.τ).loc Cert.ModGradsIdeal.main_arg1) = m ((c.tc : Thread Cert.ModGradsIdeal.nD Cert.ModGradsIdeal.τ).loc Cert.ModGradsIdeal.main_arg1)
      ∧ r.2.mem ((c.tc : Thread Cert.ModGradsIdeal.nD Cert.ModGradsIdeal.τ).loc Cert.ModGradsIdeal.main_arg2) = m ((c.tc : Thread Cert.ModGradsIdeal.nD Cert.ModGradsIdeal.τ).loc Cert.ModGradsIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormGradsIdeal [hNormGradsIdeal : Cert.NormGradsIdeal.Facts] : Prop :=
  ∀ (m : (ℓ : Loc Cert.NormGradsIdeal.nD Cert.NormGradsIdeal.τ Cert.NormGradsIdeal.sig) → Buf (Elt Ideal) ℓ) (g : Dev Cert.NormGradsIdeal.nD → PrngReg), Pre_NormGradsIdeal m →
    θ_run (Cert.NormGradsIdeal.defs (F := Ideal)) (onTc (τ := Cert.NormGradsIdeal.τ) (Cert.NormGradsIdeal.main (F := Ideal))) ⟨m, fun _ => 0, g⟩ (fun r => (∀ c : Dev Cert.NormGradsIdeal.nD,
      r.2.mem ((c.tc : Thread Cert.NormGradsIdeal.nD Cert.NormGradsIdeal.τ).loc Cert.NormGradsIdeal.main_arg0) = m ((c.tc : Thread Cert.NormGradsIdeal.nD Cert.NormGradsIdeal.τ).loc Cert.NormGradsIdeal.main_arg0)
      ∧ r.2.mem ((c.tc : Thread Cert.NormGradsIdeal.nD Cert.NormGradsIdeal.τ).loc Cert.NormGradsIdeal.main_arg1) = m ((c.tc : Thread Cert.NormGradsIdeal.nD Cert.NormGradsIdeal.τ).loc Cert.NormGradsIdeal.main_arg1)
      ∧ r.2.mem ((c.tc : Thread Cert.NormGradsIdeal.nD Cert.NormGradsIdeal.τ).loc Cert.NormGradsIdeal.main_arg2) = m ((c.tc : Thread Cert.NormGradsIdeal.nD Cert.NormGradsIdeal.τ).loc Cert.NormGradsIdeal.main_arg2)
      ∧ r.2.mem ((c.tc : Thread Cert.NormGradsIdeal.nD Cert.NormGradsIdeal.τ).loc Cert.NormGradsIdeal.main_arg3) = m ((c.tc : Thread Cert.NormGradsIdeal.nD Cert.NormGradsIdeal.τ).loc Cert.NormGradsIdeal.main_arg3)
      ∧ r.2.mem ((c.tc : Thread Cert.NormGradsIdeal.nD Cert.NormGradsIdeal.τ).loc Cert.NormGradsIdeal.main_arg4) = m ((c.tc : Thread Cert.NormGradsIdeal.nD Cert.NormGradsIdeal.τ).loc Cert.NormGradsIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_ProductGradIdeal [hProductGradIdeal : Cert.ProductGradIdeal.Facts] : Prop :=
  ∀ (m : (ℓ : Loc Cert.ProductGradIdeal.nD Cert.ProductGradIdeal.τ Cert.ProductGradIdeal.sig) → Buf (Elt Ideal) ℓ) (g : Dev Cert.ProductGradIdeal.nD → PrngReg), Pre_ProductGradIdeal m →
    θ_run (Cert.ProductGradIdeal.defs (F := Ideal)) (onTc (τ := Cert.ProductGradIdeal.τ) (Cert.ProductGradIdeal.main (F := Ideal))) ⟨m, fun _ => 0, g⟩ (fun r => (∀ c : Dev Cert.ProductGradIdeal.nD,
      r.2.mem ((c.tc : Thread Cert.ProductGradIdeal.nD Cert.ProductGradIdeal.τ).loc Cert.ProductGradIdeal.main_arg0) = m ((c.tc : Thread Cert.ProductGradIdeal.nD Cert.ProductGradIdeal.τ).loc Cert.ProductGradIdeal.main_arg0)
      ∧ r.2.mem ((c.tc : Thread Cert.ProductGradIdeal.nD Cert.ProductGradIdeal.τ).loc Cert.ProductGradIdeal.main_arg1) = m ((c.tc : Thread Cert.ProductGradIdeal.nD Cert.ProductGradIdeal.τ).loc Cert.ProductGradIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_HiddenGradsIdeal [hHiddenGradsIdeal : Cert.HiddenGradsIdeal.Facts] : Prop :=
  ∀ (m : (ℓ : Loc Cert.HiddenGradsIdeal.nD Cert.HiddenGradsIdeal.τ Cert.HiddenGradsIdeal.sig) → Buf (Elt Ideal) ℓ) (g : Dev Cert.HiddenGradsIdeal.nD → PrngReg), Pre_HiddenGradsIdeal m →
    θ_run (Cert.HiddenGradsIdeal.defs (F := Ideal)) (onTc (τ := Cert.HiddenGradsIdeal.τ) (Cert.HiddenGradsIdeal.main (F := Ideal))) ⟨m, fun _ => 0, g⟩ (fun r => (∀ c : Dev Cert.HiddenGradsIdeal.nD,
      r.2.mem ((c.tc : Thread Cert.HiddenGradsIdeal.nD Cert.HiddenGradsIdeal.τ).loc Cert.HiddenGradsIdeal.main_arg0) = m ((c.tc : Thread Cert.HiddenGradsIdeal.nD Cert.HiddenGradsIdeal.τ).loc Cert.HiddenGradsIdeal.main_arg0)
      ∧ r.2.mem ((c.tc : Thread Cert.HiddenGradsIdeal.nD Cert.HiddenGradsIdeal.τ).loc Cert.HiddenGradsIdeal.main_arg1) = m ((c.tc : Thread Cert.HiddenGradsIdeal.nD Cert.HiddenGradsIdeal.τ).loc Cert.HiddenGradsIdeal.main_arg1)
      ∧ r.2.mem ((c.tc : Thread Cert.HiddenGradsIdeal.nD Cert.HiddenGradsIdeal.τ).loc Cert.HiddenGradsIdeal.main_arg2) = m ((c.tc : Thread Cert.HiddenGradsIdeal.nD Cert.HiddenGradsIdeal.τ).loc Cert.HiddenGradsIdeal.main_arg2)
      ∧ r.2.mem ((c.tc : Thread Cert.HiddenGradsIdeal.nD Cert.HiddenGradsIdeal.τ).loc Cert.HiddenGradsIdeal.main_arg3) = m ((c.tc : Thread Cert.HiddenGradsIdeal.nD Cert.HiddenGradsIdeal.τ).loc Cert.HiddenGradsIdeal.main_arg3))
      ∧ r.2.sem = fun _ => 0)

def quiescent_BackGate [hBackGate : Cert.BackGate.Facts] : Prop :=
  ∀ (m : (ℓ : Loc Cert.BackGate.nD Cert.BackGate.τ Cert.BackGate.sig) → Buf (Elt Bits) ℓ) (g : Dev Cert.BackGate.nD → PrngReg), Pre_BackGate m →
    θ_run (Cert.BackGate.defs (F := Bits)) (onTc (τ := Cert.BackGate.τ) (Cert.BackGate.main (F := Bits))) ⟨m, fun _ => 0, g⟩ (fun r => (∀ c : Dev Cert.BackGate.nD,
      r.2.mem ((c.tc : Thread Cert.BackGate.nD Cert.BackGate.τ).loc Cert.BackGate.main_arg0) = m ((c.tc : Thread Cert.BackGate.nD Cert.BackGate.τ).loc Cert.BackGate.main_arg0)
      ∧ r.2.mem ((c.tc : Thread Cert.BackGate.nD Cert.BackGate.τ).loc Cert.BackGate.main_arg1) = m ((c.tc : Thread Cert.BackGate.nD Cert.BackGate.τ).loc Cert.BackGate.main_arg1))
      ∧ r.2.sem = fun _ => 0)

def quiescent_BackGateIdeal [hBackGateIdeal : Cert.BackGateIdeal.Facts] : Prop :=
  ∀ (m : (ℓ : Loc Cert.BackGateIdeal.nD Cert.BackGateIdeal.τ Cert.BackGateIdeal.sig) → Buf (Elt Ideal) ℓ) (g : Dev Cert.BackGateIdeal.nD → PrngReg), Pre_BackGateIdeal m →
    θ_run (Cert.BackGateIdeal.defs (F := Ideal)) (onTc (τ := Cert.BackGateIdeal.τ) (Cert.BackGateIdeal.main (F := Ideal))) ⟨m, fun _ => 0, g⟩ (fun r => (∀ c : Dev Cert.BackGateIdeal.nD,
      r.2.mem ((c.tc : Thread Cert.BackGateIdeal.nD Cert.BackGateIdeal.τ).loc Cert.BackGateIdeal.main_arg0) = m ((c.tc : Thread Cert.BackGateIdeal.nD Cert.BackGateIdeal.τ).loc Cert.BackGateIdeal.main_arg0)
      ∧ r.2.mem ((c.tc : Thread Cert.BackGateIdeal.nD Cert.BackGateIdeal.τ).loc Cert.BackGateIdeal.main_arg1) = m ((c.tc : Thread Cert.BackGateIdeal.nD Cert.BackGateIdeal.τ).loc Cert.BackGateIdeal.main_arg1))
      ∧ r.2.sem = fun _ => 0)

def quiescent_ThroughGateIdeal [hThroughGateIdeal : Cert.ThroughGateIdeal.Facts] : Prop :=
  ∀ (m : (ℓ : Loc Cert.ThroughGateIdeal.nD Cert.ThroughGateIdeal.τ Cert.ThroughGateIdeal.sig) → Buf (Elt Ideal) ℓ) (g : Dev Cert.ThroughGateIdeal.nD → PrngReg), Pre_ThroughGateIdeal m →
    θ_run (Cert.ThroughGateIdeal.defs (F := Ideal)) (onTc (τ := Cert.ThroughGateIdeal.τ) (Cert.ThroughGateIdeal.main (F := Ideal))) ⟨m, fun _ => 0, g⟩ (fun r => (∀ c : Dev Cert.ThroughGateIdeal.nD,
      r.2.mem ((c.tc : Thread Cert.ThroughGateIdeal.nD Cert.ThroughGateIdeal.τ).loc Cert.ThroughGateIdeal.main_arg0) = m ((c.tc : Thread Cert.ThroughGateIdeal.nD Cert.ThroughGateIdeal.τ).loc Cert.ThroughGateIdeal.main_arg0)
      ∧ r.2.mem ((c.tc : Thread Cert.ThroughGateIdeal.nD Cert.ThroughGateIdeal.τ).loc Cert.ThroughGateIdeal.main_arg1) = m ((c.tc : Thread Cert.ThroughGateIdeal.nD Cert.ThroughGateIdeal.τ).loc Cert.ThroughGateIdeal.main_arg1))
      ∧ r.2.sem = fun _ => 0)

def quiescent_BackUp [hBackUp : Cert.BackUp.Facts] : Prop :=
  ∀ (m : (ℓ : Loc Cert.BackUp.nD Cert.BackUp.τ Cert.BackUp.sig) → Buf (Elt Bits) ℓ) (g : Dev Cert.BackUp.nD → PrngReg), Pre_BackUp m →
    θ_run (Cert.BackUp.defs (F := Bits)) (onTc (τ := Cert.BackUp.τ) (Cert.BackUp.main (F := Bits))) ⟨m, fun _ => 0, g⟩ (fun r => (∀ c : Dev Cert.BackUp.nD,
      r.2.mem ((c.tc : Thread Cert.BackUp.nD Cert.BackUp.τ).loc Cert.BackUp.main_arg0) = m ((c.tc : Thread Cert.BackUp.nD Cert.BackUp.τ).loc Cert.BackUp.main_arg0)
      ∧ r.2.mem ((c.tc : Thread Cert.BackUp.nD Cert.BackUp.τ).loc Cert.BackUp.main_arg1) = m ((c.tc : Thread Cert.BackUp.nD Cert.BackUp.τ).loc Cert.BackUp.main_arg1)
      ∧ r.2.mem ((c.tc : Thread Cert.BackUp.nD Cert.BackUp.τ).loc Cert.BackUp.main_arg2) = m ((c.tc : Thread Cert.BackUp.nD Cert.BackUp.τ).loc Cert.BackUp.main_arg2))
      ∧ r.2.sem = fun _ => 0)

def quiescent_BackUpIdeal [hBackUpIdeal : Cert.BackUpIdeal.Facts] : Prop :=
  ∀ (m : (ℓ : Loc Cert.BackUpIdeal.nD Cert.BackUpIdeal.τ Cert.BackUpIdeal.sig) → Buf (Elt Ideal) ℓ) (g : Dev Cert.BackUpIdeal.nD → PrngReg), Pre_BackUpIdeal m →
    θ_run (Cert.BackUpIdeal.defs (F := Ideal)) (onTc (τ := Cert.BackUpIdeal.τ) (Cert.BackUpIdeal.main (F := Ideal))) ⟨m, fun _ => 0, g⟩ (fun r => (∀ c : Dev Cert.BackUpIdeal.nD,
      r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
      ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1)
      ∧ r.2.mem ((c.tc : Thread Cert.BackUpIdeal.nD Cert.BackUpIdeal.τ).loc Cert.BackUpIdeal.main_arg2) = m ((c.tc : Thread Cert.BackUpIdeal.nD Cert.BackUpIdeal.τ).loc Cert.BackUpIdeal.main_arg2))
      ∧ r.2.sem = fun _ => 0)

def quiescent_ThroughUpIdeal [hThroughUpIdeal : Cert.ThroughUpIdeal.Facts] : Prop :=
  ∀ (m : (ℓ : Loc Cert.ThroughUpIdeal.nD Cert.ThroughUpIdeal.τ Cert.ThroughUpIdeal.sig) → Buf (Elt Ideal) ℓ) (g : Dev Cert.ThroughUpIdeal.nD → PrngReg), Pre_ThroughUpIdeal m →
    θ_run (Cert.ThroughUpIdeal.defs (F := Ideal)) (onTc (τ := Cert.ThroughUpIdeal.τ) (Cert.ThroughUpIdeal.main (F := Ideal))) ⟨m, fun _ => 0, g⟩ (fun r => (∀ c : Dev Cert.ThroughUpIdeal.nD,
      r.2.mem ((c.tc : Thread Cert.ThroughUpIdeal.nD Cert.ThroughUpIdeal.τ).loc Cert.ThroughUpIdeal.main_arg0) = m ((c.tc : Thread Cert.ThroughUpIdeal.nD Cert.ThroughUpIdeal.τ).loc Cert.ThroughUpIdeal.main_arg0)
      ∧ r.2.mem ((c.tc : Thread Cert.ThroughUpIdeal.nD Cert.ThroughUpIdeal.τ).loc Cert.ThroughUpIdeal.main_arg1) = m ((c.tc : Thread Cert.ThroughUpIdeal.nD Cert.ThroughUpIdeal.τ).loc Cert.ThroughUpIdeal.main_arg1)
      ∧ r.2.mem ((c.tc : Thread Cert.ThroughUpIdeal.nD Cert.ThroughUpIdeal.τ).loc Cert.ThroughUpIdeal.main_arg2) = m ((c.tc : Thread Cert.ThroughUpIdeal.nD Cert.ThroughUpIdeal.τ).loc Cert.ThroughUpIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![3072, 1024]⟩ ⟨2, ![24576, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v0)) (v1 : Buf (Elt Ideal) (((0 : Dev Cert.ReferenceIdeal.nD).tc : Thread Cert.ReferenceIdeal.nD Cert.ReferenceIdeal.τ).loc Cert.ReferenceIdeal.main_v1)) (v2 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = Layout.block ⟨3, ![8, 384, 1024]⟩ ⟨3, ![8, 3072, 1024]⟩ 1 8 c v0
          ∧ r.2.mem ((c.tc : Thread Cert.KernelIdeal.nD Cert.KernelIdeal.τ).loc Cert.KernelIdeal.main_v1_2) = Layout.block ⟨3, ![8, 384, 1024]⟩ ⟨3, ![8, 3072, 1024]⟩ 1 8 c v1
          ∧ r.2.mem ((c.tc : Thread Cert.KernelIdeal.nD Cert.KernelIdeal.τ).loc Cert.KernelIdeal.main_v1_0) = Layout.block ⟨3, ![8, 384, 1024]⟩ ⟨3, ![8, 3072, 1024]⟩ 1 8 c v2
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_v1) = v1
          ∧ r.2.mem (((0 : Dev Cert.ReferenceIdeal.nD).tc : Thread Cert.ReferenceIdeal.nD Cert.ReferenceIdeal.τ).loc Cert.ReferenceIdeal.main_v2) = v2
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![3072, 1024]⟩ ⟨2, ![24576, 1024]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![3072, 1024]⟩ ⟨2, ![24576, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![3072, 1024]⟩ ⟨2, ![24576, 1024]⟩ 0 8 c (m' (((0 : Dev Cert.Reference.nD).tc : Thread Cert.Reference.nD Cert.Reference.τ).loc Cert.Reference.main_arg2))) →
    ∃ (v0 : Buf (Elt Bits) (((0 : Dev Cert.Reference.nD).tc : Thread Cert.Reference.nD Cert.Reference.τ).loc Cert.Reference.main_v0)) (v1 : Buf (Elt Bits) (((0 : Dev Cert.Reference.nD).tc : Thread Cert.Reference.nD Cert.Reference.τ).loc Cert.Reference.main_v1)) (v2 : Buf (Elt Bits) (((0 : Dev Cert.Reference.nD).tc : Thread Cert.Reference.nD Cert.Reference.τ).loc Cert.Reference.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_1) = Layout.block ⟨3, ![8, 384, 1024]⟩ ⟨3, ![8, 3072, 1024]⟩ 1 8 c v0
          ∧ r.2.mem ((c.tc : Thread Cert.Kernel.nD Cert.Kernel.τ).loc Cert.Kernel.main_v1_2) = Layout.block ⟨3, ![8, 384, 1024]⟩ ⟨3, ![8, 3072, 1024]⟩ 1 8 c v1
          ∧ r.2.mem ((c.tc : Thread Cert.Kernel.nD Cert.Kernel.τ).loc Cert.Kernel.main_v1_0) = Layout.block ⟨3, ![8, 384, 1024]⟩ ⟨3, ![8, 3072, 1024]⟩ 1 8 c v2
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_v1) = v1
          ∧ r.2.mem (((0 : Dev Cert.Reference.nD).tc : Thread Cert.Reference.nD Cert.Reference.τ).loc Cert.Reference.main_v2) = v2
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2))

def preserves_GatherFfn_GatherFfnIdeal : Prop :=
  True

def algebraic_GatherFfnIdeal_WholeFfnIdeal [hGatherFfnIdeal : Cert.GatherFfnIdeal.Facts] [hWholeFfnIdeal : Cert.WholeFfnIdeal.Facts] : Prop :=
  ∀ (m : (ℓ : Loc Cert.GatherFfnIdeal.nD Cert.GatherFfnIdeal.τ Cert.GatherFfnIdeal.sig) → Buf (Elt Ideal) ℓ) (g : Dev Cert.GatherFfnIdeal.nD → PrngReg)
    (m' : (ℓ : Loc Cert.WholeFfnIdeal.nD Cert.WholeFfnIdeal.τ Cert.WholeFfnIdeal.sig) → Buf (Elt Ideal) ℓ) (g' : Dev Cert.WholeFfnIdeal.nD → PrngReg), Pre_GatherFfnIdeal m →
    (∀ c : Dev Cert.GatherFfnIdeal.nD,
      m ((c.tc : Thread Cert.GatherFfnIdeal.nD Cert.GatherFfnIdeal.τ).loc Cert.GatherFfnIdeal.main_arg0) = Layout.block ⟨2, ![384, 1024]⟩ ⟨2, ![3072, 1024]⟩ 0 8 c (m' (((0 : Dev Cert.WholeFfnIdeal.nD).tc : Thread Cert.WholeFfnIdeal.nD Cert.WholeFfnIdeal.τ).loc Cert.WholeFfnIdeal.main_arg0))
      ∧ m ((c.tc : Thread Cert.GatherFfnIdeal.nD Cert.GatherFfnIdeal.τ).loc Cert.GatherFfnIdeal.main_arg1) = Layout.block ⟨2, ![384, 1024]⟩ ⟨2, ![3072, 1024]⟩ 0 8 c (m' (((0 : Dev Cert.WholeFfnIdeal.nD).tc : Thread Cert.WholeFfnIdeal.nD Cert.WholeFfnIdeal.τ).loc Cert.WholeFfnIdeal.main_arg1))
      ∧ m ((c.tc : Thread Cert.GatherFfnIdeal.nD Cert.GatherFfnIdeal.τ).loc Cert.GatherFfnIdeal.main_arg2) = Layout.block ⟨2, ![384, 1024]⟩ ⟨2, ![3072, 1024]⟩ 0 8 c (m' (((0 : Dev Cert.WholeFfnIdeal.nD).tc : Thread Cert.WholeFfnIdeal.nD Cert.WholeFfnIdeal.τ).loc Cert.WholeFfnIdeal.main_arg2))) →
    ∃ (v0 : Buf (Elt Ideal) (((0 : Dev Cert.WholeFfnIdeal.nD).tc : Thread Cert.WholeFfnIdeal.nD Cert.WholeFfnIdeal.τ).loc Cert.WholeFfnIdeal.main_arg0)) (v1 : Buf (Elt Ideal) (((0 : Dev Cert.WholeFfnIdeal.nD).tc : Thread Cert.WholeFfnIdeal.nD Cert.WholeFfnIdeal.τ).loc Cert.WholeFfnIdeal.main_arg1)) (v2 : Buf (Elt Ideal) (((0 : Dev Cert.WholeFfnIdeal.nD).tc : Thread Cert.WholeFfnIdeal.nD Cert.WholeFfnIdeal.τ).loc Cert.WholeFfnIdeal.main_arg2)),
      θ_run (Cert.GatherFfnIdeal.defs (F := Ideal)) (onTc (τ := Cert.GatherFfnIdeal.τ) (Cert.GatherFfnIdeal.main (F := Ideal))) ⟨m, fun _ => 0, g⟩ (fun r => ∀ c : Dev Cert.GatherFfnIdeal.nD,
          r.2.mem ((c.tc : Thread Cert.GatherFfnIdeal.nD Cert.GatherFfnIdeal.τ).loc Cert.GatherFfnIdeal.main_v1_0) = v0
          ∧ r.2.mem ((c.tc : Thread Cert.GatherFfnIdeal.nD Cert.GatherFfnIdeal.τ).loc Cert.GatherFfnIdeal.main_v1_1) = v1
          ∧ r.2.mem ((c.tc : Thread Cert.GatherFfnIdeal.nD Cert.GatherFfnIdeal.τ).loc Cert.GatherFfnIdeal.main_v1_2) = v2
          ∧ r.2.mem ((c.tc : Thread Cert.GatherFfnIdeal.nD Cert.GatherFfnIdeal.τ).loc Cert.GatherFfnIdeal.main_arg0) = m ((c.tc : Thread Cert.GatherFfnIdeal.nD Cert.GatherFfnIdeal.τ).loc Cert.GatherFfnIdeal.main_arg0)
          ∧ r.2.mem ((c.tc : Thread Cert.GatherFfnIdeal.nD Cert.GatherFfnIdeal.τ).loc Cert.GatherFfnIdeal.main_arg1) = m ((c.tc : Thread Cert.GatherFfnIdeal.nD Cert.GatherFfnIdeal.τ).loc Cert.GatherFfnIdeal.main_arg1)
          ∧ r.2.mem ((c.tc : Thread Cert.GatherFfnIdeal.nD Cert.GatherFfnIdeal.τ).loc Cert.GatherFfnIdeal.main_arg2) = m ((c.tc : Thread Cert.GatherFfnIdeal.nD Cert.GatherFfnIdeal.τ).loc Cert.GatherFfnIdeal.main_arg2))
      ∧ θ_run (Cert.WholeFfnIdeal.defs (F := Ideal)) (onTc (τ := Cert.WholeFfnIdeal.τ) (Cert.WholeFfnIdeal.main (F := Ideal))) ⟨m', fun _ => 0, g'⟩ (fun r =>
          r.2.mem (((0 : Dev Cert.WholeFfnIdeal.nD).tc : Thread Cert.WholeFfnIdeal.nD Cert.WholeFfnIdeal.τ).loc Cert.WholeFfnIdeal.main_arg0) = v0
          ∧ r.2.mem (((0 : Dev Cert.WholeFfnIdeal.nD).tc : Thread Cert.WholeFfnIdeal.nD Cert.WholeFfnIdeal.τ).loc Cert.WholeFfnIdeal.main_arg1) = v1
          ∧ r.2.mem (((0 : Dev Cert.WholeFfnIdeal.nD).tc : Thread Cert.WholeFfnIdeal.nD Cert.WholeFfnIdeal.τ).loc Cert.WholeFfnIdeal.main_arg2) = v2
          ∧ r.2.mem (((0 : Dev Cert.WholeFfnIdeal.nD).tc : Thread Cert.WholeFfnIdeal.nD Cert.WholeFfnIdeal.τ).loc Cert.WholeFfnIdeal.main_arg0) = m' (((0 : Dev Cert.WholeFfnIdeal.nD).tc : Thread Cert.WholeFfnIdeal.nD Cert.WholeFfnIdeal.τ).loc Cert.WholeFfnIdeal.main_arg0)
          ∧ r.2.mem (((0 : Dev Cert.WholeFfnIdeal.nD).tc : Thread Cert.WholeFfnIdeal.nD Cert.WholeFfnIdeal.τ).loc Cert.WholeFfnIdeal.main_arg1) = m' (((0 : Dev Cert.WholeFfnIdeal.nD).tc : Thread Cert.WholeFfnIdeal.nD Cert.WholeFfnIdeal.τ).loc Cert.WholeFfnIdeal.main_arg1)
          ∧ r.2.mem (((0 : Dev Cert.WholeFfnIdeal.nD).tc : Thread Cert.WholeFfnIdeal.nD Cert.WholeFfnIdeal.τ).loc Cert.WholeFfnIdeal.main_arg2) = m' (((0 : Dev Cert.WholeFfnIdeal.nD).tc : Thread Cert.WholeFfnIdeal.nD Cert.WholeFfnIdeal.τ).loc Cert.WholeFfnIdeal.main_arg2))

def bitexact_GatherFfn_WholeFfn [hGatherFfn : Cert.GatherFfn.Facts] [hWholeFfn : Cert.WholeFfn.Facts] : Prop :=
  ∀ (m : (ℓ : Loc Cert.GatherFfn.nD Cert.GatherFfn.τ Cert.GatherFfn.sig) → Buf (Elt Bits) ℓ) (g : Dev Cert.GatherFfn.nD → PrngReg)
    (m' : (ℓ : Loc Cert.WholeFfn.nD Cert.WholeFfn.τ Cert.WholeFfn.sig) → Buf (Elt Bits) ℓ) (g' : Dev Cert.WholeFfn.nD → PrngReg), Pre_GatherFfn m →
    (∀ c : Dev Cert.GatherFfn.nD,
      m ((c.tc : Thread Cert.GatherFfn.nD Cert.GatherFfn.τ).loc Cert.GatherFfn.main_arg0) = Layout.block ⟨2, ![384, 1024]⟩ ⟨2, ![3072, 1024]⟩ 0 8 c (m' (((0 : Dev Cert.WholeFfn.nD).tc : Thread Cert.WholeFfn.nD Cert.WholeFfn.τ).loc Cert.WholeFfn.main_arg0))
      ∧ m ((c.tc : Thread Cert.GatherFfn.nD Cert.GatherFfn.τ).loc Cert.GatherFfn.main_arg1) = Layout.block ⟨2, ![384, 1024]⟩ ⟨2, ![3072, 1024]⟩ 0 8 c (m' (((0 : Dev Cert.WholeFfn.nD).tc : Thread Cert.WholeFfn.nD Cert.WholeFfn.τ).loc Cert.WholeFfn.main_arg1))
      ∧ m ((c.tc : Thread Cert.GatherFfn.nD Cert.GatherFfn.τ).loc Cert.GatherFfn.main_arg2) = Layout.block ⟨2, ![384, 1024]⟩ ⟨2, ![3072, 1024]⟩ 0 8 c (m' (((0 : Dev Cert.WholeFfn.nD).tc : Thread Cert.WholeFfn.nD Cert.WholeFfn.τ).loc Cert.WholeFfn.main_arg2))) →
    ∃ (v0 : Buf (Elt Bits) (((0 : Dev Cert.WholeFfn.nD).tc : Thread Cert.WholeFfn.nD Cert.WholeFfn.τ).loc Cert.WholeFfn.main_arg0)) (v1 : Buf (Elt Bits) (((0 : Dev Cert.WholeFfn.nD).tc : Thread Cert.WholeFfn.nD Cert.WholeFfn.τ).loc Cert.WholeFfn.main_arg1)) (v2 : Buf (Elt Bits) (((0 : Dev Cert.WholeFfn.nD).tc : Thread Cert.WholeFfn.nD Cert.WholeFfn.τ).loc Cert.WholeFfn.main_arg2)),
      θ_run (Cert.GatherFfn.defs (F := Bits)) (onTc (τ := Cert.GatherFfn.τ) (Cert.GatherFfn.main (F := Bits))) ⟨m, fun _ => 0, g⟩ (fun r => ∀ c : Dev Cert.GatherFfn.nD,
          r.2.mem ((c.tc : Thread Cert.GatherFfn.nD Cert.GatherFfn.τ).loc Cert.GatherFfn.main_v1_0) = v0
          ∧ r.2.mem ((c.tc : Thread Cert.GatherFfn.nD Cert.GatherFfn.τ).loc Cert.GatherFfn.main_v1_1) = v1
          ∧ r.2.mem ((c.tc : Thread Cert.GatherFfn.nD Cert.GatherFfn.τ).loc Cert.GatherFfn.main_v1_2) = v2
          ∧ r.2.mem ((c.tc : Thread Cert.GatherFfn.nD Cert.GatherFfn.τ).loc Cert.GatherFfn.main_arg0) = m ((c.tc : Thread Cert.GatherFfn.nD Cert.GatherFfn.τ).loc Cert.GatherFfn.main_arg0)
          ∧ r.2.mem ((c.tc : Thread Cert.GatherFfn.nD Cert.GatherFfn.τ).loc Cert.GatherFfn.main_arg1) = m ((c.tc : Thread Cert.GatherFfn.nD Cert.GatherFfn.τ).loc Cert.GatherFfn.main_arg1)
          ∧ r.2.mem ((c.tc : Thread Cert.GatherFfn.nD Cert.GatherFfn.τ).loc Cert.GatherFfn.main_arg2) = m ((c.tc : Thread Cert.GatherFfn.nD Cert.GatherFfn.τ).loc Cert.GatherFfn.main_arg2))
      ∧ θ_run (Cert.WholeFfn.defs (F := Bits)) (onTc (τ := Cert.WholeFfn.τ) (Cert.WholeFfn.main (F := Bits))) ⟨m', fun _ => 0, g'⟩ (fun r =>
          r.2.mem (((0 : Dev Cert.WholeFfn.nD).tc : Thread Cert.WholeFfn.nD Cert.WholeFfn.τ).loc Cert.WholeFfn.main_arg0) = v0
          ∧ r.2.mem (((0 : Dev Cert.WholeFfn.nD).tc : Thread Cert.WholeFfn.nD Cert.WholeFfn.τ).loc Cert.WholeFfn.main_arg1) = v1
          ∧ r.2.mem (((0 : Dev Cert.WholeFfn.nD).tc : Thread Cert.WholeFfn.nD Cert.WholeFfn.τ).loc Cert.WholeFfn.main_arg2) = v2
          ∧ r.2.mem (((0 : Dev Cert.WholeFfn.nD).tc : Thread Cert.WholeFfn.nD Cert.WholeFfn.τ).loc Cert.WholeFfn.main_arg0) = m' (((0 : Dev Cert.WholeFfn.nD).tc : Thread Cert.WholeFfn.nD Cert.WholeFfn.τ).loc Cert.WholeFfn.main_arg0)
          ∧ r.2.mem (((0 : Dev Cert.WholeFfn.nD).tc : Thread Cert.WholeFfn.nD Cert.WholeFfn.τ).loc Cert.WholeFfn.main_arg1) = m' (((0 : Dev Cert.WholeFfn.nD).tc : Thread Cert.WholeFfn.nD Cert.WholeFfn.τ).loc Cert.WholeFfn.main_arg1)
          ∧ r.2.mem (((0 : Dev Cert.WholeFfn.nD).tc : Thread Cert.WholeFfn.nD Cert.WholeFfn.τ).loc Cert.WholeFfn.main_arg2) = m' (((0 : Dev Cert.WholeFfn.nD).tc : Thread Cert.WholeFfn.nD Cert.WholeFfn.τ).loc Cert.WholeFfn.main_arg2))

def preserves_ScatterEven_ScatterEvenIdeal : Prop :=
  True

def algebraic_ScatterEvenIdeal_SentEvenIdeal [hScatterEvenIdeal : Cert.ScatterEvenIdeal.Facts] [hSentEvenIdeal : Cert.SentEvenIdeal.Facts] : Prop :=
  ∀ (m : (ℓ : Loc Cert.ScatterEvenIdeal.nD Cert.ScatterEvenIdeal.τ Cert.ScatterEvenIdeal.sig) → Buf (Elt Ideal) ℓ) (g : Dev Cert.ScatterEvenIdeal.nD → PrngReg)
    (m' : (ℓ : Loc Cert.SentEvenIdeal.nD Cert.SentEvenIdeal.τ Cert.SentEvenIdeal.sig) → Buf (Elt Ideal) ℓ) (g' : Dev Cert.SentEvenIdeal.nD → PrngReg), Pre_ScatterEvenIdeal m →
    (∀ c : Dev Cert.ScatterEvenIdeal.nD,
      m ((c.tc : Thread Cert.ScatterEvenIdeal.nD Cert.ScatterEvenIdeal.τ).loc Cert.ScatterEvenIdeal.main_arg0) = Layout.block ⟨2, ![1024, 1024]⟩ ⟨2, ![8192, 1024]⟩ 0 8 c (m' (((0 : Dev Cert.SentEvenIdeal.nD).tc : Thread Cert.SentEvenIdeal.nD Cert.SentEvenIdeal.τ).loc Cert.SentEvenIdeal.main_arg0))
      ∧ m ((c.tc : Thread Cert.ScatterEvenIdeal.nD Cert.ScatterEvenIdeal.τ).loc Cert.ScatterEvenIdeal.main_arg1) = Layout.block ⟨2, ![1024, 3072]⟩ ⟨2, ![8192, 3072]⟩ 0 8 c (m' (((0 : Dev Cert.SentEvenIdeal.nD).tc : Thread Cert.SentEvenIdeal.nD Cert.SentEvenIdeal.τ).loc Cert.SentEvenIdeal.main_arg1))) →
    ∃ (v0 : Buf (Elt Ideal) (((0 : Dev Cert.SentEvenIdeal.nD).tc : Thread Cert.SentEvenIdeal.nD Cert.SentEvenIdeal.τ).loc Cert.SentEvenIdeal.main_v0)) (v1 : Buf (Elt Ideal) (((0 : Dev Cert.SentEvenIdeal.nD).tc : Thread Cert.SentEvenIdeal.nD Cert.SentEvenIdeal.τ).loc Cert.SentEvenIdeal.main_v1)),
      θ_run (Cert.ScatterEvenIdeal.defs (F := Ideal)) (onTc (τ := Cert.ScatterEvenIdeal.τ) (Cert.ScatterEvenIdeal.main (F := Ideal))) ⟨m, fun _ => 0, g⟩ (fun r => ∀ c : Dev Cert.ScatterEvenIdeal.nD,
          r.2.mem ((c.tc : Thread Cert.ScatterEvenIdeal.nD Cert.ScatterEvenIdeal.τ).loc Cert.ScatterEvenIdeal.main_v1_0) = Layout.block ⟨3, ![8, 128, 1024]⟩ ⟨3, ![8, 1024, 1024]⟩ 1 8 c v0
          ∧ r.2.mem ((c.tc : Thread Cert.ScatterEvenIdeal.nD Cert.ScatterEvenIdeal.τ).loc Cert.ScatterEvenIdeal.main_v1_1) = Layout.block ⟨3, ![8, 1024, 384]⟩ ⟨3, ![8, 1024, 3072]⟩ 2 8 c v1
          ∧ r.2.mem ((c.tc : Thread Cert.ScatterEvenIdeal.nD Cert.ScatterEvenIdeal.τ).loc Cert.ScatterEvenIdeal.main_arg0) = m ((c.tc : Thread Cert.ScatterEvenIdeal.nD Cert.ScatterEvenIdeal.τ).loc Cert.ScatterEvenIdeal.main_arg0)
          ∧ r.2.mem ((c.tc : Thread Cert.ScatterEvenIdeal.nD Cert.ScatterEvenIdeal.τ).loc Cert.ScatterEvenIdeal.main_arg1) = m ((c.tc : Thread Cert.ScatterEvenIdeal.nD Cert.ScatterEvenIdeal.τ).loc Cert.ScatterEvenIdeal.main_arg1))
      ∧ θ_run (Cert.SentEvenIdeal.defs (F := Ideal)) (onTc (τ := Cert.SentEvenIdeal.τ) (Cert.SentEvenIdeal.main (F := Ideal))) ⟨m', fun _ => 0, g'⟩ (fun r =>
          r.2.mem (((0 : Dev Cert.SentEvenIdeal.nD).tc : Thread Cert.SentEvenIdeal.nD Cert.SentEvenIdeal.τ).loc Cert.SentEvenIdeal.main_v0) = v0
          ∧ r.2.mem (((0 : Dev Cert.SentEvenIdeal.nD).tc : Thread Cert.SentEvenIdeal.nD Cert.SentEvenIdeal.τ).loc Cert.SentEvenIdeal.main_v1) = v1
          ∧ r.2.mem (((0 : Dev Cert.SentEvenIdeal.nD).tc : Thread Cert.SentEvenIdeal.nD Cert.SentEvenIdeal.τ).loc Cert.SentEvenIdeal.main_arg0) = m' (((0 : Dev Cert.SentEvenIdeal.nD).tc : Thread Cert.SentEvenIdeal.nD Cert.SentEvenIdeal.τ).loc Cert.SentEvenIdeal.main_arg0)
          ∧ r.2.mem (((0 : Dev Cert.SentEvenIdeal.nD).tc : Thread Cert.SentEvenIdeal.nD Cert.SentEvenIdeal.τ).loc Cert.SentEvenIdeal.main_arg1) = m' (((0 : Dev Cert.SentEvenIdeal.nD).tc : Thread Cert.SentEvenIdeal.nD Cert.SentEvenIdeal.τ).loc Cert.SentEvenIdeal.main_arg1))

def bitexact_ScatterEven_SentEven [hScatterEven : Cert.ScatterEven.Facts] [hSentEven : Cert.SentEven.Facts] : Prop :=
  ∀ (m : (ℓ : Loc Cert.ScatterEven.nD Cert.ScatterEven.τ Cert.ScatterEven.sig) → Buf (Elt Bits) ℓ) (g : Dev Cert.ScatterEven.nD → PrngReg)
    (m' : (ℓ : Loc Cert.SentEven.nD Cert.SentEven.τ Cert.SentEven.sig) → Buf (Elt Bits) ℓ) (g' : Dev Cert.SentEven.nD → PrngReg), Pre_ScatterEven m →
    (∀ c : Dev Cert.ScatterEven.nD,
      m ((c.tc : Thread Cert.ScatterEven.nD Cert.ScatterEven.τ).loc Cert.ScatterEven.main_arg0) = Layout.block ⟨2, ![1024, 1024]⟩ ⟨2, ![8192, 1024]⟩ 0 8 c (m' (((0 : Dev Cert.SentEven.nD).tc : Thread Cert.SentEven.nD Cert.SentEven.τ).loc Cert.SentEven.main_arg0))
      ∧ m ((c.tc : Thread Cert.ScatterEven.nD Cert.ScatterEven.τ).loc Cert.ScatterEven.main_arg1) = Layout.block ⟨2, ![1024, 3072]⟩ ⟨2, ![8192, 3072]⟩ 0 8 c (m' (((0 : Dev Cert.SentEven.nD).tc : Thread Cert.SentEven.nD Cert.SentEven.τ).loc Cert.SentEven.main_arg1))) →
    ∃ (v0 : Buf (Elt Bits) (((0 : Dev Cert.SentEven.nD).tc : Thread Cert.SentEven.nD Cert.SentEven.τ).loc Cert.SentEven.main_v0)) (v1 : Buf (Elt Bits) (((0 : Dev Cert.SentEven.nD).tc : Thread Cert.SentEven.nD Cert.SentEven.τ).loc Cert.SentEven.main_v1)),
      θ_run (Cert.ScatterEven.defs (F := Bits)) (onTc (τ := Cert.ScatterEven.τ) (Cert.ScatterEven.main (F := Bits))) ⟨m, fun _ => 0, g⟩ (fun r => ∀ c : Dev Cert.ScatterEven.nD,
          r.2.mem ((c.tc : Thread Cert.ScatterEven.nD Cert.ScatterEven.τ).loc Cert.ScatterEven.main_v1_0) = Layout.block ⟨3, ![8, 128, 1024]⟩ ⟨3, ![8, 1024, 1024]⟩ 1 8 c v0
          ∧ r.2.mem ((c.tc : Thread Cert.ScatterEven.nD Cert.ScatterEven.τ).loc Cert.ScatterEven.main_v1_1) = Layout.block ⟨3, ![8, 1024, 384]⟩ ⟨3, ![8, 1024, 3072]⟩ 2 8 c v1
          ∧ r.2.mem ((c.tc : Thread Cert.ScatterEven.nD Cert.ScatterEven.τ).loc Cert.ScatterEven.main_arg0) = m ((c.tc : Thread Cert.ScatterEven.nD Cert.ScatterEven.τ).loc Cert.ScatterEven.main_arg0)
          ∧ r.2.mem ((c.tc : Thread Cert.ScatterEven.nD Cert.ScatterEven.τ).loc Cert.ScatterEven.main_arg1) = m ((c.tc : Thread Cert.ScatterEven.nD Cert.ScatterEven.τ).loc Cert.ScatterEven.main_arg1))
      ∧ θ_run (Cert.SentEven.defs (F := Bits)) (onTc (τ := Cert.SentEven.τ) (Cert.SentEven.main (F := Bits))) ⟨m', fun _ => 0, g'⟩ (fun r =>
          r.2.mem (((0 : Dev Cert.SentEven.nD).tc : Thread Cert.SentEven.nD Cert.SentEven.τ).loc Cert.SentEven.main_v0) = v0
          ∧ r.2.mem (((0 : Dev Cert.SentEven.nD).tc : Thread Cert.SentEven.nD Cert.SentEven.τ).loc Cert.SentEven.main_v1) = v1
          ∧ r.2.mem (((0 : Dev Cert.SentEven.nD).tc : Thread Cert.SentEven.nD Cert.SentEven.τ).loc Cert.SentEven.main_arg0) = m' (((0 : Dev Cert.SentEven.nD).tc : Thread Cert.SentEven.nD Cert.SentEven.τ).loc Cert.SentEven.main_arg0)
          ∧ r.2.mem (((0 : Dev Cert.SentEven.nD).tc : Thread Cert.SentEven.nD Cert.SentEven.τ).loc Cert.SentEven.main_arg1) = m' (((0 : Dev Cert.SentEven.nD).tc : Thread Cert.SentEven.nD Cert.SentEven.τ).loc Cert.SentEven.main_arg1))

def preserves_ScatterOdd_ScatterOddIdeal : Prop :=
  True

def algebraic_ScatterOddIdeal_SentOddIdeal [hScatterOddIdeal : Cert.ScatterOddIdeal.Facts] [hSentOddIdeal : Cert.SentOddIdeal.Facts] : Prop :=
  ∀ (m : (ℓ : Loc Cert.ScatterOddIdeal.nD Cert.ScatterOddIdeal.τ Cert.ScatterOddIdeal.sig) → Buf (Elt Ideal) ℓ) (g : Dev Cert.ScatterOddIdeal.nD → PrngReg)
    (m' : (ℓ : Loc Cert.SentOddIdeal.nD Cert.SentOddIdeal.τ Cert.SentOddIdeal.sig) → Buf (Elt Ideal) ℓ) (g' : Dev Cert.SentOddIdeal.nD → PrngReg), Pre_ScatterOddIdeal m →
    (∀ c : Dev Cert.ScatterOddIdeal.nD,
      m ((c.tc : Thread Cert.ScatterOddIdeal.nD Cert.ScatterOddIdeal.τ).loc Cert.ScatterOddIdeal.main_arg0) = Layout.block ⟨2, ![1024, 1024]⟩ ⟨2, ![8192, 1024]⟩ 0 8 c (m' (((0 : Dev Cert.SentOddIdeal.nD).tc : Thread Cert.SentOddIdeal.nD Cert.SentOddIdeal.τ).loc Cert.SentOddIdeal.main_arg0))
      ∧ m ((c.tc : Thread Cert.ScatterOddIdeal.nD Cert.ScatterOddIdeal.τ).loc Cert.ScatterOddIdeal.main_arg1) = Layout.block ⟨2, ![1536, 1024]⟩ ⟨2, ![12288, 1024]⟩ 0 8 c (m' (((0 : Dev Cert.SentOddIdeal.nD).tc : Thread Cert.SentOddIdeal.nD Cert.SentOddIdeal.τ).loc Cert.SentOddIdeal.main_arg1))) →
    ∃ (v0 : Buf (Elt Ideal) (((0 : Dev Cert.SentOddIdeal.nD).tc : Thread Cert.SentOddIdeal.nD Cert.SentOddIdeal.τ).loc Cert.SentOddIdeal.main_v0)) (v1 : Buf (Elt Ideal) (((0 : Dev Cert.SentOddIdeal.nD).tc : Thread Cert.SentOddIdeal.nD Cert.SentOddIdeal.τ).loc Cert.SentOddIdeal.main_v1)),
      θ_run (Cert.ScatterOddIdeal.defs (F := Ideal)) (onTc (τ := Cert.ScatterOddIdeal.τ) (Cert.ScatterOddIdeal.main (F := Ideal))) ⟨m, fun _ => 0, g⟩ (fun r => ∀ c : Dev Cert.ScatterOddIdeal.nD,
          r.2.mem ((c.tc : Thread Cert.ScatterOddIdeal.nD Cert.ScatterOddIdeal.τ).loc Cert.ScatterOddIdeal.main_v1_0) = Layout.block ⟨3, ![8, 128, 1024]⟩ ⟨3, ![8, 1024, 1024]⟩ 1 8 c v0
          ∧ r.2.mem ((c.tc : Thread Cert.ScatterOddIdeal.nD Cert.ScatterOddIdeal.τ).loc Cert.ScatterOddIdeal.main_v1_1) = Layout.block ⟨3, ![8, 192, 1024]⟩ ⟨3, ![8, 1536, 1024]⟩ 1 8 c v1
          ∧ r.2.mem ((c.tc : Thread Cert.ScatterOddIdeal.nD Cert.ScatterOddIdeal.τ).loc Cert.ScatterOddIdeal.main_arg0) = m ((c.tc : Thread Cert.ScatterOddIdeal.nD Cert.ScatterOddIdeal.τ).loc Cert.ScatterOddIdeal.main_arg0)
          ∧ r.2.mem ((c.tc : Thread Cert.ScatterOddIdeal.nD Cert.ScatterOddIdeal.τ).loc Cert.ScatterOddIdeal.main_arg1) = m ((c.tc : Thread Cert.ScatterOddIdeal.nD Cert.ScatterOddIdeal.τ).loc Cert.ScatterOddIdeal.main_arg1))
      ∧ θ_run (Cert.SentOddIdeal.defs (F := Ideal)) (onTc (τ := Cert.SentOddIdeal.τ) (Cert.SentOddIdeal.main (F := Ideal))) ⟨m', fun _ => 0, g'⟩ (fun r =>
          r.2.mem (((0 : Dev Cert.SentOddIdeal.nD).tc : Thread Cert.SentOddIdeal.nD Cert.SentOddIdeal.τ).loc Cert.SentOddIdeal.main_v0) = v0
          ∧ r.2.mem (((0 : Dev Cert.SentOddIdeal.nD).tc : Thread Cert.SentOddIdeal.nD Cert.SentOddIdeal.τ).loc Cert.SentOddIdeal.main_v1) = v1
          ∧ r.2.mem (((0 : Dev Cert.SentOddIdeal.nD).tc : Thread Cert.SentOddIdeal.nD Cert.SentOddIdeal.τ).loc Cert.SentOddIdeal.main_arg0) = m' (((0 : Dev Cert.SentOddIdeal.nD).tc : Thread Cert.SentOddIdeal.nD Cert.SentOddIdeal.τ).loc Cert.SentOddIdeal.main_arg0)
          ∧ r.2.mem (((0 : Dev Cert.SentOddIdeal.nD).tc : Thread Cert.SentOddIdeal.nD Cert.SentOddIdeal.τ).loc Cert.SentOddIdeal.main_arg1) = m' (((0 : Dev Cert.SentOddIdeal.nD).tc : Thread Cert.SentOddIdeal.nD Cert.SentOddIdeal.τ).loc Cert.SentOddIdeal.main_arg1))

def bitexact_ScatterOdd_SentOdd [hScatterOdd : Cert.ScatterOdd.Facts] [hSentOdd : Cert.SentOdd.Facts] : Prop :=
  ∀ (m : (ℓ : Loc Cert.ScatterOdd.nD Cert.ScatterOdd.τ Cert.ScatterOdd.sig) → Buf (Elt Bits) ℓ) (g : Dev Cert.ScatterOdd.nD → PrngReg)
    (m' : (ℓ : Loc Cert.SentOdd.nD Cert.SentOdd.τ Cert.SentOdd.sig) → Buf (Elt Bits) ℓ) (g' : Dev Cert.SentOdd.nD → PrngReg), Pre_ScatterOdd m →
    (∀ c : Dev Cert.ScatterOdd.nD,
      m ((c.tc : Thread Cert.ScatterOdd.nD Cert.ScatterOdd.τ).loc Cert.ScatterOdd.main_arg0) = Layout.block ⟨2, ![1024, 1024]⟩ ⟨2, ![8192, 1024]⟩ 0 8 c (m' (((0 : Dev Cert.SentOdd.nD).tc : Thread Cert.SentOdd.nD Cert.SentOdd.τ).loc Cert.SentOdd.main_arg0))
      ∧ m ((c.tc : Thread Cert.ScatterOdd.nD Cert.ScatterOdd.τ).loc Cert.ScatterOdd.main_arg1) = Layout.block ⟨2, ![1536, 1024]⟩ ⟨2, ![12288, 1024]⟩ 0 8 c (m' (((0 : Dev Cert.SentOdd.nD).tc : Thread Cert.SentOdd.nD Cert.SentOdd.τ).loc Cert.SentOdd.main_arg1))) →
    ∃ (v0 : Buf (Elt Bits) (((0 : Dev Cert.SentOdd.nD).tc : Thread Cert.SentOdd.nD Cert.SentOdd.τ).loc Cert.SentOdd.main_v0)) (v1 : Buf (Elt Bits) (((0 : Dev Cert.SentOdd.nD).tc : Thread Cert.SentOdd.nD Cert.SentOdd.τ).loc Cert.SentOdd.main_v1)),
      θ_run (Cert.ScatterOdd.defs (F := Bits)) (onTc (τ := Cert.ScatterOdd.τ) (Cert.ScatterOdd.main (F := Bits))) ⟨m, fun _ => 0, g⟩ (fun r => ∀ c : Dev Cert.ScatterOdd.nD,
          r.2.mem ((c.tc : Thread Cert.ScatterOdd.nD Cert.ScatterOdd.τ).loc Cert.ScatterOdd.main_v1_0) = Layout.block ⟨3, ![8, 128, 1024]⟩ ⟨3, ![8, 1024, 1024]⟩ 1 8 c v0
          ∧ r.2.mem ((c.tc : Thread Cert.ScatterOdd.nD Cert.ScatterOdd.τ).loc Cert.ScatterOdd.main_v1_1) = Layout.block ⟨3, ![8, 192, 1024]⟩ ⟨3, ![8, 1536, 1024]⟩ 1 8 c v1
          ∧ r.2.mem ((c.tc : Thread Cert.ScatterOdd.nD Cert.ScatterOdd.τ).loc Cert.ScatterOdd.main_arg0) = m ((c.tc : Thread Cert.ScatterOdd.nD Cert.ScatterOdd.τ).loc Cert.ScatterOdd.main_arg0)
          ∧ r.2.mem ((c.tc : Thread Cert.ScatterOdd.nD Cert.ScatterOdd.τ).loc Cert.ScatterOdd.main_arg1) = m ((c.tc : Thread Cert.ScatterOdd.nD Cert.ScatterOdd.τ).loc Cert.ScatterOdd.main_arg1))
      ∧ θ_run (Cert.SentOdd.defs (F := Bits)) (onTc (τ := Cert.SentOdd.τ) (Cert.SentOdd.main (F := Bits))) ⟨m', fun _ => 0, g'⟩ (fun r =>
          r.2.mem (((0 : Dev Cert.SentOdd.nD).tc : Thread Cert.SentOdd.nD Cert.SentOdd.τ).loc Cert.SentOdd.main_v0) = v0
          ∧ r.2.mem (((0 : Dev Cert.SentOdd.nD).tc : Thread Cert.SentOdd.nD Cert.SentOdd.τ).loc Cert.SentOdd.main_v1) = v1
          ∧ r.2.mem (((0 : Dev Cert.SentOdd.nD).tc : Thread Cert.SentOdd.nD Cert.SentOdd.τ).loc Cert.SentOdd.main_arg0) = m' (((0 : Dev Cert.SentOdd.nD).tc : Thread Cert.SentOdd.nD Cert.SentOdd.τ).loc Cert.SentOdd.main_arg0)
          ∧ r.2.mem (((0 : Dev Cert.SentOdd.nD).tc : Thread Cert.SentOdd.nD Cert.SentOdd.τ).loc Cert.SentOdd.main_arg1) = m' (((0 : Dev Cert.SentOdd.nD).tc : Thread Cert.SentOdd.nD Cert.SentOdd.τ).loc Cert.SentOdd.main_arg1))

def preserves_GatherEven_GatherEvenIdeal : Prop :=
  True

def algebraic_GatherEvenIdeal_WholeEvenIdeal [hGatherEvenIdeal : Cert.GatherEvenIdeal.Facts] [hWholeEvenIdeal : Cert.WholeEvenIdeal.Facts] : Prop :=
  ∀ (m : (ℓ : Loc Cert.GatherEvenIdeal.nD Cert.GatherEvenIdeal.τ Cert.GatherEvenIdeal.sig) → Buf (Elt Ideal) ℓ) (g : Dev Cert.GatherEvenIdeal.nD → PrngReg)
    (m' : (ℓ : Loc Cert.WholeEvenIdeal.nD Cert.WholeEvenIdeal.τ Cert.WholeEvenIdeal.sig) → Buf (Elt Ideal) ℓ) (g' : Dev Cert.WholeEvenIdeal.nD → PrngReg), Pre_GatherEvenIdeal m →
    (∀ c : Dev Cert.GatherEvenIdeal.nD,
      m ((c.tc : Thread Cert.GatherEvenIdeal.nD Cert.GatherEvenIdeal.τ).loc Cert.GatherEvenIdeal.main_arg0) = Layout.block ⟨2, ![1024, 384]⟩ ⟨2, ![1024, 3072]⟩ 1 8 c (m' (((0 : Dev Cert.WholeEvenIdeal.nD).tc : Thread Cert.WholeEvenIdeal.nD Cert.WholeEvenIdeal.τ).loc Cert.WholeEvenIdeal.main_arg0))
      ∧ m ((c.tc : Thread Cert.GatherEvenIdeal.nD Cert.GatherEvenIdeal.τ).loc Cert.GatherEvenIdeal.main_arg1) = Layout.block ⟨2, ![128, 1024]⟩ ⟨2, ![1024, 1024]⟩ 0 8 c (m' (((0 : Dev Cert.WholeEvenIdeal.nD).tc : Thread Cert.WholeEvenIdeal.nD Cert.WholeEvenIdeal.τ).loc Cert.WholeEvenIdeal.main_arg1))) →
    ∃ (v0 : Buf (Elt Ideal) (((0 : Dev Cert.WholeEvenIdeal.nD).tc : Thread Cert.WholeEvenIdeal.nD Cert.WholeEvenIdeal.τ).loc Cert.WholeEvenIdeal.main_arg0)) (v1 : Buf (Elt Ideal) (((0 : Dev Cert.WholeEvenIdeal.nD).tc : Thread Cert.WholeEvenIdeal.nD Cert.WholeEvenIdeal.τ).loc Cert.WholeEvenIdeal.main_arg1)),
      θ_run (Cert.GatherEvenIdeal.defs (F := Ideal)) (onTc (τ := Cert.GatherEvenIdeal.τ) (Cert.GatherEvenIdeal.main (F := Ideal))) ⟨m, fun _ => 0, g⟩ (fun r => ∀ c : Dev Cert.GatherEvenIdeal.nD,
          r.2.mem ((c.tc : Thread Cert.GatherEvenIdeal.nD Cert.GatherEvenIdeal.τ).loc Cert.GatherEvenIdeal.main_v1_0) = v0
          ∧ r.2.mem ((c.tc : Thread Cert.GatherEvenIdeal.nD Cert.GatherEvenIdeal.τ).loc Cert.GatherEvenIdeal.main_v1_1) = v1
          ∧ r.2.mem ((c.tc : Thread Cert.GatherEvenIdeal.nD Cert.GatherEvenIdeal.τ).loc Cert.GatherEvenIdeal.main_arg0) = m ((c.tc : Thread Cert.GatherEvenIdeal.nD Cert.GatherEvenIdeal.τ).loc Cert.GatherEvenIdeal.main_arg0)
          ∧ r.2.mem ((c.tc : Thread Cert.GatherEvenIdeal.nD Cert.GatherEvenIdeal.τ).loc Cert.GatherEvenIdeal.main_arg1) = m ((c.tc : Thread Cert.GatherEvenIdeal.nD Cert.GatherEvenIdeal.τ).loc Cert.GatherEvenIdeal.main_arg1))
      ∧ θ_run (Cert.WholeEvenIdeal.defs (F := Ideal)) (onTc (τ := Cert.WholeEvenIdeal.τ) (Cert.WholeEvenIdeal.main (F := Ideal))) ⟨m', fun _ => 0, g'⟩ (fun r =>
          r.2.mem (((0 : Dev Cert.WholeEvenIdeal.nD).tc : Thread Cert.WholeEvenIdeal.nD Cert.WholeEvenIdeal.τ).loc Cert.WholeEvenIdeal.main_arg0) = v0
          ∧ r.2.mem (((0 : Dev Cert.WholeEvenIdeal.nD).tc : Thread Cert.WholeEvenIdeal.nD Cert.WholeEvenIdeal.τ).loc Cert.WholeEvenIdeal.main_arg1) = v1
          ∧ r.2.mem (((0 : Dev Cert.WholeEvenIdeal.nD).tc : Thread Cert.WholeEvenIdeal.nD Cert.WholeEvenIdeal.τ).loc Cert.WholeEvenIdeal.main_arg0) = m' (((0 : Dev Cert.WholeEvenIdeal.nD).tc : Thread Cert.WholeEvenIdeal.nD Cert.WholeEvenIdeal.τ).loc Cert.WholeEvenIdeal.main_arg0)
          ∧ r.2.mem (((0 : Dev Cert.WholeEvenIdeal.nD).tc : Thread Cert.WholeEvenIdeal.nD Cert.WholeEvenIdeal.τ).loc Cert.WholeEvenIdeal.main_arg1) = m' (((0 : Dev Cert.WholeEvenIdeal.nD).tc : Thread Cert.WholeEvenIdeal.nD Cert.WholeEvenIdeal.τ).loc Cert.WholeEvenIdeal.main_arg1))

def bitexact_GatherEven_WholeEven [hGatherEven : Cert.GatherEven.Facts] [hWholeEven : Cert.WholeEven.Facts] : Prop :=
  ∀ (m : (ℓ : Loc Cert.GatherEven.nD Cert.GatherEven.τ Cert.GatherEven.sig) → Buf (Elt Bits) ℓ) (g : Dev Cert.GatherEven.nD → PrngReg)
    (m' : (ℓ : Loc Cert.WholeEven.nD Cert.WholeEven.τ Cert.WholeEven.sig) → Buf (Elt Bits) ℓ) (g' : Dev Cert.WholeEven.nD → PrngReg), Pre_GatherEven m →
    (∀ c : Dev Cert.GatherEven.nD,
      m ((c.tc : Thread Cert.GatherEven.nD Cert.GatherEven.τ).loc Cert.GatherEven.main_arg0) = Layout.block ⟨2, ![1024, 384]⟩ ⟨2, ![1024, 3072]⟩ 1 8 c (m' (((0 : Dev Cert.WholeEven.nD).tc : Thread Cert.WholeEven.nD Cert.WholeEven.τ).loc Cert.WholeEven.main_arg0))
      ∧ m ((c.tc : Thread Cert.GatherEven.nD Cert.GatherEven.τ).loc Cert.GatherEven.main_arg1) = Layout.block ⟨2, ![128, 1024]⟩ ⟨2, ![1024, 1024]⟩ 0 8 c (m' (((0 : Dev Cert.WholeEven.nD).tc : Thread Cert.WholeEven.nD Cert.WholeEven.τ).loc Cert.WholeEven.main_arg1))) →
    ∃ (v0 : Buf (Elt Bits) (((0 : Dev Cert.WholeEven.nD).tc : Thread Cert.WholeEven.nD Cert.WholeEven.τ).loc Cert.WholeEven.main_arg0)) (v1 : Buf (Elt Bits) (((0 : Dev Cert.WholeEven.nD).tc : Thread Cert.WholeEven.nD Cert.WholeEven.τ).loc Cert.WholeEven.main_arg1)),
      θ_run (Cert.GatherEven.defs (F := Bits)) (onTc (τ := Cert.GatherEven.τ) (Cert.GatherEven.main (F := Bits))) ⟨m, fun _ => 0, g⟩ (fun r => ∀ c : Dev Cert.GatherEven.nD,
          r.2.mem ((c.tc : Thread Cert.GatherEven.nD Cert.GatherEven.τ).loc Cert.GatherEven.main_v1_0) = v0
          ∧ r.2.mem ((c.tc : Thread Cert.GatherEven.nD Cert.GatherEven.τ).loc Cert.GatherEven.main_v1_1) = v1
          ∧ r.2.mem ((c.tc : Thread Cert.GatherEven.nD Cert.GatherEven.τ).loc Cert.GatherEven.main_arg0) = m ((c.tc : Thread Cert.GatherEven.nD Cert.GatherEven.τ).loc Cert.GatherEven.main_arg0)
          ∧ r.2.mem ((c.tc : Thread Cert.GatherEven.nD Cert.GatherEven.τ).loc Cert.GatherEven.main_arg1) = m ((c.tc : Thread Cert.GatherEven.nD Cert.GatherEven.τ).loc Cert.GatherEven.main_arg1))
      ∧ θ_run (Cert.WholeEven.defs (F := Bits)) (onTc (τ := Cert.WholeEven.τ) (Cert.WholeEven.main (F := Bits))) ⟨m', fun _ => 0, g'⟩ (fun r =>
          r.2.mem (((0 : Dev Cert.WholeEven.nD).tc : Thread Cert.WholeEven.nD Cert.WholeEven.τ).loc Cert.WholeEven.main_arg0) = v0
          ∧ r.2.mem (((0 : Dev Cert.WholeEven.nD).tc : Thread Cert.WholeEven.nD Cert.WholeEven.τ).loc Cert.WholeEven.main_arg1) = v1
          ∧ r.2.mem (((0 : Dev Cert.WholeEven.nD).tc : Thread Cert.WholeEven.nD Cert.WholeEven.τ).loc Cert.WholeEven.main_arg0) = m' (((0 : Dev Cert.WholeEven.nD).tc : Thread Cert.WholeEven.nD Cert.WholeEven.τ).loc Cert.WholeEven.main_arg0)
          ∧ r.2.mem (((0 : Dev Cert.WholeEven.nD).tc : Thread Cert.WholeEven.nD Cert.WholeEven.τ).loc Cert.WholeEven.main_arg1) = m' (((0 : Dev Cert.WholeEven.nD).tc : Thread Cert.WholeEven.nD Cert.WholeEven.τ).loc Cert.WholeEven.main_arg1))

def preserves_GatherOdd_GatherOddIdeal : Prop :=
  True

def algebraic_GatherOddIdeal_WholeOddIdeal [hGatherOddIdeal : Cert.GatherOddIdeal.Facts] [hWholeOddIdeal : Cert.WholeOddIdeal.Facts] : Prop :=
  ∀ (m : (ℓ : Loc Cert.GatherOddIdeal.nD Cert.GatherOddIdeal.τ Cert.GatherOddIdeal.sig) → Buf (Elt Ideal) ℓ) (g : Dev Cert.GatherOddIdeal.nD → PrngReg)
    (m' : (ℓ : Loc Cert.WholeOddIdeal.nD Cert.WholeOddIdeal.τ Cert.WholeOddIdeal.sig) → Buf (Elt Ideal) ℓ) (g' : Dev Cert.WholeOddIdeal.nD → PrngReg), Pre_GatherOddIdeal m →
    (∀ c : Dev Cert.GatherOddIdeal.nD,
      m ((c.tc : Thread Cert.GatherOddIdeal.nD Cert.GatherOddIdeal.τ).loc Cert.GatherOddIdeal.main_arg0) = Layout.block ⟨2, ![192, 1024]⟩ ⟨2, ![1536, 1024]⟩ 0 8 c (m' (((0 : Dev Cert.WholeOddIdeal.nD).tc : Thread Cert.WholeOddIdeal.nD Cert.WholeOddIdeal.τ).loc Cert.WholeOddIdeal.main_arg0))
      ∧ m ((c.tc : Thread Cert.GatherOddIdeal.nD Cert.GatherOddIdeal.τ).loc Cert.GatherOddIdeal.main_arg1) = Layout.block ⟨2, ![128, 1024]⟩ ⟨2, ![1024, 1024]⟩ 0 8 c (m' (((0 : Dev Cert.WholeOddIdeal.nD).tc : Thread Cert.WholeOddIdeal.nD Cert.WholeOddIdeal.τ).loc Cert.WholeOddIdeal.main_arg1))) →
    ∃ (v0 : Buf (Elt Ideal) (((0 : Dev Cert.WholeOddIdeal.nD).tc : Thread Cert.WholeOddIdeal.nD Cert.WholeOddIdeal.τ).loc Cert.WholeOddIdeal.main_arg0)) (v1 : Buf (Elt Ideal) (((0 : Dev Cert.WholeOddIdeal.nD).tc : Thread Cert.WholeOddIdeal.nD Cert.WholeOddIdeal.τ).loc Cert.WholeOddIdeal.main_arg1)),
      θ_run (Cert.GatherOddIdeal.defs (F := Ideal)) (onTc (τ := Cert.GatherOddIdeal.τ) (Cert.GatherOddIdeal.main (F := Ideal))) ⟨m, fun _ => 0, g⟩ (fun r => ∀ c : Dev Cert.GatherOddIdeal.nD,
          r.2.mem ((c.tc : Thread Cert.GatherOddIdeal.nD Cert.GatherOddIdeal.τ).loc Cert.GatherOddIdeal.main_v1_0) = v0
          ∧ r.2.mem ((c.tc : Thread Cert.GatherOddIdeal.nD Cert.GatherOddIdeal.τ).loc Cert.GatherOddIdeal.main_v1_1) = v1
          ∧ r.2.mem ((c.tc : Thread Cert.GatherOddIdeal.nD Cert.GatherOddIdeal.τ).loc Cert.GatherOddIdeal.main_arg0) = m ((c.tc : Thread Cert.GatherOddIdeal.nD Cert.GatherOddIdeal.τ).loc Cert.GatherOddIdeal.main_arg0)
          ∧ r.2.mem ((c.tc : Thread Cert.GatherOddIdeal.nD Cert.GatherOddIdeal.τ).loc Cert.GatherOddIdeal.main_arg1) = m ((c.tc : Thread Cert.GatherOddIdeal.nD Cert.GatherOddIdeal.τ).loc Cert.GatherOddIdeal.main_arg1))
      ∧ θ_run (Cert.WholeOddIdeal.defs (F := Ideal)) (onTc (τ := Cert.WholeOddIdeal.τ) (Cert.WholeOddIdeal.main (F := Ideal))) ⟨m', fun _ => 0, g'⟩ (fun r =>
          r.2.mem (((0 : Dev Cert.WholeOddIdeal.nD).tc : Thread Cert.WholeOddIdeal.nD Cert.WholeOddIdeal.τ).loc Cert.WholeOddIdeal.main_arg0) = v0
          ∧ r.2.mem (((0 : Dev Cert.WholeOddIdeal.nD).tc : Thread Cert.WholeOddIdeal.nD Cert.WholeOddIdeal.τ).loc Cert.WholeOddIdeal.main_arg1) = v1
          ∧ r.2.mem (((0 : Dev Cert.WholeOddIdeal.nD).tc : Thread Cert.WholeOddIdeal.nD Cert.WholeOddIdeal.τ).loc Cert.WholeOddIdeal.main_arg0) = m' (((0 : Dev Cert.WholeOddIdeal.nD).tc : Thread Cert.WholeOddIdeal.nD Cert.WholeOddIdeal.τ).loc Cert.WholeOddIdeal.main_arg0)
          ∧ r.2.mem (((0 : Dev Cert.WholeOddIdeal.nD).tc : Thread Cert.WholeOddIdeal.nD Cert.WholeOddIdeal.τ).loc Cert.WholeOddIdeal.main_arg1) = m' (((0 : Dev Cert.WholeOddIdeal.nD).tc : Thread Cert.WholeOddIdeal.nD Cert.WholeOddIdeal.τ).loc Cert.WholeOddIdeal.main_arg1))

def bitexact_GatherOdd_WholeOdd [hGatherOdd : Cert.GatherOdd.Facts] [hWholeOdd : Cert.WholeOdd.Facts] : Prop :=
  ∀ (m : (ℓ : Loc Cert.GatherOdd.nD Cert.GatherOdd.τ Cert.GatherOdd.sig) → Buf (Elt Bits) ℓ) (g : Dev Cert.GatherOdd.nD → PrngReg)
    (m' : (ℓ : Loc Cert.WholeOdd.nD Cert.WholeOdd.τ Cert.WholeOdd.sig) → Buf (Elt Bits) ℓ) (g' : Dev Cert.WholeOdd.nD → PrngReg), Pre_GatherOdd m →
    (∀ c : Dev Cert.GatherOdd.nD,
      m ((c.tc : Thread Cert.GatherOdd.nD Cert.GatherOdd.τ).loc Cert.GatherOdd.main_arg0) = Layout.block ⟨2, ![192, 1024]⟩ ⟨2, ![1536, 1024]⟩ 0 8 c (m' (((0 : Dev Cert.WholeOdd.nD).tc : Thread Cert.WholeOdd.nD Cert.WholeOdd.τ).loc Cert.WholeOdd.main_arg0))
      ∧ m ((c.tc : Thread Cert.GatherOdd.nD Cert.GatherOdd.τ).loc Cert.GatherOdd.main_arg1) = Layout.block ⟨2, ![128, 1024]⟩ ⟨2, ![1024, 1024]⟩ 0 8 c (m' (((0 : Dev Cert.WholeOdd.nD).tc : Thread Cert.WholeOdd.nD Cert.WholeOdd.τ).loc Cert.WholeOdd.main_arg1))) →
    ∃ (v0 : Buf (Elt Bits) (((0 : Dev Cert.WholeOdd.nD).tc : Thread Cert.WholeOdd.nD Cert.WholeOdd.τ).loc Cert.WholeOdd.main_arg0)) (v1 : Buf (Elt Bits) (((0 : Dev Cert.WholeOdd.nD).tc : Thread Cert.WholeOdd.nD Cert.WholeOdd.τ).loc Cert.WholeOdd.main_arg1)),
      θ_run (Cert.GatherOdd.defs (F := Bits)) (onTc (τ := Cert.GatherOdd.τ) (Cert.GatherOdd.main (F := Bits))) ⟨m, fun _ => 0, g⟩ (fun r => ∀ c : Dev Cert.GatherOdd.nD,
          r.2.mem ((c.tc : Thread Cert.GatherOdd.nD Cert.GatherOdd.τ).loc Cert.GatherOdd.main_v1_0) = v0
          ∧ r.2.mem ((c.tc : Thread Cert.GatherOdd.nD Cert.GatherOdd.τ).loc Cert.GatherOdd.main_v1_1) = v1
          ∧ r.2.mem ((c.tc : Thread Cert.GatherOdd.nD Cert.GatherOdd.τ).loc Cert.GatherOdd.main_arg0) = m ((c.tc : Thread Cert.GatherOdd.nD Cert.GatherOdd.τ).loc Cert.GatherOdd.main_arg0)
          ∧ r.2.mem ((c.tc : Thread Cert.GatherOdd.nD Cert.GatherOdd.τ).loc Cert.GatherOdd.main_arg1) = m ((c.tc : Thread Cert.GatherOdd.nD Cert.GatherOdd.τ).loc Cert.GatherOdd.main_arg1))
      ∧ θ_run (Cert.WholeOdd.defs (F := Bits)) (onTc (τ := Cert.WholeOdd.τ) (Cert.WholeOdd.main (F := Bits))) ⟨m', fun _ => 0, g'⟩ (fun r =>
          r.2.mem (((0 : Dev Cert.WholeOdd.nD).tc : Thread Cert.WholeOdd.nD Cert.WholeOdd.τ).loc Cert.WholeOdd.main_arg0) = v0
          ∧ r.2.mem (((0 : Dev Cert.WholeOdd.nD).tc : Thread Cert.WholeOdd.nD Cert.WholeOdd.τ).loc Cert.WholeOdd.main_arg1) = v1
          ∧ r.2.mem (((0 : Dev Cert.WholeOdd.nD).tc : Thread Cert.WholeOdd.nD Cert.WholeOdd.τ).loc Cert.WholeOdd.main_arg0) = m' (((0 : Dev Cert.WholeOdd.nD).tc : Thread Cert.WholeOdd.nD Cert.WholeOdd.τ).loc Cert.WholeOdd.main_arg0)
          ∧ r.2.mem (((0 : Dev Cert.WholeOdd.nD).tc : Thread Cert.WholeOdd.nD Cert.WholeOdd.τ).loc Cert.WholeOdd.main_arg1) = m' (((0 : Dev Cert.WholeOdd.nD).tc : Thread Cert.WholeOdd.nD Cert.WholeOdd.τ).loc Cert.WholeOdd.main_arg1))

def preserves_GatherSmall_GatherSmallIdeal : Prop :=
  True

def algebraic_GatherSmallIdeal_StackedSmallIdeal [hGatherSmallIdeal : Cert.GatherSmallIdeal.Facts] [hStackedSmallIdeal : Cert.StackedSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.StackedSmallIdeal.nD Cert.StackedSmallIdeal.τ Cert.StackedSmallIdeal.sig) → Buf (Elt Ideal) ℓ) (g' : Dev Cert.StackedSmallIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![72, 128]⟩ ⟨2, ![576, 128]⟩ 0 8 c (m' (((0 : Dev Cert.StackedSmallIdeal.nD).tc : Thread Cert.StackedSmallIdeal.nD Cert.StackedSmallIdeal.τ).loc Cert.StackedSmallIdeal.main_arg0))) →
    ∃ (v0 : Buf (Elt Ideal) (((0 : Dev Cert.StackedSmallIdeal.nD).tc : Thread Cert.StackedSmallIdeal.nD Cert.StackedSmallIdeal.τ).loc Cert.StackedSmallIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.StackedSmallIdeal.defs (F := Ideal)) (onTc (τ := Cert.StackedSmallIdeal.τ) (Cert.StackedSmallIdeal.main (F := Ideal))) ⟨m', fun _ => 0, g'⟩ (fun r =>
          r.2.mem (((0 : Dev Cert.StackedSmallIdeal.nD).tc : Thread Cert.StackedSmallIdeal.nD Cert.StackedSmallIdeal.τ).loc Cert.StackedSmallIdeal.main_v0) = v0
          ∧ r.2.mem (((0 : Dev Cert.StackedSmallIdeal.nD).tc : Thread Cert.StackedSmallIdeal.nD Cert.StackedSmallIdeal.τ).loc Cert.StackedSmallIdeal.main_arg0) = m' (((0 : Dev Cert.StackedSmallIdeal.nD).tc : Thread Cert.StackedSmallIdeal.nD Cert.StackedSmallIdeal.τ).loc Cert.StackedSmallIdeal.main_arg0))

def bitexact_GatherSmall_StackedSmall [hGatherSmall : Cert.GatherSmall.Facts] [hStackedSmall : Cert.StackedSmall.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.StackedSmall.nD Cert.StackedSmall.τ Cert.StackedSmall.sig) → Buf (Elt Bits) ℓ) (g' : Dev Cert.StackedSmall.nD → PrngReg), Pre_GatherSmall m →
    (∀ c : Dev Cert.GatherSmall.nD,
      m ((c.tc : Thread Cert.GatherSmall.nD Cert.GatherSmall.τ).loc Cert.GatherSmall.main_arg0) = Layout.block ⟨2, ![72, 128]⟩ ⟨2, ![576, 128]⟩ 0 8 c (m' (((0 : Dev Cert.StackedSmall.nD).tc : Thread Cert.StackedSmall.nD Cert.StackedSmall.τ).loc Cert.StackedSmall.main_arg0))) →
    ∃ (v0 : Buf (Elt Bits) (((0 : Dev Cert.StackedSmall.nD).tc : Thread Cert.StackedSmall.nD Cert.StackedSmall.τ).loc Cert.StackedSmall.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.StackedSmall.defs (F := Bits)) (onTc (τ := Cert.StackedSmall.τ) (Cert.StackedSmall.main (F := Bits))) ⟨m', fun _ => 0, g'⟩ (fun r =>
          r.2.mem (((0 : Dev Cert.StackedSmall.nD).tc : Thread Cert.StackedSmall.nD Cert.StackedSmall.τ).loc Cert.StackedSmall.main_v0) = v0
          ∧ r.2.mem (((0 : Dev Cert.StackedSmall.nD).tc : Thread Cert.StackedSmall.nD Cert.StackedSmall.τ).loc Cert.StackedSmall.main_arg0) = m' (((0 : Dev Cert.StackedSmall.nD).tc : Thread Cert.StackedSmall.nD Cert.StackedSmall.τ).loc Cert.StackedSmall.main_arg0))

def preserves_GatherMod_GatherModIdeal : Prop :=
  True

def algebraic_GatherModIdeal_StackedModIdeal [hGatherModIdeal : Cert.GatherModIdeal.Facts] [hStackedModIdeal : Cert.StackedModIdeal.Facts] : Prop :=
  ∀ (m : (ℓ : Loc Cert.GatherModIdeal.nD Cert.GatherModIdeal.τ Cert.GatherModIdeal.sig) → Buf (Elt Ideal) ℓ) (g : Dev Cert.GatherModIdeal.nD → PrngReg)
    (m' : (ℓ : Loc Cert.StackedModIdeal.nD Cert.StackedModIdeal.τ Cert.StackedModIdeal.sig) → Buf (Elt Ideal) ℓ) (g' : Dev Cert.StackedModIdeal.nD → PrngReg), Pre_GatherModIdeal m →
    (∀ c : Dev Cert.GatherModIdeal.nD,
      m ((c.tc : Thread Cert.GatherModIdeal.nD Cert.GatherModIdeal.τ).loc Cert.GatherModIdeal.main_arg0) = Layout.block ⟨2, ![64, 768]⟩ ⟨2, ![512, 768]⟩ 0 8 c (m' (((0 : Dev Cert.StackedModIdeal.nD).tc : Thread Cert.StackedModIdeal.nD Cert.StackedModIdeal.τ).loc Cert.StackedModIdeal.main_arg0))) →
    ∃ (v0 : Buf (Elt Ideal) (((0 : Dev Cert.StackedModIdeal.nD).tc : Thread Cert.StackedModIdeal.nD Cert.StackedModIdeal.τ).loc Cert.StackedModIdeal.main_v0)),
      θ_run (Cert.GatherModIdeal.defs (F := Ideal)) (onTc (τ := Cert.GatherModIdeal.τ) (Cert.GatherModIdeal.main (F := Ideal))) ⟨m, fun _ => 0, g⟩ (fun r => ∀ c : Dev Cert.GatherModIdeal.nD,
          r.2.mem ((c.tc : Thread Cert.GatherModIdeal.nD Cert.GatherModIdeal.τ).loc Cert.GatherModIdeal.main_v1) = v0
          ∧ r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ θ_run (Cert.StackedModIdeal.defs (F := Ideal)) (onTc (τ := Cert.StackedModIdeal.τ) (Cert.StackedModIdeal.main (F := Ideal))) ⟨m', fun _ => 0, g'⟩ (fun r =>
          r.2.mem (((0 : Dev Cert.StackedModIdeal.nD).tc : Thread Cert.StackedModIdeal.nD Cert.StackedModIdeal.τ).loc Cert.StackedModIdeal.main_v0) = v0
          ∧ r.2.mem (((0 : Dev Cert.StackedModIdeal.nD).tc : Thread Cert.StackedModIdeal.nD Cert.StackedModIdeal.τ).loc Cert.StackedModIdeal.main_arg0) = m' (((0 : Dev Cert.StackedModIdeal.nD).tc : Thread Cert.StackedModIdeal.nD Cert.StackedModIdeal.τ).loc Cert.StackedModIdeal.main_arg0))

def bitexact_GatherMod_StackedMod [hGatherMod : Cert.GatherMod.Facts] [hStackedMod : Cert.StackedMod.Facts] : Prop :=
  ∀ (m : (ℓ : Loc Cert.GatherMod.nD Cert.GatherMod.τ Cert.GatherMod.sig) → Buf (Elt Bits) ℓ) (g : Dev Cert.GatherMod.nD → PrngReg)
    (m' : (ℓ : Loc Cert.StackedMod.nD Cert.StackedMod.τ Cert.StackedMod.sig) → Buf (Elt Bits) ℓ) (g' : Dev Cert.StackedMod.nD → PrngReg), Pre_GatherMod m →
    (∀ c : Dev Cert.GatherMod.nD,
      m ((c.tc : Thread Cert.GatherMod.nD Cert.GatherMod.τ).loc Cert.GatherMod.main_arg0) = Layout.block ⟨2, ![64, 768]⟩ ⟨2, ![512, 768]⟩ 0 8 c (m' (((0 : Dev Cert.StackedMod.nD).tc : Thread Cert.StackedMod.nD Cert.StackedMod.τ).loc Cert.StackedMod.main_arg0))) →
    ∃ (v0 : Buf (Elt Bits) (((0 : Dev Cert.StackedMod.nD).tc : Thread Cert.StackedMod.nD Cert.StackedMod.τ).loc Cert.StackedMod.main_v0)),
      θ_run (Cert.GatherMod.defs (F := Bits)) (onTc (τ := Cert.GatherMod.τ) (Cert.GatherMod.main (F := Bits))) ⟨m, fun _ => 0, g⟩ (fun r => ∀ c : Dev Cert.GatherMod.nD,
          r.2.mem ((c.tc : Thread Cert.GatherMod.nD Cert.GatherMod.τ).loc Cert.GatherMod.main_v1) = v0
          ∧ r.2.mem ((c.tc : Thread Cert.GatherMod.nD Cert.GatherMod.τ).loc Cert.GatherMod.main_arg0) = m ((c.tc : Thread Cert.GatherMod.nD Cert.GatherMod.τ).loc Cert.GatherMod.main_arg0))
      ∧ θ_run (Cert.StackedMod.defs (F := Bits)) (onTc (τ := Cert.StackedMod.τ) (Cert.StackedMod.main (F := Bits))) ⟨m', fun _ => 0, g'⟩ (fun r =>
          r.2.mem (((0 : Dev Cert.StackedMod.nD).tc : Thread Cert.StackedMod.nD Cert.StackedMod.τ).loc Cert.StackedMod.main_v0) = v0
          ∧ r.2.mem (((0 : Dev Cert.StackedMod.nD).tc : Thread Cert.StackedMod.nD Cert.StackedMod.τ).loc Cert.StackedMod.main_arg0) = m' (((0 : Dev Cert.StackedMod.nD).tc : Thread Cert.StackedMod.nD Cert.StackedMod.τ).loc Cert.StackedMod.main_arg0))

def preserves_GatherDmod_GatherDmodIdeal : Prop :=
  True

def algebraic_GatherDmodIdeal_StackedDmodIdeal [hGatherDmodIdeal : Cert.GatherDmodIdeal.Facts] [hStackedDmodIdeal : Cert.StackedDmodIdeal.Facts] : Prop :=
  ∀ (m : (ℓ : Loc Cert.GatherDmodIdeal.nD Cert.GatherDmodIdeal.τ Cert.GatherDmodIdeal.sig) → Buf (Elt Ideal) ℓ) (g : Dev Cert.GatherDmodIdeal.nD → PrngReg)
    (m' : (ℓ : Loc Cert.StackedDmodIdeal.nD Cert.StackedDmodIdeal.τ Cert.StackedDmodIdeal.sig) → Buf (Elt Ideal) ℓ) (g' : Dev Cert.StackedDmodIdeal.nD → PrngReg), Pre_GatherDmodIdeal m →
    (∀ c : Dev Cert.GatherDmodIdeal.nD,
      m ((c.tc : Thread Cert.GatherDmodIdeal.nD Cert.GatherDmodIdeal.τ).loc Cert.GatherDmodIdeal.main_arg0) = Layout.block ⟨2, ![8, 6144]⟩ ⟨2, ![64, 6144]⟩ 0 8 c (m' (((0 : Dev Cert.StackedDmodIdeal.nD).tc : Thread Cert.StackedDmodIdeal.nD Cert.StackedDmodIdeal.τ).loc Cert.StackedDmodIdeal.main_arg0))) →
    ∃ (v0 : Buf (Elt Ideal) (((0 : Dev Cert.StackedDmodIdeal.nD).tc : Thread Cert.StackedDmodIdeal.nD Cert.StackedDmodIdeal.τ).loc Cert.StackedDmodIdeal.main_v0)),
      θ_run (Cert.GatherDmodIdeal.defs (F := Ideal)) (onTc (τ := Cert.GatherDmodIdeal.τ) (Cert.GatherDmodIdeal.main (F := Ideal))) ⟨m, fun _ => 0, g⟩ (fun r => ∀ c : Dev Cert.GatherDmodIdeal.nD,
          r.2.mem ((c.tc : Thread Cert.GatherDmodIdeal.nD Cert.GatherDmodIdeal.τ).loc Cert.GatherDmodIdeal.main_v1) = v0
          ∧ r.2.mem ((c.tc : Thread Cert.GatherDmodIdeal.nD Cert.GatherDmodIdeal.τ).loc Cert.GatherDmodIdeal.main_arg0) = m ((c.tc : Thread Cert.GatherDmodIdeal.nD Cert.GatherDmodIdeal.τ).loc Cert.GatherDmodIdeal.main_arg0))
      ∧ θ_run (Cert.StackedDmodIdeal.defs (F := Ideal)) (onTc (τ := Cert.StackedDmodIdeal.τ) (Cert.StackedDmodIdeal.main (F := Ideal))) ⟨m', fun _ => 0, g'⟩ (fun r =>
          r.2.mem (((0 : Dev Cert.StackedDmodIdeal.nD).tc : Thread Cert.StackedDmodIdeal.nD Cert.StackedDmodIdeal.τ).loc Cert.StackedDmodIdeal.main_v0) = v0
          ∧ r.2.mem (((0 : Dev Cert.StackedDmodIdeal.nD).tc : Thread Cert.StackedDmodIdeal.nD Cert.StackedDmodIdeal.τ).loc Cert.StackedDmodIdeal.main_arg0) = m' (((0 : Dev Cert.StackedDmodIdeal.nD).tc : Thread Cert.StackedDmodIdeal.nD Cert.StackedDmodIdeal.τ).loc Cert.StackedDmodIdeal.main_arg0))

def bitexact_GatherDmod_StackedDmod [hGatherDmod : Cert.GatherDmod.Facts] [hStackedDmod : Cert.StackedDmod.Facts] : Prop :=
  ∀ (m : (ℓ : Loc Cert.GatherDmod.nD Cert.GatherDmod.τ Cert.GatherDmod.sig) → Buf (Elt Bits) ℓ) (g : Dev Cert.GatherDmod.nD → PrngReg)
    (m' : (ℓ : Loc Cert.StackedDmod.nD Cert.StackedDmod.τ Cert.StackedDmod.sig) → Buf (Elt Bits) ℓ) (g' : Dev Cert.StackedDmod.nD → PrngReg), Pre_GatherDmod m →
    (∀ c : Dev Cert.GatherDmod.nD,
      m ((c.tc : Thread Cert.GatherDmod.nD Cert.GatherDmod.τ).loc Cert.GatherDmod.main_arg0) = Layout.block ⟨2, ![8, 6144]⟩ ⟨2, ![64, 6144]⟩ 0 8 c (m' (((0 : Dev Cert.StackedDmod.nD).tc : Thread Cert.StackedDmod.nD Cert.StackedDmod.τ).loc Cert.StackedDmod.main_arg0))) →
    ∃ (v0 : Buf (Elt Bits) (((0 : Dev Cert.StackedDmod.nD).tc : Thread Cert.StackedDmod.nD Cert.StackedDmod.τ).loc Cert.StackedDmod.main_v0)),
      θ_run (Cert.GatherDmod.defs (F := Bits)) (onTc (τ := Cert.GatherDmod.τ) (Cert.GatherDmod.main (F := Bits))) ⟨m, fun _ => 0, g⟩ (fun r => ∀ c : Dev Cert.GatherDmod.nD,
          r.2.mem ((c.tc : Thread Cert.GatherDmod.nD Cert.GatherDmod.τ).loc Cert.GatherDmod.main_v1) = v0
          ∧ r.2.mem ((c.tc : Thread Cert.GatherDmod.nD Cert.GatherDmod.τ).loc Cert.GatherDmod.main_arg0) = m ((c.tc : Thread Cert.GatherDmod.nD Cert.GatherDmod.τ).loc Cert.GatherDmod.main_arg0))
      ∧ θ_run (Cert.StackedDmod.defs (F := Bits)) (onTc (τ := Cert.StackedDmod.τ) (Cert.StackedDmod.main (F := Bits))) ⟨m', fun _ => 0, g'⟩ (fun r =>
          r.2.mem (((0 : Dev Cert.StackedDmod.nD).tc : Thread Cert.StackedDmod.nD Cert.StackedDmod.τ).loc Cert.StackedDmod.main_v0) = v0
          ∧ r.2.mem (((0 : Dev Cert.StackedDmod.nD).tc : Thread Cert.StackedDmod.nD Cert.StackedDmod.τ).loc Cert.StackedDmod.main_arg0) = m' (((0 : Dev Cert.StackedDmod.nD).tc : Thread Cert.StackedDmod.nD Cert.StackedDmod.τ).loc Cert.StackedDmod.main_arg0))

def preserves_GatherGrads_GatherGradsIdeal : Prop :=
  True

def algebraic_GatherGradsIdeal_StackedGradsIdeal [hGatherGradsIdeal : Cert.GatherGradsIdeal.Facts] [hStackedGradsIdeal : Cert.StackedGradsIdeal.Facts] : Prop :=
  ∀ (m : (ℓ : Loc Cert.GatherGradsIdeal.nD Cert.GatherGradsIdeal.τ Cert.GatherGradsIdeal.sig) → Buf (Elt Ideal) ℓ) (g : Dev Cert.GatherGradsIdeal.nD → PrngReg)
    (m' : (ℓ : Loc Cert.StackedGradsIdeal.nD Cert.StackedGradsIdeal.τ Cert.StackedGradsIdeal.sig) → Buf (Elt Ideal) ℓ) (g' : Dev Cert.StackedGradsIdeal.nD → PrngReg), Pre_GatherGradsIdeal m →
    (∀ c : Dev Cert.GatherGradsIdeal.nD,
      m ((c.tc : Thread Cert.GatherGradsIdeal.nD Cert.GatherGradsIdeal.τ).loc Cert.GatherGradsIdeal.main_arg0) = Layout.block ⟨2, ![384, 128]⟩ ⟨2, ![3072, 128]⟩ 0 8 c (m' (((0 : Dev Cert.StackedGradsIdeal.nD).tc : Thread Cert.StackedGradsIdeal.nD Cert.StackedGradsIdeal.τ).loc Cert.StackedGradsIdeal.main_arg0))) →
    ∃ (v0 : Buf (Elt Ideal) (((0 : Dev Cert.StackedGradsIdeal.nD).tc : Thread Cert.StackedGradsIdeal.nD Cert.StackedGradsIdeal.τ).loc Cert.StackedGradsIdeal.main_v0)),
      θ_run (Cert.GatherGradsIdeal.defs (F := Ideal)) (onTc (τ := Cert.GatherGradsIdeal.τ) (Cert.GatherGradsIdeal.main (F := Ideal))) ⟨m, fun _ => 0, g⟩ (fun r => ∀ c : Dev Cert.GatherGradsIdeal.nD,
          r.2.mem ((c.tc : Thread Cert.GatherGradsIdeal.nD Cert.GatherGradsIdeal.τ).loc Cert.GatherGradsIdeal.main_v1) = v0
          ∧ r.2.mem ((c.tc : Thread Cert.GatherGradsIdeal.nD Cert.GatherGradsIdeal.τ).loc Cert.GatherGradsIdeal.main_arg0) = m ((c.tc : Thread Cert.GatherGradsIdeal.nD Cert.GatherGradsIdeal.τ).loc Cert.GatherGradsIdeal.main_arg0))
      ∧ θ_run (Cert.StackedGradsIdeal.defs (F := Ideal)) (onTc (τ := Cert.StackedGradsIdeal.τ) (Cert.StackedGradsIdeal.main (F := Ideal))) ⟨m', fun _ => 0, g'⟩ (fun r =>
          r.2.mem (((0 : Dev Cert.StackedGradsIdeal.nD).tc : Thread Cert.StackedGradsIdeal.nD Cert.StackedGradsIdeal.τ).loc Cert.StackedGradsIdeal.main_v0) = v0
          ∧ r.2.mem (((0 : Dev Cert.StackedGradsIdeal.nD).tc : Thread Cert.StackedGradsIdeal.nD Cert.StackedGradsIdeal.τ).loc Cert.StackedGradsIdeal.main_arg0) = m' (((0 : Dev Cert.StackedGradsIdeal.nD).tc : Thread Cert.StackedGradsIdeal.nD Cert.StackedGradsIdeal.τ).loc Cert.StackedGradsIdeal.main_arg0))

def bitexact_GatherGrads_StackedGrads [hGatherGrads : Cert.GatherGrads.Facts] [hStackedGrads : Cert.StackedGrads.Facts] : Prop :=
  ∀ (m : (ℓ : Loc Cert.GatherGrads.nD Cert.GatherGrads.τ Cert.GatherGrads.sig) → Buf (Elt Bits) ℓ) (g : Dev Cert.GatherGrads.nD → PrngReg)
    (m' : (ℓ : Loc Cert.StackedGrads.nD Cert.StackedGrads.τ Cert.StackedGrads.sig) → Buf (Elt Bits) ℓ) (g' : Dev Cert.StackedGrads.nD → PrngReg), Pre_GatherGrads m →
    (∀ c : Dev Cert.GatherGrads.nD,
      m ((c.tc : Thread Cert.GatherGrads.nD Cert.GatherGrads.τ).loc Cert.GatherGrads.main_arg0) = Layout.block ⟨2, ![384, 128]⟩ ⟨2, ![3072, 128]⟩ 0 8 c (m' (((0 : Dev Cert.StackedGrads.nD).tc : Thread Cert.StackedGrads.nD Cert.StackedGrads.τ).loc Cert.StackedGrads.main_arg0))) →
    ∃ (v0 : Buf (Elt Bits) (((0 : Dev Cert.StackedGrads.nD).tc : Thread Cert.StackedGrads.nD Cert.StackedGrads.τ).loc Cert.StackedGrads.main_v0)),
      θ_run (Cert.GatherGrads.defs (F := Bits)) (onTc (τ := Cert.GatherGrads.τ) (Cert.GatherGrads.main (F := Bits))) ⟨m, fun _ => 0, g⟩ (fun r => ∀ c : Dev Cert.GatherGrads.nD,
          r.2.mem ((c.tc : Thread Cert.GatherGrads.nD Cert.GatherGrads.τ).loc Cert.GatherGrads.main_v1) = v0
          ∧ r.2.mem ((c.tc : Thread Cert.GatherGrads.nD Cert.GatherGrads.τ).loc Cert.GatherGrads.main_arg0) = m ((c.tc : Thread Cert.GatherGrads.nD Cert.GatherGrads.τ).loc Cert.GatherGrads.main_arg0))
      ∧ θ_run (Cert.StackedGrads.defs (F := Bits)) (onTc (τ := Cert.StackedGrads.τ) (Cert.StackedGrads.main (F := Bits))) ⟨m', fun _ => 0, g'⟩ (fun r =>
          r.2.mem (((0 : Dev Cert.StackedGrads.nD).tc : Thread Cert.StackedGrads.nD Cert.StackedGrads.τ).loc Cert.StackedGrads.main_v0) = v0
          ∧ r.2.mem (((0 : Dev Cert.StackedGrads.nD).tc : Thread Cert.StackedGrads.nD Cert.StackedGrads.τ).loc Cert.StackedGrads.main_arg0) = m' (((0 : Dev Cert.StackedGrads.nD).tc : Thread Cert.StackedGrads.nD Cert.StackedGrads.τ).loc Cert.StackedGrads.main_arg0))

def preserves_AdamFfn_AdamFfnIdeal : Prop :=
  True

def algebraic_AdamFfnIdeal_StepFfnIdeal [hAdamFfnIdeal : Cert.AdamFfnIdeal.Facts] [hStepFfnIdeal : Cert.StepFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.StepFfnIdeal.nD Cert.StepFfnIdeal.τ Cert.StepFfnIdeal.sig) → Buf (Elt Ideal) ℓ) (g' : Dev Cert.StepFfnIdeal.nD → PrngReg), Pre_AdamFfnIdeal m →
    (∀ c : Dev Cert.AdamFfnIdeal.nD,
      m' ((c.tc : Thread Cert.StepFfnIdeal.nD Cert.StepFfnIdeal.τ).loc Cert.StepFfnIdeal.main_arg0) = m ((c.tc : Thread Cert.AdamFfnIdeal.nD Cert.AdamFfnIdeal.τ).loc Cert.AdamFfnIdeal.main_arg0)
      ∧ m' ((c.tc : Thread Cert.StepFfnIdeal.nD Cert.StepFfnIdeal.τ).loc Cert.StepFfnIdeal.main_arg1) = m ((c.tc : Thread Cert.AdamFfnIdeal.nD Cert.AdamFfnIdeal.τ).loc Cert.AdamFfnIdeal.main_arg1)
      ∧ m' ((c.tc : Thread Cert.StepFfnIdeal.nD Cert.StepFfnIdeal.τ).loc Cert.StepFfnIdeal.main_arg2) = m ((c.tc : Thread Cert.AdamFfnIdeal.nD Cert.AdamFfnIdeal.τ).loc Cert.AdamFfnIdeal.main_arg2)
      ∧ m' ((c.tc : Thread Cert.StepFfnIdeal.nD Cert.StepFfnIdeal.τ).loc Cert.StepFfnIdeal.main_arg3) = m ((c.tc : Thread Cert.AdamFfnIdeal.nD Cert.AdamFfnIdeal.τ).loc Cert.AdamFfnIdeal.main_arg3)
      ∧ m' ((c.tc : Thread Cert.StepFfnIdeal.nD Cert.StepFfnIdeal.τ).loc Cert.StepFfnIdeal.main_arg4) = m ((c.tc : Thread Cert.AdamFfnIdeal.nD Cert.AdamFfnIdeal.τ).loc Cert.AdamFfnIdeal.main_arg4)
      ∧ m' ((c.tc : Thread Cert.StepFfnIdeal.nD Cert.StepFfnIdeal.τ).loc Cert.StepFfnIdeal.main_arg5) = m ((c.tc : Thread Cert.AdamFfnIdeal.nD Cert.AdamFfnIdeal.τ).loc Cert.AdamFfnIdeal.main_arg5)
      ∧ m' ((c.tc : Thread Cert.StepFfnIdeal.nD Cert.StepFfnIdeal.τ).loc Cert.StepFfnIdeal.main_arg6) = m ((c.tc : Thread Cert.AdamFfnIdeal.nD Cert.AdamFfnIdeal.τ).loc Cert.AdamFfnIdeal.main_arg6)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4)
          ∧ r.2.mem ((c.tc : Thread Cert.AdamFfnIdeal.nD Cert.AdamFfnIdeal.τ).loc Cert.AdamFfnIdeal.main_arg5) = m ((c.tc : Thread Cert.AdamFfnIdeal.nD Cert.AdamFfnIdeal.τ).loc Cert.AdamFfnIdeal.main_arg5)
          ∧ r.2.mem ((c.tc : Thread Cert.AdamFfnIdeal.nD Cert.AdamFfnIdeal.τ).loc Cert.AdamFfnIdeal.main_arg6) = m ((c.tc : Thread Cert.AdamFfnIdeal.nD Cert.AdamFfnIdeal.τ).loc Cert.AdamFfnIdeal.main_arg6))
      ∧ θ_run (Cert.StepFfnIdeal.defs (F := Ideal)) (onTc (τ := Cert.StepFfnIdeal.τ) (Cert.StepFfnIdeal.main (F := Ideal))) ⟨m', fun _ => 0, g'⟩ (fun r => ∀ c : Dev Cert.StepFfnIdeal.nD,
          r.2.mem ((c.tc : Thread Cert.StepFfnIdeal.nD Cert.StepFfnIdeal.τ).loc Cert.StepFfnIdeal.main_v7) = v0 c
          ∧ r.2.mem ((c.tc : Thread Cert.StepFfnIdeal.nD Cert.StepFfnIdeal.τ).loc Cert.StepFfnIdeal.main_v31) = v1 c
          ∧ r.2.mem ((c.tc : Thread Cert.StepFfnIdeal.nD Cert.StepFfnIdeal.τ).loc Cert.StepFfnIdeal.main_v12) = v2 c
          ∧ r.2.mem ((c.tc : Thread Cert.StepFfnIdeal.nD Cert.StepFfnIdeal.τ).loc Cert.StepFfnIdeal.main_v18) = v3 c
          ∧ r.2.mem ((c.tc : Thread Cert.StepFfnIdeal.nD Cert.StepFfnIdeal.τ).loc Cert.StepFfnIdeal.main_arg0) = m' ((c.tc : Thread Cert.StepFfnIdeal.nD Cert.StepFfnIdeal.τ).loc Cert.StepFfnIdeal.main_arg0)
          ∧ r.2.mem ((c.tc : Thread Cert.StepFfnIdeal.nD Cert.StepFfnIdeal.τ).loc Cert.StepFfnIdeal.main_arg1) = m' ((c.tc : Thread Cert.StepFfnIdeal.nD Cert.StepFfnIdeal.τ).loc Cert.StepFfnIdeal.main_arg1)
          ∧ r.2.mem ((c.tc : Thread Cert.StepFfnIdeal.nD Cert.StepFfnIdeal.τ).loc Cert.StepFfnIdeal.main_arg2) = m' ((c.tc : Thread Cert.StepFfnIdeal.nD Cert.StepFfnIdeal.τ).loc Cert.StepFfnIdeal.main_arg2)
          ∧ r.2.mem ((c.tc : Thread Cert.StepFfnIdeal.nD Cert.StepFfnIdeal.τ).loc Cert.StepFfnIdeal.main_arg3) = m' ((c.tc : Thread Cert.StepFfnIdeal.nD Cert.StepFfnIdeal.τ).loc Cert.StepFfnIdeal.main_arg3)
          ∧ r.2.mem ((c.tc : Thread Cert.StepFfnIdeal.nD Cert.StepFfnIdeal.τ).loc Cert.StepFfnIdeal.main_arg4) = m' ((c.tc : Thread Cert.StepFfnIdeal.nD Cert.StepFfnIdeal.τ).loc Cert.StepFfnIdeal.main_arg4)
          ∧ r.2.mem ((c.tc : Thread Cert.StepFfnIdeal.nD Cert.StepFfnIdeal.τ).loc Cert.StepFfnIdeal.main_arg5) = m' ((c.tc : Thread Cert.StepFfnIdeal.nD Cert.StepFfnIdeal.τ).loc Cert.StepFfnIdeal.main_arg5)
          ∧ r.2.mem ((c.tc : Thread Cert.StepFfnIdeal.nD Cert.StepFfnIdeal.τ).loc Cert.StepFfnIdeal.main_arg6) = m' ((c.tc : Thread Cert.StepFfnIdeal.nD Cert.StepFfnIdeal.τ).loc Cert.StepFfnIdeal.main_arg6))

def preserves_AdamOut_AdamOutIdeal : Prop :=
  True

def algebraic_AdamOutIdeal_StepOutIdeal [hAdamOutIdeal : Cert.AdamOutIdeal.Facts] [hStepOutIdeal : Cert.StepOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.StepOutIdeal.nD Cert.StepOutIdeal.τ Cert.StepOutIdeal.sig) → Buf (Elt Ideal) ℓ) (g' : Dev Cert.StepOutIdeal.nD → PrngReg), Pre_AdamOutIdeal m →
    (∀ c : Dev Cert.AdamOutIdeal.nD,
      m' ((c.tc : Thread Cert.StepOutIdeal.nD Cert.StepOutIdeal.τ).loc Cert.StepOutIdeal.main_arg0) = m ((c.tc : Thread Cert.AdamOutIdeal.nD Cert.AdamOutIdeal.τ).loc Cert.AdamOutIdeal.main_arg0)
      ∧ m' ((c.tc : Thread Cert.StepOutIdeal.nD Cert.StepOutIdeal.τ).loc Cert.StepOutIdeal.main_arg1) = m ((c.tc : Thread Cert.AdamOutIdeal.nD Cert.AdamOutIdeal.τ).loc Cert.AdamOutIdeal.main_arg1)
      ∧ m' ((c.tc : Thread Cert.StepOutIdeal.nD Cert.StepOutIdeal.τ).loc Cert.StepOutIdeal.main_arg2) = m ((c.tc : Thread Cert.AdamOutIdeal.nD Cert.AdamOutIdeal.τ).loc Cert.AdamOutIdeal.main_arg2)
      ∧ m' ((c.tc : Thread Cert.StepOutIdeal.nD Cert.StepOutIdeal.τ).loc Cert.StepOutIdeal.main_arg3) = m ((c.tc : Thread Cert.AdamOutIdeal.nD Cert.AdamOutIdeal.τ).loc Cert.AdamOutIdeal.main_arg3)
      ∧ m' ((c.tc : Thread Cert.StepOutIdeal.nD Cert.StepOutIdeal.τ).loc Cert.StepOutIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.StepOutIdeal.defs (F := Ideal)) (onTc (τ := Cert.StepOutIdeal.τ) (Cert.StepOutIdeal.main (F := Ideal))) ⟨m', fun _ => 0, g'⟩ (fun r => ∀ c : Dev Cert.StepOutIdeal.nD,
          r.2.mem ((c.tc : Thread Cert.StepOutIdeal.nD Cert.StepOutIdeal.τ).loc Cert.StepOutIdeal.main_v4) = v0 c
          ∧ r.2.mem ((c.tc : Thread Cert.StepOutIdeal.nD Cert.StepOutIdeal.τ).loc Cert.StepOutIdeal.main_v28) = v1 c
          ∧ r.2.mem ((c.tc : Thread Cert.StepOutIdeal.nD Cert.StepOutIdeal.τ).loc Cert.StepOutIdeal.main_v9) = v2 c
          ∧ r.2.mem ((c.tc : Thread Cert.StepOutIdeal.nD Cert.StepOutIdeal.τ).loc Cert.StepOutIdeal.main_v15) = v3 c
          ∧ r.2.mem ((c.tc : Thread Cert.StepOutIdeal.nD Cert.StepOutIdeal.τ).loc Cert.StepOutIdeal.main_arg0) = m' ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m' ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m' ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m' ((c.tc : Thread Cert.StepOutIdeal.nD Cert.StepOutIdeal.τ).loc Cert.StepOutIdeal.main_arg3)
          ∧ r.2.mem ((c.tc : Thread Cert.StepOutIdeal.nD Cert.StepOutIdeal.τ).loc Cert.StepOutIdeal.main_arg4) = m' ((c.tc : Thread Cert.StepOutIdeal.nD Cert.StepOutIdeal.τ).loc Cert.StepOutIdeal.main_arg4))

def preserves_AdamEven_AdamEvenIdeal : Prop :=
  True

def algebraic_AdamEvenIdeal_StepEvenIdeal [hAdamEvenIdeal : Cert.AdamEvenIdeal.Facts] [hStepEvenIdeal : Cert.StepEvenIdeal.Facts] : Prop :=
  ∀ (m : (ℓ : Loc Cert.AdamEvenIdeal.nD Cert.AdamEvenIdeal.τ Cert.AdamEvenIdeal.sig) → Buf (Elt Ideal) ℓ) (g : Dev Cert.AdamEvenIdeal.nD → PrngReg)
    (m' : (ℓ : Loc Cert.StepEvenIdeal.nD Cert.StepEvenIdeal.τ Cert.StepEvenIdeal.sig) → Buf (Elt Ideal) ℓ) (g' : Dev Cert.StepEvenIdeal.nD → PrngReg), Pre_AdamEvenIdeal m →
    (∀ c : Dev Cert.AdamEvenIdeal.nD,
      m' ((c.tc : Thread Cert.StepEvenIdeal.nD Cert.StepEvenIdeal.τ).loc Cert.StepEvenIdeal.main_arg0) = m ((c.tc : Thread Cert.AdamEvenIdeal.nD Cert.AdamEvenIdeal.τ).loc Cert.AdamEvenIdeal.main_arg0)
      ∧ m' ((c.tc : Thread Cert.StepEvenIdeal.nD Cert.StepEvenIdeal.τ).loc Cert.StepEvenIdeal.main_arg1) = m ((c.tc : Thread Cert.AdamEvenIdeal.nD Cert.AdamEvenIdeal.τ).loc Cert.AdamEvenIdeal.main_arg1)
      ∧ m' ((c.tc : Thread Cert.StepEvenIdeal.nD Cert.StepEvenIdeal.τ).loc Cert.StepEvenIdeal.main_arg2) = m ((c.tc : Thread Cert.AdamEvenIdeal.nD Cert.AdamEvenIdeal.τ).loc Cert.AdamEvenIdeal.main_arg2)
      ∧ m' ((c.tc : Thread Cert.StepEvenIdeal.nD Cert.StepEvenIdeal.τ).loc Cert.StepEvenIdeal.main_arg3) = m ((c.tc : Thread Cert.AdamEvenIdeal.nD Cert.AdamEvenIdeal.τ).loc Cert.AdamEvenIdeal.main_arg3)
      ∧ m' ((c.tc : Thread Cert.StepEvenIdeal.nD Cert.StepEvenIdeal.τ).loc Cert.StepEvenIdeal.main_arg4) = m ((c.tc : Thread Cert.AdamEvenIdeal.nD Cert.AdamEvenIdeal.τ).loc Cert.AdamEvenIdeal.main_arg4)) →
    ∃ (v0 : (c : Dev Cert.AdamEvenIdeal.nD) → Buf (Elt Ideal) ((c.tc : Thread Cert.AdamEvenIdeal.nD Cert.AdamEvenIdeal.τ).loc Cert.AdamEvenIdeal.main_v0_0)) (v1 : (c : Dev Cert.AdamEvenIdeal.nD) → Buf (Elt Ideal) ((c.tc : Thread Cert.AdamEvenIdeal.nD Cert.AdamEvenIdeal.τ).loc Cert.AdamEvenIdeal.main_v0_1)) (v2 : (c : Dev Cert.AdamEvenIdeal.nD) → Buf (Elt Ideal) ((c.tc : Thread Cert.AdamEvenIdeal.nD Cert.AdamEvenIdeal.τ).loc Cert.AdamEvenIdeal.main_v0_2)) (v3 : (c : Dev Cert.AdamEvenIdeal.nD) → Buf (Elt Ideal) ((c.tc : Thread Cert.AdamEvenIdeal.nD Cert.AdamEvenIdeal.τ).loc Cert.AdamEvenIdeal.main_v0_3)),
      θ_run (Cert.AdamEvenIdeal.defs (F := Ideal)) (onTc (τ := Cert.AdamEvenIdeal.τ) (Cert.AdamEvenIdeal.main (F := Ideal))) ⟨m, fun _ => 0, g⟩ (fun r => ∀ c : Dev Cert.AdamEvenIdeal.nD,
          r.2.mem ((c.tc : Thread Cert.AdamEvenIdeal.nD Cert.AdamEvenIdeal.τ).loc Cert.AdamEvenIdeal.main_v0_0) = v0 c
          ∧ r.2.mem ((c.tc : Thread Cert.AdamEvenIdeal.nD Cert.AdamEvenIdeal.τ).loc Cert.AdamEvenIdeal.main_v0_1) = v1 c
          ∧ r.2.mem ((c.tc : Thread Cert.AdamEvenIdeal.nD Cert.AdamEvenIdeal.τ).loc Cert.AdamEvenIdeal.main_v0_2) = v2 c
          ∧ r.2.mem ((c.tc : Thread Cert.AdamEvenIdeal.nD Cert.AdamEvenIdeal.τ).loc Cert.AdamEvenIdeal.main_v0_3) = v3 c
          ∧ r.2.mem ((c.tc : Thread Cert.AdamEvenIdeal.nD Cert.AdamEvenIdeal.τ).loc Cert.AdamEvenIdeal.main_arg0) = m ((c.tc : Thread Cert.AdamEvenIdeal.nD Cert.AdamEvenIdeal.τ).loc Cert.AdamEvenIdeal.main_arg0)
          ∧ r.2.mem ((c.tc : Thread Cert.AdamEvenIdeal.nD Cert.AdamEvenIdeal.τ).loc Cert.AdamEvenIdeal.main_arg1) = m ((c.tc : Thread Cert.AdamEvenIdeal.nD Cert.AdamEvenIdeal.τ).loc Cert.AdamEvenIdeal.main_arg1)
          ∧ r.2.mem ((c.tc : Thread Cert.AdamEvenIdeal.nD Cert.AdamEvenIdeal.τ).loc Cert.AdamEvenIdeal.main_arg2) = m ((c.tc : Thread Cert.AdamEvenIdeal.nD Cert.AdamEvenIdeal.τ).loc Cert.AdamEvenIdeal.main_arg2)
          ∧ r.2.mem ((c.tc : Thread Cert.AdamEvenIdeal.nD Cert.AdamEvenIdeal.τ).loc Cert.AdamEvenIdeal.main_arg3) = m ((c.tc : Thread Cert.AdamEvenIdeal.nD Cert.AdamEvenIdeal.τ).loc Cert.AdamEvenIdeal.main_arg3)
          ∧ r.2.mem ((c.tc : Thread Cert.AdamEvenIdeal.nD Cert.AdamEvenIdeal.τ).loc Cert.AdamEvenIdeal.main_arg4) = m ((c.tc : Thread Cert.AdamEvenIdeal.nD Cert.AdamEvenIdeal.τ).loc Cert.AdamEvenIdeal.main_arg4))
      ∧ θ_run (Cert.StepEvenIdeal.defs (F := Ideal)) (onTc (τ := Cert.StepEvenIdeal.τ) (Cert.StepEvenIdeal.main (F := Ideal))) ⟨m', fun _ => 0, g'⟩ (fun r => ∀ c : Dev Cert.StepEvenIdeal.nD,
          r.2.mem ((c.tc : Thread Cert.StepEvenIdeal.nD Cert.StepEvenIdeal.τ).loc Cert.StepEvenIdeal.main_v4) = v0 c
          ∧ r.2.mem ((c.tc : Thread Cert.StepEvenIdeal.nD Cert.StepEvenIdeal.τ).loc Cert.StepEvenIdeal.main_v28) = v1 c
          ∧ r.2.mem ((c.tc : Thread Cert.StepEvenIdeal.nD Cert.StepEvenIdeal.τ).loc Cert.StepEvenIdeal.main_v9) = v2 c
          ∧ r.2.mem ((c.tc : Thread Cert.StepEvenIdeal.nD Cert.StepEvenIdeal.τ).loc Cert.StepEvenIdeal.main_v15) = v3 c
          ∧ r.2.mem ((c.tc : Thread Cert.StepEvenIdeal.nD Cert.StepEvenIdeal.τ).loc Cert.StepEvenIdeal.main_arg0) = m' ((c.tc : Thread Cert.StepEvenIdeal.nD Cert.StepEvenIdeal.τ).loc Cert.StepEvenIdeal.main_arg0)
          ∧ r.2.mem ((c.tc : Thread Cert.StepEvenIdeal.nD Cert.StepEvenIdeal.τ).loc Cert.StepEvenIdeal.main_arg1) = m' ((c.tc : Thread Cert.StepEvenIdeal.nD Cert.StepEvenIdeal.τ).loc Cert.StepEvenIdeal.main_arg1)
          ∧ r.2.mem ((c.tc : Thread Cert.StepEvenIdeal.nD Cert.StepEvenIdeal.τ).loc Cert.StepEvenIdeal.main_arg2) = m' ((c.tc : Thread Cert.StepEvenIdeal.nD Cert.StepEvenIdeal.τ).loc Cert.StepEvenIdeal.main_arg2)
          ∧ r.2.mem ((c.tc : Thread Cert.StepEvenIdeal.nD Cert.StepEvenIdeal.τ).loc Cert.StepEvenIdeal.main_arg3) = m' ((c.tc : Thread Cert.StepEvenIdeal.nD Cert.StepEvenIdeal.τ).loc Cert.StepEvenIdeal.main_arg3)
          ∧ r.2.mem ((c.tc : Thread Cert.StepEvenIdeal.nD Cert.StepEvenIdeal.τ).loc Cert.StepEvenIdeal.main_arg4) = m' ((c.tc : Thread Cert.StepEvenIdeal.nD Cert.StepEvenIdeal.τ).loc Cert.StepEvenIdeal.main_arg4))

def preserves_AdamOdd_AdamOddIdeal : Prop :=
  True

def algebraic_AdamOddIdeal_StepOddIdeal [hAdamOddIdeal : Cert.AdamOddIdeal.Facts] [hStepOddIdeal : Cert.StepOddIdeal.Facts] : Prop :=
  ∀ (m : (ℓ : Loc Cert.AdamOddIdeal.nD Cert.AdamOddIdeal.τ Cert.AdamOddIdeal.sig) → Buf (Elt Ideal) ℓ) (g : Dev Cert.AdamOddIdeal.nD → PrngReg)
    (m' : (ℓ : Loc Cert.StepOddIdeal.nD Cert.StepOddIdeal.τ Cert.StepOddIdeal.sig) → Buf (Elt Ideal) ℓ) (g' : Dev Cert.StepOddIdeal.nD → PrngReg), Pre_AdamOddIdeal m →
    (∀ c : Dev Cert.AdamOddIdeal.nD,
      m' ((c.tc : Thread Cert.StepOddIdeal.nD Cert.StepOddIdeal.τ).loc Cert.StepOddIdeal.main_arg0) = m ((c.tc : Thread Cert.AdamOddIdeal.nD Cert.AdamOddIdeal.τ).loc Cert.AdamOddIdeal.main_arg0)
      ∧ m' ((c.tc : Thread Cert.StepOddIdeal.nD Cert.StepOddIdeal.τ).loc Cert.StepOddIdeal.main_arg1) = m ((c.tc : Thread Cert.AdamOddIdeal.nD Cert.AdamOddIdeal.τ).loc Cert.AdamOddIdeal.main_arg1)
      ∧ m' ((c.tc : Thread Cert.StepOddIdeal.nD Cert.StepOddIdeal.τ).loc Cert.StepOddIdeal.main_arg2) = m ((c.tc : Thread Cert.AdamOddIdeal.nD Cert.AdamOddIdeal.τ).loc Cert.AdamOddIdeal.main_arg2)
      ∧ m' ((c.tc : Thread Cert.StepOddIdeal.nD Cert.StepOddIdeal.τ).loc Cert.StepOddIdeal.main_arg3) = m ((c.tc : Thread Cert.AdamOddIdeal.nD Cert.AdamOddIdeal.τ).loc Cert.AdamOddIdeal.main_arg3)
      ∧ m' ((c.tc : Thread Cert.StepOddIdeal.nD Cert.StepOddIdeal.τ).loc Cert.StepOddIdeal.main_arg4) = m ((c.tc : Thread Cert.AdamOddIdeal.nD Cert.AdamOddIdeal.τ).loc Cert.AdamOddIdeal.main_arg4)) →
    ∃ (v0 : (c : Dev Cert.AdamOddIdeal.nD) → Buf (Elt Ideal) ((c.tc : Thread Cert.AdamOddIdeal.nD Cert.AdamOddIdeal.τ).loc Cert.AdamOddIdeal.main_v0_0)) (v1 : (c : Dev Cert.AdamOddIdeal.nD) → Buf (Elt Ideal) ((c.tc : Thread Cert.AdamOddIdeal.nD Cert.AdamOddIdeal.τ).loc Cert.AdamOddIdeal.main_v0_1)) (v2 : (c : Dev Cert.AdamOddIdeal.nD) → Buf (Elt Ideal) ((c.tc : Thread Cert.AdamOddIdeal.nD Cert.AdamOddIdeal.τ).loc Cert.AdamOddIdeal.main_v0_2)) (v3 : (c : Dev Cert.AdamOddIdeal.nD) → Buf (Elt Ideal) ((c.tc : Thread Cert.AdamOddIdeal.nD Cert.AdamOddIdeal.τ).loc Cert.AdamOddIdeal.main_v0_3)),
      θ_run (Cert.AdamOddIdeal.defs (F := Ideal)) (onTc (τ := Cert.AdamOddIdeal.τ) (Cert.AdamOddIdeal.main (F := Ideal))) ⟨m, fun _ => 0, g⟩ (fun r => ∀ c : Dev Cert.AdamOddIdeal.nD,
          r.2.mem ((c.tc : Thread Cert.AdamOddIdeal.nD Cert.AdamOddIdeal.τ).loc Cert.AdamOddIdeal.main_v0_0) = v0 c
          ∧ r.2.mem ((c.tc : Thread Cert.AdamOddIdeal.nD Cert.AdamOddIdeal.τ).loc Cert.AdamOddIdeal.main_v0_1) = v1 c
          ∧ r.2.mem ((c.tc : Thread Cert.AdamOddIdeal.nD Cert.AdamOddIdeal.τ).loc Cert.AdamOddIdeal.main_v0_2) = v2 c
          ∧ r.2.mem ((c.tc : Thread Cert.AdamOddIdeal.nD Cert.AdamOddIdeal.τ).loc Cert.AdamOddIdeal.main_v0_3) = v3 c
          ∧ r.2.mem ((c.tc : Thread Cert.AdamOddIdeal.nD Cert.AdamOddIdeal.τ).loc Cert.AdamOddIdeal.main_arg0) = m ((c.tc : Thread Cert.AdamOddIdeal.nD Cert.AdamOddIdeal.τ).loc Cert.AdamOddIdeal.main_arg0)
          ∧ r.2.mem ((c.tc : Thread Cert.AdamOddIdeal.nD Cert.AdamOddIdeal.τ).loc Cert.AdamOddIdeal.main_arg1) = m ((c.tc : Thread Cert.AdamOddIdeal.nD Cert.AdamOddIdeal.τ).loc Cert.AdamOddIdeal.main_arg1)
          ∧ r.2.mem ((c.tc : Thread Cert.AdamOddIdeal.nD Cert.AdamOddIdeal.τ).loc Cert.AdamOddIdeal.main_arg2) = m ((c.tc : Thread Cert.AdamOddIdeal.nD Cert.AdamOddIdeal.τ).loc Cert.AdamOddIdeal.main_arg2)
          ∧ r.2.mem ((c.tc : Thread Cert.AdamOddIdeal.nD Cert.AdamOddIdeal.τ).loc Cert.AdamOddIdeal.main_arg3) = m ((c.tc : Thread Cert.AdamOddIdeal.nD Cert.AdamOddIdeal.τ).loc Cert.AdamOddIdeal.main_arg3)
          ∧ r.2.mem ((c.tc : Thread Cert.AdamOddIdeal.nD Cert.AdamOddIdeal.τ).loc Cert.AdamOddIdeal.main_arg4) = m ((c.tc : Thread Cert.AdamOddIdeal.nD Cert.AdamOddIdeal.τ).loc Cert.AdamOddIdeal.main_arg4))
      ∧ θ_run (Cert.StepOddIdeal.defs (F := Ideal)) (onTc (τ := Cert.StepOddIdeal.τ) (Cert.StepOddIdeal.main (F := Ideal))) ⟨m', fun _ => 0, g'⟩ (fun r => ∀ c : Dev Cert.StepOddIdeal.nD,
          r.2.mem ((c.tc : Thread Cert.StepOddIdeal.nD Cert.StepOddIdeal.τ).loc Cert.StepOddIdeal.main_v4) = v0 c
          ∧ r.2.mem ((c.tc : Thread Cert.StepOddIdeal.nD Cert.StepOddIdeal.τ).loc Cert.StepOddIdeal.main_v28) = v1 c
          ∧ r.2.mem ((c.tc : Thread Cert.StepOddIdeal.nD Cert.StepOddIdeal.τ).loc Cert.StepOddIdeal.main_v9) = v2 c
          ∧ r.2.mem ((c.tc : Thread Cert.StepOddIdeal.nD Cert.StepOddIdeal.τ).loc Cert.StepOddIdeal.main_v15) = v3 c
          ∧ r.2.mem ((c.tc : Thread Cert.StepOddIdeal.nD Cert.StepOddIdeal.τ).loc Cert.StepOddIdeal.main_arg0) = m' ((c.tc : Thread Cert.StepOddIdeal.nD Cert.StepOddIdeal.τ).loc Cert.StepOddIdeal.main_arg0)
          ∧ r.2.mem ((c.tc : Thread Cert.StepOddIdeal.nD Cert.StepOddIdeal.τ).loc Cert.StepOddIdeal.main_arg1) = m' ((c.tc : Thread Cert.StepOddIdeal.nD Cert.StepOddIdeal.τ).loc Cert.StepOddIdeal.main_arg1)
          ∧ r.2.mem ((c.tc : Thread Cert.StepOddIdeal.nD Cert.StepOddIdeal.τ).loc Cert.StepOddIdeal.main_arg2) = m' ((c.tc : Thread Cert.StepOddIdeal.nD Cert.StepOddIdeal.τ).loc Cert.StepOddIdeal.main_arg2)
          ∧ r.2.mem ((c.tc : Thread Cert.StepOddIdeal.nD Cert.StepOddIdeal.τ).loc Cert.StepOddIdeal.main_arg3) = m' ((c.tc : Thread Cert.StepOddIdeal.nD Cert.StepOddIdeal.τ).loc Cert.StepOddIdeal.main_arg3)
          ∧ r.2.mem ((c.tc : Thread Cert.StepOddIdeal.nD Cert.StepOddIdeal.τ).loc Cert.StepOddIdeal.main_arg4) = m' ((c.tc : Thread Cert.StepOddIdeal.nD Cert.StepOddIdeal.τ).loc Cert.StepOddIdeal.main_arg4))

def preserves_AdamAda_AdamAdaIdeal : Prop :=
  True

def algebraic_AdamAdaIdeal_StepAdaIdeal [hAdamAdaIdeal : Cert.AdamAdaIdeal.Facts] [hStepAdaIdeal : Cert.StepAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.StepAdaIdeal.nD Cert.StepAdaIdeal.τ Cert.StepAdaIdeal.sig) → Buf (Elt Ideal) ℓ) (g' : Dev Cert.StepAdaIdeal.nD → PrngReg), Pre_AdamAdaIdeal m →
    (∀ c : Dev Cert.AdamAdaIdeal.nD,
      m' ((c.tc : Thread Cert.StepAdaIdeal.nD Cert.StepAdaIdeal.τ).loc Cert.StepAdaIdeal.main_arg0) = m ((c.tc : Thread Cert.AdamAdaIdeal.nD Cert.AdamAdaIdeal.τ).loc Cert.AdamAdaIdeal.main_arg0)
      ∧ m' ((c.tc : Thread Cert.StepAdaIdeal.nD Cert.StepAdaIdeal.τ).loc Cert.StepAdaIdeal.main_arg1) = m ((c.tc : Thread Cert.AdamAdaIdeal.nD Cert.AdamAdaIdeal.τ).loc Cert.AdamAdaIdeal.main_arg1)
      ∧ m' ((c.tc : Thread Cert.StepAdaIdeal.nD Cert.StepAdaIdeal.τ).loc Cert.StepAdaIdeal.main_arg2) = m ((c.tc : Thread Cert.AdamAdaIdeal.nD Cert.AdamAdaIdeal.τ).loc Cert.AdamAdaIdeal.main_arg2)
      ∧ m' ((c.tc : Thread Cert.StepAdaIdeal.nD Cert.StepAdaIdeal.τ).loc Cert.StepAdaIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.StepAdaIdeal.defs (F := Ideal)) (onTc (τ := Cert.StepAdaIdeal.τ) (Cert.StepAdaIdeal.main (F := Ideal))) ⟨m', fun _ => 0, g'⟩ (fun r => ∀ c : Dev Cert.StepAdaIdeal.nD,
          r.2.mem ((c.tc : Thread Cert.StepAdaIdeal.nD Cert.StepAdaIdeal.τ).loc Cert.StepAdaIdeal.main_arg1) = v0 c
          ∧ r.2.mem ((c.tc : Thread Cert.StepAdaIdeal.nD Cert.StepAdaIdeal.τ).loc Cert.StepAdaIdeal.main_v23) = v1 c
          ∧ r.2.mem ((c.tc : Thread Cert.StepAdaIdeal.nD Cert.StepAdaIdeal.τ).loc Cert.StepAdaIdeal.main_v4) = v2 c
          ∧ r.2.mem ((c.tc : Thread Cert.StepAdaIdeal.nD Cert.StepAdaIdeal.τ).loc Cert.StepAdaIdeal.main_v10) = v3 c
          ∧ r.2.mem ((c.tc : Thread Cert.StepAdaIdeal.nD Cert.StepAdaIdeal.τ).loc Cert.StepAdaIdeal.main_arg0) = m' ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m' ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m' ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m' ((c.tc : Thread Cert.StepAdaIdeal.nD Cert.StepAdaIdeal.τ).loc Cert.StepAdaIdeal.main_arg3))

def preserves_AdamSmall_AdamSmallIdeal : Prop :=
  True

def algebraic_AdamSmallIdeal_StepSmallIdeal [hAdamSmallIdeal : Cert.AdamSmallIdeal.Facts] [hStepSmallIdeal : Cert.StepSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.StepSmallIdeal.nD Cert.StepSmallIdeal.τ Cert.StepSmallIdeal.sig) → Buf (Elt Ideal) ℓ) (g' : Dev Cert.StepSmallIdeal.nD → PrngReg), Pre_AdamSmallIdeal m →
    (∀ c : Dev Cert.AdamSmallIdeal.nD,
      m' ((c.tc : Thread Cert.StepSmallIdeal.nD Cert.StepSmallIdeal.τ).loc Cert.StepSmallIdeal.main_arg0) = m ((c.tc : Thread Cert.AdamSmallIdeal.nD Cert.AdamSmallIdeal.τ).loc Cert.AdamSmallIdeal.main_arg0)
      ∧ m' ((c.tc : Thread Cert.StepSmallIdeal.nD Cert.StepSmallIdeal.τ).loc Cert.StepSmallIdeal.main_arg1) = m ((c.tc : Thread Cert.AdamSmallIdeal.nD Cert.AdamSmallIdeal.τ).loc Cert.AdamSmallIdeal.main_arg1)
      ∧ m' ((c.tc : Thread Cert.StepSmallIdeal.nD Cert.StepSmallIdeal.τ).loc Cert.StepSmallIdeal.main_arg2) = m ((c.tc : Thread Cert.AdamSmallIdeal.nD Cert.AdamSmallIdeal.τ).loc Cert.AdamSmallIdeal.main_arg2)
      ∧ m' ((c.tc : Thread Cert.StepSmallIdeal.nD Cert.StepSmallIdeal.τ).loc Cert.StepSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.StepSmallIdeal.defs (F := Ideal)) (onTc (τ := Cert.StepSmallIdeal.τ) (Cert.StepSmallIdeal.main (F := Ideal))) ⟨m', fun _ => 0, g'⟩ (fun r => ∀ c : Dev Cert.StepSmallIdeal.nD,
          r.2.mem ((c.tc : Thread Cert.StepSmallIdeal.nD Cert.StepSmallIdeal.τ).loc Cert.StepSmallIdeal.main_arg1) = v0 c
          ∧ r.2.mem ((c.tc : Thread Cert.StepSmallIdeal.nD Cert.StepSmallIdeal.τ).loc Cert.StepSmallIdeal.main_v23) = v1 c
          ∧ r.2.mem ((c.tc : Thread Cert.StepSmallIdeal.nD Cert.StepSmallIdeal.τ).loc Cert.StepSmallIdeal.main_v4) = v2 c
          ∧ r.2.mem ((c.tc : Thread Cert.StepSmallIdeal.nD Cert.StepSmallIdeal.τ).loc Cert.StepSmallIdeal.main_v10) = v3 c
          ∧ r.2.mem ((c.tc : Thread Cert.StepSmallIdeal.nD Cert.StepSmallIdeal.τ).loc Cert.StepSmallIdeal.main_arg0) = m' ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m' ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m' ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m' ((c.tc : Thread Cert.StepSmallIdeal.nD Cert.StepSmallIdeal.τ).loc Cert.StepSmallIdeal.main_arg3))

def preserves_BiasGrads_BiasGradsIdeal : Prop :=
  True

def algebraic_BiasGradsIdeal_BiasTotalIdeal [hBiasGradsIdeal : Cert.BiasGradsIdeal.Facts] [hBiasTotalIdeal : Cert.BiasTotalIdeal.Facts] : Prop :=
  ∀ (m : (ℓ : Loc Cert.BiasGradsIdeal.nD Cert.BiasGradsIdeal.τ Cert.BiasGradsIdeal.sig) → Buf (Elt Ideal) ℓ) (g : Dev Cert.BiasGradsIdeal.nD → PrngReg)
    (m' : (ℓ : Loc Cert.BiasTotalIdeal.nD Cert.BiasTotalIdeal.τ Cert.BiasTotalIdeal.sig) → Buf (Elt Ideal) ℓ) (g' : Dev Cert.BiasTotalIdeal.nD → PrngReg), Pre_BiasGradsIdeal m →
    (∀ c : Dev Cert.BiasGradsIdeal.nD,
      m' ((c.tc : Thread Cert.BiasTotalIdeal.nD Cert.BiasTotalIdeal.τ).loc Cert.BiasTotalIdeal.main_arg0) = m ((c.tc : Thread Cert.BiasGradsIdeal.nD Cert.BiasGradsIdeal.τ).loc Cert.BiasGradsIdeal.main_arg0)) →
    ∃ (v0 : (c : Dev Cert.BiasGradsIdeal.nD) → Buf (Elt Ideal) ((c.tc : Thread Cert.BiasGradsIdeal.nD Cert.BiasGradsIdeal.τ).loc Cert.BiasGradsIdeal.main_v6)),
      θ_run (Cert.BiasGradsIdeal.defs (F := Ideal)) (onTc (τ := Cert.BiasGradsIdeal.τ) (Cert.BiasGradsIdeal.main (F := Ideal))) ⟨m, fun _ => 0, g⟩ (fun r => ∀ c : Dev Cert.BiasGradsIdeal.nD,
          r.2.mem ((c.tc : Thread Cert.BiasGradsIdeal.nD Cert.BiasGradsIdeal.τ).loc Cert.BiasGradsIdeal.main_v6) = v0 c
          ∧ r.2.mem ((c.tc : Thread Cert.BiasGradsIdeal.nD Cert.BiasGradsIdeal.τ).loc Cert.BiasGradsIdeal.main_arg0) = m ((c.tc : Thread Cert.BiasGradsIdeal.nD Cert.BiasGradsIdeal.τ).loc Cert.BiasGradsIdeal.main_arg0))
      ∧ θ_run (Cert.BiasTotalIdeal.defs (F := Ideal)) (onTc (τ := Cert.BiasTotalIdeal.τ) (Cert.BiasTotalIdeal.main (F := Ideal))) ⟨m', fun _ => 0, g'⟩ (fun r => ∀ c : Dev Cert.BiasTotalIdeal.nD,
          r.2.mem ((c.tc : Thread Cert.BiasTotalIdeal.nD Cert.BiasTotalIdeal.τ).loc Cert.BiasTotalIdeal.main_v2) = v0 c
          ∧ r.2.mem ((c.tc : Thread Cert.BiasTotalIdeal.nD Cert.BiasTotalIdeal.τ).loc Cert.BiasTotalIdeal.main_arg0) = m' ((c.tc : Thread Cert.BiasTotalIdeal.nD Cert.BiasTotalIdeal.τ).loc Cert.BiasTotalIdeal.main_arg0))

def preserves_CutGrads_CutGradsIdeal : Prop :=
  True

def algebraic_CutGradsIdeal_WeightTotalsIdeal [hCutGradsIdeal : Cert.CutGradsIdeal.Facts] [hWeightTotalsIdeal : Cert.WeightTotalsIdeal.Facts] : Prop :=
  ∀ (m : (ℓ : Loc Cert.CutGradsIdeal.nD Cert.CutGradsIdeal.τ Cert.CutGradsIdeal.sig) → Buf (Elt Ideal) ℓ) (g : Dev Cert.CutGradsIdeal.nD → PrngReg)
    (m' : (ℓ : Loc Cert.WeightTotalsIdeal.nD Cert.WeightTotalsIdeal.τ Cert.WeightTotalsIdeal.sig) → Buf (Elt Ideal) ℓ) (g' : Dev Cert.WeightTotalsIdeal.nD → PrngReg), Pre_CutGradsIdeal m →
    (∀ c : Dev Cert.CutGradsIdeal.nD,
      m ((c.tc : Thread Cert.CutGradsIdeal.nD Cert.CutGradsIdeal.τ).loc Cert.CutGradsIdeal.main_arg0) = m' (((0 : Dev Cert.WeightTotalsIdeal.nD).tc : Thread Cert.WeightTotalsIdeal.nD Cert.WeightTotalsIdeal.τ).loc Cert.WeightTotalsIdeal.main_arg0)) →
    ∃ (v0 : Buf (Elt Ideal) (((0 : Dev Cert.WeightTotalsIdeal.nD).tc : Thread Cert.WeightTotalsIdeal.nD Cert.WeightTotalsIdeal.τ).loc Cert.WeightTotalsIdeal.main_v2)) (v1 : Buf (Elt Ideal) (((0 : Dev Cert.WeightTotalsIdeal.nD).tc : Thread Cert.WeightTotalsIdeal.nD Cert.WeightTotalsIdeal.τ).loc Cert.WeightTotalsIdeal.main_v5)) (v2 : Buf (Elt Ideal) (((0 : Dev Cert.WeightTotalsIdeal.nD).tc : Thread Cert.WeightTotalsIdeal.nD Cert.WeightTotalsIdeal.τ).loc Cert.WeightTotalsIdeal.main_v8)) (v3 : Buf (Elt Ideal) (((0 : Dev Cert.WeightTotalsIdeal.nD).tc : Thread Cert.WeightTotalsIdeal.nD Cert.WeightTotalsIdeal.τ).loc Cert.WeightTotalsIdeal.main_v11)) (v4 : Buf (Elt Ideal) (((0 : Dev Cert.WeightTotalsIdeal.nD).tc : Thread Cert.WeightTotalsIdeal.nD Cert.WeightTotalsIdeal.τ).loc Cert.WeightTotalsIdeal.main_v14)),
      θ_run (Cert.CutGradsIdeal.defs (F := Ideal)) (onTc (τ := Cert.CutGradsIdeal.τ) (Cert.CutGradsIdeal.main (F := Ideal))) ⟨m, fun _ => 0, g⟩ (fun r => ∀ c : Dev Cert.CutGradsIdeal.nD,
          r.2.mem ((c.tc : Thread Cert.CutGradsIdeal.nD Cert.CutGradsIdeal.τ).loc Cert.CutGradsIdeal.main_v54) = Layout.block ⟨3, ![4, 2, 128]⟩ ⟨3, ![4, 2, 1024]⟩ 2 8 c v0
          ∧ r.2.mem ((c.tc : Thread Cert.CutGradsIdeal.nD Cert.CutGradsIdeal.τ).loc Cert.CutGradsIdeal.main_v59) = Layout.block ⟨3, ![2, 31, 64]⟩ ⟨3, ![2, 31, 512]⟩ 2 8 c v1
          ∧ r.2.mem ((c.tc : Thread Cert.CutGradsIdeal.nD Cert.CutGradsIdeal.τ).loc Cert.CutGradsIdeal.main_v64) = Layout.block ⟨2, ![2, 64]⟩ ⟨2, ![2, 512]⟩ 1 8 c v2
          ∧ r.2.mem ((c.tc : Thread Cert.CutGradsIdeal.nD Cert.CutGradsIdeal.τ).loc Cert.CutGradsIdeal.main_v69) = Layout.block ⟨2, ![2, 64]⟩ ⟨2, ![2, 512]⟩ 1 8 c v3
          ∧ r.2.mem ((c.tc : Thread Cert.CutGradsIdeal.nD Cert.CutGradsIdeal.τ).loc Cert.CutGradsIdeal.main_v74) = Layout.block ⟨2, ![2, 64]⟩ ⟨2, ![2, 512]⟩ 1 8 c v4
          ∧ r.2.mem ((c.tc : Thread Cert.CutGradsIdeal.nD Cert.CutGradsIdeal.τ).loc Cert.CutGradsIdeal.main_arg0) = m ((c.tc : Thread Cert.CutGradsIdeal.nD Cert.CutGradsIdeal.τ).loc Cert.CutGradsIdeal.main_arg0))
      ∧ θ_run (Cert.WeightTotalsIdeal.defs (F := Ideal)) (onTc (τ := Cert.WeightTotalsIdeal.τ) (Cert.WeightTotalsIdeal.main (F := Ideal))) ⟨m', fun _ => 0, g'⟩ (fun r =>
          r.2.mem (((0 : Dev Cert.WeightTotalsIdeal.nD).tc : Thread Cert.WeightTotalsIdeal.nD Cert.WeightTotalsIdeal.τ).loc Cert.WeightTotalsIdeal.main_v2) = v0
          ∧ r.2.mem (((0 : Dev Cert.WeightTotalsIdeal.nD).tc : Thread Cert.WeightTotalsIdeal.nD Cert.WeightTotalsIdeal.τ).loc Cert.WeightTotalsIdeal.main_v5) = v1
          ∧ r.2.mem (((0 : Dev Cert.WeightTotalsIdeal.nD).tc : Thread Cert.WeightTotalsIdeal.nD Cert.WeightTotalsIdeal.τ).loc Cert.WeightTotalsIdeal.main_v8) = v2
          ∧ r.2.mem (((0 : Dev Cert.WeightTotalsIdeal.nD).tc : Thread Cert.WeightTotalsIdeal.nD Cert.WeightTotalsIdeal.τ).loc Cert.WeightTotalsIdeal.main_v11) = v3
          ∧ r.2.mem (((0 : Dev Cert.WeightTotalsIdeal.nD).tc : Thread Cert.WeightTotalsIdeal.nD Cert.WeightTotalsIdeal.τ).loc Cert.WeightTotalsIdeal.main_v14) = v4
          ∧ r.2.mem (((0 : Dev Cert.WeightTotalsIdeal.nD).tc : Thread Cert.WeightTotalsIdeal.nD Cert.WeightTotalsIdeal.τ).loc Cert.WeightTotalsIdeal.main_arg0) = m' (((0 : Dev Cert.WeightTotalsIdeal.nD).tc : Thread Cert.WeightTotalsIdeal.nD Cert.WeightTotalsIdeal.τ).loc Cert.WeightTotalsIdeal.main_arg0))

def preserves_SumGrads_SumGradsIdeal : Prop :=
  True

def algebraic_SumGradsIdeal_TotalGradsIdeal [hSumGradsIdeal : Cert.SumGradsIdeal.Facts] [hTotalGradsIdeal : Cert.TotalGradsIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg)
    (m' : (ℓ : Loc Cert.TotalGradsIdeal.nD Cert.TotalGradsIdeal.τ Cert.TotalGradsIdeal.sig) → Buf (Elt Ideal) ℓ) (g' : Dev Cert.TotalGradsIdeal.nD → PrngReg), Pre_SumGradsIdeal m →
    (∀ c : Dev Cert.SumGradsIdeal.nD,
      m' ((c.tc : Thread Cert.TotalGradsIdeal.nD Cert.TotalGradsIdeal.τ).loc Cert.TotalGradsIdeal.main_arg0) = m ((c.tc : Thread Cert.SumGradsIdeal.nD Cert.SumGradsIdeal.τ).loc Cert.SumGradsIdeal.main_arg0)) →
    ∃ (v0 : (c : Dev Cert.SumGradsIdeal.nD) → Buf (Elt Ideal) ((c.tc : Thread Cert.SumGradsIdeal.nD Cert.SumGradsIdeal.τ).loc Cert.SumGradsIdeal.main_v0)),
      θ_run (Cert.SumGradsIdeal.defs (F := Ideal)) (onTc (τ := Cert.SumGradsIdeal.τ) (Cert.SumGradsIdeal.main (F := Ideal))) ⟨m, fun _ => 0, g⟩ (fun r => ∀ c : Dev Cert.SumGradsIdeal.nD,
          r.2.mem ((c.tc : Thread Cert.SumGradsIdeal.nD Cert.SumGradsIdeal.τ).loc Cert.SumGradsIdeal.main_v0) = v0 c
          ∧ r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ θ_run (Cert.TotalGradsIdeal.defs (F := Ideal)) (onTc (τ := Cert.TotalGradsIdeal.τ) (Cert.TotalGradsIdeal.main (F := Ideal))) ⟨m', fun _ => 0, g'⟩ (fun r => ∀ c : Dev Cert.TotalGradsIdeal.nD,
          r.2.mem ((c.tc : Thread Cert.TotalGradsIdeal.nD Cert.TotalGradsIdeal.τ).loc Cert.TotalGradsIdeal.main_v0) = v0 c
          ∧ r.2.mem ((c.tc : Thread Cert.TotalGradsIdeal.nD Cert.TotalGradsIdeal.τ).loc Cert.TotalGradsIdeal.main_arg0) = m' ((c.tc : Thread Cert.TotalGradsIdeal.nD Cert.TotalGradsIdeal.τ).loc Cert.TotalGradsIdeal.main_arg0))

def preserves_SumEarly_SumEarlyIdeal : Prop :=
  True

def algebraic_SumEarlyIdeal_TotalEarlyIdeal [hSumEarlyIdeal : Cert.SumEarlyIdeal.Facts] [hTotalEarlyIdeal : Cert.TotalEarlyIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg)
    (m' : (ℓ : Loc Cert.TotalEarlyIdeal.nD Cert.TotalEarlyIdeal.τ Cert.TotalEarlyIdeal.sig) → Buf (Elt Ideal) ℓ) (g' : Dev Cert.TotalEarlyIdeal.nD → PrngReg), Pre_SumEarlyIdeal m →
    (∀ c : Dev Cert.SumEarlyIdeal.nD,
      m' ((c.tc : Thread Cert.TotalEarlyIdeal.nD Cert.TotalEarlyIdeal.τ).loc Cert.TotalEarlyIdeal.main_arg0) = m ((c.tc : Thread Cert.SumEarlyIdeal.nD Cert.SumEarlyIdeal.τ).loc Cert.SumEarlyIdeal.main_arg0)) →
    ∃ (v0 : (c : Dev Cert.SumEarlyIdeal.nD) → Buf (Elt Ideal) ((c.tc : Thread Cert.SumEarlyIdeal.nD Cert.SumEarlyIdeal.τ).loc Cert.SumEarlyIdeal.main_v0)),
      θ_run (Cert.SumEarlyIdeal.defs (F := Ideal)) (onTc (τ := Cert.SumEarlyIdeal.τ) (Cert.SumEarlyIdeal.main (F := Ideal))) ⟨m, fun _ => 0, g⟩ (fun r => ∀ c : Dev Cert.SumEarlyIdeal.nD,
          r.2.mem ((c.tc : Thread Cert.SumEarlyIdeal.nD Cert.SumEarlyIdeal.τ).loc Cert.SumEarlyIdeal.main_v0) = v0 c
          ∧ r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ θ_run (Cert.TotalEarlyIdeal.defs (F := Ideal)) (onTc (τ := Cert.TotalEarlyIdeal.τ) (Cert.TotalEarlyIdeal.main (F := Ideal))) ⟨m', fun _ => 0, g'⟩ (fun r => ∀ c : Dev Cert.TotalEarlyIdeal.nD,
          r.2.mem ((c.tc : Thread Cert.TotalEarlyIdeal.nD Cert.TotalEarlyIdeal.τ).loc Cert.TotalEarlyIdeal.main_v0) = v0 c
          ∧ r.2.mem ((c.tc : Thread Cert.TotalEarlyIdeal.nD Cert.TotalEarlyIdeal.τ).loc Cert.TotalEarlyIdeal.main_arg0) = m' ((c.tc : Thread Cert.TotalEarlyIdeal.nD Cert.TotalEarlyIdeal.τ).loc Cert.TotalEarlyIdeal.main_arg0))

def preserves_AdaFwd_AdaFwdIdeal : Prop :=
  True

def algebraic_AdaFwdIdeal_ModulationIdeal [hAdaFwdIdeal : Cert.AdaFwdIdeal.Facts] [hModulationIdeal : Cert.ModulationIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.ModulationIdeal.nD Cert.ModulationIdeal.τ Cert.ModulationIdeal.sig) → Buf (Elt Ideal) ℓ) (g' : Dev Cert.ModulationIdeal.nD → PrngReg), Pre_AdaFwdIdeal m →
    (∀ c : Dev Cert.AdaFwdIdeal.nD,
      m' ((c.tc : Thread Cert.ModulationIdeal.nD Cert.ModulationIdeal.τ).loc Cert.ModulationIdeal.main_arg0) = m ((c.tc : Thread Cert.AdaFwdIdeal.nD Cert.AdaFwdIdeal.τ).loc Cert.AdaFwdIdeal.main_arg0)
      ∧ m' ((c.tc : Thread Cert.ModulationIdeal.nD Cert.ModulationIdeal.τ).loc Cert.ModulationIdeal.main_arg1) = m ((c.tc : Thread Cert.AdaFwdIdeal.nD Cert.AdaFwdIdeal.τ).loc Cert.AdaFwdIdeal.main_arg1)
      ∧ m' ((c.tc : Thread Cert.ModulationIdeal.nD Cert.ModulationIdeal.τ).loc Cert.ModulationIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.ModulationIdeal.defs (F := Ideal)) (onTc (τ := Cert.ModulationIdeal.τ) (Cert.ModulationIdeal.main (F := Ideal))) ⟨m', fun _ => 0, g'⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m' ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m' ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m' ((c.tc : Thread Cert.ModulationIdeal.nD Cert.ModulationIdeal.τ).loc Cert.ModulationIdeal.main_arg2))

def preserves_AdaBwd_AdaBwdIdeal : Prop :=
  True

def algebraic_AdaBwdIdeal_ModGradsIdeal [hAdaBwdIdeal : Cert.AdaBwdIdeal.Facts] [hModGradsIdeal : Cert.ModGradsIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.ModGradsIdeal.nD Cert.ModGradsIdeal.τ Cert.ModGradsIdeal.sig) → Buf (Elt Ideal) ℓ) (g' : Dev Cert.ModGradsIdeal.nD → PrngReg), Pre_AdaBwdIdeal m →
    (∀ c : Dev Cert.AdaBwdIdeal.nD,
      m' ((c.tc : Thread Cert.ModGradsIdeal.nD Cert.ModGradsIdeal.τ).loc Cert.ModGradsIdeal.main_arg0) = m ((c.tc : Thread Cert.AdaBwdIdeal.nD Cert.AdaBwdIdeal.τ).loc Cert.AdaBwdIdeal.main_arg0)
      ∧ m' ((c.tc : Thread Cert.ModGradsIdeal.nD Cert.ModGradsIdeal.τ).loc Cert.ModGradsIdeal.main_arg1) = m ((c.tc : Thread Cert.AdaBwdIdeal.nD Cert.AdaBwdIdeal.τ).loc Cert.AdaBwdIdeal.main_arg1)
      ∧ m' ((c.tc : Thread Cert.ModGradsIdeal.nD Cert.ModGradsIdeal.τ).loc Cert.ModGradsIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.ModGradsIdeal.defs (F := Ideal)) (onTc (τ := Cert.ModGradsIdeal.τ) (Cert.ModGradsIdeal.main (F := Ideal))) ⟨m', fun _ => 0, g'⟩ (fun r => ∀ c : Dev Cert.ModGradsIdeal.nD,
          r.2.mem ((c.tc : Thread Cert.ModGradsIdeal.nD Cert.ModGradsIdeal.τ).loc Cert.ModGradsIdeal.main_v15) = v0 c
          ∧ r.2.mem ((c.tc : Thread Cert.ModGradsIdeal.nD Cert.ModGradsIdeal.τ).loc Cert.ModGradsIdeal.main_v18) = v1 c
          ∧ r.2.mem ((c.tc : Thread Cert.ModGradsIdeal.nD Cert.ModGradsIdeal.τ).loc Cert.ModGradsIdeal.main_arg0) = m' ((c.tc : Thread Cert.ModGradsIdeal.nD Cert.ModGradsIdeal.τ).loc Cert.ModGradsIdeal.main_arg0)
          ∧ r.2.mem ((c.tc : Thread Cert.ModGradsIdeal.nD Cert.ModGradsIdeal.τ).loc Cert.ModGradsIdeal.main_arg1) = m' ((c.tc : Thread Cert.ModGradsIdeal.nD Cert.ModGradsIdeal.τ).loc Cert.ModGradsIdeal.main_arg1)
          ∧ r.2.mem ((c.tc : Thread Cert.ModGradsIdeal.nD Cert.ModGradsIdeal.τ).loc Cert.ModGradsIdeal.main_arg2) = m' ((c.tc : Thread Cert.ModGradsIdeal.nD Cert.ModGradsIdeal.τ).loc Cert.ModGradsIdeal.main_arg2))

def preserves_NormBwd_NormBwdIdeal : Prop :=
  True

def algebraic_NormBwdIdeal_NormGradsIdeal [hNormBwdIdeal : Cert.NormBwdIdeal.Facts] [hNormGradsIdeal : Cert.NormGradsIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormGradsIdeal.nD Cert.NormGradsIdeal.τ Cert.NormGradsIdeal.sig) → Buf (Elt Ideal) ℓ) (g' : Dev Cert.NormGradsIdeal.nD → PrngReg), Pre_NormBwdIdeal m →
    (∀ c : Dev Cert.NormBwdIdeal.nD,
      m' ((c.tc : Thread Cert.NormGradsIdeal.nD Cert.NormGradsIdeal.τ).loc Cert.NormGradsIdeal.main_arg0) = m ((c.tc : Thread Cert.NormBwdIdeal.nD Cert.NormBwdIdeal.τ).loc Cert.NormBwdIdeal.main_arg0)
      ∧ m' ((c.tc : Thread Cert.NormGradsIdeal.nD Cert.NormGradsIdeal.τ).loc Cert.NormGradsIdeal.main_arg1) = m ((c.tc : Thread Cert.NormBwdIdeal.nD Cert.NormBwdIdeal.τ).loc Cert.NormBwdIdeal.main_arg1)
      ∧ m' ((c.tc : Thread Cert.NormGradsIdeal.nD Cert.NormGradsIdeal.τ).loc Cert.NormGradsIdeal.main_arg2) = m ((c.tc : Thread Cert.NormBwdIdeal.nD Cert.NormBwdIdeal.τ).loc Cert.NormBwdIdeal.main_arg2)
      ∧ m' ((c.tc : Thread Cert.NormGradsIdeal.nD Cert.NormGradsIdeal.τ).loc Cert.NormGradsIdeal.main_arg3) = m ((c.tc : Thread Cert.NormBwdIdeal.nD Cert.NormBwdIdeal.τ).loc Cert.NormBwdIdeal.main_arg3)
      ∧ m' ((c.tc : Thread Cert.NormGradsIdeal.nD Cert.NormGradsIdeal.τ).loc Cert.NormGradsIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormGradsIdeal.defs (F := Ideal)) (onTc (τ := Cert.NormGradsIdeal.τ) (Cert.NormGradsIdeal.main (F := Ideal))) ⟨m', fun _ => 0, g'⟩ (fun r => ∀ c : Dev Cert.NormGradsIdeal.nD,
          r.2.mem ((c.tc : Thread Cert.NormGradsIdeal.nD Cert.NormGradsIdeal.τ).loc Cert.NormGradsIdeal.main_v88) = v0 c
          ∧ r.2.mem ((c.tc : Thread Cert.NormGradsIdeal.nD Cert.NormGradsIdeal.τ).loc Cert.NormGradsIdeal.main_v92) = v1 c
          ∧ r.2.mem ((c.tc : Thread Cert.NormGradsIdeal.nD Cert.NormGradsIdeal.τ).loc Cert.NormGradsIdeal.main_arg0) = m' ((c.tc : Thread Cert.NormGradsIdeal.nD Cert.NormGradsIdeal.τ).loc Cert.NormGradsIdeal.main_arg0)
          ∧ r.2.mem ((c.tc : Thread Cert.NormGradsIdeal.nD Cert.NormGradsIdeal.τ).loc Cert.NormGradsIdeal.main_arg1) = m' ((c.tc : Thread Cert.NormGradsIdeal.nD Cert.NormGradsIdeal.τ).loc Cert.NormGradsIdeal.main_arg1)
          ∧ r.2.mem ((c.tc : Thread Cert.NormGradsIdeal.nD Cert.NormGradsIdeal.τ).loc Cert.NormGradsIdeal.main_arg2) = m' ((c.tc : Thread Cert.NormGradsIdeal.nD Cert.NormGradsIdeal.τ).loc Cert.NormGradsIdeal.main_arg2)
          ∧ r.2.mem ((c.tc : Thread Cert.NormGradsIdeal.nD Cert.NormGradsIdeal.τ).loc Cert.NormGradsIdeal.main_arg3) = m' ((c.tc : Thread Cert.NormGradsIdeal.nD Cert.NormGradsIdeal.τ).loc Cert.NormGradsIdeal.main_arg3)
          ∧ r.2.mem ((c.tc : Thread Cert.NormGradsIdeal.nD Cert.NormGradsIdeal.τ).loc Cert.NormGradsIdeal.main_arg4) = m' ((c.tc : Thread Cert.NormGradsIdeal.nD Cert.NormGradsIdeal.τ).loc Cert.NormGradsIdeal.main_arg4))

def preserves_LossHead_LossHeadIdeal : Prop :=
  True

def algebraic_LossHeadIdeal_LossIdeal [hLossHeadIdeal : Cert.LossHeadIdeal.Facts] [hLossIdeal : Cert.LossIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossIdeal.nD Cert.LossIdeal.τ Cert.LossIdeal.sig) → Buf (Elt Ideal) ℓ) (g' : Dev Cert.LossIdeal.nD → PrngReg), Pre_LossHeadIdeal m →
    (∀ c : Dev Cert.LossHeadIdeal.nD,
      m ((c.tc : Thread Cert.LossHeadIdeal.nD Cert.LossHeadIdeal.τ).loc Cert.LossHeadIdeal.main_arg0) = Layout.block ⟨2, ![4352, 1024]⟩ ⟨2, ![34816, 1024]⟩ 0 8 c (m' (((0 : Dev Cert.LossIdeal.nD).tc : Thread Cert.LossIdeal.nD Cert.LossIdeal.τ).loc Cert.LossIdeal.main_arg0))
      ∧ m ((c.tc : Thread Cert.LossHeadIdeal.nD Cert.LossHeadIdeal.τ).loc Cert.LossHeadIdeal.main_arg1) = Layout.block ⟨2, ![4096, 1024]⟩ ⟨2, ![32768, 1024]⟩ 0 8 c (m' (((0 : Dev Cert.LossIdeal.nD).tc : Thread Cert.LossIdeal.nD Cert.LossIdeal.τ).loc Cert.LossIdeal.main_arg1))
      ∧ m ((c.tc : Thread Cert.LossHeadIdeal.nD Cert.LossHeadIdeal.τ).loc Cert.LossHeadIdeal.main_arg2) = m' (((0 : Dev Cert.LossIdeal.nD).tc : Thread Cert.LossIdeal.nD Cert.LossIdeal.τ).loc Cert.LossIdeal.main_arg2)) →
    ∃ (v0 : Buf (Elt Ideal) (((0 : Dev Cert.LossIdeal.nD).tc : Thread Cert.LossIdeal.nD Cert.LossIdeal.τ).loc Cert.LossIdeal.main_v22)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v5) = v0
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossIdeal.defs (F := Ideal)) (onTc (τ := Cert.LossIdeal.τ) (Cert.LossIdeal.main (F := Ideal))) ⟨m', fun _ => 0, g'⟩ (fun r =>
          r.2.mem (((0 : Dev Cert.LossIdeal.nD).tc : Thread Cert.LossIdeal.nD Cert.LossIdeal.τ).loc Cert.LossIdeal.main_v22) = v0
          ∧ r.2.mem (((0 : Dev Cert.LossIdeal.nD).tc : Thread Cert.LossIdeal.nD Cert.LossIdeal.τ).loc Cert.LossIdeal.main_arg0) = m' (((0 : Dev Cert.LossIdeal.nD).tc : Thread Cert.LossIdeal.nD Cert.LossIdeal.τ).loc Cert.LossIdeal.main_arg0)
          ∧ r.2.mem (((0 : Dev Cert.LossIdeal.nD).tc : Thread Cert.LossIdeal.nD Cert.LossIdeal.τ).loc Cert.LossIdeal.main_arg1) = m' (((0 : Dev Cert.LossIdeal.nD).tc : Thread Cert.LossIdeal.nD Cert.LossIdeal.τ).loc Cert.LossIdeal.main_arg1)
          ∧ r.2.mem (((0 : Dev Cert.LossIdeal.nD).tc : Thread Cert.LossIdeal.nD Cert.LossIdeal.τ).loc Cert.LossIdeal.main_arg2) = m' (((0 : Dev Cert.LossIdeal.nD).tc : Thread Cert.LossIdeal.nD Cert.LossIdeal.τ).loc Cert.LossIdeal.main_arg2))

def preserves_WeightGrad_WeightGradIdeal : Prop :=
  True

def algebraic_WeightGradIdeal_ProductGradIdeal [hWeightGradIdeal : Cert.WeightGradIdeal.Facts] [hProductGradIdeal : Cert.ProductGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.ProductGradIdeal.nD Cert.ProductGradIdeal.τ Cert.ProductGradIdeal.sig) → Buf (Elt Ideal) ℓ) (g' : Dev Cert.ProductGradIdeal.nD → PrngReg), Pre_WeightGradIdeal m →
    (∀ c : Dev Cert.WeightGradIdeal.nD,
      m' ((c.tc : Thread Cert.ProductGradIdeal.nD Cert.ProductGradIdeal.τ).loc Cert.ProductGradIdeal.main_arg0) = m ((c.tc : Thread Cert.WeightGradIdeal.nD Cert.WeightGradIdeal.τ).loc Cert.WeightGradIdeal.main_arg0)
      ∧ m' ((c.tc : Thread Cert.ProductGradIdeal.nD Cert.ProductGradIdeal.τ).loc Cert.ProductGradIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.ProductGradIdeal.defs (F := Ideal)) (onTc (τ := Cert.ProductGradIdeal.τ) (Cert.ProductGradIdeal.main (F := Ideal))) ⟨m', fun _ => 0, g'⟩ (fun r => ∀ c : Dev Cert.ProductGradIdeal.nD,
          r.2.mem ((c.tc : Thread Cert.ProductGradIdeal.nD Cert.ProductGradIdeal.τ).loc Cert.ProductGradIdeal.main_v1) = v0 c
          ∧ r.2.mem ((c.tc : Thread Cert.ProductGradIdeal.nD Cert.ProductGradIdeal.τ).loc Cert.ProductGradIdeal.main_arg0) = m' ((c.tc : Thread Cert.ProductGradIdeal.nD Cert.ProductGradIdeal.τ).loc Cert.ProductGradIdeal.main_arg0)
          ∧ r.2.mem ((c.tc : Thread Cert.ProductGradIdeal.nD Cert.ProductGradIdeal.τ).loc Cert.ProductGradIdeal.main_arg1) = m' ((c.tc : Thread Cert.ProductGradIdeal.nD Cert.ProductGradIdeal.τ).loc Cert.ProductGradIdeal.main_arg1))

def preserves_FfnUp_FfnUpIdeal : Prop :=
  True

def algebraic_FfnUpIdeal_HiddenIdeal [hFfnUpIdeal : Cert.FfnUpIdeal.Facts] [hHiddenIdeal : Cert.HiddenIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.HiddenIdeal.nD Cert.HiddenIdeal.τ Cert.HiddenIdeal.sig) → Buf (Elt Ideal) ℓ) (g' : Dev Cert.HiddenIdeal.nD → PrngReg), Pre_FfnUpIdeal m →
    (∀ c : Dev Cert.FfnUpIdeal.nD,
      m' ((c.tc : Thread Cert.HiddenIdeal.nD Cert.HiddenIdeal.τ).loc Cert.HiddenIdeal.main_arg0) = m ((c.tc : Thread Cert.FfnUpIdeal.nD Cert.FfnUpIdeal.τ).loc Cert.FfnUpIdeal.main_arg0)
      ∧ m' ((c.tc : Thread Cert.HiddenIdeal.nD Cert.HiddenIdeal.τ).loc Cert.HiddenIdeal.main_arg1) = m ((c.tc : Thread Cert.FfnUpIdeal.nD Cert.FfnUpIdeal.τ).loc Cert.FfnUpIdeal.main_arg1)
      ∧ m' ((c.tc : Thread Cert.HiddenIdeal.nD Cert.HiddenIdeal.τ).loc Cert.HiddenIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.HiddenIdeal.defs (F := Ideal)) (onTc (τ := Cert.HiddenIdeal.τ) (Cert.HiddenIdeal.main (F := Ideal))) ⟨m', fun _ => 0, g'⟩ (fun r => ∀ c : Dev Cert.HiddenIdeal.nD,
          r.2.mem ((c.tc : Thread Cert.HiddenIdeal.nD Cert.HiddenIdeal.τ).loc Cert.HiddenIdeal.main_v2) = v0 c
          ∧ r.2.mem ((c.tc : Thread Cert.HiddenIdeal.nD Cert.HiddenIdeal.τ).loc Cert.HiddenIdeal.main_v3) = v1 c
          ∧ r.2.mem ((c.tc : Thread Cert.HiddenIdeal.nD Cert.HiddenIdeal.τ).loc Cert.HiddenIdeal.main_v6) = v2 c
          ∧ r.2.mem ((c.tc : Thread Cert.HiddenIdeal.nD Cert.HiddenIdeal.τ).loc Cert.HiddenIdeal.main_arg0) = m' ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m' ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m' ((c.tc : Thread Cert.HiddenIdeal.nD Cert.HiddenIdeal.τ).loc Cert.HiddenIdeal.main_arg2))

def preserves_FfnDact_FfnDactIdeal : Prop :=
  True

def algebraic_FfnDactIdeal_HiddenGradsIdeal [hFfnDactIdeal : Cert.FfnDactIdeal.Facts] [hHiddenGradsIdeal : Cert.HiddenGradsIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.HiddenGradsIdeal.nD Cert.HiddenGradsIdeal.τ Cert.HiddenGradsIdeal.sig) → Buf (Elt Ideal) ℓ) (g' : Dev Cert.HiddenGradsIdeal.nD → PrngReg), Pre_FfnDactIdeal m →
    (∀ c : Dev Cert.FfnDactIdeal.nD,
      m' ((c.tc : Thread Cert.HiddenGradsIdeal.nD Cert.HiddenGradsIdeal.τ).loc Cert.HiddenGradsIdeal.main_arg0) = m ((c.tc : Thread Cert.FfnDactIdeal.nD Cert.FfnDactIdeal.τ).loc Cert.FfnDactIdeal.main_arg0)
      ∧ m' ((c.tc : Thread Cert.HiddenGradsIdeal.nD Cert.HiddenGradsIdeal.τ).loc Cert.HiddenGradsIdeal.main_arg1) = m ((c.tc : Thread Cert.FfnDactIdeal.nD Cert.FfnDactIdeal.τ).loc Cert.FfnDactIdeal.main_arg1)
      ∧ m' ((c.tc : Thread Cert.HiddenGradsIdeal.nD Cert.HiddenGradsIdeal.τ).loc Cert.HiddenGradsIdeal.main_arg2) = m ((c.tc : Thread Cert.FfnDactIdeal.nD Cert.FfnDactIdeal.τ).loc Cert.FfnDactIdeal.main_arg2)
      ∧ m' ((c.tc : Thread Cert.HiddenGradsIdeal.nD Cert.HiddenGradsIdeal.τ).loc Cert.HiddenGradsIdeal.main_arg3) = m ((c.tc : Thread Cert.FfnDactIdeal.nD Cert.FfnDactIdeal.τ).loc Cert.FfnDactIdeal.main_arg3)) →
    ∃ (v0 : (c : Dev Cert.FfnDactIdeal.nD) → Buf (Elt Ideal) ((c.tc : Thread Cert.FfnDactIdeal.nD Cert.FfnDactIdeal.τ).loc Cert.FfnDactIdeal.main_v0_0)) (v1 : (c : Dev Cert.FfnDactIdeal.nD) → Buf (Elt Ideal) ((c.tc : Thread Cert.FfnDactIdeal.nD Cert.FfnDactIdeal.τ).loc Cert.FfnDactIdeal.main_v0_1)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0_0) = v0 c
          ∧ r.2.mem ((c.tc : Thread Cert.FfnDactIdeal.nD Cert.FfnDactIdeal.τ).loc Cert.FfnDactIdeal.main_v0_1) = v1 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ θ_run (Cert.HiddenGradsIdeal.defs (F := Ideal)) (onTc (τ := Cert.HiddenGradsIdeal.τ) (Cert.HiddenGradsIdeal.main (F := Ideal))) ⟨m', fun _ => 0, g'⟩ (fun r => ∀ c : Dev Cert.HiddenGradsIdeal.nD,
          r.2.mem ((c.tc : Thread Cert.HiddenGradsIdeal.nD Cert.HiddenGradsIdeal.τ).loc Cert.HiddenGradsIdeal.main_v17) = v0 c
          ∧ r.2.mem ((c.tc : Thread Cert.HiddenGradsIdeal.nD Cert.HiddenGradsIdeal.τ).loc Cert.HiddenGradsIdeal.main_v20) = v1 c
          ∧ r.2.mem ((c.tc : Thread Cert.HiddenGradsIdeal.nD Cert.HiddenGradsIdeal.τ).loc Cert.HiddenGradsIdeal.main_arg0) = m' ((c.tc : Thread Cert.HiddenGradsIdeal.nD Cert.HiddenGradsIdeal.τ).loc Cert.HiddenGradsIdeal.main_arg0)
          ∧ r.2.mem ((c.tc : Thread Cert.HiddenGradsIdeal.nD Cert.HiddenGradsIdeal.τ).loc Cert.HiddenGradsIdeal.main_arg1) = m' ((c.tc : Thread Cert.HiddenGradsIdeal.nD Cert.HiddenGradsIdeal.τ).loc Cert.HiddenGradsIdeal.main_arg1)
          ∧ r.2.mem ((c.tc : Thread Cert.HiddenGradsIdeal.nD Cert.HiddenGradsIdeal.τ).loc Cert.HiddenGradsIdeal.main_arg2) = m' ((c.tc : Thread Cert.HiddenGradsIdeal.nD Cert.HiddenGradsIdeal.τ).loc Cert.HiddenGradsIdeal.main_arg2)
          ∧ r.2.mem ((c.tc : Thread Cert.HiddenGradsIdeal.nD Cert.HiddenGradsIdeal.τ).loc Cert.HiddenGradsIdeal.main_arg3) = m' ((c.tc : Thread Cert.HiddenGradsIdeal.nD Cert.HiddenGradsIdeal.τ).loc Cert.HiddenGradsIdeal.main_arg3))

def preserves_BackGate_BackGateIdeal : Prop :=
  True

def algebraic_BackGateIdeal_ThroughGateIdeal [hBackGateIdeal : Cert.BackGateIdeal.Facts] [hThroughGateIdeal : Cert.ThroughGateIdeal.Facts] : Prop :=
  ∀ (m : (ℓ : Loc Cert.BackGateIdeal.nD Cert.BackGateIdeal.τ Cert.BackGateIdeal.sig) → Buf (Elt Ideal) ℓ) (g : Dev Cert.BackGateIdeal.nD → PrngReg)
    (m' : (ℓ : Loc Cert.ThroughGateIdeal.nD Cert.ThroughGateIdeal.τ Cert.ThroughGateIdeal.sig) → Buf (Elt Ideal) ℓ) (g' : Dev Cert.ThroughGateIdeal.nD → PrngReg), Pre_BackGateIdeal m →
    (∀ c : Dev Cert.BackGateIdeal.nD,
      m' ((c.tc : Thread Cert.ThroughGateIdeal.nD Cert.ThroughGateIdeal.τ).loc Cert.ThroughGateIdeal.main_arg0) = m ((c.tc : Thread Cert.BackGateIdeal.nD Cert.BackGateIdeal.τ).loc Cert.BackGateIdeal.main_arg0)
      ∧ m' ((c.tc : Thread Cert.ThroughGateIdeal.nD Cert.ThroughGateIdeal.τ).loc Cert.ThroughGateIdeal.main_arg1) = m ((c.tc : Thread Cert.BackGateIdeal.nD Cert.BackGateIdeal.τ).loc Cert.BackGateIdeal.main_arg1)) →
    ∃ (v0 : (c : Dev Cert.BackGateIdeal.nD) → Buf (Elt Ideal) ((c.tc : Thread Cert.BackGateIdeal.nD Cert.BackGateIdeal.τ).loc Cert.BackGateIdeal.main_v0)),
      θ_run (Cert.BackGateIdeal.defs (F := Ideal)) (onTc (τ := Cert.BackGateIdeal.τ) (Cert.BackGateIdeal.main (F := Ideal))) ⟨m, fun _ => 0, g⟩ (fun r => ∀ c : Dev Cert.BackGateIdeal.nD,
          r.2.mem ((c.tc : Thread Cert.BackGateIdeal.nD Cert.BackGateIdeal.τ).loc Cert.BackGateIdeal.main_v0) = v0 c
          ∧ r.2.mem ((c.tc : Thread Cert.BackGateIdeal.nD Cert.BackGateIdeal.τ).loc Cert.BackGateIdeal.main_arg0) = m ((c.tc : Thread Cert.BackGateIdeal.nD Cert.BackGateIdeal.τ).loc Cert.BackGateIdeal.main_arg0)
          ∧ r.2.mem ((c.tc : Thread Cert.BackGateIdeal.nD Cert.BackGateIdeal.τ).loc Cert.BackGateIdeal.main_arg1) = m ((c.tc : Thread Cert.BackGateIdeal.nD Cert.BackGateIdeal.τ).loc Cert.BackGateIdeal.main_arg1))
      ∧ θ_run (Cert.ThroughGateIdeal.defs (F := Ideal)) (onTc (τ := Cert.ThroughGateIdeal.τ) (Cert.ThroughGateIdeal.main (F := Ideal))) ⟨m', fun _ => 0, g'⟩ (fun r => ∀ c : Dev Cert.ThroughGateIdeal.nD,
          r.2.mem ((c.tc : Thread Cert.ThroughGateIdeal.nD Cert.ThroughGateIdeal.τ).loc Cert.ThroughGateIdeal.main_v0) = v0 c
          ∧ r.2.mem ((c.tc : Thread Cert.ThroughGateIdeal.nD Cert.ThroughGateIdeal.τ).loc Cert.ThroughGateIdeal.main_arg0) = m' ((c.tc : Thread Cert.ThroughGateIdeal.nD Cert.ThroughGateIdeal.τ).loc Cert.ThroughGateIdeal.main_arg0)
          ∧ r.2.mem ((c.tc : Thread Cert.ThroughGateIdeal.nD Cert.ThroughGateIdeal.τ).loc Cert.ThroughGateIdeal.main_arg1) = m' ((c.tc : Thread Cert.ThroughGateIdeal.nD Cert.ThroughGateIdeal.τ).loc Cert.ThroughGateIdeal.main_arg1))

def preserves_BackUp_BackUpIdeal : Prop :=
  True

def algebraic_BackUpIdeal_ThroughUpIdeal [hBackUpIdeal : Cert.BackUpIdeal.Facts] [hThroughUpIdeal : Cert.ThroughUpIdeal.Facts] : Prop :=
  ∀ (m : (ℓ : Loc Cert.BackUpIdeal.nD Cert.BackUpIdeal.τ Cert.BackUpIdeal.sig) → Buf (Elt Ideal) ℓ) (g : Dev Cert.BackUpIdeal.nD → PrngReg)
    (m' : (ℓ : Loc Cert.ThroughUpIdeal.nD Cert.ThroughUpIdeal.τ Cert.ThroughUpIdeal.sig) → Buf (Elt Ideal) ℓ) (g' : Dev Cert.ThroughUpIdeal.nD → PrngReg), Pre_BackUpIdeal m →
    (∀ c : Dev Cert.BackUpIdeal.nD,
      m' ((c.tc : Thread Cert.ThroughUpIdeal.nD Cert.ThroughUpIdeal.τ).loc Cert.ThroughUpIdeal.main_arg0) = m ((c.tc : Thread Cert.BackUpIdeal.nD Cert.BackUpIdeal.τ).loc Cert.BackUpIdeal.main_arg0)
      ∧ m' ((c.tc : Thread Cert.ThroughUpIdeal.nD Cert.ThroughUpIdeal.τ).loc Cert.ThroughUpIdeal.main_arg1) = m ((c.tc : Thread Cert.BackUpIdeal.nD Cert.BackUpIdeal.τ).loc Cert.BackUpIdeal.main_arg1)
      ∧ m' ((c.tc : Thread Cert.ThroughUpIdeal.nD Cert.ThroughUpIdeal.τ).loc Cert.ThroughUpIdeal.main_arg2) = m ((c.tc : Thread Cert.BackUpIdeal.nD Cert.BackUpIdeal.τ).loc Cert.BackUpIdeal.main_arg2)) →
    ∃ (v0 : (c : Dev Cert.BackUpIdeal.nD) → Buf (Elt Ideal) ((c.tc : Thread Cert.BackUpIdeal.nD Cert.BackUpIdeal.τ).loc Cert.BackUpIdeal.main_v0)),
      θ_run (Cert.BackUpIdeal.defs (F := Ideal)) (onTc (τ := Cert.BackUpIdeal.τ) (Cert.BackUpIdeal.main (F := Ideal))) ⟨m, fun _ => 0, g⟩ (fun r => ∀ c : Dev Cert.BackUpIdeal.nD,
          r.2.mem ((c.tc : Thread Cert.BackUpIdeal.nD Cert.BackUpIdeal.τ).loc Cert.BackUpIdeal.main_v0) = v0 c
          ∧ r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
          ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1)
          ∧ r.2.mem ((c.tc : Thread Cert.BackUpIdeal.nD Cert.BackUpIdeal.τ).loc Cert.BackUpIdeal.main_arg2) = m ((c.tc : Thread Cert.BackUpIdeal.nD Cert.BackUpIdeal.τ).loc Cert.BackUpIdeal.main_arg2))
      ∧ θ_run (Cert.ThroughUpIdeal.defs (F := Ideal)) (onTc (τ := Cert.ThroughUpIdeal.τ) (Cert.ThroughUpIdeal.main (F := Ideal))) ⟨m', fun _ => 0, g'⟩ (fun r => ∀ c : Dev Cert.ThroughUpIdeal.nD,
          r.2.mem ((c.tc : Thread Cert.ThroughUpIdeal.nD Cert.ThroughUpIdeal.τ).loc Cert.ThroughUpIdeal.main_v1) = v0 c
          ∧ r.2.mem ((c.tc : Thread Cert.ThroughUpIdeal.nD Cert.ThroughUpIdeal.τ).loc Cert.ThroughUpIdeal.main_arg0) = m' ((c.tc : Thread Cert.ThroughUpIdeal.nD Cert.ThroughUpIdeal.τ).loc Cert.ThroughUpIdeal.main_arg0)
          ∧ r.2.mem ((c.tc : Thread Cert.ThroughUpIdeal.nD Cert.ThroughUpIdeal.τ).loc Cert.ThroughUpIdeal.main_arg1) = m' ((c.tc : Thread Cert.ThroughUpIdeal.nD Cert.ThroughUpIdeal.τ).loc Cert.ThroughUpIdeal.main_arg1)
          ∧ r.2.mem ((c.tc : Thread Cert.ThroughUpIdeal.nD Cert.ThroughUpIdeal.τ).loc Cert.ThroughUpIdeal.main_arg2) = m' ((c.tc : Thread Cert.ThroughUpIdeal.nD Cert.ThroughUpIdeal.τ).loc Cert.ThroughUpIdeal.main_arg2))

def Claim : Prop :=
  ∃ (hKernel : Cert.Kernel.Facts) (hKernelIdeal : Cert.KernelIdeal.Facts) (hReferenceIdeal : Cert.ReferenceIdeal.Facts) (hReference : Cert.Reference.Facts) (hGatherFfn : Cert.GatherFfn.Facts) (hGatherFfnIdeal : Cert.GatherFfnIdeal.Facts) (hWholeFfnIdeal : Cert.WholeFfnIdeal.Facts) (hWholeFfn : Cert.WholeFfn.Facts) (hScatterEven : Cert.ScatterEven.Facts) (hScatterEvenIdeal : Cert.ScatterEvenIdeal.Facts) (hSentEvenIdeal : Cert.SentEvenIdeal.Facts) (hSentEven : Cert.SentEven.Facts) (hScatterOdd : Cert.ScatterOdd.Facts) (hScatterOddIdeal : Cert.ScatterOddIdeal.Facts) (hSentOddIdeal : Cert.SentOddIdeal.Facts) (hSentOdd : Cert.SentOdd.Facts) (hGatherEven : Cert.GatherEven.Facts) (hGatherEvenIdeal : Cert.GatherEvenIdeal.Facts) (hWholeEvenIdeal : Cert.WholeEvenIdeal.Facts) (hWholeEven : Cert.WholeEven.Facts) (hGatherOdd : Cert.GatherOdd.Facts) (hGatherOddIdeal : Cert.GatherOddIdeal.Facts) (hWholeOddIdeal : Cert.WholeOddIdeal.Facts) (hWholeOdd : Cert.WholeOdd.Facts) (hGatherSmall : Cert.GatherSmall.Facts) (hGatherSmallIdeal : Cert.GatherSmallIdeal.Facts) (hStackedSmallIdeal : Cert.StackedSmallIdeal.Facts) (hStackedSmall : Cert.StackedSmall.Facts) (hGatherMod : Cert.GatherMod.Facts) (hGatherModIdeal : Cert.GatherModIdeal.Facts) (hStackedModIdeal : Cert.StackedModIdeal.Facts) (hStackedMod : Cert.StackedMod.Facts) (hGatherDmod : Cert.GatherDmod.Facts) (hGatherDmodIdeal : Cert.GatherDmodIdeal.Facts) (hStackedDmodIdeal : Cert.StackedDmodIdeal.Facts) (hStackedDmod : Cert.StackedDmod.Facts) (hGatherGrads : Cert.GatherGrads.Facts) (hGatherGradsIdeal : Cert.GatherGradsIdeal.Facts) (hStackedGradsIdeal : Cert.StackedGradsIdeal.Facts) (hStackedGrads : Cert.StackedGrads.Facts) (hAdamFfn : Cert.AdamFfn.Facts) (hAdamFfnIdeal : Cert.AdamFfnIdeal.Facts) (hStepFfnIdeal : Cert.StepFfnIdeal.Facts) (hAdamOut : Cert.AdamOut.Facts) (hAdamOutIdeal : Cert.AdamOutIdeal.Facts) (hStepOutIdeal : Cert.StepOutIdeal.Facts) (hAdamEven : Cert.AdamEven.Facts) (hAdamEvenIdeal : Cert.AdamEvenIdeal.Facts) (hStepEvenIdeal : Cert.StepEvenIdeal.Facts) (hAdamOdd : Cert.AdamOdd.Facts) (hAdamOddIdeal : Cert.AdamOddIdeal.Facts) (hStepOddIdeal : Cert.StepOddIdeal.Facts) (hAdamAda : Cert.AdamAda.Facts) (hAdamAdaIdeal : Cert.AdamAdaIdeal.Facts) (hStepAdaIdeal : Cert.StepAdaIdeal.Facts) (hAdamSmall : Cert.AdamSmall.Facts) (hAdamSmallIdeal : Cert.AdamSmallIdeal.Facts) (hStepSmallIdeal : Cert.StepSmallIdeal.Facts) (hBiasGrads : Cert.BiasGrads.Facts) (hBiasGradsIdeal : Cert.BiasGradsIdeal.Facts) (hBiasTotalIdeal : Cert.BiasTotalIdeal.Facts) (hCutGrads : Cert.CutGrads.Facts) (hCutGradsIdeal : Cert.CutGradsIdeal.Facts) (hWeightTotalsIdeal : Cert.WeightTotalsIdeal.Facts) (hSumGrads : Cert.SumGrads.Facts) (hSumGradsIdeal : Cert.SumGradsIdeal.Facts) (hTotalGradsIdeal : Cert.TotalGradsIdeal.Facts) (hSumEarly : Cert.SumEarly.Facts) (hSumEarlyIdeal : Cert.SumEarlyIdeal.Facts) (hTotalEarlyIdeal : Cert.TotalEarlyIdeal.Facts) (hAdaFwd : Cert.AdaFwd.Facts) (hAdaFwdIdeal : Cert.AdaFwdIdeal.Facts) (hModulationIdeal : Cert.ModulationIdeal.Facts) (hAdaBwd : Cert.AdaBwd.Facts) (hAdaBwdIdeal : Cert.AdaBwdIdeal.Facts) (hModGradsIdeal : Cert.ModGradsIdeal.Facts) (hNormBwd : Cert.NormBwd.Facts) (hNormBwdIdeal : Cert.NormBwdIdeal.Facts) (hNormGradsIdeal : Cert.NormGradsIdeal.Facts) (hLossHead : Cert.LossHead.Facts) (hLossHeadIdeal : Cert.LossHeadIdeal.Facts) (hLossIdeal : Cert.LossIdeal.Facts) (hWeightGrad : Cert.WeightGrad.Facts) (hWeightGradIdeal : Cert.WeightGradIdeal.Facts) (hProductGradIdeal : Cert.ProductGradIdeal.Facts) (hFfnUp : Cert.FfnUp.Facts) (hFfnUpIdeal : Cert.FfnUpIdeal.Facts) (hHiddenIdeal : Cert.HiddenIdeal.Facts) (hFfnDact : Cert.FfnDact.Facts) (hFfnDactIdeal : Cert.FfnDactIdeal.Facts) (hHiddenGradsIdeal : Cert.HiddenGradsIdeal.Facts) (hBackGate : Cert.BackGate.Facts) (hBackGateIdeal : Cert.BackGateIdeal.Facts) (hThroughGateIdeal : Cert.ThroughGateIdeal.Facts) (hBackUp : Cert.BackUp.Facts) (hBackUpIdeal : Cert.BackUpIdeal.Facts) (hThroughUpIdeal : Cert.ThroughUpIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_GatherFfn (hGatherFfn := hGatherFfn)
    ∧ quiescent_GatherFfnIdeal (hGatherFfnIdeal := hGatherFfnIdeal)
    ∧ quiescent_WholeFfnIdeal (hWholeFfnIdeal := hWholeFfnIdeal)
    ∧ quiescent_WholeFfn (hWholeFfn := hWholeFfn)
    ∧ quiescent_ScatterEven (hScatterEven := hScatterEven)
    ∧ quiescent_ScatterEvenIdeal (hScatterEvenIdeal := hScatterEvenIdeal)
    ∧ quiescent_SentEvenIdeal (hSentEvenIdeal := hSentEvenIdeal)
    ∧ quiescent_SentEven (hSentEven := hSentEven)
    ∧ quiescent_ScatterOdd (hScatterOdd := hScatterOdd)
    ∧ quiescent_ScatterOddIdeal (hScatterOddIdeal := hScatterOddIdeal)
    ∧ quiescent_SentOddIdeal (hSentOddIdeal := hSentOddIdeal)
    ∧ quiescent_SentOdd (hSentOdd := hSentOdd)
    ∧ quiescent_GatherEven (hGatherEven := hGatherEven)
    ∧ quiescent_GatherEvenIdeal (hGatherEvenIdeal := hGatherEvenIdeal)
    ∧ quiescent_WholeEvenIdeal (hWholeEvenIdeal := hWholeEvenIdeal)
    ∧ quiescent_WholeEven (hWholeEven := hWholeEven)
    ∧ quiescent_GatherOdd (hGatherOdd := hGatherOdd)
    ∧ quiescent_GatherOddIdeal (hGatherOddIdeal := hGatherOddIdeal)
    ∧ quiescent_WholeOddIdeal (hWholeOddIdeal := hWholeOddIdeal)
    ∧ quiescent_WholeOdd (hWholeOdd := hWholeOdd)
    ∧ quiescent_GatherSmall (hGatherSmall := hGatherSmall)
    ∧ quiescent_GatherSmallIdeal (hGatherSmallIdeal := hGatherSmallIdeal)
    ∧ quiescent_StackedSmallIdeal (hStackedSmallIdeal := hStackedSmallIdeal)
    ∧ quiescent_StackedSmall (hStackedSmall := hStackedSmall)
    ∧ quiescent_GatherMod (hGatherMod := hGatherMod)
    ∧ quiescent_GatherModIdeal (hGatherModIdeal := hGatherModIdeal)
    ∧ quiescent_StackedModIdeal (hStackedModIdeal := hStackedModIdeal)
    ∧ quiescent_StackedMod (hStackedMod := hStackedMod)
    ∧ quiescent_GatherDmod (hGatherDmod := hGatherDmod)
    ∧ quiescent_GatherDmodIdeal (hGatherDmodIdeal := hGatherDmodIdeal)
    ∧ quiescent_StackedDmodIdeal (hStackedDmodIdeal := hStackedDmodIdeal)
    ∧ quiescent_StackedDmod (hStackedDmod := hStackedDmod)
    ∧ quiescent_GatherGrads (hGatherGrads := hGatherGrads)
    ∧ quiescent_GatherGradsIdeal (hGatherGradsIdeal := hGatherGradsIdeal)
    ∧ quiescent_StackedGradsIdeal (hStackedGradsIdeal := hStackedGradsIdeal)
    ∧ quiescent_StackedGrads (hStackedGrads := hStackedGrads)
    ∧ quiescent_AdamFfn (hAdamFfn := hAdamFfn)
    ∧ quiescent_AdamFfnIdeal (hAdamFfnIdeal := hAdamFfnIdeal)
    ∧ quiescent_StepFfnIdeal (hStepFfnIdeal := hStepFfnIdeal)
    ∧ quiescent_AdamOut (hAdamOut := hAdamOut)
    ∧ quiescent_AdamOutIdeal (hAdamOutIdeal := hAdamOutIdeal)
    ∧ quiescent_StepOutIdeal (hStepOutIdeal := hStepOutIdeal)
    ∧ quiescent_AdamEven (hAdamEven := hAdamEven)
    ∧ quiescent_AdamEvenIdeal (hAdamEvenIdeal := hAdamEvenIdeal)
    ∧ quiescent_StepEvenIdeal (hStepEvenIdeal := hStepEvenIdeal)
    ∧ quiescent_AdamOdd (hAdamOdd := hAdamOdd)
    ∧ quiescent_AdamOddIdeal (hAdamOddIdeal := hAdamOddIdeal)
    ∧ quiescent_StepOddIdeal (hStepOddIdeal := hStepOddIdeal)
    ∧ quiescent_AdamAda (hAdamAda := hAdamAda)
    ∧ quiescent_AdamAdaIdeal (hAdamAdaIdeal := hAdamAdaIdeal)
    ∧ quiescent_StepAdaIdeal (hStepAdaIdeal := hStepAdaIdeal)
    ∧ quiescent_AdamSmall (hAdamSmall := hAdamSmall)
    ∧ quiescent_AdamSmallIdeal (hAdamSmallIdeal := hAdamSmallIdeal)
    ∧ quiescent_StepSmallIdeal (hStepSmallIdeal := hStepSmallIdeal)
    ∧ quiescent_BiasGrads (hBiasGrads := hBiasGrads)
    ∧ quiescent_BiasGradsIdeal (hBiasGradsIdeal := hBiasGradsIdeal)
    ∧ quiescent_BiasTotalIdeal (hBiasTotalIdeal := hBiasTotalIdeal)
    ∧ quiescent_CutGrads (hCutGrads := hCutGrads)
    ∧ quiescent_CutGradsIdeal (hCutGradsIdeal := hCutGradsIdeal)
    ∧ quiescent_WeightTotalsIdeal (hWeightTotalsIdeal := hWeightTotalsIdeal)
    ∧ quiescent_SumGrads (hSumGrads := hSumGrads)
    ∧ quiescent_SumGradsIdeal (hSumGradsIdeal := hSumGradsIdeal)
    ∧ quiescent_TotalGradsIdeal (hTotalGradsIdeal := hTotalGradsIdeal)
    ∧ quiescent_SumEarly (hSumEarly := hSumEarly)
    ∧ quiescent_SumEarlyIdeal (hSumEarlyIdeal := hSumEarlyIdeal)
    ∧ quiescent_TotalEarlyIdeal (hTotalEarlyIdeal := hTotalEarlyIdeal)
    ∧ quiescent_AdaFwd (hAdaFwd := hAdaFwd)
    ∧ quiescent_AdaFwdIdeal (hAdaFwdIdeal := hAdaFwdIdeal)
    ∧ quiescent_ModulationIdeal (hModulationIdeal := hModulationIdeal)
    ∧ quiescent_AdaBwd (hAdaBwd := hAdaBwd)
    ∧ quiescent_AdaBwdIdeal (hAdaBwdIdeal := hAdaBwdIdeal)
    ∧ quiescent_ModGradsIdeal (hModGradsIdeal := hModGradsIdeal)
    ∧ quiescent_NormBwd (hNormBwd := hNormBwd)
    ∧ quiescent_NormBwdIdeal (hNormBwdIdeal := hNormBwdIdeal)
    ∧ quiescent_NormGradsIdeal (hNormGradsIdeal := hNormGradsIdeal)
    ∧ quiescent_LossHead (hLossHead := hLossHead)
    ∧ quiescent_LossHeadIdeal (hLossHeadIdeal := hLossHeadIdeal)
    ∧ quiescent_LossIdeal (hLossIdeal := hLossIdeal)
    ∧ quiescent_WeightGrad (hWeightGrad := hWeightGrad)
    ∧ quiescent_WeightGradIdeal (hWeightGradIdeal := hWeightGradIdeal)
    ∧ quiescent_ProductGradIdeal (hProductGradIdeal := hProductGradIdeal)
    ∧ quiescent_FfnUp (hFfnUp := hFfnUp)
    ∧ quiescent_FfnUpIdeal (hFfnUpIdeal := hFfnUpIdeal)
    ∧ quiescent_HiddenIdeal (hHiddenIdeal := hHiddenIdeal)
    ∧ quiescent_FfnDact (hFfnDact := hFfnDact)
    ∧ quiescent_FfnDactIdeal (hFfnDactIdeal := hFfnDactIdeal)
    ∧ quiescent_HiddenGradsIdeal (hHiddenGradsIdeal := hHiddenGradsIdeal)
    ∧ quiescent_BackGate (hBackGate := hBackGate)
    ∧ quiescent_BackGateIdeal (hBackGateIdeal := hBackGateIdeal)
    ∧ quiescent_ThroughGateIdeal (hThroughGateIdeal := hThroughGateIdeal)
    ∧ quiescent_BackUp (hBackUp := hBackUp)
    ∧ quiescent_BackUpIdeal (hBackUpIdeal := hBackUpIdeal)
    ∧ quiescent_ThroughUpIdeal (hThroughUpIdeal := hThroughUpIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_GatherFfn_GatherFfnIdeal
    ∧ algebraic_GatherFfnIdeal_WholeFfnIdeal (hGatherFfnIdeal := hGatherFfnIdeal) (hWholeFfnIdeal := hWholeFfnIdeal)
    ∧ bitexact_GatherFfn_WholeFfn (hGatherFfn := hGatherFfn) (hWholeFfn := hWholeFfn)
    ∧ preserves_ScatterEven_ScatterEvenIdeal
    ∧ algebraic_ScatterEvenIdeal_SentEvenIdeal (hScatterEvenIdeal := hScatterEvenIdeal) (hSentEvenIdeal := hSentEvenIdeal)
    ∧ bitexact_ScatterEven_SentEven (hScatterEven := hScatterEven) (hSentEven := hSentEven)
    ∧ preserves_ScatterOdd_ScatterOddIdeal
    ∧ algebraic_ScatterOddIdeal_SentOddIdeal (hScatterOddIdeal := hScatterOddIdeal) (hSentOddIdeal := hSentOddIdeal)
    ∧ bitexact_ScatterOdd_SentOdd (hScatterOdd := hScatterOdd) (hSentOdd := hSentOdd)
    ∧ preserves_GatherEven_GatherEvenIdeal
    ∧ algebraic_GatherEvenIdeal_WholeEvenIdeal (hGatherEvenIdeal := hGatherEvenIdeal) (hWholeEvenIdeal := hWholeEvenIdeal)
    ∧ bitexact_GatherEven_WholeEven (hGatherEven := hGatherEven) (hWholeEven := hWholeEven)
    ∧ preserves_GatherOdd_GatherOddIdeal
    ∧ algebraic_GatherOddIdeal_WholeOddIdeal (hGatherOddIdeal := hGatherOddIdeal) (hWholeOddIdeal := hWholeOddIdeal)
    ∧ bitexact_GatherOdd_WholeOdd (hGatherOdd := hGatherOdd) (hWholeOdd := hWholeOdd)
    ∧ preserves_GatherSmall_GatherSmallIdeal
    ∧ algebraic_GatherSmallIdeal_StackedSmallIdeal (hGatherSmallIdeal := hGatherSmallIdeal) (hStackedSmallIdeal := hStackedSmallIdeal)
    ∧ bitexact_GatherSmall_StackedSmall (hGatherSmall := hGatherSmall) (hStackedSmall := hStackedSmall)
    ∧ preserves_GatherMod_GatherModIdeal
    ∧ algebraic_GatherModIdeal_StackedModIdeal (hGatherModIdeal := hGatherModIdeal) (hStackedModIdeal := hStackedModIdeal)
    ∧ bitexact_GatherMod_StackedMod (hGatherMod := hGatherMod) (hStackedMod := hStackedMod)
    ∧ preserves_GatherDmod_GatherDmodIdeal
    ∧ algebraic_GatherDmodIdeal_StackedDmodIdeal (hGatherDmodIdeal := hGatherDmodIdeal) (hStackedDmodIdeal := hStackedDmodIdeal)
    ∧ bitexact_GatherDmod_StackedDmod (hGatherDmod := hGatherDmod) (hStackedDmod := hStackedDmod)
    ∧ preserves_GatherGrads_GatherGradsIdeal
    ∧ algebraic_GatherGradsIdeal_StackedGradsIdeal (hGatherGradsIdeal := hGatherGradsIdeal) (hStackedGradsIdeal := hStackedGradsIdeal)
    ∧ bitexact_GatherGrads_StackedGrads (hGatherGrads := hGatherGrads) (hStackedGrads := hStackedGrads)
    ∧ preserves_AdamFfn_AdamFfnIdeal
    ∧ algebraic_AdamFfnIdeal_StepFfnIdeal (hAdamFfnIdeal := hAdamFfnIdeal) (hStepFfnIdeal := hStepFfnIdeal)
    ∧ preserves_AdamOut_AdamOutIdeal
    ∧ algebraic_AdamOutIdeal_StepOutIdeal (hAdamOutIdeal := hAdamOutIdeal) (hStepOutIdeal := hStepOutIdeal)
    ∧ preserves_AdamEven_AdamEvenIdeal
    ∧ algebraic_AdamEvenIdeal_StepEvenIdeal (hAdamEvenIdeal := hAdamEvenIdeal) (hStepEvenIdeal := hStepEvenIdeal)
    ∧ preserves_AdamOdd_AdamOddIdeal
    ∧ algebraic_AdamOddIdeal_StepOddIdeal (hAdamOddIdeal := hAdamOddIdeal) (hStepOddIdeal := hStepOddIdeal)
    ∧ preserves_AdamAda_AdamAdaIdeal
    ∧ algebraic_AdamAdaIdeal_StepAdaIdeal (hAdamAdaIdeal := hAdamAdaIdeal) (hStepAdaIdeal := hStepAdaIdeal)
    ∧ preserves_AdamSmall_AdamSmallIdeal
    ∧ algebraic_AdamSmallIdeal_StepSmallIdeal (hAdamSmallIdeal := hAdamSmallIdeal) (hStepSmallIdeal := hStepSmallIdeal)
    ∧ preserves_BiasGrads_BiasGradsIdeal
    ∧ algebraic_BiasGradsIdeal_BiasTotalIdeal (hBiasGradsIdeal := hBiasGradsIdeal) (hBiasTotalIdeal := hBiasTotalIdeal)
    ∧ preserves_CutGrads_CutGradsIdeal
    ∧ algebraic_CutGradsIdeal_WeightTotalsIdeal (hCutGradsIdeal := hCutGradsIdeal) (hWeightTotalsIdeal := hWeightTotalsIdeal)
    ∧ preserves_SumGrads_SumGradsIdeal
    ∧ algebraic_SumGradsIdeal_TotalGradsIdeal (hSumGradsIdeal := hSumGradsIdeal) (hTotalGradsIdeal := hTotalGradsIdeal)
    ∧ preserves_SumEarly_SumEarlyIdeal
    ∧ algebraic_SumEarlyIdeal_TotalEarlyIdeal (hSumEarlyIdeal := hSumEarlyIdeal) (hTotalEarlyIdeal := hTotalEarlyIdeal)
    ∧ preserves_AdaFwd_AdaFwdIdeal
    ∧ algebraic_AdaFwdIdeal_ModulationIdeal (hAdaFwdIdeal := hAdaFwdIdeal) (hModulationIdeal := hModulationIdeal)
    ∧ preserves_AdaBwd_AdaBwdIdeal
    ∧ algebraic_AdaBwdIdeal_ModGradsIdeal (hAdaBwdIdeal := hAdaBwdIdeal) (hModGradsIdeal := hModGradsIdeal)
    ∧ preserves_NormBwd_NormBwdIdeal
    ∧ algebraic_NormBwdIdeal_NormGradsIdeal (hNormBwdIdeal := hNormBwdIdeal) (hNormGradsIdeal := hNormGradsIdeal)
    ∧ preserves_LossHead_LossHeadIdeal
    ∧ algebraic_LossHeadIdeal_LossIdeal (hLossHeadIdeal := hLossHeadIdeal) (hLossIdeal := hLossIdeal)
    ∧ preserves_WeightGrad_WeightGradIdeal
    ∧ algebraic_WeightGradIdeal_ProductGradIdeal (hWeightGradIdeal := hWeightGradIdeal) (hProductGradIdeal := hProductGradIdeal)
    ∧ preserves_FfnUp_FfnUpIdeal
    ∧ algebraic_FfnUpIdeal_HiddenIdeal (hFfnUpIdeal := hFfnUpIdeal) (hHiddenIdeal := hHiddenIdeal)
    ∧ preserves_FfnDact_FfnDactIdeal
    ∧ algebraic_FfnDactIdeal_HiddenGradsIdeal (hFfnDactIdeal := hFfnDactIdeal) (hHiddenGradsIdeal := hHiddenGradsIdeal)
    ∧ preserves_BackGate_BackGateIdeal
    ∧ algebraic_BackGateIdeal_ThroughGateIdeal (hBackGateIdeal := hBackGateIdeal) (hThroughGateIdeal := hThroughGateIdeal)
    ∧ preserves_BackUp_BackUpIdeal
    ∧ algebraic_BackUpIdeal_ThroughUpIdeal (hBackUpIdeal := hBackUpIdeal) (hThroughUpIdeal := hThroughUpIdeal)
-- ==== Kernel.lean ====
abbrev S3072x1024 : Shape := ⟨2, ![3072, 1024]⟩
abbrev S8x384x1024 : Shape := ⟨3, ![8, 384, 1024]⟩
abbrev S21 : Shape := ⟨1, ![21]⟩
abbrev S3 : Shape := ⟨1, ![3]⟩
abbrev S1 : Shape := ⟨1, ![1]⟩
abbrev S_ : Shape := ⟨0, ![]⟩
abbrev S1x384x1024 : Shape := ⟨3, ![1, 384, 1024]⟩
abbrev S384x1024 : Shape := ⟨2, ![384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S3072x1024, .bf16⟩
  | .hbm, ⟨1, _⟩ => ⟨S3072x1024, .bf16⟩
  | .hbm, ⟨2, _⟩ => ⟨S3072x1024, .bf16⟩
  | .hbm, ⟨3, _⟩ => ⟨S8x384x1024, .bf16⟩
  | .hbm, ⟨4, _⟩ => ⟨S8x384x1024, .bf16⟩
  | .hbm, ⟨5, _⟩ => ⟨S8x384x1024, .bf16⟩
  | _, _ => ⟨S3072x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v62 : BitVec 32 := Scalar.muli v12 c384_i32
  v62
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_40 : BitVec 32 := 0#32
  let c0_i32_41 : BitVec 32 := 0#32
  ![v12.toNat, 0, 0]
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v62 : BitVec 32 := Scalar.muli v12 c384_i32
  let v63 : BitVec 32 := v62
  let c0_i32_42 : BitVec 32 := 0#32
  ![v63.toNat, 0]
def k0_mult2 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c384_i32_43 : BitVec 32 := 384#32
  let v69 : BitVec 32 := Scalar.muli v19 c384_i32_43
  v69
def k0_off3 (d0 : Dev nD) (c0_i32 : BitVec 32) (c0_i32_5 : BitVec 32) (c1_i32_6 : BitVec 32) : Fin 2 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c384_i32_43 : BitVec 32 := 384#32
  let v69 : BitVec 32 := Scalar.muli v19 c384_i32_43
  let v70 : BitVec 32 := v69
  let c0_i32_52 : BitVec 32 := 0#32
  ![v70.toNat, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_46 : BitVec 32 := 4#32
  let v71 : BitVec 32 := Scalar.muli v13 c4_i32_46
  let v72 : BitVec 32 := Scalar.addi c0_i32_47 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_48 : BitVec 32 := 2#32
  let v73 : BitVec 32 := Scalar.muli v14 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_49 : BitVec 32 := 1#32
  let v75 : BitVec 32 := Scalar.muli v15 c1_i32_49
  let v76 : BitVec 32 := Scalar.addi v74 v75
  v76.toNat
def k0_mult3 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let v23 : BitVec 32 := Scalar.muli c4_i32_12 v20
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let v24 : BitVec 32 := Scalar.muli c2_i32_13 v21
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let v26 : BitVec 32 := Scalar.addi v25 v22
  let c384_i32_53 : BitVec 32 := 384#32
  let v84 : BitVec 32 := Scalar.muli v26 c384_i32_53
  v84
def k0_dev2 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_56 : BitVec 32 := 4#32
  let v86 : BitVec 32 := Scalar.muli v20 c4_i32_56
  let v87 : BitVec 32 := Scalar.addi c0_i32_57 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_58 : BitVec 32 := 2#32
  let v88 : BitVec 32 := Scalar.muli v21 c2_i32_58
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_59 : BitVec 32 := 1#32
  let v90 : BitVec 32 := Scalar.muli v22 c1_i32_59
  let v91 : BitVec 32 := Scalar.addi v89 v90
  v91.toNat
def k0_mult4 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let v30 : BitVec 32 := Scalar.muli c4_i32_17 v27
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let v31 : BitVec 32 := Scalar.muli c2_i32_18 v28
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let v33 : BitVec 32 := Scalar.addi v32 v29
  let c384_i32_63 : BitVec 32 := 384#32
  let v99 : BitVec 32 := Scalar.muli v33 c384_i32_63
  v99
def k0_dev3 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_66 : BitVec 32 := 4#32
  let v101 : BitVec 32 := Scalar.muli v27 c4_i32_66
  let v102 : BitVec 32 := Scalar.addi c0_i32_67 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_68 : BitVec 32 := 2#32
  let v103 : BitVec 32 := Scalar.muli v28 c2_i32_68
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_69 : BitVec 32 := 1#32
  let v105 : BitVec 32 := Scalar.muli v29 c1_i32_69
  let v106 : BitVec 32 := Scalar.addi v104 v105
  v106.toNat
def k0_mult5 (d0 : Dev nD) : BitVec 32 :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let v37 : BitVec 32 := Scalar.muli c4_i32_22 v34
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let v38 : BitVec 32 := Scalar.muli c2_i32_23 v35
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let v40 : BitVec 32 := Scalar.addi v39 v36
  let c384_i32_73 : BitVec 32 := 384#32
  let v114 : BitVec 32 := Scalar.muli v40 c384_i32_73
  v114
def k0_dev4 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_75 : BitVec 32 := 4#32
  let v116 : BitVec 32 := Scalar.muli v34 c4_i32_75
  let v117 : BitVec 32 := Scalar.addi c0_i32_76 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_77 : BitVec 32 := 2#32
  let v118 : BitVec 32 := Scalar.muli v35 c2_i32_77
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_78 : BitVec 32 := 1#32
  let v120 : BitVec 32 := Scalar.muli v36 c1_i32_78
  let v121 : BitVec 32 := Scalar.addi v119 v120
  v121.toNat
def k0_mult6 (d0 : Dev nD) : BitVec 32 :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let v44 : BitVec 32 := Scalar.muli c4_i32_27 v41
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let v45 : BitVec 32 := Scalar.muli c2_i32_28 v42
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let v47 : BitVec 32 := Scalar.addi v46 v43
  let c384_i32_82 : BitVec 32 := 384#32
  let v129 : BitVec 32 := Scalar.muli v47 c384_i32_82
  v129
def k0_dev5 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_85 : BitVec 32 := 4#32
  let v131 : BitVec 32 := Scalar.muli v41 c4_i32_85
  let v132 : BitVec 32 := Scalar.addi c0_i32_86 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_87 : BitVec 32 := 2#32
  let v133 : BitVec 32 := Scalar.muli v42 c2_i32_87
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_88 : BitVec 32 := 1#32
  let v135 : BitVec 32 := Scalar.muli v43 c1_i32_88
  let v136 : BitVec 32 := Scalar.addi v134 v135
  v136.toNat
def k0_mult7 (d0 : Dev nD) : BitVec 32 :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let v51 : BitVec 32 := Scalar.muli c4_i32_32 v48
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let v52 : BitVec 32 := Scalar.muli c2_i32_33 v49
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let v54 : BitVec 32 := Scalar.addi v53 v50
  let c384_i32_92 : BitVec 32 := 384#32
  let v144 : BitVec 32 := Scalar.muli v54 c384_i32_92
  v144
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_94 : BitVec 32 := 4#32
  let v146 : BitVec 32 := Scalar.muli v48 c4_i32_94
  let v147 : BitVec 32 := Scalar.addi c0_i32_95 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_96 : BitVec 32 := 2#32
  let v148 : BitVec 32 := Scalar.muli v49 c2_i32_96
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_97 : BitVec 32 := 1#32
  let v150 : BitVec 32 := Scalar.muli v50 c1_i32_97
  let v151 : BitVec 32 := Scalar.addi v149 v150
  v151.toNat
def k0_mult8 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let v58 : BitVec 32 := Scalar.muli c4_i32_37 v55
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let v59 : BitVec 32 := Scalar.muli c2_i32_38 v56
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let v61 : BitVec 32 := Scalar.addi v60 v57
  let c384_i32_101 : BitVec 32 := 384#32
  let v159 : BitVec 32 := Scalar.muli v61 c384_i32_101
  v159
def k0_dev7 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_103 : BitVec 32 := 4#32
  let v161 : BitVec 32 := Scalar.muli v55 c4_i32_103
  let v162 : BitVec 32 := Scalar.addi c0_i32_104 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_105 : BitVec 32 := 2#32
  let v163 : BitVec 32 := Scalar.muli v56 c2_i32_105
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_106 : BitVec 32 := 1#32
  let v165 : BitVec 32 := Scalar.muli v57 c1_i32_106
  let v166 : BitVec 32 := Scalar.addi v164 v165
  v166.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_110 : BitVec 32 := 384#32
  let v174 : BitVec 32 := Scalar.muli v12 c384_i32_110
  v174
def k0_mult10 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c384_i32_115 : BitVec 32 := 384#32
  let v181 : BitVec 32 := Scalar.muli v19 c384_i32_115
  v181
def k0_dev8 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_117 : BitVec 32 := 4#32
  let v183 : BitVec 32 := Scalar.muli v13 c4_i32_117
  let v184 : BitVec 32 := Scalar.addi c0_i32_118 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_119 : BitVec 32 := 2#32
  let v185 : BitVec 32 := Scalar.muli v14 c2_i32_119
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_120 : BitVec 32 := 1#32
  let v187 : BitVec 32 := Scalar.muli v15 c1_i32_120
  let v188 : BitVec 32 := Scalar.addi v186 v187
  v188.toNat
def k0_mult11 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let v23 : BitVec 32 := Scalar.muli c4_i32_12 v20
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let v24 : BitVec 32 := Scalar.muli c2_i32_13 v21
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let v26 : BitVec 32 := Scalar.addi v25 v22
  let c384_i32_124 : BitVec 32 := 384#32
  let v196 : BitVec 32 := Scalar.muli v26 c384_i32_124
  v196
def k0_dev9 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_126 : BitVec 32 := 4#32
  let v198 : BitVec 32 := Scalar.muli v20 c4_i32_126
  let v199 : BitVec 32 := Scalar.addi c0_i32_127 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_128 : BitVec 32 := 2#32
  let v200 : BitVec 32 := Scalar.muli v21 c2_i32_128
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_129 : BitVec 32 := 1#32
  let v202 : BitVec 32 := Scalar.muli v22 c1_i32_129
  let v203 : BitVec 32 := Scalar.addi v201 v202
  v203.toNat
def k0_mult12 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let v30 : BitVec 32 := Scalar.muli c4_i32_17 v27
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let v31 : BitVec 32 := Scalar.muli c2_i32_18 v28
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let v33 : BitVec 32 := Scalar.addi v32 v29
  let c384_i32_133 : BitVec 32 := 384#32
  let v211 : BitVec 32 := Scalar.muli v33 c384_i32_133
  v211
def k0_dev10 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_135 : BitVec 32 := 4#32
  let v213 : BitVec 32 := Scalar.muli v27 c4_i32_135
  let v214 : BitVec 32 := Scalar.addi c0_i32_136 v213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_137 : BitVec 32 := 2#32
  let v215 : BitVec 32 := Scalar.muli v28 c2_i32_137
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_138 : BitVec 32 := 1#32
  let v217 : BitVec 32 := Scalar.muli v29 c1_i32_138
  let v218 : BitVec 32 := Scalar.addi v216 v217
  v218.toNat
def k0_mult13 (d0 : Dev nD) : BitVec 32 :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let v37 : BitVec 32 := Scalar.muli c4_i32_22 v34
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let v38 : BitVec 32 := Scalar.muli c2_i32_23 v35
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let v40 : BitVec 32 := Scalar.addi v39 v36
  let c384_i32_142 : BitVec 32 := 384#32
  let v226 : BitVec 32 := Scalar.muli v40 c384_i32_142
  v226
def k0_dev11 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_144 : BitVec 32 := 4#32
  let v228 : BitVec 32 := Scalar.muli v34 c4_i32_144
  let v229 : BitVec 32 := Scalar.addi c0_i32_145 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_146 : BitVec 32 := 2#32
  let v230 : BitVec 32 := Scalar.muli v35 c2_i32_146
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_147 : BitVec 32 := 1#32
  let v232 : BitVec 32 := Scalar.muli v36 c1_i32_147
  let v233 : BitVec 32 := Scalar.addi v231 v232
  v233.toNat
def k0_mult14 (d0 : Dev nD) : BitVec 32 :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let v44 : BitVec 32 := Scalar.muli c4_i32_27 v41
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let v45 : BitVec 32 := Scalar.muli c2_i32_28 v42
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let v47 : BitVec 32 := Scalar.addi v46 v43
  let c384_i32_151 : BitVec 32 := 384#32
  let v241 : BitVec 32 := Scalar.muli v47 c384_i32_151
  v241
def k0_dev12 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_153 : BitVec 32 := 4#32
  let v243 : BitVec 32 := Scalar.muli v41 c4_i32_153
  let v244 : BitVec 32 := Scalar.addi c0_i32_154 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_155 : BitVec 32 := 2#32
  let v245 : BitVec 32 := Scalar.muli v42 c2_i32_155
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_156 : BitVec 32 := 1#32
  let v247 : BitVec 32 := Scalar.muli v43 c1_i32_156
  let v248 : BitVec 32 := Scalar.addi v246 v247
  v248.toNat
def k0_mult15 (d0 : Dev nD) : BitVec 32 :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let v51 : BitVec 32 := Scalar.muli c4_i32_32 v48
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let v52 : BitVec 32 := Scalar.muli c2_i32_33 v49
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let v54 : BitVec 32 := Scalar.addi v53 v50
  let c384_i32_160 : BitVec 32 := 384#32
  let v256 : BitVec 32 := Scalar.muli v54 c384_i32_160
  v256
def k0_dev13 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_162 : BitVec 32 := 4#32
  let v258 : BitVec 32 := Scalar.muli v48 c4_i32_162
  let v259 : BitVec 32 := Scalar.addi c0_i32_163 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_164 : BitVec 32 := 2#32
  let v260 : BitVec 32 := Scalar.muli v49 c2_i32_164
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_165 : BitVec 32 := 1#32
  let v262 : BitVec 32 := Scalar.muli v50 c1_i32_165
  let v263 : BitVec 32 := Scalar.addi v261 v262
  v263.toNat
def k0_mult16 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let v58 : BitVec 32 := Scalar.muli c4_i32_37 v55
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let v59 : BitVec 32 := Scalar.muli c2_i32_38 v56
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let v61 : BitVec 32 := Scalar.addi v60 v57
  let c384_i32_169 : BitVec 32 := 384#32
  let v271 : BitVec 32 := Scalar.muli v61 c384_i32_169
  v271
def k0_dev14 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_171 : BitVec 32 := 4#32
  let v273 : BitVec 32 := Scalar.muli v55 c4_i32_171
  let v274 : BitVec 32 := Scalar.addi c0_i32_172 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_173 : BitVec 32 := 2#32
  let v275 : BitVec 32 := Scalar.muli v56 c2_i32_173
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_174 : BitVec 32 := 1#32
  let v277 : BitVec 32 := Scalar.muli v57 c1_i32_174
  let v278 : BitVec 32 := Scalar.addi v276 v277
  v278.toNat
def k0_mult17 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_178 : BitVec 32 := 384#32
  let v286 : BitVec 32 := Scalar.muli v12 c384_i32_178
  v286
def k0_mult18 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c384_i32_183 : BitVec 32 := 384#32
  let v293 : BitVec 32 := Scalar.muli v19 c384_i32_183
  v293
def k0_dev15 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_185 : BitVec 32 := 4#32
  let v295 : BitVec 32 := Scalar.muli v13 c4_i32_185
  let v296 : BitVec 32 := Scalar.addi c0_i32_186 v295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_187 : BitVec 32 := 2#32
  let v297 : BitVec 32 := Scalar.muli v14 c2_i32_187
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_188 : BitVec 32 := 1#32
  let v299 : BitVec 32 := Scalar.muli v15 c1_i32_188
  let v300 : BitVec 32 := Scalar.addi v298 v299
  v300.toNat
def k0_mult19 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let v23 : BitVec 32 := Scalar.muli c4_i32_12 v20
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let v24 : BitVec 32 := Scalar.muli c2_i32_13 v21
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let v26 : BitVec 32 := Scalar.addi v25 v22
  let c384_i32_192 : BitVec 32 := 384#32
  let v308 : BitVec 32 := Scalar.muli v26 c384_i32_192
  v308
def k0_dev16 (d0 : Dev nD) : Nat :=
  let c0_i32_195 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_194 : BitVec 32 := 4#32
  let v310 : BitVec 32 := Scalar.muli v20 c4_i32_194
  let v311 : BitVec 32 := Scalar.addi c0_i32_195 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_196 : BitVec 32 := 2#32
  let v312 : BitVec 32 := Scalar.muli v21 c2_i32_196
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_197 : BitVec 32 := 1#32
  let v314 : BitVec 32 := Scalar.muli v22 c1_i32_197
  let v315 : BitVec 32 := Scalar.addi v313 v314
  v315.toNat
def k0_mult20 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let v30 : BitVec 32 := Scalar.muli c4_i32_17 v27
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let v31 : BitVec 32 := Scalar.muli c2_i32_18 v28
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let v33 : BitVec 32 := Scalar.addi v32 v29
  let c384_i32_201 : BitVec 32 := 384#32
  let v323 : BitVec 32 := Scalar.muli v33 c384_i32_201
  v323
def k0_dev17 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_203 : BitVec 32 := 4#32
  let v325 : BitVec 32 := Scalar.muli v27 c4_i32_203
  let v326 : BitVec 32 := Scalar.addi c0_i32_204 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_205 : BitVec 32 := 2#32
  let v327 : BitVec 32 := Scalar.muli v28 c2_i32_205
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_206 : BitVec 32 := 1#32
  let v329 : BitVec 32 := Scalar.muli v29 c1_i32_206
  let v330 : BitVec 32 := Scalar.addi v328 v329
  v330.toNat
def k0_mult21 (d0 : Dev nD) : BitVec 32 :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let v37 : BitVec 32 := Scalar.muli c4_i32_22 v34
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let v38 : BitVec 32 := Scalar.muli c2_i32_23 v35
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let v40 : BitVec 32 := Scalar.addi v39 v36
  let c384_i32_210 : BitVec 32 := 384#32
  let v338 : BitVec 32 := Scalar.muli v40 c384_i32_210
  v338
def k0_dev18 (d0 : Dev nD) : Nat :=
  let c0_i32_213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_212 : BitVec 32 := 4#32
  let v340 : BitVec 32 := Scalar.muli v34 c4_i32_212
  let v341 : BitVec 32 := Scalar.addi c0_i32_213 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_214 : BitVec 32 := 2#32
  let v342 : BitVec 32 := Scalar.muli v35 c2_i32_214
  let v343 : BitVec 32 := Scalar.addi v341 v342
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_215 : BitVec 32 := 1#32
  let v344 : BitVec 32 := Scalar.muli v36 c1_i32_215
  let v345 : BitVec 32 := Scalar.addi v343 v344
  v345.toNat
def k0_mult22 (d0 : Dev nD) : BitVec 32 :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let v44 : BitVec 32 := Scalar.muli c4_i32_27 v41
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let v45 : BitVec 32 := Scalar.muli c2_i32_28 v42
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let v47 : BitVec 32 := Scalar.addi v46 v43
  let c384_i32_219 : BitVec 32 := 384#32
  let v353 : BitVec 32 := Scalar.muli v47 c384_i32_219
  v353
def k0_dev19 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_221 : BitVec 32 := 4#32
  let v355 : BitVec 32 := Scalar.muli v41 c4_i32_221
  let v356 : BitVec 32 := Scalar.addi c0_i32_222 v355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_223 : BitVec 32 := 2#32
  let v357 : BitVec 32 := Scalar.muli v42 c2_i32_223
  let v358 : BitVec 32 := Scalar.addi v356 v357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_224 : BitVec 32 := 1#32
  let v359 : BitVec 32 := Scalar.muli v43 c1_i32_224
  let v360 : BitVec 32 := Scalar.addi v358 v359
  v360.toNat
def k0_mult23 (d0 : Dev nD) : BitVec 32 :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let v51 : BitVec 32 := Scalar.muli c4_i32_32 v48
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let v52 : BitVec 32 := Scalar.muli c2_i32_33 v49
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let v54 : BitVec 32 := Scalar.addi v53 v50
  let c384_i32_228 : BitVec 32 := 384#32
  let v368 : BitVec 32 := Scalar.muli v54 c384_i32_228
  v368
def k0_dev20 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_230 : BitVec 32 := 4#32
  let v370 : BitVec 32 := Scalar.muli v48 c4_i32_230
  let v371 : BitVec 32 := Scalar.addi c0_i32_231 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_232 : BitVec 32 := 2#32
  let v372 : BitVec 32 := Scalar.muli v49 c2_i32_232
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_233 : BitVec 32 := 1#32
  let v374 : BitVec 32 := Scalar.muli v50 c1_i32_233
  let v375 : BitVec 32 := Scalar.addi v373 v374
  v375.toNat
def k0_mult24 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let v58 : BitVec 32 := Scalar.muli c4_i32_37 v55
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let v59 : BitVec 32 := Scalar.muli c2_i32_38 v56
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let v61 : BitVec 32 := Scalar.addi v60 v57
  let c384_i32_237 : BitVec 32 := 384#32
  let v383 : BitVec 32 := Scalar.muli v61 c384_i32_237
  v383
def k0_dev21 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_239 : BitVec 32 := 4#32
  let v385 : BitVec 32 := Scalar.muli v55 c4_i32_239
  let v386 : BitVec 32 := Scalar.addi c0_i32_240 v385
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_241 : BitVec 32 := 2#32
  let v387 : BitVec 32 := Scalar.muli v56 c2_i32_241
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_242 : BitVec 32 := 1#32
  let v389 : BitVec 32 := Scalar.muli v57 c1_i32_242
  let v390 : BitVec 32 := Scalar.addi v388 v389
  v390.toNat
def k0_mult25 (d0 : Dev nD) : BitVec 32 :=
  let c4_i32_252 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let v407 : BitVec 32 := Scalar.muli c4_i32_252 v400
  let c2_i32_253 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let v408 : BitVec 32 := Scalar.muli c2_i32_253 v403
  let v409 : BitVec 32 := Scalar.addi v407 v408
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let v410 : BitVec 32 := Scalar.addi v409 v406
  let c384_i32_289 : BitVec 32 := 384#32
  let v460 : BitVec 32 := Scalar.muli v410 c384_i32_289
  v460
def k0_mult26 (d0 : Dev nD) : BitVec 32 :=
  let c4_i32_257 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_254 : BitVec 32 := 0#32
  let v411 : BitVec 32 := Scalar.xori v400 c0_i32_254
  let v414 : BitVec 32 := Scalar.muli c4_i32_257 v411
  let c2_i32_258 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_255 : BitVec 32 := 0#32
  let v412 : BitVec 32 := Scalar.xori v403 c0_i32_255
  let v415 : BitVec 32 := Scalar.muli c2_i32_258 v412
  let v416 : BitVec 32 := Scalar.addi v414 v415
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_256 : BitVec 32 := 1#32
  let v413 : BitVec 32 := Scalar.xori v406 c1_i32_256
  let v417 : BitVec 32 := Scalar.addi v416 v413
  let c384_i32_290 : BitVec 32 := 384#32
  let v462 : BitVec 32 := Scalar.muli v417 c384_i32_290
  v462
def k0_off4 (d0 : Dev nD) (c0_i32_254 : BitVec 32) (c0_i32_255 : BitVec 32) (c1_i32_256 : BitVec 32) : Fin 3 → Nat :=
  let c4_i32_257 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let v411 : BitVec 32 := Scalar.xori v400 c0_i32_254
  let v414 : BitVec 32 := Scalar.muli c4_i32_257 v411
  let c2_i32_258 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let v412 : BitVec 32 := Scalar.xori v403 c0_i32_255
  let v415 : BitVec 32 := Scalar.muli c2_i32_258 v412
  let v416 : BitVec 32 := Scalar.addi v414 v415
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let v413 : BitVec 32 := Scalar.xori v406 c1_i32_256
  let v417 : BitVec 32 := Scalar.addi v416 v413
  let c0_i32_297 : BitVec 32 := 0#32
  let c0_i32_298 : BitVec 32 := 0#32
  ![v417.toNat, 0, 0]
def k0_off4_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult27 (d0 : Dev nD) : BitVec 32 :=
  let c4_i32_262 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_259 : BitVec 32 := 0#32
  let v418 : BitVec 32 := Scalar.xori v400 c0_i32_259
  let v421 : BitVec 32 := Scalar.muli c4_i32_262 v418
  let c2_i32_263 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_260 : BitVec 32 := 1#32
  let v419 : BitVec 32 := Scalar.xori v403 c1_i32_260
  let v422 : BitVec 32 := Scalar.muli c2_i32_263 v419
  let v423 : BitVec 32 := Scalar.addi v421 v422
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_261 : BitVec 32 := 0#32
  let v420 : BitVec 32 := Scalar.xori v406 c0_i32_261
  let v424 : BitVec 32 := Scalar.addi v423 v420
  let c384_i32_306 : BitVec 32 := 384#32
  let v480 : BitVec 32 := Scalar.muli v424 c384_i32_306
  v480
def k0_mult28 (d0 : Dev nD) : BitVec 32 :=
  let c4_i32_267 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_264 : BitVec 32 := 0#32
  let v425 : BitVec 32 := Scalar.xori v400 c0_i32_264
  let v428 : BitVec 32 := Scalar.muli c4_i32_267 v425
  let c2_i32_268 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_265 : BitVec 32 := 1#32
  let v426 : BitVec 32 := Scalar.xori v403 c1_i32_265
  let v429 : BitVec 32 := Scalar.muli c2_i32_268 v426
  let v430 : BitVec 32 := Scalar.addi v428 v429
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_266 : BitVec 32 := 1#32
  let v427 : BitVec 32 := Scalar.xori v406 c1_i32_266
  let v431 : BitVec 32 := Scalar.addi v430 v427
  let c384_i32_322 : BitVec 32 := 384#32
  let v498 : BitVec 32 := Scalar.muli v431 c384_i32_322
  v498
def k0_mult29 (d0 : Dev nD) : BitVec 32 :=
  let c4_i32_272 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_269 : BitVec 32 := 1#32
  let v432 : BitVec 32 := Scalar.xori v400 c1_i32_269
  let v435 : BitVec 32 := Scalar.muli c4_i32_272 v432
  let c2_i32_273 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_270 : BitVec 32 := 0#32
  let v433 : BitVec 32 := Scalar.xori v403 c0_i32_270
  let v436 : BitVec 32 := Scalar.muli c2_i32_273 v433
  let v437 : BitVec 32 := Scalar.addi v435 v436
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_271 : BitVec 32 := 0#32
  let v434 : BitVec 32 := Scalar.xori v406 c0_i32_271
  let v438 : BitVec 32 := Scalar.addi v437 v434
  let c384_i32_338 : BitVec 32 := 384#32
  let v516 : BitVec 32 := Scalar.muli v438 c384_i32_338
  v516
def k0_mult30 (d0 : Dev nD) : BitVec 32 :=
  let c4_i32_277 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_274 : BitVec 32 := 1#32
  let v439 : BitVec 32 := Scalar.xori v400 c1_i32_274
  let v442 : BitVec 32 := Scalar.muli c4_i32_277 v439
  let c2_i32_278 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_275 : BitVec 32 := 0#32
  let v440 : BitVec 32 := Scalar.xori v403 c0_i32_275
  let v443 : BitVec 32 := Scalar.muli c2_i32_278 v440
  let v444 : BitVec 32 := Scalar.addi v442 v443
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_276 : BitVec 32 := 1#32
  let v441 : BitVec 32 := Scalar.xori v406 c1_i32_276
  let v445 : BitVec 32 := Scalar.addi v444 v441
  let c384_i32_354 : BitVec 32 := 384#32
  let v534 : BitVec 32 := Scalar.muli v445 c384_i32_354
  v534
def k0_mult31 (d0 : Dev nD) : BitVec 32 :=
  let c4_i32_282 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_279 : BitVec 32 := 1#32
  let v446 : BitVec 32 := Scalar.xori v400 c1_i32_279
  let v449 : BitVec 32 := Scalar.muli c4_i32_282 v446
  let c2_i32_283 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_280 : BitVec 32 := 1#32
  let v447 : BitVec 32 := Scalar.xori v403 c1_i32_280
  let v450 : BitVec 32 := Scalar.muli c2_i32_283 v447
  let v451 : BitVec 32 := Scalar.addi v449 v450
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_281 : BitVec 32 := 0#32
  let v448 : BitVec 32 := Scalar.xori v406 c0_i32_281
  let v452 : BitVec 32 := Scalar.addi v451 v448
  let c384_i32_370 : BitVec 32 := 384#32
  let v552 : BitVec 32 := Scalar.muli v452 c384_i32_370
  v552
def k0_mult32 (d0 : Dev nD) : BitVec 32 :=
  let c4_i32_287 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_284 : BitVec 32 := 1#32
  let v453 : BitVec 32 := Scalar.xori v400 c1_i32_284
  let v456 : BitVec 32 := Scalar.muli c4_i32_287 v453
  let c2_i32_288 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_285 : BitVec 32 := 1#32
  let v454 : BitVec 32 := Scalar.xori v403 c1_i32_285
  let v457 : BitVec 32 := Scalar.muli c2_i32_288 v454
  let v458 : BitVec 32 := Scalar.addi v456 v457
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_286 : BitVec 32 := 1#32
  let v455 : BitVec 32 := Scalar.xori v406 c1_i32_286
  let v459 : BitVec 32 := Scalar.addi v458 v455
  let c384_i32_386 : BitVec 32 := 384#32
  let v570 : BitVec 32 := Scalar.muli v459 c384_i32_386
  v570
def k0_mult33 (d0 : Dev nD) : BitVec 32 :=
  let c4_i32_252 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let v407 : BitVec 32 := Scalar.muli c4_i32_252 v400
  let c2_i32_253 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let v408 : BitVec 32 := Scalar.muli c2_i32_253 v403
  let v409 : BitVec 32 := Scalar.addi v407 v408
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let v410 : BitVec 32 := Scalar.addi v409 v406
  let c384_i32_406 : BitVec 32 := 384#32
  let v593 : BitVec 32 := Scalar.muli v410 c384_i32_406
  v593
def k0_mult34 (d0 : Dev nD) : BitVec 32 :=
  let c4_i32_257 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_254 : BitVec 32 := 0#32
  let v411 : BitVec 32 := Scalar.xori v400 c0_i32_254
  let v414 : BitVec 32 := Scalar.muli c4_i32_257 v411
  let c2_i32_258 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_255 : BitVec 32 := 0#32
  let v412 : BitVec 32 := Scalar.xori v403 c0_i32_255
  let v415 : BitVec 32 := Scalar.muli c2_i32_258 v412
  let v416 : BitVec 32 := Scalar.addi v414 v415
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_256 : BitVec 32 := 1#32
  let v413 : BitVec 32 := Scalar.xori v406 c1_i32_256
  let v417 : BitVec 32 := Scalar.addi v416 v413
  let c384_i32_407 : BitVec 32 := 384#32
  let v595 : BitVec 32 := Scalar.muli v417 c384_i32_407
  v595
def k0_mult35 (d0 : Dev nD) : BitVec 32 :=
  let c4_i32_262 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_259 : BitVec 32 := 0#32
  let v418 : BitVec 32 := Scalar.xori v400 c0_i32_259
  let v421 : BitVec 32 := Scalar.muli c4_i32_262 v418
  let c2_i32_263 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_260 : BitVec 32 := 1#32
  let v419 : BitVec 32 := Scalar.xori v403 c1_i32_260
  let v422 : BitVec 32 := Scalar.muli c2_i32_263 v419
  let v423 : BitVec 32 := Scalar.addi v421 v422
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_261 : BitVec 32 := 0#32
  let v420 : BitVec 32 := Scalar.xori v406 c0_i32_261
  let v424 : BitVec 32 := Scalar.addi v423 v420
  let c384_i32_423 : BitVec 32 := 384#32
  let v613 : BitVec 32 := Scalar.muli v424 c384_i32_423
  v613
def k0_mult36 (d0 : Dev nD) : BitVec 32 :=
  let c4_i32_267 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_264 : BitVec 32 := 0#32
  let v425 : BitVec 32 := Scalar.xori v400 c0_i32_264
  let v428 : BitVec 32 := Scalar.muli c4_i32_267 v425
  let c2_i32_268 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_265 : BitVec 32 := 1#32
  let v426 : BitVec 32 := Scalar.xori v403 c1_i32_265
  let v429 : BitVec 32 := Scalar.muli c2_i32_268 v426
  let v430 : BitVec 32 := Scalar.addi v428 v429
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_266 : BitVec 32 := 1#32
  let v427 : BitVec 32 := Scalar.xori v406 c1_i32_266
  let v431 : BitVec 32 := Scalar.addi v430 v427
  let c384_i32_439 : BitVec 32 := 384#32
  let v631 : BitVec 32 := Scalar.muli v431 c384_i32_439
  v631
def k0_mult37 (d0 : Dev nD) : BitVec 32 :=
  let c4_i32_272 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_269 : BitVec 32 := 1#32
  let v432 : BitVec 32 := Scalar.xori v400 c1_i32_269
  let v435 : BitVec 32 := Scalar.muli c4_i32_272 v432
  let c2_i32_273 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_270 : BitVec 32 := 0#32
  let v433 : BitVec 32 := Scalar.xori v403 c0_i32_270
  let v436 : BitVec 32 := Scalar.muli c2_i32_273 v433
  let v437 : BitVec 32 := Scalar.addi v435 v436
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_271 : BitVec 32 := 0#32
  let v434 : BitVec 32 := Scalar.xori v406 c0_i32_271
  let v438 : BitVec 32 := Scalar.addi v437 v434
  let c384_i32_455 : BitVec 32 := 384#32
  let v649 : BitVec 32 := Scalar.muli v438 c384_i32_455
  v649
def k0_mult38 (d0 : Dev nD) : BitVec 32 :=
  let c4_i32_277 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_274 : BitVec 32 := 1#32
  let v439 : BitVec 32 := Scalar.xori v400 c1_i32_274
  let v442 : BitVec 32 := Scalar.muli c4_i32_277 v439
  let c2_i32_278 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_275 : BitVec 32 := 0#32
  let v440 : BitVec 32 := Scalar.xori v403 c0_i32_275
  let v443 : BitVec 32 := Scalar.muli c2_i32_278 v440
  let v444 : BitVec 32 := Scalar.addi v442 v443
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_276 : BitVec 32 := 1#32
  let v441 : BitVec 32 := Scalar.xori v406 c1_i32_276
  let v445 : BitVec 32 := Scalar.addi v444 v441
  let c384_i32_471 : BitVec 32 := 384#32
  let v667 : BitVec 32 := Scalar.muli v445 c384_i32_471
  v667
def k0_mult39 (d0 : Dev nD) : BitVec 32 :=
  let c4_i32_282 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_279 : BitVec 32 := 1#32
  let v446 : BitVec 32 := Scalar.xori v400 c1_i32_279
  let v449 : BitVec 32 := Scalar.muli c4_i32_282 v446
  let c2_i32_283 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_280 : BitVec 32 := 1#32
  let v447 : BitVec 32 := Scalar.xori v403 c1_i32_280
  let v450 : BitVec 32 := Scalar.muli c2_i32_283 v447
  let v451 : BitVec 32 := Scalar.addi v449 v450
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_281 : BitVec 32 := 0#32
  let v448 : BitVec 32 := Scalar.xori v406 c0_i32_281
  let v452 : BitVec 32 := Scalar.addi v451 v448
  let c384_i32_487 : BitVec 32 := 384#32
  let v685 : BitVec 32 := Scalar.muli v452 c384_i32_487
  v685
def k0_mult40 (d0 : Dev nD) : BitVec 32 :=
  let c4_i32_287 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_284 : BitVec 32 := 1#32
  let v453 : BitVec 32 := Scalar.xori v400 c1_i32_284
  let v456 : BitVec 32 := Scalar.muli c4_i32_287 v453
  let c2_i32_288 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_285 : BitVec 32 := 1#32
  let v454 : BitVec 32 := Scalar.xori v403 c1_i32_285
  let v457 : BitVec 32 := Scalar.muli c2_i32_288 v454
  let v458 : BitVec 32 := Scalar.addi v456 v457
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_286 : BitVec 32 := 1#32
  let v455 : BitVec 32 := Scalar.xori v406 c1_i32_286
  let v459 : BitVec 32 := Scalar.addi v458 v455
  let c384_i32_503 : BitVec 32 := 384#32
  let v703 : BitVec 32 := Scalar.muli v459 c384_i32_503
  v703
def k0_mult41 (d0 : Dev nD) : BitVec 32 :=
  let c4_i32_252 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let v407 : BitVec 32 := Scalar.muli c4_i32_252 v400
  let c2_i32_253 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let v408 : BitVec 32 := Scalar.muli c2_i32_253 v403
  let v409 : BitVec 32 := Scalar.addi v407 v408
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let v410 : BitVec 32 := Scalar.addi v409 v406
  let c384_i32_523 : BitVec 32 := 384#32
  let v726 : BitVec 32 := Scalar.muli v410 c384_i32_523
  v726
def k0_mult42 (d0 : Dev nD) : BitVec 32 :=
  let c4_i32_257 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_254 : BitVec 32 := 0#32
  let v411 : BitVec 32 := Scalar.xori v400 c0_i32_254
  let v414 : BitVec 32 := Scalar.muli c4_i32_257 v411
  let c2_i32_258 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_255 : BitVec 32 := 0#32
  let v412 : BitVec 32 := Scalar.xori v403 c0_i32_255
  let v415 : BitVec 32 := Scalar.muli c2_i32_258 v412
  let v416 : BitVec 32 := Scalar.addi v414 v415
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_256 : BitVec 32 := 1#32
  let v413 : BitVec 32 := Scalar.xori v406 c1_i32_256
  let v417 : BitVec 32 := Scalar.addi v416 v413
  let c384_i32_524 : BitVec 32 := 384#32
  let v728 : BitVec 32 := Scalar.muli v417 c384_i32_524
  v728
def k0_mult43 (d0 : Dev nD) : BitVec 32 :=
  let c4_i32_262 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_259 : BitVec 32 := 0#32
  let v418 : BitVec 32 := Scalar.xori v400 c0_i32_259
  let v421 : BitVec 32 := Scalar.muli c4_i32_262 v418
  let c2_i32_263 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_260 : BitVec 32 := 1#32
  let v419 : BitVec 32 := Scalar.xori v403 c1_i32_260
  let v422 : BitVec 32 := Scalar.muli c2_i32_263 v419
  let v423 : BitVec 32 := Scalar.addi v421 v422
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_261 : BitVec 32 := 0#32
  let v420 : BitVec 32 := Scalar.xori v406 c0_i32_261
  let v424 : BitVec 32 := Scalar.addi v423 v420
  let c384_i32_540 : BitVec 32 := 384#32
  let v746 : BitVec 32 := Scalar.muli v424 c384_i32_540
  v746
def k0_mult44 (d0 : Dev nD) : BitVec 32 :=
  let c4_i32_267 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c0_i32_264 : BitVec 32 := 0#32
  let v425 : BitVec 32 := Scalar.xori v400 c0_i32_264
  let v428 : BitVec 32 := Scalar.muli c4_i32_267 v425
  let c2_i32_268 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_265 : BitVec 32 := 1#32
  let v426 : BitVec 32 := Scalar.xori v403 c1_i32_265
  let v429 : BitVec 32 := Scalar.muli c2_i32_268 v426
  let v430 : BitVec 32 := Scalar.addi v428 v429
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_266 : BitVec 32 := 1#32
  let v427 : BitVec 32 := Scalar.xori v406 c1_i32_266
  let v431 : BitVec 32 := Scalar.addi v430 v427
  let c384_i32_556 : BitVec 32 := 384#32
  let v764 : BitVec 32 := Scalar.muli v431 c384_i32_556
  v764
def k0_mult45 (d0 : Dev nD) : BitVec 32 :=
  let c4_i32_272 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_269 : BitVec 32 := 1#32
  let v432 : BitVec 32 := Scalar.xori v400 c1_i32_269
  let v435 : BitVec 32 := Scalar.muli c4_i32_272 v432
  let c2_i32_273 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_270 : BitVec 32 := 0#32
  let v433 : BitVec 32 := Scalar.xori v403 c0_i32_270
  let v436 : BitVec 32 := Scalar.muli c2_i32_273 v433
  let v437 : BitVec 32 := Scalar.addi v435 v436
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_271 : BitVec 32 := 0#32
  let v434 : BitVec 32 := Scalar.xori v406 c0_i32_271
  let v438 : BitVec 32 := Scalar.addi v437 v434
  let c384_i32_572 : BitVec 32 := 384#32
  let v782 : BitVec 32 := Scalar.muli v438 c384_i32_572
  v782
def k0_mult46 (d0 : Dev nD) : BitVec 32 :=
  let c4_i32_277 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_274 : BitVec 32 := 1#32
  let v439 : BitVec 32 := Scalar.xori v400 c1_i32_274
  let v442 : BitVec 32 := Scalar.muli c4_i32_277 v439
  let c2_i32_278 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c0_i32_275 : BitVec 32 := 0#32
  let v440 : BitVec 32 := Scalar.xori v403 c0_i32_275
  let v443 : BitVec 32 := Scalar.muli c2_i32_278 v440
  let v444 : BitVec 32 := Scalar.addi v442 v443
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_276 : BitVec 32 := 1#32
  let v441 : BitVec 32 := Scalar.xori v406 c1_i32_276
  let v445 : BitVec 32 := Scalar.addi v444 v441
  let c384_i32_588 : BitVec 32 := 384#32
  let v800 : BitVec 32 := Scalar.muli v445 c384_i32_588
  v800
def k0_mult47 (d0 : Dev nD) : BitVec 32 :=
  let c4_i32_282 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_279 : BitVec 32 := 1#32
  let v446 : BitVec 32 := Scalar.xori v400 c1_i32_279
  let v449 : BitVec 32 := Scalar.muli c4_i32_282 v446
  let c2_i32_283 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_280 : BitVec 32 := 1#32
  let v447 : BitVec 32 := Scalar.xori v403 c1_i32_280
  let v450 : BitVec 32 := Scalar.muli c2_i32_283 v447
  let v451 : BitVec 32 := Scalar.addi v449 v450
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c0_i32_281 : BitVec 32 := 0#32
  let v448 : BitVec 32 := Scalar.xori v406 c0_i32_281
  let v452 : BitVec 32 := Scalar.addi v451 v448
  let c384_i32_604 : BitVec 32 := 384#32
  let v818 : BitVec 32 := Scalar.muli v452 c384_i32_604
  v818
def k0_mult48 (d0 : Dev nD) : BitVec 32 :=
  let c4_i32_287 : BitVec 32 := 4#32
  let v398 : BitVec 32 := Dev.word d0
  let c4_i32_247 : BitVec 32 := 4#32
  let v399 : BitVec 32 := Scalar.divsi v398 c4_i32_247
  let c2_i32_246 : BitVec 32 := 2#32
  let v400 : BitVec 32 := Scalar.remsi v399 c2_i32_246
  let c1_i32_284 : BitVec 32 := 1#32
  let v453 : BitVec 32 := Scalar.xori v400 c1_i32_284
  let v456 : BitVec 32 := Scalar.muli c4_i32_287 v453
  let c2_i32_288 : BitVec 32 := 2#32
  let v401 : BitVec 32 := Dev.word d0
  let c2_i32_249 : BitVec 32 := 2#32
  let v402 : BitVec 32 := Scalar.divsi v401 c2_i32_249
  let c2_i32_248 : BitVec 32 := 2#32
  let v403 : BitVec 32 := Scalar.remsi v402 c2_i32_248
  let c1_i32_285 : BitVec 32 := 1#32
  let v454 : BitVec 32 := Scalar.xori v403 c1_i32_285
  let v457 : BitVec 32 := Scalar.muli c2_i32_288 v454
  let v458 : BitVec 32 := Scalar.addi v456 v457
  let v404 : BitVec 32 := Dev.word d0
  let c1_i32_251 : BitVec 32 := 1#32
  let v405 : BitVec 32 := Scalar.divsi v404 c1_i32_251
  let c2_i32_250 : BitVec 32 := 2#32
  let v406 : BitVec 32 := Scalar.remsi v405 c2_i32_250
  let c1_i32_286 : BitVec 32 := 1#32
  let v455 : BitVec 32 := Scalar.xori v406 c1_i32_286
  let v459 : BitVec 32 := Scalar.addi v458 v455
  let c384_i32_620 : BitVec 32 := 384#32
  let v836 : BitVec 32 := Scalar.muli v459 c384_i32_620
  v836
-- ==== Reference.lean ====
abbrev S24576x1024 : Shape := ⟨2, ![24576, 1024]⟩
abbrev S8x3072x1024 : Shape := ⟨3, ![8, 3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S24576x1024, .bf16⟩
  | .hbm, ⟨2, _⟩ => ⟨S24576x1024, .bf16⟩
  | .hbm, ⟨3, _⟩ => ⟨S8x3072x1024, .bf16⟩
  | .hbm, ⟨4, _⟩ => ⟨S8x3072x1024, .bf16⟩
  | .hbm, ⟨5, _⟩ => ⟨S8x3072x1024, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GatherFfn.lean ====
abbrev S384x1024 : Shape := ⟨2, ![384, 1024]⟩
abbrev S3072x1024 : Shape := ⟨2, ![3072, 1024]⟩
abbrev S21 : Shape := ⟨1, ![21]⟩
abbrev S3 : Shape := ⟨1, ![3]⟩
abbrev S1 : Shape := ⟨1, ![1]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S384x1024, .bf16⟩
  | .hbm, ⟨1, _⟩ => ⟨S384x1024, .bf16⟩
  | .hbm, ⟨2, _⟩ => ⟨S384x1024, .bf16⟩
  | .hbm, ⟨3, _⟩ => ⟨S3072x1024, .bf16⟩
  | .hbm, ⟨4, _⟩ => ⟨S3072x1024, .bf16⟩
  | .hbm, ⟨5, _⟩ => ⟨S3072x1024, .bf16⟩
  | _, _ => ⟨S384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v34 : BitVec 32 := Scalar.muli v12 c384_i32
  v34
def k0_off1 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v34 : BitVec 32 := Scalar.muli v12 c384_i32
  let v35 : BitVec 32 := v34
  let c0_i32_26 : BitVec 32 := 0#32
  ![v35.toNat, 0]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_27 : BitVec 32 := 384#32
  let v39 : BitVec 32 := Scalar.muli v12 c384_i32_27
  v39
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v41 : BitVec 32 := Scalar.muli v13 c4_i32_30
  let v42 : BitVec 32 := Scalar.addi c0_i32_31 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v43 : BitVec 32 := Scalar.muli v14 c2_i32_32
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v45 : BitVec 32 := Scalar.muli v15 c1_i32_33
  let v46 : BitVec 32 := Scalar.addi v44 v45
  v46.toNat
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_35 : BitVec 32 := 384#32
  let v52 : BitVec 32 := Scalar.muli v12 c384_i32_35
  v52
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v54 : BitVec 32 := Scalar.muli v16 c4_i32_38
  let v55 : BitVec 32 := Scalar.addi c0_i32_39 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v56 : BitVec 32 := Scalar.muli v17 c2_i32_40
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v58 : BitVec 32 := Scalar.muli v18 c1_i32_41
  let v59 : BitVec 32 := Scalar.addi v57 v58
  v59.toNat
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_43 : BitVec 32 := 384#32
  let v65 : BitVec 32 := Scalar.muli v12 c384_i32_43
  v65
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v67 : BitVec 32 := Scalar.muli v19 c4_i32_46
  let v68 : BitVec 32 := Scalar.addi c0_i32_47 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v69 : BitVec 32 := Scalar.muli v20 c2_i32_48
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v71 : BitVec 32 := Scalar.muli v21 c1_i32_49
  let v72 : BitVec 32 := Scalar.addi v70 v71
  v72.toNat
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_51 : BitVec 32 := 384#32
  let v78 : BitVec 32 := Scalar.muli v12 c384_i32_51
  v78
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v80 : BitVec 32 := Scalar.muli v22 c4_i32_53
  let v81 : BitVec 32 := Scalar.addi c0_i32_54 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v82 : BitVec 32 := Scalar.muli v23 c2_i32_55
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v84 : BitVec 32 := Scalar.muli v24 c1_i32_56
  let v85 : BitVec 32 := Scalar.addi v83 v84
  v85.toNat
def k0_mult6 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_58 : BitVec 32 := 384#32
  let v91 : BitVec 32 := Scalar.muli v12 c384_i32_58
  v91
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v93 : BitVec 32 := Scalar.muli v25 c4_i32_61
  let v94 : BitVec 32 := Scalar.addi c0_i32_62 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v95 : BitVec 32 := Scalar.muli v26 c2_i32_63
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v97 : BitVec 32 := Scalar.muli v27 c1_i32_64
  let v98 : BitVec 32 := Scalar.addi v96 v97
  v98.toNat
def k0_mult7 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_66 : BitVec 32 := 384#32
  let v104 : BitVec 32 := Scalar.muli v12 c384_i32_66
  v104
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v106 : BitVec 32 := Scalar.muli v28 c4_i32_68
  let v107 : BitVec 32 := Scalar.addi c0_i32_69 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v108 : BitVec 32 := Scalar.muli v29 c2_i32_70
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v110 : BitVec 32 := Scalar.muli v30 c1_i32_71
  let v111 : BitVec 32 := Scalar.addi v109 v110
  v111.toNat
def k0_mult8 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_73 : BitVec 32 := 384#32
  let v117 : BitVec 32 := Scalar.muli v12 c384_i32_73
  v117
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v119 : BitVec 32 := Scalar.muli v31 c4_i32_75
  let v120 : BitVec 32 := Scalar.addi c0_i32_76 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v121 : BitVec 32 := Scalar.muli v32 c2_i32_77
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v123 : BitVec 32 := Scalar.muli v33 c1_i32_78
  let v124 : BitVec 32 := Scalar.addi v122 v123
  v124.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_80 : BitVec 32 := 384#32
  let v130 : BitVec 32 := Scalar.muli v12 c384_i32_80
  v130
def k0_mult10 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_83 : BitVec 32 := 384#32
  let v135 : BitVec 32 := Scalar.muli v12 c384_i32_83
  v135
def k0_dev8 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_85 : BitVec 32 := 4#32
  let v137 : BitVec 32 := Scalar.muli v13 c4_i32_85
  let v138 : BitVec 32 := Scalar.addi c0_i32_86 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_87 : BitVec 32 := 2#32
  let v139 : BitVec 32 := Scalar.muli v14 c2_i32_87
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_88 : BitVec 32 := 1#32
  let v141 : BitVec 32 := Scalar.muli v15 c1_i32_88
  let v142 : BitVec 32 := Scalar.addi v140 v141
  v142.toNat
def k0_mult11 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_90 : BitVec 32 := 384#32
  let v148 : BitVec 32 := Scalar.muli v12 c384_i32_90
  v148
def k0_dev9 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_92 : BitVec 32 := 4#32
  let v150 : BitVec 32 := Scalar.muli v16 c4_i32_92
  let v151 : BitVec 32 := Scalar.addi c0_i32_93 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_94 : BitVec 32 := 2#32
  let v152 : BitVec 32 := Scalar.muli v17 c2_i32_94
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_95 : BitVec 32 := 1#32
  let v154 : BitVec 32 := Scalar.muli v18 c1_i32_95
  let v155 : BitVec 32 := Scalar.addi v153 v154
  v155.toNat
def k0_mult12 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_97 : BitVec 32 := 384#32
  let v161 : BitVec 32 := Scalar.muli v12 c384_i32_97
  v161
def k0_dev10 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_99 : BitVec 32 := 4#32
  let v163 : BitVec 32 := Scalar.muli v19 c4_i32_99
  let v164 : BitVec 32 := Scalar.addi c0_i32_100 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_101 : BitVec 32 := 2#32
  let v165 : BitVec 32 := Scalar.muli v20 c2_i32_101
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_102 : BitVec 32 := 1#32
  let v167 : BitVec 32 := Scalar.muli v21 c1_i32_102
  let v168 : BitVec 32 := Scalar.addi v166 v167
  v168.toNat
def k0_mult13 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_104 : BitVec 32 := 384#32
  let v174 : BitVec 32 := Scalar.muli v12 c384_i32_104
  v174
def k0_dev11 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_106 : BitVec 32 := 4#32
  let v176 : BitVec 32 := Scalar.muli v22 c4_i32_106
  let v177 : BitVec 32 := Scalar.addi c0_i32_107 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_108 : BitVec 32 := 2#32
  let v178 : BitVec 32 := Scalar.muli v23 c2_i32_108
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_109 : BitVec 32 := 1#32
  let v180 : BitVec 32 := Scalar.muli v24 c1_i32_109
  let v181 : BitVec 32 := Scalar.addi v179 v180
  v181.toNat
def k0_mult14 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_111 : BitVec 32 := 384#32
  let v187 : BitVec 32 := Scalar.muli v12 c384_i32_111
  v187
def k0_dev12 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_113 : BitVec 32 := 4#32
  let v189 : BitVec 32 := Scalar.muli v25 c4_i32_113
  let v190 : BitVec 32 := Scalar.addi c0_i32_114 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_115 : BitVec 32 := 2#32
  let v191 : BitVec 32 := Scalar.muli v26 c2_i32_115
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_116 : BitVec 32 := 1#32
  let v193 : BitVec 32 := Scalar.muli v27 c1_i32_116
  let v194 : BitVec 32 := Scalar.addi v192 v193
  v194.toNat
def k0_mult15 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_118 : BitVec 32 := 384#32
  let v200 : BitVec 32 := Scalar.muli v12 c384_i32_118
  v200
def k0_dev13 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_120 : BitVec 32 := 4#32
  let v202 : BitVec 32 := Scalar.muli v28 c4_i32_120
  let v203 : BitVec 32 := Scalar.addi c0_i32_121 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_122 : BitVec 32 := 2#32
  let v204 : BitVec 32 := Scalar.muli v29 c2_i32_122
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_123 : BitVec 32 := 1#32
  let v206 : BitVec 32 := Scalar.muli v30 c1_i32_123
  let v207 : BitVec 32 := Scalar.addi v205 v206
  v207.toNat
def k0_mult16 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_125 : BitVec 32 := 384#32
  let v213 : BitVec 32 := Scalar.muli v12 c384_i32_125
  v213
def k0_dev14 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_127 : BitVec 32 := 4#32
  let v215 : BitVec 32 := Scalar.muli v31 c4_i32_127
  let v216 : BitVec 32 := Scalar.addi c0_i32_128 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_129 : BitVec 32 := 2#32
  let v217 : BitVec 32 := Scalar.muli v32 c2_i32_129
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_130 : BitVec 32 := 1#32
  let v219 : BitVec 32 := Scalar.muli v33 c1_i32_130
  let v220 : BitVec 32 := Scalar.addi v218 v219
  v220.toNat
def k0_mult17 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_132 : BitVec 32 := 384#32
  let v226 : BitVec 32 := Scalar.muli v12 c384_i32_132
  v226
def k0_mult18 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_135 : BitVec 32 := 384#32
  let v231 : BitVec 32 := Scalar.muli v12 c384_i32_135
  v231
def k0_dev15 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_137 : BitVec 32 := 4#32
  let v233 : BitVec 32 := Scalar.muli v13 c4_i32_137
  let v234 : BitVec 32 := Scalar.addi c0_i32_138 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_139 : BitVec 32 := 2#32
  let v235 : BitVec 32 := Scalar.muli v14 c2_i32_139
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_140 : BitVec 32 := 1#32
  let v237 : BitVec 32 := Scalar.muli v15 c1_i32_140
  let v238 : BitVec 32 := Scalar.addi v236 v237
  v238.toNat
def k0_mult19 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_142 : BitVec 32 := 384#32
  let v244 : BitVec 32 := Scalar.muli v12 c384_i32_142
  v244
def k0_dev16 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_144 : BitVec 32 := 4#32
  let v246 : BitVec 32 := Scalar.muli v16 c4_i32_144
  let v247 : BitVec 32 := Scalar.addi c0_i32_145 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_146 : BitVec 32 := 2#32
  let v248 : BitVec 32 := Scalar.muli v17 c2_i32_146
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_147 : BitVec 32 := 1#32
  let v250 : BitVec 32 := Scalar.muli v18 c1_i32_147
  let v251 : BitVec 32 := Scalar.addi v249 v250
  v251.toNat
def k0_mult20 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_149 : BitVec 32 := 384#32
  let v257 : BitVec 32 := Scalar.muli v12 c384_i32_149
  v257
def k0_dev17 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_151 : BitVec 32 := 4#32
  let v259 : BitVec 32 := Scalar.muli v19 c4_i32_151
  let v260 : BitVec 32 := Scalar.addi c0_i32_152 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_153 : BitVec 32 := 2#32
  let v261 : BitVec 32 := Scalar.muli v20 c2_i32_153
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_154 : BitVec 32 := 1#32
  let v263 : BitVec 32 := Scalar.muli v21 c1_i32_154
  let v264 : BitVec 32 := Scalar.addi v262 v263
  v264.toNat
def k0_mult21 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_156 : BitVec 32 := 384#32
  let v270 : BitVec 32 := Scalar.muli v12 c384_i32_156
  v270
def k0_dev18 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_158 : BitVec 32 := 4#32
  let v272 : BitVec 32 := Scalar.muli v22 c4_i32_158
  let v273 : BitVec 32 := Scalar.addi c0_i32_159 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_160 : BitVec 32 := 2#32
  let v274 : BitVec 32 := Scalar.muli v23 c2_i32_160
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_161 : BitVec 32 := 1#32
  let v276 : BitVec 32 := Scalar.muli v24 c1_i32_161
  let v277 : BitVec 32 := Scalar.addi v275 v276
  v277.toNat
def k0_mult22 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_163 : BitVec 32 := 384#32
  let v283 : BitVec 32 := Scalar.muli v12 c384_i32_163
  v283
def k0_dev19 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_165 : BitVec 32 := 4#32
  let v285 : BitVec 32 := Scalar.muli v25 c4_i32_165
  let v286 : BitVec 32 := Scalar.addi c0_i32_166 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_167 : BitVec 32 := 2#32
  let v287 : BitVec 32 := Scalar.muli v26 c2_i32_167
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_168 : BitVec 32 := 1#32
  let v289 : BitVec 32 := Scalar.muli v27 c1_i32_168
  let v290 : BitVec 32 := Scalar.addi v288 v289
  v290.toNat
def k0_mult23 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_170 : BitVec 32 := 384#32
  let v296 : BitVec 32 := Scalar.muli v12 c384_i32_170
  v296
def k0_dev20 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_172 : BitVec 32 := 4#32
  let v298 : BitVec 32 := Scalar.muli v28 c4_i32_172
  let v299 : BitVec 32 := Scalar.addi c0_i32_173 v298
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_174 : BitVec 32 := 2#32
  let v300 : BitVec 32 := Scalar.muli v29 c2_i32_174
  let v301 : BitVec 32 := Scalar.addi v299 v300
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_175 : BitVec 32 := 1#32
  let v302 : BitVec 32 := Scalar.muli v30 c1_i32_175
  let v303 : BitVec 32 := Scalar.addi v301 v302
  v303.toNat
def k0_mult24 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_177 : BitVec 32 := 384#32
  let v309 : BitVec 32 := Scalar.muli v12 c384_i32_177
  v309
def k0_dev21 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_179 : BitVec 32 := 4#32
  let v311 : BitVec 32 := Scalar.muli v31 c4_i32_179
  let v312 : BitVec 32 := Scalar.addi c0_i32_180 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_181 : BitVec 32 := 2#32
  let v313 : BitVec 32 := Scalar.muli v32 c2_i32_181
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_182 : BitVec 32 := 1#32
  let v315 : BitVec 32 := Scalar.muli v33 c1_i32_182
  let v316 : BitVec 32 := Scalar.addi v314 v315
  v316.toNat
def k0_mult25 (d0 : Dev nD) : BitVec 32 :=
  let c4_i32_190 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let v331 : BitVec 32 := Scalar.muli c4_i32_190 v324
  let c2_i32_191 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let v332 : BitVec 32 := Scalar.muli c2_i32_191 v327
  let v333 : BitVec 32 := Scalar.addi v331 v332
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let v334 : BitVec 32 := Scalar.addi v333 v330
  let c384_i32_227 : BitVec 32 := 384#32
  let v384 : BitVec 32 := Scalar.muli v334 c384_i32_227
  v384
def k0_mult26 (d0 : Dev nD) : BitVec 32 :=
  let c4_i32_195 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_192 : BitVec 32 := 0#32
  let v335 : BitVec 32 := Scalar.xori v324 c0_i32_192
  let v338 : BitVec 32 := Scalar.muli c4_i32_195 v335
  let c2_i32_196 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_193 : BitVec 32 := 0#32
  let v336 : BitVec 32 := Scalar.xori v327 c0_i32_193
  let v339 : BitVec 32 := Scalar.muli c2_i32_196 v336
  let v340 : BitVec 32 := Scalar.addi v338 v339
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_194 : BitVec 32 := 1#32
  let v337 : BitVec 32 := Scalar.xori v330 c1_i32_194
  let v341 : BitVec 32 := Scalar.addi v340 v337
  let c384_i32_228 : BitVec 32 := 384#32
  let v386 : BitVec 32 := Scalar.muli v341 c384_i32_228
  v386
def k0_off2 (d0 : Dev nD) (c0_i32_192 : BitVec 32) (c0_i32_193 : BitVec 32) (c1_i32_194 : BitVec 32) : Fin 2 → Nat :=
  let c4_i32_195 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let v335 : BitVec 32 := Scalar.xori v324 c0_i32_192
  let v338 : BitVec 32 := Scalar.muli c4_i32_195 v335
  let c2_i32_196 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let v336 : BitVec 32 := Scalar.xori v327 c0_i32_193
  let v339 : BitVec 32 := Scalar.muli c2_i32_196 v336
  let v340 : BitVec 32 := Scalar.addi v338 v339
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let v337 : BitVec 32 := Scalar.xori v330 c1_i32_194
  let v341 : BitVec 32 := Scalar.addi v340 v337
  let c384_i32_228 : BitVec 32 := 384#32
  let v386 : BitVec 32 := Scalar.muli v341 c384_i32_228
  let v387 : BitVec 32 := v386
  let c0_i32_235 : BitVec 32 := 0#32
  ![v387.toNat, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult27 (d0 : Dev nD) : BitVec 32 :=
  let c4_i32_200 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_197 : BitVec 32 := 0#32
  let v342 : BitVec 32 := Scalar.xori v324 c0_i32_197
  let v345 : BitVec 32 := Scalar.muli c4_i32_200 v342
  let c2_i32_201 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_198 : BitVec 32 := 1#32
  let v343 : BitVec 32 := Scalar.xori v327 c1_i32_198
  let v346 : BitVec 32 := Scalar.muli c2_i32_201 v343
  let v347 : BitVec 32 := Scalar.addi v345 v346
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_199 : BitVec 32 := 0#32
  let v344 : BitVec 32 := Scalar.xori v330 c0_i32_199
  let v348 : BitVec 32 := Scalar.addi v347 v344
  let c384_i32_240 : BitVec 32 := 384#32
  let v400 : BitVec 32 := Scalar.muli v348 c384_i32_240
  v400
def k0_mult28 (d0 : Dev nD) : BitVec 32 :=
  let c4_i32_205 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_202 : BitVec 32 := 0#32
  let v349 : BitVec 32 := Scalar.xori v324 c0_i32_202
  let v352 : BitVec 32 := Scalar.muli c4_i32_205 v349
  let c2_i32_206 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_203 : BitVec 32 := 1#32
  let v350 : BitVec 32 := Scalar.xori v327 c1_i32_203
  let v353 : BitVec 32 := Scalar.muli c2_i32_206 v350
  let v354 : BitVec 32 := Scalar.addi v352 v353
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_204 : BitVec 32 := 1#32
  let v351 : BitVec 32 := Scalar.xori v330 c1_i32_204
  let v355 : BitVec 32 := Scalar.addi v354 v351
  let c384_i32_252 : BitVec 32 := 384#32
  let v414 : BitVec 32 := Scalar.muli v355 c384_i32_252
  v414
def k0_mult29 (d0 : Dev nD) : BitVec 32 :=
  let c4_i32_210 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_207 : BitVec 32 := 1#32
  let v356 : BitVec 32 := Scalar.xori v324 c1_i32_207
  let v359 : BitVec 32 := Scalar.muli c4_i32_210 v356
  let c2_i32_211 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_208 : BitVec 32 := 0#32
  let v357 : BitVec 32 := Scalar.xori v327 c0_i32_208
  let v360 : BitVec 32 := Scalar.muli c2_i32_211 v357
  let v361 : BitVec 32 := Scalar.addi v359 v360
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_209 : BitVec 32 := 0#32
  let v358 : BitVec 32 := Scalar.xori v330 c0_i32_209
  let v362 : BitVec 32 := Scalar.addi v361 v358
  let c384_i32_264 : BitVec 32 := 384#32
  let v428 : BitVec 32 := Scalar.muli v362 c384_i32_264
  v428
def k0_mult30 (d0 : Dev nD) : BitVec 32 :=
  let c4_i32_215 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_212 : BitVec 32 := 1#32
  let v363 : BitVec 32 := Scalar.xori v324 c1_i32_212
  let v366 : BitVec 32 := Scalar.muli c4_i32_215 v363
  let c2_i32_216 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_213 : BitVec 32 := 0#32
  let v364 : BitVec 32 := Scalar.xori v327 c0_i32_213
  let v367 : BitVec 32 := Scalar.muli c2_i32_216 v364
  let v368 : BitVec 32 := Scalar.addi v366 v367
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_214 : BitVec 32 := 1#32
  let v365 : BitVec 32 := Scalar.xori v330 c1_i32_214
  let v369 : BitVec 32 := Scalar.addi v368 v365
  let c384_i32_276 : BitVec 32 := 384#32
  let v442 : BitVec 32 := Scalar.muli v369 c384_i32_276
  v442
def k0_mult31 (d0 : Dev nD) : BitVec 32 :=
  let c4_i32_220 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_217 : BitVec 32 := 1#32
  let v370 : BitVec 32 := Scalar.xori v324 c1_i32_217
  let v373 : BitVec 32 := Scalar.muli c4_i32_220 v370
  let c2_i32_221 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_218 : BitVec 32 := 1#32
  let v371 : BitVec 32 := Scalar.xori v327 c1_i32_218
  let v374 : BitVec 32 := Scalar.muli c2_i32_221 v371
  let v375 : BitVec 32 := Scalar.addi v373 v374
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_219 : BitVec 32 := 0#32
  let v372 : BitVec 32 := Scalar.xori v330 c0_i32_219
  let v376 : BitVec 32 := Scalar.addi v375 v372
  let c384_i32_288 : BitVec 32 := 384#32
  let v456 : BitVec 32 := Scalar.muli v376 c384_i32_288
  v456
def k0_mult32 (d0 : Dev nD) : BitVec 32 :=
  let c4_i32_225 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_222 : BitVec 32 := 1#32
  let v377 : BitVec 32 := Scalar.xori v324 c1_i32_222
  let v380 : BitVec 32 := Scalar.muli c4_i32_225 v377
  let c2_i32_226 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_223 : BitVec 32 := 1#32
  let v378 : BitVec 32 := Scalar.xori v327 c1_i32_223
  let v381 : BitVec 32 := Scalar.muli c2_i32_226 v378
  let v382 : BitVec 32 := Scalar.addi v380 v381
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_224 : BitVec 32 := 1#32
  let v379 : BitVec 32 := Scalar.xori v330 c1_i32_224
  let v383 : BitVec 32 := Scalar.addi v382 v379
  let c384_i32_300 : BitVec 32 := 384#32
  let v470 : BitVec 32 := Scalar.muli v383 c384_i32_300
  v470
def k0_mult33 (d0 : Dev nD) : BitVec 32 :=
  let c4_i32_190 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let v331 : BitVec 32 := Scalar.muli c4_i32_190 v324
  let c2_i32_191 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let v332 : BitVec 32 := Scalar.muli c2_i32_191 v327
  let v333 : BitVec 32 := Scalar.addi v331 v332
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let v334 : BitVec 32 := Scalar.addi v333 v330
  let c384_i32_314 : BitVec 32 := 384#32
  let v487 : BitVec 32 := Scalar.muli v334 c384_i32_314
  v487
def k0_mult34 (d0 : Dev nD) : BitVec 32 :=
  let c4_i32_195 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_192 : BitVec 32 := 0#32
  let v335 : BitVec 32 := Scalar.xori v324 c0_i32_192
  let v338 : BitVec 32 := Scalar.muli c4_i32_195 v335
  let c2_i32_196 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_193 : BitVec 32 := 0#32
  let v336 : BitVec 32 := Scalar.xori v327 c0_i32_193
  let v339 : BitVec 32 := Scalar.muli c2_i32_196 v336
  let v340 : BitVec 32 := Scalar.addi v338 v339
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_194 : BitVec 32 := 1#32
  let v337 : BitVec 32 := Scalar.xori v330 c1_i32_194
  let v341 : BitVec 32 := Scalar.addi v340 v337
  let c384_i32_315 : BitVec 32 := 384#32
  let v489 : BitVec 32 := Scalar.muli v341 c384_i32_315
  v489
def k0_mult35 (d0 : Dev nD) : BitVec 32 :=
  let c4_i32_200 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_197 : BitVec 32 := 0#32
  let v342 : BitVec 32 := Scalar.xori v324 c0_i32_197
  let v345 : BitVec 32 := Scalar.muli c4_i32_200 v342
  let c2_i32_201 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_198 : BitVec 32 := 1#32
  let v343 : BitVec 32 := Scalar.xori v327 c1_i32_198
  let v346 : BitVec 32 := Scalar.muli c2_i32_201 v343
  let v347 : BitVec 32 := Scalar.addi v345 v346
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_199 : BitVec 32 := 0#32
  let v344 : BitVec 32 := Scalar.xori v330 c0_i32_199
  let v348 : BitVec 32 := Scalar.addi v347 v344
  let c384_i32_327 : BitVec 32 := 384#32
  let v503 : BitVec 32 := Scalar.muli v348 c384_i32_327
  v503
def k0_mult36 (d0 : Dev nD) : BitVec 32 :=
  let c4_i32_205 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_202 : BitVec 32 := 0#32
  let v349 : BitVec 32 := Scalar.xori v324 c0_i32_202
  let v352 : BitVec 32 := Scalar.muli c4_i32_205 v349
  let c2_i32_206 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_203 : BitVec 32 := 1#32
  let v350 : BitVec 32 := Scalar.xori v327 c1_i32_203
  let v353 : BitVec 32 := Scalar.muli c2_i32_206 v350
  let v354 : BitVec 32 := Scalar.addi v352 v353
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_204 : BitVec 32 := 1#32
  let v351 : BitVec 32 := Scalar.xori v330 c1_i32_204
  let v355 : BitVec 32 := Scalar.addi v354 v351
  let c384_i32_339 : BitVec 32 := 384#32
  let v517 : BitVec 32 := Scalar.muli v355 c384_i32_339
  v517
def k0_mult37 (d0 : Dev nD) : BitVec 32 :=
  let c4_i32_210 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_207 : BitVec 32 := 1#32
  let v356 : BitVec 32 := Scalar.xori v324 c1_i32_207
  let v359 : BitVec 32 := Scalar.muli c4_i32_210 v356
  let c2_i32_211 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_208 : BitVec 32 := 0#32
  let v357 : BitVec 32 := Scalar.xori v327 c0_i32_208
  let v360 : BitVec 32 := Scalar.muli c2_i32_211 v357
  let v361 : BitVec 32 := Scalar.addi v359 v360
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_209 : BitVec 32 := 0#32
  let v358 : BitVec 32 := Scalar.xori v330 c0_i32_209
  let v362 : BitVec 32 := Scalar.addi v361 v358
  let c384_i32_351 : BitVec 32 := 384#32
  let v531 : BitVec 32 := Scalar.muli v362 c384_i32_351
  v531
def k0_mult38 (d0 : Dev nD) : BitVec 32 :=
  let c4_i32_215 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_212 : BitVec 32 := 1#32
  let v363 : BitVec 32 := Scalar.xori v324 c1_i32_212
  let v366 : BitVec 32 := Scalar.muli c4_i32_215 v363
  let c2_i32_216 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_213 : BitVec 32 := 0#32
  let v364 : BitVec 32 := Scalar.xori v327 c0_i32_213
  let v367 : BitVec 32 := Scalar.muli c2_i32_216 v364
  let v368 : BitVec 32 := Scalar.addi v366 v367
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_214 : BitVec 32 := 1#32
  let v365 : BitVec 32 := Scalar.xori v330 c1_i32_214
  let v369 : BitVec 32 := Scalar.addi v368 v365
  let c384_i32_363 : BitVec 32 := 384#32
  let v545 : BitVec 32 := Scalar.muli v369 c384_i32_363
  v545
def k0_mult39 (d0 : Dev nD) : BitVec 32 :=
  let c4_i32_220 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_217 : BitVec 32 := 1#32
  let v370 : BitVec 32 := Scalar.xori v324 c1_i32_217
  let v373 : BitVec 32 := Scalar.muli c4_i32_220 v370
  let c2_i32_221 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_218 : BitVec 32 := 1#32
  let v371 : BitVec 32 := Scalar.xori v327 c1_i32_218
  let v374 : BitVec 32 := Scalar.muli c2_i32_221 v371
  let v375 : BitVec 32 := Scalar.addi v373 v374
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_219 : BitVec 32 := 0#32
  let v372 : BitVec 32 := Scalar.xori v330 c0_i32_219
  let v376 : BitVec 32 := Scalar.addi v375 v372
  let c384_i32_375 : BitVec 32 := 384#32
  let v559 : BitVec 32 := Scalar.muli v376 c384_i32_375
  v559
def k0_mult40 (d0 : Dev nD) : BitVec 32 :=
  let c4_i32_225 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_222 : BitVec 32 := 1#32
  let v377 : BitVec 32 := Scalar.xori v324 c1_i32_222
  let v380 : BitVec 32 := Scalar.muli c4_i32_225 v377
  let c2_i32_226 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_223 : BitVec 32 := 1#32
  let v378 : BitVec 32 := Scalar.xori v327 c1_i32_223
  let v381 : BitVec 32 := Scalar.muli c2_i32_226 v378
  let v382 : BitVec 32 := Scalar.addi v380 v381
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_224 : BitVec 32 := 1#32
  let v379 : BitVec 32 := Scalar.xori v330 c1_i32_224
  let v383 : BitVec 32 := Scalar.addi v382 v379
  let c384_i32_387 : BitVec 32 := 384#32
  let v573 : BitVec 32 := Scalar.muli v383 c384_i32_387
  v573
def k0_mult41 (d0 : Dev nD) : BitVec 32 :=
  let c4_i32_190 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let v331 : BitVec 32 := Scalar.muli c4_i32_190 v324
  let c2_i32_191 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let v332 : BitVec 32 := Scalar.muli c2_i32_191 v327
  let v333 : BitVec 32 := Scalar.addi v331 v332
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let v334 : BitVec 32 := Scalar.addi v333 v330
  let c384_i32_401 : BitVec 32 := 384#32
  let v590 : BitVec 32 := Scalar.muli v334 c384_i32_401
  v590
def k0_mult42 (d0 : Dev nD) : BitVec 32 :=
  let c4_i32_195 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_192 : BitVec 32 := 0#32
  let v335 : BitVec 32 := Scalar.xori v324 c0_i32_192
  let v338 : BitVec 32 := Scalar.muli c4_i32_195 v335
  let c2_i32_196 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_193 : BitVec 32 := 0#32
  let v336 : BitVec 32 := Scalar.xori v327 c0_i32_193
  let v339 : BitVec 32 := Scalar.muli c2_i32_196 v336
  let v340 : BitVec 32 := Scalar.addi v338 v339
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_194 : BitVec 32 := 1#32
  let v337 : BitVec 32 := Scalar.xori v330 c1_i32_194
  let v341 : BitVec 32 := Scalar.addi v340 v337
  let c384_i32_402 : BitVec 32 := 384#32
  let v592 : BitVec 32 := Scalar.muli v341 c384_i32_402
  v592
def k0_mult43 (d0 : Dev nD) : BitVec 32 :=
  let c4_i32_200 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_197 : BitVec 32 := 0#32
  let v342 : BitVec 32 := Scalar.xori v324 c0_i32_197
  let v345 : BitVec 32 := Scalar.muli c4_i32_200 v342
  let c2_i32_201 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_198 : BitVec 32 := 1#32
  let v343 : BitVec 32 := Scalar.xori v327 c1_i32_198
  let v346 : BitVec 32 := Scalar.muli c2_i32_201 v343
  let v347 : BitVec 32 := Scalar.addi v345 v346
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_199 : BitVec 32 := 0#32
  let v344 : BitVec 32 := Scalar.xori v330 c0_i32_199
  let v348 : BitVec 32 := Scalar.addi v347 v344
  let c384_i32_414 : BitVec 32 := 384#32
  let v606 : BitVec 32 := Scalar.muli v348 c384_i32_414
  v606
def k0_mult44 (d0 : Dev nD) : BitVec 32 :=
  let c4_i32_205 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c0_i32_202 : BitVec 32 := 0#32
  let v349 : BitVec 32 := Scalar.xori v324 c0_i32_202
  let v352 : BitVec 32 := Scalar.muli c4_i32_205 v349
  let c2_i32_206 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_203 : BitVec 32 := 1#32
  let v350 : BitVec 32 := Scalar.xori v327 c1_i32_203
  let v353 : BitVec 32 := Scalar.muli c2_i32_206 v350
  let v354 : BitVec 32 := Scalar.addi v352 v353
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_204 : BitVec 32 := 1#32
  let v351 : BitVec 32 := Scalar.xori v330 c1_i32_204
  let v355 : BitVec 32 := Scalar.addi v354 v351
  let c384_i32_426 : BitVec 32 := 384#32
  let v620 : BitVec 32 := Scalar.muli v355 c384_i32_426
  v620
def k0_mult45 (d0 : Dev nD) : BitVec 32 :=
  let c4_i32_210 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_207 : BitVec 32 := 1#32
  let v356 : BitVec 32 := Scalar.xori v324 c1_i32_207
  let v359 : BitVec 32 := Scalar.muli c4_i32_210 v356
  let c2_i32_211 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_208 : BitVec 32 := 0#32
  let v357 : BitVec 32 := Scalar.xori v327 c0_i32_208
  let v360 : BitVec 32 := Scalar.muli c2_i32_211 v357
  let v361 : BitVec 32 := Scalar.addi v359 v360
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_209 : BitVec 32 := 0#32
  let v358 : BitVec 32 := Scalar.xori v330 c0_i32_209
  let v362 : BitVec 32 := Scalar.addi v361 v358
  let c384_i32_438 : BitVec 32 := 384#32
  let v634 : BitVec 32 := Scalar.muli v362 c384_i32_438
  v634
def k0_mult46 (d0 : Dev nD) : BitVec 32 :=
  let c4_i32_215 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_212 : BitVec 32 := 1#32
  let v363 : BitVec 32 := Scalar.xori v324 c1_i32_212
  let v366 : BitVec 32 := Scalar.muli c4_i32_215 v363
  let c2_i32_216 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c0_i32_213 : BitVec 32 := 0#32
  let v364 : BitVec 32 := Scalar.xori v327 c0_i32_213
  let v367 : BitVec 32 := Scalar.muli c2_i32_216 v364
  let v368 : BitVec 32 := Scalar.addi v366 v367
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_214 : BitVec 32 := 1#32
  let v365 : BitVec 32 := Scalar.xori v330 c1_i32_214
  let v369 : BitVec 32 := Scalar.addi v368 v365
  let c384_i32_450 : BitVec 32 := 384#32
  let v648 : BitVec 32 := Scalar.muli v369 c384_i32_450
  v648
def k0_mult47 (d0 : Dev nD) : BitVec 32 :=
  let c4_i32_220 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_217 : BitVec 32 := 1#32
  let v370 : BitVec 32 := Scalar.xori v324 c1_i32_217
  let v373 : BitVec 32 := Scalar.muli c4_i32_220 v370
  let c2_i32_221 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_218 : BitVec 32 := 1#32
  let v371 : BitVec 32 := Scalar.xori v327 c1_i32_218
  let v374 : BitVec 32 := Scalar.muli c2_i32_221 v371
  let v375 : BitVec 32 := Scalar.addi v373 v374
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c0_i32_219 : BitVec 32 := 0#32
  let v372 : BitVec 32 := Scalar.xori v330 c0_i32_219
  let v376 : BitVec 32 := Scalar.addi v375 v372
  let c384_i32_462 : BitVec 32 := 384#32
  let v662 : BitVec 32 := Scalar.muli v376 c384_i32_462
  v662
def k0_mult48 (d0 : Dev nD) : BitVec 32 :=
  let c4_i32_225 : BitVec 32 := 4#32
  let v322 : BitVec 32 := Dev.word d0
  let c4_i32_185 : BitVec 32 := 4#32
  let v323 : BitVec 32 := Scalar.divsi v322 c4_i32_185
  let c2_i32_184 : BitVec 32 := 2#32
  let v324 : BitVec 32 := Scalar.remsi v323 c2_i32_184
  let c1_i32_222 : BitVec 32 := 1#32
  let v377 : BitVec 32 := Scalar.xori v324 c1_i32_222
  let v380 : BitVec 32 := Scalar.muli c4_i32_225 v377
  let c2_i32_226 : BitVec 32 := 2#32
  let v325 : BitVec 32 := Dev.word d0
  let c2_i32_187 : BitVec 32 := 2#32
  let v326 : BitVec 32 := Scalar.divsi v325 c2_i32_187
  let c2_i32_186 : BitVec 32 := 2#32
  let v327 : BitVec 32 := Scalar.remsi v326 c2_i32_186
  let c1_i32_223 : BitVec 32 := 1#32
  let v378 : BitVec 32 := Scalar.xori v327 c1_i32_223
  let v381 : BitVec 32 := Scalar.muli c2_i32_226 v378
  let v382 : BitVec 32 := Scalar.addi v380 v381
  let v328 : BitVec 32 := Dev.word d0
  let c1_i32_189 : BitVec 32 := 1#32
  let v329 : BitVec 32 := Scalar.divsi v328 c1_i32_189
  let c2_i32_188 : BitVec 32 := 2#32
  let v330 : BitVec 32 := Scalar.remsi v329 c2_i32_188
  let c1_i32_224 : BitVec 32 := 1#32
  let v379 : BitVec 32 := Scalar.xori v330 c1_i32_224
  let v383 : BitVec 32 := Scalar.addi v382 v379
  let c384_i32_474 : BitVec 32 := 384#32
  let v676 : BitVec 32 := Scalar.muli v383 c384_i32_474
  v676
-- ==== WholeFfn.lean ====
abbrev S3072x1024 : Shape := ⟨2, ![3072, 1024]⟩

abbrev nBuf : Space → Nat
  | .hbm => 3
  | .vmem => 0
  | .smem => 0
  | _ => 0

abbrev bufTy : (tb : Table) → Fin (tcTables nBuf tb) → BufTy
  | .hbm, ⟨0, _⟩ => ⟨S3072x1024, .bf16⟩
  | .hbm, ⟨1, _⟩ => ⟨S3072x1024, .bf16⟩
  | .hbm, ⟨2, _⟩ => ⟨S3072x1024, .bf16⟩
  | _, _ => ⟨S3072x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩

abbrev nD : Nat := 1
abbrev τ : Topo := Topo.v7x

variable {F : FTy → Type} [FloatOps F]
-- ==== ScatterEven.lean ====
abbrev S1024x1024 : Shape := ⟨2, ![1024, 1024]⟩
abbrev S1024x3072 : Shape := ⟨2, ![1024, 3072]⟩
abbrev S8x128x1024 : Shape := ⟨3, ![8, 128, 1024]⟩
abbrev S8x1024x384 : Shape := ⟨3, ![8, 1024, 384]⟩
abbrev S14 : Shape := ⟨1, ![14]⟩
abbrev S2 : Shape := ⟨1, ![2]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S1x1024x384 : Shape := ⟨3, ![1, 1024, 384]⟩
abbrev S1024x384 : Shape := ⟨2, ![1024, 384]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x3072, .bf16⟩
  | .hbm, ⟨2, _⟩ => ⟨S8x128x1024, .bf16⟩
  | .hbm, ⟨3, _⟩ => ⟨S8x1024x384, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v62 : BitVec 32 := Scalar.muli v12 c128_i32
  v62
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_40 : BitVec 32 := 0#32
  let c0_i32_41 : BitVec 32 := 0#32
  ![v12.toNat, 0, 0]
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v62 : BitVec 32 := Scalar.muli v12 c128_i32
  let v63 : BitVec 32 := v62
  let c0_i32_42 : BitVec 32 := 0#32
  ![v63.toNat, 0]
def k0_mult2 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c128_i32_43 : BitVec 32 := 128#32
  let v69 : BitVec 32 := Scalar.muli v19 c128_i32_43
  v69
def k0_off3 (d0 : Dev nD) (c0_i32 : BitVec 32) (c0_i32_5 : BitVec 32) (c1_i32_6 : BitVec 32) : Fin 2 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c128_i32_43 : BitVec 32 := 128#32
  let v69 : BitVec 32 := Scalar.muli v19 c128_i32_43
  let v70 : BitVec 32 := v69
  let c0_i32_52 : BitVec 32 := 0#32
  ![v70.toNat, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_46 : BitVec 32 := 4#32
  let v71 : BitVec 32 := Scalar.muli v13 c4_i32_46
  let v72 : BitVec 32 := Scalar.addi c0_i32_47 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_48 : BitVec 32 := 2#32
  let v73 : BitVec 32 := Scalar.muli v14 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_49 : BitVec 32 := 1#32
  let v75 : BitVec 32 := Scalar.muli v15 c1_i32_49
  let v76 : BitVec 32 := Scalar.addi v74 v75
  v76.toNat
def k0_mult3 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let v23 : BitVec 32 := Scalar.muli c4_i32_12 v20
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let v24 : BitVec 32 := Scalar.muli c2_i32_13 v21
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let v26 : BitVec 32 := Scalar.addi v25 v22
  let c128_i32_53 : BitVec 32 := 128#32
  let v84 : BitVec 32 := Scalar.muli v26 c128_i32_53
  v84
def k0_dev2 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_56 : BitVec 32 := 4#32
  let v86 : BitVec 32 := Scalar.muli v20 c4_i32_56
  let v87 : BitVec 32 := Scalar.addi c0_i32_57 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_58 : BitVec 32 := 2#32
  let v88 : BitVec 32 := Scalar.muli v21 c2_i32_58
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_59 : BitVec 32 := 1#32
  let v90 : BitVec 32 := Scalar.muli v22 c1_i32_59
  let v91 : BitVec 32 := Scalar.addi v89 v90
  v91.toNat
def k0_mult4 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let v30 : BitVec 32 := Scalar.muli c4_i32_17 v27
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let v31 : BitVec 32 := Scalar.muli c2_i32_18 v28
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let v33 : BitVec 32 := Scalar.addi v32 v29
  let c128_i32_63 : BitVec 32 := 128#32
  let v99 : BitVec 32 := Scalar.muli v33 c128_i32_63
  v99
def k0_dev3 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_66 : BitVec 32 := 4#32
  let v101 : BitVec 32 := Scalar.muli v27 c4_i32_66
  let v102 : BitVec 32 := Scalar.addi c0_i32_67 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_68 : BitVec 32 := 2#32
  let v103 : BitVec 32 := Scalar.muli v28 c2_i32_68
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_69 : BitVec 32 := 1#32
  let v105 : BitVec 32 := Scalar.muli v29 c1_i32_69
  let v106 : BitVec 32 := Scalar.addi v104 v105
  v106.toNat
def k0_mult5 (d0 : Dev nD) : BitVec 32 :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let v37 : BitVec 32 := Scalar.muli c4_i32_22 v34
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let v38 : BitVec 32 := Scalar.muli c2_i32_23 v35
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let v40 : BitVec 32 := Scalar.addi v39 v36
  let c128_i32_73 : BitVec 32 := 128#32
  let v114 : BitVec 32 := Scalar.muli v40 c128_i32_73
  v114
def k0_dev4 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_75 : BitVec 32 := 4#32
  let v116 : BitVec 32 := Scalar.muli v34 c4_i32_75
  let v117 : BitVec 32 := Scalar.addi c0_i32_76 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_77 : BitVec 32 := 2#32
  let v118 : BitVec 32 := Scalar.muli v35 c2_i32_77
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_78 : BitVec 32 := 1#32
  let v120 : BitVec 32 := Scalar.muli v36 c1_i32_78
  let v121 : BitVec 32 := Scalar.addi v119 v120
  v121.toNat
def k0_mult6 (d0 : Dev nD) : BitVec 32 :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let v44 : BitVec 32 := Scalar.muli c4_i32_27 v41
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let v45 : BitVec 32 := Scalar.muli c2_i32_28 v42
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let v47 : BitVec 32 := Scalar.addi v46 v43
  let c128_i32_82 : BitVec 32 := 128#32
  let v129 : BitVec 32 := Scalar.muli v47 c128_i32_82
  v129
def k0_dev5 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_85 : BitVec 32 := 4#32
  let v131 : BitVec 32 := Scalar.muli v41 c4_i32_85
  let v132 : BitVec 32 := Scalar.addi c0_i32_86 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_87 : BitVec 32 := 2#32
  let v133 : BitVec 32 := Scalar.muli v42 c2_i32_87
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_88 : BitVec 32 := 1#32
  let v135 : BitVec 32 := Scalar.muli v43 c1_i32_88
  let v136 : BitVec 32 := Scalar.addi v134 v135
  v136.toNat
def k0_mult7 (d0 : Dev nD) : BitVec 32 :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let v51 : BitVec 32 := Scalar.muli c4_i32_32 v48
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let v52 : BitVec 32 := Scalar.muli c2_i32_33 v49
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let v54 : BitVec 32 := Scalar.addi v53 v50
  let c128_i32_92 : BitVec 32 := 128#32
  let v144 : BitVec 32 := Scalar.muli v54 c128_i32_92
  v144
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_94 : BitVec 32 := 4#32
  let v146 : BitVec 32 := Scalar.muli v48 c4_i32_94
  let v147 : BitVec 32 := Scalar.addi c0_i32_95 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_96 : BitVec 32 := 2#32
  let v148 : BitVec 32 := Scalar.muli v49 c2_i32_96
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_97 : BitVec 32 := 1#32
  let v150 : BitVec 32 := Scalar.muli v50 c1_i32_97
  let v151 : BitVec 32 := Scalar.addi v149 v150
  v151.toNat
def k0_mult8 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let v58 : BitVec 32 := Scalar.muli c4_i32_37 v55
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let v59 : BitVec 32 := Scalar.muli c2_i32_38 v56
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let v61 : BitVec 32 := Scalar.addi v60 v57
  let c128_i32_101 : BitVec 32 := 128#32
  let v159 : BitVec 32 := Scalar.muli v61 c128_i32_101
  v159
def k0_dev7 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_103 : BitVec 32 := 4#32
  let v161 : BitVec 32 := Scalar.muli v55 c4_i32_103
  let v162 : BitVec 32 := Scalar.addi c0_i32_104 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_105 : BitVec 32 := 2#32
  let v163 : BitVec 32 := Scalar.muli v56 c2_i32_105
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_106 : BitVec 32 := 1#32
  let v165 : BitVec 32 := Scalar.muli v57 c1_i32_106
  let v166 : BitVec 32 := Scalar.addi v164 v165
  v166.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v174 : BitVec 32 := Scalar.muli v12 c384_i32
  v174
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_111 : BitVec 32 := 0#32
  let c0_i32_112 : BitVec 32 := 0#32
  ![v12.toNat, 0, 0]
def k0_off5 (d0 : Dev nD) : Fin 2 → Nat :=
  let c0_i32_113 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v174 : BitVec 32 := Scalar.muli v12 c384_i32
  let v175 : BitVec 32 := v174
  ![0, v175.toNat]
def k0_mult10 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c384_i32_114 : BitVec 32 := 384#32
  let v181 : BitVec 32 := Scalar.muli v19 c384_i32_114
  v181
def k0_off6 (d0 : Dev nD) (c0_i32 : BitVec 32) (c0_i32_5 : BitVec 32) (c1_i32_6 : BitVec 32) : Fin 2 → Nat :=
  let c0_i32_122 : BitVec 32 := 0#32
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c384_i32_114 : BitVec 32 := 384#32
  let v181 : BitVec 32 := Scalar.muli v19 c384_i32_114
  let v182 : BitVec 32 := v181
  ![0, v182.toNat]
def k0_off6_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev8 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_116 : BitVec 32 := 4#32
  let v183 : BitVec 32 := Scalar.muli v13 c4_i32_116
  let v184 : BitVec 32 := Scalar.addi c0_i32_117 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_118 : BitVec 32 := 2#32
  let v185 : BitVec 32 := Scalar.muli v14 c2_i32_118
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_119 : BitVec 32 := 1#32
  let v187 : BitVec 32 := Scalar.muli v15 c1_i32_119
  let v188 : BitVec 32 := Scalar.addi v186 v187
  v188.toNat
def k0_mult11 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let v23 : BitVec 32 := Scalar.muli c4_i32_12 v20
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let v24 : BitVec 32 := Scalar.muli c2_i32_13 v21
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let v26 : BitVec 32 := Scalar.addi v25 v22
  let c384_i32_123 : BitVec 32 := 384#32
  let v196 : BitVec 32 := Scalar.muli v26 c384_i32_123
  v196
def k0_dev9 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_125 : BitVec 32 := 4#32
  let v198 : BitVec 32 := Scalar.muli v20 c4_i32_125
  let v199 : BitVec 32 := Scalar.addi c0_i32_126 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_127 : BitVec 32 := 2#32
  let v200 : BitVec 32 := Scalar.muli v21 c2_i32_127
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_128 : BitVec 32 := 1#32
  let v202 : BitVec 32 := Scalar.muli v22 c1_i32_128
  let v203 : BitVec 32 := Scalar.addi v201 v202
  v203.toNat
def k0_mult12 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let v30 : BitVec 32 := Scalar.muli c4_i32_17 v27
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let v31 : BitVec 32 := Scalar.muli c2_i32_18 v28
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let v33 : BitVec 32 := Scalar.addi v32 v29
  let c384_i32_132 : BitVec 32 := 384#32
  let v211 : BitVec 32 := Scalar.muli v33 c384_i32_132
  v211
def k0_dev10 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_134 : BitVec 32 := 4#32
  let v213 : BitVec 32 := Scalar.muli v27 c4_i32_134
  let v214 : BitVec 32 := Scalar.addi c0_i32_135 v213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_136 : BitVec 32 := 2#32
  let v215 : BitVec 32 := Scalar.muli v28 c2_i32_136
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_137 : BitVec 32 := 1#32
  let v217 : BitVec 32 := Scalar.muli v29 c1_i32_137
  let v218 : BitVec 32 := Scalar.addi v216 v217
  v218.toNat
def k0_mult13 (d0 : Dev nD) : BitVec 32 :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let v37 : BitVec 32 := Scalar.muli c4_i32_22 v34
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let v38 : BitVec 32 := Scalar.muli c2_i32_23 v35
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let v40 : BitVec 32 := Scalar.addi v39 v36
  let c384_i32_141 : BitVec 32 := 384#32
  let v226 : BitVec 32 := Scalar.muli v40 c384_i32_141
  v226
def k0_dev11 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_143 : BitVec 32 := 4#32
  let v228 : BitVec 32 := Scalar.muli v34 c4_i32_143
  let v229 : BitVec 32 := Scalar.addi c0_i32_144 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_145 : BitVec 32 := 2#32
  let v230 : BitVec 32 := Scalar.muli v35 c2_i32_145
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_146 : BitVec 32 := 1#32
  let v232 : BitVec 32 := Scalar.muli v36 c1_i32_146
  let v233 : BitVec 32 := Scalar.addi v231 v232
  v233.toNat
def k0_mult14 (d0 : Dev nD) : BitVec 32 :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let v44 : BitVec 32 := Scalar.muli c4_i32_27 v41
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let v45 : BitVec 32 := Scalar.muli c2_i32_28 v42
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let v47 : BitVec 32 := Scalar.addi v46 v43
  let c384_i32_150 : BitVec 32 := 384#32
  let v241 : BitVec 32 := Scalar.muli v47 c384_i32_150
  v241
def k0_dev12 (d0 : Dev nD) : Nat :=
  let c0_i32_153 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_152 : BitVec 32 := 4#32
  let v243 : BitVec 32 := Scalar.muli v41 c4_i32_152
  let v244 : BitVec 32 := Scalar.addi c0_i32_153 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_154 : BitVec 32 := 2#32
  let v245 : BitVec 32 := Scalar.muli v42 c2_i32_154
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_155 : BitVec 32 := 1#32
  let v247 : BitVec 32 := Scalar.muli v43 c1_i32_155
  let v248 : BitVec 32 := Scalar.addi v246 v247
  v248.toNat
def k0_mult15 (d0 : Dev nD) : BitVec 32 :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let v51 : BitVec 32 := Scalar.muli c4_i32_32 v48
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let v52 : BitVec 32 := Scalar.muli c2_i32_33 v49
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let v54 : BitVec 32 := Scalar.addi v53 v50
  let c384_i32_159 : BitVec 32 := 384#32
  let v256 : BitVec 32 := Scalar.muli v54 c384_i32_159
  v256
def k0_dev13 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_161 : BitVec 32 := 4#32
  let v258 : BitVec 32 := Scalar.muli v48 c4_i32_161
  let v259 : BitVec 32 := Scalar.addi c0_i32_162 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_163 : BitVec 32 := 2#32
  let v260 : BitVec 32 := Scalar.muli v49 c2_i32_163
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_164 : BitVec 32 := 1#32
  let v262 : BitVec 32 := Scalar.muli v50 c1_i32_164
  let v263 : BitVec 32 := Scalar.addi v261 v262
  v263.toNat
def k0_mult16 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let v58 : BitVec 32 := Scalar.muli c4_i32_37 v55
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let v59 : BitVec 32 := Scalar.muli c2_i32_38 v56
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let v61 : BitVec 32 := Scalar.addi v60 v57
  let c384_i32_168 : BitVec 32 := 384#32
  let v271 : BitVec 32 := Scalar.muli v61 c384_i32_168
  v271
def k0_dev14 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_170 : BitVec 32 := 4#32
  let v273 : BitVec 32 := Scalar.muli v55 c4_i32_170
  let v274 : BitVec 32 := Scalar.addi c0_i32_171 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_172 : BitVec 32 := 2#32
  let v275 : BitVec 32 := Scalar.muli v56 c2_i32_172
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_173 : BitVec 32 := 1#32
  let v277 : BitVec 32 := Scalar.muli v57 c1_i32_173
  let v278 : BitVec 32 := Scalar.addi v276 v277
  v278.toNat
def k0_mult17 (d0 : Dev nD) : BitVec 32 :=
  let c4_i32_183 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v295 : BitVec 32 := Scalar.muli c4_i32_183 v288
  let c2_i32_184 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v296 : BitVec 32 := Scalar.muli c2_i32_184 v291
  let v297 : BitVec 32 := Scalar.addi v295 v296
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v298 : BitVec 32 := Scalar.addi v297 v294
  let c128_i32_220 : BitVec 32 := 128#32
  let v348 : BitVec 32 := Scalar.muli v298 c128_i32_220
  v348
def k0_mult18 (d0 : Dev nD) : BitVec 32 :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_185 : BitVec 32 := 0#32
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_186 : BitVec 32 := 0#32
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_187 : BitVec 32 := 1#32
  let v301 : BitVec 32 := Scalar.xori v294 c1_i32_187
  let v305 : BitVec 32 := Scalar.addi v304 v301
  let c128_i32_221 : BitVec 32 := 128#32
  let v350 : BitVec 32 := Scalar.muli v305 c128_i32_221
  v350
def k0_off7 (d0 : Dev nD) (c0_i32_185 : BitVec 32) (c0_i32_186 : BitVec 32) (c1_i32_187 : BitVec 32) : Fin 3 → Nat :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v301 : BitVec 32 := Scalar.xori v294 c1_i32_187
  let v305 : BitVec 32 := Scalar.addi v304 v301
  let c0_i32_228 : BitVec 32 := 0#32
  let c0_i32_229 : BitVec 32 := 0#32
  ![v305.toNat, 0, 0]
def k0_off7_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult19 (d0 : Dev nD) : BitVec 32 :=
  let c4_i32_193 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_190 : BitVec 32 := 0#32
  let v306 : BitVec 32 := Scalar.xori v288 c0_i32_190
  let v309 : BitVec 32 := Scalar.muli c4_i32_193 v306
  let c2_i32_194 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_191 : BitVec 32 := 1#32
  let v307 : BitVec 32 := Scalar.xori v291 c1_i32_191
  let v310 : BitVec 32 := Scalar.muli c2_i32_194 v307
  let v311 : BitVec 32 := Scalar.addi v309 v310
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_192 : BitVec 32 := 0#32
  let v308 : BitVec 32 := Scalar.xori v294 c0_i32_192
  let v312 : BitVec 32 := Scalar.addi v311 v308
  let c128_i32_237 : BitVec 32 := 128#32
  let v368 : BitVec 32 := Scalar.muli v312 c128_i32_237
  v368
def k0_mult20 (d0 : Dev nD) : BitVec 32 :=
  let c4_i32_198 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_195 : BitVec 32 := 0#32
  let v313 : BitVec 32 := Scalar.xori v288 c0_i32_195
  let v316 : BitVec 32 := Scalar.muli c4_i32_198 v313
  let c2_i32_199 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_196 : BitVec 32 := 1#32
  let v314 : BitVec 32 := Scalar.xori v291 c1_i32_196
  let v317 : BitVec 32 := Scalar.muli c2_i32_199 v314
  let v318 : BitVec 32 := Scalar.addi v316 v317
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_197 : BitVec 32 := 1#32
  let v315 : BitVec 32 := Scalar.xori v294 c1_i32_197
  let v319 : BitVec 32 := Scalar.addi v318 v315
  let c128_i32_253 : BitVec 32 := 128#32
  let v386 : BitVec 32 := Scalar.muli v319 c128_i32_253
  v386
def k0_mult21 (d0 : Dev nD) : BitVec 32 :=
  let c4_i32_203 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_200 : BitVec 32 := 1#32
  let v320 : BitVec 32 := Scalar.xori v288 c1_i32_200
  let v323 : BitVec 32 := Scalar.muli c4_i32_203 v320
  let c2_i32_204 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_201 : BitVec 32 := 0#32
  let v321 : BitVec 32 := Scalar.xori v291 c0_i32_201
  let v324 : BitVec 32 := Scalar.muli c2_i32_204 v321
  let v325 : BitVec 32 := Scalar.addi v323 v324
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_202 : BitVec 32 := 0#32
  let v322 : BitVec 32 := Scalar.xori v294 c0_i32_202
  let v326 : BitVec 32 := Scalar.addi v325 v322
  let c128_i32_269 : BitVec 32 := 128#32
  let v404 : BitVec 32 := Scalar.muli v326 c128_i32_269
  v404
def k0_mult22 (d0 : Dev nD) : BitVec 32 :=
  let c4_i32_208 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_205 : BitVec 32 := 1#32
  let v327 : BitVec 32 := Scalar.xori v288 c1_i32_205
  let v330 : BitVec 32 := Scalar.muli c4_i32_208 v327
  let c2_i32_209 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_206 : BitVec 32 := 0#32
  let v328 : BitVec 32 := Scalar.xori v291 c0_i32_206
  let v331 : BitVec 32 := Scalar.muli c2_i32_209 v328
  let v332 : BitVec 32 := Scalar.addi v330 v331
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_207 : BitVec 32 := 1#32
  let v329 : BitVec 32 := Scalar.xori v294 c1_i32_207
  let v333 : BitVec 32 := Scalar.addi v332 v329
  let c128_i32_285 : BitVec 32 := 128#32
  let v422 : BitVec 32 := Scalar.muli v333 c128_i32_285
  v422
def k0_mult23 (d0 : Dev nD) : BitVec 32 :=
  let c4_i32_213 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_210 : BitVec 32 := 1#32
  let v334 : BitVec 32 := Scalar.xori v288 c1_i32_210
  let v337 : BitVec 32 := Scalar.muli c4_i32_213 v334
  let c2_i32_214 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_211 : BitVec 32 := 1#32
  let v335 : BitVec 32 := Scalar.xori v291 c1_i32_211
  let v338 : BitVec 32 := Scalar.muli c2_i32_214 v335
  let v339 : BitVec 32 := Scalar.addi v337 v338
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_212 : BitVec 32 := 0#32
  let v336 : BitVec 32 := Scalar.xori v294 c0_i32_212
  let v340 : BitVec 32 := Scalar.addi v339 v336
  let c128_i32_301 : BitVec 32 := 128#32
  let v440 : BitVec 32 := Scalar.muli v340 c128_i32_301
  v440
def k0_mult24 (d0 : Dev nD) : BitVec 32 :=
  let c4_i32_218 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_215 : BitVec 32 := 1#32
  let v341 : BitVec 32 := Scalar.xori v288 c1_i32_215
  let v344 : BitVec 32 := Scalar.muli c4_i32_218 v341
  let c2_i32_219 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_216 : BitVec 32 := 1#32
  let v342 : BitVec 32 := Scalar.xori v291 c1_i32_216
  let v345 : BitVec 32 := Scalar.muli c2_i32_219 v342
  let v346 : BitVec 32 := Scalar.addi v344 v345
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_217 : BitVec 32 := 1#32
  let v343 : BitVec 32 := Scalar.xori v294 c1_i32_217
  let v347 : BitVec 32 := Scalar.addi v346 v343
  let c128_i32_317 : BitVec 32 := 128#32
  let v458 : BitVec 32 := Scalar.muli v347 c128_i32_317
  v458
def k0_mult25 (d0 : Dev nD) : BitVec 32 :=
  let c4_i32_183 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v295 : BitVec 32 := Scalar.muli c4_i32_183 v288
  let c2_i32_184 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v296 : BitVec 32 := Scalar.muli c2_i32_184 v291
  let v297 : BitVec 32 := Scalar.addi v295 v296
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v298 : BitVec 32 := Scalar.addi v297 v294
  let c384_i32_337 : BitVec 32 := 384#32
  let v481 : BitVec 32 := Scalar.muli v298 c384_i32_337
  v481
def k0_mult26 (d0 : Dev nD) : BitVec 32 :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_185 : BitVec 32 := 0#32
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_186 : BitVec 32 := 0#32
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_187 : BitVec 32 := 1#32
  let v301 : BitVec 32 := Scalar.xori v294 c1_i32_187
  let v305 : BitVec 32 := Scalar.addi v304 v301
  let c384_i32_338 : BitVec 32 := 384#32
  let v483 : BitVec 32 := Scalar.muli v305 c384_i32_338
  v483
def k0_off8 (d0 : Dev nD) (c0_i32_185 : BitVec 32) (c0_i32_186 : BitVec 32) (c1_i32_187 : BitVec 32) : Fin 3 → Nat :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v301 : BitVec 32 := Scalar.xori v294 c1_i32_187
  let v305 : BitVec 32 := Scalar.addi v304 v301
  let c0_i32_345 : BitVec 32 := 0#32
  let c0_i32_346 : BitVec 32 := 0#32
  ![v305.toNat, 0, 0]
def k0_off8_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult27 (d0 : Dev nD) : BitVec 32 :=
  let c4_i32_193 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_190 : BitVec 32 := 0#32
  let v306 : BitVec 32 := Scalar.xori v288 c0_i32_190
  let v309 : BitVec 32 := Scalar.muli c4_i32_193 v306
  let c2_i32_194 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_191 : BitVec 32 := 1#32
  let v307 : BitVec 32 := Scalar.xori v291 c1_i32_191
  let v310 : BitVec 32 := Scalar.muli c2_i32_194 v307
  let v311 : BitVec 32 := Scalar.addi v309 v310
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_192 : BitVec 32 := 0#32
  let v308 : BitVec 32 := Scalar.xori v294 c0_i32_192
  let v312 : BitVec 32 := Scalar.addi v311 v308
  let c384_i32_354 : BitVec 32 := 384#32
  let v501 : BitVec 32 := Scalar.muli v312 c384_i32_354
  v501
def k0_mult28 (d0 : Dev nD) : BitVec 32 :=
  let c4_i32_198 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_195 : BitVec 32 := 0#32
  let v313 : BitVec 32 := Scalar.xori v288 c0_i32_195
  let v316 : BitVec 32 := Scalar.muli c4_i32_198 v313
  let c2_i32_199 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_196 : BitVec 32 := 1#32
  let v314 : BitVec 32 := Scalar.xori v291 c1_i32_196
  let v317 : BitVec 32 := Scalar.muli c2_i32_199 v314
  let v318 : BitVec 32 := Scalar.addi v316 v317
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_197 : BitVec 32 := 1#32
  let v315 : BitVec 32 := Scalar.xori v294 c1_i32_197
  let v319 : BitVec 32 := Scalar.addi v318 v315
  let c384_i32_370 : BitVec 32 := 384#32
  let v519 : BitVec 32 := Scalar.muli v319 c384_i32_370
  v519
def k0_mult29 (d0 : Dev nD) : BitVec 32 :=
  let c4_i32_203 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_200 : BitVec 32 := 1#32
  let v320 : BitVec 32 := Scalar.xori v288 c1_i32_200
  let v323 : BitVec 32 := Scalar.muli c4_i32_203 v320
  let c2_i32_204 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_201 : BitVec 32 := 0#32
  let v321 : BitVec 32 := Scalar.xori v291 c0_i32_201
  let v324 : BitVec 32 := Scalar.muli c2_i32_204 v321
  let v325 : BitVec 32 := Scalar.addi v323 v324
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_202 : BitVec 32 := 0#32
  let v322 : BitVec 32 := Scalar.xori v294 c0_i32_202
  let v326 : BitVec 32 := Scalar.addi v325 v322
  let c384_i32_386 : BitVec 32 := 384#32
  let v537 : BitVec 32 := Scalar.muli v326 c384_i32_386
  v537
def k0_mult30 (d0 : Dev nD) : BitVec 32 :=
  let c4_i32_208 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_205 : BitVec 32 := 1#32
  let v327 : BitVec 32 := Scalar.xori v288 c1_i32_205
  let v330 : BitVec 32 := Scalar.muli c4_i32_208 v327
  let c2_i32_209 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_206 : BitVec 32 := 0#32
  let v328 : BitVec 32 := Scalar.xori v291 c0_i32_206
  let v331 : BitVec 32 := Scalar.muli c2_i32_209 v328
  let v332 : BitVec 32 := Scalar.addi v330 v331
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_207 : BitVec 32 := 1#32
  let v329 : BitVec 32 := Scalar.xori v294 c1_i32_207
  let v333 : BitVec 32 := Scalar.addi v332 v329
  let c384_i32_402 : BitVec 32 := 384#32
  let v555 : BitVec 32 := Scalar.muli v333 c384_i32_402
  v555
def k0_mult31 (d0 : Dev nD) : BitVec 32 :=
  let c4_i32_213 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_210 : BitVec 32 := 1#32
  let v334 : BitVec 32 := Scalar.xori v288 c1_i32_210
  let v337 : BitVec 32 := Scalar.muli c4_i32_213 v334
  let c2_i32_214 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_211 : BitVec 32 := 1#32
  let v335 : BitVec 32 := Scalar.xori v291 c1_i32_211
  let v338 : BitVec 32 := Scalar.muli c2_i32_214 v335
  let v339 : BitVec 32 := Scalar.addi v337 v338
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_212 : BitVec 32 := 0#32
  let v336 : BitVec 32 := Scalar.xori v294 c0_i32_212
  let v340 : BitVec 32 := Scalar.addi v339 v336
  let c384_i32_418 : BitVec 32 := 384#32
  let v573 : BitVec 32 := Scalar.muli v340 c384_i32_418
  v573
def k0_mult32 (d0 : Dev nD) : BitVec 32 :=
  let c4_i32_218 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_215 : BitVec 32 := 1#32
  let v341 : BitVec 32 := Scalar.xori v288 c1_i32_215
  let v344 : BitVec 32 := Scalar.muli c4_i32_218 v341
  let c2_i32_219 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_216 : BitVec 32 := 1#32
  let v342 : BitVec 32 := Scalar.xori v291 c1_i32_216
  let v345 : BitVec 32 := Scalar.muli c2_i32_219 v342
  let v346 : BitVec 32 := Scalar.addi v344 v345
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_217 : BitVec 32 := 1#32
  let v343 : BitVec 32 := Scalar.xori v294 c1_i32_217
  let v347 : BitVec 32 := Scalar.addi v346 v343
  let c384_i32_434 : BitVec 32 := 384#32
  let v591 : BitVec 32 := Scalar.muli v347 c384_i32_434
  v591
-- ==== SentEven.lean ====
abbrev S8192x1024 : Shape := ⟨2, ![8192, 1024]⟩
abbrev S8192x3072 : Shape := ⟨2, ![8192, 3072]⟩
abbrev S8x1024x1024 : Shape := ⟨3, ![8, 1024, 1024]⟩
abbrev S8x1024x3072 : Shape := ⟨3, ![8, 1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8x1024x1024, .bf16⟩
  | .hbm, ⟨3, _⟩ => ⟨S8x1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ScatterOdd.lean ====
abbrev S1024x1024 : Shape := ⟨2, ![1024, 1024]⟩
abbrev S1536x1024 : Shape := ⟨2, ![1536, 1024]⟩
abbrev S8x128x1024 : Shape := ⟨3, ![8, 128, 1024]⟩
abbrev S8x192x1024 : Shape := ⟨3, ![8, 192, 1024]⟩
abbrev S14 : Shape := ⟨1, ![14]⟩
abbrev S2 : Shape := ⟨1, ![2]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S1x192x1024 : Shape := ⟨3, ![1, 192, 1024]⟩
abbrev S192x1024 : Shape := ⟨2, ![192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1536x1024, .bf16⟩
  | .hbm, ⟨2, _⟩ => ⟨S8x128x1024, .bf16⟩
  | .hbm, ⟨3, _⟩ => ⟨S8x192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v62 : BitVec 32 := Scalar.muli v12 c128_i32
  v62
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_40 : BitVec 32 := 0#32
  let c0_i32_41 : BitVec 32 := 0#32
  ![v12.toNat, 0, 0]
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v62 : BitVec 32 := Scalar.muli v12 c128_i32
  let v63 : BitVec 32 := v62
  let c0_i32_42 : BitVec 32 := 0#32
  ![v63.toNat, 0]
def k0_mult2 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c128_i32_43 : BitVec 32 := 128#32
  let v69 : BitVec 32 := Scalar.muli v19 c128_i32_43
  v69
def k0_off3 (d0 : Dev nD) (c0_i32 : BitVec 32) (c0_i32_5 : BitVec 32) (c1_i32_6 : BitVec 32) : Fin 2 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c128_i32_43 : BitVec 32 := 128#32
  let v69 : BitVec 32 := Scalar.muli v19 c128_i32_43
  let v70 : BitVec 32 := v69
  let c0_i32_52 : BitVec 32 := 0#32
  ![v70.toNat, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_46 : BitVec 32 := 4#32
  let v71 : BitVec 32 := Scalar.muli v13 c4_i32_46
  let v72 : BitVec 32 := Scalar.addi c0_i32_47 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_48 : BitVec 32 := 2#32
  let v73 : BitVec 32 := Scalar.muli v14 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_49 : BitVec 32 := 1#32
  let v75 : BitVec 32 := Scalar.muli v15 c1_i32_49
  let v76 : BitVec 32 := Scalar.addi v74 v75
  v76.toNat
def k0_mult3 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let v23 : BitVec 32 := Scalar.muli c4_i32_12 v20
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let v24 : BitVec 32 := Scalar.muli c2_i32_13 v21
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let v26 : BitVec 32 := Scalar.addi v25 v22
  let c128_i32_53 : BitVec 32 := 128#32
  let v84 : BitVec 32 := Scalar.muli v26 c128_i32_53
  v84
def k0_dev2 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_56 : BitVec 32 := 4#32
  let v86 : BitVec 32 := Scalar.muli v20 c4_i32_56
  let v87 : BitVec 32 := Scalar.addi c0_i32_57 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_58 : BitVec 32 := 2#32
  let v88 : BitVec 32 := Scalar.muli v21 c2_i32_58
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_59 : BitVec 32 := 1#32
  let v90 : BitVec 32 := Scalar.muli v22 c1_i32_59
  let v91 : BitVec 32 := Scalar.addi v89 v90
  v91.toNat
def k0_mult4 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let v30 : BitVec 32 := Scalar.muli c4_i32_17 v27
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let v31 : BitVec 32 := Scalar.muli c2_i32_18 v28
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let v33 : BitVec 32 := Scalar.addi v32 v29
  let c128_i32_63 : BitVec 32 := 128#32
  let v99 : BitVec 32 := Scalar.muli v33 c128_i32_63
  v99
def k0_dev3 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_66 : BitVec 32 := 4#32
  let v101 : BitVec 32 := Scalar.muli v27 c4_i32_66
  let v102 : BitVec 32 := Scalar.addi c0_i32_67 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_68 : BitVec 32 := 2#32
  let v103 : BitVec 32 := Scalar.muli v28 c2_i32_68
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_69 : BitVec 32 := 1#32
  let v105 : BitVec 32 := Scalar.muli v29 c1_i32_69
  let v106 : BitVec 32 := Scalar.addi v104 v105
  v106.toNat
def k0_mult5 (d0 : Dev nD) : BitVec 32 :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let v37 : BitVec 32 := Scalar.muli c4_i32_22 v34
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let v38 : BitVec 32 := Scalar.muli c2_i32_23 v35
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let v40 : BitVec 32 := Scalar.addi v39 v36
  let c128_i32_73 : BitVec 32 := 128#32
  let v114 : BitVec 32 := Scalar.muli v40 c128_i32_73
  v114
def k0_dev4 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_75 : BitVec 32 := 4#32
  let v116 : BitVec 32 := Scalar.muli v34 c4_i32_75
  let v117 : BitVec 32 := Scalar.addi c0_i32_76 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_77 : BitVec 32 := 2#32
  let v118 : BitVec 32 := Scalar.muli v35 c2_i32_77
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_78 : BitVec 32 := 1#32
  let v120 : BitVec 32 := Scalar.muli v36 c1_i32_78
  let v121 : BitVec 32 := Scalar.addi v119 v120
  v121.toNat
def k0_mult6 (d0 : Dev nD) : BitVec 32 :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let v44 : BitVec 32 := Scalar.muli c4_i32_27 v41
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let v45 : BitVec 32 := Scalar.muli c2_i32_28 v42
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let v47 : BitVec 32 := Scalar.addi v46 v43
  let c128_i32_82 : BitVec 32 := 128#32
  let v129 : BitVec 32 := Scalar.muli v47 c128_i32_82
  v129
def k0_dev5 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_85 : BitVec 32 := 4#32
  let v131 : BitVec 32 := Scalar.muli v41 c4_i32_85
  let v132 : BitVec 32 := Scalar.addi c0_i32_86 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_87 : BitVec 32 := 2#32
  let v133 : BitVec 32 := Scalar.muli v42 c2_i32_87
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_88 : BitVec 32 := 1#32
  let v135 : BitVec 32 := Scalar.muli v43 c1_i32_88
  let v136 : BitVec 32 := Scalar.addi v134 v135
  v136.toNat
def k0_mult7 (d0 : Dev nD) : BitVec 32 :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let v51 : BitVec 32 := Scalar.muli c4_i32_32 v48
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let v52 : BitVec 32 := Scalar.muli c2_i32_33 v49
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let v54 : BitVec 32 := Scalar.addi v53 v50
  let c128_i32_92 : BitVec 32 := 128#32
  let v144 : BitVec 32 := Scalar.muli v54 c128_i32_92
  v144
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_94 : BitVec 32 := 4#32
  let v146 : BitVec 32 := Scalar.muli v48 c4_i32_94
  let v147 : BitVec 32 := Scalar.addi c0_i32_95 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_96 : BitVec 32 := 2#32
  let v148 : BitVec 32 := Scalar.muli v49 c2_i32_96
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_97 : BitVec 32 := 1#32
  let v150 : BitVec 32 := Scalar.muli v50 c1_i32_97
  let v151 : BitVec 32 := Scalar.addi v149 v150
  v151.toNat
def k0_mult8 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let v58 : BitVec 32 := Scalar.muli c4_i32_37 v55
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let v59 : BitVec 32 := Scalar.muli c2_i32_38 v56
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let v61 : BitVec 32 := Scalar.addi v60 v57
  let c128_i32_101 : BitVec 32 := 128#32
  let v159 : BitVec 32 := Scalar.muli v61 c128_i32_101
  v159
def k0_dev7 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_103 : BitVec 32 := 4#32
  let v161 : BitVec 32 := Scalar.muli v55 c4_i32_103
  let v162 : BitVec 32 := Scalar.addi c0_i32_104 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_105 : BitVec 32 := 2#32
  let v163 : BitVec 32 := Scalar.muli v56 c2_i32_105
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_106 : BitVec 32 := 1#32
  let v165 : BitVec 32 := Scalar.muli v57 c1_i32_106
  let v166 : BitVec 32 := Scalar.addi v164 v165
  v166.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32 : BitVec 32 := 192#32
  let v174 : BitVec 32 := Scalar.muli v12 c192_i32
  v174
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_111 : BitVec 32 := 0#32
  let c0_i32_112 : BitVec 32 := 0#32
  ![v12.toNat, 0, 0]
def k0_off5 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32 : BitVec 32 := 192#32
  let v174 : BitVec 32 := Scalar.muli v12 c192_i32
  let v175 : BitVec 32 := v174
  let c0_i32_113 : BitVec 32 := 0#32
  ![v175.toNat, 0]
def k0_mult10 (d0 : Dev nD) : BitVec 32 :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let v19 : BitVec 32 := Scalar.addi v18 v15
  let c192_i32_114 : BitVec 32 := 192#32
  let v181 : BitVec 32 := Scalar.muli v19 c192_i32_114
  v181
def k0_off6 (d0 : Dev nD) (c0_i32 : BitVec 32) (c0_i32_5 : BitVec 32) (c1_i32_6 : BitVec 32) : Fin 2 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c192_i32_114 : BitVec 32 := 192#32
  let v181 : BitVec 32 := Scalar.muli v19 c192_i32_114
  let v182 : BitVec 32 := v181
  let c0_i32_122 : BitVec 32 := 0#32
  ![v182.toNat, 0]
def k0_off6_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev8 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_116 : BitVec 32 := 4#32
  let v183 : BitVec 32 := Scalar.muli v13 c4_i32_116
  let v184 : BitVec 32 := Scalar.addi c0_i32_117 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_118 : BitVec 32 := 2#32
  let v185 : BitVec 32 := Scalar.muli v14 c2_i32_118
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_119 : BitVec 32 := 1#32
  let v187 : BitVec 32 := Scalar.muli v15 c1_i32_119
  let v188 : BitVec 32 := Scalar.addi v186 v187
  v188.toNat
def k0_mult11 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let v23 : BitVec 32 := Scalar.muli c4_i32_12 v20
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let v24 : BitVec 32 := Scalar.muli c2_i32_13 v21
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let v26 : BitVec 32 := Scalar.addi v25 v22
  let c192_i32_123 : BitVec 32 := 192#32
  let v196 : BitVec 32 := Scalar.muli v26 c192_i32_123
  v196
def k0_dev9 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_125 : BitVec 32 := 4#32
  let v198 : BitVec 32 := Scalar.muli v20 c4_i32_125
  let v199 : BitVec 32 := Scalar.addi c0_i32_126 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_127 : BitVec 32 := 2#32
  let v200 : BitVec 32 := Scalar.muli v21 c2_i32_127
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_128 : BitVec 32 := 1#32
  let v202 : BitVec 32 := Scalar.muli v22 c1_i32_128
  let v203 : BitVec 32 := Scalar.addi v201 v202
  v203.toNat
def k0_mult12 (d0 : Dev nD) : BitVec 32 :=
  let c4_i32_17 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let v30 : BitVec 32 := Scalar.muli c4_i32_17 v27
  let c2_i32_18 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let v31 : BitVec 32 := Scalar.muli c2_i32_18 v28
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let v33 : BitVec 32 := Scalar.addi v32 v29
  let c192_i32_132 : BitVec 32 := 192#32
  let v211 : BitVec 32 := Scalar.muli v33 c192_i32_132
  v211
def k0_dev10 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_134 : BitVec 32 := 4#32
  let v213 : BitVec 32 := Scalar.muli v27 c4_i32_134
  let v214 : BitVec 32 := Scalar.addi c0_i32_135 v213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_136 : BitVec 32 := 2#32
  let v215 : BitVec 32 := Scalar.muli v28 c2_i32_136
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_137 : BitVec 32 := 1#32
  let v217 : BitVec 32 := Scalar.muli v29 c1_i32_137
  let v218 : BitVec 32 := Scalar.addi v216 v217
  v218.toNat
def k0_mult13 (d0 : Dev nD) : BitVec 32 :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let v37 : BitVec 32 := Scalar.muli c4_i32_22 v34
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let v38 : BitVec 32 := Scalar.muli c2_i32_23 v35
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let v40 : BitVec 32 := Scalar.addi v39 v36
  let c192_i32_141 : BitVec 32 := 192#32
  let v226 : BitVec 32 := Scalar.muli v40 c192_i32_141
  v226
def k0_dev11 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_143 : BitVec 32 := 4#32
  let v228 : BitVec 32 := Scalar.muli v34 c4_i32_143
  let v229 : BitVec 32 := Scalar.addi c0_i32_144 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_145 : BitVec 32 := 2#32
  let v230 : BitVec 32 := Scalar.muli v35 c2_i32_145
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_146 : BitVec 32 := 1#32
  let v232 : BitVec 32 := Scalar.muli v36 c1_i32_146
  let v233 : BitVec 32 := Scalar.addi v231 v232
  v233.toNat
def k0_mult14 (d0 : Dev nD) : BitVec 32 :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let v44 : BitVec 32 := Scalar.muli c4_i32_27 v41
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let v45 : BitVec 32 := Scalar.muli c2_i32_28 v42
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let v47 : BitVec 32 := Scalar.addi v46 v43
  let c192_i32_150 : BitVec 32 := 192#32
  let v241 : BitVec 32 := Scalar.muli v47 c192_i32_150
  v241
def k0_dev12 (d0 : Dev nD) : Nat :=
  let c0_i32_153 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_152 : BitVec 32 := 4#32
  let v243 : BitVec 32 := Scalar.muli v41 c4_i32_152
  let v244 : BitVec 32 := Scalar.addi c0_i32_153 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_154 : BitVec 32 := 2#32
  let v245 : BitVec 32 := Scalar.muli v42 c2_i32_154
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_155 : BitVec 32 := 1#32
  let v247 : BitVec 32 := Scalar.muli v43 c1_i32_155
  let v248 : BitVec 32 := Scalar.addi v246 v247
  v248.toNat
def k0_mult15 (d0 : Dev nD) : BitVec 32 :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let v51 : BitVec 32 := Scalar.muli c4_i32_32 v48
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let v52 : BitVec 32 := Scalar.muli c2_i32_33 v49
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let v54 : BitVec 32 := Scalar.addi v53 v50
  let c192_i32_159 : BitVec 32 := 192#32
  let v256 : BitVec 32 := Scalar.muli v54 c192_i32_159
  v256
def k0_dev13 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_161 : BitVec 32 := 4#32
  let v258 : BitVec 32 := Scalar.muli v48 c4_i32_161
  let v259 : BitVec 32 := Scalar.addi c0_i32_162 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_163 : BitVec 32 := 2#32
  let v260 : BitVec 32 := Scalar.muli v49 c2_i32_163
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_164 : BitVec 32 := 1#32
  let v262 : BitVec 32 := Scalar.muli v50 c1_i32_164
  let v263 : BitVec 32 := Scalar.addi v261 v262
  v263.toNat
def k0_mult16 (d0 : Dev nD) : BitVec 32 :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let v58 : BitVec 32 := Scalar.muli c4_i32_37 v55
  let c2_i32_38 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let v59 : BitVec 32 := Scalar.muli c2_i32_38 v56
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let v61 : BitVec 32 := Scalar.addi v60 v57
  let c192_i32_168 : BitVec 32 := 192#32
  let v271 : BitVec 32 := Scalar.muli v61 c192_i32_168
  v271
def k0_dev14 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_170 : BitVec 32 := 4#32
  let v273 : BitVec 32 := Scalar.muli v55 c4_i32_170
  let v274 : BitVec 32 := Scalar.addi c0_i32_171 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_172 : BitVec 32 := 2#32
  let v275 : BitVec 32 := Scalar.muli v56 c2_i32_172
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_173 : BitVec 32 := 1#32
  let v277 : BitVec 32 := Scalar.muli v57 c1_i32_173
  let v278 : BitVec 32 := Scalar.addi v276 v277
  v278.toNat
def k0_mult17 (d0 : Dev nD) : BitVec 32 :=
  let c4_i32_183 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v295 : BitVec 32 := Scalar.muli c4_i32_183 v288
  let c2_i32_184 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v296 : BitVec 32 := Scalar.muli c2_i32_184 v291
  let v297 : BitVec 32 := Scalar.addi v295 v296
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v298 : BitVec 32 := Scalar.addi v297 v294
  let c128_i32_220 : BitVec 32 := 128#32
  let v348 : BitVec 32 := Scalar.muli v298 c128_i32_220
  v348
def k0_mult18 (d0 : Dev nD) : BitVec 32 :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_185 : BitVec 32 := 0#32
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_186 : BitVec 32 := 0#32
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_187 : BitVec 32 := 1#32
  let v301 : BitVec 32 := Scalar.xori v294 c1_i32_187
  let v305 : BitVec 32 := Scalar.addi v304 v301
  let c128_i32_221 : BitVec 32 := 128#32
  let v350 : BitVec 32 := Scalar.muli v305 c128_i32_221
  v350
def k0_off7 (d0 : Dev nD) (c0_i32_185 : BitVec 32) (c0_i32_186 : BitVec 32) (c1_i32_187 : BitVec 32) : Fin 3 → Nat :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v301 : BitVec 32 := Scalar.xori v294 c1_i32_187
  let v305 : BitVec 32 := Scalar.addi v304 v301
  let c0_i32_228 : BitVec 32 := 0#32
  let c0_i32_229 : BitVec 32 := 0#32
  ![v305.toNat, 0, 0]
def k0_off7_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult19 (d0 : Dev nD) : BitVec 32 :=
  let c4_i32_193 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_190 : BitVec 32 := 0#32
  let v306 : BitVec 32 := Scalar.xori v288 c0_i32_190
  let v309 : BitVec 32 := Scalar.muli c4_i32_193 v306
  let c2_i32_194 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_191 : BitVec 32 := 1#32
  let v307 : BitVec 32 := Scalar.xori v291 c1_i32_191
  let v310 : BitVec 32 := Scalar.muli c2_i32_194 v307
  let v311 : BitVec 32 := Scalar.addi v309 v310
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_192 : BitVec 32 := 0#32
  let v308 : BitVec 32 := Scalar.xori v294 c0_i32_192
  let v312 : BitVec 32 := Scalar.addi v311 v308
  let c128_i32_237 : BitVec 32 := 128#32
  let v368 : BitVec 32 := Scalar.muli v312 c128_i32_237
  v368
def k0_mult20 (d0 : Dev nD) : BitVec 32 :=
  let c4_i32_198 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_195 : BitVec 32 := 0#32
  let v313 : BitVec 32 := Scalar.xori v288 c0_i32_195
  let v316 : BitVec 32 := Scalar.muli c4_i32_198 v313
  let c2_i32_199 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_196 : BitVec 32 := 1#32
  let v314 : BitVec 32 := Scalar.xori v291 c1_i32_196
  let v317 : BitVec 32 := Scalar.muli c2_i32_199 v314
  let v318 : BitVec 32 := Scalar.addi v316 v317
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_197 : BitVec 32 := 1#32
  let v315 : BitVec 32 := Scalar.xori v294 c1_i32_197
  let v319 : BitVec 32 := Scalar.addi v318 v315
  let c128_i32_253 : BitVec 32 := 128#32
  let v386 : BitVec 32 := Scalar.muli v319 c128_i32_253
  v386
def k0_mult21 (d0 : Dev nD) : BitVec 32 :=
  let c4_i32_203 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_200 : BitVec 32 := 1#32
  let v320 : BitVec 32 := Scalar.xori v288 c1_i32_200
  let v323 : BitVec 32 := Scalar.muli c4_i32_203 v320
  let c2_i32_204 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_201 : BitVec 32 := 0#32
  let v321 : BitVec 32 := Scalar.xori v291 c0_i32_201
  let v324 : BitVec 32 := Scalar.muli c2_i32_204 v321
  let v325 : BitVec 32 := Scalar.addi v323 v324
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_202 : BitVec 32 := 0#32
  let v322 : BitVec 32 := Scalar.xori v294 c0_i32_202
  let v326 : BitVec 32 := Scalar.addi v325 v322
  let c128_i32_269 : BitVec 32 := 128#32
  let v404 : BitVec 32 := Scalar.muli v326 c128_i32_269
  v404
def k0_mult22 (d0 : Dev nD) : BitVec 32 :=
  let c4_i32_208 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_205 : BitVec 32 := 1#32
  let v327 : BitVec 32 := Scalar.xori v288 c1_i32_205
  let v330 : BitVec 32 := Scalar.muli c4_i32_208 v327
  let c2_i32_209 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_206 : BitVec 32 := 0#32
  let v328 : BitVec 32 := Scalar.xori v291 c0_i32_206
  let v331 : BitVec 32 := Scalar.muli c2_i32_209 v328
  let v332 : BitVec 32 := Scalar.addi v330 v331
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_207 : BitVec 32 := 1#32
  let v329 : BitVec 32 := Scalar.xori v294 c1_i32_207
  let v333 : BitVec 32 := Scalar.addi v332 v329
  let c128_i32_285 : BitVec 32 := 128#32
  let v422 : BitVec 32 := Scalar.muli v333 c128_i32_285
  v422
def k0_mult23 (d0 : Dev nD) : BitVec 32 :=
  let c4_i32_213 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_210 : BitVec 32 := 1#32
  let v334 : BitVec 32 := Scalar.xori v288 c1_i32_210
  let v337 : BitVec 32 := Scalar.muli c4_i32_213 v334
  let c2_i32_214 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_211 : BitVec 32 := 1#32
  let v335 : BitVec 32 := Scalar.xori v291 c1_i32_211
  let v338 : BitVec 32 := Scalar.muli c2_i32_214 v335
  let v339 : BitVec 32 := Scalar.addi v337 v338
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_212 : BitVec 32 := 0#32
  let v336 : BitVec 32 := Scalar.xori v294 c0_i32_212
  let v340 : BitVec 32 := Scalar.addi v339 v336
  let c128_i32_301 : BitVec 32 := 128#32
  let v440 : BitVec 32 := Scalar.muli v340 c128_i32_301
  v440
def k0_mult24 (d0 : Dev nD) : BitVec 32 :=
  let c4_i32_218 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_215 : BitVec 32 := 1#32
  let v341 : BitVec 32 := Scalar.xori v288 c1_i32_215
  let v344 : BitVec 32 := Scalar.muli c4_i32_218 v341
  let c2_i32_219 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_216 : BitVec 32 := 1#32
  let v342 : BitVec 32 := Scalar.xori v291 c1_i32_216
  let v345 : BitVec 32 := Scalar.muli c2_i32_219 v342
  let v346 : BitVec 32 := Scalar.addi v344 v345
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_217 : BitVec 32 := 1#32
  let v343 : BitVec 32 := Scalar.xori v294 c1_i32_217
  let v347 : BitVec 32 := Scalar.addi v346 v343
  let c128_i32_317 : BitVec 32 := 128#32
  let v458 : BitVec 32 := Scalar.muli v347 c128_i32_317
  v458
def k0_mult25 (d0 : Dev nD) : BitVec 32 :=
  let c4_i32_183 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v295 : BitVec 32 := Scalar.muli c4_i32_183 v288
  let c2_i32_184 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v296 : BitVec 32 := Scalar.muli c2_i32_184 v291
  let v297 : BitVec 32 := Scalar.addi v295 v296
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v298 : BitVec 32 := Scalar.addi v297 v294
  let c192_i32_337 : BitVec 32 := 192#32
  let v481 : BitVec 32 := Scalar.muli v298 c192_i32_337
  v481
def k0_mult26 (d0 : Dev nD) : BitVec 32 :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_185 : BitVec 32 := 0#32
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_186 : BitVec 32 := 0#32
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_187 : BitVec 32 := 1#32
  let v301 : BitVec 32 := Scalar.xori v294 c1_i32_187
  let v305 : BitVec 32 := Scalar.addi v304 v301
  let c192_i32_338 : BitVec 32 := 192#32
  let v483 : BitVec 32 := Scalar.muli v305 c192_i32_338
  v483
def k0_off8 (d0 : Dev nD) (c0_i32_185 : BitVec 32) (c0_i32_186 : BitVec 32) (c1_i32_187 : BitVec 32) : Fin 3 → Nat :=
  let c4_i32_188 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let v299 : BitVec 32 := Scalar.xori v288 c0_i32_185
  let v302 : BitVec 32 := Scalar.muli c4_i32_188 v299
  let c2_i32_189 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let v300 : BitVec 32 := Scalar.xori v291 c0_i32_186
  let v303 : BitVec 32 := Scalar.muli c2_i32_189 v300
  let v304 : BitVec 32 := Scalar.addi v302 v303
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let v301 : BitVec 32 := Scalar.xori v294 c1_i32_187
  let v305 : BitVec 32 := Scalar.addi v304 v301
  let c0_i32_345 : BitVec 32 := 0#32
  let c0_i32_346 : BitVec 32 := 0#32
  ![v305.toNat, 0, 0]
def k0_off8_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult27 (d0 : Dev nD) : BitVec 32 :=
  let c4_i32_193 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_190 : BitVec 32 := 0#32
  let v306 : BitVec 32 := Scalar.xori v288 c0_i32_190
  let v309 : BitVec 32 := Scalar.muli c4_i32_193 v306
  let c2_i32_194 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_191 : BitVec 32 := 1#32
  let v307 : BitVec 32 := Scalar.xori v291 c1_i32_191
  let v310 : BitVec 32 := Scalar.muli c2_i32_194 v307
  let v311 : BitVec 32 := Scalar.addi v309 v310
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_192 : BitVec 32 := 0#32
  let v308 : BitVec 32 := Scalar.xori v294 c0_i32_192
  let v312 : BitVec 32 := Scalar.addi v311 v308
  let c192_i32_354 : BitVec 32 := 192#32
  let v501 : BitVec 32 := Scalar.muli v312 c192_i32_354
  v501
def k0_mult28 (d0 : Dev nD) : BitVec 32 :=
  let c4_i32_198 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c0_i32_195 : BitVec 32 := 0#32
  let v313 : BitVec 32 := Scalar.xori v288 c0_i32_195
  let v316 : BitVec 32 := Scalar.muli c4_i32_198 v313
  let c2_i32_199 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_196 : BitVec 32 := 1#32
  let v314 : BitVec 32 := Scalar.xori v291 c1_i32_196
  let v317 : BitVec 32 := Scalar.muli c2_i32_199 v314
  let v318 : BitVec 32 := Scalar.addi v316 v317
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_197 : BitVec 32 := 1#32
  let v315 : BitVec 32 := Scalar.xori v294 c1_i32_197
  let v319 : BitVec 32 := Scalar.addi v318 v315
  let c192_i32_370 : BitVec 32 := 192#32
  let v519 : BitVec 32 := Scalar.muli v319 c192_i32_370
  v519
def k0_mult29 (d0 : Dev nD) : BitVec 32 :=
  let c4_i32_203 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_200 : BitVec 32 := 1#32
  let v320 : BitVec 32 := Scalar.xori v288 c1_i32_200
  let v323 : BitVec 32 := Scalar.muli c4_i32_203 v320
  let c2_i32_204 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_201 : BitVec 32 := 0#32
  let v321 : BitVec 32 := Scalar.xori v291 c0_i32_201
  let v324 : BitVec 32 := Scalar.muli c2_i32_204 v321
  let v325 : BitVec 32 := Scalar.addi v323 v324
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_202 : BitVec 32 := 0#32
  let v322 : BitVec 32 := Scalar.xori v294 c0_i32_202
  let v326 : BitVec 32 := Scalar.addi v325 v322
  let c192_i32_386 : BitVec 32 := 192#32
  let v537 : BitVec 32 := Scalar.muli v326 c192_i32_386
  v537
def k0_mult30 (d0 : Dev nD) : BitVec 32 :=
  let c4_i32_208 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_205 : BitVec 32 := 1#32
  let v327 : BitVec 32 := Scalar.xori v288 c1_i32_205
  let v330 : BitVec 32 := Scalar.muli c4_i32_208 v327
  let c2_i32_209 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c0_i32_206 : BitVec 32 := 0#32
  let v328 : BitVec 32 := Scalar.xori v291 c0_i32_206
  let v331 : BitVec 32 := Scalar.muli c2_i32_209 v328
  let v332 : BitVec 32 := Scalar.addi v330 v331
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_207 : BitVec 32 := 1#32
  let v329 : BitVec 32 := Scalar.xori v294 c1_i32_207
  let v333 : BitVec 32 := Scalar.addi v332 v329
  let c192_i32_402 : BitVec 32 := 192#32
  let v555 : BitVec 32 := Scalar.muli v333 c192_i32_402
  v555
def k0_mult31 (d0 : Dev nD) : BitVec 32 :=
  let c4_i32_213 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_210 : BitVec 32 := 1#32
  let v334 : BitVec 32 := Scalar.xori v288 c1_i32_210
  let v337 : BitVec 32 := Scalar.muli c4_i32_213 v334
  let c2_i32_214 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_211 : BitVec 32 := 1#32
  let v335 : BitVec 32 := Scalar.xori v291 c1_i32_211
  let v338 : BitVec 32 := Scalar.muli c2_i32_214 v335
  let v339 : BitVec 32 := Scalar.addi v337 v338
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c0_i32_212 : BitVec 32 := 0#32
  let v336 : BitVec 32 := Scalar.xori v294 c0_i32_212
  let v340 : BitVec 32 := Scalar.addi v339 v336
  let c192_i32_418 : BitVec 32 := 192#32
  let v573 : BitVec 32 := Scalar.muli v340 c192_i32_418
  v573
def k0_mult32 (d0 : Dev nD) : BitVec 32 :=
  let c4_i32_218 : BitVec 32 := 4#32
  let v286 : BitVec 32 := Dev.word d0
  let c4_i32_178 : BitVec 32 := 4#32
  let v287 : BitVec 32 := Scalar.divsi v286 c4_i32_178
  let c2_i32_177 : BitVec 32 := 2#32
  let v288 : BitVec 32 := Scalar.remsi v287 c2_i32_177
  let c1_i32_215 : BitVec 32 := 1#32
  let v341 : BitVec 32 := Scalar.xori v288 c1_i32_215
  let v344 : BitVec 32 := Scalar.muli c4_i32_218 v341
  let c2_i32_219 : BitVec 32 := 2#32
  let v289 : BitVec 32 := Dev.word d0
  let c2_i32_180 : BitVec 32 := 2#32
  let v290 : BitVec 32 := Scalar.divsi v289 c2_i32_180
  let c2_i32_179 : BitVec 32 := 2#32
  let v291 : BitVec 32 := Scalar.remsi v290 c2_i32_179
  let c1_i32_216 : BitVec 32 := 1#32
  let v342 : BitVec 32 := Scalar.xori v291 c1_i32_216
  let v345 : BitVec 32 := Scalar.muli c2_i32_219 v342
  let v346 : BitVec 32 := Scalar.addi v344 v345
  let v292 : BitVec 32 := Dev.word d0
  let c1_i32_182 : BitVec 32 := 1#32
  let v293 : BitVec 32 := Scalar.divsi v292 c1_i32_182
  let c2_i32_181 : BitVec 32 := 2#32
  let v294 : BitVec 32 := Scalar.remsi v293 c2_i32_181
  let c1_i32_217 : BitVec 32 := 1#32
  let v343 : BitVec 32 := Scalar.xori v294 c1_i32_217
  let v347 : BitVec 32 := Scalar.addi v346 v343
  let c192_i32_434 : BitVec 32 := 192#32
  let v591 : BitVec 32 := Scalar.muli v347 c192_i32_434
  v591
-- ==== SentOdd.lean ====
abbrev S8192x1024 : Shape := ⟨2, ![8192, 1024]⟩
abbrev S12288x1024 : Shape := ⟨2, ![12288, 1024]⟩
abbrev S8x1024x1024 : Shape := ⟨3, ![8, 1024, 1024]⟩
abbrev S8x1536x1024 : Shape := ⟨3, ![8, 1536, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8x1024x1024, .bf16⟩
  | .hbm, ⟨3, _⟩ => ⟨S8x1536x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GatherEven.lean ====
abbrev S1024x384 : Shape := ⟨2, ![1024, 384]⟩
abbrev S128x1024 : Shape := ⟨2, ![128, 1024]⟩
abbrev S1024x3072 : Shape := ⟨2, ![1024, 3072]⟩
abbrev S1024x1024 : Shape := ⟨2, ![1024, 1024]⟩
abbrev S14 : Shape := ⟨1, ![14]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S1024x384, .bf16⟩
  | .hbm, ⟨1, _⟩ => ⟨S128x1024, .bf16⟩
  | .hbm, ⟨2, _⟩ => ⟨S1024x3072, .bf16⟩
  | .hbm, ⟨3, _⟩ => ⟨S1024x1024, .bf16⟩
  | _, _ => ⟨S1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v34 : BitVec 32 := Scalar.muli v12 c384_i32
  v34
def k0_off1 (d0 : Dev nD) : Fin 2 → Nat :=
  let c0_i32_26 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v34 : BitVec 32 := Scalar.muli v12 c384_i32
  let v35 : BitVec 32 := v34
  ![0, v35.toNat]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_27 : BitVec 32 := 384#32
  let v39 : BitVec 32 := Scalar.muli v12 c384_i32_27
  v39
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v41 : BitVec 32 := Scalar.muli v13 c4_i32_30
  let v42 : BitVec 32 := Scalar.addi c0_i32_31 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v43 : BitVec 32 := Scalar.muli v14 c2_i32_32
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v45 : BitVec 32 := Scalar.muli v15 c1_i32_33
  let v46 : BitVec 32 := Scalar.addi v44 v45
  v46.toNat
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_35 : BitVec 32 := 384#32
  let v52 : BitVec 32 := Scalar.muli v12 c384_i32_35
  v52
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v54 : BitVec 32 := Scalar.muli v16 c4_i32_38
  let v55 : BitVec 32 := Scalar.addi c0_i32_39 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v56 : BitVec 32 := Scalar.muli v17 c2_i32_40
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v58 : BitVec 32 := Scalar.muli v18 c1_i32_41
  let v59 : BitVec 32 := Scalar.addi v57 v58
  v59.toNat
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_43 : BitVec 32 := 384#32
  let v65 : BitVec 32 := Scalar.muli v12 c384_i32_43
  v65
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v67 : BitVec 32 := Scalar.muli v19 c4_i32_46
  let v68 : BitVec 32 := Scalar.addi c0_i32_47 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v69 : BitVec 32 := Scalar.muli v20 c2_i32_48
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v71 : BitVec 32 := Scalar.muli v21 c1_i32_49
  let v72 : BitVec 32 := Scalar.addi v70 v71
  v72.toNat
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_51 : BitVec 32 := 384#32
  let v78 : BitVec 32 := Scalar.muli v12 c384_i32_51
  v78
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v80 : BitVec 32 := Scalar.muli v22 c4_i32_53
  let v81 : BitVec 32 := Scalar.addi c0_i32_54 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v82 : BitVec 32 := Scalar.muli v23 c2_i32_55
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v84 : BitVec 32 := Scalar.muli v24 c1_i32_56
  let v85 : BitVec 32 := Scalar.addi v83 v84
  v85.toNat
def k0_mult6 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_58 : BitVec 32 := 384#32
  let v91 : BitVec 32 := Scalar.muli v12 c384_i32_58
  v91
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v93 : BitVec 32 := Scalar.muli v25 c4_i32_61
  let v94 : BitVec 32 := Scalar.addi c0_i32_62 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v95 : BitVec 32 := Scalar.muli v26 c2_i32_63
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v97 : BitVec 32 := Scalar.muli v27 c1_i32_64
  let v98 : BitVec 32 := Scalar.addi v96 v97
  v98.toNat
def k0_mult7 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_66 : BitVec 32 := 384#32
  let v104 : BitVec 32 := Scalar.muli v12 c384_i32_66
  v104
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v106 : BitVec 32 := Scalar.muli v28 c4_i32_68
  let v107 : BitVec 32 := Scalar.addi c0_i32_69 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v108 : BitVec 32 := Scalar.muli v29 c2_i32_70
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v110 : BitVec 32 := Scalar.muli v30 c1_i32_71
  let v111 : BitVec 32 := Scalar.addi v109 v110
  v111.toNat
def k0_mult8 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_73 : BitVec 32 := 384#32
  let v117 : BitVec 32 := Scalar.muli v12 c384_i32_73
  v117
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v119 : BitVec 32 := Scalar.muli v31 c4_i32_75
  let v120 : BitVec 32 := Scalar.addi c0_i32_76 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v121 : BitVec 32 := Scalar.muli v32 c2_i32_77
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v123 : BitVec 32 := Scalar.muli v33 c1_i32_78
  let v124 : BitVec 32 := Scalar.addi v122 v123
  v124.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v130 : BitVec 32 := Scalar.muli v12 c128_i32
  v130
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v130 : BitVec 32 := Scalar.muli v12 c128_i32
  let v131 : BitVec 32 := v130
  let c0_i32_81 : BitVec 32 := 0#32
  ![v131.toNat, 0]
def k0_mult10 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_82 : BitVec 32 := 128#32
  let v135 : BitVec 32 := Scalar.muli v12 c128_i32_82
  v135
def k0_dev8 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_84 : BitVec 32 := 4#32
  let v137 : BitVec 32 := Scalar.muli v13 c4_i32_84
  let v138 : BitVec 32 := Scalar.addi c0_i32_85 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_86 : BitVec 32 := 2#32
  let v139 : BitVec 32 := Scalar.muli v14 c2_i32_86
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_87 : BitVec 32 := 1#32
  let v141 : BitVec 32 := Scalar.muli v15 c1_i32_87
  let v142 : BitVec 32 := Scalar.addi v140 v141
  v142.toNat
def k0_mult11 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_89 : BitVec 32 := 128#32
  let v148 : BitVec 32 := Scalar.muli v12 c128_i32_89
  v148
def k0_dev9 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_91 : BitVec 32 := 4#32
  let v150 : BitVec 32 := Scalar.muli v16 c4_i32_91
  let v151 : BitVec 32 := Scalar.addi c0_i32_92 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_93 : BitVec 32 := 2#32
  let v152 : BitVec 32 := Scalar.muli v17 c2_i32_93
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_94 : BitVec 32 := 1#32
  let v154 : BitVec 32 := Scalar.muli v18 c1_i32_94
  let v155 : BitVec 32 := Scalar.addi v153 v154
  v155.toNat
def k0_mult12 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_96 : BitVec 32 := 128#32
  let v161 : BitVec 32 := Scalar.muli v12 c128_i32_96
  v161
def k0_dev10 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_98 : BitVec 32 := 4#32
  let v163 : BitVec 32 := Scalar.muli v19 c4_i32_98
  let v164 : BitVec 32 := Scalar.addi c0_i32_99 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_100 : BitVec 32 := 2#32
  let v165 : BitVec 32 := Scalar.muli v20 c2_i32_100
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_101 : BitVec 32 := 1#32
  let v167 : BitVec 32 := Scalar.muli v21 c1_i32_101
  let v168 : BitVec 32 := Scalar.addi v166 v167
  v168.toNat
def k0_mult13 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_103 : BitVec 32 := 128#32
  let v174 : BitVec 32 := Scalar.muli v12 c128_i32_103
  v174
def k0_dev11 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_105 : BitVec 32 := 4#32
  let v176 : BitVec 32 := Scalar.muli v22 c4_i32_105
  let v177 : BitVec 32 := Scalar.addi c0_i32_106 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_107 : BitVec 32 := 2#32
  let v178 : BitVec 32 := Scalar.muli v23 c2_i32_107
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_108 : BitVec 32 := 1#32
  let v180 : BitVec 32 := Scalar.muli v24 c1_i32_108
  let v181 : BitVec 32 := Scalar.addi v179 v180
  v181.toNat
def k0_mult14 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_110 : BitVec 32 := 128#32
  let v187 : BitVec 32 := Scalar.muli v12 c128_i32_110
  v187
def k0_dev12 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_112 : BitVec 32 := 4#32
  let v189 : BitVec 32 := Scalar.muli v25 c4_i32_112
  let v190 : BitVec 32 := Scalar.addi c0_i32_113 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_114 : BitVec 32 := 2#32
  let v191 : BitVec 32 := Scalar.muli v26 c2_i32_114
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_115 : BitVec 32 := 1#32
  let v193 : BitVec 32 := Scalar.muli v27 c1_i32_115
  let v194 : BitVec 32 := Scalar.addi v192 v193
  v194.toNat
def k0_mult15 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_117 : BitVec 32 := 128#32
  let v200 : BitVec 32 := Scalar.muli v12 c128_i32_117
  v200
def k0_dev13 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_119 : BitVec 32 := 4#32
  let v202 : BitVec 32 := Scalar.muli v28 c4_i32_119
  let v203 : BitVec 32 := Scalar.addi c0_i32_120 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_121 : BitVec 32 := 2#32
  let v204 : BitVec 32 := Scalar.muli v29 c2_i32_121
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_122 : BitVec 32 := 1#32
  let v206 : BitVec 32 := Scalar.muli v30 c1_i32_122
  let v207 : BitVec 32 := Scalar.addi v205 v206
  v207.toNat
def k0_mult16 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_124 : BitVec 32 := 128#32
  let v213 : BitVec 32 := Scalar.muli v12 c128_i32_124
  v213
def k0_dev14 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_126 : BitVec 32 := 4#32
  let v215 : BitVec 32 := Scalar.muli v31 c4_i32_126
  let v216 : BitVec 32 := Scalar.addi c0_i32_127 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_128 : BitVec 32 := 2#32
  let v217 : BitVec 32 := Scalar.muli v32 c2_i32_128
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_129 : BitVec 32 := 1#32
  let v219 : BitVec 32 := Scalar.muli v33 c1_i32_129
  let v220 : BitVec 32 := Scalar.addi v218 v219
  v220.toNat
def k0_mult17 (d0 : Dev nD) : BitVec 32 :=
  let c4_i32_137 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v235 : BitVec 32 := Scalar.muli c4_i32_137 v228
  let c2_i32_138 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v236 : BitVec 32 := Scalar.muli c2_i32_138 v231
  let v237 : BitVec 32 := Scalar.addi v235 v236
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v238 : BitVec 32 := Scalar.addi v237 v234
  let c384_i32_174 : BitVec 32 := 384#32
  let v288 : BitVec 32 := Scalar.muli v238 c384_i32_174
  v288
def k0_mult18 (d0 : Dev nD) : BitVec 32 :=
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_139 : BitVec 32 := 0#32
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_140 : BitVec 32 := 0#32
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_141 : BitVec 32 := 1#32
  let v241 : BitVec 32 := Scalar.xori v234 c1_i32_141
  let v245 : BitVec 32 := Scalar.addi v244 v241
  let c384_i32_175 : BitVec 32 := 384#32
  let v290 : BitVec 32 := Scalar.muli v245 c384_i32_175
  v290
def k0_off3 (d0 : Dev nD) (c0_i32_139 : BitVec 32) (c0_i32_140 : BitVec 32) (c1_i32_141 : BitVec 32) : Fin 2 → Nat :=
  let c0_i32_182 : BitVec 32 := 0#32
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v241 : BitVec 32 := Scalar.xori v234 c1_i32_141
  let v245 : BitVec 32 := Scalar.addi v244 v241
  let c384_i32_175 : BitVec 32 := 384#32
  let v290 : BitVec 32 := Scalar.muli v245 c384_i32_175
  let v291 : BitVec 32 := v290
  ![0, v291.toNat]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult19 (d0 : Dev nD) : BitVec 32 :=
  let c4_i32_147 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_144 : BitVec 32 := 0#32
  let v246 : BitVec 32 := Scalar.xori v228 c0_i32_144
  let v249 : BitVec 32 := Scalar.muli c4_i32_147 v246
  let c2_i32_148 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_145 : BitVec 32 := 1#32
  let v247 : BitVec 32 := Scalar.xori v231 c1_i32_145
  let v250 : BitVec 32 := Scalar.muli c2_i32_148 v247
  let v251 : BitVec 32 := Scalar.addi v249 v250
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_146 : BitVec 32 := 0#32
  let v248 : BitVec 32 := Scalar.xori v234 c0_i32_146
  let v252 : BitVec 32 := Scalar.addi v251 v248
  let c384_i32_187 : BitVec 32 := 384#32
  let v304 : BitVec 32 := Scalar.muli v252 c384_i32_187
  v304
def k0_mult20 (d0 : Dev nD) : BitVec 32 :=
  let c4_i32_152 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_149 : BitVec 32 := 0#32
  let v253 : BitVec 32 := Scalar.xori v228 c0_i32_149
  let v256 : BitVec 32 := Scalar.muli c4_i32_152 v253
  let c2_i32_153 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_150 : BitVec 32 := 1#32
  let v254 : BitVec 32 := Scalar.xori v231 c1_i32_150
  let v257 : BitVec 32 := Scalar.muli c2_i32_153 v254
  let v258 : BitVec 32 := Scalar.addi v256 v257
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_151 : BitVec 32 := 1#32
  let v255 : BitVec 32 := Scalar.xori v234 c1_i32_151
  let v259 : BitVec 32 := Scalar.addi v258 v255
  let c384_i32_199 : BitVec 32 := 384#32
  let v318 : BitVec 32 := Scalar.muli v259 c384_i32_199
  v318
def k0_mult21 (d0 : Dev nD) : BitVec 32 :=
  let c4_i32_157 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_154 : BitVec 32 := 1#32
  let v260 : BitVec 32 := Scalar.xori v228 c1_i32_154
  let v263 : BitVec 32 := Scalar.muli c4_i32_157 v260
  let c2_i32_158 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_155 : BitVec 32 := 0#32
  let v261 : BitVec 32 := Scalar.xori v231 c0_i32_155
  let v264 : BitVec 32 := Scalar.muli c2_i32_158 v261
  let v265 : BitVec 32 := Scalar.addi v263 v264
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_156 : BitVec 32 := 0#32
  let v262 : BitVec 32 := Scalar.xori v234 c0_i32_156
  let v266 : BitVec 32 := Scalar.addi v265 v262
  let c384_i32_211 : BitVec 32 := 384#32
  let v332 : BitVec 32 := Scalar.muli v266 c384_i32_211
  v332
def k0_mult22 (d0 : Dev nD) : BitVec 32 :=
  let c4_i32_162 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_159 : BitVec 32 := 1#32
  let v267 : BitVec 32 := Scalar.xori v228 c1_i32_159
  let v270 : BitVec 32 := Scalar.muli c4_i32_162 v267
  let c2_i32_163 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_160 : BitVec 32 := 0#32
  let v268 : BitVec 32 := Scalar.xori v231 c0_i32_160
  let v271 : BitVec 32 := Scalar.muli c2_i32_163 v268
  let v272 : BitVec 32 := Scalar.addi v270 v271
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_161 : BitVec 32 := 1#32
  let v269 : BitVec 32 := Scalar.xori v234 c1_i32_161
  let v273 : BitVec 32 := Scalar.addi v272 v269
  let c384_i32_223 : BitVec 32 := 384#32
  let v346 : BitVec 32 := Scalar.muli v273 c384_i32_223
  v346
def k0_mult23 (d0 : Dev nD) : BitVec 32 :=
  let c4_i32_167 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_164 : BitVec 32 := 1#32
  let v274 : BitVec 32 := Scalar.xori v228 c1_i32_164
  let v277 : BitVec 32 := Scalar.muli c4_i32_167 v274
  let c2_i32_168 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_165 : BitVec 32 := 1#32
  let v275 : BitVec 32 := Scalar.xori v231 c1_i32_165
  let v278 : BitVec 32 := Scalar.muli c2_i32_168 v275
  let v279 : BitVec 32 := Scalar.addi v277 v278
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_166 : BitVec 32 := 0#32
  let v276 : BitVec 32 := Scalar.xori v234 c0_i32_166
  let v280 : BitVec 32 := Scalar.addi v279 v276
  let c384_i32_235 : BitVec 32 := 384#32
  let v360 : BitVec 32 := Scalar.muli v280 c384_i32_235
  v360
def k0_mult24 (d0 : Dev nD) : BitVec 32 :=
  let c4_i32_172 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_169 : BitVec 32 := 1#32
  let v281 : BitVec 32 := Scalar.xori v228 c1_i32_169
  let v284 : BitVec 32 := Scalar.muli c4_i32_172 v281
  let c2_i32_173 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_170 : BitVec 32 := 1#32
  let v282 : BitVec 32 := Scalar.xori v231 c1_i32_170
  let v285 : BitVec 32 := Scalar.muli c2_i32_173 v282
  let v286 : BitVec 32 := Scalar.addi v284 v285
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_171 : BitVec 32 := 1#32
  let v283 : BitVec 32 := Scalar.xori v234 c1_i32_171
  let v287 : BitVec 32 := Scalar.addi v286 v283
  let c384_i32_247 : BitVec 32 := 384#32
  let v374 : BitVec 32 := Scalar.muli v287 c384_i32_247
  v374
def k0_mult25 (d0 : Dev nD) : BitVec 32 :=
  let c4_i32_137 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v235 : BitVec 32 := Scalar.muli c4_i32_137 v228
  let c2_i32_138 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v236 : BitVec 32 := Scalar.muli c2_i32_138 v231
  let v237 : BitVec 32 := Scalar.addi v235 v236
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v238 : BitVec 32 := Scalar.addi v237 v234
  let c128_i32_261 : BitVec 32 := 128#32
  let v391 : BitVec 32 := Scalar.muli v238 c128_i32_261
  v391
def k0_mult26 (d0 : Dev nD) : BitVec 32 :=
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_139 : BitVec 32 := 0#32
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_140 : BitVec 32 := 0#32
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_141 : BitVec 32 := 1#32
  let v241 : BitVec 32 := Scalar.xori v234 c1_i32_141
  let v245 : BitVec 32 := Scalar.addi v244 v241
  let c128_i32_262 : BitVec 32 := 128#32
  let v393 : BitVec 32 := Scalar.muli v245 c128_i32_262
  v393
def k0_off4 (d0 : Dev nD) (c0_i32_139 : BitVec 32) (c0_i32_140 : BitVec 32) (c1_i32_141 : BitVec 32) : Fin 2 → Nat :=
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v241 : BitVec 32 := Scalar.xori v234 c1_i32_141
  let v245 : BitVec 32 := Scalar.addi v244 v241
  let c128_i32_262 : BitVec 32 := 128#32
  let v393 : BitVec 32 := Scalar.muli v245 c128_i32_262
  let v394 : BitVec 32 := v393
  let c0_i32_269 : BitVec 32 := 0#32
  ![v394.toNat, 0]
def k0_off4_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult27 (d0 : Dev nD) : BitVec 32 :=
  let c4_i32_147 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_144 : BitVec 32 := 0#32
  let v246 : BitVec 32 := Scalar.xori v228 c0_i32_144
  let v249 : BitVec 32 := Scalar.muli c4_i32_147 v246
  let c2_i32_148 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_145 : BitVec 32 := 1#32
  let v247 : BitVec 32 := Scalar.xori v231 c1_i32_145
  let v250 : BitVec 32 := Scalar.muli c2_i32_148 v247
  let v251 : BitVec 32 := Scalar.addi v249 v250
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_146 : BitVec 32 := 0#32
  let v248 : BitVec 32 := Scalar.xori v234 c0_i32_146
  let v252 : BitVec 32 := Scalar.addi v251 v248
  let c128_i32_274 : BitVec 32 := 128#32
  let v407 : BitVec 32 := Scalar.muli v252 c128_i32_274
  v407
def k0_mult28 (d0 : Dev nD) : BitVec 32 :=
  let c4_i32_152 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_149 : BitVec 32 := 0#32
  let v253 : BitVec 32 := Scalar.xori v228 c0_i32_149
  let v256 : BitVec 32 := Scalar.muli c4_i32_152 v253
  let c2_i32_153 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_150 : BitVec 32 := 1#32
  let v254 : BitVec 32 := Scalar.xori v231 c1_i32_150
  let v257 : BitVec 32 := Scalar.muli c2_i32_153 v254
  let v258 : BitVec 32 := Scalar.addi v256 v257
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_151 : BitVec 32 := 1#32
  let v255 : BitVec 32 := Scalar.xori v234 c1_i32_151
  let v259 : BitVec 32 := Scalar.addi v258 v255
  let c128_i32_286 : BitVec 32 := 128#32
  let v421 : BitVec 32 := Scalar.muli v259 c128_i32_286
  v421
def k0_mult29 (d0 : Dev nD) : BitVec 32 :=
  let c4_i32_157 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_154 : BitVec 32 := 1#32
  let v260 : BitVec 32 := Scalar.xori v228 c1_i32_154
  let v263 : BitVec 32 := Scalar.muli c4_i32_157 v260
  let c2_i32_158 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_155 : BitVec 32 := 0#32
  let v261 : BitVec 32 := Scalar.xori v231 c0_i32_155
  let v264 : BitVec 32 := Scalar.muli c2_i32_158 v261
  let v265 : BitVec 32 := Scalar.addi v263 v264
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_156 : BitVec 32 := 0#32
  let v262 : BitVec 32 := Scalar.xori v234 c0_i32_156
  let v266 : BitVec 32 := Scalar.addi v265 v262
  let c128_i32_298 : BitVec 32 := 128#32
  let v435 : BitVec 32 := Scalar.muli v266 c128_i32_298
  v435
def k0_mult30 (d0 : Dev nD) : BitVec 32 :=
  let c4_i32_162 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_159 : BitVec 32 := 1#32
  let v267 : BitVec 32 := Scalar.xori v228 c1_i32_159
  let v270 : BitVec 32 := Scalar.muli c4_i32_162 v267
  let c2_i32_163 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_160 : BitVec 32 := 0#32
  let v268 : BitVec 32 := Scalar.xori v231 c0_i32_160
  let v271 : BitVec 32 := Scalar.muli c2_i32_163 v268
  let v272 : BitVec 32 := Scalar.addi v270 v271
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_161 : BitVec 32 := 1#32
  let v269 : BitVec 32 := Scalar.xori v234 c1_i32_161
  let v273 : BitVec 32 := Scalar.addi v272 v269
  let c128_i32_310 : BitVec 32 := 128#32
  let v449 : BitVec 32 := Scalar.muli v273 c128_i32_310
  v449
def k0_mult31 (d0 : Dev nD) : BitVec 32 :=
  let c4_i32_167 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_164 : BitVec 32 := 1#32
  let v274 : BitVec 32 := Scalar.xori v228 c1_i32_164
  let v277 : BitVec 32 := Scalar.muli c4_i32_167 v274
  let c2_i32_168 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_165 : BitVec 32 := 1#32
  let v275 : BitVec 32 := Scalar.xori v231 c1_i32_165
  let v278 : BitVec 32 := Scalar.muli c2_i32_168 v275
  let v279 : BitVec 32 := Scalar.addi v277 v278
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_166 : BitVec 32 := 0#32
  let v276 : BitVec 32 := Scalar.xori v234 c0_i32_166
  let v280 : BitVec 32 := Scalar.addi v279 v276
  let c128_i32_322 : BitVec 32 := 128#32
  let v463 : BitVec 32 := Scalar.muli v280 c128_i32_322
  v463
def k0_mult32 (d0 : Dev nD) : BitVec 32 :=
  let c4_i32_172 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_169 : BitVec 32 := 1#32
  let v281 : BitVec 32 := Scalar.xori v228 c1_i32_169
  let v284 : BitVec 32 := Scalar.muli c4_i32_172 v281
  let c2_i32_173 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_170 : BitVec 32 := 1#32
  let v282 : BitVec 32 := Scalar.xori v231 c1_i32_170
  let v285 : BitVec 32 := Scalar.muli c2_i32_173 v282
  let v286 : BitVec 32 := Scalar.addi v284 v285
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_171 : BitVec 32 := 1#32
  let v283 : BitVec 32 := Scalar.xori v234 c1_i32_171
  let v287 : BitVec 32 := Scalar.addi v286 v283
  let c128_i32_334 : BitVec 32 := 128#32
  let v477 : BitVec 32 := Scalar.muli v287 c128_i32_334
  v477
-- ==== WholeEvenIdeal.lean ====
abbrev S1024x3072 : Shape := ⟨2, ![1024, 3072]⟩
  | .hbm, ⟨0, _⟩ => ⟨S1024x3072, .bf16⟩
  | _, _ => ⟨S1024x3072, .bf16⟩
-- ==== WholeEven.lean ====
abbrev S1024x3072 : Shape := ⟨2, ![1024, 3072]⟩
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x3072, .bf16⟩
  | .hbm, ⟨1, _⟩ => ⟨S1024x1024, .bf16⟩
  | _, _ => ⟨S1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== GatherOdd.lean ====
abbrev S192x1024 : Shape := ⟨2, ![192, 1024]⟩
abbrev S128x1024 : Shape := ⟨2, ![128, 1024]⟩
abbrev S1536x1024 : Shape := ⟨2, ![1536, 1024]⟩
abbrev S1024x1024 : Shape := ⟨2, ![1024, 1024]⟩
abbrev S14 : Shape := ⟨1, ![14]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S192x1024, .bf16⟩
  | .hbm, ⟨1, _⟩ => ⟨S128x1024, .bf16⟩
  | .hbm, ⟨2, _⟩ => ⟨S1536x1024, .bf16⟩
  | .hbm, ⟨3, _⟩ => ⟨S1024x1024, .bf16⟩
  | _, _ => ⟨S192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32 : BitVec 32 := 192#32
  let v34 : BitVec 32 := Scalar.muli v12 c192_i32
  v34
def k0_off1 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32 : BitVec 32 := 192#32
  let v34 : BitVec 32 := Scalar.muli v12 c192_i32
  let v35 : BitVec 32 := v34
  let c0_i32_26 : BitVec 32 := 0#32
  ![v35.toNat, 0]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32_27 : BitVec 32 := 192#32
  let v39 : BitVec 32 := Scalar.muli v12 c192_i32_27
  v39
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v41 : BitVec 32 := Scalar.muli v13 c4_i32_30
  let v42 : BitVec 32 := Scalar.addi c0_i32_31 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v43 : BitVec 32 := Scalar.muli v14 c2_i32_32
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v45 : BitVec 32 := Scalar.muli v15 c1_i32_33
  let v46 : BitVec 32 := Scalar.addi v44 v45
  v46.toNat
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32_35 : BitVec 32 := 192#32
  let v52 : BitVec 32 := Scalar.muli v12 c192_i32_35
  v52
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v54 : BitVec 32 := Scalar.muli v16 c4_i32_38
  let v55 : BitVec 32 := Scalar.addi c0_i32_39 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v56 : BitVec 32 := Scalar.muli v17 c2_i32_40
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v58 : BitVec 32 := Scalar.muli v18 c1_i32_41
  let v59 : BitVec 32 := Scalar.addi v57 v58
  v59.toNat
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32_43 : BitVec 32 := 192#32
  let v65 : BitVec 32 := Scalar.muli v12 c192_i32_43
  v65
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v67 : BitVec 32 := Scalar.muli v19 c4_i32_46
  let v68 : BitVec 32 := Scalar.addi c0_i32_47 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v69 : BitVec 32 := Scalar.muli v20 c2_i32_48
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v71 : BitVec 32 := Scalar.muli v21 c1_i32_49
  let v72 : BitVec 32 := Scalar.addi v70 v71
  v72.toNat
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32_51 : BitVec 32 := 192#32
  let v78 : BitVec 32 := Scalar.muli v12 c192_i32_51
  v78
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v80 : BitVec 32 := Scalar.muli v22 c4_i32_53
  let v81 : BitVec 32 := Scalar.addi c0_i32_54 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v82 : BitVec 32 := Scalar.muli v23 c2_i32_55
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v84 : BitVec 32 := Scalar.muli v24 c1_i32_56
  let v85 : BitVec 32 := Scalar.addi v83 v84
  v85.toNat
def k0_mult6 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32_58 : BitVec 32 := 192#32
  let v91 : BitVec 32 := Scalar.muli v12 c192_i32_58
  v91
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v93 : BitVec 32 := Scalar.muli v25 c4_i32_61
  let v94 : BitVec 32 := Scalar.addi c0_i32_62 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v95 : BitVec 32 := Scalar.muli v26 c2_i32_63
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v97 : BitVec 32 := Scalar.muli v27 c1_i32_64
  let v98 : BitVec 32 := Scalar.addi v96 v97
  v98.toNat
def k0_mult7 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32_66 : BitVec 32 := 192#32
  let v104 : BitVec 32 := Scalar.muli v12 c192_i32_66
  v104
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v106 : BitVec 32 := Scalar.muli v28 c4_i32_68
  let v107 : BitVec 32 := Scalar.addi c0_i32_69 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v108 : BitVec 32 := Scalar.muli v29 c2_i32_70
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v110 : BitVec 32 := Scalar.muli v30 c1_i32_71
  let v111 : BitVec 32 := Scalar.addi v109 v110
  v111.toNat
def k0_mult8 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c192_i32_73 : BitVec 32 := 192#32
  let v117 : BitVec 32 := Scalar.muli v12 c192_i32_73
  v117
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v119 : BitVec 32 := Scalar.muli v31 c4_i32_75
  let v120 : BitVec 32 := Scalar.addi c0_i32_76 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v121 : BitVec 32 := Scalar.muli v32 c2_i32_77
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v123 : BitVec 32 := Scalar.muli v33 c1_i32_78
  let v124 : BitVec 32 := Scalar.addi v122 v123
  v124.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v130 : BitVec 32 := Scalar.muli v12 c128_i32
  v130
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v130 : BitVec 32 := Scalar.muli v12 c128_i32
  let v131 : BitVec 32 := v130
  let c0_i32_81 : BitVec 32 := 0#32
  ![v131.toNat, 0]
def k0_mult10 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_82 : BitVec 32 := 128#32
  let v135 : BitVec 32 := Scalar.muli v12 c128_i32_82
  v135
def k0_dev8 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_84 : BitVec 32 := 4#32
  let v137 : BitVec 32 := Scalar.muli v13 c4_i32_84
  let v138 : BitVec 32 := Scalar.addi c0_i32_85 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_86 : BitVec 32 := 2#32
  let v139 : BitVec 32 := Scalar.muli v14 c2_i32_86
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_87 : BitVec 32 := 1#32
  let v141 : BitVec 32 := Scalar.muli v15 c1_i32_87
  let v142 : BitVec 32 := Scalar.addi v140 v141
  v142.toNat
def k0_mult11 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_89 : BitVec 32 := 128#32
  let v148 : BitVec 32 := Scalar.muli v12 c128_i32_89
  v148
def k0_dev9 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_91 : BitVec 32 := 4#32
  let v150 : BitVec 32 := Scalar.muli v16 c4_i32_91
  let v151 : BitVec 32 := Scalar.addi c0_i32_92 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_93 : BitVec 32 := 2#32
  let v152 : BitVec 32 := Scalar.muli v17 c2_i32_93
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_94 : BitVec 32 := 1#32
  let v154 : BitVec 32 := Scalar.muli v18 c1_i32_94
  let v155 : BitVec 32 := Scalar.addi v153 v154
  v155.toNat
def k0_mult12 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_96 : BitVec 32 := 128#32
  let v161 : BitVec 32 := Scalar.muli v12 c128_i32_96
  v161
def k0_dev10 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_98 : BitVec 32 := 4#32
  let v163 : BitVec 32 := Scalar.muli v19 c4_i32_98
  let v164 : BitVec 32 := Scalar.addi c0_i32_99 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_100 : BitVec 32 := 2#32
  let v165 : BitVec 32 := Scalar.muli v20 c2_i32_100
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_101 : BitVec 32 := 1#32
  let v167 : BitVec 32 := Scalar.muli v21 c1_i32_101
  let v168 : BitVec 32 := Scalar.addi v166 v167
  v168.toNat
def k0_mult13 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_103 : BitVec 32 := 128#32
  let v174 : BitVec 32 := Scalar.muli v12 c128_i32_103
  v174
def k0_dev11 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_105 : BitVec 32 := 4#32
  let v176 : BitVec 32 := Scalar.muli v22 c4_i32_105
  let v177 : BitVec 32 := Scalar.addi c0_i32_106 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_107 : BitVec 32 := 2#32
  let v178 : BitVec 32 := Scalar.muli v23 c2_i32_107
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_108 : BitVec 32 := 1#32
  let v180 : BitVec 32 := Scalar.muli v24 c1_i32_108
  let v181 : BitVec 32 := Scalar.addi v179 v180
  v181.toNat
def k0_mult14 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_110 : BitVec 32 := 128#32
  let v187 : BitVec 32 := Scalar.muli v12 c128_i32_110
  v187
def k0_dev12 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_112 : BitVec 32 := 4#32
  let v189 : BitVec 32 := Scalar.muli v25 c4_i32_112
  let v190 : BitVec 32 := Scalar.addi c0_i32_113 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_114 : BitVec 32 := 2#32
  let v191 : BitVec 32 := Scalar.muli v26 c2_i32_114
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_115 : BitVec 32 := 1#32
  let v193 : BitVec 32 := Scalar.muli v27 c1_i32_115
  let v194 : BitVec 32 := Scalar.addi v192 v193
  v194.toNat
def k0_mult15 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_117 : BitVec 32 := 128#32
  let v200 : BitVec 32 := Scalar.muli v12 c128_i32_117
  v200
def k0_dev13 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_119 : BitVec 32 := 4#32
  let v202 : BitVec 32 := Scalar.muli v28 c4_i32_119
  let v203 : BitVec 32 := Scalar.addi c0_i32_120 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_121 : BitVec 32 := 2#32
  let v204 : BitVec 32 := Scalar.muli v29 c2_i32_121
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_122 : BitVec 32 := 1#32
  let v206 : BitVec 32 := Scalar.muli v30 c1_i32_122
  let v207 : BitVec 32 := Scalar.addi v205 v206
  v207.toNat
def k0_mult16 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_124 : BitVec 32 := 128#32
  let v213 : BitVec 32 := Scalar.muli v12 c128_i32_124
  v213
def k0_dev14 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_126 : BitVec 32 := 4#32
  let v215 : BitVec 32 := Scalar.muli v31 c4_i32_126
  let v216 : BitVec 32 := Scalar.addi c0_i32_127 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_128 : BitVec 32 := 2#32
  let v217 : BitVec 32 := Scalar.muli v32 c2_i32_128
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_129 : BitVec 32 := 1#32
  let v219 : BitVec 32 := Scalar.muli v33 c1_i32_129
  let v220 : BitVec 32 := Scalar.addi v218 v219
  v220.toNat
def k0_mult17 (d0 : Dev nD) : BitVec 32 :=
  let c4_i32_137 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v235 : BitVec 32 := Scalar.muli c4_i32_137 v228
  let c2_i32_138 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v236 : BitVec 32 := Scalar.muli c2_i32_138 v231
  let v237 : BitVec 32 := Scalar.addi v235 v236
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v238 : BitVec 32 := Scalar.addi v237 v234
  let c192_i32_174 : BitVec 32 := 192#32
  let v288 : BitVec 32 := Scalar.muli v238 c192_i32_174
  v288
def k0_mult18 (d0 : Dev nD) : BitVec 32 :=
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_139 : BitVec 32 := 0#32
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_140 : BitVec 32 := 0#32
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_141 : BitVec 32 := 1#32
  let v241 : BitVec 32 := Scalar.xori v234 c1_i32_141
  let v245 : BitVec 32 := Scalar.addi v244 v241
  let c192_i32_175 : BitVec 32 := 192#32
  let v290 : BitVec 32 := Scalar.muli v245 c192_i32_175
  v290
def k0_off3 (d0 : Dev nD) (c0_i32_139 : BitVec 32) (c0_i32_140 : BitVec 32) (c1_i32_141 : BitVec 32) : Fin 2 → Nat :=
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v241 : BitVec 32 := Scalar.xori v234 c1_i32_141
  let v245 : BitVec 32 := Scalar.addi v244 v241
  let c192_i32_175 : BitVec 32 := 192#32
  let v290 : BitVec 32 := Scalar.muli v245 c192_i32_175
  let v291 : BitVec 32 := v290
  let c0_i32_182 : BitVec 32 := 0#32
  ![v291.toNat, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult19 (d0 : Dev nD) : BitVec 32 :=
  let c4_i32_147 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_144 : BitVec 32 := 0#32
  let v246 : BitVec 32 := Scalar.xori v228 c0_i32_144
  let v249 : BitVec 32 := Scalar.muli c4_i32_147 v246
  let c2_i32_148 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_145 : BitVec 32 := 1#32
  let v247 : BitVec 32 := Scalar.xori v231 c1_i32_145
  let v250 : BitVec 32 := Scalar.muli c2_i32_148 v247
  let v251 : BitVec 32 := Scalar.addi v249 v250
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_146 : BitVec 32 := 0#32
  let v248 : BitVec 32 := Scalar.xori v234 c0_i32_146
  let v252 : BitVec 32 := Scalar.addi v251 v248
  let c192_i32_187 : BitVec 32 := 192#32
  let v304 : BitVec 32 := Scalar.muli v252 c192_i32_187
  v304
def k0_mult20 (d0 : Dev nD) : BitVec 32 :=
  let c4_i32_152 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_149 : BitVec 32 := 0#32
  let v253 : BitVec 32 := Scalar.xori v228 c0_i32_149
  let v256 : BitVec 32 := Scalar.muli c4_i32_152 v253
  let c2_i32_153 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_150 : BitVec 32 := 1#32
  let v254 : BitVec 32 := Scalar.xori v231 c1_i32_150
  let v257 : BitVec 32 := Scalar.muli c2_i32_153 v254
  let v258 : BitVec 32 := Scalar.addi v256 v257
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_151 : BitVec 32 := 1#32
  let v255 : BitVec 32 := Scalar.xori v234 c1_i32_151
  let v259 : BitVec 32 := Scalar.addi v258 v255
  let c192_i32_199 : BitVec 32 := 192#32
  let v318 : BitVec 32 := Scalar.muli v259 c192_i32_199
  v318
def k0_mult21 (d0 : Dev nD) : BitVec 32 :=
  let c4_i32_157 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_154 : BitVec 32 := 1#32
  let v260 : BitVec 32 := Scalar.xori v228 c1_i32_154
  let v263 : BitVec 32 := Scalar.muli c4_i32_157 v260
  let c2_i32_158 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_155 : BitVec 32 := 0#32
  let v261 : BitVec 32 := Scalar.xori v231 c0_i32_155
  let v264 : BitVec 32 := Scalar.muli c2_i32_158 v261
  let v265 : BitVec 32 := Scalar.addi v263 v264
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_156 : BitVec 32 := 0#32
  let v262 : BitVec 32 := Scalar.xori v234 c0_i32_156
  let v266 : BitVec 32 := Scalar.addi v265 v262
  let c192_i32_211 : BitVec 32 := 192#32
  let v332 : BitVec 32 := Scalar.muli v266 c192_i32_211
  v332
def k0_mult22 (d0 : Dev nD) : BitVec 32 :=
  let c4_i32_162 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_159 : BitVec 32 := 1#32
  let v267 : BitVec 32 := Scalar.xori v228 c1_i32_159
  let v270 : BitVec 32 := Scalar.muli c4_i32_162 v267
  let c2_i32_163 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_160 : BitVec 32 := 0#32
  let v268 : BitVec 32 := Scalar.xori v231 c0_i32_160
  let v271 : BitVec 32 := Scalar.muli c2_i32_163 v268
  let v272 : BitVec 32 := Scalar.addi v270 v271
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_161 : BitVec 32 := 1#32
  let v269 : BitVec 32 := Scalar.xori v234 c1_i32_161
  let v273 : BitVec 32 := Scalar.addi v272 v269
  let c192_i32_223 : BitVec 32 := 192#32
  let v346 : BitVec 32 := Scalar.muli v273 c192_i32_223
  v346
def k0_mult23 (d0 : Dev nD) : BitVec 32 :=
  let c4_i32_167 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_164 : BitVec 32 := 1#32
  let v274 : BitVec 32 := Scalar.xori v228 c1_i32_164
  let v277 : BitVec 32 := Scalar.muli c4_i32_167 v274
  let c2_i32_168 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_165 : BitVec 32 := 1#32
  let v275 : BitVec 32 := Scalar.xori v231 c1_i32_165
  let v278 : BitVec 32 := Scalar.muli c2_i32_168 v275
  let v279 : BitVec 32 := Scalar.addi v277 v278
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_166 : BitVec 32 := 0#32
  let v276 : BitVec 32 := Scalar.xori v234 c0_i32_166
  let v280 : BitVec 32 := Scalar.addi v279 v276
  let c192_i32_235 : BitVec 32 := 192#32
  let v360 : BitVec 32 := Scalar.muli v280 c192_i32_235
  v360
def k0_mult24 (d0 : Dev nD) : BitVec 32 :=
  let c4_i32_172 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_169 : BitVec 32 := 1#32
  let v281 : BitVec 32 := Scalar.xori v228 c1_i32_169
  let v284 : BitVec 32 := Scalar.muli c4_i32_172 v281
  let c2_i32_173 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_170 : BitVec 32 := 1#32
  let v282 : BitVec 32 := Scalar.xori v231 c1_i32_170
  let v285 : BitVec 32 := Scalar.muli c2_i32_173 v282
  let v286 : BitVec 32 := Scalar.addi v284 v285
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_171 : BitVec 32 := 1#32
  let v283 : BitVec 32 := Scalar.xori v234 c1_i32_171
  let v287 : BitVec 32 := Scalar.addi v286 v283
  let c192_i32_247 : BitVec 32 := 192#32
  let v374 : BitVec 32 := Scalar.muli v287 c192_i32_247
  v374
def k0_mult25 (d0 : Dev nD) : BitVec 32 :=
  let c4_i32_137 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v235 : BitVec 32 := Scalar.muli c4_i32_137 v228
  let c2_i32_138 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v236 : BitVec 32 := Scalar.muli c2_i32_138 v231
  let v237 : BitVec 32 := Scalar.addi v235 v236
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v238 : BitVec 32 := Scalar.addi v237 v234
  let c128_i32_261 : BitVec 32 := 128#32
  let v391 : BitVec 32 := Scalar.muli v238 c128_i32_261
  v391
def k0_mult26 (d0 : Dev nD) : BitVec 32 :=
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_139 : BitVec 32 := 0#32
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_140 : BitVec 32 := 0#32
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_141 : BitVec 32 := 1#32
  let v241 : BitVec 32 := Scalar.xori v234 c1_i32_141
  let v245 : BitVec 32 := Scalar.addi v244 v241
  let c128_i32_262 : BitVec 32 := 128#32
  let v393 : BitVec 32 := Scalar.muli v245 c128_i32_262
  v393
def k0_off4 (d0 : Dev nD) (c0_i32_139 : BitVec 32) (c0_i32_140 : BitVec 32) (c1_i32_141 : BitVec 32) : Fin 2 → Nat :=
  let c4_i32_142 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let v239 : BitVec 32 := Scalar.xori v228 c0_i32_139
  let v242 : BitVec 32 := Scalar.muli c4_i32_142 v239
  let c2_i32_143 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let v240 : BitVec 32 := Scalar.xori v231 c0_i32_140
  let v243 : BitVec 32 := Scalar.muli c2_i32_143 v240
  let v244 : BitVec 32 := Scalar.addi v242 v243
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let v241 : BitVec 32 := Scalar.xori v234 c1_i32_141
  let v245 : BitVec 32 := Scalar.addi v244 v241
  let c128_i32_262 : BitVec 32 := 128#32
  let v393 : BitVec 32 := Scalar.muli v245 c128_i32_262
  let v394 : BitVec 32 := v393
  let c0_i32_269 : BitVec 32 := 0#32
  ![v394.toNat, 0]
def k0_off4_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_mult27 (d0 : Dev nD) : BitVec 32 :=
  let c4_i32_147 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_144 : BitVec 32 := 0#32
  let v246 : BitVec 32 := Scalar.xori v228 c0_i32_144
  let v249 : BitVec 32 := Scalar.muli c4_i32_147 v246
  let c2_i32_148 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_145 : BitVec 32 := 1#32
  let v247 : BitVec 32 := Scalar.xori v231 c1_i32_145
  let v250 : BitVec 32 := Scalar.muli c2_i32_148 v247
  let v251 : BitVec 32 := Scalar.addi v249 v250
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_146 : BitVec 32 := 0#32
  let v248 : BitVec 32 := Scalar.xori v234 c0_i32_146
  let v252 : BitVec 32 := Scalar.addi v251 v248
  let c128_i32_274 : BitVec 32 := 128#32
  let v407 : BitVec 32 := Scalar.muli v252 c128_i32_274
  v407
def k0_mult28 (d0 : Dev nD) : BitVec 32 :=
  let c4_i32_152 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c0_i32_149 : BitVec 32 := 0#32
  let v253 : BitVec 32 := Scalar.xori v228 c0_i32_149
  let v256 : BitVec 32 := Scalar.muli c4_i32_152 v253
  let c2_i32_153 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_150 : BitVec 32 := 1#32
  let v254 : BitVec 32 := Scalar.xori v231 c1_i32_150
  let v257 : BitVec 32 := Scalar.muli c2_i32_153 v254
  let v258 : BitVec 32 := Scalar.addi v256 v257
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_151 : BitVec 32 := 1#32
  let v255 : BitVec 32 := Scalar.xori v234 c1_i32_151
  let v259 : BitVec 32 := Scalar.addi v258 v255
  let c128_i32_286 : BitVec 32 := 128#32
  let v421 : BitVec 32 := Scalar.muli v259 c128_i32_286
  v421
def k0_mult29 (d0 : Dev nD) : BitVec 32 :=
  let c4_i32_157 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_154 : BitVec 32 := 1#32
  let v260 : BitVec 32 := Scalar.xori v228 c1_i32_154
  let v263 : BitVec 32 := Scalar.muli c4_i32_157 v260
  let c2_i32_158 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_155 : BitVec 32 := 0#32
  let v261 : BitVec 32 := Scalar.xori v231 c0_i32_155
  let v264 : BitVec 32 := Scalar.muli c2_i32_158 v261
  let v265 : BitVec 32 := Scalar.addi v263 v264
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_156 : BitVec 32 := 0#32
  let v262 : BitVec 32 := Scalar.xori v234 c0_i32_156
  let v266 : BitVec 32 := Scalar.addi v265 v262
  let c128_i32_298 : BitVec 32 := 128#32
  let v435 : BitVec 32 := Scalar.muli v266 c128_i32_298
  v435
def k0_mult30 (d0 : Dev nD) : BitVec 32 :=
  let c4_i32_162 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_159 : BitVec 32 := 1#32
  let v267 : BitVec 32 := Scalar.xori v228 c1_i32_159
  let v270 : BitVec 32 := Scalar.muli c4_i32_162 v267
  let c2_i32_163 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c0_i32_160 : BitVec 32 := 0#32
  let v268 : BitVec 32 := Scalar.xori v231 c0_i32_160
  let v271 : BitVec 32 := Scalar.muli c2_i32_163 v268
  let v272 : BitVec 32 := Scalar.addi v270 v271
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_161 : BitVec 32 := 1#32
  let v269 : BitVec 32 := Scalar.xori v234 c1_i32_161
  let v273 : BitVec 32 := Scalar.addi v272 v269
  let c128_i32_310 : BitVec 32 := 128#32
  let v449 : BitVec 32 := Scalar.muli v273 c128_i32_310
  v449
def k0_mult31 (d0 : Dev nD) : BitVec 32 :=
  let c4_i32_167 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_164 : BitVec 32 := 1#32
  let v274 : BitVec 32 := Scalar.xori v228 c1_i32_164
  let v277 : BitVec 32 := Scalar.muli c4_i32_167 v274
  let c2_i32_168 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_165 : BitVec 32 := 1#32
  let v275 : BitVec 32 := Scalar.xori v231 c1_i32_165
  let v278 : BitVec 32 := Scalar.muli c2_i32_168 v275
  let v279 : BitVec 32 := Scalar.addi v277 v278
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c0_i32_166 : BitVec 32 := 0#32
  let v276 : BitVec 32 := Scalar.xori v234 c0_i32_166
  let v280 : BitVec 32 := Scalar.addi v279 v276
  let c128_i32_322 : BitVec 32 := 128#32
  let v463 : BitVec 32 := Scalar.muli v280 c128_i32_322
  v463
def k0_mult32 (d0 : Dev nD) : BitVec 32 :=
  let c4_i32_172 : BitVec 32 := 4#32
  let v226 : BitVec 32 := Dev.word d0
  let c4_i32_132 : BitVec 32 := 4#32
  let v227 : BitVec 32 := Scalar.divsi v226 c4_i32_132
  let c2_i32_131 : BitVec 32 := 2#32
  let v228 : BitVec 32 := Scalar.remsi v227 c2_i32_131
  let c1_i32_169 : BitVec 32 := 1#32
  let v281 : BitVec 32 := Scalar.xori v228 c1_i32_169
  let v284 : BitVec 32 := Scalar.muli c4_i32_172 v281
  let c2_i32_173 : BitVec 32 := 2#32
  let v229 : BitVec 32 := Dev.word d0
  let c2_i32_134 : BitVec 32 := 2#32
  let v230 : BitVec 32 := Scalar.divsi v229 c2_i32_134
  let c2_i32_133 : BitVec 32 := 2#32
  let v231 : BitVec 32 := Scalar.remsi v230 c2_i32_133
  let c1_i32_170 : BitVec 32 := 1#32
  let v282 : BitVec 32 := Scalar.xori v231 c1_i32_170
  let v285 : BitVec 32 := Scalar.muli c2_i32_173 v282
  let v286 : BitVec 32 := Scalar.addi v284 v285
  let v232 : BitVec 32 := Dev.word d0
  let c1_i32_136 : BitVec 32 := 1#32
  let v233 : BitVec 32 := Scalar.divsi v232 c1_i32_136
  let c2_i32_135 : BitVec 32 := 2#32
  let v234 : BitVec 32 := Scalar.remsi v233 c2_i32_135
  let c1_i32_171 : BitVec 32 := 1#32
  let v283 : BitVec 32 := Scalar.xori v234 c1_i32_171
  let v287 : BitVec 32 := Scalar.addi v286 v283
  let c128_i32_334 : BitVec 32 := 128#32
  let v477 : BitVec 32 := Scalar.muli v287 c128_i32_334
  v477
-- ==== WholeOdd.lean ====
abbrev S1536x1024 : Shape := ⟨2, ![1536, 1024]⟩
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S1024x1024, .bf16⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== GatherSmall.lean ====
abbrev S72x128 : Shape := ⟨2, ![72, 128]⟩
abbrev S8x72x128 : Shape := ⟨3, ![8, 72, 128]⟩
abbrev S7 : Shape := ⟨1, ![7]⟩
abbrev S1 : Shape := ⟨1, ![1]⟩
abbrev S_ : Shape := ⟨0, ![]⟩
abbrev S1x72x128 : Shape := ⟨3, ![1, 72, 128]⟩

abbrev nBuf : Space → Nat
  | .hbm => 2
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S8x72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v38 : BitVec 32 := Scalar.muli v13 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v40 : BitVec 32 := Scalar.muli v14 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v42 : BitVec 32 := Scalar.muli v15 c1_i32_33
  let v43 : BitVec 32 := Scalar.addi v41 v42
  v43.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v50 : BitVec 32 := Scalar.muli v16 c4_i32_38
  let v51 : BitVec 32 := Scalar.addi c0_i32_39 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v52 : BitVec 32 := Scalar.muli v17 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v54 : BitVec 32 := Scalar.muli v18 c1_i32_41
  let v55 : BitVec 32 := Scalar.addi v53 v54
  v55.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v62 : BitVec 32 := Scalar.muli v19 c4_i32_46
  let v63 : BitVec 32 := Scalar.addi c0_i32_47 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v64 : BitVec 32 := Scalar.muli v20 c2_i32_48
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v66 : BitVec 32 := Scalar.muli v21 c1_i32_49
  let v67 : BitVec 32 := Scalar.addi v65 v66
  v67.toNat
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v74 : BitVec 32 := Scalar.muli v22 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v76 : BitVec 32 := Scalar.muli v23 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v78 : BitVec 32 := Scalar.muli v24 c1_i32_56
  let v79 : BitVec 32 := Scalar.addi v77 v78
  v79.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v86 : BitVec 32 := Scalar.muli v25 c4_i32_61
  let v87 : BitVec 32 := Scalar.addi c0_i32_62 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v88 : BitVec 32 := Scalar.muli v26 c2_i32_63
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v90 : BitVec 32 := Scalar.muli v27 c1_i32_64
  let v91 : BitVec 32 := Scalar.addi v89 v90
  v91.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v98 : BitVec 32 := Scalar.muli v28 c4_i32_68
  let v99 : BitVec 32 := Scalar.addi c0_i32_69 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v100 : BitVec 32 := Scalar.muli v29 c2_i32_70
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v102 : BitVec 32 := Scalar.muli v30 c1_i32_71
  let v103 : BitVec 32 := Scalar.addi v101 v102
  v103.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v110 : BitVec 32 := Scalar.muli v31 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v112 : BitVec 32 := Scalar.muli v32 c2_i32_77
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v114 : BitVec 32 := Scalar.muli v33 c1_i32_78
  let v115 : BitVec 32 := Scalar.addi v113 v114
  v115.toNat
def k0_off2 (d0 : Dev nD) (c0_i32_89 : BitVec 32) (c0_i32_90 : BitVec 32) (c1_i32_91 : BitVec 32) : Fin 3 → Nat :=
  let c4_i32_92 : BitVec 32 := 4#32
  let v122 : BitVec 32 := Dev.word d0
  let c4_i32_82 : BitVec 32 := 4#32
  let v123 : BitVec 32 := Scalar.divsi v122 c4_i32_82
  let c2_i32_81 : BitVec 32 := 2#32
  let v124 : BitVec 32 := Scalar.remsi v123 c2_i32_81
  let v135 : BitVec 32 := Scalar.xori v124 c0_i32_89
  let v138 : BitVec 32 := Scalar.muli c4_i32_92 v135
  let c2_i32_93 : BitVec 32 := 2#32
  let v125 : BitVec 32 := Dev.word d0
  let c2_i32_84 : BitVec 32 := 2#32
  let v126 : BitVec 32 := Scalar.divsi v125 c2_i32_84
  let c2_i32_83 : BitVec 32 := 2#32
  let v127 : BitVec 32 := Scalar.remsi v126 c2_i32_83
  let v136 : BitVec 32 := Scalar.xori v127 c0_i32_90
  let v139 : BitVec 32 := Scalar.muli c2_i32_93 v136
  let v140 : BitVec 32 := Scalar.addi v138 v139
  let v128 : BitVec 32 := Dev.word d0
  let c1_i32_86 : BitVec 32 := 1#32
  let v129 : BitVec 32 := Scalar.divsi v128 c1_i32_86
  let c2_i32_85 : BitVec 32 := 2#32
  let v130 : BitVec 32 := Scalar.remsi v129 c2_i32_85
  let v137 : BitVec 32 := Scalar.xori v130 c1_i32_91
  let v141 : BitVec 32 := Scalar.addi v140 v137
  let c0_i32_130 : BitVec 32 := 0#32
  let c0_i32_131 : BitVec 32 := 0#32
  ![v141.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== GatherSmallIdeal.lean ====
abbrev S72x128 : Shape := ⟨2, ![72, 128]⟩
abbrev S8x72x128 : Shape := ⟨3, ![8, 72, 128]⟩
abbrev S7 : Shape := ⟨1, ![7]⟩
abbrev S1 : Shape := ⟨1, ![1]⟩
abbrev S_ : Shape := ⟨0, ![]⟩
abbrev S1x72x128 : Shape := ⟨3, ![1, 72, 128]⟩

abbrev nBuf : Space → Nat
  | .hbm => 2
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S8x72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v38 : BitVec 32 := Scalar.muli v13 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v40 : BitVec 32 := Scalar.muli v14 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v42 : BitVec 32 := Scalar.muli v15 c1_i32_33
  let v43 : BitVec 32 := Scalar.addi v41 v42
  v43.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v50 : BitVec 32 := Scalar.muli v16 c4_i32_38
  let v51 : BitVec 32 := Scalar.addi c0_i32_39 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v52 : BitVec 32 := Scalar.muli v17 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v54 : BitVec 32 := Scalar.muli v18 c1_i32_41
  let v55 : BitVec 32 := Scalar.addi v53 v54
  v55.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v62 : BitVec 32 := Scalar.muli v19 c4_i32_46
  let v63 : BitVec 32 := Scalar.addi c0_i32_47 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v64 : BitVec 32 := Scalar.muli v20 c2_i32_48
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v66 : BitVec 32 := Scalar.muli v21 c1_i32_49
  let v67 : BitVec 32 := Scalar.addi v65 v66
  v67.toNat
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v74 : BitVec 32 := Scalar.muli v22 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v76 : BitVec 32 := Scalar.muli v23 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v78 : BitVec 32 := Scalar.muli v24 c1_i32_56
  let v79 : BitVec 32 := Scalar.addi v77 v78
  v79.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v86 : BitVec 32 := Scalar.muli v25 c4_i32_61
  let v87 : BitVec 32 := Scalar.addi c0_i32_62 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v88 : BitVec 32 := Scalar.muli v26 c2_i32_63
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v90 : BitVec 32 := Scalar.muli v27 c1_i32_64
  let v91 : BitVec 32 := Scalar.addi v89 v90
  v91.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v98 : BitVec 32 := Scalar.muli v28 c4_i32_68
  let v99 : BitVec 32 := Scalar.addi c0_i32_69 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v100 : BitVec 32 := Scalar.muli v29 c2_i32_70
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v102 : BitVec 32 := Scalar.muli v30 c1_i32_71
  let v103 : BitVec 32 := Scalar.addi v101 v102
  v103.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v110 : BitVec 32 := Scalar.muli v31 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v112 : BitVec 32 := Scalar.muli v32 c2_i32_77
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v114 : BitVec 32 := Scalar.muli v33 c1_i32_78
  let v115 : BitVec 32 := Scalar.addi v113 v114
  v115.toNat
def k0_off2 (d0 : Dev nD) (c0_i32_89 : BitVec 32) (c0_i32_90 : BitVec 32) (c1_i32_91 : BitVec 32) : Fin 3 → Nat :=
  let c4_i32_92 : BitVec 32 := 4#32
  let v122 : BitVec 32 := Dev.word d0
  let c4_i32_82 : BitVec 32 := 4#32
  let v123 : BitVec 32 := Scalar.divsi v122 c4_i32_82
  let c2_i32_81 : BitVec 32 := 2#32
  let v124 : BitVec 32 := Scalar.remsi v123 c2_i32_81
  let v135 : BitVec 32 := Scalar.xori v124 c0_i32_89
  let v138 : BitVec 32 := Scalar.muli c4_i32_92 v135
  let c2_i32_93 : BitVec 32 := 2#32
  let v125 : BitVec 32 := Dev.word d0
  let c2_i32_84 : BitVec 32 := 2#32
  let v126 : BitVec 32 := Scalar.divsi v125 c2_i32_84
  let c2_i32_83 : BitVec 32 := 2#32
  let v127 : BitVec 32 := Scalar.remsi v126 c2_i32_83
  let v136 : BitVec 32 := Scalar.xori v127 c0_i32_90
  let v139 : BitVec 32 := Scalar.muli c2_i32_93 v136
  let v140 : BitVec 32 := Scalar.addi v138 v139
  let v128 : BitVec 32 := Dev.word d0
  let c1_i32_86 : BitVec 32 := 1#32
  let v129 : BitVec 32 := Scalar.divsi v128 c1_i32_86
  let c2_i32_85 : BitVec 32 := 2#32
  let v130 : BitVec 32 := Scalar.remsi v129 c2_i32_85
  let v137 : BitVec 32 := Scalar.xori v130 c1_i32_91
  let v141 : BitVec 32 := Scalar.addi v140 v137
  let c0_i32_130 : BitVec 32 := 0#32
  let c0_i32_131 : BitVec 32 := 0#32
  ![v141.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== StackedSmallIdeal.lean ====
abbrev S576x128 : Shape := ⟨2, ![576, 128]⟩
abbrev S8x72x128 : Shape := ⟨3, ![8, 72, 128]⟩

abbrev nBuf : Space → Nat
  | .hbm => 2
  | .vmem => 0
  | .smem => 0
  | _ => 0

abbrev bufTy : (tb : Table) → Fin (tcTables nBuf tb) → BufTy
  | .hbm, ⟨0, _⟩ => ⟨S576x128, .f32⟩
  | .hbm, ⟨1, _⟩ => ⟨S8x72x128, .f32⟩
  | _, _ => ⟨S576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== StackedSmall.lean ====
abbrev S576x128 : Shape := ⟨2, ![576, 128]⟩
abbrev S8x72x128 : Shape := ⟨3, ![8, 72, 128]⟩

abbrev nBuf : Space → Nat
  | .hbm => 2
  | .vmem => 0
  | .smem => 0
  | _ => 0

abbrev bufTy : (tb : Table) → Fin (tcTables nBuf tb) → BufTy
  | .hbm, ⟨0, _⟩ => ⟨S576x128, .f32⟩
  | .hbm, ⟨1, _⟩ => ⟨S8x72x128, .f32⟩
  | _, _ => ⟨S576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherMod.lean ====
abbrev S64x768 : Shape := ⟨2, ![64, 768]⟩
abbrev S8x64x768 : Shape := ⟨3, ![8, 64, 768]⟩
abbrev S7 : Shape := ⟨1, ![7]⟩
abbrev S1 : Shape := ⟨1, ![1]⟩
abbrev S_ : Shape := ⟨0, ![]⟩
abbrev S1x64x768 : Shape := ⟨3, ![1, 64, 768]⟩

abbrev nBuf : Space → Nat
  | .hbm => 2
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S8x64x768, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v38 : BitVec 32 := Scalar.muli v13 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v40 : BitVec 32 := Scalar.muli v14 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v42 : BitVec 32 := Scalar.muli v15 c1_i32_33
  let v43 : BitVec 32 := Scalar.addi v41 v42
  v43.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v50 : BitVec 32 := Scalar.muli v16 c4_i32_38
  let v51 : BitVec 32 := Scalar.addi c0_i32_39 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v52 : BitVec 32 := Scalar.muli v17 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v54 : BitVec 32 := Scalar.muli v18 c1_i32_41
  let v55 : BitVec 32 := Scalar.addi v53 v54
  v55.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v62 : BitVec 32 := Scalar.muli v19 c4_i32_46
  let v63 : BitVec 32 := Scalar.addi c0_i32_47 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v64 : BitVec 32 := Scalar.muli v20 c2_i32_48
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v66 : BitVec 32 := Scalar.muli v21 c1_i32_49
  let v67 : BitVec 32 := Scalar.addi v65 v66
  v67.toNat
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v74 : BitVec 32 := Scalar.muli v22 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v76 : BitVec 32 := Scalar.muli v23 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v78 : BitVec 32 := Scalar.muli v24 c1_i32_56
  let v79 : BitVec 32 := Scalar.addi v77 v78
  v79.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v86 : BitVec 32 := Scalar.muli v25 c4_i32_61
  let v87 : BitVec 32 := Scalar.addi c0_i32_62 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v88 : BitVec 32 := Scalar.muli v26 c2_i32_63
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v90 : BitVec 32 := Scalar.muli v27 c1_i32_64
  let v91 : BitVec 32 := Scalar.addi v89 v90
  v91.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v98 : BitVec 32 := Scalar.muli v28 c4_i32_68
  let v99 : BitVec 32 := Scalar.addi c0_i32_69 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v100 : BitVec 32 := Scalar.muli v29 c2_i32_70
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v102 : BitVec 32 := Scalar.muli v30 c1_i32_71
  let v103 : BitVec 32 := Scalar.addi v101 v102
  v103.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v110 : BitVec 32 := Scalar.muli v31 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v112 : BitVec 32 := Scalar.muli v32 c2_i32_77
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v114 : BitVec 32 := Scalar.muli v33 c1_i32_78
  let v115 : BitVec 32 := Scalar.addi v113 v114
  v115.toNat
def k0_off2 (d0 : Dev nD) (c0_i32_89 : BitVec 32) (c0_i32_90 : BitVec 32) (c1_i32_91 : BitVec 32) : Fin 3 → Nat :=
  let c4_i32_92 : BitVec 32 := 4#32
  let v122 : BitVec 32 := Dev.word d0
  let c4_i32_82 : BitVec 32 := 4#32
  let v123 : BitVec 32 := Scalar.divsi v122 c4_i32_82
  let c2_i32_81 : BitVec 32 := 2#32
  let v124 : BitVec 32 := Scalar.remsi v123 c2_i32_81
  let v135 : BitVec 32 := Scalar.xori v124 c0_i32_89
  let v138 : BitVec 32 := Scalar.muli c4_i32_92 v135
  let c2_i32_93 : BitVec 32 := 2#32
  let v125 : BitVec 32 := Dev.word d0
  let c2_i32_84 : BitVec 32 := 2#32
  let v126 : BitVec 32 := Scalar.divsi v125 c2_i32_84
  let c2_i32_83 : BitVec 32 := 2#32
  let v127 : BitVec 32 := Scalar.remsi v126 c2_i32_83
  let v136 : BitVec 32 := Scalar.xori v127 c0_i32_90
  let v139 : BitVec 32 := Scalar.muli c2_i32_93 v136
  let v140 : BitVec 32 := Scalar.addi v138 v139
  let v128 : BitVec 32 := Dev.word d0
  let c1_i32_86 : BitVec 32 := 1#32
  let v129 : BitVec 32 := Scalar.divsi v128 c1_i32_86
  let c2_i32_85 : BitVec 32 := 2#32
  let v130 : BitVec 32 := Scalar.remsi v129 c2_i32_85
  let v137 : BitVec 32 := Scalar.xori v130 c1_i32_91
  let v141 : BitVec 32 := Scalar.addi v140 v137
  let c0_i32_130 : BitVec 32 := 0#32
  let c0_i32_131 : BitVec 32 := 0#32
  ![v141.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== GatherModIdeal.lean ====
abbrev S64x768 : Shape := ⟨2, ![64, 768]⟩
abbrev S8x64x768 : Shape := ⟨3, ![8, 64, 768]⟩
abbrev S7 : Shape := ⟨1, ![7]⟩
abbrev S1 : Shape := ⟨1, ![1]⟩
abbrev S_ : Shape := ⟨0, ![]⟩
abbrev S1x64x768 : Shape := ⟨3, ![1, 64, 768]⟩

abbrev nBuf : Space → Nat
  | .hbm => 2
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S8x64x768, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v38 : BitVec 32 := Scalar.muli v13 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v40 : BitVec 32 := Scalar.muli v14 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v42 : BitVec 32 := Scalar.muli v15 c1_i32_33
  let v43 : BitVec 32 := Scalar.addi v41 v42
  v43.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v50 : BitVec 32 := Scalar.muli v16 c4_i32_38
  let v51 : BitVec 32 := Scalar.addi c0_i32_39 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v52 : BitVec 32 := Scalar.muli v17 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v54 : BitVec 32 := Scalar.muli v18 c1_i32_41
  let v55 : BitVec 32 := Scalar.addi v53 v54
  v55.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v62 : BitVec 32 := Scalar.muli v19 c4_i32_46
  let v63 : BitVec 32 := Scalar.addi c0_i32_47 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v64 : BitVec 32 := Scalar.muli v20 c2_i32_48
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v66 : BitVec 32 := Scalar.muli v21 c1_i32_49
  let v67 : BitVec 32 := Scalar.addi v65 v66
  v67.toNat
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v74 : BitVec 32 := Scalar.muli v22 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v76 : BitVec 32 := Scalar.muli v23 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v78 : BitVec 32 := Scalar.muli v24 c1_i32_56
  let v79 : BitVec 32 := Scalar.addi v77 v78
  v79.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v86 : BitVec 32 := Scalar.muli v25 c4_i32_61
  let v87 : BitVec 32 := Scalar.addi c0_i32_62 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v88 : BitVec 32 := Scalar.muli v26 c2_i32_63
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v90 : BitVec 32 := Scalar.muli v27 c1_i32_64
  let v91 : BitVec 32 := Scalar.addi v89 v90
  v91.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v98 : BitVec 32 := Scalar.muli v28 c4_i32_68
  let v99 : BitVec 32 := Scalar.addi c0_i32_69 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v100 : BitVec 32 := Scalar.muli v29 c2_i32_70
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v102 : BitVec 32 := Scalar.muli v30 c1_i32_71
  let v103 : BitVec 32 := Scalar.addi v101 v102
  v103.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v110 : BitVec 32 := Scalar.muli v31 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v112 : BitVec 32 := Scalar.muli v32 c2_i32_77
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v114 : BitVec 32 := Scalar.muli v33 c1_i32_78
  let v115 : BitVec 32 := Scalar.addi v113 v114
  v115.toNat
def k0_off2 (d0 : Dev nD) (c0_i32_89 : BitVec 32) (c0_i32_90 : BitVec 32) (c1_i32_91 : BitVec 32) : Fin 3 → Nat :=
  let c4_i32_92 : BitVec 32 := 4#32
  let v122 : BitVec 32 := Dev.word d0
  let c4_i32_82 : BitVec 32 := 4#32
  let v123 : BitVec 32 := Scalar.divsi v122 c4_i32_82
  let c2_i32_81 : BitVec 32 := 2#32
  let v124 : BitVec 32 := Scalar.remsi v123 c2_i32_81
  let v135 : BitVec 32 := Scalar.xori v124 c0_i32_89
  let v138 : BitVec 32 := Scalar.muli c4_i32_92 v135
  let c2_i32_93 : BitVec 32 := 2#32
  let v125 : BitVec 32 := Dev.word d0
  let c2_i32_84 : BitVec 32 := 2#32
  let v126 : BitVec 32 := Scalar.divsi v125 c2_i32_84
  let c2_i32_83 : BitVec 32 := 2#32
  let v127 : BitVec 32 := Scalar.remsi v126 c2_i32_83
  let v136 : BitVec 32 := Scalar.xori v127 c0_i32_90
  let v139 : BitVec 32 := Scalar.muli c2_i32_93 v136
  let v140 : BitVec 32 := Scalar.addi v138 v139
  let v128 : BitVec 32 := Dev.word d0
  let c1_i32_86 : BitVec 32 := 1#32
  let v129 : BitVec 32 := Scalar.divsi v128 c1_i32_86
  let c2_i32_85 : BitVec 32 := 2#32
  let v130 : BitVec 32 := Scalar.remsi v129 c2_i32_85
  let v137 : BitVec 32 := Scalar.xori v130 c1_i32_91
  let v141 : BitVec 32 := Scalar.addi v140 v137
  let c0_i32_130 : BitVec 32 := 0#32
  let c0_i32_131 : BitVec 32 := 0#32
  ![v141.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== StackedModIdeal.lean ====
abbrev S512x768 : Shape := ⟨2, ![512, 768]⟩
abbrev S8x64x768 : Shape := ⟨3, ![8, 64, 768]⟩

abbrev nBuf : Space → Nat
  | .hbm => 2
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S8x64x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== StackedMod.lean ====
abbrev S512x768 : Shape := ⟨2, ![512, 768]⟩
abbrev S8x64x768 : Shape := ⟨3, ![8, 64, 768]⟩

abbrev nBuf : Space → Nat
  | .hbm => 2
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S8x64x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherDmod.lean ====
abbrev S8x6144 : Shape := ⟨2, ![8, 6144]⟩
abbrev S8x8x6144 : Shape := ⟨3, ![8, 8, 6144]⟩
abbrev S7 : Shape := ⟨1, ![7]⟩
abbrev S1 : Shape := ⟨1, ![1]⟩
abbrev S_ : Shape := ⟨0, ![]⟩
abbrev S1x8x6144 : Shape := ⟨3, ![1, 8, 6144]⟩

abbrev nBuf : Space → Nat
  | .hbm => 2
  | .vmem => 0
  | .smem => 0
  | _ => 0

abbrev bufTy : (tb : Table) → Fin (tcTables nBuf tb) → BufTy
  | .hbm, ⟨0, _⟩ => ⟨S8x6144, .f32⟩
  | .hbm, ⟨1, _⟩ => ⟨S8x8x6144, .f32⟩
  | _, _ => ⟨S8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v38 : BitVec 32 := Scalar.muli v13 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v40 : BitVec 32 := Scalar.muli v14 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v42 : BitVec 32 := Scalar.muli v15 c1_i32_33
  let v43 : BitVec 32 := Scalar.addi v41 v42
  v43.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v50 : BitVec 32 := Scalar.muli v16 c4_i32_38
  let v51 : BitVec 32 := Scalar.addi c0_i32_39 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v52 : BitVec 32 := Scalar.muli v17 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v54 : BitVec 32 := Scalar.muli v18 c1_i32_41
  let v55 : BitVec 32 := Scalar.addi v53 v54
  v55.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v62 : BitVec 32 := Scalar.muli v19 c4_i32_46
  let v63 : BitVec 32 := Scalar.addi c0_i32_47 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v64 : BitVec 32 := Scalar.muli v20 c2_i32_48
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v66 : BitVec 32 := Scalar.muli v21 c1_i32_49
  let v67 : BitVec 32 := Scalar.addi v65 v66
  v67.toNat
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v74 : BitVec 32 := Scalar.muli v22 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v76 : BitVec 32 := Scalar.muli v23 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v78 : BitVec 32 := Scalar.muli v24 c1_i32_56
  let v79 : BitVec 32 := Scalar.addi v77 v78
  v79.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v86 : BitVec 32 := Scalar.muli v25 c4_i32_61
  let v87 : BitVec 32 := Scalar.addi c0_i32_62 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v88 : BitVec 32 := Scalar.muli v26 c2_i32_63
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v90 : BitVec 32 := Scalar.muli v27 c1_i32_64
  let v91 : BitVec 32 := Scalar.addi v89 v90
  v91.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v98 : BitVec 32 := Scalar.muli v28 c4_i32_68
  let v99 : BitVec 32 := Scalar.addi c0_i32_69 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v100 : BitVec 32 := Scalar.muli v29 c2_i32_70
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v102 : BitVec 32 := Scalar.muli v30 c1_i32_71
  let v103 : BitVec 32 := Scalar.addi v101 v102
  v103.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v110 : BitVec 32 := Scalar.muli v31 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v112 : BitVec 32 := Scalar.muli v32 c2_i32_77
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v114 : BitVec 32 := Scalar.muli v33 c1_i32_78
  let v115 : BitVec 32 := Scalar.addi v113 v114
  v115.toNat
def k0_off2 (d0 : Dev nD) (c0_i32_89 : BitVec 32) (c0_i32_90 : BitVec 32) (c1_i32_91 : BitVec 32) : Fin 3 → Nat :=
  let c4_i32_92 : BitVec 32 := 4#32
  let v122 : BitVec 32 := Dev.word d0
  let c4_i32_82 : BitVec 32 := 4#32
  let v123 : BitVec 32 := Scalar.divsi v122 c4_i32_82
  let c2_i32_81 : BitVec 32 := 2#32
  let v124 : BitVec 32 := Scalar.remsi v123 c2_i32_81
  let v135 : BitVec 32 := Scalar.xori v124 c0_i32_89
  let v138 : BitVec 32 := Scalar.muli c4_i32_92 v135
  let c2_i32_93 : BitVec 32 := 2#32
  let v125 : BitVec 32 := Dev.word d0
  let c2_i32_84 : BitVec 32 := 2#32
  let v126 : BitVec 32 := Scalar.divsi v125 c2_i32_84
  let c2_i32_83 : BitVec 32 := 2#32
  let v127 : BitVec 32 := Scalar.remsi v126 c2_i32_83
  let v136 : BitVec 32 := Scalar.xori v127 c0_i32_90
  let v139 : BitVec 32 := Scalar.muli c2_i32_93 v136
  let v140 : BitVec 32 := Scalar.addi v138 v139
  let v128 : BitVec 32 := Dev.word d0
  let c1_i32_86 : BitVec 32 := 1#32
  let v129 : BitVec 32 := Scalar.divsi v128 c1_i32_86
  let c2_i32_85 : BitVec 32 := 2#32
  let v130 : BitVec 32 := Scalar.remsi v129 c2_i32_85
  let v137 : BitVec 32 := Scalar.xori v130 c1_i32_91
  let v141 : BitVec 32 := Scalar.addi v140 v137
  let c0_i32_130 : BitVec 32 := 0#32
  let c0_i32_131 : BitVec 32 := 0#32
  ![v141.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== GatherDmodIdeal.lean ====
abbrev S8x6144 : Shape := ⟨2, ![8, 6144]⟩
abbrev S8x8x6144 : Shape := ⟨3, ![8, 8, 6144]⟩
abbrev S7 : Shape := ⟨1, ![7]⟩
abbrev S1 : Shape := ⟨1, ![1]⟩
abbrev S_ : Shape := ⟨0, ![]⟩
abbrev S1x8x6144 : Shape := ⟨3, ![1, 8, 6144]⟩

abbrev nBuf : Space → Nat
  | .hbm => 2
  | .vmem => 0
  | .smem => 0
  | _ => 0

abbrev bufTy : (tb : Table) → Fin (tcTables nBuf tb) → BufTy
  | .hbm, ⟨0, _⟩ => ⟨S8x6144, .f32⟩
  | .hbm, ⟨1, _⟩ => ⟨S8x8x6144, .f32⟩
  | _, _ => ⟨S8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v38 : BitVec 32 := Scalar.muli v13 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v40 : BitVec 32 := Scalar.muli v14 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v42 : BitVec 32 := Scalar.muli v15 c1_i32_33
  let v43 : BitVec 32 := Scalar.addi v41 v42
  v43.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v50 : BitVec 32 := Scalar.muli v16 c4_i32_38
  let v51 : BitVec 32 := Scalar.addi c0_i32_39 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v52 : BitVec 32 := Scalar.muli v17 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v54 : BitVec 32 := Scalar.muli v18 c1_i32_41
  let v55 : BitVec 32 := Scalar.addi v53 v54
  v55.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v62 : BitVec 32 := Scalar.muli v19 c4_i32_46
  let v63 : BitVec 32 := Scalar.addi c0_i32_47 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v64 : BitVec 32 := Scalar.muli v20 c2_i32_48
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v66 : BitVec 32 := Scalar.muli v21 c1_i32_49
  let v67 : BitVec 32 := Scalar.addi v65 v66
  v67.toNat
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v74 : BitVec 32 := Scalar.muli v22 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v76 : BitVec 32 := Scalar.muli v23 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v78 : BitVec 32 := Scalar.muli v24 c1_i32_56
  let v79 : BitVec 32 := Scalar.addi v77 v78
  v79.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v86 : BitVec 32 := Scalar.muli v25 c4_i32_61
  let v87 : BitVec 32 := Scalar.addi c0_i32_62 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v88 : BitVec 32 := Scalar.muli v26 c2_i32_63
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v90 : BitVec 32 := Scalar.muli v27 c1_i32_64
  let v91 : BitVec 32 := Scalar.addi v89 v90
  v91.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v98 : BitVec 32 := Scalar.muli v28 c4_i32_68
  let v99 : BitVec 32 := Scalar.addi c0_i32_69 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v100 : BitVec 32 := Scalar.muli v29 c2_i32_70
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v102 : BitVec 32 := Scalar.muli v30 c1_i32_71
  let v103 : BitVec 32 := Scalar.addi v101 v102
  v103.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v110 : BitVec 32 := Scalar.muli v31 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v112 : BitVec 32 := Scalar.muli v32 c2_i32_77
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v114 : BitVec 32 := Scalar.muli v33 c1_i32_78
  let v115 : BitVec 32 := Scalar.addi v113 v114
  v115.toNat
def k0_off2 (d0 : Dev nD) (c0_i32_89 : BitVec 32) (c0_i32_90 : BitVec 32) (c1_i32_91 : BitVec 32) : Fin 3 → Nat :=
  let c4_i32_92 : BitVec 32 := 4#32
  let v122 : BitVec 32 := Dev.word d0
  let c4_i32_82 : BitVec 32 := 4#32
  let v123 : BitVec 32 := Scalar.divsi v122 c4_i32_82
  let c2_i32_81 : BitVec 32 := 2#32
  let v124 : BitVec 32 := Scalar.remsi v123 c2_i32_81
  let v135 : BitVec 32 := Scalar.xori v124 c0_i32_89
  let v138 : BitVec 32 := Scalar.muli c4_i32_92 v135
  let c2_i32_93 : BitVec 32 := 2#32
  let v125 : BitVec 32 := Dev.word d0
  let c2_i32_84 : BitVec 32 := 2#32
  let v126 : BitVec 32 := Scalar.divsi v125 c2_i32_84
  let c2_i32_83 : BitVec 32 := 2#32
  let v127 : BitVec 32 := Scalar.remsi v126 c2_i32_83
  let v136 : BitVec 32 := Scalar.xori v127 c0_i32_90
  let v139 : BitVec 32 := Scalar.muli c2_i32_93 v136
  let v140 : BitVec 32 := Scalar.addi v138 v139
  let v128 : BitVec 32 := Dev.word d0
  let c1_i32_86 : BitVec 32 := 1#32
  let v129 : BitVec 32 := Scalar.divsi v128 c1_i32_86
  let c2_i32_85 : BitVec 32 := 2#32
  let v130 : BitVec 32 := Scalar.remsi v129 c2_i32_85
  let v137 : BitVec 32 := Scalar.xori v130 c1_i32_91
  let v141 : BitVec 32 := Scalar.addi v140 v137
  let c0_i32_130 : BitVec 32 := 0#32
  let c0_i32_131 : BitVec 32 := 0#32
  ![v141.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== StackedDmodIdeal.lean ====
abbrev S64x6144 : Shape := ⟨2, ![64, 6144]⟩
abbrev S8x8x6144 : Shape := ⟨3, ![8, 8, 6144]⟩

abbrev nBuf : Space → Nat
  | .hbm => 2
  | .vmem => 0
  | .smem => 0
  | _ => 0

abbrev bufTy : (tb : Table) → Fin (tcTables nBuf tb) → BufTy
  | .hbm, ⟨0, _⟩ => ⟨S64x6144, .f32⟩
  | .hbm, ⟨1, _⟩ => ⟨S8x8x6144, .f32⟩
  | _, _ => ⟨S64x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== StackedDmod.lean ====
abbrev S64x6144 : Shape := ⟨2, ![64, 6144]⟩
abbrev S8x8x6144 : Shape := ⟨3, ![8, 8, 6144]⟩

abbrev nBuf : Space → Nat
  | .hbm => 2
  | .vmem => 0
  | .smem => 0
  | _ => 0

abbrev bufTy : (tb : Table) → Fin (tcTables nBuf tb) → BufTy
  | .hbm, ⟨0, _⟩ => ⟨S64x6144, .f32⟩
  | .hbm, ⟨1, _⟩ => ⟨S8x8x6144, .f32⟩
  | _, _ => ⟨S64x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherGrads.lean ====
abbrev S384x128 : Shape := ⟨2, ![384, 128]⟩
abbrev S8x384x128 : Shape := ⟨3, ![8, 384, 128]⟩
abbrev S7 : Shape := ⟨1, ![7]⟩
abbrev S1 : Shape := ⟨1, ![1]⟩
abbrev S_ : Shape := ⟨0, ![]⟩
abbrev S1x384x128 : Shape := ⟨3, ![1, 384, 128]⟩

abbrev nBuf : Space → Nat
  | .hbm => 2
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S8x384x128, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_26 : BitVec 32 := 0#32
  let c0_i32_27 : BitVec 32 := 0#32
  ![v12.toNat, 0, 0]
def k0_dev1 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_30 : BitVec 32 := 4#32
  let v38 : BitVec 32 := Scalar.muli v13 c4_i32_30
  let v39 : BitVec 32 := Scalar.addi c0_i32_31 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_32 : BitVec 32 := 2#32
  let v40 : BitVec 32 := Scalar.muli v14 c2_i32_32
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_33 : BitVec 32 := 1#32
  let v42 : BitVec 32 := Scalar.muli v15 c1_i32_33
  let v43 : BitVec 32 := Scalar.addi v41 v42
  v43.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_38 : BitVec 32 := 4#32
  let v50 : BitVec 32 := Scalar.muli v16 c4_i32_38
  let v51 : BitVec 32 := Scalar.addi c0_i32_39 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_40 : BitVec 32 := 2#32
  let v52 : BitVec 32 := Scalar.muli v17 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_41 : BitVec 32 := 1#32
  let v54 : BitVec 32 := Scalar.muli v18 c1_i32_41
  let v55 : BitVec 32 := Scalar.addi v53 v54
  v55.toNat
def k0_dev3 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_46 : BitVec 32 := 4#32
  let v62 : BitVec 32 := Scalar.muli v19 c4_i32_46
  let v63 : BitVec 32 := Scalar.addi c0_i32_47 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_48 : BitVec 32 := 2#32
  let v64 : BitVec 32 := Scalar.muli v20 c2_i32_48
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_49 : BitVec 32 := 1#32
  let v66 : BitVec 32 := Scalar.muli v21 c1_i32_49
  let v67 : BitVec 32 := Scalar.addi v65 v66
  v67.toNat
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_53 : BitVec 32 := 4#32
  let v74 : BitVec 32 := Scalar.muli v22 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_55 : BitVec 32 := 2#32
  let v76 : BitVec 32 := Scalar.muli v23 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_56 : BitVec 32 := 1#32
  let v78 : BitVec 32 := Scalar.muli v24 c1_i32_56
  let v79 : BitVec 32 := Scalar.addi v77 v78
  v79.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_61 : BitVec 32 := 4#32
  let v86 : BitVec 32 := Scalar.muli v25 c4_i32_61
  let v87 : BitVec 32 := Scalar.addi c0_i32_62 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_63 : BitVec 32 := 2#32
  let v88 : BitVec 32 := Scalar.muli v26 c2_i32_63
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_64 : BitVec 32 := 1#32
  let v90 : BitVec 32 := Scalar.muli v27 c1_i32_64
  let v91 : BitVec 32 := Scalar.addi v89 v90
  v91.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_68 : BitVec 32 := 4#32
  let v98 : BitVec 32 := Scalar.muli v28 c4_i32_68
  let v99 : BitVec 32 := Scalar.addi c0_i32_69 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_70 : BitVec 32 := 2#32
  let v100 : BitVec 32 := Scalar.muli v29 c2_i32_70
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_71 : BitVec 32 := 1#32
  let v102 : BitVec 32 := Scalar.muli v30 c1_i32_71
  let v103 : BitVec 32 := Scalar.addi v101 v102
  v103.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_75 : BitVec 32 := 4#32
  let v110 : BitVec 32 := Scalar.muli v31 c4_i32_75
  let v111 : BitVec 32 := Scalar.addi c0_i32_76 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_77 : BitVec 32 := 2#32
  let v112 : BitVec 32 := Scalar.muli v32 c2_i32_77
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_78 : BitVec 32 := 1#32
  let v114 : BitVec 32 := Scalar.muli v33 c1_i32_78
  let v115 : BitVec 32 := Scalar.addi v113 v114
  v115.toNat
def k0_off2 (d0 : Dev nD) (c0_i32_89 : BitVec 32) (c0_i32_90 : BitVec 32) (c1_i32_91 : BitVec 32) : Fin 3 → Nat :=
  let c4_i32_92 : BitVec 32 := 4#32
  let v122 : BitVec 32 := Dev.word d0
  let c4_i32_82 : BitVec 32 := 4#32
  let v123 : BitVec 32 := Scalar.divsi v122 c4_i32_82
  let c2_i32_81 : BitVec 32 := 2#32
  let v124 : BitVec 32 := Scalar.remsi v123 c2_i32_81
  let v135 : BitVec 32 := Scalar.xori v124 c0_i32_89
  let v138 : BitVec 32 := Scalar.muli c4_i32_92 v135
  let c2_i32_93 : BitVec 32 := 2#32
  let v125 : BitVec 32 := Dev.word d0
  let c2_i32_84 : BitVec 32 := 2#32
  let v126 : BitVec 32 := Scalar.divsi v125 c2_i32_84
  let c2_i32_83 : BitVec 32 := 2#32
  let v127 : BitVec 32 := Scalar.remsi v126 c2_i32_83
  let v136 : BitVec 32 := Scalar.xori v127 c0_i32_90
  let v139 : BitVec 32 := Scalar.muli c2_i32_93 v136
  let v140 : BitVec 32 := Scalar.addi v138 v139
  let v128 : BitVec 32 := Dev.word d0
  let c1_i32_86 : BitVec 32 := 1#32
  let v129 : BitVec 32 := Scalar.divsi v128 c1_i32_86
  let c2_i32_85 : BitVec 32 := 2#32
  let v130 : BitVec 32 := Scalar.remsi v129 c2_i32_85
  let v137 : BitVec 32 := Scalar.xori v130 c1_i32_91
  let v141 : BitVec 32 := Scalar.addi v140 v137
  let c0_i32_130 : BitVec 32 := 0#32
  let c0_i32_131 : BitVec 32 := 0#32
  ![v141.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== StackedGrads.lean ====
abbrev S3072x128 : Shape := ⟨2, ![3072, 128]⟩
abbrev S8x384x128 : Shape := ⟨3, ![8, 384, 128]⟩

abbrev nBuf : Space → Nat
  | .hbm => 2
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S8x384x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamFfn.lean ====
abbrev S4x352x1024 : Shape := ⟨3, ![4, 352, 1024]⟩
abbrev S8x384x1024 : Shape := ⟨3, ![8, 384, 1024]⟩
abbrev S1x32x1024 : Shape := ⟨3, ![1, 32, 1024]⟩
abbrev S8x32x1024 : Shape := ⟨3, ![8, 32, 1024]⟩
abbrev S32x1024 : Shape := ⟨2, ![32, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S8x384x1024, .bf16⟩
  | .hbm, ⟨4, _⟩ => ⟨S8x384x1024, .bf16⟩
  | .hbm, ⟨5, _⟩ => ⟨S8x384x1024, .bf16⟩
  | .hbm, ⟨6, _⟩ => ⟨S8x384x1024, .bf16⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S8x32x1024, .bf16⟩
  | .local _ .vmem, ⟨7, _⟩ => ⟨S8x32x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S8x32x1024, .bf16⟩
  | .local _ .vmem, ⟨11, _⟩ => ⟨S8x32x1024, .bf16⟩
  | .local _ .vmem, ⟨12, _⟩ => ⟨S8x32x1024, .bf16⟩
  | .local _ .vmem, ⟨13, _⟩ => ⟨S8x32x1024, .bf16⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | .local _ .vmem, ⟨18, _⟩ => ⟨S1x32x1024, .f32⟩
  | .local _ .vmem, ⟨19, _⟩ => ⟨S1x32x1024, .f32⟩
  | .local _ .vmem, ⟨20, _⟩ => ⟨S1x32x1024, .f32⟩
  | .local _ .vmem, ⟨21, _⟩ => ⟨S1x32x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnIdeal.lean ====
abbrev S4x352x1024 : Shape := ⟨3, ![4, 352, 1024]⟩
abbrev S8x384x1024 : Shape := ⟨3, ![8, 384, 1024]⟩
abbrev S1x32x1024 : Shape := ⟨3, ![1, 32, 1024]⟩
abbrev S8x32x1024 : Shape := ⟨3, ![8, 32, 1024]⟩
abbrev S32x1024 : Shape := ⟨2, ![32, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S8x384x1024, .bf16⟩
  | .hbm, ⟨4, _⟩ => ⟨S8x384x1024, .bf16⟩
  | .hbm, ⟨5, _⟩ => ⟨S8x384x1024, .bf16⟩
  | .hbm, ⟨6, _⟩ => ⟨S8x384x1024, .bf16⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S8x32x1024, .bf16⟩
  | .local _ .vmem, ⟨7, _⟩ => ⟨S8x32x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S8x32x1024, .bf16⟩
  | .local _ .vmem, ⟨11, _⟩ => ⟨S8x32x1024, .bf16⟩
  | .local _ .vmem, ⟨12, _⟩ => ⟨S8x32x1024, .bf16⟩
  | .local _ .vmem, ⟨13, _⟩ => ⟨S8x32x1024, .bf16⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | .local _ .vmem, ⟨18, _⟩ => ⟨S1x32x1024, .f32⟩
  | .local _ .vmem, ⟨19, _⟩ => ⟨S1x32x1024, .f32⟩
  | .local _ .vmem, ⟨20, _⟩ => ⟨S1x32x1024, .f32⟩
  | .local _ .vmem, ⟨21, _⟩ => ⟨S1x32x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StepFfnIdeal.lean ====
abbrev S4x352x1024 : Shape := ⟨3, ![4, 352, 1024]⟩
abbrev S8x384x1024 : Shape := ⟨3, ![8, 384, 1024]⟩
abbrev S1x8x384x1024 : Shape := ⟨4, ![1, 8, 384, 1024]⟩
abbrev S4x8x384x1024 : Shape := ⟨4, ![4, 8, 384, 1024]⟩
abbrev S4x8x352x1024 : Shape := ⟨4, ![4, 8, 352, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S8x384x1024, .bf16⟩
  | .hbm, ⟨4, _⟩ => ⟨S8x384x1024, .bf16⟩
  | .hbm, ⟨5, _⟩ => ⟨S8x384x1024, .bf16⟩
  | .hbm, ⟨6, _⟩ => ⟨S8x384x1024, .bf16⟩
  | .hbm, ⟨7, _⟩ => ⟨S1x8x384x1024, .bf16⟩
  | .hbm, ⟨8, _⟩ => ⟨S1x8x384x1024, .bf16⟩
  | .hbm, ⟨9, _⟩ => ⟨S1x8x384x1024, .bf16⟩
  | .hbm, ⟨10, _⟩ => ⟨S1x8x384x1024, .bf16⟩
  | .hbm, ⟨11, _⟩ => ⟨S4x8x384x1024, .bf16⟩
  | .hbm, ⟨12, _⟩ => ⟨S4x8x352x1024, .bf16⟩
  | .hbm, ⟨13, _⟩ => ⟨S4x8x352x1024, .f32⟩
  | .hbm, ⟨14, _⟩ => ⟨S_, .f32⟩
  | .hbm, ⟨15, _⟩ => ⟨S4x352x1024, .f32⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamOut.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepOutIdeal.lean ====
abbrev S2x128x1024 : Shape := ⟨3, ![2, 128, 1024]⟩
abbrev S8x128x1024 : Shape := ⟨3, ![8, 128, 1024]⟩
abbrev S1x8x128x1024 : Shape := ⟨4, ![1, 8, 128, 1024]⟩
abbrev S2x8x128x1024 : Shape := ⟨4, ![2, 8, 128, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S1x8x128x1024, .bf16⟩
  | .hbm, ⟨6, _⟩ => ⟨S1x8x128x1024, .bf16⟩
  | .hbm, ⟨7, _⟩ => ⟨S2x8x128x1024, .bf16⟩
  | .hbm, ⟨8, _⟩ => ⟨S2x8x128x1024, .f32⟩
  | .hbm, ⟨9, _⟩ => ⟨S_, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | .hbm, ⟨40, _⟩ => ⟨S2x128x1024, .f32⟩
  | .hbm, ⟨41, _⟩ => ⟨S_, .f32⟩
  | .hbm, ⟨42, _⟩ => ⟨S2x128x1024, .f32⟩
  | .hbm, ⟨43, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamEven.lean ====
abbrev S2x1024x384 : Shape := ⟨3, ![2, 1024, 384]⟩
abbrev S8x1024x384 : Shape := ⟨3, ![8, 1024, 384]⟩
abbrev S1x256x384 : Shape := ⟨3, ![1, 256, 384]⟩
abbrev S8x256x384 : Shape := ⟨3, ![8, 256, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S8x1024x384, .bf16⟩
  | .hbm, ⟨4, _⟩ => ⟨S8x1024x384, .bf16⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S8x256x384, .bf16⟩
  | .local _ .vmem, ⟨7, _⟩ => ⟨S8x256x384, .bf16⟩
  | .local _ .vmem, ⟨8, _⟩ => ⟨S8x256x384, .bf16⟩
  | .local _ .vmem, ⟨9, _⟩ => ⟨S8x256x384, .bf16⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamEvenIdeal.lean ====
abbrev S2x1024x384 : Shape := ⟨3, ![2, 1024, 384]⟩
abbrev S8x1024x384 : Shape := ⟨3, ![8, 1024, 384]⟩
abbrev S1x256x384 : Shape := ⟨3, ![1, 256, 384]⟩
abbrev S8x256x384 : Shape := ⟨3, ![8, 256, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S8x1024x384, .bf16⟩
  | .hbm, ⟨4, _⟩ => ⟨S8x1024x384, .bf16⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S8x256x384, .bf16⟩
  | .local _ .vmem, ⟨7, _⟩ => ⟨S8x256x384, .bf16⟩
  | .local _ .vmem, ⟨8, _⟩ => ⟨S8x256x384, .bf16⟩
  | .local _ .vmem, ⟨9, _⟩ => ⟨S8x256x384, .bf16⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepEvenIdeal.lean ====
abbrev S2x1024x384 : Shape := ⟨3, ![2, 1024, 384]⟩
abbrev S8x1024x384 : Shape := ⟨3, ![8, 1024, 384]⟩
abbrev S1x8x1024x384 : Shape := ⟨4, ![1, 8, 1024, 384]⟩
abbrev S2x8x1024x384 : Shape := ⟨4, ![2, 8, 1024, 384]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S8x1024x384, .bf16⟩
  | .hbm, ⟨4, _⟩ => ⟨S8x1024x384, .bf16⟩
  | .hbm, ⟨5, _⟩ => ⟨S1x8x1024x384, .bf16⟩
  | .hbm, ⟨6, _⟩ => ⟨S1x8x1024x384, .bf16⟩
  | .hbm, ⟨7, _⟩ => ⟨S2x8x1024x384, .bf16⟩
  | .hbm, ⟨8, _⟩ => ⟨S2x8x1024x384, .f32⟩
  | .hbm, ⟨9, _⟩ => ⟨S_, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S_, .f32⟩
  | .hbm, ⟨15, _⟩ => ⟨S2x1024x384, .f32⟩
  | .hbm, ⟨16, _⟩ => ⟨S2x1024x384, .f32⟩
  | .hbm, ⟨17, _⟩ => ⟨S2x1024x384, .f32⟩
  | .hbm, ⟨18, _⟩ => ⟨S_, .f32⟩
  | .hbm, ⟨19, _⟩ => ⟨S2x1024x384, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S2x1024x384, .f32⟩
  | .hbm, ⟨33, _⟩ => ⟨S_, .f32⟩
  | .hbm, ⟨34, _⟩ => ⟨S2x1024x384, .f32⟩
  | .hbm, ⟨35, _⟩ => ⟨S2x1024x384, .f32⟩
  | .hbm, ⟨36, _⟩ => ⟨S2x1024x384, .f32⟩
  | .hbm, ⟨37, _⟩ => ⟨S_, .f32⟩
  | .hbm, ⟨38, _⟩ => ⟨S2x1024x384, .f32⟩
  | .hbm, ⟨39, _⟩ => ⟨S2x1024x384, .f32⟩
  | .hbm, ⟨40, _⟩ => ⟨S2x1024x384, .f32⟩
  | .hbm, ⟨41, _⟩ => ⟨S_, .f32⟩
  | .hbm, ⟨42, _⟩ => ⟨S2x1024x384, .f32⟩
  | .hbm, ⟨43, _⟩ => ⟨S2x1024x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamOdd.lean ====
abbrev S2x192x1024 : Shape := ⟨3, ![2, 192, 1024]⟩
abbrev S8x192x1024 : Shape := ⟨3, ![8, 192, 1024]⟩
abbrev S1x64x1024 : Shape := ⟨3, ![1, 64, 1024]⟩
abbrev S8x64x1024 : Shape := ⟨3, ![8, 64, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x192x1024, .f32⟩
  | .hbm, ⟨1, _⟩ => ⟨S2x192x1024, .f32⟩
  | .hbm, ⟨2, _⟩ => ⟨S2x192x1024, .f32⟩
  | .hbm, ⟨3, _⟩ => ⟨S8x192x1024, .bf16⟩
  | .hbm, ⟨4, _⟩ => ⟨S8x192x1024, .bf16⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S8x64x1024, .bf16⟩
  | .local _ .vmem, ⟨7, _⟩ => ⟨S8x64x1024, .bf16⟩
  | .local _ .vmem, ⟨8, _⟩ => ⟨S8x64x1024, .bf16⟩
  | .local _ .vmem, ⟨9, _⟩ => ⟨S8x64x1024, .bf16⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S2x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepOddIdeal.lean ====
abbrev S2x192x1024 : Shape := ⟨3, ![2, 192, 1024]⟩
abbrev S8x192x1024 : Shape := ⟨3, ![8, 192, 1024]⟩
abbrev S1x8x192x1024 : Shape := ⟨4, ![1, 8, 192, 1024]⟩
abbrev S2x8x192x1024 : Shape := ⟨4, ![2, 8, 192, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2x192x1024, .f32⟩
  | .hbm, ⟨1, _⟩ => ⟨S2x192x1024, .f32⟩
  | .hbm, ⟨2, _⟩ => ⟨S2x192x1024, .f32⟩
  | .hbm, ⟨3, _⟩ => ⟨S8x192x1024, .bf16⟩
  | .hbm, ⟨4, _⟩ => ⟨S8x192x1024, .bf16⟩
  | .hbm, ⟨5, _⟩ => ⟨S1x8x192x1024, .bf16⟩
  | .hbm, ⟨6, _⟩ => ⟨S1x8x192x1024, .bf16⟩
  | .hbm, ⟨7, _⟩ => ⟨S2x8x192x1024, .bf16⟩
  | .hbm, ⟨8, _⟩ => ⟨S2x8x192x1024, .f32⟩
  | .hbm, ⟨9, _⟩ => ⟨S_, .f32⟩
  | .hbm, ⟨10, _⟩ => ⟨S2x192x1024, .f32⟩
  | .hbm, ⟨11, _⟩ => ⟨S_, .f32⟩
  | .hbm, ⟨12, _⟩ => ⟨S2x192x1024, .f32⟩
  | .hbm, ⟨13, _⟩ => ⟨S2x192x1024, .f32⟩
  | .hbm, ⟨14, _⟩ => ⟨S_, .f32⟩
  | .hbm, ⟨15, _⟩ => ⟨S2x192x1024, .f32⟩
  | .hbm, ⟨16, _⟩ => ⟨S2x192x1024, .f32⟩
  | .hbm, ⟨17, _⟩ => ⟨S2x192x1024, .f32⟩
  | .hbm, ⟨18, _⟩ => ⟨S_, .f32⟩
  | .hbm, ⟨19, _⟩ => ⟨S2x192x1024, .f32⟩
  | .hbm, ⟨20, _⟩ => ⟨S2x192x1024, .f32⟩
  | .hbm, ⟨21, _⟩ => ⟨S2x192x1024, .f32⟩
  | .hbm, ⟨22, _⟩ => ⟨S_, .f32⟩
  | .hbm, ⟨23, _⟩ => ⟨S2x192x1024, .f32⟩
  | .hbm, ⟨24, _⟩ => ⟨S2x192x1024, .f32⟩
  | .hbm, ⟨25, _⟩ => ⟨S2x192x1024, .f32⟩
  | .hbm, ⟨26, _⟩ => ⟨S_, .f32⟩
  | .hbm, ⟨27, _⟩ => ⟨S2x192x1024, .f32⟩
  | .hbm, ⟨28, _⟩ => ⟨S2x192x1024, .f32⟩
  | .hbm, ⟨29, _⟩ => ⟨S_, .f32⟩
  | .hbm, ⟨30, _⟩ => ⟨S2x192x1024, .f32⟩
  | .hbm, ⟨31, _⟩ => ⟨S2x192x1024, .f32⟩
  | .hbm, ⟨32, _⟩ => ⟨S2x192x1024, .f32⟩
  | .hbm, ⟨33, _⟩ => ⟨S_, .f32⟩
  | .hbm, ⟨34, _⟩ => ⟨S2x192x1024, .f32⟩
  | .hbm, ⟨35, _⟩ => ⟨S2x192x1024, .f32⟩
  | .hbm, ⟨36, _⟩ => ⟨S2x192x1024, .f32⟩
  | .hbm, ⟨37, _⟩ => ⟨S_, .f32⟩
  | .hbm, ⟨38, _⟩ => ⟨S2x192x1024, .f32⟩
  | .hbm, ⟨39, _⟩ => ⟨S2x192x1024, .f32⟩
  | .hbm, ⟨40, _⟩ => ⟨S2x192x1024, .f32⟩
  | .hbm, ⟨41, _⟩ => ⟨S_, .f32⟩
  | .hbm, ⟨42, _⟩ => ⟨S2x192x1024, .f32⟩
  | .hbm, ⟨43, _⟩ => ⟨S2x192x1024, .f32⟩
  | _, _ => ⟨S2x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamAda.lean ====
abbrev S4096x768 : Shape := ⟨2, ![4096, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S4096x768 : Shape := ⟨2, ![4096, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaIdeal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2560x128 : Shape := ⟨2, ![2560, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepSmallIdeal.lean ====
abbrev S2560x128 : Shape := ⟨2, ![2560, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S_, .f32⟩
  | .hbm, ⟨5, _⟩ => ⟨S2560x128, .f32⟩
  | .hbm, ⟨6, _⟩ => ⟨S2560x128, .f32⟩
  | .hbm, ⟨7, _⟩ => ⟨S_, .f32⟩
  | .hbm, ⟨8, _⟩ => ⟨S2560x128, .f32⟩
  | .hbm, ⟨9, _⟩ => ⟨S2560x128, .f32⟩
  | .hbm, ⟨10, _⟩ => ⟨S2560x128, .f32⟩
  | .hbm, ⟨11, _⟩ => ⟨S_, .f32⟩
  | .hbm, ⟨12, _⟩ => ⟨S2560x128, .f32⟩
  | .hbm, ⟨13, _⟩ => ⟨S2560x128, .f32⟩
  | .hbm, ⟨14, _⟩ => ⟨S2560x128, .f32⟩
  | .hbm, ⟨15, _⟩ => ⟨S_, .f32⟩
  | .hbm, ⟨16, _⟩ => ⟨S2560x128, .f32⟩
  | .hbm, ⟨17, _⟩ => ⟨S2560x128, .f32⟩
  | .hbm, ⟨18, _⟩ => ⟨S2560x128, .f32⟩
  | .hbm, ⟨19, _⟩ => ⟨S_, .f32⟩
  | .hbm, ⟨20, _⟩ => ⟨S2560x128, .f32⟩
  | .hbm, ⟨21, _⟩ => ⟨S2560x128, .f32⟩
  | .hbm, ⟨22, _⟩ => ⟨S_, .f32⟩
  | .hbm, ⟨23, _⟩ => ⟨S2560x128, .f32⟩
  | .hbm, ⟨24, _⟩ => ⟨S2560x128, .f32⟩
  | .hbm, ⟨25, _⟩ => ⟨S2560x128, .f32⟩
  | .hbm, ⟨26, _⟩ => ⟨S_, .f32⟩
  | .hbm, ⟨27, _⟩ => ⟨S2560x128, .f32⟩
  | .hbm, ⟨28, _⟩ => ⟨S2560x128, .f32⟩
  | .hbm, ⟨29, _⟩ => ⟨S2560x128, .f32⟩
  | .hbm, ⟨30, _⟩ => ⟨S_, .f32⟩
  | .hbm, ⟨31, _⟩ => ⟨S2560x128, .f32⟩
  | .hbm, ⟨32, _⟩ => ⟨S2560x128, .f32⟩
  | .hbm, ⟨33, _⟩ => ⟨S2560x128, .f32⟩
  | .hbm, ⟨34, _⟩ => ⟨S_, .f32⟩
  | .hbm, ⟨35, _⟩ => ⟨S2560x128, .f32⟩
  | .hbm, ⟨36, _⟩ => ⟨S2560x128, .f32⟩
  | _, _ => ⟨S2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== BiasGrads.lean ====
abbrev S8x8x6144 : Shape := ⟨3, ![8, 8, 6144]⟩
abbrev S8x6144 : Shape := ⟨2, ![8, 6144]⟩
abbrev S1x8x6144 : Shape := ⟨3, ![1, 8, 6144]⟩
abbrev S4x2x6144 : Shape := ⟨3, ![4, 2, 6144]⟩
abbrev S4x1x6144 : Shape := ⟨3, ![4, 1, 6144]⟩
abbrev S4x6144 : Shape := ⟨2, ![4, 6144]⟩

abbrev nBuf : Space → Nat
  | .hbm => 8
  | .vmem => 2
  | .smem => 0
  | _ => 0

abbrev bufTy : (tb : Table) → Fin (tcTables nBuf tb) → BufTy
  | .hbm, ⟨0, _⟩ => ⟨S8x8x6144, .f32⟩
  | .hbm, ⟨1, _⟩ => ⟨S8x6144, .f32⟩
  | .hbm, ⟨2, _⟩ => ⟨S4x2x6144, .f32⟩
  | .hbm, ⟨3, _⟩ => ⟨S4x1x6144, .f32⟩
  | .hbm, ⟨4, _⟩ => ⟨S4x6144, .f32⟩
  | .hbm, ⟨5, _⟩ => ⟨S4x1x6144, .f32⟩
  | .hbm, ⟨6, _⟩ => ⟨S4x6144, .f32⟩
  | .hbm, ⟨7, _⟩ => ⟨S4x6144, .f32⟩
  | .local _ .vmem, ⟨0, _⟩ => ⟨S8x8x6144, .f32⟩
  | .local _ .vmem, ⟨1, _⟩ => ⟨S8x6144, .f32⟩
  | _, _ => ⟨S8x8x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== BiasTotalIdeal.lean ====
abbrev S8x8x6144 : Shape := ⟨3, ![8, 8, 6144]⟩
abbrev S_ : Shape := ⟨0, ![]⟩
abbrev S8x6144 : Shape := ⟨2, ![8, 6144]⟩
abbrev S4x2x6144 : Shape := ⟨3, ![4, 2, 6144]⟩
abbrev S4x6144 : Shape := ⟨2, ![4, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8x8x6144, .f32⟩
  | .hbm, ⟨1, _⟩ => ⟨S_, .f32⟩
  | .hbm, ⟨2, _⟩ => ⟨S8x6144, .f32⟩
  | .hbm, ⟨3, _⟩ => ⟨S4x2x6144, .f32⟩
  | .hbm, ⟨4, _⟩ => ⟨S_, .f32⟩
  | .hbm, ⟨5, _⟩ => ⟨S4x6144, .f32⟩
  | _, _ => ⟨S8x8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CutGrads.lean ====
abbrev S8x384x128 : Shape := ⟨3, ![8, 384, 128]⟩
abbrev S_ : Shape := ⟨0, ![]⟩
abbrev S384x128 : Shape := ⟨2, ![384, 128]⟩
abbrev S8x128x128 : Shape := ⟨3, ![8, 128, 128]⟩
abbrev S128x128 : Shape := ⟨2, ![128, 128]⟩
abbrev S1x128x128 : Shape := ⟨3, ![1, 128, 128]⟩
abbrev S8x128 : Shape := ⟨2, ![8, 128]⟩
abbrev S1024 : Shape := ⟨1, ![1024]⟩
abbrev S64x128 : Shape := ⟨2, ![64, 128]⟩
abbrev S8192 : Shape := ⟨1, ![8192]⟩
abbrev S4x2x1024 : Shape := ⟨3, ![4, 2, 1024]⟩
abbrev S16 : Shape := ⟨1, ![16]⟩
abbrev S2x2x4 : Shape := ⟨3, ![2, 2, 4]⟩
abbrev S248x128 : Shape := ⟨2, ![248, 128]⟩
abbrev S31744 : Shape := ⟨1, ![31744]⟩
abbrev S2x31x512 : Shape := ⟨3, ![2, 31, 512]⟩
abbrev S2x512 : Shape := ⟨2, ![2, 512]⟩
abbrev S2x4x128 : Shape := ⟨3, ![2, 4, 128]⟩
abbrev S4x2x128 : Shape := ⟨3, ![4, 2, 128]⟩
abbrev S2x31x64 : Shape := ⟨3, ![2, 31, 64]⟩
abbrev S2x64 : Shape := ⟨2, ![2, 64]⟩

abbrev nBuf : Space → Nat
  | .hbm => 105
  | .vmem => 4
  | .smem => 0
  | _ => 0

abbrev bufTy : (tb : Table) → Fin (tcTables nBuf tb) → BufTy
  | .hbm, ⟨0, _⟩ => ⟨S8x384x128, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S384x128, .f32⟩
  | .hbm, ⟨26, _⟩ => ⟨S8x128, .f32⟩
  | .hbm, ⟨27, _⟩ => ⟨S1024, .f32⟩
  | .hbm, ⟨28, _⟩ => ⟨S64x128, .f32⟩
  | .hbm, ⟨29, _⟩ => ⟨S8192, .f32⟩
  | .hbm, ⟨30, _⟩ => ⟨S4x2x1024, .f32⟩
  | .hbm, ⟨31, _⟩ => ⟨S8x128, .f32⟩
  | .hbm, ⟨32, _⟩ => ⟨S1024, .f32⟩
  | .hbm, ⟨33, _⟩ => ⟨S16, .f32⟩
  | .hbm, ⟨34, _⟩ => ⟨S2x2x4, .f32⟩
  | .hbm, ⟨35, _⟩ => ⟨S248x128, .f32⟩
  | .hbm, ⟨36, _⟩ => ⟨S31744, .f32⟩
  | .hbm, ⟨37, _⟩ => ⟨S2x31x512, .f32⟩
  | .hbm, ⟨38, _⟩ => ⟨S8x128, .f32⟩
  | .hbm, ⟨39, _⟩ => ⟨S1024, .f32⟩
  | .hbm, ⟨40, _⟩ => ⟨S2x512, .f32⟩
  | .hbm, ⟨41, _⟩ => ⟨S8x128, .f32⟩
  | .hbm, ⟨42, _⟩ => ⟨S1024, .f32⟩
  | .hbm, ⟨43, _⟩ => ⟨S2x512, .f32⟩
  | .hbm, ⟨44, _⟩ => ⟨S8x128, .f32⟩
  | .hbm, ⟨45, _⟩ => ⟨S1024, .f32⟩
  | .hbm, ⟨46, _⟩ => ⟨S2x512, .f32⟩
  | .hbm, ⟨47, _⟩ => ⟨S8x128, .f32⟩
  | .hbm, ⟨48, _⟩ => ⟨S1024, .f32⟩
  | .hbm, ⟨49, _⟩ => ⟨S2x512, .f32⟩
  | .hbm, ⟨50, _⟩ => ⟨S8x128, .f32⟩
  | .hbm, ⟨51, _⟩ => ⟨S1024, .f32⟩
  | .hbm, ⟨52, _⟩ => ⟨S2x512, .f32⟩
  | .hbm, ⟨53, _⟩ => ⟨S8x128, .f32⟩
  | .hbm, ⟨54, _⟩ => ⟨S1024, .f32⟩
  | .hbm, ⟨55, _⟩ => ⟨S2x4x128, .f32⟩
  | .hbm, ⟨56, _⟩ => ⟨S8x128, .f32⟩
  | .hbm, ⟨57, _⟩ => ⟨S1024, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S4x2x128, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S2x31x64, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S2x64, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S2x64, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S2x64, .f32⟩
  | .local _ .vmem, ⟨0, _⟩ => ⟨S8x128x128, .f32⟩
  | .local _ .vmem, ⟨1, _⟩ => ⟨S8x128x128, .f32⟩
  | .local _ .vmem, ⟨2, _⟩ => ⟨S128x128, .f32⟩
  | .local _ .vmem, ⟨3, _⟩ => ⟨S128x128, .f32⟩
  | _, _ => ⟨S8x384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_v5 : Ref sig .tc := ⟨.hbm, 8, rfl⟩
abbrev main_c_2 : Ref sig .tc := ⟨.hbm, 9, rfl⟩
abbrev main_c_3 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_4 : Ref sig .tc := ⟨.hbm, 15, rfl⟩
abbrev main_v10 : Ref sig .tc := ⟨.hbm, 16, rfl⟩
abbrev main_v11 : Ref sig .tc := ⟨.hbm, 17, rfl⟩
abbrev main_c_5 : Ref sig .tc := ⟨.hbm, 18, rfl⟩
abbrev main_c_6 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_c_7 : Ref sig .tc := ⟨.hbm, 58, rfl⟩
abbrev main_v50 : Ref sig .tc := ⟨.hbm, 59, rfl⟩
abbrev main_c_8 : Ref sig .tc := ⟨.hbm, 60, rfl⟩
abbrev main_v51 : Ref sig .tc := ⟨.hbm, 61, rfl⟩
abbrev main_c_9 : Ref sig .tc := ⟨.hbm, 62, rfl⟩
abbrev main_v52 : Ref sig .tc := ⟨.hbm, 63, rfl⟩
abbrev main_v53 : Ref sig .tc := ⟨.hbm, 64, rfl⟩
abbrev main_c_10 : Ref sig .tc := ⟨.hbm, 65, rfl⟩
abbrev main_c_11 : Ref sig .tc := ⟨.hbm, 66, rfl⟩
abbrev main_v54 : Ref sig .tc := ⟨.hbm, 67, rfl⟩
abbrev main_c_12 : Ref sig .tc := ⟨.hbm, 68, rfl⟩
abbrev main_v55 : Ref sig .tc := ⟨.hbm, 69, rfl⟩
abbrev main_c_13 : Ref sig .tc := ⟨.hbm, 70, rfl⟩
abbrev main_v56 : Ref sig .tc := ⟨.hbm, 71, rfl⟩
abbrev main_c_14 : Ref sig .tc := ⟨.hbm, 72, rfl⟩
abbrev main_v57 : Ref sig .tc := ⟨.hbm, 73, rfl⟩
abbrev main_v58 : Ref sig .tc := ⟨.hbm, 74, rfl⟩
abbrev main_c_15 : Ref sig .tc := ⟨.hbm, 75, rfl⟩
abbrev main_c_16 : Ref sig .tc := ⟨.hbm, 76, rfl⟩
abbrev main_v59 : Ref sig .tc := ⟨.hbm, 77, rfl⟩
abbrev main_c_17 : Ref sig .tc := ⟨.hbm, 78, rfl⟩
abbrev main_v60 : Ref sig .tc := ⟨.hbm, 79, rfl⟩
abbrev main_c_18 : Ref sig .tc := ⟨.hbm, 80, rfl⟩
abbrev main_v61 : Ref sig .tc := ⟨.hbm, 81, rfl⟩
abbrev main_c_19 : Ref sig .tc := ⟨.hbm, 82, rfl⟩
abbrev main_v62 : Ref sig .tc := ⟨.hbm, 83, rfl⟩
abbrev main_v63 : Ref sig .tc := ⟨.hbm, 84, rfl⟩
abbrev main_c_20 : Ref sig .tc := ⟨.hbm, 85, rfl⟩
abbrev main_v64 : Ref sig .tc := ⟨.hbm, 86, rfl⟩
abbrev main_c_21 : Ref sig .tc := ⟨.hbm, 87, rfl⟩
abbrev main_v65 : Ref sig .tc := ⟨.hbm, 88, rfl⟩
abbrev main_c_22 : Ref sig .tc := ⟨.hbm, 89, rfl⟩
abbrev main_v66 : Ref sig .tc := ⟨.hbm, 90, rfl⟩
abbrev main_c_23 : Ref sig .tc := ⟨.hbm, 91, rfl⟩
abbrev main_v67 : Ref sig .tc := ⟨.hbm, 92, rfl⟩
abbrev main_v68 : Ref sig .tc := ⟨.hbm, 93, rfl⟩
abbrev main_c_24 : Ref sig .tc := ⟨.hbm, 94, rfl⟩
abbrev main_v69 : Ref sig .tc := ⟨.hbm, 95, rfl⟩
abbrev main_c_25 : Ref sig .tc := ⟨.hbm, 96, rfl⟩
abbrev main_v70 : Ref sig .tc := ⟨.hbm, 97, rfl⟩
abbrev main_c_26 : Ref sig .tc := ⟨.hbm, 98, rfl⟩
abbrev main_v71 : Ref sig .tc := ⟨.hbm, 99, rfl⟩
abbrev main_c_27 : Ref sig .tc := ⟨.hbm, 100, rfl⟩
abbrev main_v72 : Ref sig .tc := ⟨.hbm, 101, rfl⟩
abbrev main_v73 : Ref sig .tc := ⟨.hbm, 102, rfl⟩
abbrev main_c_28 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WeightTotalsIdeal.lean ====
abbrev S8x384x128 : Shape := ⟨3, ![8, 384, 128]⟩
abbrev S8x64x128 : Shape := ⟨3, ![8, 64, 128]⟩
abbrev S8x4x2x1024 : Shape := ⟨4, ![8, 4, 2, 1024]⟩
abbrev S_ : Shape := ⟨0, ![]⟩
abbrev S4x2x1024 : Shape := ⟨3, ![4, 2, 1024]⟩
abbrev S8x248x128 : Shape := ⟨3, ![8, 248, 128]⟩
abbrev S8x2x31x512 : Shape := ⟨4, ![8, 2, 31, 512]⟩
abbrev S2x31x512 : Shape := ⟨3, ![2, 31, 512]⟩
abbrev S8x8x128 : Shape := ⟨3, ![8, 8, 128]⟩
abbrev S8x2x512 : Shape := ⟨3, ![8, 2, 512]⟩
abbrev S2x512 : Shape := ⟨2, ![2, 512]⟩

abbrev nBuf : Space → Nat
  | .hbm => 21
  | .vmem => 0
  | .smem => 0
  | _ => 0

abbrev bufTy : (tb : Table) → Fin (tcTables nBuf tb) → BufTy
  | .hbm, ⟨0, _⟩ => ⟨S8x384x128, .f32⟩
  | .hbm, ⟨1, _⟩ => ⟨S8x64x128, .f32⟩
  | .hbm, ⟨2, _⟩ => ⟨S8x4x2x1024, .f32⟩
  | .hbm, ⟨3, _⟩ => ⟨S_, .f32⟩
  | .hbm, ⟨4, _⟩ => ⟨S4x2x1024, .f32⟩
  | .hbm, ⟨5, _⟩ => ⟨S8x248x128, .f32⟩
  | .hbm, ⟨6, _⟩ => ⟨S8x2x31x512, .f32⟩
  | .hbm, ⟨7, _⟩ => ⟨S_, .f32⟩
  | .hbm, ⟨8, _⟩ => ⟨S2x31x512, .f32⟩
  | .hbm, ⟨9, _⟩ => ⟨S8x8x128, .f32⟩
  | .hbm, ⟨10, _⟩ => ⟨S8x2x512, .f32⟩
  | .hbm, ⟨11, _⟩ => ⟨S_, .f32⟩
  | .hbm, ⟨12, _⟩ => ⟨S2x512, .f32⟩
  | .hbm, ⟨13, _⟩ => ⟨S8x8x128, .f32⟩
  | .hbm, ⟨14, _⟩ => ⟨S8x2x512, .f32⟩
  | .hbm, ⟨15, _⟩ => ⟨S_, .f32⟩
  | .hbm, ⟨16, _⟩ => ⟨S2x512, .f32⟩
  | .hbm, ⟨17, _⟩ => ⟨S8x8x128, .f32⟩
  | .hbm, ⟨18, _⟩ => ⟨S8x2x512, .f32⟩
  | .hbm, ⟨19, _⟩ => ⟨S_, .f32⟩
  | .hbm, ⟨20, _⟩ => ⟨S2x512, .f32⟩
  | _, _ => ⟨S8x384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== SumGrads.lean ====
abbrev S8x384x128 : Shape := ⟨3, ![8, 384, 128]⟩
abbrev S384x128 : Shape := ⟨2, ![384, 128]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x384x128, .f32⟩
  | .hbm, ⟨1, _⟩ => ⟨S384x128, .f32⟩
  | .local _ .vmem, ⟨0, _⟩ => ⟨S8x128x128, .f32⟩
  | .local _ .vmem, ⟨1, _⟩ => ⟨S8x128x128, .f32⟩
  | .local _ .vmem, ⟨2, _⟩ => ⟨S128x128, .f32⟩
  | .local _ .vmem, ⟨3, _⟩ => ⟨S128x128, .f32⟩
  | _, _ => ⟨S8x384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGradsIdeal.lean ====
abbrev S8x384x128 : Shape := ⟨3, ![8, 384, 128]⟩
abbrev S384x128 : Shape := ⟨2, ![384, 128]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x384x128, .f32⟩
  | .hbm, ⟨1, _⟩ => ⟨S384x128, .f32⟩
  | .local _ .vmem, ⟨0, _⟩ => ⟨S8x128x128, .f32⟩
  | .local _ .vmem, ⟨1, _⟩ => ⟨S8x128x128, .f32⟩
  | .local _ .vmem, ⟨2, _⟩ => ⟨S128x128, .f32⟩
  | .local _ .vmem, ⟨3, _⟩ => ⟨S128x128, .f32⟩
  | _, _ => ⟨S8x384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TotalGradsIdeal.lean ====
abbrev S8x384x128 : Shape := ⟨3, ![8, 384, 128]⟩
abbrev S_ : Shape := ⟨0, ![]⟩
abbrev S384x128 : Shape := ⟨2, ![384, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x384x128, .f32⟩
  | .hbm, ⟨1, _⟩ => ⟨S_, .f32⟩
  | .hbm, ⟨2, _⟩ => ⟨S384x128, .f32⟩
  | _, _ => ⟨S8x384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumEarly.lean ====
abbrev S8x2048x128 : Shape := ⟨3, ![8, 2048, 128]⟩
abbrev S2048x128 : Shape := ⟨2, ![2048, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TotalEarlyIdeal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S_, .f32⟩
  | .hbm, ⟨2, _⟩ => ⟨S2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaFwd.lean ====
abbrev S16x1024 : Shape := ⟨2, ![16, 1024]⟩
abbrev S4x1024x768 : Shape := ⟨3, ![4, 1024, 768]⟩
abbrev S4x1x768 : Shape := ⟨3, ![4, 1, 768]⟩
abbrev S4x16x768 : Shape := ⟨3, ![4, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x1x768, .f32⟩
  | .hbm, ⟨3, _⟩ => ⟨S4x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationIdeal.lean ====
abbrev S16x1024 : Shape := ⟨2, ![16, 1024]⟩
abbrev S4x1024x768 : Shape := ⟨3, ![4, 1024, 768]⟩
abbrev S4x1x768 : Shape := ⟨3, ![4, 1, 768]⟩
abbrev S_ : Shape := ⟨0, ![]⟩
abbrev S16x4x768 : Shape := ⟨3, ![16, 4, 768]⟩
abbrev S4x16x768 : Shape := ⟨3, ![4, 16, 768]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4x768, .f32⟩
  | .hbm, ⟨13, _⟩ => ⟨S4x16x768, .f32⟩
  | .hbm, ⟨14, _⟩ => ⟨S4x16x768, .f32⟩
  | .hbm, ⟨15, _⟩ => ⟨S4x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdaBwd.lean ====
abbrev S16x1024 : Shape := ⟨2, ![16, 1024]⟩
abbrev S4x16x768 : Shape := ⟨3, ![4, 16, 768]⟩
abbrev S4x1024x768 : Shape := ⟨3, ![4, 1024, 768]⟩
abbrev S8x1024 : Shape := ⟨2, ![8, 1024]⟩
abbrev S1x16x768 : Shape := ⟨3, ![1, 16, 768]⟩
abbrev S1x1024x768 : Shape := ⟨3, ![1, 1024, 768]⟩
abbrev S16x768 : Shape := ⟨2, ![16, 768]⟩
abbrev S1x768 : Shape := ⟨2, ![1, 768]⟩
abbrev S8x768 : Shape := ⟨2, ![8, 768]⟩
abbrev S1024x768 : Shape := ⟨2, ![1024, 768]⟩

abbrev nBuf : Space → Nat
  | .hbm => 5
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x1024x768, .f32⟩
  | .hbm, ⟨3, _⟩ => ⟨S4x1024x768, .f32⟩
  | .hbm, ⟨4, _⟩ => ⟨S8x1024, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ModGradsIdeal.lean ====
abbrev S16x1024 : Shape := ⟨2, ![16, 1024]⟩
abbrev S4x16x768 : Shape := ⟨3, ![4, 16, 768]⟩
abbrev S4x1024x768 : Shape := ⟨3, ![4, 1024, 768]⟩
abbrev S_ : Shape := ⟨0, ![]⟩
abbrev S4x8x768 : Shape := ⟨3, ![4, 8, 768]⟩
abbrev S4x768 : Shape := ⟨2, ![4, 768]⟩
abbrev S8x1024 : Shape := ⟨2, ![8, 1024]⟩
abbrev S4x768x1024 : Shape := ⟨3, ![4, 768, 1024]⟩
abbrev S1x1024 : Shape := ⟨2, ![1, 1024]⟩
abbrev S1024 : Shape := ⟨1, ![1024]⟩
abbrev S1024x1 : Shape := ⟨2, ![1024, 1]⟩
abbrev S4x1x768 : Shape := ⟨3, ![4, 1, 768]⟩
abbrev S1x1024x1 : Shape := ⟨3, ![1, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x1024x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x8x768, .f32⟩
  | .hbm, ⟨13, _⟩ => ⟨S_, .f32⟩
  | .hbm, ⟨14, _⟩ => ⟨S4x768, .f32⟩
  | .hbm, ⟨15, _⟩ => ⟨S8x1024, .f32⟩
  | .hbm, ⟨16, _⟩ => ⟨S4x8x768, .f32⟩
  | .hbm, ⟨17, _⟩ => ⟨S4x768x1024, .f32⟩
  | .hbm, ⟨18, _⟩ => ⟨S4x1024x768, .f32⟩
  | .hbm, ⟨19, _⟩ => ⟨S1x1024, .f32⟩
  | .hbm, ⟨20, _⟩ => ⟨S1024, .f32⟩
  | .hbm, ⟨21, _⟩ => ⟨S1024x1, .f32⟩
  | .hbm, ⟨22, _⟩ => ⟨S4x1x768, .f32⟩
  | .hbm, ⟨23, _⟩ => ⟨S1x1024x1, .f32⟩
  | .hbm, ⟨24, _⟩ => ⟨S4x1024x768, .f32⟩
  | .hbm, ⟨25, _⟩ => ⟨S4x1024x768, .f32⟩
  | .hbm, ⟨26, _⟩ => ⟨S4x1024x768, .f32⟩
  | .hbm, ⟨27, _⟩ => ⟨S4x1024x768, .f32⟩
  | .hbm, ⟨28, _⟩ => ⟨S1024, .f32⟩
  | .hbm, ⟨29, _⟩ => ⟨S1x1024, .f32⟩
  | .hbm, ⟨30, _⟩ => ⟨S_, .i32⟩
  | .hbm, ⟨31, _⟩ => ⟨S_, .f32⟩
  | .hbm, ⟨32, _⟩ => ⟨S8x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call1_v0 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== NormBwd.lean ====
abbrev S4352x1024 : Shape := ⟨2, ![4352, 1024]⟩
abbrev S1x1024 : Shape := ⟨2, ![1, 1024]⟩
abbrev S2x6x1024 : Shape := ⟨3, ![2, 6, 1024]⟩
abbrev S2x8x1024 : Shape := ⟨3, ![2, 8, 1024]⟩
abbrev S256x1024 : Shape := ⟨2, ![256, 1024]⟩
abbrev S1x6x1024 : Shape := ⟨3, ![1, 6, 1024]⟩
abbrev S1x8x1024 : Shape := ⟨3, ![1, 8, 1024]⟩
abbrev S256 : Shape := ⟨1, ![256]⟩
abbrev S256x1 : Shape := ⟨2, ![256, 1]⟩
abbrev S6x1024 : Shape := ⟨2, ![6, 1024]⟩
abbrev S1x1x1024 : Shape := ⟨3, ![1, 1, 1024]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S2x6x1024, .f32⟩
  | .hbm, ⟨4, _⟩ => ⟨S4352x1024, .f32⟩
  | .hbm, ⟨5, _⟩ => ⟨S4352x1024, .f32⟩
  | .hbm, ⟨6, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x6x1024, .f32⟩
  | .local _ .vmem, ⟨6, _⟩ => ⟨S1x6x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x8x1024, .f32⟩
  | .local _ .vmem, ⟨12, _⟩ => ⟨S1x8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormGradsIdeal.lean ====
abbrev S4352x1024 : Shape := ⟨2, ![4352, 1024]⟩
abbrev S1x1024 : Shape := ⟨2, ![1, 1024]⟩
abbrev S2x6x1024 : Shape := ⟨3, ![2, 6, 1024]⟩
abbrev S4096x1024 : Shape := ⟨2, ![4096, 1024]⟩
abbrev S1x1x1024 : Shape := ⟨3, ![1, 1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S3x1024 : Shape := ⟨2, ![3, 1024]⟩
abbrev S256x1024 : Shape := ⟨2, ![256, 1024]⟩
abbrev S256 : Shape := ⟨1, ![256]⟩
abbrev S256x1 : Shape := ⟨2, ![256, 1]⟩
abbrev S1x3x1024 : Shape := ⟨3, ![1, 3, 1024]⟩
abbrev S2x3x1024 : Shape := ⟨3, ![2, 3, 1024]⟩
abbrev S2x8x1024 : Shape := ⟨3, ![2, 8, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1x1024, .f32⟩
  | .hbm, ⟨3, _⟩ => ⟨S2x6x1024, .f32⟩
  | .hbm, ⟨4, _⟩ => ⟨S4352x1024, .f32⟩
  | .hbm, ⟨5, _⟩ => ⟨S4096x1024, .f32⟩
  | .hbm, ⟨6, _⟩ => ⟨S4096x1024, .f32⟩
  | .hbm, ⟨7, _⟩ => ⟨S1x1x1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S3x1024, .f32⟩
  | .hbm, ⟨58, _⟩ => ⟨S256x1024, .f32⟩
  | .hbm, ⟨59, _⟩ => ⟨S256x1024, .f32⟩
  | .hbm, ⟨60, _⟩ => ⟨S1x1x1024, .f32⟩
  | .hbm, ⟨61, _⟩ => ⟨S1024, .f32⟩
  | .hbm, ⟨62, _⟩ => ⟨S256x1024, .f32⟩
  | .hbm, ⟨63, _⟩ => ⟨S256x1024, .f32⟩
  | .hbm, ⟨64, _⟩ => ⟨S_, .f32⟩
  | .hbm, ⟨65, _⟩ => ⟨S256, .f32⟩
  | .hbm, ⟨66, _⟩ => ⟨S256x1, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S_, .f32⟩
  | .hbm, ⟨71, _⟩ => ⟨S256x1, .f32⟩
  | .hbm, ⟨72, _⟩ => ⟨S256x1, .f32⟩
  | .hbm, ⟨73, _⟩ => ⟨S256x1, .f32⟩
  | .hbm, ⟨74, _⟩ => ⟨S256x1024, .f32⟩
  | .hbm, ⟨75, _⟩ => ⟨S256x1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1024, .f32⟩
  | .hbm, ⟨80, _⟩ => ⟨S256x1024, .f32⟩
  | .hbm, ⟨81, _⟩ => ⟨S256x1024, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256, .f32⟩
  | .hbm, ⟨87, _⟩ => ⟨S256x1, .f32⟩
  | .hbm, ⟨88, _⟩ => ⟨S_, .f32⟩
  | .hbm, ⟨89, _⟩ => ⟨S256x1, .f32⟩
  | .hbm, ⟨90, _⟩ => ⟨S256x1, .f32⟩
  | .hbm, ⟨91, _⟩ => ⟨S256x1024, .f32⟩
  | .hbm, ⟨92, _⟩ => ⟨S256x1024, .f32⟩
  | .hbm, ⟨93, _⟩ => ⟨S256x1024, .f32⟩
  | .hbm, ⟨94, _⟩ => ⟨S256x1024, .f32⟩
  | .hbm, ⟨95, _⟩ => ⟨S256x1024, .f32⟩
  | .hbm, ⟨96, _⟩ => ⟨S256x1024, .f32⟩
  | .hbm, ⟨97, _⟩ => ⟨S_, .f32⟩
  | .hbm, ⟨98, _⟩ => ⟨S1024, .f32⟩
  | .hbm, ⟨99, _⟩ => ⟨S256x1024, .f32⟩
  | .hbm, ⟨100, _⟩ => ⟨S256x1024, .f32⟩
  | .hbm, ⟨101, _⟩ => ⟨S256x1024, .f32⟩
  | .hbm, ⟨102, _⟩ => ⟨S_, .f32⟩
  | .hbm, ⟨103, _⟩ => ⟨S1024, .f32⟩
  | .hbm, ⟨104, _⟩ => ⟨S256x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S1x1024, .f32⟩
  | .hbm, ⟨109, _⟩ => ⟨S1x1024, .f32⟩
  | .hbm, ⟨110, _⟩ => ⟨S3x1024, .f32⟩
  | .hbm, ⟨111, _⟩ => ⟨S4352x1024, .f32⟩
  | .hbm, ⟨112, _⟩ => ⟨S1x3x1024, .f32⟩
  | .hbm, ⟨113, _⟩ => ⟨S1x3x1024, .f32⟩
  | .hbm, ⟨114, _⟩ => ⟨S2x3x1024, .f32⟩
  | .hbm, ⟨115, _⟩ => ⟨S_, .i32⟩
  | .hbm, ⟨116, _⟩ => ⟨S_, .f32⟩
  | .hbm, ⟨117, _⟩ => ⟨S2x8x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_12 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_15 : Ref sig .tc := ⟨.hbm, 102, rfl⟩
abbrev main_v81 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c : Ref sig .tc := ⟨.hbm, 115, rfl⟩
abbrev main_call0_v0 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== LossHead.lean ====
abbrev S4352x1024 : Shape := ⟨2, ![4352, 1024]⟩
abbrev S4096x1024 : Shape := ⟨2, ![4096, 1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1x1024, .f32⟩
  | .hbm, ⟨3, _⟩ => ⟨S4352x1024, .f32⟩
  | .hbm, ⟨4, _⟩ => ⟨S8x1024, .f32⟩
  | .hbm, ⟨5, _⟩ => ⟨S1x1024, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | _ => false

abbrev sig : RefSig :=
  ofTc nBuf bufTy 1 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v5_s0 : Ref sig .tc := ⟨.hbm, 10, rfl⟩
abbrev main_v5_s1 : Ref sig .tc := ⟨.hbm, 11, rfl⟩
abbrev main_v5_s2 : Ref sig .tc := ⟨.hbm, 12, rfl⟩
abbrev main_v5_s3 : Ref sig .tc := ⟨.hbm, 13, rfl⟩
abbrev main_v5_s4 : Ref sig .tc := ⟨.hbm, 14, rfl⟩
abbrev main_v5_s5 : Ref sig .tc := ⟨.hbm, 15, rfl⟩
abbrev main_v5_s6 : Ref sig .tc := ⟨.hbm, 16, rfl⟩
abbrev main_v5_s7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev ar0_recv : DmaSem sig := 8
abbrev ar0_send : DmaSem sig := 9
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v5_s0 | 1 => main_v5_s1 | 2 => main_v5_s2 | 3 => main_v5_s3 | 4 => main_v5_s4 | 5 => main_v5_s5 | 6 => main_v5_s6 | 7 => main_v5_s7 | ⟨_ + 8, h⟩ => absurd h (Nat.not_lt.2 (Nat.le_add_left _ _))

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossIdeal.lean ====
abbrev S34816x1024 : Shape := ⟨2, ![34816, 1024]⟩
abbrev S32768x1024 : Shape := ⟨2, ![32768, 1024]⟩
abbrev S1x1024 : Shape := ⟨2, ![1, 1024]⟩
abbrev S8x4352x1024 : Shape := ⟨3, ![8, 4352, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S32768x1024, .f32⟩
  | .hbm, ⟨2, _⟩ => ⟨S1x1024, .f32⟩
  | .hbm, ⟨3, _⟩ => ⟨S8x4352x1024, .f32⟩
  | .hbm, ⟨4, _⟩ => ⟨S8x4096x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== WeightGrad.lean ====
abbrev S4352x3072 : Shape := ⟨2, ![4352, 3072]⟩
abbrev S4352x1024 : Shape := ⟨2, ![4352, 1024]⟩
abbrev S3072x1024 : Shape := ⟨2, ![3072, 1024]⟩
abbrev S4352x768 : Shape := ⟨2, ![4352, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S3072x1024, .bf16⟩
  | .local _ .vmem, ⟨0, _⟩ => ⟨S4352x768, .bf16⟩
  | .local _ .vmem, ⟨1, _⟩ => ⟨S4352x768, .bf16⟩
  | .local _ .vmem, ⟨2, _⟩ => ⟨S4352x1024, .bf16⟩
  | .local _ .vmem, ⟨3, _⟩ => ⟨S768x1024, .bf16⟩
  | .local _ .vmem, ⟨4, _⟩ => ⟨S768x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4352x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProductGradIdeal.lean ====
abbrev S4352x3072 : Shape := ⟨2, ![4352, 3072]⟩
abbrev S4352x1024 : Shape := ⟨2, ![4352, 1024]⟩
abbrev S3072x1024 : Shape := ⟨2, ![3072, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S3072x1024, .f32⟩
  | .hbm, ⟨3, _⟩ => ⟨S3072x1024, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnUp.lean ====
abbrev S4352x1024 : Shape := ⟨2, ![4352, 1024]⟩
abbrev S3072x1024 : Shape := ⟨2, ![3072, 1024]⟩
abbrev S4352x3072 : Shape := ⟨2, ![4352, 3072]⟩
abbrev S256x1024 : Shape := ⟨2, ![256, 1024]⟩
abbrev S256x3072 : Shape := ⟨2, ![256, 3072]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S3072x1024, .bf16⟩
  | .hbm, ⟨3, _⟩ => ⟨S4352x3072, .bf16⟩
  | .hbm, ⟨4, _⟩ => ⟨S4352x3072, .bf16⟩
  | .hbm, ⟨5, _⟩ => ⟨S4352x3072, .bf16⟩
  | .local _ .vmem, ⟨0, _⟩ => ⟨S256x1024, .bf16⟩
  | .local _ .vmem, ⟨1, _⟩ => ⟨S256x1024, .bf16⟩
  | .local _ .vmem, ⟨2, _⟩ => ⟨S3072x1024, .bf16⟩
  | .local _ .vmem, ⟨3, _⟩ => ⟨S3072x1024, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HiddenIdeal.lean ====
abbrev S4352x1024 : Shape := ⟨2, ![4352, 1024]⟩
abbrev S3072x1024 : Shape := ⟨2, ![3072, 1024]⟩
abbrev S4352x3072 : Shape := ⟨2, ![4352, 3072]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S3072x1024, .bf16⟩
  | .hbm, ⟨3, _⟩ => ⟨S4352x3072, .f32⟩
  | .hbm, ⟨4, _⟩ => ⟨S4352x3072, .f32⟩
  | .hbm, ⟨5, _⟩ => ⟨S4352x3072, .bf16⟩
  | .hbm, ⟨6, _⟩ => ⟨S4352x3072, .bf16⟩
  | .hbm, ⟨7, _⟩ => ⟨S4352x3072, .f32⟩
  | .hbm, ⟨8, _⟩ => ⟨S4352x3072, .f32⟩
  | .hbm, ⟨9, _⟩ => ⟨S_, .f32⟩
  | .hbm, ⟨10, _⟩ => ⟨S4352x3072, .f32⟩
  | .hbm, ⟨11, _⟩ => ⟨S4352x3072, .f32⟩
  | .hbm, ⟨12, _⟩ => ⟨S_, .f32⟩
  | .hbm, ⟨13, _⟩ => ⟨S4352x3072, .f32⟩
  | .hbm, ⟨14, _⟩ => ⟨S4352x3072, .f32⟩
  | .hbm, ⟨15, _⟩ => ⟨S4352x3072, .f32⟩
  | .hbm, ⟨16, _⟩ => ⟨S4352x3072, .f32⟩
  | .hbm, ⟨17, _⟩ => ⟨S4352x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnDact.lean ====
abbrev S4352x1024 : Shape := ⟨2, ![4352, 1024]⟩
abbrev S3072x1024 : Shape := ⟨2, ![3072, 1024]⟩
abbrev S4352x3072 : Shape := ⟨2, ![4352, 3072]⟩
abbrev S256x1024 : Shape := ⟨2, ![256, 1024]⟩
abbrev S256x3072 : Shape := ⟨2, ![256, 3072]⟩

abbrev nBuf : Space → Nat
  | .hbm => 6
  | .vmem => 11
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S4352x3072, .bf16⟩
  | .hbm, ⟨3, _⟩ => ⟨S4352x3072, .bf16⟩
  | .hbm, ⟨4, _⟩ => ⟨S4352x3072, .bf16⟩
  | .hbm, ⟨5, _⟩ => ⟨S4352x3072, .bf16⟩
  | .local _ .vmem, ⟨0, _⟩ => ⟨S256x1024, .bf16⟩
  | .local _ .vmem, ⟨1, _⟩ => ⟨S256x1024, .bf16⟩
  | .local _ .vmem, ⟨2, _⟩ => ⟨S3072x1024, .bf16⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | .local _ .vmem, ⟨10, _⟩ => ⟨S256x3072, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HiddenGradsIdeal.lean ====
abbrev S4352x1024 : Shape := ⟨2, ![4352, 1024]⟩
abbrev S3072x1024 : Shape := ⟨2, ![3072, 1024]⟩
abbrev S4352x3072 : Shape := ⟨2, ![4352, 3072]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S4352x3072, .bf16⟩
  | .hbm, ⟨3, _⟩ => ⟨S4352x3072, .bf16⟩
  | .hbm, ⟨4, _⟩ => ⟨S4352x3072, .f32⟩
  | .hbm, ⟨5, _⟩ => ⟨S4352x3072, .f32⟩
  | .hbm, ⟨6, _⟩ => ⟨S4352x3072, .f32⟩
  | .hbm, ⟨7, _⟩ => ⟨S4352x3072, .f32⟩
  | .hbm, ⟨8, _⟩ => ⟨S4352x3072, .f32⟩
  | .hbm, ⟨9, _⟩ => ⟨S_, .f32⟩
  | .hbm, ⟨10, _⟩ => ⟨S4352x3072, .f32⟩
  | .hbm, ⟨11, _⟩ => ⟨S4352x3072, .f32⟩
  | .hbm, ⟨12, _⟩ => ⟨S_, .f32⟩
  | .hbm, ⟨13, _⟩ => ⟨S4352x3072, .f32⟩
  | .hbm, ⟨14, _⟩ => ⟨S4352x3072, .f32⟩
  | .hbm, ⟨15, _⟩ => ⟨S4352x3072, .f32⟩
  | .hbm, ⟨16, _⟩ => ⟨S_, .f32⟩
  | .hbm, ⟨17, _⟩ => ⟨S4352x3072, .f32⟩
  | .hbm, ⟨18, _⟩ => ⟨S4352x3072, .f32⟩
  | .hbm, ⟨19, _⟩ => ⟨S4352x3072, .f32⟩
  | .hbm, ⟨20, _⟩ => ⟨S_, .f32⟩
  | .hbm, ⟨21, _⟩ => ⟨S4352x3072, .f32⟩
  | .hbm, ⟨22, _⟩ => ⟨S4352x3072, .f32⟩
  | .hbm, ⟨23, _⟩ => ⟨S4352x3072, .f32⟩
  | .hbm, ⟨24, _⟩ => ⟨S4352x3072, .f32⟩
  | .hbm, ⟨25, _⟩ => ⟨S4352x3072, .bf16⟩
  | .hbm, ⟨26, _⟩ => ⟨S4352x3072, .f32⟩
  | .hbm, ⟨27, _⟩ => ⟨S4352x3072, .f32⟩
  | .hbm, ⟨28, _⟩ => ⟨S4352x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== BackGate.lean ====
abbrev S4352x3072 : Shape := ⟨2, ![4352, 3072]⟩
abbrev S3072x1024 : Shape := ⟨2, ![3072, 1024]⟩
abbrev S4352x1024 : Shape := ⟨2, ![4352, 1024]⟩
abbrev S544x3072 : Shape := ⟨2, ![544, 3072]⟩
abbrev S544x1024 : Shape := ⟨2, ![544, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .local _ .vmem, ⟨0, _⟩ => ⟨S544x3072, .bf16⟩
  | .local _ .vmem, ⟨1, _⟩ => ⟨S544x3072, .bf16⟩
  | .local _ .vmem, ⟨2, _⟩ => ⟨S3072x1024, .bf16⟩
  | .local _ .vmem, ⟨3, _⟩ => ⟨S544x1024, .f32⟩
  | .local _ .vmem, ⟨4, _⟩ => ⟨S544x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ThroughGateIdeal.lean ====
abbrev S4352x3072 : Shape := ⟨2, ![4352, 3072]⟩
abbrev S3072x1024 : Shape := ⟨2, ![3072, 1024]⟩
abbrev S4352x1024 : Shape := ⟨2, ![4352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BackUp.lean ====
abbrev S4352x3072 : Shape := ⟨2, ![4352, 3072]⟩
abbrev S3072x1024 : Shape := ⟨2, ![3072, 1024]⟩
abbrev S4352x1024 : Shape := ⟨2, ![4352, 1024]⟩
abbrev S544x3072 : Shape := ⟨2, ![544, 3072]⟩
abbrev S544x1024 : Shape := ⟨2, ![544, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S4352x1024, .f32⟩
  | .local _ .vmem, ⟨0, _⟩ => ⟨S544x3072, .bf16⟩
  | .local _ .vmem, ⟨1, _⟩ => ⟨S544x3072, .bf16⟩
  | .local _ .vmem, ⟨2, _⟩ => ⟨S3072x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ThroughUpIdeal.lean ====
abbrev S4352x3072 : Shape := ⟨2, ![4352, 3072]⟩
abbrev S3072x1024 : Shape := ⟨2, ![3072, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S4352x1024, .f32⟩
  | .hbm, ⟨4, _⟩ => ⟨S4352x1024, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Launch.lean ====
/-
# Launching devices that write into each other from their first step

A launch lemma for programs whose kernels start remote copies without any handshake: a device may write into a peer's
buffer, and credit a peer's semaphore, before that peer has reached its own kernel. What a device needs for that — the
part of the peer's buffer that is its own to fill, and the accounting of the peer's semaphore — has therefore to be dealt
before anything runs, out of all devices' buffers AND all devices' scoped semaphores together. `θ_run_dealt` gives exactly
that: one step (`hinit`) sees the whole boundary of every device, its unscoped buffers, what it owes and its launch credit
at once, and each device then runs @main from what this step dealt it (`hrun`).

`wp_region_opened` is the entry of a kernel region from a boundary whose own semaphores have been taken out that way.
-/
module

public import Idealize.ShloMosaic.Lib.Pipeline.Kit
public import Idealize.ShloMosaic.Lib.Pipeline.Regions
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]

section Dealt

variable (pcs : P → PCfg sig Λ₀ Val) (a : (p : P) → (pcs p).Adm)
  (phinj : Function.Injective (Pipeline.cellOf (nD := nD) (τ := τ) (pin pcs a)))
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- With no pair given a level, the level facts say nothing. -/
theorem levAts_none (lv : GSem nD τ sig → Ix → Lvl) : (BI.emp : sProp 𝕄) ⊢ levAts (fun _ => ∅) lv := by
  unfold levAts
  rw [bigSep_congr (Ψ := fun _ : GSem nD τ sig => (BI.emp : sProp 𝕄)) fun g _ => BI.bigSep_empty, BI.bigSep_emp_const]

include phinj in
/-- Every device's whole launch state is dealt in one step `hinit`; each device then runs @main to its boundary, owing
    nothing, beside `Tₙ`, which is read against the final memory. -/
theorem θ_run_dealt [DecidableEq P] [Preorder Lvl] [∀ e, Nonempty (Val e)] [Infinite Name]
    [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix)
    (G : sProp 𝕄) (u₀ : U)
    (hu₀ : (ownU u₀ : sProp 𝕄)
      ⊢ |={Set.univ}=> iprop(BI.own (EP (initOf (cells (pin pcs a) phinj) (launchToks (pin pcs a) phinj))) ∗ G))
    (T₀ Tₙ : Dev nD → sProp 𝕄)
    (hinit : iprop((bigSep Finset.univ fun c : Dev nD => iprop(boundary (c.tc : Thread nD τ) ∗ unscopedBufs c (fun b => m ((c.tc : Thread nD τ).loc b))
          ∗ owes (c.tc : Thread nD τ) (O₀ c) ∅ ∗ launchCred O₀ c
          ∗ bigSep Finset.univ fun p => iprop(cellsGhost (pin pcs a) EP p c ∗ toksInit (pin pcs a) EP p c))) ∗ G)
      ⊢ |={Set.univ}=> bigSep Finset.univ T₀)
    (hrun : ∀ c, T₀ c ⊢ wp frame (wpE 𝔻 𝕍 (c.tc : Thread nD τ) none) Set.univ (main c)
      fun _ => iprop(boundary (c.tc : Thread nD τ) ∗ Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => T₀) (fun _ => fin)
      (fun _ => iprop(emp)) Set.univ ?_ (fun _ c => ?_) fun _ => ?_))
  · have hcore (c : Dev nD) :
        coreInit (Ix := Ix) (Name := Name) (U := U) (Lvl := Lvl) (owing O₀) 0 (⟨m, fun _ => 0, g⟩ : MemSt nD τ sig Val) (c.tc : Thread nD τ)
          ⊢ iprop(boundary (c.tc : Thread nD τ) ∗ unscopedBufs c (fun b => m ((c.tc : Thread nD τ).loc b))
              ∗ owes (c.tc : Thread nD τ) (O₀ c) ∅ ∗ launchCred O₀ c) :=
      (coreInit_boundary_owing O₀ m g c).trans (by
        iintro ⟨Hb, Hub, -, HL, -, -, Hcr⟩
        isplitl [Hb]; · iexact Hb
        isplitl [Hub]; · iexact Hub
        isplitl [HL] <;> iassumption)
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => boundary (c.tc : Thread nD τ))
            ∗ (bigSep Finset.univ fun c : Dev nD => unscopedBufs c fun b => m ((c.tc : Thread nD τ).loc b))
            ∗ (bigSep Finset.univ fun c : Dev nD => owes (c.tc : Thread nD τ) (O₀ c) ∅)
            ∗ (bigSep Finset.univ fun c : Dev nD => launchCred (Name := Name) (U := U) (Lvl := Lvl) (Val := Val) O₀ c) : sProp 𝕄) := by
      refine (bigSep_mono fun c _ => hcore c).trans ?_
      simp only [bigSep_sep']
      exact BI.Entails.refl _
    iintro ⟨Hcores, Hu⟩
    ihave Hc := hcores $$ Hcores
    icases Hc with ⟨Hb, Hub, HL, Hcr⟩
    imod hu₀ $$ Hu with ⟨HP, HG⟩
    imod (fund_ghost (pin pcs a) EP phinj) $$ HP with ⟨Hg, Ht⟩
    imod hinit $$ [Hb Hub HL Hcr Hg Ht HG] with HT
    · isplitr [HG]
      · simp only [bigSep_sep']
        isplitl [Hb]; · iexact Hb
        isplitl [Hub]; · iexact Hub
        isplitl [HL]; · iexact HL
        isplitl [Hcr]; · iexact Hcr
        isplitl [Hg] <;> iassumption
      · iexact HG
    imodintro
    iexists ()
    isplitl [HT]; · iexact HT
    iempintro
  · refine (hrun c).trans (wp_mono _ _ _ fun _ => ?_)
    unfold post; simp only [liftTc_tc, fin]
    iintro ⟨Hb, HT, HW⟩
    isplitl [Hb HT]
    · isplitl [HT] <;> iassumption
    iexact HW
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Dealt

section Opened

variable (pcs : P → PCfg sig Λ₀ Val) (a : (p : P) → (pcs p).Adm)
  (pdats : (p : P) → (c : Dev nD) → Dat τ Val Ix Name U Lvl (pin pcs a p) c) (ι : Ix)
  (phinj : Function.Injective (Pipeline.cellOf (nD := nD) (τ := τ) (pin pcs a))) (p : P)
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

variable {K : Type} [Fintype K] {osem : K → SemLoc sig} (hw : WinFacts₀ (pcs p).spec) (ho : OwnSemFacts (pcs p).spec osem)

/-- A device's boundary without the kernel's own semaphores. -/
def openBoundary (c : Dev nD) : sProp 𝕄 :=
  iprop(scopedBufs (c.tc : Thread nD τ) ∗ cellsSems0 (pin pcs a) p c ∗ idleSems0 (pin pcs a) phinj p ho c ∗ opIdle (c.tc : Thread nD τ))

include hw in
/-- The kernel's own semaphores taken out of the boundary. -/
theorem boundary_open (c : Dev nD) : (boundary (c.tc : Thread nD τ) : sProp 𝕄) ⊢ iprop(openBoundary pcs a phinj p ho c ∗ ownSems0 osem c) := by
  have hss := scopedSems0_split (pin pcs a) phinj p hw ho (Ix := Ix) (Val := Val) (Name := Name) (U := U) (Lvl := Lvl) c
  unfold boundary openBoundary
  rw [hss]
  iintro ⟨Hsc, ⟨⟨Hcells, Hos⟩, Hidle⟩, Hop⟩
  isplitr [Hos]
  · isplitl [Hsc]; · iexact Hsc
    isplitl [Hcells]; · iexact Hcells
    isplitl [Hidle] <;> iassumption
  · iexact Hos

include hw in
/-- A kernel region entered from a boundary whose own semaphores have been taken out: the body's invariant gives them back
    at zero with its last point, so that what follows has the whole boundary again. -/
theorem wp_region_opened [Preorder Lvl] [∀ e, Nonempty (Val e)] [Infinite Name] [EP.LandsIn (upEmb : UEmb _ 𝕄)]
    (hbody : ∀ c, BodyObligation (pdats p c) defs₀ 𝒱₀ ι Set.univ)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (X Y : Dev nD → sProp 𝕄) (c : Dev nD)
    (hwaits : (BI.emp : sProp 𝕄) ⊢ cellsWaits (pin pcs a) pdats ι p c)
    (hin : iprop(X c ∗ prefHeld (pcs p).pre c (fun _ => fullShare) (a p).1 ∗ scopedRest (pin pcs a p).spec c) ⊢ (pdats p c).Φ 0)
    (hout : (pdats p c).Φ (Fin.last (pin pcs a p).N) ⊢ iprop(Y c ∗ ownSems0 osem c ∗ scopedRest (pin pcs a p).spec c))
    {α : Type} (k : PUnit → Prog (TpuEff nD τ sig Val (Sig Λ₀ P fun p => (pcs p).Adm) .tc) α) (Q : α → sProp 𝕄) :
    iprop((iprop(boundary (c.tc : Thread nD τ) ∗ (pdats p c).arrays ((pdats p c).arrAt · (pin pcs a p).N) ∗ (pdats p c).owesAt ι (Fin.last (pin pcs a p).N) ∗ Y c)
            -∗ wp frame (wpE 𝔻 𝕍 (c.tc : Thread nD τ) none) Set.univ (k ⟨⟩) Q)
        ∗ openBoundary pcs a phinj p ho c ∗ (pdats p c).arrays ((pdats p c).arrAt · 0) ∗ prefHeld (pcs p).pre c (fun _ => fullShare) (a p).1
        ∗ (pdats p c).owesAt ι 0 ∗ X c
        ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p hw ho (Ix := Ix) (Val := Val) (Name := Name) (U := U) (Lvl := Lvl) c
  have hsb := scopedBufs_split (pin pcs a) p hw.stage_scoped hw.stage_inj hstage (nD := nD) (τ := τ) (Ix := Ix) (Val := Val) (Name := Name) (U := U) (Lvl := Lvl) c
  have hout' : iprop((pdats p c).Φ (Fin.last (pin pcs a p).N) ∗ cellsSems0 (pin pcs a) p c ∗ Dat.staging (pin pcs a p) c ∗ idleSems0 (pin pcs a) phinj p ho c)
      ⊢ iprop(Y c ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  unfold openBoundary
  iintro ⟨Hk, ⟨Hsc, Hcells, Hidle, Hop⟩, Harr, Hpf, HO, HX, Hg, Ht⟩
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imodintro
  iapply (wp_customCall_entry_frame pcs a pdats ι EP κ phinj p defs₀ 𝒱₀ (fun _ => fullShare) c Set.univ (fun _ _ => Set.mem_univ _)
      (hbody c).loose hne none (fun u h => nomatch h) (X := X c) (Y := Y c) (R := scopedRest (pin pcs a p).spec c)
      (I := idleSems0 (pin pcs a) phinj p ho c) (Entails.of_eq hsb) hin hout' (k := k) (Q := Q)) $$ [Harr HO Hinit Ht Hpf HX Hidle Hsc]
  · isplitl [Harr HO Hinit Ht]
    · unfold EntryPre PerCore.EntryPre
      isplitl [Harr]; · iexact Harr
      isplitl [HO]; · iexact HO
      isplitr [Hinit Ht]; · iapply hwaits; iempintro
      isplitl [Hinit] <;> iassumption
    isplitl [Hpf]; · iexact Hpf
    isplitl [HX]; · iexact HX
    isplitl [Hidle]; · iexact Hidle
    iexact Hsc
  iintro ⟨Hpost, HY, Hss2, Hsc2⟩
  unfold EntryPost PerCore.EntryPost
  icases Hpost with ⟨Ha, HO⟩
  ihave Hbd2 := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hop]
  · isplitl [Hsc2]; · iexact Hsc2
    isplitl [Hss2] <;> iassumption
  iapply Hk
  isplitl [Hbd2]; · iexact Hbd2
  isplitl [Ha]; · iexact Ha
  isplitl [HO] <;> iassumption

end Opened

end Cert.Exchange

end
-- ==== Proof.Exchange.lean ====
/-
# An exchange of parts between all devices

The protocol of one exchange, over any signature: every device holds `n` buffers, each of which has one part for every
device, and `n` result buffers, each with one slot for every device. A device copies its own part of each buffer into its
own slot, sends every other device the part meant for it — into the slot that device keeps for the sender — and then waits
for everything: for each of the others, for what arrived from it and for what was sent to it; then for its own copy.

For each semaphore there is one transfer and one wait:

* `send j k` on `c` — credited when the part of buffer `j` meant for `peer k c` has been read; gives that part back to `c`;
* `recv j k` on `c` — credited when the part sent by `peer k c` has landed; gives `c` the slot kept for `peer k c`, filled;
* `own j` on `c` — credited when the device's own copy is done; gives back both its part and its filled slot.

No device tells another that it is ready, so what a device needs of the others is dealt at launch: of `peer k c` the slot
kept for `c`, the token of its `recv j k` and the record that this semaphore's accounting stands at its start.
-/
module

public import proofs.«01_k».proof.Proof.Launch
public import Idealize.ShloMosaic.Lib.Pipeline.BigSepL

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

/-- What is started: buffer `j`'s own copy (`none`) or its part sent to the `k`-th peer. -/
abbrev Act (n K : Nat) := Fin n × Option (Fin K)

/-- A semaphore of the exchange: of buffer `j`, the `k`-th peer's send, the `k`-th peer's receive, or the own copy's. -/
abbrev Key (n K : Nat) := Fin n × (Fin K ⊕ Fin K ⊕ Unit)

abbrev sendKey {n K : Nat} (j : Fin n) (k : Fin K) : Key n K := (j, .inl k)
abbrev recvKey {n K : Nat} (j : Fin n) (k : Fin K) : Key n K := (j, .inr (.inl k))
abbrev ownKey {n K : Nat} (j : Fin n) : Key n K := (j, .inr (.inr ()))

/-- The buffers, parts, slots and semaphores of an exchange. -/
structure Plan (nD : Nat) (τ : Topo) (sig : RefSig) (n K : Nat) where
  /-- The `k`-th of the other devices, seen from a device. -/
  peer : Fin K → Dev nD → Dev nD
  peer_peer : ∀ k c, peer k (peer k c) = c
  /-- A device and its peers are all devices. -/
  around : Dev nD → (Option (Fin K) ≃ Dev nD)
  around_none : ∀ c, around c none = c
  around_some : ∀ c k, around c (some k) = peer k c
  routes : ∀ k c, τ.routes ((c : Dev nD).tc : Thread nD τ) ((peer k c).tc : Thread nD τ) = true
  /-- Shape and element type of buffer `j`'s parts. -/
  S : Fin n → Shape
  e : Fin n → EltTy
  /-- The part of buffer `j` meant for a device. -/
  src : (j : Fin n) → Dev nD → Memref sig .tc .hbm (S j) (e j)
  /-- The slot of result buffer `j` kept for what a device sends. -/
  dst : (j : Fin n) → Dev nD → Memref sig .tc .hbm (S j) (e j)
  srcExact : ∀ j p, (src j p).view.WordExact
  dstExact : ∀ j p, (dst j p).view.WordExact
  dstPlain : ∀ j p, (dst j p).view.ref.isScScratch = false
  sem : Key n K → DmaSem sig
  sem_inj : Function.Injective sem
  /-- What one transfer of buffer `j` credits. -/
  N : Fin n → ℕ
  N_pos : ∀ j, 0 < N j
  credit_src : ∀ j p, (src j p).view.dmaCredit = N j
  credit_dst : ∀ j p, (dst j p).view.dmaCredit = N j

variable {nD : Nat} {τ : Topo} {sig : RefSig} {n K : Nat}

namespace Plan

section Prog

variable (P : Plan nD τ sig n K) {Val : EltTy → Type} {Λ : Idealize.SL.Sem.Labels}

/-- The transfers of a list, started in order. -/
def starts (c : Dev nD) : List (Act n K) → Prog (TpuEff nD τ sig Val Λ .tc) PUnit → Prog (TpuEff nD τ sig Val Λ .tc) PUnit
  | [], rest => rest
  | (j, none) :: l, rest =>
    .op (.enqueueDma (P.src j c) (.here (P.dst j c)) (.dma (P.sem (ownKey j))) (P.srcExact j c) (P.dstExact j c) ⟨Or.inl rfl, trivial⟩)
      fun _ => starts c l rest
  | (j, some k) :: l, rest =>
    .op (.enqueueDma (P.src j (P.peer k c)) (.remote (Dev.tc (P.peer k c)) (P.dst j c) (.dma (P.sem (sendKey j k))) (P.dstPlain j c))
        (.dma (P.sem (recvKey j k))) (P.srcExact j (P.peer k c)) (P.dstExact j c) ⟨⟨rfl, Or.inl rfl⟩, trivial⟩)
      fun _ => starts c l rest

/-- The waits of a list, in order. -/
def waits (c : Dev nD) : List (Key n K) → Prog (TpuEff nD τ sig Val Λ .tc) PUnit → Prog (TpuEff nD τ sig Val Λ .tc) PUnit
  | [], rest => rest
  | (j, .inl k) :: l, rest =>
    .op (.waitDma2 (P.sem (sendKey j k)) (P.dst j (P.peer k c)) (P.src j (P.peer k c)) (P.dstExact j (P.peer k c)) (P.srcExact j (P.peer k c)))
      fun _ => waits c l rest
  | (j, .inr (.inl k)) :: l, rest =>
    .op (.waitDma2 (P.sem (recvKey j k)) (P.src j (P.peer k c)) (P.dst j (P.peer k c)) (P.srcExact j (P.peer k c)) (P.dstExact j (P.peer k c)))
      fun _ => waits c l rest
  | (j, .inr (.inr ())) :: l, rest =>
    .op (.waitDma2 (P.sem (ownKey j)) (P.src j c) (P.dst j c) (P.srcExact j c) (P.dstExact j c)) fun _ => waits c l rest

end Prog

/-- The semaphore of a key as a machine cell's name. -/
def osem (P : Plan nD τ sig n K) (x : Key n K) : SemLoc sig := .dma (P.sem x)

/-- The cell of a key on a device. -/
abbrev cell (P : Plan nD τ sig n K) (c : Dev nD) (x : Key n K) : GSem nD τ sig := ((c.tc : Thread nD τ), P.osem x)

theorem osem_inj (P : Plan nD τ sig n K) : Function.Injective P.osem := fun _ _ h => P.sem_inj (SemLoc.dma.inj h)

theorem cell_inj (P : Plan nD τ sig n K) : Function.Injective fun x : Dev nD × Key n K => P.cell x.1 x.2 := by
  rintro ⟨c, x⟩ ⟨c', x'⟩ h
  have h1 : c = c' := congrArg (fun g : GSem nD τ sig => g.1.1) h
  have h2 : x = x' := P.osem_inj (congrArg Prod.snd h)
  rw [h1, h2]

/-- The key a semaphore belongs to, if any. -/
def keyOf (P : Plan nD τ sig n K) (sm : SemLoc sig) : Option (Key n K) :=
  haveI := Classical.dec
  Function.partialInv P.osem sm

theorem keyOf_osem (P : Plan nD τ sig n K) (x : Key n K) : P.keyOf (P.osem x) = some x := Function.partialInv_left P.osem_inj x

/-- The `k`-th peer as a permutation of the devices. -/
def swap (P : Plan nD τ sig n K) (k : Fin K) : Dev nD ≃ Dev nD := ⟨P.peer k, P.peer k, P.peer_peer k, P.peer_peer k⟩

end Plan

/-! ## Contents and the schedule -/

/-- What the buffers hold: device `c`'s buffer `j` at the part for `p` (`xs j p c`), the share of that part it lends, and what
    `c`'s slot for `p` of result buffer `j` holds in the end (`landed j p c`): what `p` sent. -/
structure Contents (P : Plan nD τ sig n K) (Val : EltTy → Type) where
  q : Fin n → Dev nD → PosShare TreeShare
  xs : (j : Fin n) → (p c : Dev nD) → Buf Val ((P.src j p).view.loc (c.tc : Thread nD τ))
  landed : (j : Fin n) → (p c : Dev nD) → Buf Val ((P.dst j p).view.loc (c.tc : Thread nD τ))
  land : ∀ (j : Fin n) (p c : Dev nD) (fd : Buf Val ((P.dst j p).view.loc (c.tc : Thread nD τ))), ∀ i ∈ (P.dst j p).view.set,
    (P.dst j p).view.write Val fd ((P.src j c).view.read Val (xs j c p)) Finset.univ i = landed j p c i

section Logic

variable {Val : EltTy → Type} {U : Type} [URA U]

local notation "𝕄" => MT nD τ sig Unit Val ℕ U ℕ

variable (P : Plan nD τ sig n K) (D : Contents P Val)
  (E : Emb (URounds (GSem nD τ sig) Unit) (MT nD τ sig Unit Val ℕ U ℕ))

/-- The part of buffer `j` for `p` on `c`. -/
def srcPts (j : Fin n) (p c : Dev nD) : sProp 𝕄 :=
  (P.src j p).view.loc (c.tc : Thread nD τ) ↦[(P.src j p).view.set]{D.q j p} D.xs j p c

/-- The slot for `p` of result buffer `j` on `c`, at contents `f`. -/
def dstPts (j : Fin n) (p c : Dev nD) (f : Buf Val ((P.dst j p).view.loc (c.tc : Thread nD τ))) : sProp 𝕄 :=
  (P.dst j p).view.loc (c.tc : Thread nD τ) ↦[(P.dst j p).view.set]{fullShare} f

instance srcPts_storable (j : Fin n) (p c : Dev nD) : BI.Storable (upEmb : UEmb _ 𝕄) (srcPts (U := U) P D j p c) := by
  unfold srcPts; infer_instance
instance dstPts_storable (j : Fin n) (p c : Dev nD) (f) : BI.Storable (upEmb : UEmb _ 𝕄) (dstPts (U := U) P j p c f) := by
  unfold dstPts; infer_instance

/-- What the transfer on key `x`'s semaphore gives `c` when it is done. -/
def pay (c : Dev nD) : Key n K → sProp 𝕄
  | (j, .inl k) => srcPts P D j (P.peer k c) c
  | (j, .inr (.inl k)) => dstPts P j (P.peer k c) c (D.landed j (P.peer k c) c)
  | (j, .inr (.inr ())) => iprop(srcPts P D j c c ∗ dstPts P j c c (D.landed j c c))

instance pay_storable (c : Dev nD) (x : Key n K) : BI.Storable (upEmb : UEmb _ 𝕄) (pay (U := U) P D c x) := by
  rcases x with ⟨j, k | k | ⟨⟩⟩ <;> simp only [pay] <;> infer_instance

open Classical in
/-- One round, one duty on every semaphore of the exchange on every TensorCore. -/
def sched : Rounds.Schedule (GSem nD τ sig) Unit 𝕄 where
  duties g r := if r = 0 ∧ g.1.2 = .tc ∧ (P.keyOf g.2).isSome then {()} else ∅
  unitless _ := False
  amount g _ _ := match P.keyOf g.2 with
    | some x => P.N x.1
    | none => 1
  payload g _ _ := match P.keyOf g.2 with
    | some x => pay P D g.1.1 x
    | none => iprop(emp)
  amount_pos g _ _ _ := by
    split
    · exact P.N_pos _
    · exact Nat.one_pos

instance sched_storable (g : GSem nD τ sig) (r : ℕ) (d : Unit) : BI.Storable (upEmb : UEmb _ 𝕄) ((sched (U := U) P D).payload g r d) := by
  dsimp only [sched]
  split <;> infer_instance

theorem duties_cell (c : Dev nD) (x : Key n K) : (sched (U := U) P D).duties (P.cell c x) 0 = {()} := by
  dsimp only [sched]; exact if_pos ⟨rfl, rfl, by rw [P.keyOf_osem]; rfl⟩

theorem mem_duties (c : Dev nD) (x : Key n K) : () ∈ (sched (U := U) P D).duties (P.cell c x) 0 := by
  rw [duties_cell]; exact Finset.mem_singleton_self _

theorem duties_later (g : GSem nD τ sig) : ∀ r, 1 ≤ r → (sched (U := U) P D).duties g r = ∅ :=
  fun r hr => by dsimp only [sched]; exact if_neg fun h => by omega

theorem amount_cell (c : Dev nD) (x : Key n K) (u : Unit) : (sched (U := U) P D).amount (P.cell c x) 0 u = P.N x.1 := by
  dsimp only [sched]; rw [P.keyOf_osem]

theorem payload_cell (c : Dev nD) (x : Key n K) (u : Unit) : (sched (U := U) P D).payload (P.cell c x) 0 u = pay P D c x := by
  dsimp only [sched]; rw [P.keyOf_osem]

theorem expect_cell (c : Dev nD) (x : Key n K) : (sched (U := U) P D).expect (P.cell c x) 0 = P.N x.1 := by
  unfold Schedule.expect Schedule.amountOf; rw [duties_cell, Finset.sum_singleton, amount_cell]

theorem rest_cell (c : Dev nD) (x : Key n K) :
    bigSep ((sched (U := U) P D).duties (P.cell c x) 0 \ ∅) (fun u => (sched (U := U) P D).payload (P.cell c x) 0 u) = pay P D c x := by
  rw [Finset.sdiff_empty, duties_cell, bigSep_singleton, payload_cell]

/-! ## One device's run -/

/-- Every cell's invariant, and that every cell's accounting stands at its start. -/
def records (κ : Dev nD × Key n K → ℕ) : sProp 𝕄 :=
  iprop((bigSep Finset.univ fun x : Dev nD × Key n K => cellInv E (sched P D) (κ x) (P.cell x.1 x.2))
    ∗ bigSep Finset.univ fun x : Dev nD × Key n K => reached E (P.cell x.1 x.2) 0)

instance records_persistent (κ : Dev nD × Key n K → ℕ) : BI.Persistent (records (U := U) P D E κ) := by unfold records; infer_instance

theorem records_inv (κ : Dev nD × Key n K → ℕ) (c : Dev nD) (x : Key n K) :
    records (U := U) P D E κ ⊢ cellInv E (sched P D) (κ (c, x)) (P.cell c x) := by
  have h : (bigSep Finset.univ fun x : Dev nD × Key n K => (cellInv E (sched (U := U) P D) (κ x) (P.cell x.1 x.2) : sProp 𝕄))
      ⊢ (cellInv E (sched P D) (κ (c, x)) (P.cell c x) : sProp 𝕄) := bigSep_elim (Finset.mem_univ (c, x))
  unfold records
  iintro ⟨H, -⟩
  iapply h; iexact H

theorem records_reached (κ : Dev nD × Key n K → ℕ) (c : Dev nD) (x : Key n K) :
    records (U := U) P D E κ ⊢ (reached E (P.cell c x) 0 : sProp 𝕄) := by
  have h : (bigSep Finset.univ fun x : Dev nD × Key n K => (reached E (P.cell x.1 x.2) 0 : sProp 𝕄))
      ⊢ (reached E (P.cell c x) 0 : sProp 𝕄) := bigSep_elim (Finset.mem_univ (c, x))
  unfold records
  iintro ⟨-, H⟩
  iapply h; iexact H

/-- What `c` owes the others for a transfer it starts: the credit of the receiver's semaphore. -/
def dueOf (c : Dev nD) : Act n K → CellTallies nD τ sig Unit
  | (_, none) => 0
  | (j, some k) => tallyAt (P.cell (P.peer k c) (recvKey j k)) () (P.N j)

def due (c : Dev nD) (l : List (Act n K)) : CellTallies nD τ sig Unit := (l.map (dueOf P c)).sum

theorem due_cons (c : Dev nD) (a : Act n K) (l : List (Act n K)) : due P c (a :: l) = due P c l + dueOf P c a := by
  unfold due; rw [List.map_cons, List.sum_cons, add_comm]

/-- What `c` needs to start a transfer: the tokens of the semaphores it credits, the part it reads and the slot it fills. -/
def startRes (c : Dev nD) : Act n K → sProp 𝕄
  | (j, none) => iprop(dutyTok E (P.cell c (ownKey j)) 0 () ∗ srcPts P D j c c ∗ ∃ f, dstPts P j c c f)
  | (j, some k) => iprop((dutyTok E (P.cell c (sendKey j k)) 0 () ∗ dutyTok E (P.cell (P.peer k c) (recvKey j k)) 0 ())
      ∗ srcPts P D j (P.peer k c) c ∗ ∃ f, dstPts P j c (P.peer k c) f)

/-- The key of the semaphore that `c` itself waits on for what it started. -/
def ownSide : Act n K → Key n K
  | (j, none) => ownKey j
  | (j, some k) => sendKey j k

/-- The right to wait for the transfer of key `x`. -/
abbrev waitCred (c : Dev nD) (x : Key n K) : sProp 𝕄 := cred (tallyAt (P.cell c x) () (P.N x.1))

variable {Λ : Idealize.SL.Sem.Labels} (defs : Defs nD τ sig Val Λ) (𝒱 : Variants) (κ : Dev nD × Key n K → ℕ)

theorem wp_start_own (c : Dev nD) (j : Fin n) {Q : PUnit → sProp 𝕄} {k : PUnit → Prog (TpuEff nD τ sig Val Λ .tc) PUnit} :
    iprop(records P D E κ ∗ startRes P D E c (j, none))
      ⊢ iprop((waitCred P c (ownKey j) -∗ wp frame (wpE defs 𝒱 (c.tc : Thread nD τ) none) Set.univ (k ⟨⟩) Q)
        -∗ wp frame (wpE defs 𝒱 (c.tc : Thread nD τ) none) Set.univ
          (.op (.enqueueDma (P.src j c) (.here (P.dst j c)) (.dma (P.sem (ownKey j))) (P.srcExact j c) (P.dstExact j c) ⟨Or.inl rfl, trivial⟩) k) Q) := by
  unfold startRes srcPts dstPts
  iintro ⟨#HR, Ht, Hs, ⟨%f, Hd⟩⟩
  iapply (Rounds.wp_copy_pointsTo 𝒱 E (sched P D) (c.tc : Thread nD τ) none (κ := κ (c, ownKey j)) (sem := P.osem (ownKey j))
    (r := 0) (d := ()) (fd := f) (mem_duties P D c (ownKey j)) () (P.N j) (P.credit_dst j c) (amount_cell P D c (ownKey j) ())
    (by
      rw [payload_cell]
      simp only [pay, srcPts, dstPts]
      rw [pointsTo_congr (D.land j c c f)]
      exact sep_comm.1)) $$ [Ht Hs Hd]
  isplitr; · iapply (records_inv P D E κ c (ownKey j)); iexact HR
  isplitl [Hs]; · iexact Hs
  isplitl [Hd]; · iexact Hd
  isplitl [Ht]; · iexact Ht
  iapply (records_reached P D E κ c (ownKey j)); iexact HR

theorem wp_start_send (c : Dev nD) (j : Fin n) (k : Fin K) (O : CellTallies nD τ sig Unit) (W : Waits sig Unit) {Q : PUnit → sProp 𝕄}
    {kk : PUnit → Prog (TpuEff nD τ sig Val Λ .tc) PUnit} :
    iprop(records P D E κ ∗ startRes P D E c (j, some k) ∗ owes (c.tc : Thread nD τ) (O + dueOf P c (j, some k)) W)
      ⊢ iprop(((waitCred P c (sendKey j k) ∗ owes (c.tc : Thread nD τ) O W) -∗ wp frame (wpE defs 𝒱 (c.tc : Thread nD τ) none) Set.univ (kk ⟨⟩) Q)
        -∗ wp frame (wpE defs 𝒱 (c.tc : Thread nD τ) none) Set.univ
          (.op (.enqueueDma (P.src j (P.peer k c)) (.remote (Dev.tc (P.peer k c)) (P.dst j c) (.dma (P.sem (sendKey j k))) (P.dstPlain j c))
            (.dma (P.sem (recvKey j k))) (P.srcExact j (P.peer k c)) (P.dstExact j c) ⟨⟨rfl, Or.inl rfl⟩, trivial⟩) kk) Q) := by
  unfold startRes srcPts dstPts
  iintro ⟨#HR, ⟨⟨Ht₁, Ht₂⟩, Hs, ⟨%f, Hd⟩⟩, HO⟩
  iapply (Rounds.wp_send_pointsTo 𝒱 E (sched P D) (c.tc : Thread nD τ) none (κ₁ := κ (c, sendKey j k)) (κ₂ := κ (P.peer k c, recvKey j k))
    (sS := P.osem (sendKey j k)) (sem := P.osem (recvKey j k))
    (r₁ := 0) (r₂ := 0) (d₁ := ()) (d₂ := ()) (fd := f) (mem_duties P D c (sendKey j k)) (mem_duties P D (P.peer k c) (recvKey j k)) () () (P.N j)
    (P.credit_dst j c) (amount_cell P D c (sendKey j k) ()) (amount_cell P D (P.peer k c) (recvKey j k) ()) O rfl (W := W)
    (by rw [payload_cell]; simp only [pay, srcPts]; exact BI.Entails.refl _)
    (by
      rw [payload_cell]
      simp only [pay, dstPts]
      rw [P.peer_peer, pointsTo_congr (D.land j c (P.peer k c) f)]) (P.routes k c)) $$ [Ht₁ Ht₂ Hs Hd HO]
  isplitr; · iapply (records_inv P D E κ c (sendKey j k)); iexact HR
  isplitr; · iapply (records_inv P D E κ (P.peer k c) (recvKey j k)); iexact HR
  isplitl [Hs]; · iexact Hs
  isplitl [Hd]; · iexact Hd
  isplitl [HO]; · iexact HO
  isplitl [Ht₁]; · iexact Ht₁
  isplitr; · iapply (records_reached P D E κ c (sendKey j k)); iexact HR
  isplitl [Ht₂]; · iexact Ht₂
  iapply (records_reached P D E κ (P.peer k c) (recvKey j k)); iexact HR

/-- The transfers of a list started: each credits the receiver, and leaves `c` the right to wait for it. -/
theorem wp_starts (c : Dev nD) (W : Waits sig Unit) (Q : PUnit → sProp 𝕄) (rest : Prog (TpuEff nD τ sig Val Λ .tc) PUnit) :
    ∀ l : List (Act n K),
    iprop(records P D E κ ∗ owes (c.tc : Thread nD τ) (due P c l) W ∗ bigSepL l (startRes P D E c))
      ⊢ iprop(((owes (c.tc : Thread nD τ) (0 : CellTallies nD τ sig Unit) W ∗ bigSepL l fun a => waitCred P c (ownSide a))
          -∗ wp frame (wpE defs 𝒱 (c.tc : Thread nD τ) none) Set.univ rest Q)
        -∗ wp frame (wpE defs 𝒱 (c.tc : Thread nD τ) none) Set.univ (P.starts c l rest) Q)
  | [] => by
    simp only [bigSepL_nil, Plan.starts, due, List.map_nil, List.sum_nil]
    iintro ⟨-, HO, -⟩ Hk
    iapply Hk
    isplitl; · iexact HO
    iempintro
  | (j, none) :: l => by
    rw [bigSepL_cons', bigSepL_cons', due_cons]
    simp only [Plan.starts, dueOf, add_zero]
    iintro ⟨#HR, HO, Ha, Hl⟩ Hk
    iapply (wp_start_own P D E defs 𝒱 κ c j) $$ [Ha]
    · isplitr; · iexact HR
      iexact Ha
    iintro Hc
    iapply (wp_starts c W Q rest l) $$ [HO Hl]
    · isplitr; · iexact HR
      isplitl [HO] <;> iassumption
    iintro ⟨HO, Hl⟩
    iapply Hk
    isplitl [HO]; · iexact HO
    isplitl [Hc]; · iexact Hc
    iexact Hl
  | (j, some k) :: l => by
    rw [bigSepL_cons', bigSepL_cons', due_cons]
    simp only [Plan.starts]
    iintro ⟨#HR, HO, Ha, Hl⟩ Hk
    iapply (wp_start_send P D E defs 𝒱 κ c j k (due P c l) W) $$ [Ha HO]
    · isplitr; · iexact HR
      isplitl [Ha] <;> iassumption
    iintro ⟨Hc, HO⟩
    iapply (wp_starts c W Q rest l) $$ [HO Hl]
    · isplitr; · iexact HR
      isplitl [HO] <;> iassumption
    iintro ⟨HO, Hl⟩
    iapply Hk
    isplitl [HO]; · iexact HO
    isplitl [Hc]; · iexact Hc
    iexact Hl

/-- One wait: the whole round of the cell, whose counter is then known to be zero for good. -/
theorem wp_wait_key (c : Dev nD) (x : Key n K) (W : Waits sig Unit) {Q : PUnit → sProp 𝕄} {w : TpuEff nD τ sig Val Λ .tc PUnit}
    (hw : ∀ K : PUnit → sProp 𝕄, wpE' defs 𝒱 (c.tc : Thread nD τ) none {} Set.univ w K = waitSpec (c.tc : Thread nD τ) Set.univ (P.osem x) (P.N x.1) K)
    {kk : PUnit → Prog (TpuEff nD τ sig Val Λ .tc) PUnit} :
    iprop(records P D E κ ∗ waitCred P c x ∗ owes (c.tc : Thread nD τ) (0 : CellTallies nD τ sig Unit) W ∗ atPos E (P.cell c x) 0 ∅ 0)
      ⊢ iprop(((∃ W, owes (c.tc : Thread nD τ) (0 : CellTallies nD τ sig Unit) W) -∗ pay P D c x -∗ semVal (P.cell c x) 0
            -∗ wp frame (wpE defs 𝒱 (c.tc : Thread nD τ) none) Set.univ (kk ⟨⟩) Q)
        -∗ wp frame (wpE defs 𝒱 (c.tc : Thread nD τ) none) Set.univ (.op w kk) Q) := by
  iintro ⟨#HR, Hc, HO, Hat⟩ Hk
  iapply (Rounds.wp_wait_rest_token 𝒱 E (sched P D) (c.tc : Thread nD τ) none (κ := κ (c, x)) hw (Set.mem_univ _) () (O := 0) (W := W)
    (R := 0) (m := 0) (T := ∅) (by rw [Nat.zero_add, expect_cell])) $$ [Hc HO Hat]
  · isplitr; · iapply (records_inv P D E κ c x); iexact HR
    isplitl [Hc]; · iexact Hc
    isplitl [HO]; · iexact HO
    isplitr; · rw [MayWait_zero]; iempintro
    iexact Hat
  iintro ⟨HO, Hat, -, Hpay⟩
  ihave Hp := (Entails.of_eq (rest_cell P D c x)) $$ Hpay
  imod (Rounds.cell_close E (sched P D) (Set.mem_univ (κ (c, x))) (fun h => h) (R := 0 + 1) (duties_later P D (P.cell c x))) $$ [Hat] with Hz
  · isplitr; · iapply (records_inv P D E κ c x); iexact HR
    iexact Hat
  iapply Hk $$ [HO] [Hp] [Hz]
  · iexists _; iexact HO
  · iexact Hp
  · iexact Hz

/-- The waits of a list: what each transfer gives back, and every counter at zero. -/
theorem wp_waits (c : Dev nD) (Q : PUnit → sProp 𝕄) (rest : Prog (TpuEff nD τ sig Val Λ .tc) PUnit) :
    ∀ (l : List (Key n K)) (W : Waits sig Unit),
    iprop(records P D E κ ∗ owes (c.tc : Thread nD τ) (0 : CellTallies nD τ sig Unit) W
        ∗ bigSepL l fun x => iprop(waitCred P c x ∗ atPos E (P.cell c x) 0 ∅ 0))
      ⊢ iprop((((∃ W, owes (c.tc : Thread nD τ) (0 : CellTallies nD τ sig Unit) W) ∗ bigSepL l fun x => iprop(pay P D c x ∗ semVal (P.cell c x) 0))
          -∗ wp frame (wpE defs 𝒱 (c.tc : Thread nD τ) none) Set.univ rest Q)
        -∗ wp frame (wpE defs 𝒱 (c.tc : Thread nD τ) none) Set.univ (P.waits c l rest) Q)
  | [], W => by
    simp only [bigSepL_nil, Plan.waits]
    iintro ⟨-, HO, -⟩ Hk
    iapply Hk
    isplitl; · iexists W; iexact HO
    iempintro
  | (j, x) :: l, W => by
    have hw : ∃ (w : TpuEff nD τ sig Val Λ .tc PUnit),
        P.waits c ((j, x) :: l) rest = .op w (fun _ => P.waits c l rest)
        ∧ ∀ K : PUnit → sProp 𝕄, wpE' defs 𝒱 (c.tc : Thread nD τ) none {} Set.univ w K
            = waitSpec (c.tc : Thread nD τ) Set.univ (P.osem (j, x)) (P.N j) K := by
      rcases x with k | k | ⟨⟩
      · exact ⟨_, rfl, fun K => (wpE_waitDma2_eq 𝒱 (c.tc : Thread nD τ) none Set.univ K).trans (by rw [P.credit_src]; rfl)⟩
      · exact ⟨_, rfl, fun K => (wpE_waitDma2_eq 𝒱 (c.tc : Thread nD τ) none Set.univ K).trans (by rw [P.credit_dst]; rfl)⟩
      · exact ⟨_, rfl, fun K => (wpE_waitDma2_eq 𝒱 (c.tc : Thread nD τ) none Set.univ K).trans (by rw [P.credit_dst]; rfl)⟩
    obtain ⟨w, hrun, hw⟩ := hw
    rw [bigSepL_cons', bigSepL_cons', hrun]
    iintro ⟨#HR, HO, ⟨Hc, Hat⟩, Hl⟩ Hk
    iapply (wp_wait_key P D E defs 𝒱 κ c (j, x) W hw) $$ [Hc HO Hat]
    · isplitr; · iexact HR
      isplitl [Hc]; · iexact Hc
      isplitl [HO] <;> iassumption
    iintro ⟨%W', HO⟩ Hp Hz
    iapply (wp_waits c Q rest l W') $$ [HO Hl]
    · isplitr; · iexact HR
      isplitl [HO] <;> iassumption
    iintro ⟨HO, Hl⟩
    iapply Hk
    isplitl [HO]; · iexact HO
    isplitl [Hp Hz]; · isplitl [Hp] <;> iassumption
    iexact Hl

end Logic

end Cert.Exchange

end
-- ==== Proof.Deal.lean ====
/-
# Dealing an exchange at launch, and one device's run of it

What the launch deals (every semaphore at zero, every device's parts and slots, the launch's credit) is regrouped so that
each device holds what it needs to start its transfers: its own parts, of every other device the slot kept for it, and the
tokens of the semaphores it credits. Then one device's whole run: everything started, then everything waited for.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

section Big

variable {M : Type} [URA M] {n K : Nat}

theorem bigSep_swap {A B : Type} [Fintype A] [Fintype B] (Φ : A → B → sProp M) :
    (bigSep Finset.univ fun a => bigSep Finset.univ fun b => Φ a b) = bigSep Finset.univ fun b => bigSep Finset.univ fun a => Φ a b := by
  rw [← bigSep_univ_prod fun x : A × B => Φ x.1 x.2, ← bigSep_univ_prod fun x : B × A => Φ x.2 x.1,
    bigSep_univ_equiv (Equiv.prodComm B A) fun x : A × B => Φ x.1 x.2]
  rfl

theorem sep_swap (A B : sProp M) : iprop(A ∗ B) = iprop(B ∗ A) := equiv_iff.mp ⟨Idealize.SL.BI.sep_comm, Idealize.SL.BI.sep_comm⟩

theorem sep_assoc' (A B C : sProp M) : iprop((A ∗ B) ∗ C) = iprop(A ∗ B ∗ C) := equiv_iff.mp ⟨Idealize.SL.BI.sep_assoc, Idealize.SL.BI.sep_assoc'⟩

theorem bigSep_one (Φ : Unit → sProp M) : bigSep Finset.univ Φ = Φ () := bigSep_univ_of_subsingleton ()

theorem bigSep_option (Φ : Option (Fin K) → sProp M) :
    bigSep Finset.univ Φ = iprop(Φ none ∗ bigSep Finset.univ fun k => Φ (some k)) := by
  rw [bigSep_univ_equiv (Equiv.optionEquivSumPUnit.{0, 0} (Fin K)).symm Φ, bigSep_univ_sum, sep_swap]
  congr 1
  exact bigSep_univ_of_subsingleton PUnit.unit

theorem bigSep_act (Φ : Act n K → sProp M) :
    bigSep Finset.univ Φ = bigSep Finset.univ fun j : Fin n => iprop(Φ (j, none) ∗ bigSep Finset.univ fun k => Φ (j, some k)) := by
  rw [bigSep_univ_prod]
  exact bigSep_congr fun j _ => bigSep_option _

theorem bigSep_key (Φ : Key n K → sProp M) :
    bigSep Finset.univ Φ = bigSep Finset.univ fun j : Fin n =>
      iprop((bigSep Finset.univ fun k => Φ (sendKey j k)) ∗ (bigSep Finset.univ fun k => Φ (recvKey j k)) ∗ Φ (ownKey j)) := by
  rw [bigSep_univ_prod]
  refine bigSep_congr fun j _ => ?_
  rw [bigSep_univ_sum, bigSep_univ_sum, bigSep_one]
  rfl

theorem bigSep_with_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Big

section Deal

variable {nD : Nat} {τ : Topo} {sig : RefSig} {n K : Nat} {Val : EltTy → Type} {U : Type} [URA U]

local notation "𝕄" => MT nD τ sig Unit Val ℕ U ℕ

variable (P : Plan nD τ sig n K) (D : Contents P Val)
  (E : Emb (URounds (GSem nD τ sig) Unit) (MT nD τ sig Unit Val ℕ U ℕ))

/-- The exchange's cells, and one token for each. -/
def cellSet : Finset (GSem nD τ sig) := Finset.univ.map ⟨fun x : Dev nD × Key n K => P.cell x.1 x.2, P.cell_inj⟩
def tokSet : Finset (GSem nD τ sig × ℕ × Unit) :=
  Finset.univ.map ⟨fun x : Dev nD × Key n K => (P.cell x.1 x.2, 0, ()), fun _ _ h => P.cell_inj (congrArg Prod.fst h)⟩

theorem bigSep_cellSet (Φ : GSem nD τ sig → sProp 𝕄) :
    bigSep (cellSet P) Φ = bigSep Finset.univ fun x : Dev nD × Key n K => Φ (P.cell x.1 x.2) := by
  unfold cellSet; rw [bigSep_map]; rfl

theorem bigSep_tokSet (Φ : GSem nD τ sig × ℕ × Unit → sProp 𝕄) :
    bigSep (tokSet P) Φ = bigSep Finset.univ fun x : Dev nD × Key n K => Φ (P.cell x.1 x.2, 0, ()) := by
  unfold tokSet; rw [bigSep_map]; rfl

/-- Every cell's invariant made from its counter at zero and its accounting at the start. -/
theorem alloc [E.LandsIn (upEmb : UEmb _ 𝕄)] :
    iprop((bigSep Finset.univ fun c : Dev nD => ownSems0 (Ix := Unit) (Name := ℕ) (U := U) (Lvl := ℕ) (Val := Val) (τ := τ) P.osem c)
        ∗ BI.own (E (initOf (cellSet P) (tokSet P))))
      ⊢ |={Set.univ}=> iprop((∃ κ, records P D E κ)
          ∗ (bigSep Finset.univ fun c : Dev nD => bigSep Finset.univ fun x : Key n K => atPos E (P.cell c x) 0 ∅ 0)
          ∗ bigSep Finset.univ fun c : Dev nD => bigSep Finset.univ fun x : Key n K => dutyTok E (P.cell c x) 0 ()) := by
  have hsem : (bigSep Finset.univ fun c : Dev nD => (ownSems0 (Ix := Unit) (Name := ℕ) (U := U) (Lvl := ℕ) (Val := Val) (τ := τ) P.osem c : sProp 𝕄))
      = bigSep Finset.univ fun x : Dev nD × Key n K => semVal (P.cell x.1 x.2) 0 :=
    (bigSep_univ_prod fun x : Dev nD × Key n K => (semVal (P.cell x.1 x.2) 0 : sProp 𝕄)).symm
  have hinv : iprop((bigSep Finset.univ fun x : Dev nD × Key n K => (semVal (P.cell x.1 x.2) 0 : sProp 𝕄))
        ∗ bigSep Finset.univ fun x : Dev nD × Key n K => roundState E (sched P D) (P.cell x.1 x.2) 0)
      ⊢ (|={Set.univ}=> bigSep Finset.univ fun x : Dev nD × Key n K => iprop(∃ κ : ℕ, cellInv E (sched P D) κ (P.cell x.1 x.2)) : sProp 𝕄) := by
    rw [← bigSep_sep']
    exact (bigSep_mono fun x _ => (Rounds.body_intro E (sched P D) (P.cell x.1 x.2)).trans inv_alloc).trans (bigSep_fupd _ _)
  have hpi : (bigSep Finset.univ fun x : Dev nD × Key n K => iprop(∃ κ : ℕ, cellInv E (sched P D) κ (P.cell x.1 x.2)))
      ⊢ (iprop(∃ κ : Dev nD × Key n K → ℕ, bigSep Finset.univ fun x : Dev nD × Key n K => cellInv E (sched P D) (κ x) (P.cell x.1 x.2)) : sProp 𝕄) :=
    BI.bigSep_exists_pi Finset.univ (fun (x : Dev nD × Key n K) (κ : ℕ) => (cellInv E (sched P D) κ (P.cell x.1 x.2) : sProp 𝕄))
  rw [hsem]
  iintro ⟨Hv, HX⟩
  imod (Rounds.fund E (sched P D) (cellSet P) (tokSet P)) $$ HX with ⟨Hst, Hr, Hat, Htok⟩
  ihave Hst' := (Entails.of_eq (bigSep_cellSet P fun g => roundState E (sched P D) g 0)) $$ Hst
  ihave Hr' := (Entails.of_eq (bigSep_cellSet (Val := Val) (U := U) P fun g => reached E g 0)) $$ Hr
  ihave Hat' := (Entails.of_eq ((bigSep_cellSet (Val := Val) (U := U) P fun g => atPos E g 0 ∅ 0).trans
    (bigSep_univ_prod fun x : Dev nD × Key n K => (atPos E (P.cell x.1 x.2) 0 ∅ 0 : sProp 𝕄)))) $$ Hat
  ihave Htok' := (Entails.of_eq ((bigSep_tokSet (Val := Val) (U := U) P fun x => dutyTok E x.1 x.2.1 x.2.2).trans
    (bigSep_univ_prod fun x : Dev nD × Key n K => (dutyTok E (P.cell x.1 x.2) 0 () : sProp 𝕄)))) $$ Htok
  imod hinv $$ [Hv Hst'] with Hinv
  · isplitl [Hv] <;> iassumption
  ihave Hinv' := hpi $$ Hinv
  icases Hinv' with ⟨%κ, Hinv⟩
  imodintro
  isplitl [Hinv Hr']
  · iexists κ; unfold records
    isplitl [Hinv] <;> iassumption
  isplitl [Hat'] <;> iassumption

/-- The parts of `c`'s buffers and the slots of its result buffers. -/
def parts (c : Dev nD) : sProp 𝕄 := bigSep Finset.univ fun j : Fin n => bigSep Finset.univ fun p : Dev nD => srcPts P D j p c
def slots (c : Dev nD) : sProp 𝕄 := bigSep Finset.univ fun j : Fin n => bigSep Finset.univ fun p : Dev nD => iprop(∃ f, dstPts P j p c f)
def filled (c : Dev nD) : sProp 𝕄 := bigSep Finset.univ fun j : Fin n => bigSep Finset.univ fun p : Dev nD => dstPts P j p c (D.landed j p c)

/-- A sum over all devices, seen from one of them. -/
theorem bigSep_around (c : Dev nD) (Φ : Dev nD → sProp 𝕄) :
    bigSep Finset.univ Φ = iprop(Φ c ∗ bigSep Finset.univ fun k => Φ (P.peer k c)) := by
  rw [bigSep_univ_equiv (P.around c) Φ, bigSep_option, P.around_none]
  simp only [P.around_some]

/-- Each device gets its tokens, its parts and the slots that the others keep for it. -/
theorem deal_starts :
    iprop((bigSep Finset.univ fun c : Dev nD => bigSep Finset.univ fun x : Key n K => dutyTok E (P.cell c x) 0 ())
        ∗ (bigSep Finset.univ fun c : Dev nD => parts P D c) ∗ bigSep Finset.univ fun c : Dev nD => slots P c)
      ⊢ (bigSep Finset.univ fun c : Dev nD => bigSep Finset.univ fun a : Act n K => startRes P D E c a : sProp 𝕄) := by
  have htok : (bigSep Finset.univ fun c : Dev nD => bigSep Finset.univ fun x : Key n K => (dutyTok E (P.cell c x) 0 () : sProp 𝕄))
      = bigSep Finset.univ fun c : Dev nD => bigSep Finset.univ fun j : Fin n =>
          iprop(dutyTok E (P.cell c (ownKey j)) 0 ()
            ∗ bigSep Finset.univ fun k => iprop(dutyTok E (P.cell c (sendKey j k)) 0 () ∗ dutyTok E (P.cell (P.peer k c) (recvKey j k)) 0 ())) := by
    have hr : (bigSep Finset.univ fun c : Dev nD => bigSep Finset.univ fun j : Fin n => bigSep Finset.univ fun k =>
          (dutyTok E (P.cell c (recvKey j k)) 0 () : sProp 𝕄))
        = bigSep Finset.univ fun c : Dev nD => bigSep Finset.univ fun j : Fin n => bigSep Finset.univ fun k =>
          (dutyTok E (P.cell (P.peer k c) (recvKey j k)) 0 () : sProp 𝕄) := by
      rw [bigSep_swap]
      conv_rhs => rw [bigSep_swap]
      refine bigSep_congr fun j _ => ?_
      rw [bigSep_swap]
      conv_rhs => rw [bigSep_swap]
      exact bigSep_congr fun k _ => bigSep_univ_equiv (P.swap k) fun c : Dev nD => (dutyTok E (P.cell c (recvKey j k)) 0 () : sProp 𝕄)
    simp only [bigSep_key, bigSep_sep']
    rw [hr]
    rw [← sep_assoc', sep_swap]
  have hslot : (bigSep Finset.univ fun c : Dev nD => (slots P c : sProp 𝕄))
      = bigSep Finset.univ fun c : Dev nD => bigSep Finset.univ fun j : Fin n =>
          iprop((∃ f, dstPts P j c c f) ∗ bigSep Finset.univ fun k => iprop(∃ f, dstPts P j c (P.peer k c) f)) := by
    unfold slots
    rw [bigSep_swap]
    conv_rhs => rw [bigSep_swap]
    refine bigSep_congr fun j _ => ?_
    rw [bigSep_swap]
    exact bigSep_congr fun c _ => bigSep_around P c fun d => iprop(∃ f, dstPts P j c d f)
  have hpart : (bigSep Finset.univ fun c : Dev nD => (parts P D c : sProp 𝕄))
      = bigSep Finset.univ fun c : Dev nD => bigSep Finset.univ fun j : Fin n =>
          iprop(srcPts P D j c c ∗ bigSep Finset.univ fun k => srcPts P D j (P.peer k c) c) :=
    bigSep_congr fun c _ => bigSep_congr fun j _ => bigSep_around P c fun p => srcPts P D j p c
  rw [htok, hslot, hpart]
  simp only [bigSep_act, startRes, bigSep_sep']
  iintro ⟨⟨HT1, HT2, HT3⟩, ⟨HS1, HS2⟩, HD1, HD2⟩
  isplitl [HT1 HS1 HD1]
  · isplitl [HT1]; · iexact HT1
    isplitl [HS1] <;> iassumption
  isplitl [HT2 HT3]; · isplitl [HT2] <;> iassumption
  isplitl [HS2] <;> iassumption

/-! ## The launch's credit -/

/-- The credit of the receivers of a list of transfers. -/
def recvCred (c : Dev nD) : Act n K → sProp 𝕄
  | (_, none) => iprop(emp)
  | (j, some k) => waitCred P c (recvKey j k)

theorem launchCred_recv (c : Dev nD) (j : Fin n) (k : Fin K) :
    (launchCred (fun d => dueOf P d (j, some k)) c : sProp 𝕄) ⊢ waitCred P c (recvKey j k) := by
  have h : tallyOn (P.cell c (recvKey j k)) (launchCredit (owing fun d => dueOf P d (j, some k)) 0 (P.cell c (recvKey j k)))
      = (tallyAt (P.cell c (recvKey j k)) () (P.N j) : CellTallies nD τ sig Unit) := by
    have hone (d : Dev nD) : dueOf P d (j, some k) (P.cell c (recvKey j k)) () = if d = P.peer k c then P.N j else 0 := by
      simp only [dueOf]
      rw [tallyAt_apply]
      by_cases h : d = P.peer k c
      · subst h; rw [P.peer_peer, if_pos ⟨rfl, rfl⟩, if_pos rfl]
      · rw [if_neg h, if_neg]
        rintro ⟨h1, _⟩
        have h2 : c = P.peer k d := congrArg (fun g : GSem nD τ sig => g.1.1) h1
        exact h (by rw [h2, P.peer_peer])
    unfold tallyAt; refine congrArg _ (Finsupp.ext fun u => ?_); cases u
    rw [launchCredit_owing, Finsupp.single_eq_same, Finset.sum_congr rfl fun d _ => hone d, Finset.sum_ite_eq' Finset.univ (P.peer k c) fun _ => P.N j,
      if_pos (Finset.mem_univ _)]
  refine (launchCred_elim _ c (P.osem (recvKey j k))).trans (Entails.of_eq ?_)
  rw [h]

theorem launchCred_due (c : Dev nD) : ∀ l : List (Act n K),
    (launchCred (fun d => due P d l) c : sProp 𝕄) ⊢ bigSepL l (recvCred P c)
  | [] => by
    simp only [due, List.map_nil, List.sum_nil, bigSepL_nil]
    rw [launchCred_zero]
    exact Idealize.SL.BI.BIBase.Entails.refl
  | (j, none) :: l => by
    simp only [due_cons]
    rw [launchCred_add, bigSepL_cons', sep_swap]
    refine BIClass.sep_mono ?_ (launchCred_due c l)
    simp only [recvCred, dueOf]; rw [launchCred_zero]
  | (j, some k) :: l => by
    simp only [due_cons]
    rw [launchCred_add, bigSepL_cons', sep_swap]
    exact BIClass.sep_mono (launchCred_recv P c j k) (launchCred_due c l)

/-! ## One device -/

/-- What a device holds when it begins. -/
def ready (c : Dev nD) : sProp 𝕄 :=
  iprop((∃ κ, records P D E κ) ∗ (bigSep Finset.univ fun a : Act n K => startRes P D E c a)
    ∗ (bigSep Finset.univ fun x : Key n K => atPos E (P.cell c x) 0 ∅ 0)
    ∗ bigSep Finset.univ fun j : Fin n => bigSep Finset.univ fun k : Fin K => waitCred P c (recvKey j k))

/-- The lists name every transfer and every semaphore once. -/
structure Orders (ls : List (Act n K)) (lw : List (Key n K)) : Prop where
  start_all : Finset.univ = ls.toFinset
  start_nodup : ls.Nodup
  wait_all : Finset.univ = lw.toFinset
  wait_nodup : lw.Nodup

theorem ready_intro [E.LandsIn (upEmb : UEmb _ 𝕄)] {ls : List (Act n K)} {lw : List (Key n K)} (ho : Orders ls lw) :
    iprop((bigSep Finset.univ fun c : Dev nD => ownSems0 (Ix := Unit) (Name := ℕ) (U := U) (Lvl := ℕ) (Val := Val) (τ := τ) P.osem c)
        ∗ (bigSep Finset.univ fun c : Dev nD => parts P D c) ∗ (bigSep Finset.univ fun c : Dev nD => slots P c)
        ∗ (bigSep Finset.univ fun c : Dev nD => launchCred (fun d => due P d ls) c)
        ∗ BI.own (E (initOf (cellSet P) (tokSet P))))
      ⊢ |={Set.univ}=> bigSep Finset.univ fun c : Dev nD => ready P D E c := by
  have hcr (c : Dev nD) : (launchCred (fun d => due P d ls) c : sProp 𝕄)
      ⊢ bigSep Finset.univ fun j : Fin n => bigSep Finset.univ fun k : Fin K => waitCred P c (recvKey j k) := by
    refine (launchCred_due P c ls).trans ?_
    rw [← bigSep_univ_eq_bigSepL ls ho.start_all ho.start_nodup, bigSep_act]
    refine bigSep_mono fun j _ => ?_
    exact Entails.of_eq (emp_sep_eq _)
  iintro ⟨Hv, Hp, Hs, Hcr, HX⟩
  imod (alloc P D E) $$ [Hv HX] with ⟨⟨%κ, #HR⟩, Hat, Htok⟩
  · isplitl [Hv] <;> iassumption
  ihave Hst := (deal_starts P D E) $$ [Htok Hp Hs]
  · isplitl [Htok]; · iexact Htok
    isplitl [Hp] <;> iassumption
  have hcrs : (bigSep Finset.univ fun c : Dev nD => (launchCred (fun d => due P d ls) c : sProp 𝕄))
      ⊢ bigSep Finset.univ fun c : Dev nD => bigSep Finset.univ fun j : Fin n => bigSep Finset.univ fun k : Fin K => (waitCred P c (recvKey j k) : sProp 𝕄) :=
    bigSep_mono fun c _ => hcr c
  ihave Hc := hcrs $$ Hcr
  imodintro
  iapply (bigSep_with_persistent (R := records P D E κ)
    (Φ := fun c : Dev nD => iprop((bigSep Finset.univ fun a : Act n K => startRes P D E c a)
      ∗ (bigSep Finset.univ fun x : Key n K => atPos E (P.cell c x) 0 ∅ 0)
      ∗ bigSep Finset.univ fun j : Fin n => bigSep Finset.univ fun k : Fin K => waitCred P c (recvKey j k)))
    fun c _ => by
      unfold ready
      iintro ⟨H1, H2⟩
      isplitl [H1]; · iexists κ; iexact H1
      iexact H2)
  isplitr; · iexact HR
  simp only [bigSep_sep']
  isplitl [Hst]; · iexact Hst
  isplitl [Hat] <;> iassumption

variable {Λ : Idealize.SL.Sem.Labels} (defs : Defs nD τ sig Val Λ) (𝒱 : Variants)

/-- A device's whole run: it ends owing nothing, with its parts back, its slots filled and every semaphore at zero. -/
theorem wp_exchange {ls : List (Act n K)} {lw : List (Key n K)} (ho : Orders ls lw) (c : Dev nD) (W : Waits sig Unit) (Q : PUnit → sProp 𝕄) :
    iprop(ready P D E c ∗ owes (c.tc : Thread nD τ) (due P c ls) W)
      ⊢ iprop((((∃ W, owes (c.tc : Thread nD τ) (0 : CellTallies nD τ sig Unit) W) ∗ parts P D c ∗ filled P D c
            ∗ ownSems0 (Ix := Unit) (Name := ℕ) (U := U) (Lvl := ℕ) (Val := Val) (τ := τ) P.osem c) -∗ Q ⟨⟩)
        -∗ wp frame (wpE defs 𝒱 (c.tc : Thread nD τ) none) Set.univ (P.starts c ls (P.waits c lw (.ret ⟨⟩))) Q) := by
  have hend : (bigSep Finset.univ fun x : Key n K => iprop(pay P D c x ∗ (semVal (P.cell c x) 0 : sProp 𝕄)))
      ⊢ iprop(parts P D c ∗ filled P D c ∗ ownSems0 (Ix := Unit) (Name := ℕ) (U := U) (Lvl := ℕ) (Val := Val) (τ := τ) P.osem c) := by
    have h1 : (ownSems0 (Ix := Unit) (Name := ℕ) (U := U) (Lvl := ℕ) (Val := Val) (τ := τ) P.osem c : sProp 𝕄)
        = bigSep Finset.univ fun x : Key n K => semVal (P.cell c x) 0 := rfl
    rw [h1, bigSep_sep']
    unfold parts filled
    simp only [bigSep_around P c, bigSep_key, pay, bigSep_sep']
    iintro ⟨⟨HS, HD, HS0, HD0⟩, Hz⟩
    isplitl [HS HS0]; · isplitl [HS0] <;> iassumption
    isplitl [HD HD0]; · isplitl [HD0] <;> iassumption
    iexact Hz
  have hcred (c : Dev nD) : iprop((bigSep Finset.univ fun j : Fin n => iprop((waitCred P c (ownSide (j, none)) : sProp 𝕄)
        ∗ bigSep Finset.univ fun k : Fin K => waitCred P c (ownSide (j, some k))))
        ∗ (bigSep Finset.univ fun j : Fin n => bigSep Finset.univ fun k : Fin K => (waitCred P c (recvKey j k) : sProp 𝕄))
        ∗ bigSep Finset.univ fun x : Key n K => (atPos E (P.cell c x) 0 ∅ 0 : sProp 𝕄))
      ⊢ bigSep Finset.univ fun x : Key n K => iprop((waitCred P c x : sProp 𝕄) ∗ atPos E (P.cell c x) 0 ∅ 0) := by
    rw [bigSep_sep' (Φ := fun x : Key n K => (waitCred P c x : sProp 𝕄)), bigSep_key (fun x : Key n K => (waitCred P c x : sProp 𝕄))]
    simp only [ownSide, bigSep_sep']
    iintro ⟨⟨H1, H2⟩, H3, H4⟩
    isplitr [H4]
    · isplitl [H2]; · iexact H2
      isplitl [H3] <;> iassumption
    · iexact H4
  unfold ready
  iintro ⟨⟨⟨%κ, #HR⟩, Hst, Hat, Hcr⟩, HO⟩ Hk
  iapply (wp_starts P D E defs 𝒱 κ c W Q _ ls) $$ [HO Hst]
  · isplitr; · iexact HR
    isplitl [HO]; · iexact HO
    rw [← bigSep_univ_eq_bigSepL ls ho.start_all ho.start_nodup]; iexact Hst
  iintro ⟨HO, Hown⟩
  ihave Hown' := (Entails.of_eq ((bigSep_univ_eq_bigSepL ls ho.start_all ho.start_nodup
    (fun a : Act n K => (waitCred P c (ownSide a) : sProp 𝕄))).symm.trans (bigSep_act _))) $$ Hown
  iapply (wp_waits P D E defs 𝒱 κ c Q _ lw W) $$ [HO Hown' Hat Hcr]
  · isplitr; · iexact HR
    isplitl [HO]; · iexact HO
    rw [← bigSep_univ_eq_bigSepL lw ho.wait_all ho.wait_nodup]
    iapply (hcred c)
    isplitl [Hown']; · iexact Hown'
    isplitl [Hcr] <;> iassumption
  iintro ⟨HO, Hend⟩
  ihave Hend' := ((Entails.of_eq (bigSep_univ_eq_bigSepL lw ho.wait_all ho.wait_nodup
    (fun x : Key n K => iprop(pay P D c x ∗ (semVal (P.cell c x) 0 : sProp 𝕄)))).symm).trans hend) $$ Hend
  rw [wp_ret]
  imodintro
  iapply Hk
  isplitl [HO] <;> iassumption

end Deal

end Cert.Exchange

end
-- ==== Proof.Run.lean ====
/-
# A program that is one exchange

@main is one kernel call whose body starts every transfer of a plan and then waits for each. From the launch's
memory cut into the plan's parts and slots to the final memory read off the returned parts and the filled slots.
-/
module

public import proofs.«01_k».proof.Proof.Deal

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {n K : Nat} {Val : EltTy → Type}

/-! ## A printed body read as a plan's transfers, an operation at a time -/

section Read

variable (P : Plan nD τ sig n K) {Λ : Idealize.SL.Sem.Labels} {c : Dev nD}

theorem read_own {j : Fin n} {l : List (Act n K)} {rest : Prog (TpuEff nD τ sig Val Λ .tc) PUnit}
    {m₁ m₂ : Memref sig .tc .hbm (P.S j) (P.e j)} (h₁ : m₁ = P.src j c) (h₂ : m₂ = P.dst j c)
    {s : DmaSem sig} (hs : s = P.sem (ownKey j)) {w₁ : m₁.view.WordExact} {w₂ : m₂.view.WordExact} {g}
    {k : PUnit → Prog (TpuEff nD τ sig Val Λ .tc) PUnit} (hk : k ⟨⟩ = P.starts c l rest) :
    Prog.op (.enqueueDma m₁ (.here m₂) (.dma s) w₁ w₂ g) k = P.starts c ((j, none) :: l) rest := by
  subst h₁ h₂ hs
  exact congrArg (Prog.op _) (funext fun _ => hk)

theorem read_send {j : Fin n} {k' : Fin K} {l : List (Act n K)} {rest : Prog (TpuEff nD τ sig Val Λ .tc) PUnit}
    {d : Dev nD} (hd : d = P.peer k' c)
    {m₁ m₂ : Memref sig .tc .hbm (P.S j) (P.e j)} (h₁ : m₁ = P.src j (P.peer k' c)) (h₂ : m₂ = P.dst j c)
    {s₁ s₂ : DmaSem sig} (hs₁ : s₁ = P.sem (sendKey j k')) (hs₂ : s₂ = P.sem (recvKey j k'))
    {p} {w₁ : m₁.view.WordExact} {w₂ : m₂.view.WordExact} {g}
    {k : PUnit → Prog (TpuEff nD τ sig Val Λ .tc) PUnit} (hk : k ⟨⟩ = P.starts c l rest) :
    Prog.op (.enqueueDma m₁ (.remote (Dev.tc d) m₂ (.dma s₁) p) (.dma s₂) w₁ w₂ g) k = P.starts c ((j, some k') :: l) rest := by
  subst hd h₁ h₂ hs₁ hs₂
  exact congrArg (Prog.op _) (funext fun _ => hk)

/-- The two waits for a peer: for what it sent, then for what was sent to it. -/
theorem read_peerWaits {j : Fin n} {k' : Fin K} {l : List (Key n K)} {rest : Prog (TpuEff nD τ sig Val Λ .tc) PUnit}
    {m₁ m₂ : Memref sig .tc .hbm (P.S j) (P.e j)} (h₁ : m₁ = P.src j (P.peer k' c)) (h₂ : m₂ = P.dst j (P.peer k' c))
    {s s' : DmaSem sig} (hs : s = P.sem (recvKey j k')) (hs' : s' = P.sem (sendKey j k'))
    {w₁ w₁' : m₁.view.WordExact} {w₂ w₂' : m₂.view.WordExact}
    {k : PUnit → Prog (TpuEff nD τ sig Val Λ .tc) PUnit} (hk : k ⟨⟩ = P.waits c l rest) :
    Prog.op (.waitDma2 s m₁ m₂ w₁ w₂) (fun _ => Prog.op (.waitDma2 s' m₂ m₁ w₂' w₁') k)
      = P.waits c ((j, .inr (.inl k')) :: (j, .inl k') :: l) rest := by
  subst h₁ h₂ hs hs'
  exact congrArg (Prog.op _) (funext fun _ => congrArg (Prog.op _) (funext fun _ => hk))

theorem read_ownWait {j : Fin n} {l : List (Key n K)} {rest : Prog (TpuEff nD τ sig Val Λ .tc) PUnit}
    {m₁ m₂ : Memref sig .tc .hbm (P.S j) (P.e j)} (h₁ : m₁ = P.src j c) (h₂ : m₂ = P.dst j c)
    {s : DmaSem sig} (hs : s = P.sem (ownKey j)) {w₁ : m₁.view.WordExact} {w₂ : m₂.view.WordExact}
    {k : PUnit → Prog (TpuEff nD τ sig Val Λ .tc) PUnit} (hk : k ⟨⟩ = P.waits c l rest) :
    Prog.op (.waitDma2 s m₁ m₂ w₁ w₂) k = P.waits c ((j, .inr (.inr ())) :: l) rest := by
  subst h₁ h₂ hs
  exact congrArg (Prog.op _) (funext fun _ => hk)

end Read

/-! ## The program -/

section Whole

/-- The user algebra: the call's own accounting beside the exchange's. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (P : Plan nD τ sig n K) (D : Contents P Val)

/-- What a device holds when its exchange is over. -/
def finished (c : Dev nD) : sProp 𝕄 :=
  iprop(parts P D c ∗ filled P D c ∗ ownSems0 (Ix := Unit) (Name := ℕ) (U := UU nD τ sig) (Lvl := ℕ) (Val := Val) (τ := τ) P.osem c)

variable {Λ₀ : Idealize.SL.Sem.Labels}

/-- The call has no windows: its body owns everything it touches through the plan. -/
def dat (cfg : Cfg sig Λ₀) (hW : IsEmpty (Fin cfg.W)) (ls : List (Act n K)) (c : Dev nD) :
    Dat τ Val Unit ℕ (UU nD τ sig) ℕ cfg c where
  A w := hW.elim w
  after w := hW.elim w
  Φ t := if t.val = 0 then ready P D ER c else finished P D c
  q w := hW.elim w
  owed t := if t.val = 0 then due P c ls else 0

section Dat

variable (cfg : Cfg sig Λ₀) (hW : IsEmpty (Fin cfg.W)) (ls : List (Act n K)) (c : Dev nD) (t : Fin (cfg.N + 1))

theorem dat_Φ_first (h : t.val = 0) : (dat P D cfg hW ls c).Φ t = ready P D ER c := if_pos h
theorem dat_Φ_later (h : t.val ≠ 0) : (dat P D cfg hW ls c).Φ t = finished P D c := if_neg h
theorem dat_owed_first (h : t.val = 0) : (dat P D cfg hW ls c).owed t = due P c ls := if_pos h
theorem dat_owed_later (h : t.val ≠ 0) : (dat P D cfg hW ls c).owed t = 0 := if_neg h

end Dat

variable (pcs : Fin 1 → PCfg sig Λ₀ Val) (a : (p : Fin 1) → (pcs p).Adm)
  (phinj : Function.Injective (Pipeline.cellOf (nD := nD) (τ := τ) (pin pcs a)))
  (defs₀ : Defs nD τ sig Val Λ₀)

theorem bigSep_none {I : Type} [Fintype I] (h : IsEmpty I) (Φ : I → sProp 𝕄) : bigSep Finset.univ Φ = iprop(emp) := by
  rw [Finset.univ_eq_empty]; exact bigSep_empty

/-- The body's obligation, from the body read as the plan's transfers. -/
theorem body_obligation (cfg : Cfg sig Λ₀) (hW : IsEmpty (Fin cfg.W)) (hN : cfg.N = 1) {ls : List (Act n K)} {lw : List (Key n K)} (ho : Orders ls lw)
    (c : Dev nD)
    (hbody : ∀ t (Q : sProp 𝕄),
      wp frame (wpE defs₀ Variants.none (c.tc : Thread nD τ) none) Set.univ (.op .deviceId fun d => P.starts d ls (P.waits d lw (.ret ⟨⟩)) : Prog (TpuEff nD τ sig Val Λ₀ .tc) PUnit) (fun _ => Q)
        ⊢ wp frame (wpE defs₀ Variants.none (c.tc : Thread nD τ) none) Set.univ (defs₀ .tc cfg.body (cfg.bodyArgs t (cfg.slots t))) fun _ => Q) :
    BodyObligation (dat P D cfg hW ls c) defs₀ Variants.none () Set.univ := fun t => by
  have ht : t.castSucc.val = 0 := by have := t.isLt; simp only [Fin.val_castSucc]; omega
  have ht' : t.succ.val ≠ 0 := Nat.succ_ne_zero _
  rw [bigSep_none hW, bigSep_none hW, dat_Φ_first P D cfg hW ls c _ ht, dat_Φ_later P D cfg hW ls c _ ht']
  unfold Dat.owesAt Pipeline.owesWithin
  rw [dat_owed_first P D cfg hW ls c _ ht, dat_owed_later P D cfg hW ls c _ ht']
  iintro ⟨HR, ⟨%W, %hWs, HO⟩, -⟩
  iapply (hbody t _)
  rw [wp_deviceId]
  iapply (wp_exchange P D ER defs₀ Variants.none ho c W _) $$ [HR HO]
  · isplitl [HR] <;> iassumption
  iintro ⟨⟨%W', HO⟩, HF⟩
  unfold finished
  isplitl [HF]; · iexact HF
  isplitl [HO]
  · iexists W'
    isplitr
    · ipureintro; exact fun x _ => Or.inl trivial
    iexact HO
  · iempintro

include phinj in
/-- Every weakly fair execution of the program terminates with the parts as they were and the slots filled. -/
theorem θ_run_exchange [∀ e, Nonempty (Val e)] {ls : List (Act n K)} {lw : List (Key n K)} (ho : Orders ls lw)
    (main : Dev nD → Prog (TpuEff nD τ sig Val (Sig Λ₀ (Fin 1) fun p => (pcs p).Adm) .tc) PUnit)
    (hmain : ∀ c, main c = Prog.lift (.customCall (entry 0) ()))
    (hW : ∀ p : Fin 1, IsEmpty (Fin (pin pcs a p).W)) (hN : (pin pcs a 0).N = 1)
    (hpre : IsEmpty (Fin (pcs 0).pre.K))
    (hw : WinFacts₀ (pcs 0).spec) (how : OwnSemFacts (pcs 0).spec P.osem)
    (hbody : ∀ (c : Dev nD) t (Q : sProp 𝕄),
      wp frame (wpE defs₀ Variants.none (c.tc : Thread nD τ) none) Set.univ (.op .deviceId fun d => P.starts d ls (P.waits d lw (.ret ⟨⟩)) : Prog (TpuEff nD τ sig Val Λ₀ .tc) PUnit) (fun _ => Q)
        ⊢ wp frame (wpE defs₀ Variants.none (c.tc : Thread nD τ) none) Set.univ (defs₀ .tc (pin pcs a 0).body ((pin pcs a 0).bodyArgs t ((pin pcs a 0).slots t))) fun _ => Q)
    (hscoped : ∀ c, (scopedRest (pin pcs a 0).spec c : sProp 𝕄) = iprop(emp))
    (m : (ℓ : Loc nD τ sig) → Buf Val ℓ) (g : Dev nD → PrngReg) (R : Dev nD → sProp 𝕄)
    (hsplit : ∀ c, (unscopedBufs c (fun b => m ((c.tc : Thread nD τ).loc b)) : sProp 𝕄) ⊢ iprop(parts P D c ∗ slots P c ∗ R c))
    (QY : Dev nD → MemSt nD τ sig Val → Prop)
    (hfin : ∀ c (s' : Phys nD τ sig Val), iprop((parts P D c ∗ filled P D c ∗ R c) ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  let pd : (p : Fin 1) → (c : Dev nD) → Dat τ Val Unit ℕ (UU nD τ sig) ℕ (pin pcs a p) c := fun p c => dat P D (pin pcs a p) (hW p) ls c
  have hbodies (c : Dev nD) : BodyObligation (pd 0 c) defs₀ Variants.none () Set.univ := body_obligation P D defs₀ (pin pcs a 0) (hW 0) hN ho c (hbody c)
  refine θ_run_dealt pcs a phinj EP defs₀ Variants.none m g main (fun c => due P c ls)
    (BI.own (ER (initOf (cellSet P) (tokSet P))))
    (initOf (cells (pin pcs a) phinj) (launchToks (pin pcs a) phinj), initOf (cellSet P) (tokSet P)) ?_
    (fun c => iprop(openBoundary pcs a phinj 0 how c ∗ ready P D ER c ∗ R c ∗ owes (c.tc : Thread nD τ) (due P c ls) ∅
      ∗ cellsGhost (pin pcs a) EP 0 c ∗ toksInit (pin pcs a) EP 0 c))
    (fun c => iprop(parts P D c ∗ filled P D c ∗ R c)) ?_ ?_ QY hfin hQ
  · iintro Hu
    ihave H := (ownU_pair _ _) $$ Hu
    imodintro
    iexact H
  · have hopen (c : Dev nD) : (boundary (c.tc : Thread nD τ) : sProp 𝕄) ⊢ iprop(openBoundary pcs a phinj 0 how c ∗ ownSems0 P.osem c) :=
      boundary_open pcs a phinj 0 hw how c
    have hone (c : Dev nD) : (bigSep Finset.univ fun p : Fin 1 => iprop(cellsGhost (pin pcs a) EP p c ∗ toksInit (pin pcs a) EP p c) : sProp 𝕄)
        = iprop(cellsGhost (pin pcs a) EP 0 c ∗ toksInit (pin pcs a) EP 0 c) := bigSep_univ_of_subsingleton 0
    have hcore (c : Dev nD) : iprop(boundary (c.tc : Thread nD τ) ∗ unscopedBufs c (fun b => m ((c.tc : Thread nD τ).loc b))
          ∗ owes (c.tc : Thread nD τ) (due P c ls) ∅ ∗ launchCred (fun d => due P d ls) c
          ∗ bigSep Finset.univ fun p : Fin 1 => iprop(cellsGhost (pin pcs a) EP p c ∗ toksInit (pin pcs a) EP p c))
        ⊢ (iprop(ownSems0 P.osem c ∗ parts P D c ∗ slots P c ∗ launchCred (fun d => due P d ls) c
          ∗ openBoundary pcs a phinj 0 how c ∗ R c ∗ owes (c.tc : Thread nD τ) (due P c ls) ∅
          ∗ cellsGhost (pin pcs a) EP 0 c ∗ toksInit (pin pcs a) EP 0 c) : sProp 𝕄) := by
      rw [hone]
      iintro ⟨Hb, Hm, HO, Hcr, Hg⟩
      ihave Hb' := (hopen c) $$ Hb
      ihave Hm' := (hsplit c) $$ Hm
      icases Hb' with ⟨Hb, Hos⟩
      icases Hm' with ⟨Hp, Hs, Hr⟩
      isplitl [Hos]; · iexact Hos
      isplitl [Hp]; · iexact Hp
      isplitl [Hs]; · iexact Hs
      isplitl [Hcr]; · iexact Hcr
      isplitl [Hb]; · iexact Hb
      isplitl [Hr]; · iexact Hr
      isplitl [HO] <;> iassumption
    have hcores : (bigSep Finset.univ fun c : Dev nD => iprop(boundary (c.tc : Thread nD τ) ∗ unscopedBufs c (fun b => m ((c.tc : Thread nD τ).loc b))
          ∗ owes (c.tc : Thread nD τ) (due P c ls) ∅ ∗ launchCred (fun d => due P d ls) c
          ∗ bigSep Finset.univ fun p : Fin 1 => iprop(cellsGhost (pin pcs a) EP p c ∗ toksInit (pin pcs a) EP p c)) : sProp 𝕄)
        ⊢ bigSep Finset.univ fun c : Dev nD => iprop(ownSems0 P.osem c ∗ parts P D c ∗ slots P c ∗ launchCred (fun d => due P d ls) c
          ∗ openBoundary pcs a phinj 0 how c ∗ R c ∗ owes (c.tc : Thread nD τ) (due P c ls) ∅
          ∗ cellsGhost (pin pcs a) EP 0 c ∗ toksInit (pin pcs a) EP 0 c) := bigSep_mono fun c _ => hcore c
    simp only [bigSep_sep'] at hcores ⊢
    iintro ⟨Hc, HX⟩
    ihave Hc' := hcores $$ Hc
    icases Hc' with ⟨Hos, Hp, Hs, Hcr, Hrest⟩
    imod (ready_intro P D ER ho) $$ [Hos Hp Hs Hcr HX] with Hr
    · isplitl [Hos]; · iexact Hos
      isplitl [Hp]; · iexact Hp
      isplitl [Hs]; · iexact Hs
      isplitl [Hcr] <;> iassumption
    imodintro
    icases Hrest with ⟨Hb, Hrest⟩
    isplitl [Hb]; · iexact Hb
    isplitl [Hr] <;> iassumption
  · intro c
    have hempty (Φ : Fin (pin pcs a 0).W → sProp 𝕄) : bigSep Finset.univ Φ = iprop(emp) := bigSep_none (hW 0) Φ
    have hwaits : (BI.emp : sProp 𝕄) ⊢ cellsWaits (pin pcs a) pd () 0 c :=
      cellsWaits_intro (R := iprop(emp)) (pin pcs a) pd () 0 c fun w => (hW 0).elim w
    have hin : iprop(ready P D ER c ∗ prefHeld (pcs 0).pre c (fun _ => fullShare) (a 0).1 ∗ scopedRest (pin pcs a 0).spec c) ⊢ (pd 0 c).Φ 0 := by
      have e₀ : (pd 0 c).Φ 0 = ready P D ER c := dat_Φ_first P D (pin pcs a 0) (hW 0) ls c 0 rfl
      rw [e₀]
      iintro ⟨H, -⟩; iexact H
    have hlast : (Fin.last (pin pcs a 0).N).val ≠ 0 := by rw [Fin.val_last, hN]; decide
    have hout : (pd 0 c).Φ (Fin.last (pin pcs a 0).N)
        ⊢ iprop(iprop(parts P D c ∗ filled P D c) ∗ ownSems0 P.osem c ∗ scopedRest (pin pcs a 0).spec c) := by
      have e₁ : (pd 0 c).Φ (Fin.last (pin pcs a 0).N) = finished P D c := dat_Φ_later P D (pin pcs a 0) (hW 0) ls c _ hlast
      rw [e₁, hscoped]
      unfold finished
      iintro ⟨H1, H2, H3⟩
      isplitl [H1 H2]; · isplitl [H1] <;> iassumption
      isplitl [H3]; · iexact H3
      iempintro
    have o₀ : (pd 0 c).owed 0 = due P c ls := dat_owed_first P D (pin pcs a 0) (hW 0) ls c 0 rfl
    have o₁ : (pd 0 c).owed (Fin.last (pin pcs a 0).N) = 0 := dat_owed_later P D (pin pcs a 0) (hW 0) ls c _ hlast
    rw [hmain c]
    iintro ⟨Hb, Hr, HR, HO, Hg, Ht⟩
    have key := (wp_region_opened pcs a pd () phinj 0 EP defs₀ Variants.none hw how (fun c => hbodies c) (fun w => (hW 0).elim w) (fun w => (hW 0).elim w)
      (fun c => ready P D ER c) (fun c => iprop(parts P D c ∗ filled P D c)) c hwaits hin hout (.ret : PUnit → Prog (TpuEff nD τ sig Val (Sig Λ₀ (Fin 1) fun p => (pcs p).Adm) .tc) PUnit)
      (fun _ => iprop(boundary (c.tc : Thread nD τ) ∗ (parts P D c ∗ filled P D c ∗ R c) ∗ ∃ W, owes (c.tc : Thread nD τ) (0 : CellTallies nD τ sig Unit) W)))
    iapply key
    unfold Dat.owesAt Pipeline.owesWithin Dat.arrays prefHeld
    rw [o₀, o₁, hempty, hempty, bigSep_none hpre]
    isplitl [HR]
    · iintro ⟨Hb, -, ⟨%W, %hWs, HO⟩, Hp, Hf⟩
      rw [wp_ret]
      imodintro
      isplitl [Hb]; · iexact Hb
      isplitr [HO]
      · isplitl [Hp]; · iexact Hp
        isplitl [Hf] <;> iassumption
      · iexists W; iexact HO
    isplitl [Hb]; · iexact Hb
    isplitr; · iempintro
    isplitr; · iempintro
    isplitl [HO]
    · iexists ∅
      isplitr
      · ipureintro; exact fun x hx => absurd hx (Finset.notMem_empty x)
      iexact HO
    isplitl [Hr]; · iexact Hr
    isplitl [Hg] <;> iassumption

end Whole

end Cert.Exchange

end
-- ==== Proof.Settle.lean ====
/-
# What an exchange leaves in memory

Contents read off the launch's memory: every part holds what it held at launch, every slot ends with a copy of its sender's
part. So a run of the exchange ends in a memory in which every part is unchanged and every slot reads as the sender's part did.
-/
module

public import proofs.«01_k».proof.Proof.Run

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {n K : Nat} {Val : EltTy → Type}

/-- The contents of an exchange started in memory `m`, each part lent at the share `q` gives it. -/
def contents (P : Plan nD τ sig n K) (q : Fin n → Dev nD → PosShare TreeShare) (m : (ℓ : Loc nD τ sig) → Buf Val ℓ) : Contents P Val where
  q := q
  xs j p c := m ((P.src j p).view.loc (c.tc : Thread nD τ))
  landed j p c := (P.dst j p).view.write Val (m ((P.dst j p).view.loc (c.tc : Thread nD τ)))
    ((P.src j c).view.read Val (m ((P.src j c).view.loc (p.tc : Thread nD τ)))) Finset.univ
  land j p c fd i hi := by
    obtain ⟨x, -, rfl⟩ := Finset.mem_map.mp hi
    rw [View.write_emb_of_mem _ _ (Finset.mem_univ x), View.write_emb_of_mem _ _ (Finset.mem_univ x)]

/-- What device `c` finds in `mem` after an exchange started in `m`: its parts as they were, and in the slot for each device
    what that device's part for `c` held. -/
def Settled (P : Plan nD τ sig n K) (m mem : (ℓ : Loc nD τ sig) → Buf Val ℓ) (c : Dev nD) : Prop :=
  ∀ (j : Fin n) (p : Dev nD),
    (∀ i ∈ (P.src j p).view.set, mem ((P.src j p).view.loc (c.tc : Thread nD τ)) i = m ((P.src j p).view.loc (c.tc : Thread nD τ)) i)
    ∧ (P.dst j p).view.read Val (mem ((P.dst j p).view.loc (c.tc : Thread nD τ)))
      = (P.src j c).view.read Val (m ((P.src j c).view.loc (p.tc : Thread nD τ)))

section Logic

variable {U : Type} [URA U]

local notation "𝕄" => MT nD τ sig Unit Val ℕ U ℕ

/-- A fact each summand gives beside `X` holds for all of them. -/
theorem pure_of_bigSep {I : Type} [Fintype I] {Φ : I → sProp 𝕄} {X : sProp 𝕄} {φ : I → Prop}
    (h : ∀ i, iprop(Φ i ∗ X) ⊢ (⌜φ i⌝ : sProp 𝕄)) : iprop(bigSep Finset.univ Φ ∗ X) ⊢ (⌜∀ i, φ i⌝ : sProp 𝕄) := by
  classical
  have one (i : I) : iprop(bigSep Finset.univ Φ ∗ X) ⊢ (⌜φ i⌝ : sProp 𝕄) :=
    (Laws.sep_mono_left ((Entails.of_eq (bigSep_erase (Finset.mem_univ i))).trans Laws.sep_elim_left)).trans (h i)
  exact (Laws.forall_intro one).trans Laws.pure_forall.2

variable (P : Plan nD τ sig n K) (q : Fin n → Dev nD → PosShare TreeShare) (m : (ℓ : Loc nD τ sig) → Buf Val ℓ)

/-- The parts and the filled slots of a device pin its memory. -/
theorem settled (c : Dev nD) (R : sProp 𝕄) (s' : Phys nD τ sig Val) :
    iprop((parts P (contents P q m) c ∗ filled P (contents P q m) c ∗ R) ∗ SI s') ⊢ (⌜Settled P m s'.mem.mem c⌝ : sProp 𝕄) := by
  have hparts : iprop(parts P (contents P q m) c ∗ SI s')
      ⊢ (⌜∀ (j : Fin n) (p : Dev nD), ∀ i ∈ (P.src j p).view.set,
        s'.mem.mem ((P.src j p).view.loc (c.tc : Thread nD τ)) i = m ((P.src j p).view.loc (c.tc : Thread nD τ)) i⌝ : sProp 𝕄) :=
    pure_of_bigSep fun j => pure_of_bigSep fun p => Laws.sep_comm.1.trans SI_pointsTo_agree
  have hfilled : iprop(filled P (contents P q m) c ∗ SI s')
      ⊢ (⌜∀ (j : Fin n) (p : Dev nD), ∀ i ∈ (P.dst j p).view.set,
        s'.mem.mem ((P.dst j p).view.loc (c.tc : Thread nD τ)) i = (contents P q m).landed j p c i⌝ : sProp 𝕄) :=
    pure_of_bigSep fun j => pure_of_bigSep fun p => Laws.sep_comm.1.trans SI_pointsTo_agree
  iintro ⟨⟨Hp, Hf, -⟩, HS⟩
  ihave H := (persistent_entails_right hparts) $$ [Hp HS]
  · isplitl [Hp] <;> iassumption
  icases H with ⟨%h₁, -, HS⟩
  ihave H := hfilled $$ [Hf HS]
  · isplitl [Hf] <;> iassumption
  icases H with %h₂
  ipureintro
  refine fun j p => ⟨h₁ j p, ?_⟩
  have hread : (P.dst j p).view.read Val ((contents P q m).landed j p c)
      = (P.src j c).view.read Val (m ((P.src j c).view.loc (p.tc : Thread nD τ))) := View.read_write_univ _ _
  rw [← hread]
  funext x
  rw [View.read_apply, View.read_apply, h₂ j p _ ((P.dst j p).view.emb_mem_set x)]

/-- A buffer cut into the sets of a covering disjoint family, at contents that need only agree piecewise in type. -/
theorem cut {ℓ : Loc nD τ sig} {D : Type} [Fintype D] (I : D → Finset (Idx ℓ)) (hd : ∀ p p', p ≠ p' → Disjoint (I p) (I p'))
    (hc : ∀ i, ∃ p, i ∈ I p) (sh : PosShare TreeShare) (f : Buf Val ℓ) :
    (ℓ ↦{sh} f : sProp 𝕄) = bigSep Finset.univ fun p => ℓ ↦[I p]{sh} f := by
  classical
  have hu : Finset.univ.biUnion I = Finset.univ := by
    ext i
    simpa using hc i
  rw [← pointsTo_biUnion Finset.univ I (fun b _ b' _ h => hd b b' h), hu]

end Logic

section Run

local notation "𝕄" => MT nD τ sig Unit Val ℕ (UU nD τ sig) ℕ

variable {Λ₀ : Idealize.SL.Sem.Labels}
variable (P : Plan nD τ sig n K) (q : Fin n → Dev nD → PosShare TreeShare)
  (pcs : Fin 1 → PCfg sig Λ₀ Val) (a : (p : Fin 1) → (pcs p).Adm)
  (phinj : Function.Injective (Pipeline.cellOf (nD := nD) (τ := τ) (pin pcs a)))
  (defs₀ : Defs nD τ sig Val Λ₀)

include phinj in
/-- Every weakly fair execution of a program that is one exchange terminates, settled on every device. -/
theorem θ_run_settled [∀ e, Nonempty (Val e)] {ls : List (Act n K)} {lw : List (Key n K)} (ho : Orders ls lw)
    (main : Dev nD → Prog (TpuEff nD τ sig Val (Sig Λ₀ (Fin 1) fun p => (pcs p).Adm) .tc) PUnit)
    (hmain : ∀ c, main c = Prog.lift (.customCall (entry 0) ()))
    (hW : ∀ p : Fin 1, IsEmpty (Fin (pin pcs a p).W)) (hN : (pin pcs a 0).N = 1)
    (hpre : IsEmpty (Fin (pcs 0).pre.K))
    (hw : WinFacts₀ (pcs 0).spec) (how : OwnSemFacts (pcs 0).spec P.osem)
    (hbody : ∀ (c : Dev nD) t (Q : sProp 𝕄),
      wp frame (wpE defs₀ Variants.none (c.tc : Thread nD τ) none) Set.univ (.op .deviceId fun d => P.starts d ls (P.waits d lw (.ret ⟨⟩)) : Prog (TpuEff nD τ sig Val Λ₀ .tc) PUnit) (fun _ => Q)
        ⊢ wp frame (wpE defs₀ Variants.none (c.tc : Thread nD τ) none) Set.univ (defs₀ .tc (pin pcs a 0).body ((pin pcs a 0).bodyArgs t ((pin pcs a 0).slots t))) fun _ => Q)
    (hscoped : ∀ c, (scopedRest (pin pcs a 0).spec c : sProp 𝕄) = iprop(emp))
    (m : (ℓ : Loc nD τ sig) → Buf Val ℓ) (g : Dev nD → PrngReg)
    (hsplit : ∀ c, (unscopedBufs c (fun b => m ((c.tc : Thread nD τ).loc b)) : sProp 𝕄) ⊢ iprop(parts P (contents P q m) c ∗ slots P c))
    {Q : PUnit × MemSt nD τ sig Val → Prop} (hQ : ∀ s : MemSt nD τ sig Val, (∀ c : Dev nD, Settled P m s.mem c) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  refine θ_run_exchange P (contents P q m) pcs a phinj defs₀ ho main hmain hW hN hpre hw how hbody hscoped m g (fun _ => iprop(emp)) ?_
    (fun c s => Settled P m s.mem c) ?_ hQ
  · intro c
    have h := hsplit c
    iintro H
    ihave H' := h $$ H
    icases H' with ⟨Hp, Hs⟩
    isplitl [Hp]; · iexact Hp
    isplitl [Hs]; · iexact Hs
    iempintro
  · intro c s'
    have h := persistent_entails_right (settled P q m c (iprop(emp) : sProp 𝕄) s')
    iintro H
    ihave H' := h $$ H
    icases H' with ⟨%hs, -, HS⟩
    imodintro
    isplitr
    · ipureintro; exact hs
    iexact HS

end Run

end Cert.Exchange

end
-- ==== Proof.Peers.lean ====
/-
# The other devices of a group of eight

The `k`-th of a device's peers is the device whose number differs from its own in the bits of `k + 1`; a device and its seven
peers are all eight. The order in which an exchange among them starts its transfers and waits for them, and its semaphores.
-/
module

public import proofs.«01_k».proof.Proof.Settle

@[expose] public section

noncomputable section

namespace Cert.Exchange

open Idealize.ShloMosaic

set_option Elab.async false

/-- The device whose number differs from `c`'s in the bits of `k + 1`. -/
def peer (k : Fin 7) (c : Dev 8) : Dev 8 := ⟨(c.val ^^^ (k.val + 1)) % 8, Nat.mod_lt _ (by decide)⟩

theorem peer_peer : ∀ (k : Fin 7) (c : Dev 8), peer k (peer k c) = c := by decide +kernel

/-- Where a device stands among another's peers, itself first. -/
def place (c d : Dev 8) : Option (Fin 7) :=
  if h : (c.val ^^^ d.val) % 8 = 0 then none
  else some ⟨(c.val ^^^ d.val) % 8 - 1, by have := Nat.mod_lt (c.val ^^^ d.val) (show 8 > 0 by decide); omega⟩

/-- A device and its peers are all devices. -/
def around (c : Dev 8) : Option (Fin 7) ≃ Dev 8 where
  toFun | none => c | some k => peer k c
  invFun d := place c d
  left_inv := by revert c; decide +kernel
  right_inv := by revert c; decide +kernel

/-- A cover by sets that each index belongs to for one device. -/
theorem disjoint_of_key {α : Type} [DecidableEq α] {I : Dev 8 → Finset α} (key : α → Nat) (h : ∀ p i, i ∈ I p → key i = p.val) :
    ∀ p p', p ≠ p' → Disjoint (I p) (I p') := fun p p' hne => Finset.disjoint_left.2 fun i hi hi' =>
  hne (Fin.ext ((h p i hi).symm.trans (h p' i hi')))

/-- A slice of the same sizes at an equal offset. -/
theorem slice_at {sig : RefSig} {κ : Kind} {sp : Space} {s : Shape} {e : EltTy} (M : Memref sig κ sp s e) {size off off' : Fin s.rank → Nat}
    (h : off = off') (inb : ∀ a, off a + size a ≤ s.size a) (inb' : ∀ a, off' a + size a ≤ s.size a)
    (hs : ∀ a, (Rect.unit (s := s) off size inb).stride a = 1) (hs' : ∀ a, (Rect.unit (s := s) off' size inb').stride a = 1) :
    M.slice (Rect.unit (s := s) off size inb) hs = M.slice (Rect.unit (s := s) off' size inb') hs' := by
  subst h; rfl

/-- Buffer `j`'s transfers in the order they are started: its own copy, then its seven sends. -/
abbrev startsOf {n : ℕ} (j : Fin n) (l : List (Act n 7)) : List (Act n 7) :=
  (j, none) :: (j, some 0) :: (j, some 1) :: (j, some 2) :: (j, some 3) :: (j, some 4) :: (j, some 5) :: (j, some 6) :: l

/-- Buffer `j`'s waits in order: per peer the receive and the send, then the own copy. -/
abbrev waitsOf {n : ℕ} (j : Fin n) (l : List (Key n 7)) : List (Key n 7) :=
  recvKey j 0 :: sendKey j 0 :: recvKey j 1 :: sendKey j 1 :: recvKey j 2 :: sendKey j 2 :: recvKey j 3 :: sendKey j 3
    :: recvKey j 4 :: sendKey j 4 :: recvKey j 5 :: sendKey j 5 :: recvKey j 6 :: sendKey j 6 :: ownKey j :: l

/-! The transfers and the waits of an exchange of one, two or three buffers. -/

def starts1 : List (Act 1 7) := startsOf 0 []
def starts2 : List (Act 2 7) := startsOf 0 (startsOf 1 [])
def starts3 : List (Act 3 7) := startsOf 0 (startsOf 1 (startsOf 2 []))
def waits1 : List (Key 1 7) := waitsOf 0 []
def waits2 : List (Key 2 7) := waitsOf 0 (waitsOf 1 [])
def waits3 : List (Key 3 7) := waitsOf 0 (waitsOf 1 (waitsOf 2 []))

theorem orders1 : Orders starts1 waits1 := ⟨by decide +kernel, by decide +kernel, by decide +kernel, by decide +kernel⟩
theorem orders2 : Orders starts2 waits2 := ⟨by decide +kernel, by decide +kernel, by decide +kernel, by decide +kernel⟩
theorem orders3 : Orders starts3 waits3 := ⟨by decide +kernel, by decide +kernel, by decide +kernel, by decide +kernel⟩

/-- The numbers of the semaphores: one array of sends, one of receives, one of own copies. -/
def semNo {n : ℕ} : Key n 7 → ℕ
  | (j, .inl k) => 7 * j.val + k.val
  | (j, .inr (.inl k)) => 7 * n + (7 * j.val + k.val)
  | (j, .inr (.inr ())) => 14 * n + j.val

theorem semNo_lt {n : ℕ} : ∀ x : Key n 7, semNo x < 15 * n
  | (j, .inl k) => by show 7 * j.val + k.val < 15 * n; omega
  | (j, .inr (.inl k)) => by show 7 * n + (7 * j.val + k.val) < 15 * n; omega
  | (j, .inr (.inr ())) => by show 14 * n + j.val < 15 * n; omega

theorem semNo_inj {n : ℕ} : Function.Injective (semNo (n := n)) := by
  rintro ⟨j, k | k | ⟨⟩⟩ ⟨j', k' | k' | ⟨⟩⟩ h <;> simp only [semNo] at h <;>
    first
      | (exfalso; omega)
      | (have h1 : j = j' := by ext; omega
         subst h1
         first
           | rfl
           | (have h2 : k = k' := by ext; omega
              rw [h2]))

end Cert.Exchange

end
-- ==== Proof.ScatterFfn.lean ====
/-
# The scatter of three gradients as an exchange

The kernel's buffers and semaphores as a plan among eight devices, and its printed body read as that plan's transfers and waits.
Buffer 0 is the third argument, buffers 1 and 2 are the first and the second: rows `384 p` to `384 p + 383` of each are meant
for device `p`, whose slot of the result is its `p`-th.
-/
module

public import proofs.«01_k».proof.Proof.Peers
public import proofs.«01_k».proof.Proof.Gen.KernelIdeal.Launch

@[expose] public section

noncomputable section

namespace Cert.KernelIdeal.Scatter

open Idealize.ShloMosaic
open Idealize.ShloMosaic.TcCoe
open Idealize.SL.Sem
open Cert.Exchange Cert.KernelIdeal.Gen

set_option Elab.async false

variable {F : FTy → Type} [FloatOps F]

/-- The arguments, in the order the exchange takes them. -/
def arr : Fin 3 → Memref sig .tc .hbm S3072x1024 .bf16
  | 0 => Memref.whole main_arg2
  | 1 => Memref.whole main_arg0
  | 2 => Memref.whole main_arg1

/-- The results, in that order. -/
def out : Fin 3 → Memref sig .tc .hbm S8x384x1024 .bf16
  | 0 => Memref.whole main_v1_0
  | 1 => Memref.whole main_v1_1
  | 2 => Memref.whole main_v1_2

theorem arr_whole (j : Fin 3) : (arr j).IsWhole := by
  match j with
  | 0 | 1 | 2 => exact Memref.isWhole_whole _

theorem out_whole (j : Fin 3) : (out j).IsWhole := by
  match j with
  | 0 | 1 | 2 => exact Memref.isWhole_whole _

theorem row_inb : ∀ (p : Dev 8) (a), (![384 * p.val, 0] : Fin 2 → Nat) a + S384x1024.size a ≤ S3072x1024.size a := by decide +kernel
theorem slot_inb : ∀ (p : Dev 8) (a), (![p.val, 0, 0] : Fin 3 → Nat) a + S1x384x1024.size a ≤ S8x384x1024.size a := by decide +kernel
theorem row_words : ∀ p : Dev 8, (Rect.unit (s := S3072x1024) ![384 * p.val, 0] S384x1024.size (row_inb p)).WholeWords (EltTy.packing .bf16) := by
  decide +kernel
theorem slot_words : ∀ p : Dev 8, (Rect.unit (s := S8x384x1024) ![p.val, 0, 0] S1x384x1024.size (slot_inb p)).WholeWords (EltTy.packing .bf16) := by
  decide +kernel

/-- The rows of argument `j` meant for device `p`. -/
def part (j : Fin 3) (p : Dev 8) : Memref sig .tc .hbm S384x1024 .bf16 :=
  (arr j).slice (Rect.unit (s := S3072x1024) ![384 * p.val, 0] S384x1024.size (row_inb p)) (fun _ => rfl)

/-- Result `j`'s slot for what device `p` sends. -/
def slot (j : Fin 3) (p : Dev 8) : Memref sig .tc .hbm S384x1024 .bf16 :=
  ((out j).slice (Rect.unit (s := S8x384x1024) ![p.val, 0, 0] S1x384x1024.size (slot_inb p)) (fun _ => rfl)).squeeze S384x1024
    squeezes_S1x384x1024_S384x1024

/-- The exchange. -/
def plan : Plan nD τ sig 3 7 where
  peer := peer
  peer_peer := peer_peer
  around := around
  around_none _ := rfl
  around_some _ _ := rfl
  routes := by decide +kernel
  S _ := S384x1024
  e _ := .bf16
  src := part
  dst := slot
  srcExact j p := (arr_whole j).wordExact_slice rfl _ (row_words p)
  dstExact j p := ((out_whole j).wordExact_slice rfl _ (slot_words p)).reshape _ _
  dstPlain j p := by
    match j with
    | 0 | 1 | 2 => rfl
  sem x := ⟨semNo x, semNo_lt x⟩
  sem_inj _ _ h := semNo_inj (congrArg Fin.val h)
  N _ := (part 0 0).view.dmaCredit
  N_pos _ := View.dmaCredit_pos _ (by decide)
  credit_src j p := by
    match j with
    | 0 | 1 | 2 => rfl
  credit_dst j p := by
    match j with
    | 0 | 1 | 2 => rfl

/-! ## The printed offsets -/

theorem own_row (c : Dev nD) : k0_off2 c = ![384 * c.val, 0] := by revert c; decide +kernel
theorem own_slot (c : Dev nD) : k0_off1 c = ![c.val, 0, 0] := by revert c; decide +kernel
theorem peer_row : ∀ (c : Dev nD) (k : Fin 7),
    k0_off3 c (k0_off3_at k).1 (k0_off3_at k).2.1 (k0_off3_at k).2.2 = ![384 * (peer k c).val, 0] := by decide +kernel
theorem peer_slot : ∀ (c : Dev nD) (k : Fin 7),
    k0_off4 c (k0_off4_at k).1 (k0_off4_at k).2.1 (k0_off4_at k).2.2 = ![(peer k c).val, 0, 0] := by decide +kernel

/-! ## The printed body is the plan's -/

theorem part_own (j : Fin 3) (c : Dev nD) (inb) (hs) :
    (arr j).slice (Rect.unit (s := S3072x1024) (k0_off2 c) S384x1024.size inb) hs = plan.src j c :=
  slice_at (arr j) (own_row c) _ _ _ (fun _ => rfl)

theorem slot_own (j : Fin 3) (c : Dev nD) (inb) (hs) :
    ((out j).slice (Rect.unit (s := S8x384x1024) (k0_off1 c) S1x384x1024.size inb) hs).squeeze S384x1024 squeezes_S1x384x1024_S384x1024
      = plan.dst j c :=
  congrArg (fun M : Memref sig .tc .hbm S1x384x1024 .bf16 => M.squeeze S384x1024 squeezes_S1x384x1024_S384x1024)
    (slice_at (out j) (own_slot c) _ _ _ (fun _ => rfl))

theorem part_peer (j : Fin 3) (k : Fin 7) (c : Dev nD) (inb) (hs) :
    (arr j).slice (Rect.unit (s := S3072x1024) (k0_off3 c (k0_off3_at k).1 (k0_off3_at k).2.1 (k0_off3_at k).2.2) S384x1024.size inb) hs
      = plan.src j (plan.peer k c) :=
  slice_at (arr j) (peer_row c k) _ _ _ (fun _ => rfl)

theorem slot_peer (j : Fin 3) (k : Fin 7) (c : Dev nD) (inb) (hs) :
    ((out j).slice (Rect.unit (s := S8x384x1024) (k0_off4 c (k0_off4_at k).1 (k0_off4_at k).2.1 (k0_off4_at k).2.2) S1x384x1024.size inb)
        hs).squeeze S384x1024 squeezes_S1x384x1024_S384x1024
      = plan.dst j (plan.peer k c) :=
  congrArg (fun M : Memref sig .tc .hbm S1x384x1024 .bf16 => M.squeeze S384x1024 squeezes_S1x384x1024_S384x1024)
    (slice_at (out j) (peer_slot c k) _ _ _ (fun _ => rfl))

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel
theorem dev8 : ∀ c h, (⟨k0_dev8 c, h⟩ : Dev nD) = plan.peer 0 c := by decide +kernel
theorem dev9 : ∀ c h, (⟨k0_dev9 c, h⟩ : Dev nD) = plan.peer 1 c := by decide +kernel
theorem dev10 : ∀ c h, (⟨k0_dev10 c, h⟩ : Dev nD) = plan.peer 2 c := by decide +kernel
theorem dev11 : ∀ c h, (⟨k0_dev11 c, h⟩ : Dev nD) = plan.peer 3 c := by decide +kernel
theorem dev12 : ∀ c h, (⟨k0_dev12 c, h⟩ : Dev nD) = plan.peer 4 c := by decide +kernel
theorem dev13 : ∀ c h, (⟨k0_dev13 c, h⟩ : Dev nD) = plan.peer 5 c := by decide +kernel
theorem dev14 : ∀ c h, (⟨k0_dev14 c, h⟩ : Dev nD) = plan.peer 6 c := by decide +kernel
theorem dev15 : ∀ c h, (⟨k0_dev15 c, h⟩ : Dev nD) = plan.peer 0 c := by decide +kernel
theorem dev16 : ∀ c h, (⟨k0_dev16 c, h⟩ : Dev nD) = plan.peer 1 c := by decide +kernel
theorem dev17 : ∀ c h, (⟨k0_dev17 c, h⟩ : Dev nD) = plan.peer 2 c := by decide +kernel
theorem dev18 : ∀ c h, (⟨k0_dev18 c, h⟩ : Dev nD) = plan.peer 3 c := by decide +kernel
theorem dev19 : ∀ c h, (⟨k0_dev19 c, h⟩ : Dev nD) = plan.peer 4 c := by decide +kernel
theorem dev20 : ∀ c h, (⟨k0_dev20 c, h⟩ : Dev nD) = plan.peer 5 c := by decide +kernel
theorem dev21 : ∀ c h, (⟨k0_dev21 c, h⟩ : Dev nD) = plan.peer 6 c := by decide +kernel

set_option maxRecDepth 65536 in
theorem body_eq : cc0_scatter_ffn (F := F) (Memref.whole main_arg2) (Memref.isWhole_whole _) (Memref.whole main_arg0) (Memref.isWhole_whole _)
      (Memref.whole main_arg1) (Memref.isWhole_whole _) (Memref.whole main_v1_0) (Memref.isWhole_whole _) (Memref.whole main_v1_1)
      (Memref.isWhole_whole _) (Memref.whole main_v1_2) (Memref.isWhole_whole _) cc0_scratch0 cc0_scratch1 cc0_scratch2
    = .op .deviceId fun d => plan.starts d starts3 (plan.waits d waits3 (.ret ⟨⟩)) := by
  refine congrArg (Prog.op _) (funext fun c => ?_)
  refine read_own plan (part_own 0 c _ _) (slot_own 0 c _ _) rfl ?_
  refine read_send plan (dev1 c _) (part_peer 0 0 c _ _) (slot_own 0 c _ _) rfl rfl ?_
  refine read_send plan (dev2 c _) (part_peer 0 1 c _ _) (slot_own 0 c _ _) rfl rfl ?_
  refine read_send plan (dev3 c _) (part_peer 0 2 c _ _) (slot_own 0 c _ _) rfl rfl ?_
  refine read_send plan (dev4 c _) (part_peer 0 3 c _ _) (slot_own 0 c _ _) rfl rfl ?_
  refine read_send plan (dev5 c _) (part_peer 0 4 c _ _) (slot_own 0 c _ _) rfl rfl ?_
  refine read_send plan (dev6 c _) (part_peer 0 5 c _ _) (slot_own 0 c _ _) rfl rfl ?_
  refine read_send plan (dev7 c _) (part_peer 0 6 c _ _) (slot_own 0 c _ _) rfl rfl ?_
  refine read_own plan (part_own 1 c _ _) (slot_own 1 c _ _) rfl ?_
  refine read_send plan (dev8 c _) (part_peer 1 0 c _ _) (slot_own 1 c _ _) rfl rfl ?_
  refine read_send plan (dev9 c _) (part_peer 1 1 c _ _) (slot_own 1 c _ _) rfl rfl ?_
  refine read_send plan (dev10 c _) (part_peer 1 2 c _ _) (slot_own 1 c _ _) rfl rfl ?_
  refine read_send plan (dev11 c _) (part_peer 1 3 c _ _) (slot_own 1 c _ _) rfl rfl ?_
  refine read_send plan (dev12 c _) (part_peer 1 4 c _ _) (slot_own 1 c _ _) rfl rfl ?_
  refine read_send plan (dev13 c _) (part_peer 1 5 c _ _) (slot_own 1 c _ _) rfl rfl ?_
  refine read_send plan (dev14 c _) (part_peer 1 6 c _ _) (slot_own 1 c _ _) rfl rfl ?_
  refine read_own plan (part_own 2 c _ _) (slot_own 2 c _ _) rfl ?_
  refine read_send plan (dev15 c _) (part_peer 2 0 c _ _) (slot_own 2 c _ _) rfl rfl ?_
  refine read_send plan (dev16 c _) (part_peer 2 1 c _ _) (slot_own 2 c _ _) rfl rfl ?_
  refine read_send plan (dev17 c _) (part_peer 2 2 c _ _) (slot_own 2 c _ _) rfl rfl ?_
  refine read_send plan (dev18 c _) (part_peer 2 3 c _ _) (slot_own 2 c _ _) rfl rfl ?_
  refine read_send plan (dev19 c _) (part_peer 2 4 c _ _) (slot_own 2 c _ _) rfl rfl ?_
  refine read_send plan (dev20 c _) (part_peer 2 5 c _ _) (slot_own 2 c _ _) rfl rfl ?_
  refine read_send plan (dev21 c _) (part_peer 2 6 c _ _) (slot_own 2 c _ _) rfl rfl ?_
  refine read_peerWaits plan (part_peer 0 0 c _ _) (slot_peer 0 0 c _ _) rfl rfl ?_
  refine read_peerWaits plan (part_peer 0 1 c _ _) (slot_peer 0 1 c _ _) rfl rfl ?_
  refine read_peerWaits plan (part_peer 0 2 c _ _) (slot_peer 0 2 c _ _) rfl rfl ?_
  refine read_peerWaits plan (part_peer 0 3 c _ _) (slot_peer 0 3 c _ _) rfl rfl ?_
  refine read_peerWaits plan (part_peer 0 4 c _ _) (slot_peer 0 4 c _ _) rfl rfl ?_
  refine read_peerWaits plan (part_peer 0 5 c _ _) (slot_peer 0 5 c _ _) rfl rfl ?_
  refine read_peerWaits plan (part_peer 0 6 c _ _) (slot_peer 0 6 c _ _) rfl rfl ?_
  refine read_ownWait plan (part_own 0 c _ _) (slot_own 0 c _ _) rfl ?_
  refine read_peerWaits plan (part_peer 1 0 c _ _) (slot_peer 1 0 c _ _) rfl rfl ?_
  refine read_peerWaits plan (part_peer 1 1 c _ _) (slot_peer 1 1 c _ _) rfl rfl ?_
  refine read_peerWaits plan (part_peer 1 2 c _ _) (slot_peer 1 2 c _ _) rfl rfl ?_
  refine read_peerWaits plan (part_peer 1 3 c _ _) (slot_peer 1 3 c _ _) rfl rfl ?_
  refine read_peerWaits plan (part_peer 1 4 c _ _) (slot_peer 1 4 c _ _) rfl rfl ?_
  refine read_peerWaits plan (part_peer 1 5 c _ _) (slot_peer 1 5 c _ _) rfl rfl ?_
  refine read_peerWaits plan (part_peer 1 6 c _ _) (slot_peer 1 6 c _ _) rfl rfl ?_
  refine read_ownWait plan (part_own 1 c _ _) (slot_own 1 c _ _) rfl ?_
  refine read_peerWaits plan (part_peer 2 0 c _ _) (slot_peer 2 0 c _ _) rfl rfl ?_
  refine read_peerWaits plan (part_peer 2 1 c _ _) (slot_peer 2 1 c _ _) rfl rfl ?_
  refine read_peerWaits plan (part_peer 2 2 c _ _) (slot_peer 2 2 c _ _) rfl rfl ?_
  refine read_peerWaits plan (part_peer 2 3 c _ _) (slot_peer 2 3 c _ _) rfl rfl ?_
  refine read_peerWaits plan (part_peer 2 4 c _ _) (slot_peer 2 4 c _ _) rfl rfl ?_
  refine read_peerWaits plan (part_peer 2 5 c _ _) (slot_peer 2 5 c _ _) rfl rfl ?_
  refine read_peerWaits plan (part_peer 2 6 c _ _) (slot_peer 2 6 c _ _) rfl rfl ?_
  refine read_ownWait plan (part_own 2 c _ _) (slot_own 2 c _ _) rfl ?_
  rfl

end Cert.KernelIdeal.Scatter

end
-- ==== Proof.ScatterRun.lean ====
/-
# The scatter's run

Every weakly fair execution of the program terminates: on each device the arguments are unchanged, and result `[p, r, l]` is what
row `384 c + r` of device `p`'s argument held.
-/
module

public import proofs.«01_k».proof.Proof.ScatterFfn

@[expose] public section

noncomputable section

namespace Cert.KernelIdeal.Scatter

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.KernelIdeal.Gen

set_option Elab.async false

variable {F : FTy → Type} [FloatOps F]

local notation "𝕄" => MT nD τ sig Unit (Elt F) ℕ (UU nD τ sig) ℕ

/-! ## The parts and the slots cut the arrays -/

theorem mem_row (i : S3072x1024.Idx) (p : Dev 8) :
    i ∈ (Rect.unit (s := S3072x1024) ![384 * p.val, 0] S384x1024.size (row_inb p)).set ↔ (i 0).val / 384 = p.val := by
  rw [Rect.mem_set_unit]
  have h1 : (i 1).val < 1024 := (i 1).isLt
  constructor
  · intro h
    have h0 : 384 * p.val ≤ (i 0).val ∧ (i 0).val < 384 * p.val + 384 := h 0
    omega
  · intro h a
    match a with
    | 0 => show 384 * p.val ≤ (i 0).val ∧ (i 0).val < 384 * p.val + 384; omega
    | 1 => show 0 ≤ (i 1).val ∧ (i 1).val < 0 + 1024; omega

theorem mem_slot (i : S8x384x1024.Idx) (p : Dev 8) :
    i ∈ (Rect.unit (s := S8x384x1024) ![p.val, 0, 0] S1x384x1024.size (slot_inb p)).set ↔ (i 0).val = p.val := by
  rw [Rect.mem_set_unit]
  have h1 : (i 1).val < 384 := (i 1).isLt
  have h2 : (i 2).val < 1024 := (i 2).isLt
  constructor
  · intro h
    have h0 : p.val ≤ (i 0).val ∧ (i 0).val < p.val + 1 := h 0
    omega
  · intro h a
    match a with
    | 0 => show p.val ≤ (i 0).val ∧ (i 0).val < p.val + 1; omega
    | 1 => show 0 ≤ (i 1).val ∧ (i 1).val < 0 + 384; omega
    | 2 => show 0 ≤ (i 2).val ∧ (i 2).val < 0 + 1024; omega

/-- The rows of one device in an argument. -/
abbrev rows (p : Dev 8) : Finset S3072x1024.Idx := (Rect.unit (s := S3072x1024) ![384 * p.val, 0] S384x1024.size (row_inb p)).set
/-- The slot of one device in a result. -/
abbrev slotSet (p : Dev 8) : Finset S8x384x1024.Idx := (Rect.unit (s := S8x384x1024) ![p.val, 0, 0] S1x384x1024.size (slot_inb p)).set

theorem rows_disjoint (p p' : Dev 8) (h : p ≠ p') : Disjoint (rows p) (rows p') :=
  disjoint_of_key (fun i : S3072x1024.Idx => (i 0).val / 384) (fun p i hi => (mem_row i p).1 hi) p p' h
theorem rows_cover (i : S3072x1024.Idx) : ∃ p, i ∈ rows p :=
  ⟨⟨(i 0).val / 384, by have h : (i 0).val < 3072 := (i 0).isLt; omega⟩, (mem_row i _).2 rfl⟩
theorem slots_disjoint (p p' : Dev 8) (h : p ≠ p') : Disjoint (slotSet p) (slotSet p') :=
  disjoint_of_key (fun i : S8x384x1024.Idx => (i 0).val) (fun p i hi => (mem_slot i p).1 hi) p p' h
theorem slots_cover (i : S8x384x1024.Idx) : ∃ p, i ∈ slotSet p := ⟨⟨(i 0).val, (i 0).isLt⟩, (mem_slot i _).2 rfl⟩

theorem part_set (j : Fin 3) (p : Dev 8) : (plan.src j p).view.set = match j with | 0 => rows p | 1 => rows p | 2 => rows p := by
  match j with
  | 0 | 1 | 2 => exact View.set_slice_whole _ _

theorem slot_set (j : Fin 3) (p : Dev 8) : (plan.dst j p).view.set = match j with | 0 => slotSet p | 1 => slotSet p | 2 => slotSet p := by
  match j with
  | 0 | 1 | 2 => exact (View.set_reshape _ _).trans (View.set_slice_whole _ _)

section Split

variable (m : (ℓ : Loc nD τ sig) → Buf (Elt F) ℓ) (c : Dev nD)

/-- Slots at what the launch left in them are slots at some contents. -/
theorem some_slots (j : Fin 3) : (bigSep Finset.univ fun p : Dev 8 => dstPts plan j p c (m ((plan.dst j p).view.loc (c.tc : Thread nD τ))) : sProp 𝕄)
    ⊢ bigSep Finset.univ fun p : Dev 8 => iprop(∃ f, dstPts plan j p c f) := by
  refine bigSep_mono fun p _ => ?_
  have he : (dstPts plan j p c (m ((plan.dst j p).view.loc (c.tc : Thread nD τ))) : sProp 𝕄) ⊢ iprop(∃ f, dstPts plan j p c f) := by
    iintro H; iexists _; iexact H
  exact he

theorem cut_arg0 : (((c.tc : Thread nD τ).loc main_arg2) ↦{fullShare} m ((c.tc : Thread nD τ).loc main_arg2) : sProp 𝕄)
    = bigSep Finset.univ fun p : Dev 8 => srcPts plan (contents plan (fun _ _ => fullShare) m) 0 p c :=
  (cut (ℓ := (c.tc : Thread nD τ).loc main_arg2) rows rows_disjoint rows_cover fullShare _).trans
    (bigSep_congr fun p _ => congrArg (fun I => (((c.tc : Thread nD τ).loc main_arg2) ↦[I]{fullShare} m ((c.tc : Thread nD τ).loc main_arg2) : sProp 𝕄))
      (part_set 0 p).symm)

theorem cut_arg1 : (((c.tc : Thread nD τ).loc main_arg0) ↦{fullShare} m ((c.tc : Thread nD τ).loc main_arg0) : sProp 𝕄)
    = bigSep Finset.univ fun p : Dev 8 => srcPts plan (contents plan (fun _ _ => fullShare) m) 1 p c :=
  (cut (ℓ := (c.tc : Thread nD τ).loc main_arg0) rows rows_disjoint rows_cover fullShare _).trans
    (bigSep_congr fun p _ => congrArg (fun I => (((c.tc : Thread nD τ).loc main_arg0) ↦[I]{fullShare} m ((c.tc : Thread nD τ).loc main_arg0) : sProp 𝕄))
      (part_set 1 p).symm)

theorem cut_arg2 : (((c.tc : Thread nD τ).loc main_arg1) ↦{fullShare} m ((c.tc : Thread nD τ).loc main_arg1) : sProp 𝕄)
    = bigSep Finset.univ fun p : Dev 8 => srcPts plan (contents plan (fun _ _ => fullShare) m) 2 p c :=
  (cut (ℓ := (c.tc : Thread nD τ).loc main_arg1) rows rows_disjoint rows_cover fullShare _).trans
    (bigSep_congr fun p _ => congrArg (fun I => (((c.tc : Thread nD τ).loc main_arg1) ↦[I]{fullShare} m ((c.tc : Thread nD τ).loc main_arg1) : sProp 𝕄))
      (part_set 2 p).symm)

theorem cut_res0 : (((c.tc : Thread nD τ).loc main_v1_0) ↦{fullShare} m ((c.tc : Thread nD τ).loc main_v1_0) : sProp 𝕄)
    ⊢ bigSep Finset.univ fun p : Dev 8 => iprop(∃ f, dstPts plan 0 p c f) :=
  (Entails.of_eq ((cut (ℓ := (c.tc : Thread nD τ).loc main_v1_0) slotSet slots_disjoint slots_cover fullShare _).trans
    (bigSep_congr fun p _ => congrArg (fun I => (((c.tc : Thread nD τ).loc main_v1_0) ↦[I]{fullShare} m ((c.tc : Thread nD τ).loc main_v1_0) : sProp 𝕄))
      (slot_set 0 p).symm))).trans (some_slots m c 0)

theorem cut_res1 : (((c.tc : Thread nD τ).loc main_v1_1) ↦{fullShare} m ((c.tc : Thread nD τ).loc main_v1_1) : sProp 𝕄)
    ⊢ bigSep Finset.univ fun p : Dev 8 => iprop(∃ f, dstPts plan 1 p c f) :=
  (Entails.of_eq ((cut (ℓ := (c.tc : Thread nD τ).loc main_v1_1) slotSet slots_disjoint slots_cover fullShare _).trans
    (bigSep_congr fun p _ => congrArg (fun I => (((c.tc : Thread nD τ).loc main_v1_1) ↦[I]{fullShare} m ((c.tc : Thread nD τ).loc main_v1_1) : sProp 𝕄))
      (slot_set 1 p).symm))).trans (some_slots m c 1)

theorem cut_res2 : (((c.tc : Thread nD τ).loc main_v1_2) ↦{fullShare} m ((c.tc : Thread nD τ).loc main_v1_2) : sProp 𝕄)
    ⊢ bigSep Finset.univ fun p : Dev 8 => iprop(∃ f, dstPts plan 2 p c f) :=
  (Entails.of_eq ((cut (ℓ := (c.tc : Thread nD τ).loc main_v1_2) slotSet slots_disjoint slots_cover fullShare _).trans
    (bigSep_congr fun p _ => congrArg (fun I => (((c.tc : Thread nD τ).loc main_v1_2) ↦[I]{fullShare} m ((c.tc : Thread nD τ).loc main_v1_2) : sProp 𝕄))
      (slot_set 2 p).symm))).trans (some_slots m c 2)

/-- The launch's buffers are the exchange's parts and slots. -/
theorem split : (unscopedBufs c (fun b => m ((c.tc : Thread nD τ).loc b)) : sProp 𝕄)
    ⊢ iprop(parts plan (contents plan (fun _ _ => fullShare) m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan (fun _ _ => fullShare) m) c : sProp 𝕄)
      = iprop((bigSep Finset.univ fun p : Dev 8 => srcPts plan (contents plan (fun _ _ => fullShare) m) 0 p c)
        ∗ (bigSep Finset.univ fun p : Dev 8 => srcPts plan (contents plan (fun _ _ => fullShare) m) 1 p c)
        ∗ (bigSep Finset.univ fun p : Dev 8 => srcPts plan (contents plan (fun _ _ => fullShare) m) 2 p c)) :=
    bigSep_univ_eq_bigSepL [0, 1, 2] (by decide) (by decide) _
  have hs : (slots plan c : sProp 𝕄)
      = iprop((bigSep Finset.univ fun p : Dev 8 => iprop(∃ f, dstPts plan 0 p c f))
        ∗ (bigSep Finset.univ fun p : Dev 8 => iprop(∃ f, dstPts plan 1 p c f))
        ∗ (bigSep Finset.univ fun p : Dev 8 => iprop(∃ f, dstPts plan 2 p c f))) :=
    bigSep_univ_eq_bigSepL [0, 1, 2] (by decide) (by decide) _
  rw [hsub, unscopedRest0_eq, hp, hs, ← cut_arg0, ← cut_arg1, ← cut_arg2]
  have h0 := cut_res0 m c
  have h1 := cut_res1 m c
  have h2 := cut_res2 m c
  iintro ⟨H0, H1, H2, H3, H4, H5⟩
  isplitl [H0 H1 H2]
  · isplitl [H2]; · iexact H2
    isplitl [H0]; · iexact H0
    iexact H1
  isplitl [H3]; · iapply h0; iexact H3
  isplitl [H4]; · iapply h1; iexact H4
  iapply h2; iexact H5

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan (fun _ _ => fullShare) (pcfgs (F := F)) (fun p => (cfgs p).toPCfg_adm) cellOf_inj (defs₀ (F := F)) orders3
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

end Cert.KernelIdeal.Scatter

end
-- ==== Proof.ScatterValue.lean ====
/-
# What the scatter computes

The run read at whole arrays: result `[p, r, l]` of device `c` is row `384 c + r` of device `p`'s argument. Over the whole arrays
that is a reshape: `p`'s argument is rows `3072 p` to `3072 p + 3071` of the whole one, and `c`'s result is columns `384 c` to
`384 c + 383` of the whole result.
-/
module

public import proofs.«01_k».proof.Proof.ScatterRun
public import Idealize.ShloMosaic.Lib.ValueLayout

@[expose] public section

noncomputable section

namespace Cert.KernelIdeal.Scatter

open Idealize.ShloMosaic
open Idealize.ShloMosaic.TcCoe
open Idealize.SL.Sem
open Cert.Exchange
open Idealize.ShloMosaic.ValueIdx

set_option Elab.async false

variable {F : FTy → Type} [FloatOps F]

/-- Where result index `i` of device `c` comes from in its sender's argument. -/
def origin (c : Dev 8) (i : S8x384x1024.Idx) : S3072x1024.Idx :=
  ix2 (⟨384 * c.val + (i 1).val, by have h : (i 1).val < 384 := (i 1).isLt; omega⟩ : Fin 3072) ⟨(i 2).val, (i 2).isLt⟩

/-- Device `c`'s result of the devices' arguments. -/
def sent {α : Type} (x : Dev 8 → S3072x1024.Idx → α) (c : Dev 8) : S8x384x1024.Idx → α :=
  fun i => x ⟨(i 0).val, (i 0).isLt⟩ (origin c i)

/-! ## Indices of parts and slots -/

/-- A slot's index `(r, l)` is `(p, r, l)` in the result. -/
theorem slot_emb (p : Dev 8) (r : Fin 384) (l : Fin 1024) (h : S384x1024.numel = S1x384x1024.numel) :
    (Rect.unit (s := S8x384x1024) ![p.val, 0, 0] S1x384x1024.size (slot_inb p)).emb (Shape.reshapeEquiv h (ix2 r l)) = ix3 p r l := by
  rw [reshapeEquiv_ix2_1ab h r l]
  funext a
  apply Fin.ext
  rw [Rect.emb_apply]
  match a with
  | 0 => show p.val + 1 * 0 = p.val; omega
  | 1 => show 0 + 1 * r.val = r.val; omega
  | 2 => show 0 + 1 * l.val = l.val; omega

/-- A part's index `(r, l)` is `(384 c + r, l)` in the argument. -/
theorem part_emb (p c : Dev 8) (r : Fin 384) (l : Fin 1024) :
    (Rect.unit (s := S3072x1024) ![384 * c.val, 0] S384x1024.size (row_inb c)).emb (ix2 r l) = origin c (ix3 p r l) := by
  funext a
  apply Fin.ext
  rw [Rect.emb_apply]
  match a with
  | 0 => show 384 * c.val + 1 * r.val = 384 * c.val + r.val; omega
  | 1 => show 0 + 1 * l.val = l.val; omega

section Read

variable {m mem : (ℓ : Loc nD τ sig) → Buf (Elt F) ℓ} {c : Dev nD} (h : Settled plan m mem c)
include h

theorem kept0 : mem ((c.tc : Thread nD τ).loc main_arg2) = m ((c.tc : Thread nD τ).loc main_arg2) := by
  funext i
  obtain ⟨p, hp⟩ := rows_cover i
  have hp' : i ∈ (plan.src 0 p).view.set := by rw [part_set]; exact hp
  exact (h 0 p).1 i hp'

theorem result0 : mem ((c.tc : Thread nD τ).loc main_v1_0) = sent (fun p => m ((p.tc : Thread nD τ).loc main_arg2)) c := by
  funext i
  obtain ⟨p, r, l, rfl⟩ : ∃ p r l, i = ix3 p r l := ⟨_, _, _, eq_ix3 i⟩
  have hread : mem ((c.tc : Thread nD τ).loc main_v1_0) ((plan.dst 0 p).view.emb (ix2 r l))
      = m ((Dev.tc (τ := τ) (nD := nD) p : Thread nD τ).loc main_arg2) ((plan.src 0 c).view.emb (ix2 r l)) := congrFun (h 0 p).2 (ix2 r l)
  have hl : (plan.dst 0 p).view.emb (ix2 r l) = ix3 p r l := slot_emb p r l _
  have hr : (plan.src 0 c).view.emb (ix2 r l) = origin c (ix3 p r l) := part_emb p c r l
  rw [hl, hr] at hread
  exact hread

theorem kept1 : mem ((c.tc : Thread nD τ).loc main_arg0) = m ((c.tc : Thread nD τ).loc main_arg0) := by
  funext i
  obtain ⟨p, hp⟩ := rows_cover i
  have hp' : i ∈ (plan.src 1 p).view.set := by rw [part_set]; exact hp
  exact (h 1 p).1 i hp'

theorem result1 : mem ((c.tc : Thread nD τ).loc main_v1_1) = sent (fun p => m ((p.tc : Thread nD τ).loc main_arg0)) c := by
  funext i
  obtain ⟨p, r, l, rfl⟩ : ∃ p r l, i = ix3 p r l := ⟨_, _, _, eq_ix3 i⟩
  have hread : mem ((c.tc : Thread nD τ).loc main_v1_1) ((plan.dst 1 p).view.emb (ix2 r l))
      = m ((Dev.tc (τ := τ) (nD := nD) p : Thread nD τ).loc main_arg0) ((plan.src 1 c).view.emb (ix2 r l)) := congrFun (h 1 p).2 (ix2 r l)
  have hl : (plan.dst 1 p).view.emb (ix2 r l) = ix3 p r l := slot_emb p r l _
  have hr : (plan.src 1 c).view.emb (ix2 r l) = origin c (ix3 p r l) := part_emb p c r l
  rw [hl, hr] at hread
  exact hread

theorem kept2 : mem ((c.tc : Thread nD τ).loc main_arg1) = m ((c.tc : Thread nD τ).loc main_arg1) := by
  funext i
  obtain ⟨p, hp⟩ := rows_cover i
  have hp' : i ∈ (plan.src 2 p).view.set := by rw [part_set]; exact hp
  exact (h 2 p).1 i hp'

theorem result2 : mem ((c.tc : Thread nD τ).loc main_v1_2) = sent (fun p => m ((p.tc : Thread nD τ).loc main_arg1)) c := by
  funext i
  obtain ⟨p, r, l, rfl⟩ : ∃ p r l, i = ix3 p r l := ⟨_, _, _, eq_ix3 i⟩
  have hread : mem ((c.tc : Thread nD τ).loc main_v1_2) ((plan.dst 2 p).view.emb (ix2 r l))
      = m ((Dev.tc (τ := τ) (nD := nD) p : Thread nD τ).loc main_arg1) ((plan.src 2 c).view.emb (ix2 r l)) := congrFun (h 2 p).2 (ix2 r l)
  have hl : (plan.dst 2 p).view.emb (ix2 r l) = ix3 p r l := slot_emb p r l _
  have hr : (plan.src 2 c).view.emb (ix2 r l) = origin c (ix3 p r l) := part_emb p c r l
  rw [hl, hr] at hread
  exact hread

end Read

/-- Every weakly fair execution terminates with each result the senders' rows, the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD,
        (r.2.mem ((c.tc : Thread nD τ).loc main_v1_1) = sent (fun p => m ((p.tc : Thread nD τ).loc main_arg0)) c
        ∧ r.2.mem ((c.tc : Thread nD τ).loc main_v1_2) = sent (fun p => m ((p.tc : Thread nD τ).loc main_arg1)) c
        ∧ r.2.mem ((c.tc : Thread nD τ).loc main_v1_0) = sent (fun p => m ((p.tc : Thread nD τ).loc main_arg2)) c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run _ _ _).mono (fun _ h => ⟨fun c => ⟨⟨result1 (h.1 c), result2 (h.1 c), result0 (h.1 c)⟩,
    kept1 (h.1 c), kept2 (h.1 c), kept0 (h.1 c)⟩, h.2⟩) (run_settled m g)

/-! ## Over the whole arrays -/

/-- The whole result at `(p, s, l)` is the whole argument at `(3072 p + s, l)`. -/
theorem reshape_at (h : (⟨3, ![8, 3072, 1024]⟩ : Shape).numel = (⟨2, ![24576, 1024]⟩ : Shape).numel) (p : Fin 8) (s : Fin 3072) (l : Fin 1024) :
    Shape.reshapeEquiv h (ix3 p s l)
      = ix2 (⟨3072 * p.val + s.val, by omega⟩ : Fin 24576) l :=
  Shape.reshapeEquiv_eq_of_rowMajor h (by
    rw [Shape.rowMajor_val_three, Shape.rowMajor_val_two]
    show (3072 * p.val + s.val) * 1024 + l.val = (p.val * 3072 + s.val) * 1024 + l.val
    omega)

/-- What the devices send each other of a whole array is the whole array's reshape, block by block. -/
theorem sent_block {α : Type} (w : (⟨2, ![24576, 1024]⟩ : Shape).Idx → α) (h : (⟨2, ![24576, 1024]⟩ : Shape).ShapeCasts ⟨3, ![8, 3072, 1024]⟩)
    (c : Dev 8) :
    sent (fun p => Layout.block ⟨2, ![3072, 1024]⟩ ⟨2, ![24576, 1024]⟩ 0 8 p w) c
      = Layout.block ⟨3, ![8, 384, 1024]⟩ ⟨3, ![8, 3072, 1024]⟩ 1 8 c (shapeCast _ w h) := by
  funext i
  obtain ⟨p, r, l, rfl⟩ : ∃ p r l, i = ix3 p r l := ⟨_, _, _, eq_ix3 i⟩
  have ht2 : Layout.Tiles ⟨2, ![3072, 1024]⟩ ⟨2, ![24576, 1024]⟩ 0 8 := by decide
  have ht3 : Layout.Tiles ⟨3, ![8, 384, 1024]⟩ ⟨3, ![8, 3072, 1024]⟩ 1 8 := by decide
  show w (ht2.idx p (origin c (ix3 p r l))) = w (Shape.reshapeEquiv _ (ht3.idx c (ix3 p r l)))
  have hr : r.val < 384 := r.isLt
  have hidx : ht3.idx c (ix3 p r l) = ix3 p (⟨384 * c.val + r.val, by omega⟩ : Fin 3072) l := by
    funext a
    apply Fin.ext
    rw [Layout.Tiles.idx_val]
    match a with
    | 0 => rfl
    | 1 => show c.val * 384 + r.val = 384 * c.val + r.val; omega
    | 2 => rfl
  rw [hidx, reshape_at]
  congr 1
  funext a
  apply Fin.ext
  rw [Layout.Tiles.idx_val]
  match a with
  | 0 => show p.val * 3072 + (384 * c.val + r.val) = 3072 * p.val + (384 * c.val + r.val); omega
  | 1 => rfl

end Cert.KernelIdeal.Scatter

end
-- ==== Proof.Blocks.lean ====
/-
# Blocks of an array among eight devices

An array of eight blocks, one per device: blocks of rows, blocks of columns, or slots along a first axis of length eight. Each
family is a disjoint cover, each block's indices are known in the array, and what one device's block of a whole array is, is read
off the whole array. With these the five shapes of exchange are stated over whole arrays: a block of rows or of columns sent to
each device and stacked there, and a device's array gathered into rows, columns or slots of a whole one.
-/
module

public import proofs.«01_k».proof.Proof.Peers
public import Idealize.ShloMosaic.Lib.ShareLeaves
public import Idealize.ShloMosaic.Lib.ValueLayout

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

set_option Elab.async false

/-- A family of sets, one per device, that are disjoint and together everything. -/
structure IsCut {α : Type} (I : Dev 8 → Finset α) : Prop where
  disjoint : ∀ p p', p ≠ p' → Disjoint (I p) (I p')
  cover : ∀ i, ∃ p, i ∈ I p

theorem IsCut.of_key {α : Type} [DecidableEq α] {I : Dev 8 → Finset α} (key : α → Nat) (lt : ∀ i, key i < 8)
    (h : ∀ p i, i ∈ I p ↔ key i = p.val) : IsCut I where
  disjoint := disjoint_of_key key fun p i hi => (h p i).1 hi
  cover i := ⟨⟨key i, lt i⟩, (h _ i).2 rfl⟩

/-! ## Blocks of rows -/

section Rows

variable {R r C : Nat} (inb : ∀ (p : Dev 8) (a), (![r * p.val, 0] : Fin 2 → Nat) a + (⟨2, ![r, C]⟩ : Shape).size a ≤ (⟨2, ![R, C]⟩ : Shape).size a)

/-- Rows `r p` to `r p + r - 1`. -/
abbrev rowBlock (p : Dev 8) : Rect (⟨2, ![R, C]⟩ : Shape) := Rect.unit (s := ⟨2, ![R, C]⟩) ![r * p.val, 0] (⟨2, ![r, C]⟩ : Shape).size (inb p)

theorem mem_rowBlock (hr : 0 < r) (p : Dev 8) (i : (⟨2, ![R, C]⟩ : Shape).Idx) : i ∈ (rowBlock inb p).set ↔ (i 0).val / r = p.val := by
  rw [Rect.mem_set_unit]
  have h1 : (i 1).val < C := (i 1).isLt
  rw [Nat.div_eq_iff hr]
  constructor
  · intro h
    have h0 : r * p.val ≤ (i 0).val ∧ (i 0).val < r * p.val + r := h 0
    rw [Nat.mul_comm r] at h0
    omega
  · intro h a
    match a with
    | 0 => show r * p.val ≤ (i 0).val ∧ (i 0).val < r * p.val + r; rw [Nat.mul_comm r]; omega
    | 1 => show 0 ≤ (i 1).val ∧ (i 1).val < 0 + C; omega

theorem rows_cut (hr : 0 < r) (hR : R = 8 * r) : IsCut fun p => (rowBlock inb p).set :=
  IsCut.of_key (fun i => (i 0).val / r)
    (fun i => Nat.div_lt_of_lt_mul (by have h : (i 0).val < R := (i 0).isLt; rw [Nat.mul_comm]; omega))
    fun p i => mem_rowBlock inb hr p i

/-- Row `a` of the block is row `r p + a` of the array. -/
theorem rowBlock_emb (p : Dev 8) (a : Fin r) (b : Fin C) (h : r * p.val + a.val < R) :
    (rowBlock inb p).emb (ix2 a b) = ix2 ⟨r * p.val + a.val, h⟩ b := by
  funext x
  apply Fin.ext
  rw [Rect.emb_apply]
  match x with
  | 0 => show r * p.val + 1 * a.val = r * p.val + a.val; omega
  | 1 => show 0 + 1 * b.val = b.val; omega

end Rows

/-! ## Blocks of columns -/

section Cols

variable {R C n : Nat} (inb : ∀ (p : Dev 8) (a), (![0, n * p.val] : Fin 2 → Nat) a + (⟨2, ![R, n]⟩ : Shape).size a ≤ (⟨2, ![R, C]⟩ : Shape).size a)

/-- Columns `n p` to `n p + n - 1`. -/
abbrev colBlock (p : Dev 8) : Rect (⟨2, ![R, C]⟩ : Shape) := Rect.unit (s := ⟨2, ![R, C]⟩) ![0, n * p.val] (⟨2, ![R, n]⟩ : Shape).size (inb p)

theorem mem_colBlock (hn : 0 < n) (p : Dev 8) (i : (⟨2, ![R, C]⟩ : Shape).Idx) : i ∈ (colBlock inb p).set ↔ (i 1).val / n = p.val := by
  rw [Rect.mem_set_unit]
  have h0 : (i 0).val < R := (i 0).isLt
  rw [Nat.div_eq_iff hn]
  constructor
  · intro h
    have h1 : n * p.val ≤ (i 1).val ∧ (i 1).val < n * p.val + n := h 1
    rw [Nat.mul_comm n] at h1
    omega
  · intro h a
    match a with
    | 0 => show 0 ≤ (i 0).val ∧ (i 0).val < 0 + R; omega
    | 1 => show n * p.val ≤ (i 1).val ∧ (i 1).val < n * p.val + n; rw [Nat.mul_comm n]; omega

theorem cols_cut (hn : 0 < n) (hC : C = 8 * n) : IsCut fun p => (colBlock inb p).set :=
  IsCut.of_key (fun i => (i 1).val / n)
    (fun i => Nat.div_lt_of_lt_mul (by have h : (i 1).val < C := (i 1).isLt; rw [Nat.mul_comm]; omega))
    fun p i => mem_colBlock inb hn p i

/-- Column `b` of the block is column `n p + b` of the array. -/
theorem colBlock_emb (p : Dev 8) (a : Fin R) (b : Fin n) (h : n * p.val + b.val < C) :
    (colBlock inb p).emb (ix2 a b) = ix2 a ⟨n * p.val + b.val, h⟩ := by
  funext x
  apply Fin.ext
  rw [Rect.emb_apply]
  match x with
  | 0 => show 0 + 1 * a.val = a.val; omega
  | 1 => show n * p.val + 1 * b.val = n * p.val + b.val; omega

end Cols

/-! ## Slots -/

section Slots

variable {r C : Nat} (inb : ∀ (p : Dev 8) (a), (![p.val, 0, 0] : Fin 3 → Nat) a + (⟨3, ![1, r, C]⟩ : Shape).size a ≤ (⟨3, ![8, r, C]⟩ : Shape).size a)

/-- The `p`-th of eight arrays. -/
abbrev slotBlock (p : Dev 8) : Rect (⟨3, ![8, r, C]⟩ : Shape) := Rect.unit (s := ⟨3, ![8, r, C]⟩) ![p.val, 0, 0] (⟨3, ![1, r, C]⟩ : Shape).size (inb p)

theorem mem_slotBlock (p : Dev 8) (i : (⟨3, ![8, r, C]⟩ : Shape).Idx) : i ∈ (slotBlock inb p).set ↔ (i 0).val = p.val := by
  rw [Rect.mem_set_unit]
  have h1 : (i 1).val < r := (i 1).isLt
  have h2 : (i 2).val < C := (i 2).isLt
  constructor
  · intro h
    have h0 : p.val ≤ (i 0).val ∧ (i 0).val < p.val + 1 := h 0
    omega
  · intro h a
    match a with
    | 0 => show p.val ≤ (i 0).val ∧ (i 0).val < p.val + 1; omega
    | 1 => show 0 ≤ (i 1).val ∧ (i 1).val < 0 + r; omega
    | 2 => show 0 ≤ (i 2).val ∧ (i 2).val < 0 + C; omega

theorem slots_cut : IsCut fun p => (slotBlock inb p).set :=
  IsCut.of_key (fun i => (i 0).val) (fun i => (i 0).isLt) fun p i => mem_slotBlock inb p i

/-- A slot's index `(a, b)` is `(p, a, b)` in the array. -/
theorem slotBlock_emb (p : Dev 8) (a : Fin r) (b : Fin C) (h : (⟨2, ![r, C]⟩ : Shape).numel = (⟨3, ![1, r, C]⟩ : Shape).numel) :
    (slotBlock inb p).emb (Shape.reshapeEquiv h (ix2 a b)) = ix3 p a b := by
  rw [reshapeEquiv_ix2_1ab h a b]
  funext x
  apply Fin.ext
  rw [Rect.emb_apply]
  match x with
  | 0 => show p.val + 1 * 0 = p.val; omega
  | 1 => show 0 + 1 * a.val = a.val; omega
  | 2 => show 0 + 1 * b.val = b.val; omega

end Slots

/-! ## Over whole arrays -/

section Whole

variable {α : Type}

/-- Index `x < 8 n` lies in block `x / n`, at `x % n`. -/
theorem block_split {n N x : Nat} (hN : N = 8 * n) (hx : x < N) : ∃ (p : Dev 8) (a : Fin n), n * p.val + a.val = x := by
  have hn : 0 < n := by omega
  refine ⟨⟨x / n, Nat.div_lt_of_lt_mul (by rw [Nat.mul_comm]; omega)⟩, ⟨x % n, Nat.mod_lt _ hn⟩, Nat.div_add_mod x n⟩

theorem block_lt {n N : Nat} (hN : N = 8 * n) (p : Dev 8) (a : Fin n) : n * p.val + a.val < N := by
  have h : n * p.val ≤ n * 7 := Nat.mul_le_mul_left n (by omega)
  omega

/-- Blocks of rows sent to each device and stacked there are a block of the whole array's reshape. -/
theorem rows_sent {r R C W : Nat} (hR : R = 8 * r)
    (w : (⟨2, ![W, C]⟩ : Shape).Idx → α) (hc : (⟨2, ![W, C]⟩ : Shape).ShapeCasts ⟨3, ![8, R, C]⟩)
    (h2 : Layout.Tiles ⟨2, ![R, C]⟩ ⟨2, ![W, C]⟩ 0 8) (h3 : Layout.Tiles ⟨3, ![8, r, C]⟩ ⟨3, ![8, R, C]⟩ 1 8) (c : Dev 8)
    (x : Dev 8 → (⟨2, ![R, C]⟩ : Shape).Idx → α) (hx : ∀ p, x p = Layout.block ⟨2, ![R, C]⟩ ⟨2, ![W, C]⟩ 0 8 p w h2)
    (res : (⟨3, ![8, r, C]⟩ : Shape).Idx → α)
    (hres : ∀ p (a : Fin r) (b : Fin C), res (ix3 p a b) = x p (ix2 ⟨r * c.val + a.val, block_lt hR c a⟩ b)) :
    res = Layout.block ⟨3, ![8, r, C]⟩ ⟨3, ![8, R, C]⟩ 1 8 c (shapeCast _ w hc) h3 := by
  funext i
  obtain ⟨p, a, b, rfl⟩ : ∃ p a b, i = ix3 p a b := ⟨_, _, _, eq_ix3 i⟩
  rw [hres, hx]
  show w (h2.idx p (ix2 ⟨r * c.val + a.val, _⟩ b)) = w (Shape.reshapeEquiv _ (h3.idx c (ix3 p a b)))
  refine congrArg w (Shape.reshapeEquiv_eq_of_rowMajor _ ?_).symm
  rw [Shape.rowMajor_val_three, Shape.rowMajor_val_two, Layout.Tiles.idx_val, Layout.Tiles.idx_val, Layout.Tiles.idx_val,
    Layout.Tiles.idx_val, Layout.Tiles.idx_val]
  show (p.val * R + (r * c.val + a.val)) * C + b.val = (p.val * R + (c.val * r + a.val)) * C + b.val
  rw [Nat.mul_comm r]

/-- Blocks of columns sent to each device and stacked there are a block of the whole array's reshape. -/
theorem cols_sent {R C n W : Nat} (hC : C = 8 * n)
    (w : (⟨2, ![W, C]⟩ : Shape).Idx → α) (hc : (⟨2, ![W, C]⟩ : Shape).ShapeCasts ⟨3, ![8, R, C]⟩)
    (h2 : Layout.Tiles ⟨2, ![R, C]⟩ ⟨2, ![W, C]⟩ 0 8) (h3 : Layout.Tiles ⟨3, ![8, R, n]⟩ ⟨3, ![8, R, C]⟩ 2 8) (c : Dev 8)
    (x : Dev 8 → (⟨2, ![R, C]⟩ : Shape).Idx → α) (hx : ∀ p, x p = Layout.block ⟨2, ![R, C]⟩ ⟨2, ![W, C]⟩ 0 8 p w h2)
    (res : (⟨3, ![8, R, n]⟩ : Shape).Idx → α)
    (hres : ∀ p (a : Fin R) (b : Fin n), res (ix3 p a b) = x p (ix2 a ⟨n * c.val + b.val, block_lt hC c b⟩)) :
    res = Layout.block ⟨3, ![8, R, n]⟩ ⟨3, ![8, R, C]⟩ 2 8 c (shapeCast _ w hc) h3 := by
  funext i
  obtain ⟨p, a, b, rfl⟩ : ∃ p a b, i = ix3 p a b := ⟨_, _, _, eq_ix3 i⟩
  rw [hres, hx]
  show w (h2.idx p (ix2 a ⟨n * c.val + b.val, _⟩)) = w (Shape.reshapeEquiv _ (h3.idx c (ix3 p a b)))
  refine congrArg w (Shape.reshapeEquiv_eq_of_rowMajor _ ?_).symm
  rw [Shape.rowMajor_val_three, Shape.rowMajor_val_two, Layout.Tiles.idx_val, Layout.Tiles.idx_val, Layout.Tiles.idx_val,
    Layout.Tiles.idx_val, Layout.Tiles.idx_val]
  show (p.val * R + a.val) * C + (n * c.val + b.val) = (p.val * R + a.val) * C + (c.val * n + b.val)
  rw [Nat.mul_comm n]

/-- The devices' arrays gathered into blocks of rows are the whole array. -/
theorem rows_gathered {r R C : Nat} (hR : R = 8 * r) (w : (⟨2, ![R, C]⟩ : Shape).Idx → α)
    (h2 : Layout.Tiles ⟨2, ![r, C]⟩ ⟨2, ![R, C]⟩ 0 8)
    (x : Dev 8 → (⟨2, ![r, C]⟩ : Shape).Idx → α) (hx : ∀ p, x p = Layout.block ⟨2, ![r, C]⟩ ⟨2, ![R, C]⟩ 0 8 p w h2)
    (res : (⟨2, ![R, C]⟩ : Shape).Idx → α)
    (hres : ∀ p (a : Fin r) (b : Fin C), res (ix2 ⟨r * p.val + a.val, block_lt hR p a⟩ b) = x p (ix2 a b)) : res = w := by
  funext i
  obtain ⟨s, b, rfl⟩ : ∃ s b, i = ix2 s b := ⟨_, _, eq_ix2 i⟩
  obtain ⟨p, a, hs⟩ := block_split hR s.isLt
  obtain rfl : s = ⟨r * p.val + a.val, block_lt hR p a⟩ := Fin.ext hs.symm
  rw [hres, hx]
  show w (h2.idx p (ix2 a b)) = w _
  refine congrArg w ?_
  funext y
  apply Fin.ext
  rw [Layout.Tiles.idx_val]
  match y with
  | 0 => show p.val * r + a.val = r * p.val + a.val; rw [Nat.mul_comm]
  | 1 => rfl

/-- The devices' arrays gathered into blocks of columns are the whole array. -/
theorem cols_gathered {R C n : Nat} (hC : C = 8 * n) (w : (⟨2, ![R, C]⟩ : Shape).Idx → α)
    (h2 : Layout.Tiles ⟨2, ![R, n]⟩ ⟨2, ![R, C]⟩ 1 8)
    (x : Dev 8 → (⟨2, ![R, n]⟩ : Shape).Idx → α) (hx : ∀ p, x p = Layout.block ⟨2, ![R, n]⟩ ⟨2, ![R, C]⟩ 1 8 p w h2)
    (res : (⟨2, ![R, C]⟩ : Shape).Idx → α)
    (hres : ∀ p (a : Fin R) (b : Fin n), res (ix2 a ⟨n * p.val + b.val, block_lt hC p b⟩) = x p (ix2 a b)) : res = w := by
  funext i
  obtain ⟨a, s, rfl⟩ : ∃ a s, i = ix2 a s := ⟨_, _, eq_ix2 i⟩
  obtain ⟨p, b, hs⟩ := block_split hC s.isLt
  obtain rfl : s = ⟨n * p.val + b.val, block_lt hC p b⟩ := Fin.ext hs.symm
  rw [hres, hx]
  show w (h2.idx p (ix2 a b)) = w _
  refine congrArg w ?_
  funext y
  apply Fin.ext
  rw [Layout.Tiles.idx_val]
  match y with
  | 0 => rfl
  | 1 => show p.val * n + b.val = n * p.val + b.val; rw [Nat.mul_comm]

/-- The devices' arrays gathered into slots are the whole array's reshape. -/
theorem slots_gathered {r W C : Nat} (w : (⟨2, ![W, C]⟩ : Shape).Idx → α)
    (hc : (⟨2, ![W, C]⟩ : Shape).ShapeCasts ⟨3, ![8, r, C]⟩) (h2 : Layout.Tiles ⟨2, ![r, C]⟩ ⟨2, ![W, C]⟩ 0 8)
    (x : Dev 8 → (⟨2, ![r, C]⟩ : Shape).Idx → α) (hx : ∀ p, x p = Layout.block ⟨2, ![r, C]⟩ ⟨2, ![W, C]⟩ 0 8 p w h2)
    (res : (⟨3, ![8, r, C]⟩ : Shape).Idx → α)
    (hres : ∀ p (a : Fin r) (b : Fin C), res (ix3 p a b) = x p (ix2 a b)) : res = shapeCast _ w hc := by
  funext i
  obtain ⟨p, a, b, rfl⟩ : ∃ p a b, i = ix3 p a b := ⟨_, _, _, eq_ix3 i⟩
  rw [hres, hx]
  show w (h2.idx p (ix2 a b)) = w (Shape.reshapeEquiv _ (ix3 p a b))
  refine congrArg w (Shape.reshapeEquiv_eq_of_rowMajor _ ?_).symm
  rw [Shape.rowMajor_val_three, Shape.rowMajor_val_two, Layout.Tiles.idx_val, Layout.Tiles.idx_val]
  rfl

end Whole

/-! ## Buffers cut among the devices -/

section Logic

variable {nD : Nat} {τ : Topo} {sig : RefSig} {n K : Nat} {Val : EltTy → Type} {U : Type} [URA U]

local notation "𝕄" => MT nD τ sig Unit Val ℕ U ℕ

/-- A buffer is its blocks. -/
theorem cut_blocks {ℓ : Loc nD τ sig} {I J : Dev 8 → Finset (Idx ℓ)} (hI : IsCut I) (hJ : ∀ p, J p = I p) (f : Buf Val ℓ) :
    (ℓ ↦{fullShare} f : sProp 𝕄) = bigSep Finset.univ fun p : Dev 8 => ℓ ↦[J p]{fullShare} f :=
  (cut I hI.disjoint hI.cover fullShare f).trans
    (bigSep_congr fun p _ => congrArg (fun I => (ℓ ↦[I]{fullShare} f : sProp 𝕄)) (hJ p).symm)

/-- The share at which each of eight devices is lent the whole of a buffer. -/
def eighth (p : Dev 8) : PosShare TreeShare := ShareLeaves.leaf 3 fullShare p

/-- A buffer is eight loans of it. -/
theorem cut_shares {ℓ : Loc nD τ sig} {J : Dev 8 → Finset (Idx ℓ)} (hJ : ∀ p, J p = Finset.univ) (f : Buf Val ℓ) :
    (ℓ ↦{fullShare} f : sProp 𝕄) = bigSep Finset.univ fun p : Dev 8 => ℓ ↦[J p]{eighth p} f :=
  (ShareLeaves.pointsTo_leaves Finset.univ f 3 fullShare).trans
    (bigSep_congr fun p _ => congrArg (fun I => (ℓ ↦[I]{eighth p} f : sProp 𝕄)) (hJ p).symm)

/-- Slots at what the launch left in them are slots at some contents. -/
theorem some_slots (P : Plan 8 τ sig n K) (m : (ℓ : Loc 8 τ sig) → Buf Val ℓ) (c : Dev 8) (j : Fin n) :
    (bigSep Finset.univ fun p : Dev 8 => dstPts P j p c (m ((P.dst j p).view.loc (c.tc : Thread 8 τ))) : sProp (MT 8 τ sig Unit Val ℕ U ℕ))
      ⊢ bigSep Finset.univ fun p : Dev 8 => iprop(∃ f, dstPts P j p c f) := by
  refine bigSep_mono fun p _ => ?_
  have he : (dstPts P j p c (m ((P.dst j p).view.loc (c.tc : Thread 8 τ))) : sProp (MT 8 τ sig Unit Val ℕ U ℕ)) ⊢ iprop(∃ f, dstPts P j p c f) := by
    iintro H; iexists _; iexact H
  exact he

end Logic

end Cert.Exchange

end
-- ==== Proof.GatherFfn.lean ====
/-
# The gather of a layer's feed-forward weights

Each of three arrays lies in eight blocks of 384 rows, one per device. Every device sends its block to every other, and each
ends with the whole of all three.
-/
module

public import proofs.«01_k».proof.Proof.Blocks
public import proofs.«01_k».proof.Proof.Gen.GatherFfnIdeal.Launch

@[expose] public section

noncomputable section

namespace Cert.GatherFfnIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.GatherFfnIdeal.Gen

set_option Elab.async false

variable {F : FTy → Type} [FloatOps F]

local notation "𝕄" => MT nD τ sig Unit (Elt F) ℕ (UU nD τ sig) ℕ

/-! ## The buffers -/

theorem dst0_inb : ∀ (p : Dev 8) (a), (![384 * p.val, 0] : Fin 2 → Nat) a + S384x1024.size a ≤ S3072x1024.size a := by decide +kernel
theorem dst0_words : ∀ p : Dev 8, (rowBlock (R := 3072) (r := 384) (C := 1024) dst0_inb p).WholeWords (EltTy.packing .bf16) := by decide +kernel

/-- What a device sends of `main_arg0`: the whole of it, to every device. -/
def src0 (_ : Dev 8) : Memref sig .tc .hbm S384x1024 .bf16 := Memref.whole main_arg0

/-- The rows of `main_v1_0` kept for what device `p` sends. -/
def dst0 (p : Dev 8) : Memref sig .tc .hbm S384x1024 .bf16 :=
  (Memref.whole main_v1_0).slice (rowBlock (R := 3072) (r := 384) (C := 1024) dst0_inb p) (fun _ => rfl)

/-- What a device sends of `main_arg1`: the whole of it, to every device. -/
def src1 (_ : Dev 8) : Memref sig .tc .hbm S384x1024 .bf16 := Memref.whole main_arg1

/-- The rows of `main_v1_1` kept for what device `p` sends. -/
def dst1 (p : Dev 8) : Memref sig .tc .hbm S384x1024 .bf16 :=
  (Memref.whole main_v1_1).slice (rowBlock (R := 3072) (r := 384) (C := 1024) dst0_inb p) (fun _ => rfl)

/-- What a device sends of `main_arg2`: the whole of it, to every device. -/
def src2 (_ : Dev 8) : Memref sig .tc .hbm S384x1024 .bf16 := Memref.whole main_arg2

/-- The rows of `main_v1_2` kept for what device `p` sends. -/
def dst2 (p : Dev 8) : Memref sig .tc .hbm S384x1024 .bf16 :=
  (Memref.whole main_v1_2).slice (rowBlock (R := 3072) (r := 384) (C := 1024) dst0_inb p) (fun _ => rfl)

/-- The shapes of what is sent. -/
def shape : Fin 3 → Shape
  | 0 | 1 | 2 => S384x1024

/-- What is sent, buffer by buffer. -/
def src : (j : Fin 3) → Dev 8 → Memref sig .tc .hbm (shape j) .bf16
  | 0 => src0
  | 1 => src1
  | 2 => src2

/-- Where it lands. -/
def dst : (j : Fin 3) → Dev 8 → Memref sig .tc .hbm (shape j) .bf16
  | 0 => dst0
  | 1 => dst1
  | 2 => dst2

/-- The exchange. -/
def plan : Plan nD τ sig 3 7 where
  peer := peer
  peer_peer := peer_peer
  around := around
  around_none _ := rfl
  around_some _ _ := rfl
  routes := by decide +kernel
  S := shape
  e _ := .bf16
  src := src
  dst := dst
  srcExact j p := by
    match j with
    | 0 => exact (Memref.isWhole_whole main_arg0).wordExact
    | 1 => exact (Memref.isWhole_whole main_arg1).wordExact
    | 2 => exact (Memref.isWhole_whole main_arg2).wordExact
  dstExact j p := by
    match j with
    | 0 => exact (Memref.isWhole_whole main_v1_0).wordExact_slice rfl _ (dst0_words p)
    | 1 => exact (Memref.isWhole_whole main_v1_1).wordExact_slice rfl _ (dst0_words p)
    | 2 => exact (Memref.isWhole_whole main_v1_2).wordExact_slice rfl _ (dst0_words p)
  dstPlain j p := by
    match j with
    | 0 | 1 | 2 => rfl
  sem x := ⟨semNo x, semNo_lt x⟩
  sem_inj _ _ h := semNo_inj (congrArg Fin.val h)
  N j := (src j 0).view.dmaCredit
  N_pos j := by
    match j with
    | 0 | 1 | 2 => exact View.dmaCredit_pos _ (by decide)
  credit_src j p := by
    match j with
    | 0 | 1 | 2 => rfl
  credit_dst j p := by
    match j with
    | 0 | 1 | 2 => rfl

/-! ## The printed body is the plan's -/

theorem off1 (c : Dev nD) : k0_off1 c = ![384 * c.val, 0] := by revert c; decide +kernel
theorem off2 : ∀ (c : Dev nD) (k : Fin 7), k0_off2 c (k0_off2_at k).1 (k0_off2_at k).2.1 (k0_off2_at k).2.2 = ![384 * (peer k c).val, 0] := by
  decide +kernel

theorem dst_own {κ : Kind} {sp : Space} {e : EltTy} (M : Memref sig κ sp S3072x1024 e) (c : Dev nD) (inb) (hs) :
    M.slice (Rect.unit (s := S3072x1024) (k0_off1 c) S384x1024.size inb) hs
      = M.slice (rowBlock (R := 3072) (r := 384) (C := 1024) dst0_inb c) (fun _ => rfl) :=
  slice_at M (off1 c) _ _ _ (fun _ => rfl)

theorem dst_peer {κ : Kind} {sp : Space} {e : EltTy} (M : Memref sig κ sp S3072x1024 e) (k : Fin 7) (c : Dev nD) (inb) (hs) :
    M.slice (Rect.unit (s := S3072x1024) (k0_off2 c (k0_off2_at k).1 (k0_off2_at k).2.1 (k0_off2_at k).2.2) S384x1024.size inb) hs
      = M.slice (rowBlock (R := 3072) (r := 384) (C := 1024) dst0_inb (peer k c)) (fun _ => rfl) :=
  slice_at M (off2 c k) _ _ _ (fun _ => rfl)

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel
theorem dev8 : ∀ c h, (⟨k0_dev8 c, h⟩ : Dev nD) = plan.peer 0 c := by decide +kernel
theorem dev9 : ∀ c h, (⟨k0_dev9 c, h⟩ : Dev nD) = plan.peer 1 c := by decide +kernel
theorem dev10 : ∀ c h, (⟨k0_dev10 c, h⟩ : Dev nD) = plan.peer 2 c := by decide +kernel
theorem dev11 : ∀ c h, (⟨k0_dev11 c, h⟩ : Dev nD) = plan.peer 3 c := by decide +kernel
theorem dev12 : ∀ c h, (⟨k0_dev12 c, h⟩ : Dev nD) = plan.peer 4 c := by decide +kernel
theorem dev13 : ∀ c h, (⟨k0_dev13 c, h⟩ : Dev nD) = plan.peer 5 c := by decide +kernel
theorem dev14 : ∀ c h, (⟨k0_dev14 c, h⟩ : Dev nD) = plan.peer 6 c := by decide +kernel
theorem dev15 : ∀ c h, (⟨k0_dev15 c, h⟩ : Dev nD) = plan.peer 0 c := by decide +kernel
theorem dev16 : ∀ c h, (⟨k0_dev16 c, h⟩ : Dev nD) = plan.peer 1 c := by decide +kernel
theorem dev17 : ∀ c h, (⟨k0_dev17 c, h⟩ : Dev nD) = plan.peer 2 c := by decide +kernel
theorem dev18 : ∀ c h, (⟨k0_dev18 c, h⟩ : Dev nD) = plan.peer 3 c := by decide +kernel
theorem dev19 : ∀ c h, (⟨k0_dev19 c, h⟩ : Dev nD) = plan.peer 4 c := by decide +kernel
theorem dev20 : ∀ c h, (⟨k0_dev20 c, h⟩ : Dev nD) = plan.peer 5 c := by decide +kernel
theorem dev21 : ∀ c h, (⟨k0_dev21 c, h⟩ : Dev nD) = plan.peer 6 c := by decide +kernel

set_option maxRecDepth 65536 in
theorem body_eq : cc0_gather_ffn (F := F) (Memref.whole main_arg0) (Memref.isWhole_whole _) (Memref.whole main_arg1) (Memref.isWhole_whole _) (Memref.whole main_arg2) (Memref.isWhole_whole _) (Memref.whole main_v1_0) (Memref.isWhole_whole _) (Memref.whole main_v1_1) (Memref.isWhole_whole _) (Memref.whole main_v1_2) (Memref.isWhole_whole _)
      cc0_scratch0 cc0_scratch1 cc0_scratch2
    = .op .deviceId fun d => plan.starts d starts3 (plan.waits d waits3 (.ret ⟨⟩)) := by
  refine congrArg (Prog.op _) (funext fun c => ?_)
  refine read_own plan (j := 0) rfl (dst_own _ c _ _) rfl ?_
  refine read_send plan (j := 0) (dev1 c _) rfl (dst_own _ c _ _) rfl rfl ?_
  refine read_send plan (j := 0) (dev2 c _) rfl (dst_own _ c _ _) rfl rfl ?_
  refine read_send plan (j := 0) (dev3 c _) rfl (dst_own _ c _ _) rfl rfl ?_
  refine read_send plan (j := 0) (dev4 c _) rfl (dst_own _ c _ _) rfl rfl ?_
  refine read_send plan (j := 0) (dev5 c _) rfl (dst_own _ c _ _) rfl rfl ?_
  refine read_send plan (j := 0) (dev6 c _) rfl (dst_own _ c _ _) rfl rfl ?_
  refine read_send plan (j := 0) (dev7 c _) rfl (dst_own _ c _ _) rfl rfl ?_
  refine read_own plan (j := 1) rfl (dst_own _ c _ _) rfl ?_
  refine read_send plan (j := 1) (dev8 c _) rfl (dst_own _ c _ _) rfl rfl ?_
  refine read_send plan (j := 1) (dev9 c _) rfl (dst_own _ c _ _) rfl rfl ?_
  refine read_send plan (j := 1) (dev10 c _) rfl (dst_own _ c _ _) rfl rfl ?_
  refine read_send plan (j := 1) (dev11 c _) rfl (dst_own _ c _ _) rfl rfl ?_
  refine read_send plan (j := 1) (dev12 c _) rfl (dst_own _ c _ _) rfl rfl ?_
  refine read_send plan (j := 1) (dev13 c _) rfl (dst_own _ c _ _) rfl rfl ?_
  refine read_send plan (j := 1) (dev14 c _) rfl (dst_own _ c _ _) rfl rfl ?_
  refine read_own plan (j := 2) rfl (dst_own _ c _ _) rfl ?_
  refine read_send plan (j := 2) (dev15 c _) rfl (dst_own _ c _ _) rfl rfl ?_
  refine read_send plan (j := 2) (dev16 c _) rfl (dst_own _ c _ _) rfl rfl ?_
  refine read_send plan (j := 2) (dev17 c _) rfl (dst_own _ c _ _) rfl rfl ?_
  refine read_send plan (j := 2) (dev18 c _) rfl (dst_own _ c _ _) rfl rfl ?_
  refine read_send plan (j := 2) (dev19 c _) rfl (dst_own _ c _ _) rfl rfl ?_
  refine read_send plan (j := 2) (dev20 c _) rfl (dst_own _ c _ _) rfl rfl ?_
  refine read_send plan (j := 2) (dev21 c _) rfl (dst_own _ c _ _) rfl rfl ?_
  refine read_peerWaits plan (j := 0) rfl (dst_peer _ 0 c _ _) rfl rfl ?_
  refine read_peerWaits plan (j := 0) rfl (dst_peer _ 1 c _ _) rfl rfl ?_
  refine read_peerWaits plan (j := 0) rfl (dst_peer _ 2 c _ _) rfl rfl ?_
  refine read_peerWaits plan (j := 0) rfl (dst_peer _ 3 c _ _) rfl rfl ?_
  refine read_peerWaits plan (j := 0) rfl (dst_peer _ 4 c _ _) rfl rfl ?_
  refine read_peerWaits plan (j := 0) rfl (dst_peer _ 5 c _ _) rfl rfl ?_
  refine read_peerWaits plan (j := 0) rfl (dst_peer _ 6 c _ _) rfl rfl ?_
  refine read_ownWait plan (j := 0) rfl (dst_own _ c _ _) rfl ?_
  refine read_peerWaits plan (j := 1) rfl (dst_peer _ 0 c _ _) rfl rfl ?_
  refine read_peerWaits plan (j := 1) rfl (dst_peer _ 1 c _ _) rfl rfl ?_
  refine read_peerWaits plan (j := 1) rfl (dst_peer _ 2 c _ _) rfl rfl ?_
  refine read_peerWaits plan (j := 1) rfl (dst_peer _ 3 c _ _) rfl rfl ?_
  refine read_peerWaits plan (j := 1) rfl (dst_peer _ 4 c _ _) rfl rfl ?_
  refine read_peerWaits plan (j := 1) rfl (dst_peer _ 5 c _ _) rfl rfl ?_
  refine read_peerWaits plan (j := 1) rfl (dst_peer _ 6 c _ _) rfl rfl ?_
  refine read_ownWait plan (j := 1) rfl (dst_own _ c _ _) rfl ?_
  refine read_peerWaits plan (j := 2) rfl (dst_peer _ 0 c _ _) rfl rfl ?_
  refine read_peerWaits plan (j := 2) rfl (dst_peer _ 1 c _ _) rfl rfl ?_
  refine read_peerWaits plan (j := 2) rfl (dst_peer _ 2 c _ _) rfl rfl ?_
  refine read_peerWaits plan (j := 2) rfl (dst_peer _ 3 c _ _) rfl rfl ?_
  refine read_peerWaits plan (j := 2) rfl (dst_peer _ 4 c _ _) rfl rfl ?_
  refine read_peerWaits plan (j := 2) rfl (dst_peer _ 5 c _ _) rfl rfl ?_
  refine read_peerWaits plan (j := 2) rfl (dst_peer _ 6 c _ _) rfl rfl ?_
  refine read_ownWait plan (j := 2) rfl (dst_own _ c _ _) rfl ?_
  rfl

/-! ## What each device starts with -/

theorem src0_set (p : Dev 8) : (plan.src 0 p).view.set = Finset.univ := View.set_whole _
theorem dst0_set (p : Dev 8) : (plan.dst 0 p).view.set = (rowBlock (R := 3072) (r := 384) (C := 1024) dst0_inb p).set := View.set_slice_whole _ _
theorem dst0_cut : IsCut fun p => (rowBlock (R := 3072) (r := 384) (C := 1024) dst0_inb p).set := rows_cut dst0_inb (by decide) (by decide)

theorem src1_set (p : Dev 8) : (plan.src 1 p).view.set = Finset.univ := View.set_whole _
theorem dst1_set (p : Dev 8) : (plan.dst 1 p).view.set = (rowBlock (R := 3072) (r := 384) (C := 1024) dst0_inb p).set := View.set_slice_whole _ _

theorem src2_set (p : Dev 8) : (plan.src 2 p).view.set = Finset.univ := View.set_whole _
theorem dst2_set (p : Dev 8) : (plan.dst 2 p).view.set = (rowBlock (R := 3072) (r := 384) (C := 1024) dst0_inb p).set := View.set_slice_whole _ _

/-- The share each part is lent at: an eighth of its buffer, the whole of which every device is sent. -/
def lent (_ : Fin 3) (p : Dev nD) : PosShare TreeShare := eighth p

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_shares (ℓ := ((c.tc : Thread nD τ).loc main_arg0)) src0_set _

theorem dst0_split : (((c.tc : Thread nD τ).loc main_v1_0) ↦{fullShare} m ((c.tc : Thread nD τ).loc main_v1_0) : sProp 𝕄)
    ⊢ bigSep Finset.univ fun p : Dev 8 => iprop(∃ f, dstPts plan 0 p c f) :=
  (Entails.of_eq (cut_blocks (ℓ := ((c.tc : Thread nD τ).loc main_v1_0)) dst0_cut dst0_set _)).trans (some_slots plan m c 0)

theorem src1_split : (((c.tc : Thread nD τ).loc main_arg1) ↦{fullShare} m ((c.tc : Thread nD τ).loc main_arg1) : sProp 𝕄)
    = bigSep Finset.univ fun p : Dev 8 => srcPts plan (contents plan lent m) 1 p c :=
  cut_shares (ℓ := ((c.tc : Thread nD τ).loc main_arg1)) src1_set _

theorem dst1_split : (((c.tc : Thread nD τ).loc main_v1_1) ↦{fullShare} m ((c.tc : Thread nD τ).loc main_v1_1) : sProp 𝕄)
    ⊢ bigSep Finset.univ fun p : Dev 8 => iprop(∃ f, dstPts plan 1 p c f) :=
  (Entails.of_eq (cut_blocks (ℓ := ((c.tc : Thread nD τ).loc main_v1_1)) dst0_cut dst1_set _)).trans (some_slots plan m c 1)

theorem src2_split : (((c.tc : Thread nD τ).loc main_arg2) ↦{fullShare} m ((c.tc : Thread nD τ).loc main_arg2) : sProp 𝕄)
    = bigSep Finset.univ fun p : Dev 8 => srcPts plan (contents plan lent m) 2 p c :=
  cut_shares (ℓ := ((c.tc : Thread nD τ).loc main_arg2)) src2_set _

theorem dst2_split : (((c.tc : Thread nD τ).loc main_v1_2) ↦{fullShare} m ((c.tc : Thread nD τ).loc main_v1_2) : sProp 𝕄)
    ⊢ bigSep Finset.univ fun p : Dev 8 => iprop(∃ f, dstPts plan 2 p c f) :=
  (Entails.of_eq (cut_blocks (ℓ := ((c.tc : Thread nD τ).loc main_v1_2)) dst0_cut dst2_set _)).trans (some_slots plan m c 2)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = iprop((bigSep Finset.univ fun p : Dev 8 => srcPts plan (contents plan lent m) 0 p c)
        ∗ (bigSep Finset.univ fun p : Dev 8 => srcPts plan (contents plan lent m) 1 p c)
        ∗ (bigSep Finset.univ fun p : Dev 8 => srcPts plan (contents plan lent m) 2 p c)) :=
    bigSep_univ_eq_bigSepL [0, 1, 2] (by decide) (by decide) _
  have hs : (slots plan c : sProp 𝕄)
      = iprop((bigSep Finset.univ fun p : Dev 8 => iprop(∃ f, dstPts plan 0 p c f))
        ∗ (bigSep Finset.univ fun p : Dev 8 => iprop(∃ f, dstPts plan 1 p c f))
        ∗ (bigSep Finset.univ fun p : Dev 8 => iprop(∃ f, dstPts plan 2 p c f))) :=
    bigSep_univ_eq_bigSepL [0, 1, 2] (by decide) (by decide) _
  rw [hsub, unscopedRest0_eq, hp, hs, ← src0_split, ← src1_split, ← src2_split]
  have h0 := dst0_split m c
  have h1 := dst1_split m c
  have h2 := dst2_split m c
  iintro ⟨H0, H1, H2, D0, D1, D2⟩
  isplitl [H0 H1 H2]
  · isplitl [H0]; · iexact H0
    isplitl [H1]; · iexact H1
    iexact H2
  isplitl [D0]; · iapply h0; iexact D0
  isplitl [D1]; · iapply h1; iexact D1
  iapply h2; iexact D2

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders3
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := funext fun i => (h 0 0).1 i (by rw [src0_set]; exact Finset.mem_univ i)

theorem result0 (p : Dev 8) (a : Fin 384) (b : Fin 1024) :
    mem ((c.tc : Thread nD τ).loc main_v1_0) (ix2 ⟨384 * p.val + a.val, block_lt (by decide) p a⟩ b) = m ((Dev.tc (τ := τ) (nD := nD) p : Thread nD τ).loc main_arg0) (ix2 a b) := by
  have hread : mem ((c.tc : Thread nD τ).loc main_v1_0) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix2 ⟨384 * p.val + a.val, block_lt (by decide) p a⟩ b := rowBlock_emb dst0_inb p a b (block_lt (by decide) p a)
  have hr : (plan.src 0 c).view.emb (ix2 a b) = ix2 a b := rfl
  rw [hl, hr] at hread
  exact hread

/-- Over the whole array this is the array itself. -/
theorem whole0 (w : (⟨2, ![3072, 1024]⟩ : Shape).Idx → Elt F .bf16)
    (hx : ∀ p : Dev 8, m ((Dev.tc (τ := τ) (nD := nD) p : Thread nD τ).loc main_arg0) = Layout.block ⟨2, ![384, 1024]⟩ ⟨2, ![3072, 1024]⟩ 0 8 p w) :
    mem ((c.tc : Thread nD τ).loc main_v1_0) = w :=
  rows_gathered (by decide) w (by decide) (fun p => m ((Dev.tc (τ := τ) (nD := nD) p : Thread nD τ).loc main_arg0)) hx _ (result0 h)

theorem kept1 : mem ((c.tc : Thread nD τ).loc main_arg1) = m ((c.tc : Thread nD τ).loc main_arg1) := funext fun i => (h 1 0).1 i (by rw [src1_set]; exact Finset.mem_univ i)

theorem result1 (p : Dev 8) (a : Fin 384) (b : Fin 1024) :
    mem ((c.tc : Thread nD τ).loc main_v1_1) (ix2 ⟨384 * p.val + a.val, block_lt (by decide) p a⟩ b) = m ((Dev.tc (τ := τ) (nD := nD) p : Thread nD τ).loc main_arg1) (ix2 a b) := by
  have hread : mem ((c.tc : Thread nD τ).loc main_v1_1) ((plan.dst 1 p).view.emb (ix2 a b))
      = m ((Dev.tc (τ := τ) (nD := nD) p : Thread nD τ).loc main_arg1) ((plan.src 1 c).view.emb (ix2 a b)) := congrFun (h 1 p).2 (ix2 a b)
  have hl : (plan.dst 1 p).view.emb (ix2 a b) = ix2 ⟨384 * p.val + a.val, block_lt (by decide) p a⟩ b := rowBlock_emb dst0_inb p a b (block_lt (by decide) p a)
  have hr : (plan.src 1 c).view.emb (ix2 a b) = ix2 a b := rfl
  rw [hl, hr] at hread
  exact hread

/-- Over the whole array this is the array itself. -/
theorem whole1 (w : (⟨2, ![3072, 1024]⟩ : Shape).Idx → Elt F .bf16)
    (hx : ∀ p : Dev 8, m ((Dev.tc (τ := τ) (nD := nD) p : Thread nD τ).loc main_arg1) = Layout.block ⟨2, ![384, 1024]⟩ ⟨2, ![3072, 1024]⟩ 0 8 p w) :
    mem ((c.tc : Thread nD τ).loc main_v1_1) = w :=
  rows_gathered (by decide) w (by decide) (fun p => m ((Dev.tc (τ := τ) (nD := nD) p : Thread nD τ).loc main_arg1)) hx _ (result1 h)

theorem kept2 : mem ((c.tc : Thread nD τ).loc main_arg2) = m ((c.tc : Thread nD τ).loc main_arg2) := funext fun i => (h 2 0).1 i (by rw [src2_set]; exact Finset.mem_univ i)

theorem result2 (p : Dev 8) (a : Fin 384) (b : Fin 1024) :
    mem ((c.tc : Thread nD τ).loc main_v1_2) (ix2 ⟨384 * p.val + a.val, block_lt (by decide) p a⟩ b) = m ((Dev.tc (τ := τ) (nD := nD) p : Thread nD τ).loc main_arg2) (ix2 a b) := by
  have hread : mem ((c.tc : Thread nD τ).loc main_v1_2) ((plan.dst 2 p).view.emb (ix2 a b))
      = m ((Dev.tc (τ := τ) (nD := nD) p : Thread nD τ).loc main_arg2) ((plan.src 2 c).view.emb (ix2 a b)) := congrFun (h 2 p).2 (ix2 a b)
  have hl : (plan.dst 2 p).view.emb (ix2 a b) = ix2 ⟨384 * p.val + a.val, block_lt (by decide) p a⟩ b := rowBlock_emb dst0_inb p a b (block_lt (by decide) p a)
  have hr : (plan.src 2 c).view.emb (ix2 a b) = ix2 a b := rfl
  rw [hl, hr] at hread
  exact hread

/-- Over the whole array this is the array itself. -/
theorem whole2 (w : (⟨2, ![3072, 1024]⟩ : Shape).Idx → Elt F .bf16)
    (hx : ∀ p : Dev 8, m ((Dev.tc (τ := τ) (nD := nD) p : Thread nD τ).loc main_arg2) = Layout.block ⟨2, ![384, 1024]⟩ ⟨2, ![3072, 1024]⟩ 0 8 p w) :
    mem ((c.tc : Thread nD τ).loc main_v1_2) = w :=
  rows_gathered (by decide) w (by decide) (fun p => m ((Dev.tc (τ := τ) (nD := nD) p : Thread nD τ).loc main_arg2)) hx _ (result2 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run _ _ _).mono (fun _ h => ⟨fun c => ⟨h.1 c, ⟨kept0 (h.1 c), kept1 (h.1 c), kept2 (h.1 c)⟩⟩, h.2⟩) (run_settled m g)

end Cert.GatherFfnIdeal.Move

end
-- ==== Proof.ScatterEven.lean ====
/-
# The scatter of an even layer's mixing gradients

Device `p` is sent rows `128 p` to `128 p + 127` of one array of every device and columns `384 p` to `384 p + 383` of another,
and stacks what it is sent.
-/
module

public import proofs.«01_k».proof.Proof.Blocks
public import proofs.«01_k».proof.Proof.Gen.ScatterEvenIdeal.Launch

@[expose] public section

noncomputable section

namespace Cert.ScatterEvenIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.ScatterEvenIdeal.Gen

set_option Elab.async false

variable {F : FTy → Type} [FloatOps F]

local notation "𝕄" => MT nD τ sig Unit (Elt F) ℕ (UU nD τ sig) ℕ

/-! ## The buffers -/

theorem src0_inb : ∀ (p : Dev 8) (a), (![128 * p.val, 0] : Fin 2 → Nat) a + S128x1024.size a ≤ S1024x1024.size a := by decide +kernel
theorem src0_words : ∀ p : Dev 8, (rowBlock (R := 1024) (r := 128) (C := 1024) src0_inb p).WholeWords (EltTy.packing .bf16) := by decide +kernel
theorem dst0_inb : ∀ (p : Dev 8) (a), (![p.val, 0, 0] : Fin 3 → Nat) a + S1x128x1024.size a ≤ S8x128x1024.size a := by decide +kernel
theorem dst0_words : ∀ p : Dev 8, (slotBlock (r := 128) (C := 1024) dst0_inb p).WholeWords (EltTy.packing .bf16) := by decide +kernel

/-- The rows of `main_arg0` meant for device `p`. -/
def src0 (p : Dev 8) : Memref sig .tc .hbm S128x1024 .bf16 :=
  (Memref.whole main_arg0).slice (rowBlock (R := 1024) (r := 128) (C := 1024) src0_inb p) (fun _ => rfl)

/-- The slot of `main_v1_0` kept for what device `p` sends. -/
def dst0 (p : Dev 8) : Memref sig .tc .hbm S128x1024 .bf16 :=
  ((Memref.whole main_v1_0).slice (slotBlock (r := 128) (C := 1024) dst0_inb p) (fun _ => rfl)).squeeze S128x1024 squeezes_S1x128x1024_S128x1024

theorem src1_inb : ∀ (p : Dev 8) (a), (![0, 384 * p.val] : Fin 2 → Nat) a + S1024x384.size a ≤ S1024x3072.size a := by decide +kernel
theorem src1_words : ∀ p : Dev 8, (colBlock (R := 1024) (C := 3072) (n := 384) src1_inb p).WholeWords (EltTy.packing .bf16) := by decide +kernel
theorem dst1_inb : ∀ (p : Dev 8) (a), (![p.val, 0, 0] : Fin 3 → Nat) a + S1x1024x384.size a ≤ S8x1024x384.size a := by decide +kernel
theorem dst1_words : ∀ p : Dev 8, (slotBlock (r := 1024) (C := 384) dst1_inb p).WholeWords (EltTy.packing .bf16) := by decide +kernel

/-- The columns of `main_arg1` meant for device `p`. -/
def src1 (p : Dev 8) : Memref sig .tc .hbm S1024x384 .bf16 :=
  (Memref.whole main_arg1).slice (colBlock (R := 1024) (C := 3072) (n := 384) src1_inb p) (fun _ => rfl)

/-- The slot of `main_v1_1` kept for what device `p` sends. -/
def dst1 (p : Dev 8) : Memref sig .tc .hbm S1024x384 .bf16 :=
  ((Memref.whole main_v1_1).slice (slotBlock (r := 1024) (C := 384) dst1_inb p) (fun _ => rfl)).squeeze S1024x384 squeezes_S1x1024x384_S1024x384

/-- The shapes of what is sent. -/
def shape : Fin 2 → Shape
  | 0 => S128x1024
  | 1 => S1024x384

/-- What is sent, buffer by buffer. -/
def src : (j : Fin 2) → Dev 8 → Memref sig .tc .hbm (shape j) .bf16
  | 0 => src0
  | 1 => src1

/-- Where it lands. -/
def dst : (j : Fin 2) → Dev 8 → Memref sig .tc .hbm (shape j) .bf16
  | 0 => dst0
  | 1 => dst1

/-- The exchange. -/
def plan : Plan nD τ sig 2 7 where
  peer := peer
  peer_peer := peer_peer
  around := around
  around_none _ := rfl
  around_some _ _ := rfl
  routes := by decide +kernel
  S := shape
  e _ := .bf16
  src := src
  dst := dst
  srcExact j p := by
    match j with
    | 0 => exact (Memref.isWhole_whole main_arg0).wordExact_slice rfl _ (src0_words p)
    | 1 => exact (Memref.isWhole_whole main_arg1).wordExact_slice rfl _ (src1_words p)
  dstExact j p := by
    match j with
    | 0 => exact ((Memref.isWhole_whole main_v1_0).wordExact_slice rfl _ (dst0_words p)).reshape _ _
    | 1 => exact ((Memref.isWhole_whole main_v1_1).wordExact_slice rfl _ (dst1_words p)).reshape _ _
  dstPlain j p := by
    match j with
    | 0 | 1 => rfl
  sem x := ⟨semNo x, semNo_lt x⟩
  sem_inj _ _ h := semNo_inj (congrArg Fin.val h)
  N j := (src j 0).view.dmaCredit
  N_pos j := by
    match j with
    | 0 | 1 => exact View.dmaCredit_pos _ (by decide)
  credit_src j p := by
    match j with
    | 0 | 1 => rfl
  credit_dst j p := by
    match j with
    | 0 | 1 => rfl

/-! ## The printed body is the plan's -/

theorem off2 (c : Dev nD) : k0_off2 c = ![128 * c.val, 0] := by revert c; decide +kernel
theorem off3 : ∀ (c : Dev nD) (k : Fin 7), k0_off3 c (k0_off3_at k).1 (k0_off3_at k).2.1 (k0_off3_at k).2.2 = ![128 * (peer k c).val, 0] := by
  decide +kernel
theorem off1 (c : Dev nD) : k0_off1 c = ![c.val, 0, 0] := by revert c; decide +kernel
theorem off7 : ∀ (c : Dev nD) (k : Fin 7), k0_off7 c (k0_off7_at k).1 (k0_off7_at k).2.1 (k0_off7_at k).2.2 = ![(peer k c).val, 0, 0] := by
  decide +kernel
theorem off5 (c : Dev nD) : k0_off5 c = ![0, 384 * c.val] := by revert c; decide +kernel
theorem off6 : ∀ (c : Dev nD) (k : Fin 7), k0_off6 c (k0_off6_at k).1 (k0_off6_at k).2.1 (k0_off6_at k).2.2 = ![0, 384 * (peer k c).val] := by
  decide +kernel
theorem off4 (c : Dev nD) : k0_off4 c = ![c.val, 0, 0] := by revert c; decide +kernel
theorem off8 : ∀ (c : Dev nD) (k : Fin 7), k0_off8 c (k0_off8_at k).1 (k0_off8_at k).2.1 (k0_off8_at k).2.2 = ![(peer k c).val, 0, 0] := by
  decide +kernel

theorem src0_own (c : Dev nD) (inb) (hs) :
    (Memref.whole main_arg0).slice (Rect.unit (s := S1024x1024) (k0_off2 c) S128x1024.size inb) hs
      = plan.src 0 c :=
  slice_at (Memref.whole main_arg0) (off2 c) _ _ _ (fun _ => rfl)

theorem src0_peer (k : Fin 7) (c : Dev nD) (inb) (hs) :
    (Memref.whole main_arg0).slice (Rect.unit (s := S1024x1024) (k0_off3 c (k0_off3_at k).1 (k0_off3_at k).2.1 (k0_off3_at k).2.2) S128x1024.size inb) hs
      = plan.src 0 (plan.peer k c) :=
  slice_at (Memref.whole main_arg0) (off3 c k) _ _ _ (fun _ => rfl)

theorem dst0_own (c : Dev nD) (inb) (hs) :
    ((Memref.whole main_v1_0).slice (Rect.unit (s := S8x128x1024) (k0_off1 c) S1x128x1024.size inb) hs).squeeze S128x1024 squeezes_S1x128x1024_S128x1024
      = plan.dst 0 c :=
  congrArg (fun M : Memref sig .tc .hbm S1x128x1024 .bf16 => M.squeeze S128x1024 squeezes_S1x128x1024_S128x1024)
    (slice_at (Memref.whole main_v1_0) (off1 c) _ _ _ (fun _ => rfl))

theorem dst0_peer (k : Fin 7) (c : Dev nD) (inb) (hs) :
    ((Memref.whole main_v1_0).slice (Rect.unit (s := S8x128x1024) (k0_off7 c (k0_off7_at k).1 (k0_off7_at k).2.1 (k0_off7_at k).2.2) S1x128x1024.size inb) hs).squeeze S128x1024 squeezes_S1x128x1024_S128x1024
      = plan.dst 0 (plan.peer k c) :=
  congrArg (fun M : Memref sig .tc .hbm S1x128x1024 .bf16 => M.squeeze S128x1024 squeezes_S1x128x1024_S128x1024)
    (slice_at (Memref.whole main_v1_0) (off7 c k) _ _ _ (fun _ => rfl))

theorem src1_own (c : Dev nD) (inb) (hs) :
    (Memref.whole main_arg1).slice (Rect.unit (s := S1024x3072) (k0_off5 c) S1024x384.size inb) hs
      = plan.src 1 c :=
  slice_at (Memref.whole main_arg1) (off5 c) _ _ _ (fun _ => rfl)

theorem src1_peer (k : Fin 7) (c : Dev nD) (inb) (hs) :
    (Memref.whole main_arg1).slice (Rect.unit (s := S1024x3072) (k0_off6 c (k0_off6_at k).1 (k0_off6_at k).2.1 (k0_off6_at k).2.2) S1024x384.size inb) hs
      = plan.src 1 (plan.peer k c) :=
  slice_at (Memref.whole main_arg1) (off6 c k) _ _ _ (fun _ => rfl)

theorem dst1_own (c : Dev nD) (inb) (hs) :
    ((Memref.whole main_v1_1).slice (Rect.unit (s := S8x1024x384) (k0_off4 c) S1x1024x384.size inb) hs).squeeze S1024x384 squeezes_S1x1024x384_S1024x384
      = plan.dst 1 c :=
  congrArg (fun M : Memref sig .tc .hbm S1x1024x384 .bf16 => M.squeeze S1024x384 squeezes_S1x1024x384_S1024x384)
    (slice_at (Memref.whole main_v1_1) (off4 c) _ _ _ (fun _ => rfl))

theorem dst1_peer (k : Fin 7) (c : Dev nD) (inb) (hs) :
    ((Memref.whole main_v1_1).slice (Rect.unit (s := S8x1024x384) (k0_off8 c (k0_off8_at k).1 (k0_off8_at k).2.1 (k0_off8_at k).2.2) S1x1024x384.size inb) hs).squeeze S1024x384 squeezes_S1x1024x384_S1024x384
      = plan.dst 1 (plan.peer k c) :=
  congrArg (fun M : Memref sig .tc .hbm S1x1024x384 .bf16 => M.squeeze S1024x384 squeezes_S1x1024x384_S1024x384)
    (slice_at (Memref.whole main_v1_1) (off8 c k) _ _ _ (fun _ => rfl))

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel
theorem dev8 : ∀ c h, (⟨k0_dev8 c, h⟩ : Dev nD) = plan.peer 0 c := by decide +kernel
theorem dev9 : ∀ c h, (⟨k0_dev9 c, h⟩ : Dev nD) = plan.peer 1 c := by decide +kernel
theorem dev10 : ∀ c h, (⟨k0_dev10 c, h⟩ : Dev nD) = plan.peer 2 c := by decide +kernel
theorem dev11 : ∀ c h, (⟨k0_dev11 c, h⟩ : Dev nD) = plan.peer 3 c := by decide +kernel
theorem dev12 : ∀ c h, (⟨k0_dev12 c, h⟩ : Dev nD) = plan.peer 4 c := by decide +kernel
theorem dev13 : ∀ c h, (⟨k0_dev13 c, h⟩ : Dev nD) = plan.peer 5 c := by decide +kernel
theorem dev14 : ∀ c h, (⟨k0_dev14 c, h⟩ : Dev nD) = plan.peer 6 c := by decide +kernel

set_option maxRecDepth 65536 in
theorem body_eq : cc0_scatter_mix (F := F) (Memref.whole main_arg0) (Memref.isWhole_whole _) (Memref.whole main_arg1) (Memref.isWhole_whole _) (Memref.whole main_v1_0) (Memref.isWhole_whole _) (Memref.whole main_v1_1) (Memref.isWhole_whole _)
      cc0_scratch0 cc0_scratch1 cc0_scratch2
    = .op .deviceId fun d => plan.starts d starts2 (plan.waits d waits2 (.ret ⟨⟩)) := by
  refine congrArg (Prog.op _) (funext fun c => ?_)
  refine read_own plan (j := 0) (src0_own c _ _) (dst0_own c _ _) rfl ?_
  refine read_send plan (j := 0) (dev1 c _) (src0_peer 0 c _ _) (dst0_own c _ _) rfl rfl ?_
  refine read_send plan (j := 0) (dev2 c _) (src0_peer 1 c _ _) (dst0_own c _ _) rfl rfl ?_
  refine read_send plan (j := 0) (dev3 c _) (src0_peer 2 c _ _) (dst0_own c _ _) rfl rfl ?_
  refine read_send plan (j := 0) (dev4 c _) (src0_peer 3 c _ _) (dst0_own c _ _) rfl rfl ?_
  refine read_send plan (j := 0) (dev5 c _) (src0_peer 4 c _ _) (dst0_own c _ _) rfl rfl ?_
  refine read_send plan (j := 0) (dev6 c _) (src0_peer 5 c _ _) (dst0_own c _ _) rfl rfl ?_
  refine read_send plan (j := 0) (dev7 c _) (src0_peer 6 c _ _) (dst0_own c _ _) rfl rfl ?_
  refine read_own plan (j := 1) (src1_own c _ _) (dst1_own c _ _) rfl ?_
  refine read_send plan (j := 1) (dev8 c _) (src1_peer 0 c _ _) (dst1_own c _ _) rfl rfl ?_
  refine read_send plan (j := 1) (dev9 c _) (src1_peer 1 c _ _) (dst1_own c _ _) rfl rfl ?_
  refine read_send plan (j := 1) (dev10 c _) (src1_peer 2 c _ _) (dst1_own c _ _) rfl rfl ?_
  refine read_send plan (j := 1) (dev11 c _) (src1_peer 3 c _ _) (dst1_own c _ _) rfl rfl ?_
  refine read_send plan (j := 1) (dev12 c _) (src1_peer 4 c _ _) (dst1_own c _ _) rfl rfl ?_
  refine read_send plan (j := 1) (dev13 c _) (src1_peer 5 c _ _) (dst1_own c _ _) rfl rfl ?_
  refine read_send plan (j := 1) (dev14 c _) (src1_peer 6 c _ _) (dst1_own c _ _) rfl rfl ?_
  refine read_peerWaits plan (j := 0) (src0_peer 0 c _ _) (dst0_peer 0 c _ _) rfl rfl ?_
  refine read_peerWaits plan (j := 0) (src0_peer 1 c _ _) (dst0_peer 1 c _ _) rfl rfl ?_
  refine read_peerWaits plan (j := 0) (src0_peer 2 c _ _) (dst0_peer 2 c _ _) rfl rfl ?_
  refine read_peerWaits plan (j := 0) (src0_peer 3 c _ _) (dst0_peer 3 c _ _) rfl rfl ?_
  refine read_peerWaits plan (j := 0) (src0_peer 4 c _ _) (dst0_peer 4 c _ _) rfl rfl ?_
  refine read_peerWaits plan (j := 0) (src0_peer 5 c _ _) (dst0_peer 5 c _ _) rfl rfl ?_
  refine read_peerWaits plan (j := 0) (src0_peer 6 c _ _) (dst0_peer 6 c _ _) rfl rfl ?_
  refine read_ownWait plan (j := 0) (src0_own c _ _) (dst0_own c _ _) rfl ?_
  refine read_peerWaits plan (j := 1) (src1_peer 0 c _ _) (dst1_peer 0 c _ _) rfl rfl ?_
  refine read_peerWaits plan (j := 1) (src1_peer 1 c _ _) (dst1_peer 1 c _ _) rfl rfl ?_
  refine read_peerWaits plan (j := 1) (src1_peer 2 c _ _) (dst1_peer 2 c _ _) rfl rfl ?_
  refine read_peerWaits plan (j := 1) (src1_peer 3 c _ _) (dst1_peer 3 c _ _) rfl rfl ?_
  refine read_peerWaits plan (j := 1) (src1_peer 4 c _ _) (dst1_peer 4 c _ _) rfl rfl ?_
  refine read_peerWaits plan (j := 1) (src1_peer 5 c _ _) (dst1_peer 5 c _ _) rfl rfl ?_
  refine read_peerWaits plan (j := 1) (src1_peer 6 c _ _) (dst1_peer 6 c _ _) rfl rfl ?_
  refine read_ownWait plan (j := 1) (src1_own c _ _) (dst1_own c _ _) rfl ?_
  rfl

/-! ## What each device starts with -/

theorem src0_set (p : Dev 8) : (plan.src 0 p).view.set = (rowBlock (R := 1024) (r := 128) (C := 1024) src0_inb p).set := View.set_slice_whole _ _
theorem src0_cut : IsCut fun p => (rowBlock (R := 1024) (r := 128) (C := 1024) src0_inb p).set := rows_cut src0_inb (by decide) (by decide)
theorem dst0_set (p : Dev 8) : (plan.dst 0 p).view.set = (slotBlock (r := 128) (C := 1024) dst0_inb p).set := (View.set_reshape _ _).trans (View.set_slice_whole _ _)
theorem dst0_cut : IsCut fun p => (slotBlock (r := 128) (C := 1024) dst0_inb p).set := slots_cut dst0_inb

theorem src1_set (p : Dev 8) : (plan.src 1 p).view.set = (colBlock (R := 1024) (C := 3072) (n := 384) src1_inb p).set := View.set_slice_whole _ _
theorem src1_cut : IsCut fun p => (colBlock (R := 1024) (C := 3072) (n := 384) src1_inb p).set := cols_cut src1_inb (by decide) (by decide)
theorem dst1_set (p : Dev 8) : (plan.dst 1 p).view.set = (slotBlock (r := 1024) (C := 384) dst1_inb p).set := (View.set_reshape _ _).trans (View.set_slice_whole _ _)
theorem dst1_cut : IsCut fun p => (slotBlock (r := 1024) (C := 384) dst1_inb p).set := slots_cut dst1_inb

/-- The share each part is lent at. -/
def lent (_ : Fin 2) (_ : Dev nD) : PosShare TreeShare := fullShare

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_blocks (ℓ := ((c.tc : Thread nD τ).loc main_arg0)) src0_cut src0_set _

theorem dst0_split : (((c.tc : Thread nD τ).loc main_v1_0) ↦{fullShare} m ((c.tc : Thread nD τ).loc main_v1_0) : sProp 𝕄)
    ⊢ bigSep Finset.univ fun p : Dev 8 => iprop(∃ f, dstPts plan 0 p c f) :=
  (Entails.of_eq (cut_blocks (ℓ := ((c.tc : Thread nD τ).loc main_v1_0)) dst0_cut dst0_set _)).trans (some_slots plan m c 0)

theorem src1_split : (((c.tc : Thread nD τ).loc main_arg1) ↦{fullShare} m ((c.tc : Thread nD τ).loc main_arg1) : sProp 𝕄)
    = bigSep Finset.univ fun p : Dev 8 => srcPts plan (contents plan lent m) 1 p c :=
  cut_blocks (ℓ := ((c.tc : Thread nD τ).loc main_arg1)) src1_cut src1_set _

theorem dst1_split : (((c.tc : Thread nD τ).loc main_v1_1) ↦{fullShare} m ((c.tc : Thread nD τ).loc main_v1_1) : sProp 𝕄)
    ⊢ bigSep Finset.univ fun p : Dev 8 => iprop(∃ f, dstPts plan 1 p c f) :=
  (Entails.of_eq (cut_blocks (ℓ := ((c.tc : Thread nD τ).loc main_v1_1)) dst1_cut dst1_set _)).trans (some_slots plan m c 1)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = iprop((bigSep Finset.univ fun p : Dev 8 => srcPts plan (contents plan lent m) 0 p c)
        ∗ (bigSep Finset.univ fun p : Dev 8 => srcPts plan (contents plan lent m) 1 p c)) :=
    bigSep_univ_eq_bigSepL [0, 1] (by decide) (by decide) _
  have hs : (slots plan c : sProp 𝕄)
      = iprop((bigSep Finset.univ fun p : Dev 8 => iprop(∃ f, dstPts plan 0 p c f))
        ∗ (bigSep Finset.univ fun p : Dev 8 => iprop(∃ f, dstPts plan 1 p c f))) :=
    bigSep_univ_eq_bigSepL [0, 1] (by decide) (by decide) _
  rw [hsub, unscopedRest0_eq, hp, hs, ← src0_split, ← src1_split]
  have h0 := dst0_split m c
  have h1 := dst1_split m c
  iintro ⟨H0, H1, D0, D1⟩
  isplitl [H0 H1]
  · isplitl [H0]; · iexact H0
    iexact H1
  isplitl [D0]; · iapply h0; iexact D0
  iapply h1; iexact D1

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders2
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := by
  funext i
  obtain ⟨p, hp⟩ := src0_cut.cover i
  exact (h 0 p).1 i (by rw [src0_set]; exact hp)

theorem result0 (p : Dev 8) (a : Fin 128) (b : Fin 1024) :
    mem ((c.tc : Thread nD τ).loc main_v1_0) (ix3 p a b) = m ((Dev.tc (τ := τ) (nD := nD) p : Thread nD τ).loc main_arg0) (ix2 ⟨128 * c.val + a.val, block_lt (by decide) c a⟩ b) := by
  have hread : mem ((c.tc : Thread nD τ).loc main_v1_0) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix3 p a b := slotBlock_emb dst0_inb p a b _
  have hr : (plan.src 0 c).view.emb (ix2 a b) = ix2 ⟨128 * c.val + a.val, block_lt (by decide) c a⟩ b := rowBlock_emb src0_inb c a b (block_lt (by decide) c a)
  rw [hl, hr] at hread
  exact hread

/-- Over the whole array this is its reshape, block by block. -/
theorem whole0 (w : (⟨2, ![8192, 1024]⟩ : Shape).Idx → Elt F .bf16) (hc : (⟨2, ![8192, 1024]⟩ : Shape).ShapeCasts ⟨3, ![8, 1024, 1024]⟩)
    (hx : ∀ p : Dev 8, m ((Dev.tc (τ := τ) (nD := nD) p : Thread nD τ).loc main_arg0) = Layout.block ⟨2, ![1024, 1024]⟩ ⟨2, ![8192, 1024]⟩ 0 8 p w) :
    mem ((c.tc : Thread nD τ).loc main_v1_0) = Layout.block ⟨3, ![8, 128, 1024]⟩ ⟨3, ![8, 1024, 1024]⟩ 1 8 c (shapeCast _ w hc) :=
  rows_sent (by decide) w hc (by decide) (by decide) c (fun p => m ((Dev.tc (τ := τ) (nD := nD) p : Thread nD τ).loc main_arg0)) hx _ (result0 h)

theorem kept1 : mem ((c.tc : Thread nD τ).loc main_arg1) = m ((c.tc : Thread nD τ).loc main_arg1) := by
  funext i
  obtain ⟨p, hp⟩ := src1_cut.cover i
  exact (h 1 p).1 i (by rw [src1_set]; exact hp)

theorem result1 (p : Dev 8) (a : Fin 1024) (b : Fin 384) :
    mem ((c.tc : Thread nD τ).loc main_v1_1) (ix3 p a b) = m ((Dev.tc (τ := τ) (nD := nD) p : Thread nD τ).loc main_arg1) (ix2 a ⟨384 * c.val + b.val, block_lt (by decide) c b⟩) := by
  have hread : mem ((c.tc : Thread nD τ).loc main_v1_1) ((plan.dst 1 p).view.emb (ix2 a b))
      = m ((Dev.tc (τ := τ) (nD := nD) p : Thread nD τ).loc main_arg1) ((plan.src 1 c).view.emb (ix2 a b)) := congrFun (h 1 p).2 (ix2 a b)
  have hl : (plan.dst 1 p).view.emb (ix2 a b) = ix3 p a b := slotBlock_emb dst1_inb p a b _
  have hr : (plan.src 1 c).view.emb (ix2 a b) = ix2 a ⟨384 * c.val + b.val, block_lt (by decide) c b⟩ := colBlock_emb src1_inb c a b (block_lt (by decide) c b)
  rw [hl, hr] at hread
  exact hread

/-- Over the whole array this is its reshape, block by block. -/
theorem whole1 (w : (⟨2, ![8192, 3072]⟩ : Shape).Idx → Elt F .bf16) (hc : (⟨2, ![8192, 3072]⟩ : Shape).ShapeCasts ⟨3, ![8, 1024, 3072]⟩)
    (hx : ∀ p : Dev 8, m ((Dev.tc (τ := τ) (nD := nD) p : Thread nD τ).loc main_arg1) = Layout.block ⟨2, ![1024, 3072]⟩ ⟨2, ![8192, 3072]⟩ 0 8 p w) :
    mem ((c.tc : Thread nD τ).loc main_v1_1) = Layout.block ⟨3, ![8, 1024, 384]⟩ ⟨3, ![8, 1024, 3072]⟩ 2 8 c (shapeCast _ w hc) :=
  cols_sent (by decide) w hc (by decide) (by decide) c (fun p => m ((Dev.tc (τ := τ) (nD := nD) p : Thread nD τ).loc main_arg1)) hx _ (result1 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun _ h => ⟨fun c => ⟨h.1 c, ⟨kept0 (h.1 c), kept1 (h.1 c)⟩⟩, h.2⟩) (run_settled m g)

end Cert.ScatterEvenIdeal.Move

end
-- ==== Proof.ScatterOdd.lean ====
/-
# The scatter of an odd layer's mixing gradients

Device `p` is sent rows `128 p` to `128 p + 127` of one array of every device and rows `192 p` to `192 p + 191` of another, and
stacks what it is sent.
-/
module

public import proofs.«01_k».proof.Proof.Blocks
public import proofs.«01_k».proof.Proof.Gen.ScatterOddIdeal.Launch

@[expose] public section

noncomputable section

namespace Cert.ScatterOddIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.ScatterOddIdeal.Gen

set_option Elab.async false

variable {F : FTy → Type} [FloatOps F]

local notation "𝕄" => MT nD τ sig Unit (Elt F) ℕ (UU nD τ sig) ℕ

/-! ## The buffers -/

theorem src0_inb : ∀ (p : Dev 8) (a), (![128 * p.val, 0] : Fin 2 → Nat) a + S128x1024.size a ≤ S1024x1024.size a := by decide +kernel
theorem src0_words : ∀ p : Dev 8, (rowBlock (R := 1024) (r := 128) (C := 1024) src0_inb p).WholeWords (EltTy.packing .bf16) := by decide +kernel
theorem dst0_inb : ∀ (p : Dev 8) (a), (![p.val, 0, 0] : Fin 3 → Nat) a + S1x128x1024.size a ≤ S8x128x1024.size a := by decide +kernel
theorem dst0_words : ∀ p : Dev 8, (slotBlock (r := 128) (C := 1024) dst0_inb p).WholeWords (EltTy.packing .bf16) := by decide +kernel

/-- The rows of `main_arg0` meant for device `p`. -/
def src0 (p : Dev 8) : Memref sig .tc .hbm S128x1024 .bf16 :=
  (Memref.whole main_arg0).slice (rowBlock (R := 1024) (r := 128) (C := 1024) src0_inb p) (fun _ => rfl)

/-- The slot of `main_v1_0` kept for what device `p` sends. -/
def dst0 (p : Dev 8) : Memref sig .tc .hbm S128x1024 .bf16 :=
  ((Memref.whole main_v1_0).slice (slotBlock (r := 128) (C := 1024) dst0_inb p) (fun _ => rfl)).squeeze S128x1024 squeezes_S1x128x1024_S128x1024

theorem src1_inb : ∀ (p : Dev 8) (a), (![192 * p.val, 0] : Fin 2 → Nat) a + S192x1024.size a ≤ S1536x1024.size a := by decide +kernel
theorem src1_words : ∀ p : Dev 8, (rowBlock (R := 1536) (r := 192) (C := 1024) src1_inb p).WholeWords (EltTy.packing .bf16) := by decide +kernel
theorem dst1_inb : ∀ (p : Dev 8) (a), (![p.val, 0, 0] : Fin 3 → Nat) a + S1x192x1024.size a ≤ S8x192x1024.size a := by decide +kernel
theorem dst1_words : ∀ p : Dev 8, (slotBlock (r := 192) (C := 1024) dst1_inb p).WholeWords (EltTy.packing .bf16) := by decide +kernel

/-- The rows of `main_arg1` meant for device `p`. -/
def src1 (p : Dev 8) : Memref sig .tc .hbm S192x1024 .bf16 :=
  (Memref.whole main_arg1).slice (rowBlock (R := 1536) (r := 192) (C := 1024) src1_inb p) (fun _ => rfl)

/-- The slot of `main_v1_1` kept for what device `p` sends. -/
def dst1 (p : Dev 8) : Memref sig .tc .hbm S192x1024 .bf16 :=
  ((Memref.whole main_v1_1).slice (slotBlock (r := 192) (C := 1024) dst1_inb p) (fun _ => rfl)).squeeze S192x1024 squeezes_S1x192x1024_S192x1024

/-- The shapes of what is sent. -/
def shape : Fin 2 → Shape
  | 0 => S128x1024
  | 1 => S192x1024

/-- What is sent, buffer by buffer. -/
def src : (j : Fin 2) → Dev 8 → Memref sig .tc .hbm (shape j) .bf16
  | 0 => src0
  | 1 => src1

/-- Where it lands. -/
def dst : (j : Fin 2) → Dev 8 → Memref sig .tc .hbm (shape j) .bf16
  | 0 => dst0
  | 1 => dst1

/-- The exchange. -/
def plan : Plan nD τ sig 2 7 where
  peer := peer
  peer_peer := peer_peer
  around := around
  around_none _ := rfl
  around_some _ _ := rfl
  routes := by decide +kernel
  S := shape
  e _ := .bf16
  src := src
  dst := dst
  srcExact j p := by
    match j with
    | 0 => exact (Memref.isWhole_whole main_arg0).wordExact_slice rfl _ (src0_words p)
    | 1 => exact (Memref.isWhole_whole main_arg1).wordExact_slice rfl _ (src1_words p)
  dstExact j p := by
    match j with
    | 0 => exact ((Memref.isWhole_whole main_v1_0).wordExact_slice rfl _ (dst0_words p)).reshape _ _
    | 1 => exact ((Memref.isWhole_whole main_v1_1).wordExact_slice rfl _ (dst1_words p)).reshape _ _
  dstPlain j p := by
    match j with
    | 0 | 1 => rfl
  sem x := ⟨semNo x, semNo_lt x⟩
  sem_inj _ _ h := semNo_inj (congrArg Fin.val h)
  N j := (src j 0).view.dmaCredit
  N_pos j := by
    match j with
    | 0 | 1 => exact View.dmaCredit_pos _ (by decide)
  credit_src j p := by
    match j with
    | 0 | 1 => rfl
  credit_dst j p := by
    match j with
    | 0 | 1 => rfl

/-! ## The printed body is the plan's -/

theorem off2 (c : Dev nD) : k0_off2 c = ![128 * c.val, 0] := by revert c; decide +kernel
theorem off3 : ∀ (c : Dev nD) (k : Fin 7), k0_off3 c (k0_off3_at k).1 (k0_off3_at k).2.1 (k0_off3_at k).2.2 = ![128 * (peer k c).val, 0] := by
  decide +kernel
theorem off1 (c : Dev nD) : k0_off1 c = ![c.val, 0, 0] := by revert c; decide +kernel
theorem off7 : ∀ (c : Dev nD) (k : Fin 7), k0_off7 c (k0_off7_at k).1 (k0_off7_at k).2.1 (k0_off7_at k).2.2 = ![(peer k c).val, 0, 0] := by
  decide +kernel
theorem off5 (c : Dev nD) : k0_off5 c = ![192 * c.val, 0] := by revert c; decide +kernel
theorem off6 : ∀ (c : Dev nD) (k : Fin 7), k0_off6 c (k0_off6_at k).1 (k0_off6_at k).2.1 (k0_off6_at k).2.2 = ![192 * (peer k c).val, 0] := by
  decide +kernel
theorem off4 (c : Dev nD) : k0_off4 c = ![c.val, 0, 0] := by revert c; decide +kernel
theorem off8 : ∀ (c : Dev nD) (k : Fin 7), k0_off8 c (k0_off8_at k).1 (k0_off8_at k).2.1 (k0_off8_at k).2.2 = ![(peer k c).val, 0, 0] := by
  decide +kernel

theorem src0_own (c : Dev nD) (inb) (hs) :
    (Memref.whole main_arg0).slice (Rect.unit (s := S1024x1024) (k0_off2 c) S128x1024.size inb) hs
      = plan.src 0 c :=
  slice_at (Memref.whole main_arg0) (off2 c) _ _ _ (fun _ => rfl)

theorem src0_peer (k : Fin 7) (c : Dev nD) (inb) (hs) :
    (Memref.whole main_arg0).slice (Rect.unit (s := S1024x1024) (k0_off3 c (k0_off3_at k).1 (k0_off3_at k).2.1 (k0_off3_at k).2.2) S128x1024.size inb) hs
      = plan.src 0 (plan.peer k c) :=
  slice_at (Memref.whole main_arg0) (off3 c k) _ _ _ (fun _ => rfl)

theorem dst0_own (c : Dev nD) (inb) (hs) :
    ((Memref.whole main_v1_0).slice (Rect.unit (s := S8x128x1024) (k0_off1 c) S1x128x1024.size inb) hs).squeeze S128x1024 squeezes_S1x128x1024_S128x1024
      = plan.dst 0 c :=
  congrArg (fun M : Memref sig .tc .hbm S1x128x1024 .bf16 => M.squeeze S128x1024 squeezes_S1x128x1024_S128x1024)
    (slice_at (Memref.whole main_v1_0) (off1 c) _ _ _ (fun _ => rfl))

theorem dst0_peer (k : Fin 7) (c : Dev nD) (inb) (hs) :
    ((Memref.whole main_v1_0).slice (Rect.unit (s := S8x128x1024) (k0_off7 c (k0_off7_at k).1 (k0_off7_at k).2.1 (k0_off7_at k).2.2) S1x128x1024.size inb) hs).squeeze S128x1024 squeezes_S1x128x1024_S128x1024
      = plan.dst 0 (plan.peer k c) :=
  congrArg (fun M : Memref sig .tc .hbm S1x128x1024 .bf16 => M.squeeze S128x1024 squeezes_S1x128x1024_S128x1024)
    (slice_at (Memref.whole main_v1_0) (off7 c k) _ _ _ (fun _ => rfl))

theorem src1_own (c : Dev nD) (inb) (hs) :
    (Memref.whole main_arg1).slice (Rect.unit (s := S1536x1024) (k0_off5 c) S192x1024.size inb) hs
      = plan.src 1 c :=
  slice_at (Memref.whole main_arg1) (off5 c) _ _ _ (fun _ => rfl)

theorem src1_peer (k : Fin 7) (c : Dev nD) (inb) (hs) :
    (Memref.whole main_arg1).slice (Rect.unit (s := S1536x1024) (k0_off6 c (k0_off6_at k).1 (k0_off6_at k).2.1 (k0_off6_at k).2.2) S192x1024.size inb) hs
      = plan.src 1 (plan.peer k c) :=
  slice_at (Memref.whole main_arg1) (off6 c k) _ _ _ (fun _ => rfl)

theorem dst1_own (c : Dev nD) (inb) (hs) :
    ((Memref.whole main_v1_1).slice (Rect.unit (s := S8x192x1024) (k0_off4 c) S1x192x1024.size inb) hs).squeeze S192x1024 squeezes_S1x192x1024_S192x1024
      = plan.dst 1 c :=
  congrArg (fun M : Memref sig .tc .hbm S1x192x1024 .bf16 => M.squeeze S192x1024 squeezes_S1x192x1024_S192x1024)
    (slice_at (Memref.whole main_v1_1) (off4 c) _ _ _ (fun _ => rfl))

theorem dst1_peer (k : Fin 7) (c : Dev nD) (inb) (hs) :
    ((Memref.whole main_v1_1).slice (Rect.unit (s := S8x192x1024) (k0_off8 c (k0_off8_at k).1 (k0_off8_at k).2.1 (k0_off8_at k).2.2) S1x192x1024.size inb) hs).squeeze S192x1024 squeezes_S1x192x1024_S192x1024
      = plan.dst 1 (plan.peer k c) :=
  congrArg (fun M : Memref sig .tc .hbm S1x192x1024 .bf16 => M.squeeze S192x1024 squeezes_S1x192x1024_S192x1024)
    (slice_at (Memref.whole main_v1_1) (off8 c k) _ _ _ (fun _ => rfl))

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel
theorem dev8 : ∀ c h, (⟨k0_dev8 c, h⟩ : Dev nD) = plan.peer 0 c := by decide +kernel
theorem dev9 : ∀ c h, (⟨k0_dev9 c, h⟩ : Dev nD) = plan.peer 1 c := by decide +kernel
theorem dev10 : ∀ c h, (⟨k0_dev10 c, h⟩ : Dev nD) = plan.peer 2 c := by decide +kernel
theorem dev11 : ∀ c h, (⟨k0_dev11 c, h⟩ : Dev nD) = plan.peer 3 c := by decide +kernel
theorem dev12 : ∀ c h, (⟨k0_dev12 c, h⟩ : Dev nD) = plan.peer 4 c := by decide +kernel
theorem dev13 : ∀ c h, (⟨k0_dev13 c, h⟩ : Dev nD) = plan.peer 5 c := by decide +kernel
theorem dev14 : ∀ c h, (⟨k0_dev14 c, h⟩ : Dev nD) = plan.peer 6 c := by decide +kernel

set_option maxRecDepth 65536 in
theorem body_eq : cc0_scatter_mix (F := F) (Memref.whole main_arg0) (Memref.isWhole_whole _) (Memref.whole main_arg1) (Memref.isWhole_whole _) (Memref.whole main_v1_0) (Memref.isWhole_whole _) (Memref.whole main_v1_1) (Memref.isWhole_whole _)
      cc0_scratch0 cc0_scratch1 cc0_scratch2
    = .op .deviceId fun d => plan.starts d starts2 (plan.waits d waits2 (.ret ⟨⟩)) := by
  refine congrArg (Prog.op _) (funext fun c => ?_)
  refine read_own plan (j := 0) (src0_own c _ _) (dst0_own c _ _) rfl ?_
  refine read_send plan (j := 0) (dev1 c _) (src0_peer 0 c _ _) (dst0_own c _ _) rfl rfl ?_
  refine read_send plan (j := 0) (dev2 c _) (src0_peer 1 c _ _) (dst0_own c _ _) rfl rfl ?_
  refine read_send plan (j := 0) (dev3 c _) (src0_peer 2 c _ _) (dst0_own c _ _) rfl rfl ?_
  refine read_send plan (j := 0) (dev4 c _) (src0_peer 3 c _ _) (dst0_own c _ _) rfl rfl ?_
  refine read_send plan (j := 0) (dev5 c _) (src0_peer 4 c _ _) (dst0_own c _ _) rfl rfl ?_
  refine read_send plan (j := 0) (dev6 c _) (src0_peer 5 c _ _) (dst0_own c _ _) rfl rfl ?_
  refine read_send plan (j := 0) (dev7 c _) (src0_peer 6 c _ _) (dst0_own c _ _) rfl rfl ?_
  refine read_own plan (j := 1) (src1_own c _ _) (dst1_own c _ _) rfl ?_
  refine read_send plan (j := 1) (dev8 c _) (src1_peer 0 c _ _) (dst1_own c _ _) rfl rfl ?_
  refine read_send plan (j := 1) (dev9 c _) (src1_peer 1 c _ _) (dst1_own c _ _) rfl rfl ?_
  refine read_send plan (j := 1) (dev10 c _) (src1_peer 2 c _ _) (dst1_own c _ _) rfl rfl ?_
  refine read_send plan (j := 1) (dev11 c _) (src1_peer 3 c _ _) (dst1_own c _ _) rfl rfl ?_
  refine read_send plan (j := 1) (dev12 c _) (src1_peer 4 c _ _) (dst1_own c _ _) rfl rfl ?_
  refine read_send plan (j := 1) (dev13 c _) (src1_peer 5 c _ _) (dst1_own c _ _) rfl rfl ?_
  refine read_send plan (j := 1) (dev14 c _) (src1_peer 6 c _ _) (dst1_own c _ _) rfl rfl ?_
  refine read_peerWaits plan (j := 0) (src0_peer 0 c _ _) (dst0_peer 0 c _ _) rfl rfl ?_
  refine read_peerWaits plan (j := 0) (src0_peer 1 c _ _) (dst0_peer 1 c _ _) rfl rfl ?_
  refine read_peerWaits plan (j := 0) (src0_peer 2 c _ _) (dst0_peer 2 c _ _) rfl rfl ?_
  refine read_peerWaits plan (j := 0) (src0_peer 3 c _ _) (dst0_peer 3 c _ _) rfl rfl ?_
  refine read_peerWaits plan (j := 0) (src0_peer 4 c _ _) (dst0_peer 4 c _ _) rfl rfl ?_
  refine read_peerWaits plan (j := 0) (src0_peer 5 c _ _) (dst0_peer 5 c _ _) rfl rfl ?_
  refine read_peerWaits plan (j := 0) (src0_peer 6 c _ _) (dst0_peer 6 c _ _) rfl rfl ?_
  refine read_ownWait plan (j := 0) (src0_own c _ _) (dst0_own c _ _) rfl ?_
  refine read_peerWaits plan (j := 1) (src1_peer 0 c _ _) (dst1_peer 0 c _ _) rfl rfl ?_
  refine read_peerWaits plan (j := 1) (src1_peer 1 c _ _) (dst1_peer 1 c _ _) rfl rfl ?_
  refine read_peerWaits plan (j := 1) (src1_peer 2 c _ _) (dst1_peer 2 c _ _) rfl rfl ?_
  refine read_peerWaits plan (j := 1) (src1_peer 3 c _ _) (dst1_peer 3 c _ _) rfl rfl ?_
  refine read_peerWaits plan (j := 1) (src1_peer 4 c _ _) (dst1_peer 4 c _ _) rfl rfl ?_
  refine read_peerWaits plan (j := 1) (src1_peer 5 c _ _) (dst1_peer 5 c _ _) rfl rfl ?_
  refine read_peerWaits plan (j := 1) (src1_peer 6 c _ _) (dst1_peer 6 c _ _) rfl rfl ?_
  refine read_ownWait plan (j := 1) (src1_own c _ _) (dst1_own c _ _) rfl ?_
  rfl

/-! ## What each device starts with -/

theorem src0_set (p : Dev 8) : (plan.src 0 p).view.set = (rowBlock (R := 1024) (r := 128) (C := 1024) src0_inb p).set := View.set_slice_whole _ _
theorem src0_cut : IsCut fun p => (rowBlock (R := 1024) (r := 128) (C := 1024) src0_inb p).set := rows_cut src0_inb (by decide) (by decide)
theorem dst0_set (p : Dev 8) : (plan.dst 0 p).view.set = (slotBlock (r := 128) (C := 1024) dst0_inb p).set := (View.set_reshape _ _).trans (View.set_slice_whole _ _)
theorem dst0_cut : IsCut fun p => (slotBlock (r := 128) (C := 1024) dst0_inb p).set := slots_cut dst0_inb

theorem src1_set (p : Dev 8) : (plan.src 1 p).view.set = (rowBlock (R := 1536) (r := 192) (C := 1024) src1_inb p).set := View.set_slice_whole _ _
theorem src1_cut : IsCut fun p => (rowBlock (R := 1536) (r := 192) (C := 1024) src1_inb p).set := rows_cut src1_inb (by decide) (by decide)
theorem dst1_set (p : Dev 8) : (plan.dst 1 p).view.set = (slotBlock (r := 192) (C := 1024) dst1_inb p).set := (View.set_reshape _ _).trans (View.set_slice_whole _ _)
theorem dst1_cut : IsCut fun p => (slotBlock (r := 192) (C := 1024) dst1_inb p).set := slots_cut dst1_inb

/-- The share each part is lent at. -/
def lent (_ : Fin 2) (_ : Dev nD) : PosShare TreeShare := fullShare

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_blocks (ℓ := ((c.tc : Thread nD τ).loc main_arg0)) src0_cut src0_set _

theorem dst0_split : (((c.tc : Thread nD τ).loc main_v1_0) ↦{fullShare} m ((c.tc : Thread nD τ).loc main_v1_0) : sProp 𝕄)
    ⊢ bigSep Finset.univ fun p : Dev 8 => iprop(∃ f, dstPts plan 0 p c f) :=
  (Entails.of_eq (cut_blocks (ℓ := ((c.tc : Thread nD τ).loc main_v1_0)) dst0_cut dst0_set _)).trans (some_slots plan m c 0)

theorem src1_split : (((c.tc : Thread nD τ).loc main_arg1) ↦{fullShare} m ((c.tc : Thread nD τ).loc main_arg1) : sProp 𝕄)
    = bigSep Finset.univ fun p : Dev 8 => srcPts plan (contents plan lent m) 1 p c :=
  cut_blocks (ℓ := ((c.tc : Thread nD τ).loc main_arg1)) src1_cut src1_set _

theorem dst1_split : (((c.tc : Thread nD τ).loc main_v1_1) ↦{fullShare} m ((c.tc : Thread nD τ).loc main_v1_1) : sProp 𝕄)
    ⊢ bigSep Finset.univ fun p : Dev 8 => iprop(∃ f, dstPts plan 1 p c f) :=
  (Entails.of_eq (cut_blocks (ℓ := ((c.tc : Thread nD τ).loc main_v1_1)) dst1_cut dst1_set _)).trans (some_slots plan m c 1)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = iprop((bigSep Finset.univ fun p : Dev 8 => srcPts plan (contents plan lent m) 0 p c)
        ∗ (bigSep Finset.univ fun p : Dev 8 => srcPts plan (contents plan lent m) 1 p c)) :=
    bigSep_univ_eq_bigSepL [0, 1] (by decide) (by decide) _
  have hs : (slots plan c : sProp 𝕄)
      = iprop((bigSep Finset.univ fun p : Dev 8 => iprop(∃ f, dstPts plan 0 p c f))
        ∗ (bigSep Finset.univ fun p : Dev 8 => iprop(∃ f, dstPts plan 1 p c f))) :=
    bigSep_univ_eq_bigSepL [0, 1] (by decide) (by decide) _
  rw [hsub, unscopedRest0_eq, hp, hs, ← src0_split, ← src1_split]
  have h0 := dst0_split m c
  have h1 := dst1_split m c
  iintro ⟨H0, H1, D0, D1⟩
  isplitl [H0 H1]
  · isplitl [H0]; · iexact H0
    iexact H1
  isplitl [D0]; · iapply h0; iexact D0
  iapply h1; iexact D1

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders2
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := by
  funext i
  obtain ⟨p, hp⟩ := src0_cut.cover i
  exact (h 0 p).1 i (by rw [src0_set]; exact hp)

theorem result0 (p : Dev 8) (a : Fin 128) (b : Fin 1024) :
    mem ((c.tc : Thread nD τ).loc main_v1_0) (ix3 p a b) = m ((Dev.tc (τ := τ) (nD := nD) p : Thread nD τ).loc main_arg0) (ix2 ⟨128 * c.val + a.val, block_lt (by decide) c a⟩ b) := by
  have hread : mem ((c.tc : Thread nD τ).loc main_v1_0) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix3 p a b := slotBlock_emb dst0_inb p a b _
  have hr : (plan.src 0 c).view.emb (ix2 a b) = ix2 ⟨128 * c.val + a.val, block_lt (by decide) c a⟩ b := rowBlock_emb src0_inb c a b (block_lt (by decide) c a)
  rw [hl, hr] at hread
  exact hread

/-- Over the whole array this is its reshape, block by block. -/
theorem whole0 (w : (⟨2, ![8192, 1024]⟩ : Shape).Idx → Elt F .bf16) (hc : (⟨2, ![8192, 1024]⟩ : Shape).ShapeCasts ⟨3, ![8, 1024, 1024]⟩)
    (hx : ∀ p : Dev 8, m ((Dev.tc (τ := τ) (nD := nD) p : Thread nD τ).loc main_arg0) = Layout.block ⟨2, ![1024, 1024]⟩ ⟨2, ![8192, 1024]⟩ 0 8 p w) :
    mem ((c.tc : Thread nD τ).loc main_v1_0) = Layout.block ⟨3, ![8, 128, 1024]⟩ ⟨3, ![8, 1024, 1024]⟩ 1 8 c (shapeCast _ w hc) :=
  rows_sent (by decide) w hc (by decide) (by decide) c (fun p => m ((Dev.tc (τ := τ) (nD := nD) p : Thread nD τ).loc main_arg0)) hx _ (result0 h)

theorem kept1 : mem ((c.tc : Thread nD τ).loc main_arg1) = m ((c.tc : Thread nD τ).loc main_arg1) := by
  funext i
  obtain ⟨p, hp⟩ := src1_cut.cover i
  exact (h 1 p).1 i (by rw [src1_set]; exact hp)

theorem result1 (p : Dev 8) (a : Fin 192) (b : Fin 1024) :
    mem ((c.tc : Thread nD τ).loc main_v1_1) (ix3 p a b) = m ((Dev.tc (τ := τ) (nD := nD) p : Thread nD τ).loc main_arg1) (ix2 ⟨192 * c.val + a.val, block_lt (by decide) c a⟩ b) := by
  have hread : mem ((c.tc : Thread nD τ).loc main_v1_1) ((plan.dst 1 p).view.emb (ix2 a b))
      = m ((Dev.tc (τ := τ) (nD := nD) p : Thread nD τ).loc main_arg1) ((plan.src 1 c).view.emb (ix2 a b)) := congrFun (h 1 p).2 (ix2 a b)
  have hl : (plan.dst 1 p).view.emb (ix2 a b) = ix3 p a b := slotBlock_emb dst1_inb p a b _
  have hr : (plan.src 1 c).view.emb (ix2 a b) = ix2 ⟨192 * c.val + a.val, block_lt (by decide) c a⟩ b := rowBlock_emb src1_inb c a b (block_lt (by decide) c a)
  rw [hl, hr] at hread
  exact hread

/-- Over the whole array this is its reshape, block by block. -/
theorem whole1 (w : (⟨2, ![12288, 1024]⟩ : Shape).Idx → Elt F .bf16) (hc : (⟨2, ![12288, 1024]⟩ : Shape).ShapeCasts ⟨3, ![8, 1536, 1024]⟩)
    (hx : ∀ p : Dev 8, m ((Dev.tc (τ := τ) (nD := nD) p : Thread nD τ).loc main_arg1) = Layout.block ⟨2, ![1536, 1024]⟩ ⟨2, ![12288, 1024]⟩ 0 8 p w) :
    mem ((c.tc : Thread nD τ).loc main_v1_1) = Layout.block ⟨3, ![8, 192, 1024]⟩ ⟨3, ![8, 1536, 1024]⟩ 1 8 c (shapeCast _ w hc) :=
  rows_sent (by decide) w hc (by decide) (by decide) c (fun p => m ((Dev.tc (τ := τ) (nD := nD) p : Thread nD τ).loc main_arg1)) hx _ (result1 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun _ h => ⟨fun c => ⟨h.1 c, ⟨kept0 (h.1 c), kept1 (h.1 c)⟩⟩, h.2⟩) (run_settled m g)

end Cert.ScatterOddIdeal.Move

end
-- ==== Proof.GatherEven.lean ====
/-
# The gather of an even layer's mixing weights

One array lies in eight blocks of 384 columns, another in eight blocks of 128 rows, one per device. Every device sends its blocks
to every other, and each ends with the whole of both.
-/
module

public import proofs.«01_k».proof.Proof.Blocks
public import proofs.«01_k».proof.Proof.Gen.GatherEvenIdeal.Launch

@[expose] public section

noncomputable section

namespace Cert.GatherEvenIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.GatherEvenIdeal.Gen

set_option Elab.async false

variable {F : FTy → Type} [FloatOps F]

local notation "𝕄" => MT nD τ sig Unit (Elt F) ℕ (UU nD τ sig) ℕ

/-! ## The buffers -/

theorem dst0_inb : ∀ (p : Dev 8) (a), (![0, 384 * p.val] : Fin 2 → Nat) a + S1024x384.size a ≤ S1024x3072.size a := by decide +kernel
theorem dst0_words : ∀ p : Dev 8, (colBlock (R := 1024) (C := 3072) (n := 384) dst0_inb p).WholeWords (EltTy.packing .bf16) := by decide +kernel

/-- What a device sends of `main_arg0`: the whole of it, to every device. -/
def src0 (_ : Dev 8) : Memref sig .tc .hbm S1024x384 .bf16 := Memref.whole main_arg0

/-- The columns of `main_v1_0` kept for what device `p` sends. -/
def dst0 (p : Dev 8) : Memref sig .tc .hbm S1024x384 .bf16 :=
  (Memref.whole main_v1_0).slice (colBlock (R := 1024) (C := 3072) (n := 384) dst0_inb p) (fun _ => rfl)

theorem dst1_inb : ∀ (p : Dev 8) (a), (![128 * p.val, 0] : Fin 2 → Nat) a + S128x1024.size a ≤ S1024x1024.size a := by decide +kernel
theorem dst1_words : ∀ p : Dev 8, (rowBlock (R := 1024) (r := 128) (C := 1024) dst1_inb p).WholeWords (EltTy.packing .bf16) := by decide +kernel

/-- What a device sends of `main_arg1`: the whole of it, to every device. -/
def src1 (_ : Dev 8) : Memref sig .tc .hbm S128x1024 .bf16 := Memref.whole main_arg1

/-- The rows of `main_v1_1` kept for what device `p` sends. -/
def dst1 (p : Dev 8) : Memref sig .tc .hbm S128x1024 .bf16 :=
  (Memref.whole main_v1_1).slice (rowBlock (R := 1024) (r := 128) (C := 1024) dst1_inb p) (fun _ => rfl)

/-- The shapes of what is sent. -/
def shape : Fin 2 → Shape
  | 0 => S1024x384
  | 1 => S128x1024

/-- What is sent, buffer by buffer. -/
def src : (j : Fin 2) → Dev 8 → Memref sig .tc .hbm (shape j) .bf16
  | 0 => src0
  | 1 => src1

/-- Where it lands. -/
def dst : (j : Fin 2) → Dev 8 → Memref sig .tc .hbm (shape j) .bf16
  | 0 => dst0
  | 1 => dst1

/-- The exchange. -/
def plan : Plan nD τ sig 2 7 where
  peer := peer
  peer_peer := peer_peer
  around := around
  around_none _ := rfl
  around_some _ _ := rfl
  routes := by decide +kernel
  S := shape
  e _ := .bf16
  src := src
  dst := dst
  srcExact j p := by
    match j with
    | 0 => exact (Memref.isWhole_whole main_arg0).wordExact
    | 1 => exact (Memref.isWhole_whole main_arg1).wordExact
  dstExact j p := by
    match j with
    | 0 => exact (Memref.isWhole_whole main_v1_0).wordExact_slice rfl _ (dst0_words p)
    | 1 => exact (Memref.isWhole_whole main_v1_1).wordExact_slice rfl _ (dst1_words p)
  dstPlain j p := by
    match j with
    | 0 | 1 => rfl
  sem x := ⟨semNo x, semNo_lt x⟩
  sem_inj _ _ h := semNo_inj (congrArg Fin.val h)
  N j := (src j 0).view.dmaCredit
  N_pos j := by
    match j with
    | 0 | 1 => exact View.dmaCredit_pos _ (by decide)
  credit_src j p := by
    match j with
    | 0 | 1 => rfl
  credit_dst j p := by
    match j with
    | 0 | 1 => rfl

/-! ## The printed body is the plan's -/

theorem off1 (c : Dev nD) : k0_off1 c = ![0, 384 * c.val] := by revert c; decide +kernel
theorem off3 : ∀ (c : Dev nD) (k : Fin 7), k0_off3 c (k0_off3_at k).1 (k0_off3_at k).2.1 (k0_off3_at k).2.2 = ![0, 384 * (peer k c).val] := by
  decide +kernel
theorem off2 (c : Dev nD) : k0_off2 c = ![128 * c.val, 0] := by revert c; decide +kernel
theorem off4 : ∀ (c : Dev nD) (k : Fin 7), k0_off4 c (k0_off4_at k).1 (k0_off4_at k).2.1 (k0_off4_at k).2.2 = ![128 * (peer k c).val, 0] := by
  decide +kernel

theorem dst0_own (c : Dev nD) (inb) (hs) :
    (Memref.whole main_v1_0).slice (Rect.unit (s := S1024x3072) (k0_off1 c) S1024x384.size inb) hs
      = plan.dst 0 c :=
  slice_at (Memref.whole main_v1_0) (off1 c) _ _ _ (fun _ => rfl)

theorem dst0_peer (k : Fin 7) (c : Dev nD) (inb) (hs) :
    (Memref.whole main_v1_0).slice (Rect.unit (s := S1024x3072) (k0_off3 c (k0_off3_at k).1 (k0_off3_at k).2.1 (k0_off3_at k).2.2) S1024x384.size inb) hs
      = plan.dst 0 (plan.peer k c) :=
  slice_at (Memref.whole main_v1_0) (off3 c k) _ _ _ (fun _ => rfl)

theorem dst1_own (c : Dev nD) (inb) (hs) :
    (Memref.whole main_v1_1).slice (Rect.unit (s := S1024x1024) (k0_off2 c) S128x1024.size inb) hs
      = plan.dst 1 c :=
  slice_at (Memref.whole main_v1_1) (off2 c) _ _ _ (fun _ => rfl)

theorem dst1_peer (k : Fin 7) (c : Dev nD) (inb) (hs) :
    (Memref.whole main_v1_1).slice (Rect.unit (s := S1024x1024) (k0_off4 c (k0_off4_at k).1 (k0_off4_at k).2.1 (k0_off4_at k).2.2) S128x1024.size inb) hs
      = plan.dst 1 (plan.peer k c) :=
  slice_at (Memref.whole main_v1_1) (off4 c k) _ _ _ (fun _ => rfl)

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel
theorem dev8 : ∀ c h, (⟨k0_dev8 c, h⟩ : Dev nD) = plan.peer 0 c := by decide +kernel
theorem dev9 : ∀ c h, (⟨k0_dev9 c, h⟩ : Dev nD) = plan.peer 1 c := by decide +kernel
theorem dev10 : ∀ c h, (⟨k0_dev10 c, h⟩ : Dev nD) = plan.peer 2 c := by decide +kernel
theorem dev11 : ∀ c h, (⟨k0_dev11 c, h⟩ : Dev nD) = plan.peer 3 c := by decide +kernel
theorem dev12 : ∀ c h, (⟨k0_dev12 c, h⟩ : Dev nD) = plan.peer 4 c := by decide +kernel
theorem dev13 : ∀ c h, (⟨k0_dev13 c, h⟩ : Dev nD) = plan.peer 5 c := by decide +kernel
theorem dev14 : ∀ c h, (⟨k0_dev14 c, h⟩ : Dev nD) = plan.peer 6 c := by decide +kernel

set_option maxRecDepth 65536 in
theorem body_eq : cc0_gather_mix (F := F) (Memref.whole main_arg0) (Memref.isWhole_whole _) (Memref.whole main_arg1) (Memref.isWhole_whole _) (Memref.whole main_v1_0) (Memref.isWhole_whole _) (Memref.whole main_v1_1) (Memref.isWhole_whole _)
      cc0_scratch0 cc0_scratch1 cc0_scratch2
    = .op .deviceId fun d => plan.starts d starts2 (plan.waits d waits2 (.ret ⟨⟩)) := by
  refine congrArg (Prog.op _) (funext fun c => ?_)
  refine read_own plan (j := 0) rfl (dst0_own c _ _) rfl ?_
  refine read_send plan (j := 0) (dev1 c _) rfl (dst0_own c _ _) rfl rfl ?_
  refine read_send plan (j := 0) (dev2 c _) rfl (dst0_own c _ _) rfl rfl ?_
  refine read_send plan (j := 0) (dev3 c _) rfl (dst0_own c _ _) rfl rfl ?_
  refine read_send plan (j := 0) (dev4 c _) rfl (dst0_own c _ _) rfl rfl ?_
  refine read_send plan (j := 0) (dev5 c _) rfl (dst0_own c _ _) rfl rfl ?_
  refine read_send plan (j := 0) (dev6 c _) rfl (dst0_own c _ _) rfl rfl ?_
  refine read_send plan (j := 0) (dev7 c _) rfl (dst0_own c _ _) rfl rfl ?_
  refine read_own plan (j := 1) rfl (dst1_own c _ _) rfl ?_
  refine read_send plan (j := 1) (dev8 c _) rfl (dst1_own c _ _) rfl rfl ?_
  refine read_send plan (j := 1) (dev9 c _) rfl (dst1_own c _ _) rfl rfl ?_
  refine read_send plan (j := 1) (dev10 c _) rfl (dst1_own c _ _) rfl rfl ?_
  refine read_send plan (j := 1) (dev11 c _) rfl (dst1_own c _ _) rfl rfl ?_
  refine read_send plan (j := 1) (dev12 c _) rfl (dst1_own c _ _) rfl rfl ?_
  refine read_send plan (j := 1) (dev13 c _) rfl (dst1_own c _ _) rfl rfl ?_
  refine read_send plan (j := 1) (dev14 c _) rfl (dst1_own c _ _) rfl rfl ?_
  refine read_peerWaits plan (j := 0) rfl (dst0_peer 0 c _ _) rfl rfl ?_
  refine read_peerWaits plan (j := 0) rfl (dst0_peer 1 c _ _) rfl rfl ?_
  refine read_peerWaits plan (j := 0) rfl (dst0_peer 2 c _ _) rfl rfl ?_
  refine read_peerWaits plan (j := 0) rfl (dst0_peer 3 c _ _) rfl rfl ?_
  refine read_peerWaits plan (j := 0) rfl (dst0_peer 4 c _ _) rfl rfl ?_
  refine read_peerWaits plan (j := 0) rfl (dst0_peer 5 c _ _) rfl rfl ?_
  refine read_peerWaits plan (j := 0) rfl (dst0_peer 6 c _ _) rfl rfl ?_
  refine read_ownWait plan (j := 0) rfl (dst0_own c _ _) rfl ?_
  refine read_peerWaits plan (j := 1) rfl (dst1_peer 0 c _ _) rfl rfl ?_
  refine read_peerWaits plan (j := 1) rfl (dst1_peer 1 c _ _) rfl rfl ?_
  refine read_peerWaits plan (j := 1) rfl (dst1_peer 2 c _ _) rfl rfl ?_
  refine read_peerWaits plan (j := 1) rfl (dst1_peer 3 c _ _) rfl rfl ?_
  refine read_peerWaits plan (j := 1) rfl (dst1_peer 4 c _ _) rfl rfl ?_
  refine read_peerWaits plan (j := 1) rfl (dst1_peer 5 c _ _) rfl rfl ?_
  refine read_peerWaits plan (j := 1) rfl (dst1_peer 6 c _ _) rfl rfl ?_
  refine read_ownWait plan (j := 1) rfl (dst1_own c _ _) rfl ?_
  rfl

/-! ## What each device starts with -/

theorem src0_set (p : Dev 8) : (plan.src 0 p).view.set = Finset.univ := View.set_whole _
theorem dst0_set (p : Dev 8) : (plan.dst 0 p).view.set = (colBlock (R := 1024) (C := 3072) (n := 384) dst0_inb p).set := View.set_slice_whole _ _
theorem dst0_cut : IsCut fun p => (colBlock (R := 1024) (C := 3072) (n := 384) dst0_inb p).set := cols_cut dst0_inb (by decide) (by decide)

theorem src1_set (p : Dev 8) : (plan.src 1 p).view.set = Finset.univ := View.set_whole _
theorem dst1_set (p : Dev 8) : (plan.dst 1 p).view.set = (rowBlock (R := 1024) (r := 128) (C := 1024) dst1_inb p).set := View.set_slice_whole _ _
theorem dst1_cut : IsCut fun p => (rowBlock (R := 1024) (r := 128) (C := 1024) dst1_inb p).set := rows_cut dst1_inb (by decide) (by decide)

/-- The share each part is lent at: an eighth of its buffer, the whole of which every device is sent. -/
def lent (_ : Fin 2) (p : Dev nD) : PosShare TreeShare := eighth p

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_shares (ℓ := ((c.tc : Thread nD τ).loc main_arg0)) src0_set _

theorem dst0_split : (((c.tc : Thread nD τ).loc main_v1_0) ↦{fullShare} m ((c.tc : Thread nD τ).loc main_v1_0) : sProp 𝕄)
    ⊢ bigSep Finset.univ fun p : Dev 8 => iprop(∃ f, dstPts plan 0 p c f) :=
  (Entails.of_eq (cut_blocks (ℓ := ((c.tc : Thread nD τ).loc main_v1_0)) dst0_cut dst0_set _)).trans (some_slots plan m c 0)

theorem src1_split : (((c.tc : Thread nD τ).loc main_arg1) ↦{fullShare} m ((c.tc : Thread nD τ).loc main_arg1) : sProp 𝕄)
    = bigSep Finset.univ fun p : Dev 8 => srcPts plan (contents plan lent m) 1 p c :=
  cut_shares (ℓ := ((c.tc : Thread nD τ).loc main_arg1)) src1_set _

theorem dst1_split : (((c.tc : Thread nD τ).loc main_v1_1) ↦{fullShare} m ((c.tc : Thread nD τ).loc main_v1_1) : sProp 𝕄)
    ⊢ bigSep Finset.univ fun p : Dev 8 => iprop(∃ f, dstPts plan 1 p c f) :=
  (Entails.of_eq (cut_blocks (ℓ := ((c.tc : Thread nD τ).loc main_v1_1)) dst1_cut dst1_set _)).trans (some_slots plan m c 1)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = iprop((bigSep Finset.univ fun p : Dev 8 => srcPts plan (contents plan lent m) 0 p c)
        ∗ (bigSep Finset.univ fun p : Dev 8 => srcPts plan (contents plan lent m) 1 p c)) :=
    bigSep_univ_eq_bigSepL [0, 1] (by decide) (by decide) _
  have hs : (slots plan c : sProp 𝕄)
      = iprop((bigSep Finset.univ fun p : Dev 8 => iprop(∃ f, dstPts plan 0 p c f))
        ∗ (bigSep Finset.univ fun p : Dev 8 => iprop(∃ f, dstPts plan 1 p c f))) :=
    bigSep_univ_eq_bigSepL [0, 1] (by decide) (by decide) _
  rw [hsub, unscopedRest0_eq, hp, hs, ← src0_split, ← src1_split]
  have h0 := dst0_split m c
  have h1 := dst1_split m c
  iintro ⟨H0, H1, D0, D1⟩
  isplitl [H0 H1]
  · isplitl [H0]; · iexact H0
    iexact H1
  isplitl [D0]; · iapply h0; iexact D0
  iapply h1; iexact D1

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders2
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := funext fun i => (h 0 0).1 i (by rw [src0_set]; exact Finset.mem_univ i)

theorem result0 (p : Dev 8) (a : Fin 1024) (b : Fin 384) :
    mem ((c.tc : Thread nD τ).loc main_v1_0) (ix2 a ⟨384 * p.val + b.val, block_lt (by decide) p b⟩) = m ((Dev.tc (τ := τ) (nD := nD) p : Thread nD τ).loc main_arg0) (ix2 a b) := by
  have hread : mem ((c.tc : Thread nD τ).loc main_v1_0) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix2 a ⟨384 * p.val + b.val, block_lt (by decide) p b⟩ := colBlock_emb dst0_inb p a b (block_lt (by decide) p b)
  have hr : (plan.src 0 c).view.emb (ix2 a b) = ix2 a b := rfl
  rw [hl, hr] at hread
  exact hread

/-- Over the whole array this is the array itself. -/
theorem whole0 (w : (⟨2, ![1024, 3072]⟩ : Shape).Idx → Elt F .bf16)
    (hx : ∀ p : Dev 8, m ((Dev.tc (τ := τ) (nD := nD) p : Thread nD τ).loc main_arg0) = Layout.block ⟨2, ![1024, 384]⟩ ⟨2, ![1024, 3072]⟩ 1 8 p w) :
    mem ((c.tc : Thread nD τ).loc main_v1_0) = w :=
  cols_gathered (by decide) w (by decide) (fun p => m ((Dev.tc (τ := τ) (nD := nD) p : Thread nD τ).loc main_arg0)) hx _ (result0 h)

theorem kept1 : mem ((c.tc : Thread nD τ).loc main_arg1) = m ((c.tc : Thread nD τ).loc main_arg1) := funext fun i => (h 1 0).1 i (by rw [src1_set]; exact Finset.mem_univ i)

theorem result1 (p : Dev 8) (a : Fin 128) (b : Fin 1024) :
    mem ((c.tc : Thread nD τ).loc main_v1_1) (ix2 ⟨128 * p.val + a.val, block_lt (by decide) p a⟩ b) = m ((Dev.tc (τ := τ) (nD := nD) p : Thread nD τ).loc main_arg1) (ix2 a b) := by
  have hread : mem ((c.tc : Thread nD τ).loc main_v1_1) ((plan.dst 1 p).view.emb (ix2 a b))
      = m ((Dev.tc (τ := τ) (nD := nD) p : Thread nD τ).loc main_arg1) ((plan.src 1 c).view.emb (ix2 a b)) := congrFun (h 1 p).2 (ix2 a b)
  have hl : (plan.dst 1 p).view.emb (ix2 a b) = ix2 ⟨128 * p.val + a.val, block_lt (by decide) p a⟩ b := rowBlock_emb dst1_inb p a b (block_lt (by decide) p a)
  have hr : (plan.src 1 c).view.emb (ix2 a b) = ix2 a b := rfl
  rw [hl, hr] at hread
  exact hread

/-- Over the whole array this is the array itself. -/
theorem whole1 (w : (⟨2, ![1024, 1024]⟩ : Shape).Idx → Elt F .bf16)
    (hx : ∀ p : Dev 8, m ((Dev.tc (τ := τ) (nD := nD) p : Thread nD τ).loc main_arg1) = Layout.block ⟨2, ![128, 1024]⟩ ⟨2, ![1024, 1024]⟩ 0 8 p w) :
    mem ((c.tc : Thread nD τ).loc main_v1_1) = w :=
  rows_gathered (by decide) w (by decide) (fun p => m ((Dev.tc (τ := τ) (nD := nD) p : Thread nD τ).loc main_arg1)) hx _ (result1 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun _ h => ⟨fun c => ⟨h.1 c, ⟨kept0 (h.1 c), kept1 (h.1 c)⟩⟩, h.2⟩) (run_settled m g)

end Cert.GatherEvenIdeal.Move

end
-- ==== Proof.GatherOdd.lean ====
/-
# The gather of an odd layer's mixing weights

One array lies in eight blocks of 192 rows, another in eight blocks of 128 rows, one per device. Every device sends its blocks to
every other, and each ends with the whole of both.
-/
module

public import proofs.«01_k».proof.Proof.Blocks
public import proofs.«01_k».proof.Proof.Gen.GatherOddIdeal.Launch

@[expose] public section

noncomputable section

namespace Cert.GatherOddIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.GatherOddIdeal.Gen

set_option Elab.async false

variable {F : FTy → Type} [FloatOps F]

local notation "𝕄" => MT nD τ sig Unit (Elt F) ℕ (UU nD τ sig) ℕ

/-! ## The buffers -/

theorem dst0_inb : ∀ (p : Dev 8) (a), (![192 * p.val, 0] : Fin 2 → Nat) a + S192x1024.size a ≤ S1536x1024.size a := by decide +kernel
theorem dst0_words : ∀ p : Dev 8, (rowBlock (R := 1536) (r := 192) (C := 1024) dst0_inb p).WholeWords (EltTy.packing .bf16) := by decide +kernel

/-- What a device sends of `main_arg0`: the whole of it, to every device. -/
def src0 (_ : Dev 8) : Memref sig .tc .hbm S192x1024 .bf16 := Memref.whole main_arg0

/-- The rows of `main_v1_0` kept for what device `p` sends. -/
def dst0 (p : Dev 8) : Memref sig .tc .hbm S192x1024 .bf16 :=
  (Memref.whole main_v1_0).slice (rowBlock (R := 1536) (r := 192) (C := 1024) dst0_inb p) (fun _ => rfl)

theorem dst1_inb : ∀ (p : Dev 8) (a), (![128 * p.val, 0] : Fin 2 → Nat) a + S128x1024.size a ≤ S1024x1024.size a := by decide +kernel
theorem dst1_words : ∀ p : Dev 8, (rowBlock (R := 1024) (r := 128) (C := 1024) dst1_inb p).WholeWords (EltTy.packing .bf16) := by decide +kernel

/-- What a device sends of `main_arg1`: the whole of it, to every device. -/
def src1 (_ : Dev 8) : Memref sig .tc .hbm S128x1024 .bf16 := Memref.whole main_arg1

/-- The rows of `main_v1_1` kept for what device `p` sends. -/
def dst1 (p : Dev 8) : Memref sig .tc .hbm S128x1024 .bf16 :=
  (Memref.whole main_v1_1).slice (rowBlock (R := 1024) (r := 128) (C := 1024) dst1_inb p) (fun _ => rfl)

/-- The shapes of what is sent. -/
def shape : Fin 2 → Shape
  | 0 => S192x1024
  | 1 => S128x1024

/-- What is sent, buffer by buffer. -/
def src : (j : Fin 2) → Dev 8 → Memref sig .tc .hbm (shape j) .bf16
  | 0 => src0
  | 1 => src1

/-- Where it lands. -/
def dst : (j : Fin 2) → Dev 8 → Memref sig .tc .hbm (shape j) .bf16
  | 0 => dst0
  | 1 => dst1

/-- The exchange. -/
def plan : Plan nD τ sig 2 7 where
  peer := peer
  peer_peer := peer_peer
  around := around
  around_none _ := rfl
  around_some _ _ := rfl
  routes := by decide +kernel
  S := shape
  e _ := .bf16
  src := src
  dst := dst
  srcExact j p := by
    match j with
    | 0 => exact (Memref.isWhole_whole main_arg0).wordExact
    | 1 => exact (Memref.isWhole_whole main_arg1).wordExact
  dstExact j p := by
    match j with
    | 0 => exact (Memref.isWhole_whole main_v1_0).wordExact_slice rfl _ (dst0_words p)
    | 1 => exact (Memref.isWhole_whole main_v1_1).wordExact_slice rfl _ (dst1_words p)
  dstPlain j p := by
    match j with
    | 0 | 1 => rfl
  sem x := ⟨semNo x, semNo_lt x⟩
  sem_inj _ _ h := semNo_inj (congrArg Fin.val h)
  N j := (src j 0).view.dmaCredit
  N_pos j := by
    match j with
    | 0 | 1 => exact View.dmaCredit_pos _ (by decide)
  credit_src j p := by
    match j with
    | 0 | 1 => rfl
  credit_dst j p := by
    match j with
    | 0 | 1 => rfl

/-! ## The printed body is the plan's -/

theorem off1 (c : Dev nD) : k0_off1 c = ![192 * c.val, 0] := by revert c; decide +kernel
theorem off3 : ∀ (c : Dev nD) (k : Fin 7), k0_off3 c (k0_off3_at k).1 (k0_off3_at k).2.1 (k0_off3_at k).2.2 = ![192 * (peer k c).val, 0] := by
  decide +kernel
theorem off2 (c : Dev nD) : k0_off2 c = ![128 * c.val, 0] := by revert c; decide +kernel
theorem off4 : ∀ (c : Dev nD) (k : Fin 7), k0_off4 c (k0_off4_at k).1 (k0_off4_at k).2.1 (k0_off4_at k).2.2 = ![128 * (peer k c).val, 0] := by
  decide +kernel

theorem dst0_own (c : Dev nD) (inb) (hs) :
    (Memref.whole main_v1_0).slice (Rect.unit (s := S1536x1024) (k0_off1 c) S192x1024.size inb) hs
      = plan.dst 0 c :=
  slice_at (Memref.whole main_v1_0) (off1 c) _ _ _ (fun _ => rfl)

theorem dst0_peer (k : Fin 7) (c : Dev nD) (inb) (hs) :
    (Memref.whole main_v1_0).slice (Rect.unit (s := S1536x1024) (k0_off3 c (k0_off3_at k).1 (k0_off3_at k).2.1 (k0_off3_at k).2.2) S192x1024.size inb) hs
      = plan.dst 0 (plan.peer k c) :=
  slice_at (Memref.whole main_v1_0) (off3 c k) _ _ _ (fun _ => rfl)

theorem dst1_own (c : Dev nD) (inb) (hs) :
    (Memref.whole main_v1_1).slice (Rect.unit (s := S1024x1024) (k0_off2 c) S128x1024.size inb) hs
      = plan.dst 1 c :=
  slice_at (Memref.whole main_v1_1) (off2 c) _ _ _ (fun _ => rfl)

theorem dst1_peer (k : Fin 7) (c : Dev nD) (inb) (hs) :
    (Memref.whole main_v1_1).slice (Rect.unit (s := S1024x1024) (k0_off4 c (k0_off4_at k).1 (k0_off4_at k).2.1 (k0_off4_at k).2.2) S128x1024.size inb) hs
      = plan.dst 1 (plan.peer k c) :=
  slice_at (Memref.whole main_v1_1) (off4 c k) _ _ _ (fun _ => rfl)

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel
theorem dev8 : ∀ c h, (⟨k0_dev8 c, h⟩ : Dev nD) = plan.peer 0 c := by decide +kernel
theorem dev9 : ∀ c h, (⟨k0_dev9 c, h⟩ : Dev nD) = plan.peer 1 c := by decide +kernel
theorem dev10 : ∀ c h, (⟨k0_dev10 c, h⟩ : Dev nD) = plan.peer 2 c := by decide +kernel
theorem dev11 : ∀ c h, (⟨k0_dev11 c, h⟩ : Dev nD) = plan.peer 3 c := by decide +kernel
theorem dev12 : ∀ c h, (⟨k0_dev12 c, h⟩ : Dev nD) = plan.peer 4 c := by decide +kernel
theorem dev13 : ∀ c h, (⟨k0_dev13 c, h⟩ : Dev nD) = plan.peer 5 c := by decide +kernel
theorem dev14 : ∀ c h, (⟨k0_dev14 c, h⟩ : Dev nD) = plan.peer 6 c := by decide +kernel

set_option maxRecDepth 65536 in
theorem body_eq : cc0_gather_mix (F := F) (Memref.whole main_arg0) (Memref.isWhole_whole _) (Memref.whole main_arg1) (Memref.isWhole_whole _) (Memref.whole main_v1_0) (Memref.isWhole_whole _) (Memref.whole main_v1_1) (Memref.isWhole_whole _)
      cc0_scratch0 cc0_scratch1 cc0_scratch2
    = .op .deviceId fun d => plan.starts d starts2 (plan.waits d waits2 (.ret ⟨⟩)) := by
  refine congrArg (Prog.op _) (funext fun c => ?_)
  refine read_own plan (j := 0) rfl (dst0_own c _ _) rfl ?_
  refine read_send plan (j := 0) (dev1 c _) rfl (dst0_own c _ _) rfl rfl ?_
  refine read_send plan (j := 0) (dev2 c _) rfl (dst0_own c _ _) rfl rfl ?_
  refine read_send plan (j := 0) (dev3 c _) rfl (dst0_own c _ _) rfl rfl ?_
  refine read_send plan (j := 0) (dev4 c _) rfl (dst0_own c _ _) rfl rfl ?_
  refine read_send plan (j := 0) (dev5 c _) rfl (dst0_own c _ _) rfl rfl ?_
  refine read_send plan (j := 0) (dev6 c _) rfl (dst0_own c _ _) rfl rfl ?_
  refine read_send plan (j := 0) (dev7 c _) rfl (dst0_own c _ _) rfl rfl ?_
  refine read_own plan (j := 1) rfl (dst1_own c _ _) rfl ?_
  refine read_send plan (j := 1) (dev8 c _) rfl (dst1_own c _ _) rfl rfl ?_
  refine read_send plan (j := 1) (dev9 c _) rfl (dst1_own c _ _) rfl rfl ?_
  refine read_send plan (j := 1) (dev10 c _) rfl (dst1_own c _ _) rfl rfl ?_
  refine read_send plan (j := 1) (dev11 c _) rfl (dst1_own c _ _) rfl rfl ?_
  refine read_send plan (j := 1) (dev12 c _) rfl (dst1_own c _ _) rfl rfl ?_
  refine read_send plan (j := 1) (dev13 c _) rfl (dst1_own c _ _) rfl rfl ?_
  refine read_send plan (j := 1) (dev14 c _) rfl (dst1_own c _ _) rfl rfl ?_
  refine read_peerWaits plan (j := 0) rfl (dst0_peer 0 c _ _) rfl rfl ?_
  refine read_peerWaits plan (j := 0) rfl (dst0_peer 1 c _ _) rfl rfl ?_
  refine read_peerWaits plan (j := 0) rfl (dst0_peer 2 c _ _) rfl rfl ?_
  refine read_peerWaits plan (j := 0) rfl (dst0_peer 3 c _ _) rfl rfl ?_
  refine read_peerWaits plan (j := 0) rfl (dst0_peer 4 c _ _) rfl rfl ?_
  refine read_peerWaits plan (j := 0) rfl (dst0_peer 5 c _ _) rfl rfl ?_
  refine read_peerWaits plan (j := 0) rfl (dst0_peer 6 c _ _) rfl rfl ?_
  refine read_ownWait plan (j := 0) rfl (dst0_own c _ _) rfl ?_
  refine read_peerWaits plan (j := 1) rfl (dst1_peer 0 c _ _) rfl rfl ?_
  refine read_peerWaits plan (j := 1) rfl (dst1_peer 1 c _ _) rfl rfl ?_
  refine read_peerWaits plan (j := 1) rfl (dst1_peer 2 c _ _) rfl rfl ?_
  refine read_peerWaits plan (j := 1) rfl (dst1_peer 3 c _ _) rfl rfl ?_
  refine read_peerWaits plan (j := 1) rfl (dst1_peer 4 c _ _) rfl rfl ?_
  refine read_peerWaits plan (j := 1) rfl (dst1_peer 5 c _ _) rfl rfl ?_
  refine read_peerWaits plan (j := 1) rfl (dst1_peer 6 c _ _) rfl rfl ?_
  refine read_ownWait plan (j := 1) rfl (dst1_own c _ _) rfl ?_
  rfl

/-! ## What each device starts with -/

theorem src0_set (p : Dev 8) : (plan.src 0 p).view.set = Finset.univ := View.set_whole _
theorem dst0_set (p : Dev 8) : (plan.dst 0 p).view.set = (rowBlock (R := 1536) (r := 192) (C := 1024) dst0_inb p).set := View.set_slice_whole _ _
theorem dst0_cut : IsCut fun p => (rowBlock (R := 1536) (r := 192) (C := 1024) dst0_inb p).set := rows_cut dst0_inb (by decide) (by decide)

theorem src1_set (p : Dev 8) : (plan.src 1 p).view.set = Finset.univ := View.set_whole _
theorem dst1_set (p : Dev 8) : (plan.dst 1 p).view.set = (rowBlock (R := 1024) (r := 128) (C := 1024) dst1_inb p).set := View.set_slice_whole _ _
theorem dst1_cut : IsCut fun p => (rowBlock (R := 1024) (r := 128) (C := 1024) dst1_inb p).set := rows_cut dst1_inb (by decide) (by decide)

/-- The share each part is lent at: an eighth of its buffer, the whole of which every device is sent. -/
def lent (_ : Fin 2) (p : Dev nD) : PosShare TreeShare := eighth p

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_shares (ℓ := ((c.tc : Thread nD τ).loc main_arg0)) src0_set _

theorem dst0_split : (((c.tc : Thread nD τ).loc main_v1_0) ↦{fullShare} m ((c.tc : Thread nD τ).loc main_v1_0) : sProp 𝕄)
    ⊢ bigSep Finset.univ fun p : Dev 8 => iprop(∃ f, dstPts plan 0 p c f) :=
  (Entails.of_eq (cut_blocks (ℓ := ((c.tc : Thread nD τ).loc main_v1_0)) dst0_cut dst0_set _)).trans (some_slots plan m c 0)

theorem src1_split : (((c.tc : Thread nD τ).loc main_arg1) ↦{fullShare} m ((c.tc : Thread nD τ).loc main_arg1) : sProp 𝕄)
    = bigSep Finset.univ fun p : Dev 8 => srcPts plan (contents plan lent m) 1 p c :=
  cut_shares (ℓ := ((c.tc : Thread nD τ).loc main_arg1)) src1_set _

theorem dst1_split : (((c.tc : Thread nD τ).loc main_v1_1) ↦{fullShare} m ((c.tc : Thread nD τ).loc main_v1_1) : sProp 𝕄)
    ⊢ bigSep Finset.univ fun p : Dev 8 => iprop(∃ f, dstPts plan 1 p c f) :=
  (Entails.of_eq (cut_blocks (ℓ := ((c.tc : Thread nD τ).loc main_v1_1)) dst1_cut dst1_set _)).trans (some_slots plan m c 1)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = iprop((bigSep Finset.univ fun p : Dev 8 => srcPts plan (contents plan lent m) 0 p c)
        ∗ (bigSep Finset.univ fun p : Dev 8 => srcPts plan (contents plan lent m) 1 p c)) :=
    bigSep_univ_eq_bigSepL [0, 1] (by decide) (by decide) _
  have hs : (slots plan c : sProp 𝕄)
      = iprop((bigSep Finset.univ fun p : Dev 8 => iprop(∃ f, dstPts plan 0 p c f))
        ∗ (bigSep Finset.univ fun p : Dev 8 => iprop(∃ f, dstPts plan 1 p c f))) :=
    bigSep_univ_eq_bigSepL [0, 1] (by decide) (by decide) _
  rw [hsub, unscopedRest0_eq, hp, hs, ← src0_split, ← src1_split]
  have h0 := dst0_split m c
  have h1 := dst1_split m c
  iintro ⟨H0, H1, D0, D1⟩
  isplitl [H0 H1]
  · isplitl [H0]; · iexact H0
    iexact H1
  isplitl [D0]; · iapply h0; iexact D0
  iapply h1; iexact D1

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders2
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := funext fun i => (h 0 0).1 i (by rw [src0_set]; exact Finset.mem_univ i)

theorem result0 (p : Dev 8) (a : Fin 192) (b : Fin 1024) :
    mem ((c.tc : Thread nD τ).loc main_v1_0) (ix2 ⟨192 * p.val + a.val, block_lt (by decide) p a⟩ b) = m ((Dev.tc (τ := τ) (nD := nD) p : Thread nD τ).loc main_arg0) (ix2 a b) := by
  have hread : mem ((c.tc : Thread nD τ).loc main_v1_0) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix2 ⟨192 * p.val + a.val, block_lt (by decide) p a⟩ b := rowBlock_emb dst0_inb p a b (block_lt (by decide) p a)
  have hr : (plan.src 0 c).view.emb (ix2 a b) = ix2 a b := rfl
  rw [hl, hr] at hread
  exact hread

/-- Over the whole array this is the array itself. -/
theorem whole0 (w : (⟨2, ![1536, 1024]⟩ : Shape).Idx → Elt F .bf16)
    (hx : ∀ p : Dev 8, m ((Dev.tc (τ := τ) (nD := nD) p : Thread nD τ).loc main_arg0) = Layout.block ⟨2, ![192, 1024]⟩ ⟨2, ![1536, 1024]⟩ 0 8 p w) :
    mem ((c.tc : Thread nD τ).loc main_v1_0) = w :=
  rows_gathered (by decide) w (by decide) (fun p => m ((Dev.tc (τ := τ) (nD := nD) p : Thread nD τ).loc main_arg0)) hx _ (result0 h)

theorem kept1 : mem ((c.tc : Thread nD τ).loc main_arg1) = m ((c.tc : Thread nD τ).loc main_arg1) := funext fun i => (h 1 0).1 i (by rw [src1_set]; exact Finset.mem_univ i)

theorem result1 (p : Dev 8) (a : Fin 128) (b : Fin 1024) :
    mem ((c.tc : Thread nD τ).loc main_v1_1) (ix2 ⟨128 * p.val + a.val, block_lt (by decide) p a⟩ b) = m ((Dev.tc (τ := τ) (nD := nD) p : Thread nD τ).loc main_arg1) (ix2 a b) := by
  have hread : mem ((c.tc : Thread nD τ).loc main_v1_1) ((plan.dst 1 p).view.emb (ix2 a b))
      = m ((Dev.tc (τ := τ) (nD := nD) p : Thread nD τ).loc main_arg1) ((plan.src 1 c).view.emb (ix2 a b)) := congrFun (h 1 p).2 (ix2 a b)
  have hl : (plan.dst 1 p).view.emb (ix2 a b) = ix2 ⟨128 * p.val + a.val, block_lt (by decide) p a⟩ b := rowBlock_emb dst1_inb p a b (block_lt (by decide) p a)
  have hr : (plan.src 1 c).view.emb (ix2 a b) = ix2 a b := rfl
  rw [hl, hr] at hread
  exact hread

/-- Over the whole array this is the array itself. -/
theorem whole1 (w : (⟨2, ![1024, 1024]⟩ : Shape).Idx → Elt F .bf16)
    (hx : ∀ p : Dev 8, m ((Dev.tc (τ := τ) (nD := nD) p : Thread nD τ).loc main_arg1) = Layout.block ⟨2, ![128, 1024]⟩ ⟨2, ![1024, 1024]⟩ 0 8 p w) :
    mem ((c.tc : Thread nD τ).loc main_v1_1) = w :=
  rows_gathered (by decide) w (by decide) (fun p => m ((Dev.tc (τ := τ) (nD := nD) p : Thread nD τ).loc main_arg1)) hx _ (result1 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun _ h => ⟨fun c => ⟨h.1 c, ⟨kept0 (h.1 c), kept1 (h.1 c)⟩⟩, h.2⟩) (run_settled m g)

end Cert.GatherOddIdeal.Move

end
-- ==== Proof.GatherSmall.lean ====
/-
# The gather of the small parameters

Every device sends its array to every other, and each ends with all eight, one slot per sender.
-/
module

public import proofs.«01_k».proof.Proof.Blocks
public import proofs.«01_k».proof.Proof.Gen.GatherSmallIdeal.Launch

@[expose] public section

noncomputable section

namespace Cert.GatherSmallIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.GatherSmallIdeal.Gen

set_option Elab.async false

variable {F : FTy → Type} [FloatOps F]

local notation "𝕄" => MT nD τ sig Unit (Elt F) ℕ (UU nD τ sig) ℕ

/-! ## The buffers -/

theorem dst0_inb : ∀ (p : Dev 8) (a), (![p.val, 0, 0] : Fin 3 → Nat) a + S1x72x128.size a ≤ S8x72x128.size a := by decide +kernel
theorem dst0_words : ∀ p : Dev 8, (slotBlock (r := 72) (C := 128) dst0_inb p).WholeWords (EltTy.packing .f32) := by decide +kernel

/-- What a device sends of `main_arg0`: the whole of it, to every device. -/
def src0 (_ : Dev 8) : Memref sig .tc .hbm S72x128 .f32 := Memref.whole main_arg0

/-- The slot of `main_v1` kept for what device `p` sends. -/
def dst0 (p : Dev 8) : Memref sig .tc .hbm S72x128 .f32 :=
  ((Memref.whole main_v1).slice (slotBlock (r := 72) (C := 128) dst0_inb p) (fun _ => rfl)).squeeze S72x128 squeezes_S1x72x128_S72x128

/-- The shapes of what is sent. -/
def shape : Fin 1 → Shape
  | 0 => S72x128

/-- What is sent, buffer by buffer. -/
def src : (j : Fin 1) → Dev 8 → Memref sig .tc .hbm (shape j) .f32
  | 0 => src0

/-- Where it lands. -/
def dst : (j : Fin 1) → Dev 8 → Memref sig .tc .hbm (shape j) .f32
  | 0 => dst0

/-- The exchange. -/
def plan : Plan nD τ sig 1 7 where
  peer := peer
  peer_peer := peer_peer
  around := around
  around_none _ := rfl
  around_some _ _ := rfl
  routes := by decide +kernel
  S := shape
  e _ := .f32
  src := src
  dst := dst
  srcExact j p := by
    match j with
    | 0 => exact (Memref.isWhole_whole main_arg0).wordExact
  dstExact j p := by
    match j with
    | 0 => exact ((Memref.isWhole_whole main_v1).wordExact_slice rfl _ (dst0_words p)).reshape _ _
  dstPlain j p := by
    match j with
    | 0 => rfl
  sem x := ⟨semNo x, semNo_lt x⟩
  sem_inj _ _ h := semNo_inj (congrArg Fin.val h)
  N j := (src j 0).view.dmaCredit
  N_pos j := by
    match j with
    | 0 => exact View.dmaCredit_pos _ (by decide)
  credit_src j p := by
    match j with
    | 0 => rfl
  credit_dst j p := by
    match j with
    | 0 => rfl

/-! ## The printed body is the plan's -/

theorem off1 (c : Dev nD) : k0_off1 c = ![c.val, 0, 0] := by revert c; decide +kernel
theorem off2 : ∀ (c : Dev nD) (k : Fin 7), k0_off2 c (k0_off2_at k).1 (k0_off2_at k).2.1 (k0_off2_at k).2.2 = ![(peer k c).val, 0, 0] := by
  decide +kernel

theorem dst0_own (c : Dev nD) (inb) (hs) :
    ((Memref.whole main_v1).slice (Rect.unit (s := S8x72x128) (k0_off1 c) S1x72x128.size inb) hs).squeeze S72x128 squeezes_S1x72x128_S72x128
      = plan.dst 0 c :=
  congrArg (fun M : Memref sig .tc .hbm S1x72x128 .f32 => M.squeeze S72x128 squeezes_S1x72x128_S72x128)
    (slice_at (Memref.whole main_v1) (off1 c) _ _ _ (fun _ => rfl))

theorem dst0_peer (k : Fin 7) (c : Dev nD) (inb) (hs) :
    ((Memref.whole main_v1).slice (Rect.unit (s := S8x72x128) (k0_off2 c (k0_off2_at k).1 (k0_off2_at k).2.1 (k0_off2_at k).2.2) S1x72x128.size inb) hs).squeeze S72x128 squeezes_S1x72x128_S72x128
      = plan.dst 0 (plan.peer k c) :=
  congrArg (fun M : Memref sig .tc .hbm S1x72x128 .f32 => M.squeeze S72x128 squeezes_S1x72x128_S72x128)
    (slice_at (Memref.whole main_v1) (off2 c k) _ _ _ (fun _ => rfl))

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel

set_option maxRecDepth 65536 in
theorem body_eq : cc0_gather_small (F := F) (Memref.whole main_arg0) (Memref.isWhole_whole _) (Memref.whole main_v1) (Memref.isWhole_whole _)
      cc0_scratch0 cc0_scratch1 cc0_scratch2
    = .op .deviceId fun d => plan.starts d starts1 (plan.waits d waits1 (.ret ⟨⟩)) := by
  refine congrArg (Prog.op _) (funext fun c => ?_)
  refine read_own plan (j := 0) rfl (dst0_own c _ _) rfl ?_
  refine read_send plan (j := 0) (dev1 c _) rfl (dst0_own c _ _) rfl rfl ?_
  refine read_send plan (j := 0) (dev2 c _) rfl (dst0_own c _ _) rfl rfl ?_
  refine read_send plan (j := 0) (dev3 c _) rfl (dst0_own c _ _) rfl rfl ?_
  refine read_send plan (j := 0) (dev4 c _) rfl (dst0_own c _ _) rfl rfl ?_
  refine read_send plan (j := 0) (dev5 c _) rfl (dst0_own c _ _) rfl rfl ?_
  refine read_send plan (j := 0) (dev6 c _) rfl (dst0_own c _ _) rfl rfl ?_
  refine read_send plan (j := 0) (dev7 c _) rfl (dst0_own c _ _) rfl rfl ?_
  refine read_peerWaits plan (j := 0) rfl (dst0_peer 0 c _ _) rfl rfl ?_
  refine read_peerWaits plan (j := 0) rfl (dst0_peer 1 c _ _) rfl rfl ?_
  refine read_peerWaits plan (j := 0) rfl (dst0_peer 2 c _ _) rfl rfl ?_
  refine read_peerWaits plan (j := 0) rfl (dst0_peer 3 c _ _) rfl rfl ?_
  refine read_peerWaits plan (j := 0) rfl (dst0_peer 4 c _ _) rfl rfl ?_
  refine read_peerWaits plan (j := 0) rfl (dst0_peer 5 c _ _) rfl rfl ?_
  refine read_peerWaits plan (j := 0) rfl (dst0_peer 6 c _ _) rfl rfl ?_
  refine read_ownWait plan (j := 0) rfl (dst0_own c _ _) rfl ?_
  rfl

/-! ## What each device starts with -/

theorem src0_set (p : Dev 8) : (plan.src 0 p).view.set = Finset.univ := View.set_whole _
theorem dst0_set (p : Dev 8) : (plan.dst 0 p).view.set = (slotBlock (r := 72) (C := 128) dst0_inb p).set := (View.set_reshape _ _).trans (View.set_slice_whole _ _)
theorem dst0_cut : IsCut fun p => (slotBlock (r := 72) (C := 128) dst0_inb p).set := slots_cut dst0_inb

/-- The share each part is lent at: an eighth of its buffer, the whole of which every device is sent. -/
def lent (_ : Fin 1) (p : Dev nD) : PosShare TreeShare := eighth p

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_shares (ℓ := ((c.tc : Thread nD τ).loc main_arg0)) src0_set _

theorem dst0_split : (((c.tc : Thread nD τ).loc main_v1) ↦{fullShare} m ((c.tc : Thread nD τ).loc main_v1) : sProp 𝕄)
    ⊢ bigSep Finset.univ fun p : Dev 8 => iprop(∃ f, dstPts plan 0 p c f) :=
  (Entails.of_eq (cut_blocks (ℓ := ((c.tc : Thread nD τ).loc main_v1)) dst0_cut dst0_set _)).trans (some_slots plan m c 0)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = bigSep Finset.univ fun p : Dev 8 => srcPts plan (contents plan lent m) 0 p c :=
    bigSep_univ_of_subsingleton (0 : Fin 1)
  have hs : (slots plan c : sProp 𝕄) = bigSep Finset.univ fun p : Dev 8 => iprop(∃ f, dstPts plan 0 p c f) :=
    bigSep_univ_of_subsingleton (0 : Fin 1)
  rw [hsub, unscopedRest0_eq, hp, hs, ← src0_split]
  have h0 := dst0_split m c
  iintro ⟨H0, D0⟩
  isplitl [H0]
  · iexact H0
  iapply h0; iexact D0

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders1
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := funext fun i => (h 0 0).1 i (by rw [src0_set]; exact Finset.mem_univ i)

theorem result0 (p : Dev 8) (a : Fin 72) (b : Fin 128) :
    mem ((c.tc : Thread nD τ).loc main_v1) (ix3 p a b) = m ((Dev.tc (τ := τ) (nD := nD) p : Thread nD τ).loc main_arg0) (ix2 a b) := by
  have hread : mem ((c.tc : Thread nD τ).loc main_v1) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix3 p a b := slotBlock_emb dst0_inb p a b _
  have hr : (plan.src 0 c).view.emb (ix2 a b) = ix2 a b := rfl
  rw [hl, hr] at hread
  exact hread

/-- Over the whole array this is its reshape. -/
theorem whole0 (w : (⟨2, ![576, 128]⟩ : Shape).Idx → Elt F .f32) (hc : (⟨2, ![576, 128]⟩ : Shape).ShapeCasts ⟨3, ![8, 72, 128]⟩)
    (hx : ∀ p : Dev 8, m ((Dev.tc (τ := τ) (nD := nD) p : Thread nD τ).loc main_arg0) = Layout.block ⟨2, ![72, 128]⟩ ⟨2, ![576, 128]⟩ 0 8 p w) :
    mem ((c.tc : Thread nD τ).loc main_v1) = shapeCast _ w hc :=
  slots_gathered w hc (by decide) (fun p => m ((Dev.tc (τ := τ) (nD := nD) p : Thread nD τ).loc main_arg0)) hx _ (result0 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0))
      ∧ r.2.sem = fun _ => 0 :=
  (θ_run _ _ _).mono (fun _ h => ⟨fun c => ⟨h.1 c, kept0 (h.1 c)⟩, h.2⟩) (run_settled m g)

end Cert.GatherSmallIdeal.Move

end
-- ==== Proof.GatherMod.lean ====
/-
# The gather of the modulation vectors

Every device sends its array to every other, and each ends with all eight, one slot per sender.
-/
module

public import proofs.«01_k».proof.Proof.Blocks
public import proofs.«01_k».proof.Proof.Gen.GatherModIdeal.Launch

@[expose] public section

noncomputable section

namespace Cert.GatherModIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.GatherModIdeal.Gen

set_option Elab.async false

variable {F : FTy → Type} [FloatOps F]

local notation "𝕄" => MT nD τ sig Unit (Elt F) ℕ (UU nD τ sig) ℕ

/-! ## The buffers -/

theorem dst0_inb : ∀ (p : Dev 8) (a), (![p.val, 0, 0] : Fin 3 → Nat) a + S1x64x768.size a ≤ S8x64x768.size a := by decide +kernel
theorem dst0_words : ∀ p : Dev 8, (slotBlock (r := 64) (C := 768) dst0_inb p).WholeWords (EltTy.packing .f32) := by decide +kernel

/-- What a device sends of `main_arg0`: the whole of it, to every device. -/
def src0 (_ : Dev 8) : Memref sig .tc .hbm S64x768 .f32 := Memref.whole main_arg0

/-- The slot of `main_v1` kept for what device `p` sends. -/
def dst0 (p : Dev 8) : Memref sig .tc .hbm S64x768 .f32 :=
  ((Memref.whole main_v1).slice (slotBlock (r := 64) (C := 768) dst0_inb p) (fun _ => rfl)).squeeze S64x768 squeezes_S1x64x768_S64x768

/-- The shapes of what is sent. -/
def shape : Fin 1 → Shape
  | 0 => S64x768

/-- What is sent, buffer by buffer. -/
def src : (j : Fin 1) → Dev 8 → Memref sig .tc .hbm (shape j) .f32
  | 0 => src0

/-- Where it lands. -/
def dst : (j : Fin 1) → Dev 8 → Memref sig .tc .hbm (shape j) .f32
  | 0 => dst0

/-- The exchange. -/
def plan : Plan nD τ sig 1 7 where
  peer := peer
  peer_peer := peer_peer
  around := around
  around_none _ := rfl
  around_some _ _ := rfl
  routes := by decide +kernel
  S := shape
  e _ := .f32
  src := src
  dst := dst
  srcExact j p := by
    match j with
    | 0 => exact (Memref.isWhole_whole main_arg0).wordExact
  dstExact j p := by
    match j with
    | 0 => exact ((Memref.isWhole_whole main_v1).wordExact_slice rfl _ (dst0_words p)).reshape _ _
  dstPlain j p := by
    match j with
    | 0 => rfl
  sem x := ⟨semNo x, semNo_lt x⟩
  sem_inj _ _ h := semNo_inj (congrArg Fin.val h)
  N j := (src j 0).view.dmaCredit
  N_pos j := by
    match j with
    | 0 => exact View.dmaCredit_pos _ (by decide)
  credit_src j p := by
    match j with
    | 0 => rfl
  credit_dst j p := by
    match j with
    | 0 => rfl

/-! ## The printed body is the plan's -/

theorem off1 (c : Dev nD) : k0_off1 c = ![c.val, 0, 0] := by revert c; decide +kernel
theorem off2 : ∀ (c : Dev nD) (k : Fin 7), k0_off2 c (k0_off2_at k).1 (k0_off2_at k).2.1 (k0_off2_at k).2.2 = ![(peer k c).val, 0, 0] := by
  decide +kernel

theorem dst0_own (c : Dev nD) (inb) (hs) :
    ((Memref.whole main_v1).slice (Rect.unit (s := S8x64x768) (k0_off1 c) S1x64x768.size inb) hs).squeeze S64x768 squeezes_S1x64x768_S64x768
      = plan.dst 0 c :=
  congrArg (fun M : Memref sig .tc .hbm S1x64x768 .f32 => M.squeeze S64x768 squeezes_S1x64x768_S64x768)
    (slice_at (Memref.whole main_v1) (off1 c) _ _ _ (fun _ => rfl))

theorem dst0_peer (k : Fin 7) (c : Dev nD) (inb) (hs) :
    ((Memref.whole main_v1).slice (Rect.unit (s := S8x64x768) (k0_off2 c (k0_off2_at k).1 (k0_off2_at k).2.1 (k0_off2_at k).2.2) S1x64x768.size inb) hs).squeeze S64x768 squeezes_S1x64x768_S64x768
      = plan.dst 0 (plan.peer k c) :=
  congrArg (fun M : Memref sig .tc .hbm S1x64x768 .f32 => M.squeeze S64x768 squeezes_S1x64x768_S64x768)
    (slice_at (Memref.whole main_v1) (off2 c k) _ _ _ (fun _ => rfl))

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel

set_option maxRecDepth 65536 in
theorem body_eq : cc0_gather_mod (F := F) (Memref.whole main_arg0) (Memref.isWhole_whole _) (Memref.whole main_v1) (Memref.isWhole_whole _)
      cc0_scratch0 cc0_scratch1 cc0_scratch2
    = .op .deviceId fun d => plan.starts d starts1 (plan.waits d waits1 (.ret ⟨⟩)) := by
  refine congrArg (Prog.op _) (funext fun c => ?_)
  refine read_own plan (j := 0) rfl (dst0_own c _ _) rfl ?_
  refine read_send plan (j := 0) (dev1 c _) rfl (dst0_own c _ _) rfl rfl ?_
  refine read_send plan (j := 0) (dev2 c _) rfl (dst0_own c _ _) rfl rfl ?_
  refine read_send plan (j := 0) (dev3 c _) rfl (dst0_own c _ _) rfl rfl ?_
  refine read_send plan (j := 0) (dev4 c _) rfl (dst0_own c _ _) rfl rfl ?_
  refine read_send plan (j := 0) (dev5 c _) rfl (dst0_own c _ _) rfl rfl ?_
  refine read_send plan (j := 0) (dev6 c _) rfl (dst0_own c _ _) rfl rfl ?_
  refine read_send plan (j := 0) (dev7 c _) rfl (dst0_own c _ _) rfl rfl ?_
  refine read_peerWaits plan (j := 0) rfl (dst0_peer 0 c _ _) rfl rfl ?_
  refine read_peerWaits plan (j := 0) rfl (dst0_peer 1 c _ _) rfl rfl ?_
  refine read_peerWaits plan (j := 0) rfl (dst0_peer 2 c _ _) rfl rfl ?_
  refine read_peerWaits plan (j := 0) rfl (dst0_peer 3 c _ _) rfl rfl ?_
  refine read_peerWaits plan (j := 0) rfl (dst0_peer 4 c _ _) rfl rfl ?_
  refine read_peerWaits plan (j := 0) rfl (dst0_peer 5 c _ _) rfl rfl ?_
  refine read_peerWaits plan (j := 0) rfl (dst0_peer 6 c _ _) rfl rfl ?_
  refine read_ownWait plan (j := 0) rfl (dst0_own c _ _) rfl ?_
  rfl

/-! ## What each device starts with -/

theorem src0_set (p : Dev 8) : (plan.src 0 p).view.set = Finset.univ := View.set_whole _
theorem dst0_set (p : Dev 8) : (plan.dst 0 p).view.set = (slotBlock (r := 64) (C := 768) dst0_inb p).set := (View.set_reshape _ _).trans (View.set_slice_whole _ _)
theorem dst0_cut : IsCut fun p => (slotBlock (r := 64) (C := 768) dst0_inb p).set := slots_cut dst0_inb

/-- The share each part is lent at: an eighth of its buffer, the whole of which every device is sent. -/
def lent (_ : Fin 1) (p : Dev nD) : PosShare TreeShare := eighth p

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_shares (ℓ := ((c.tc : Thread nD τ).loc main_arg0)) src0_set _

theorem dst0_split : (((c.tc : Thread nD τ).loc main_v1) ↦{fullShare} m ((c.tc : Thread nD τ).loc main_v1) : sProp 𝕄)
    ⊢ bigSep Finset.univ fun p : Dev 8 => iprop(∃ f, dstPts plan 0 p c f) :=
  (Entails.of_eq (cut_blocks (ℓ := ((c.tc : Thread nD τ).loc main_v1)) dst0_cut dst0_set _)).trans (some_slots plan m c 0)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = bigSep Finset.univ fun p : Dev 8 => srcPts plan (contents plan lent m) 0 p c :=
    bigSep_univ_of_subsingleton (0 : Fin 1)
  have hs : (slots plan c : sProp 𝕄) = bigSep Finset.univ fun p : Dev 8 => iprop(∃ f, dstPts plan 0 p c f) :=
    bigSep_univ_of_subsingleton (0 : Fin 1)
  rw [hsub, unscopedRest0_eq, hp, hs, ← src0_split]
  have h0 := dst0_split m c
  iintro ⟨H0, D0⟩
  isplitl [H0]
  · iexact H0
  iapply h0; iexact D0

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders1
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := funext fun i => (h 0 0).1 i (by rw [src0_set]; exact Finset.mem_univ i)

theorem result0 (p : Dev 8) (a : Fin 64) (b : Fin 768) :
    mem ((c.tc : Thread nD τ).loc main_v1) (ix3 p a b) = m ((Dev.tc (τ := τ) (nD := nD) p : Thread nD τ).loc main_arg0) (ix2 a b) := by
  have hread : mem ((c.tc : Thread nD τ).loc main_v1) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix3 p a b := slotBlock_emb dst0_inb p a b _
  have hr : (plan.src 0 c).view.emb (ix2 a b) = ix2 a b := rfl
  rw [hl, hr] at hread
  exact hread

/-- Over the whole array this is its reshape. -/
theorem whole0 (w : (⟨2, ![512, 768]⟩ : Shape).Idx → Elt F .f32) (hc : (⟨2, ![512, 768]⟩ : Shape).ShapeCasts ⟨3, ![8, 64, 768]⟩)
    (hx : ∀ p : Dev 8, m ((Dev.tc (τ := τ) (nD := nD) p : Thread nD τ).loc main_arg0) = Layout.block ⟨2, ![64, 768]⟩ ⟨2, ![512, 768]⟩ 0 8 p w) :
    mem ((c.tc : Thread nD τ).loc main_v1) = shapeCast _ w hc :=
  slots_gathered w hc (by decide) (fun p => m ((Dev.tc (τ := τ) (nD := nD) p : Thread nD τ).loc main_arg0)) hx _ (result0 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0))
      ∧ r.2.sem = fun _ => 0 :=
  (θ_run _ _ _).mono (fun _ h => ⟨fun c => ⟨h.1 c, kept0 (h.1 c)⟩, h.2⟩) (run_settled m g)

end Cert.GatherModIdeal.Move

end
-- ==== Proof.GatherDmod.lean ====
/-
# The gather of the modulation gradients

Every device sends its array to every other, and each ends with all eight, one slot per sender.
-/
module

public import proofs.«01_k».proof.Proof.Blocks
public import proofs.«01_k».proof.Proof.Gen.GatherDmodIdeal.Launch

@[expose] public section

noncomputable section

namespace Cert.GatherDmodIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.GatherDmodIdeal.Gen

set_option Elab.async false

variable {F : FTy → Type} [FloatOps F]

local notation "𝕄" => MT nD τ sig Unit (Elt F) ℕ (UU nD τ sig) ℕ

/-! ## The buffers -/

theorem dst0_inb : ∀ (p : Dev 8) (a), (![p.val, 0, 0] : Fin 3 → Nat) a + S1x8x6144.size a ≤ S8x8x6144.size a := by decide +kernel
theorem dst0_words : ∀ p : Dev 8, (slotBlock (r := 8) (C := 6144) dst0_inb p).WholeWords (EltTy.packing .f32) := by decide +kernel

/-- What a device sends of `main_arg0`: the whole of it, to every device. -/
def src0 (_ : Dev 8) : Memref sig .tc .hbm S8x6144 .f32 := Memref.whole main_arg0

/-- The slot of `main_v1` kept for what device `p` sends. -/
def dst0 (p : Dev 8) : Memref sig .tc .hbm S8x6144 .f32 :=
  ((Memref.whole main_v1).slice (slotBlock (r := 8) (C := 6144) dst0_inb p) (fun _ => rfl)).squeeze S8x6144 squeezes_S1x8x6144_S8x6144

/-- The shapes of what is sent. -/
def shape : Fin 1 → Shape
  | 0 => S8x6144

/-- What is sent, buffer by buffer. -/
def src : (j : Fin 1) → Dev 8 → Memref sig .tc .hbm (shape j) .f32
  | 0 => src0

/-- Where it lands. -/
def dst : (j : Fin 1) → Dev 8 → Memref sig .tc .hbm (shape j) .f32
  | 0 => dst0

/-- The exchange. -/
def plan : Plan nD τ sig 1 7 where
  peer := peer
  peer_peer := peer_peer
  around := around
  around_none _ := rfl
  around_some _ _ := rfl
  routes := by decide +kernel
  S := shape
  e _ := .f32
  src := src
  dst := dst
  srcExact j p := by
    match j with
    | 0 => exact (Memref.isWhole_whole main_arg0).wordExact
  dstExact j p := by
    match j with
    | 0 => exact ((Memref.isWhole_whole main_v1).wordExact_slice rfl _ (dst0_words p)).reshape _ _
  dstPlain j p := by
    match j with
    | 0 => rfl
  sem x := ⟨semNo x, semNo_lt x⟩
  sem_inj _ _ h := semNo_inj (congrArg Fin.val h)
  N j := (src j 0).view.dmaCredit
  N_pos j := by
    match j with
    | 0 => exact View.dmaCredit_pos _ (by decide)
  credit_src j p := by
    match j with
    | 0 => rfl
  credit_dst j p := by
    match j with
    | 0 => rfl

/-! ## The printed body is the plan's -/

theorem off1 (c : Dev nD) : k0_off1 c = ![c.val, 0, 0] := by revert c; decide +kernel
theorem off2 : ∀ (c : Dev nD) (k : Fin 7), k0_off2 c (k0_off2_at k).1 (k0_off2_at k).2.1 (k0_off2_at k).2.2 = ![(peer k c).val, 0, 0] := by
  decide +kernel

theorem dst0_own (c : Dev nD) (inb) (hs) :
    ((Memref.whole main_v1).slice (Rect.unit (s := S8x8x6144) (k0_off1 c) S1x8x6144.size inb) hs).squeeze S8x6144 squeezes_S1x8x6144_S8x6144
      = plan.dst 0 c :=
  congrArg (fun M : Memref sig .tc .hbm S1x8x6144 .f32 => M.squeeze S8x6144 squeezes_S1x8x6144_S8x6144)
    (slice_at (Memref.whole main_v1) (off1 c) _ _ _ (fun _ => rfl))

theorem dst0_peer (k : Fin 7) (c : Dev nD) (inb) (hs) :
    ((Memref.whole main_v1).slice (Rect.unit (s := S8x8x6144) (k0_off2 c (k0_off2_at k).1 (k0_off2_at k).2.1 (k0_off2_at k).2.2) S1x8x6144.size inb) hs).squeeze S8x6144 squeezes_S1x8x6144_S8x6144
      = plan.dst 0 (plan.peer k c) :=
  congrArg (fun M : Memref sig .tc .hbm S1x8x6144 .f32 => M.squeeze S8x6144 squeezes_S1x8x6144_S8x6144)
    (slice_at (Memref.whole main_v1) (off2 c k) _ _ _ (fun _ => rfl))

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel

set_option maxRecDepth 65536 in
theorem body_eq : cc0_gather_dmod (F := F) (Memref.whole main_arg0) (Memref.isWhole_whole _) (Memref.whole main_v1) (Memref.isWhole_whole _)
      cc0_scratch0 cc0_scratch1 cc0_scratch2
    = .op .deviceId fun d => plan.starts d starts1 (plan.waits d waits1 (.ret ⟨⟩)) := by
  refine congrArg (Prog.op _) (funext fun c => ?_)
  refine read_own plan (j := 0) rfl (dst0_own c _ _) rfl ?_
  refine read_send plan (j := 0) (dev1 c _) rfl (dst0_own c _ _) rfl rfl ?_
  refine read_send plan (j := 0) (dev2 c _) rfl (dst0_own c _ _) rfl rfl ?_
  refine read_send plan (j := 0) (dev3 c _) rfl (dst0_own c _ _) rfl rfl ?_
  refine read_send plan (j := 0) (dev4 c _) rfl (dst0_own c _ _) rfl rfl ?_
  refine read_send plan (j := 0) (dev5 c _) rfl (dst0_own c _ _) rfl rfl ?_
  refine read_send plan (j := 0) (dev6 c _) rfl (dst0_own c _ _) rfl rfl ?_
  refine read_send plan (j := 0) (dev7 c _) rfl (dst0_own c _ _) rfl rfl ?_
  refine read_peerWaits plan (j := 0) rfl (dst0_peer 0 c _ _) rfl rfl ?_
  refine read_peerWaits plan (j := 0) rfl (dst0_peer 1 c _ _) rfl rfl ?_
  refine read_peerWaits plan (j := 0) rfl (dst0_peer 2 c _ _) rfl rfl ?_
  refine read_peerWaits plan (j := 0) rfl (dst0_peer 3 c _ _) rfl rfl ?_
  refine read_peerWaits plan (j := 0) rfl (dst0_peer 4 c _ _) rfl rfl ?_
  refine read_peerWaits plan (j := 0) rfl (dst0_peer 5 c _ _) rfl rfl ?_
  refine read_peerWaits plan (j := 0) rfl (dst0_peer 6 c _ _) rfl rfl ?_
  refine read_ownWait plan (j := 0) rfl (dst0_own c _ _) rfl ?_
  rfl

/-! ## What each device starts with -/

theorem src0_set (p : Dev 8) : (plan.src 0 p).view.set = Finset.univ := View.set_whole _
theorem dst0_set (p : Dev 8) : (plan.dst 0 p).view.set = (slotBlock (r := 8) (C := 6144) dst0_inb p).set := (View.set_reshape _ _).trans (View.set_slice_whole _ _)
theorem dst0_cut : IsCut fun p => (slotBlock (r := 8) (C := 6144) dst0_inb p).set := slots_cut dst0_inb

/-- The share each part is lent at: an eighth of its buffer, the whole of which every device is sent. -/
def lent (_ : Fin 1) (p : Dev nD) : PosShare TreeShare := eighth p

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_shares (ℓ := ((c.tc : Thread nD τ).loc main_arg0)) src0_set _

theorem dst0_split : (((c.tc : Thread nD τ).loc main_v1) ↦{fullShare} m ((c.tc : Thread nD τ).loc main_v1) : sProp 𝕄)
    ⊢ bigSep Finset.univ fun p : Dev 8 => iprop(∃ f, dstPts plan 0 p c f) :=
  (Entails.of_eq (cut_blocks (ℓ := ((c.tc : Thread nD τ).loc main_v1)) dst0_cut dst0_set _)).trans (some_slots plan m c 0)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = bigSep Finset.univ fun p : Dev 8 => srcPts plan (contents plan lent m) 0 p c :=
    bigSep_univ_of_subsingleton (0 : Fin 1)
  have hs : (slots plan c : sProp 𝕄) = bigSep Finset.univ fun p : Dev 8 => iprop(∃ f, dstPts plan 0 p c f) :=
    bigSep_univ_of_subsingleton (0 : Fin 1)
  rw [hsub, unscopedRest0_eq, hp, hs, ← src0_split]
  have h0 := dst0_split m c
  iintro ⟨H0, D0⟩
  isplitl [H0]
  · iexact H0
  iapply h0; iexact D0

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders1
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := funext fun i => (h 0 0).1 i (by rw [src0_set]; exact Finset.mem_univ i)

theorem result0 (p : Dev 8) (a : Fin 8) (b : Fin 6144) :
    mem ((c.tc : Thread nD τ).loc main_v1) (ix3 p a b) = m ((Dev.tc (τ := τ) (nD := nD) p : Thread nD τ).loc main_arg0) (ix2 a b) := by
  have hread : mem ((c.tc : Thread nD τ).loc main_v1) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix3 p a b := slotBlock_emb dst0_inb p a b _
  have hr : (plan.src 0 c).view.emb (ix2 a b) = ix2 a b := rfl
  rw [hl, hr] at hread
  exact hread

/-- Over the whole array this is its reshape. -/
theorem whole0 (w : (⟨2, ![64, 6144]⟩ : Shape).Idx → Elt F .f32) (hc : (⟨2, ![64, 6144]⟩ : Shape).ShapeCasts ⟨3, ![8, 8, 6144]⟩)
    (hx : ∀ p : Dev 8, m ((Dev.tc (τ := τ) (nD := nD) p : Thread nD τ).loc main_arg0) = Layout.block ⟨2, ![8, 6144]⟩ ⟨2, ![64, 6144]⟩ 0 8 p w) :
    mem ((c.tc : Thread nD τ).loc main_v1) = shapeCast _ w hc :=
  slots_gathered w hc (by decide) (fun p => m ((Dev.tc (τ := τ) (nD := nD) p : Thread nD τ).loc main_arg0)) hx _ (result0 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0))
      ∧ r.2.sem = fun _ => 0 :=
  (θ_run _ _ _).mono (fun _ h => ⟨fun c => ⟨h.1 c, kept0 (h.1 c)⟩, h.2⟩) (run_settled m g)

end Cert.GatherDmodIdeal.Move

end
-- ==== Proof.GatherGrads.lean ====
/-
# The gather of the small gradients

Every device sends its array to every other, and each ends with all eight, one slot per sender.
-/
module

public import proofs.«01_k».proof.Proof.Blocks
public import proofs.«01_k».proof.Proof.Gen.GatherGradsIdeal.Launch

@[expose] public section

noncomputable section

namespace Cert.GatherGradsIdeal.Move

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.ValueIdx
open Cert.Exchange Cert.GatherGradsIdeal.Gen

set_option Elab.async false

variable {F : FTy → Type} [FloatOps F]

local notation "𝕄" => MT nD τ sig Unit (Elt F) ℕ (UU nD τ sig) ℕ

/-! ## The buffers -/

theorem dst0_inb : ∀ (p : Dev 8) (a), (![p.val, 0, 0] : Fin 3 → Nat) a + S1x384x128.size a ≤ S8x384x128.size a := by decide +kernel
theorem dst0_words : ∀ p : Dev 8, (slotBlock (r := 384) (C := 128) dst0_inb p).WholeWords (EltTy.packing .f32) := by decide +kernel

/-- What a device sends of `main_arg0`: the whole of it, to every device. -/
def src0 (_ : Dev 8) : Memref sig .tc .hbm S384x128 .f32 := Memref.whole main_arg0

/-- The slot of `main_v1` kept for what device `p` sends. -/
def dst0 (p : Dev 8) : Memref sig .tc .hbm S384x128 .f32 :=
  ((Memref.whole main_v1).slice (slotBlock (r := 384) (C := 128) dst0_inb p) (fun _ => rfl)).squeeze S384x128 squeezes_S1x384x128_S384x128

/-- The shapes of what is sent. -/
def shape : Fin 1 → Shape
  | 0 => S384x128

/-- What is sent, buffer by buffer. -/
def src : (j : Fin 1) → Dev 8 → Memref sig .tc .hbm (shape j) .f32
  | 0 => src0

/-- Where it lands. -/
def dst : (j : Fin 1) → Dev 8 → Memref sig .tc .hbm (shape j) .f32
  | 0 => dst0

/-- The exchange. -/
def plan : Plan nD τ sig 1 7 where
  peer := peer
  peer_peer := peer_peer
  around := around
  around_none _ := rfl
  around_some _ _ := rfl
  routes := by decide +kernel
  S := shape
  e _ := .f32
  src := src
  dst := dst
  srcExact j p := by
    match j with
    | 0 => exact (Memref.isWhole_whole main_arg0).wordExact
  dstExact j p := by
    match j with
    | 0 => exact ((Memref.isWhole_whole main_v1).wordExact_slice rfl _ (dst0_words p)).reshape _ _
  dstPlain j p := by
    match j with
    | 0 => rfl
  sem x := ⟨semNo x, semNo_lt x⟩
  sem_inj _ _ h := semNo_inj (congrArg Fin.val h)
  N j := (src j 0).view.dmaCredit
  N_pos j := by
    match j with
    | 0 => exact View.dmaCredit_pos _ (by decide)
  credit_src j p := by
    match j with
    | 0 => rfl
  credit_dst j p := by
    match j with
    | 0 => rfl

/-! ## The printed body is the plan's -/

theorem off1 (c : Dev nD) : k0_off1 c = ![c.val, 0, 0] := by revert c; decide +kernel
theorem off2 : ∀ (c : Dev nD) (k : Fin 7), k0_off2 c (k0_off2_at k).1 (k0_off2_at k).2.1 (k0_off2_at k).2.2 = ![(peer k c).val, 0, 0] := by
  decide +kernel

theorem dst0_own (c : Dev nD) (inb) (hs) :
    ((Memref.whole main_v1).slice (Rect.unit (s := S8x384x128) (k0_off1 c) S1x384x128.size inb) hs).squeeze S384x128 squeezes_S1x384x128_S384x128
      = plan.dst 0 c :=
  congrArg (fun M : Memref sig .tc .hbm S1x384x128 .f32 => M.squeeze S384x128 squeezes_S1x384x128_S384x128)
    (slice_at (Memref.whole main_v1) (off1 c) _ _ _ (fun _ => rfl))

theorem dst0_peer (k : Fin 7) (c : Dev nD) (inb) (hs) :
    ((Memref.whole main_v1).slice (Rect.unit (s := S8x384x128) (k0_off2 c (k0_off2_at k).1 (k0_off2_at k).2.1 (k0_off2_at k).2.2) S1x384x128.size inb) hs).squeeze S384x128 squeezes_S1x384x128_S384x128
      = plan.dst 0 (plan.peer k c) :=
  congrArg (fun M : Memref sig .tc .hbm S1x384x128 .f32 => M.squeeze S384x128 squeezes_S1x384x128_S384x128)
    (slice_at (Memref.whole main_v1) (off2 c k) _ _ _ (fun _ => rfl))

theorem dev1 : ∀ c h, (⟨k0_dev1 c, h⟩ : Dev nD) = plan.peer 0 c := by decide +kernel
theorem dev2 : ∀ c h, (⟨k0_dev2 c, h⟩ : Dev nD) = plan.peer 1 c := by decide +kernel
theorem dev3 : ∀ c h, (⟨k0_dev3 c, h⟩ : Dev nD) = plan.peer 2 c := by decide +kernel
theorem dev4 : ∀ c h, (⟨k0_dev4 c, h⟩ : Dev nD) = plan.peer 3 c := by decide +kernel
theorem dev5 : ∀ c h, (⟨k0_dev5 c, h⟩ : Dev nD) = plan.peer 4 c := by decide +kernel
theorem dev6 : ∀ c h, (⟨k0_dev6 c, h⟩ : Dev nD) = plan.peer 5 c := by decide +kernel
theorem dev7 : ∀ c h, (⟨k0_dev7 c, h⟩ : Dev nD) = plan.peer 6 c := by decide +kernel

set_option maxRecDepth 65536 in
theorem body_eq : cc0_gather_small_grads (F := F) (Memref.whole main_arg0) (Memref.isWhole_whole _) (Memref.whole main_v1) (Memref.isWhole_whole _)
      cc0_scratch0 cc0_scratch1 cc0_scratch2
    = .op .deviceId fun d => plan.starts d starts1 (plan.waits d waits1 (.ret ⟨⟩)) := by
  refine congrArg (Prog.op _) (funext fun c => ?_)
  refine read_own plan (j := 0) rfl (dst0_own c _ _) rfl ?_
  refine read_send plan (j := 0) (dev1 c _) rfl (dst0_own c _ _) rfl rfl ?_
  refine read_send plan (j := 0) (dev2 c _) rfl (dst0_own c _ _) rfl rfl ?_
  refine read_send plan (j := 0) (dev3 c _) rfl (dst0_own c _ _) rfl rfl ?_
  refine read_send plan (j := 0) (dev4 c _) rfl (dst0_own c _ _) rfl rfl ?_
  refine read_send plan (j := 0) (dev5 c _) rfl (dst0_own c _ _) rfl rfl ?_
  refine read_send plan (j := 0) (dev6 c _) rfl (dst0_own c _ _) rfl rfl ?_
  refine read_send plan (j := 0) (dev7 c _) rfl (dst0_own c _ _) rfl rfl ?_
  refine read_peerWaits plan (j := 0) rfl (dst0_peer 0 c _ _) rfl rfl ?_
  refine read_peerWaits plan (j := 0) rfl (dst0_peer 1 c _ _) rfl rfl ?_
  refine read_peerWaits plan (j := 0) rfl (dst0_peer 2 c _ _) rfl rfl ?_
  refine read_peerWaits plan (j := 0) rfl (dst0_peer 3 c _ _) rfl rfl ?_
  refine read_peerWaits plan (j := 0) rfl (dst0_peer 4 c _ _) rfl rfl ?_
  refine read_peerWaits plan (j := 0) rfl (dst0_peer 5 c _ _) rfl rfl ?_
  refine read_peerWaits plan (j := 0) rfl (dst0_peer 6 c _ _) rfl rfl ?_
  refine read_ownWait plan (j := 0) rfl (dst0_own c _ _) rfl ?_
  rfl

/-! ## What each device starts with -/

theorem src0_set (p : Dev 8) : (plan.src 0 p).view.set = Finset.univ := View.set_whole _
theorem dst0_set (p : Dev 8) : (plan.dst 0 p).view.set = (slotBlock (r := 384) (C := 128) dst0_inb p).set := (View.set_reshape _ _).trans (View.set_slice_whole _ _)
theorem dst0_cut : IsCut fun p => (slotBlock (r := 384) (C := 128) dst0_inb p).set := slots_cut dst0_inb

/-- The share each part is lent at: an eighth of its buffer, the whole of which every device is sent. -/
def lent (_ : Fin 1) (p : Dev nD) : PosShare TreeShare := eighth p

section Split

variable (m : (ℓ : Loc nD τ sig) → Buf (Elt F) ℓ) (c : Dev nD)

theorem src0_split : (((c.tc : Thread nD τ).loc main_arg0) ↦{fullShare} m ((c.tc : Thread nD τ).loc main_arg0) : sProp 𝕄)
    = bigSep Finset.univ fun p : Dev 8 => srcPts plan (contents plan lent m) 0 p c :=
  cut_shares (ℓ := ((c.tc : Thread nD τ).loc main_arg0)) src0_set _

theorem dst0_split : (((c.tc : Thread nD τ).loc main_v1) ↦{fullShare} m ((c.tc : Thread nD τ).loc main_v1) : sProp 𝕄)
    ⊢ bigSep Finset.univ fun p : Dev 8 => iprop(∃ f, dstPts plan 0 p c f) :=
  (Entails.of_eq (cut_blocks (ℓ := ((c.tc : Thread nD τ).loc main_v1)) dst0_cut dst0_set _)).trans (some_slots plan m c 0)

/-- The launch's buffers are the exchange's parts and slots. -/
theorem split : (unscopedBufs c (fun b => m ((c.tc : Thread nD τ).loc b)) : sProp 𝕄)
    ⊢ iprop(parts plan (contents plan lent m) c ∗ slots plan c) := by
  have hsub : (unscopedBufs c (fun b => m ((c.tc : Thread nD τ).loc b)) : sProp 𝕄)
      = unscopedRest cfg0.spec c (fun b => m ((c.tc : Thread nD τ).loc b)) := by
    unfold unscopedBufs unscopedRest
    have : Finset.univ.image (arrRef cfg0.spec) = (∅ : Finset (Ref sig .tc)) := by decide
    rw [this, Finset.sdiff_empty]
  have hp : (parts plan (contents plan lent m) c : sProp 𝕄)
      = bigSep Finset.univ fun p : Dev 8 => srcPts plan (contents plan lent m) 0 p c :=
    bigSep_univ_of_subsingleton (0 : Fin 1)
  have hs : (slots plan c : sProp 𝕄) = bigSep Finset.univ fun p : Dev 8 => iprop(∃ f, dstPts plan 0 p c f) :=
    bigSep_univ_of_subsingleton (0 : Fin 1)
  rw [hsub, unscopedRest0_eq, hp, hs, ← src0_split]
  have h0 := dst0_split m c
  iintro ⟨H0, D0⟩
  isplitl [H0]
  · iexact H0
  iapply h0; iexact D0

end Split

/-! ## The run -/

theorem sems : OwnSemFacts cfg0.spec plan.osem := by decide +kernel

theorem main_eq (c : Dev nD) : main (F := F) c = Prog.lift (.customCall (entry 0) ()) := rfl

set_option maxRecDepth 65536 in
/-- Every weakly fair execution terminates, settled on every device, with every counter at zero. -/
theorem run_settled (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c) ∧ r.2.sem = fun _ => 0 :=
  θ_run_settled plan lent (pcfgs (F := F)) (fun p => (cfgs p).toPCfg_adm) cellOf_inj (defs₀ (F := F)) orders1
    (main (F := F)) main_eq (fun p => by match p with | 0 => exact inferInstanceAs (IsEmpty (Fin 0))) rfl
    (inferInstanceAs (IsEmpty (Fin 0))) winFacts0.to₀ sems
    (fun c t Q => Entails.of_eq (congrArg (fun e => wp frame (wpE (defs₀ (F := F)) Variants.none (c.tc : Thread nD τ) none) Set.univ e fun _ => Q)
      (body_eq (F := F)).symm))
    (fun c => scopedRest0_eq c) m g (fun c => split m c) fun s hset hz => ⟨hset, sem_eq_zero_of_scoped (by decide) hz⟩

/-! ## What the buffers hold at the end -/

section Read

variable {m mem : (ℓ : Loc nD τ sig) → Buf (Elt F) ℓ} {c : Dev nD} (h : Settled plan m mem c)
include h

theorem kept0 : mem ((c.tc : Thread nD τ).loc main_arg0) = m ((c.tc : Thread nD τ).loc main_arg0) := funext fun i => (h 0 0).1 i (by rw [src0_set]; exact Finset.mem_univ i)

theorem result0 (p : Dev 8) (a : Fin 384) (b : Fin 128) :
    mem ((c.tc : Thread nD τ).loc main_v1) (ix3 p a b) = m ((Dev.tc (τ := τ) (nD := nD) p : Thread nD τ).loc main_arg0) (ix2 a b) := by
  have hread : mem ((c.tc : Thread nD τ).loc main_v1) ((plan.dst 0 p).view.emb (ix2 a b))
      = m ((Dev.tc (τ := τ) (nD := nD) p : Thread nD τ).loc main_arg0) ((plan.src 0 c).view.emb (ix2 a b)) := congrFun (h 0 p).2 (ix2 a b)
  have hl : (plan.dst 0 p).view.emb (ix2 a b) = ix3 p a b := slotBlock_emb dst0_inb p a b _
  have hr : (plan.src 0 c).view.emb (ix2 a b) = ix2 a b := rfl
  rw [hl, hr] at hread
  exact hread

/-- Over the whole array this is its reshape. -/
theorem whole0 (w : (⟨2, ![3072, 128]⟩ : Shape).Idx → Elt F .f32) (hc : (⟨2, ![3072, 128]⟩ : Shape).ShapeCasts ⟨3, ![8, 384, 128]⟩)
    (hx : ∀ p : Dev 8, m ((Dev.tc (τ := τ) (nD := nD) p : Thread nD τ).loc main_arg0) = Layout.block ⟨2, ![384, 128]⟩ ⟨2, ![3072, 128]⟩ 0 8 p w) :
    mem ((c.tc : Thread nD τ).loc main_v1) = shapeCast _ w hc :=
  slots_gathered w hc (by decide) (fun p => m ((Dev.tc (τ := τ) (nD := nD) p : Thread nD τ).loc main_arg0)) hx _ (result0 h)

end Read

/-- Every weakly fair execution terminates settled, with the arguments unchanged and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, Settled plan m r.2.mem c
        ∧ r.2.mem ((c.tc : Thread nD τ).loc main_arg0) = m ((c.tc : Thread nD τ).loc main_arg0))
      ∧ r.2.sem = fun _ => 0 :=
  (θ_run _ _ _).mono (fun _ h => ⟨fun c => ⟨h.1 c, kept0 (h.1 c)⟩, h.2⟩) (run_settled m g)

end Cert.GatherGradsIdeal.Move

end
-- ==== Proof.Whole.lean ====
/-
# The whole arrays, gathered by no one

The references of the gathers of weights return their arguments: they have no operation, and they terminate leaving memory as it was.
-/
module

public import proofs.«01_k».proof.Proof.Gen.WholeFfnIdeal
public import proofs.«01_k».proof.Proof.Gen.WholeEvenIdeal
public import proofs.«01_k».proof.Proof.Gen.WholeOddIdeal
public import Idealize.ShloMosaic.Lib.StableHlo.Run

@[expose] public section

noncomputable section

namespace Cert.WholeFfnIdeal.Still

open Cert.WholeFfnIdeal Idealize.ShloMosaic Idealize.ShloMosaic.TcCoe Idealize.SL.Sem Idealize.ShloMosaic.StableHlo

variable {F : FTy → Type} [FloatOps F]

theorem main_eq (c : Dev nD) : main (F := F) c = seq [] := rfl
theorem scopedRefs_eq : (Finset.univ.filter fun b : Ref sig .tc => b.isScoped) = ∅ := by decide
theorem scopedSems_eq : (Finset.univ.filter fun sm : SemLoc sig => sm.isScoped .tc) = ∅ := by decide

/-- Every weakly fair execution terminates with every buffer as it was. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = m ((c.tc : Thread nD τ).loc b) :=
  run_seq scopedRefs_eq scopedSems_eq defs main (fun _ => []) main_eq (fun _ => trivial) m ρ

end Cert.WholeFfnIdeal.Still

namespace Cert.WholeEvenIdeal.Still

open Cert.WholeEvenIdeal Idealize.ShloMosaic Idealize.ShloMosaic.TcCoe Idealize.SL.Sem Idealize.ShloMosaic.StableHlo

variable {F : FTy → Type} [FloatOps F]

theorem main_eq (c : Dev nD) : main (F := F) c = seq [] := rfl
theorem scopedRefs_eq : (Finset.univ.filter fun b : Ref sig .tc => b.isScoped) = ∅ := by decide
theorem scopedSems_eq : (Finset.univ.filter fun sm : SemLoc sig => sm.isScoped .tc) = ∅ := by decide

/-- Every weakly fair execution terminates with every buffer as it was. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = m ((c.tc : Thread nD τ).loc b) :=
  run_seq scopedRefs_eq scopedSems_eq defs main (fun _ => []) main_eq (fun _ => trivial) m ρ

end Cert.WholeEvenIdeal.Still

namespace Cert.WholeOddIdeal.Still

open Cert.WholeOddIdeal Idealize.ShloMosaic Idealize.ShloMosaic.TcCoe Idealize.SL.Sem Idealize.ShloMosaic.StableHlo

variable {F : FTy → Type} [FloatOps F]

theorem main_eq (c : Dev nD) : main (F := F) c = seq [] := rfl
theorem scopedRefs_eq : (Finset.univ.filter fun b : Ref sig .tc => b.isScoped) = ∅ := by decide
theorem scopedSems_eq : (Finset.univ.filter fun sm : SemLoc sig => sm.isScoped .tc) = ∅ := by decide

/-- Every weakly fair execution terminates with every buffer as it was. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = m ((c.tc : Thread nD τ).loc b) :=
  run_seq scopedRefs_eq scopedSems_eq defs main (fun _ => []) main_eq (fun _ => trivial) m ρ

end Cert.WholeOddIdeal.Still

end
-- ==== Proof.Adam.lean ====
/-
  The AdamW step of one weight, as functions of its gradient, its two moments and the weight itself, on arrays of
  any shape: every operation acts on each element alone, so the step of a block is the block of the step.

    newM / newV      the first and the second moment after the step
    delta            the change of the weight
    delta_host       at the extended reals, the same change written with the host's division and square root
    sum8             the sum of what eight devices sent, in the order of the devices
    slab             what one of the eight sent
    grad             the gradient of a weight of several layers, summed from the eight pieces of each layer
-/
module

public import Idealize.ShloMosaic.Lib.Pointwise

@[expose] public section

noncomputable section

namespace Cert.Adam

open Idealize.ShloMosaic

section
variable {F : FTy → Type} [FloatOps F] {S : Shape}

/-- The first moment after the step: `β₁ m + (1 - β₁) g`. -/
def newM (g m : FVec F S .f32) : FVec F S .f32 :=
  addf (mulf (broadcast S (Scalar.ofBits .f32 0x3F666666#32)) m) (mulf (broadcast S (Scalar.ofBits .f32 0x3DCCCCCD#32)) g)

/-- The second moment after the step: `β₂ v + (1 - β₂) g²`. -/
def newV (g v : FVec F S .f32) : FVec F S .f32 :=
  addf (mulf (broadcast S (Scalar.ofBits .f32 0x3F7FBE77#32)) v)
    (mulf (broadcast S (Scalar.ofBits .f32 0x3A83126F#32)) (mulf g g))

/-- The change of the weight: minus the rate times the corrected first moment over the root of the corrected second
    one, plus the weight's decay. -/
def delta (g w m v : FVec F S .f32) : FVec F S .f32 :=
  mulf (broadcast S (Scalar.ofBits .f32 0xBA83126F#32))
    (addf
      (divf (divf (newM g m) (broadcast S (Scalar.ofBits .f32 0x3F26BD02#32)))
        (addf (sqrt (divf (newV g v) (broadcast S (Scalar.ofBits .f32 0x3C231ACC#32))))
          (broadcast S (Scalar.ofBits .f32 0x322BCC77#32))))
      (mulf (broadcast S (Scalar.ofBits .f32 0x3C23D70A#32)) w))

/-- The same change with the host's division and square root. -/
def hostDelta (g w m v : FVec F S .f32) : FVec F S .f32 :=
  mulf (broadcast S (Scalar.ofBits .f32 0xBA83126F#32))
    (addf
      (Host.divf (Host.divf (newM g m) (broadcast S (Scalar.ofBits .f32 0x3F26BD02#32)))
        (addf (Host.sqrt (Host.divf (newV g v) (broadcast S (Scalar.ofBits .f32 0x3C231ACC#32))))
          (broadcast S (Scalar.ofBits .f32 0x322BCC77#32))))
      (mulf (broadcast S (Scalar.ofBits .f32 0x3C23D70A#32)) w))

end

/-- Over the extended reals the host's division and square root are the kernel's. -/
theorem delta_host {S : Shape} (g w m v : FVec Ideal S .f32) : hostDelta g w m v = delta g w m v := rfl

/-! ## Sums over the devices -/

section
variable {F : FTy → Type} [FloatOps F]

/-- Eight arrays added one after another. -/
def sum8 {S : Shape} (P : Fin 8 → FVec F S .f32) : FVec F S .f32 :=
  addf (addf (addf (addf (addf (addf (addf (P 0) (P 1)) (P 2)) (P 3)) (P 4)) (P 5)) (P 6)) (P 7)

/-- Two such sums agree at indices where their terms do. -/
theorem sum8_at {S T : Shape} {P : Fin 8 → FVec F S .f32} {Q : Fin 8 → FVec F T .f32} {y : S.Idx} {z : T.Idx}
    (h : ∀ k, P k y = Q k z) : sum8 P y = sum8 Q z := by
  simp only [sum8, addf, h]

end

/-- Of eight blocks side by side, one, with a leading axis of extent one. -/
def slab {α : Type} {a b : Nat} (x : (⟨3, ![8, a, b]⟩ : Shape).Idx → α) (k : Fin 8) : (⟨3, ![1, a, b]⟩ : Shape).Idx → α :=
  fun y => x (ValueIdx.ix3 k (y 1) (y 2))

theorem slab_inb (a b : Nat) (n : Fin 8) (d : Fin 3) :
    (![n.val, 0, 0] : Fin 3 → Nat) d + (![1, a, b] : Fin 3 → Nat) d ≤ (⟨3, ![8, a, b]⟩ : Shape).size d := by
  match d with
  | ⟨0, _⟩ => exact n.isLt
  | ⟨1, _⟩ => exact (Nat.zero_add a).le
  | ⟨2, _⟩ => exact (Nat.zero_add b).le

/-- Reading one of the eight. -/
theorem ld_slab {Val : EltTy → Type} {e : EltTy} {a b : Nat} (x : (⟨3, ![8, a, b]⟩ : Shape).Idx → Val e) (n : Nat) (hn : n < 8)
    (inb : ∀ d, (![n, 0, 0] : Fin 3 → Nat) d + (![1, a, b] : Fin 3 → Nat) d ≤ (⟨3, ![8, a, b]⟩ : Shape).size d) :
    View.ld x (Rect.unit (s := ⟨3, ![8, a, b]⟩) ![n, 0, 0] ![1, a, b] inb) = slab x ⟨n, hn⟩ := by
  funext y
  refine congrArg x (funext fun d => Fin.ext ?_)
  match d with
  | ⟨0, _⟩ =>
    have h : (y 0).val < 1 := (y 0).isLt
    show n + 1 * (y 0).val = n
    omega
  | ⟨1, _⟩ => show 0 + 1 * (y 1).val = (y 1).val; omega
  | ⟨2, _⟩ => show 0 + 1 * (y 2).val = (y 2).val; omega

/-- The eight with the leading axis dropped. -/
def layer {α : Type} {a b : Nat} (x : (⟨3, ![8, a, b]⟩ : Shape).Idx → α) (k : Fin 8) : (⟨2, ![a, b]⟩ : Shape).Idx → α :=
  fun y => x (ValueIdx.ix3 k (y 0) (y 1))

theorem cast_slab {α : Type} {a b : Nat} (x : (⟨3, ![8, a, b]⟩ : Shape).Idx → α) (k : Fin 8)
    (h : (⟨3, ![1, a, b]⟩ : Shape).ShapeCasts ⟨2, ![a, b]⟩) : shapeCast ⟨2, ![a, b]⟩ (slab x k) h = layer x k :=
  funext fun y => (shapeCast_dropUnit_apply (n := 2) ![a, b] (slab x k) h y).trans rfl

/-- The sum over the first axis, in its order. -/
def total {F : FTy → Type} [FloatOps F] {a b : Nat} (x : FVec F ⟨3, ![8, a, b]⟩ .f32) : FVec F ⟨2, ![a, b]⟩ .f32 :=
  sum8 fun k => layer x k

/-- The eight read one after another, each without its unit axis, and added as they come. -/
theorem total_loads {F : FTy → Type} [FloatOps F] {a b : Nat} (x : Vec F ⟨3, ![8, a, b]⟩ .f32)
    (h : (⟨3, ![1, a, b]⟩ : Shape).ShapeCasts ⟨2, ![a, b]⟩) :
    (sum8 fun n : Fin 8 => shapeCast ⟨2, ![a, b]⟩
      (View.ld x (Rect.unit (s := ⟨3, ![8, a, b]⟩) ![n.val, 0, 0] ![1, a, b] (slab_inb a b n))) h) = total x := by
  unfold total
  congr 1
  funext n
  rw [ld_slab x n.val n.isLt, cast_slab]

/-- Over the extended reals it is the host's sum. -/
theorem total_host {a b : Nat} (x : FVec Ideal ⟨3, ![8, a, b]⟩ .f32)
    (h : (⟨3, ![8, a, b]⟩ : Shape).ReducesTo [0] ⟨2, ![a, b]⟩) (hu : 0 < (⟨0, ![]⟩ : Shape).numel) :
    Host.reduceAdd x (constant ⟨0, ![]⟩ .f32 0x00000000#32) h hu = total x := by
  funext y
  pointwise
  exact (Fin.sum_univ_eight _).trans rfl

/-! ## A block with a leading axis of extent one, computed without it -/

section
variable {F : FTy → Type} [FloatOps F] {S T : Shape} (h : T.ShapeCasts S) (h' : S.ShapeCasts T)

theorem cast_newM (g : FVec F S .f32) (m : FVec F T .f32) :
    shapeCast T (newM g (shapeCast S m h)) h' = newM (shapeCast T g h') m := by
  show newM (shapeCast T g h') (shapeCast T (shapeCast S m h) h') = _
  rw [shapeCast_shapeCast]

theorem cast_newV (g : FVec F S .f32) (v : FVec F T .f32) :
    shapeCast T (newV g (shapeCast S v h)) h' = newV (shapeCast T g h') v := by
  show newV (shapeCast T g h') (shapeCast T (shapeCast S v h) h') = _
  rw [shapeCast_shapeCast]

theorem cast_delta (g : FVec F S .f32) (w m v : FVec F T .f32) :
    shapeCast T (delta g (shapeCast S w h) (shapeCast S m h) (shapeCast S v h)) h' = delta (shapeCast T g h') w m v := by
  show delta (shapeCast T g h') (shapeCast T (shapeCast S w h) h') (shapeCast T (shapeCast S m h) h')
    (shapeCast T (shapeCast S v h) h') = _
  rw [shapeCast_shapeCast, shapeCast_shapeCast, shapeCast_shapeCast]

end

/-- The gradient of one block of rows of one layer. -/
def blockGrad {F : FTy → Type} [FloatOps F] {a b : Nat} (p : Vec F ⟨3, ![8, a, b]⟩ .bf16) : FVec F ⟨3, ![1, a, b]⟩ .f32 :=
  sum8 fun k => extf .f32 (slab p k) (by decide)

/-- The eight devices' blocks read one after another, each widened without its unit axis, and added as they come. -/
def loads {F : FTy → Type} [FloatOps F] {a b : Nat} (p : Vec F ⟨3, ![8, a, b]⟩ .bf16)
    (h : (⟨3, ![1, a, b]⟩ : Shape).ShapeCasts ⟨2, ![a, b]⟩) : FVec F ⟨2, ![a, b]⟩ .f32 :=
  sum8 fun n : Fin 8 => extf .f32 (shapeCast ⟨2, ![a, b]⟩
    (View.ld p (Rect.unit (s := ⟨3, ![8, a, b]⟩) ![n.val, 0, 0] ![1, a, b] (slab_inb a b n))) h) (by decide)

theorem cast_loads {F : FTy → Type} [FloatOps F] {a b : Nat} (p : Vec F ⟨3, ![8, a, b]⟩ .bf16)
    (h : (⟨3, ![1, a, b]⟩ : Shape).ShapeCasts ⟨2, ![a, b]⟩) (h' : (⟨2, ![a, b]⟩ : Shape).ShapeCasts ⟨3, ![1, a, b]⟩) :
    shapeCast ⟨3, ![1, a, b]⟩ (loads p h) h' = blockGrad p := by
  show (sum8 fun n : Fin 8 => extf .f32 (shapeCast ⟨3, ![1, a, b]⟩ (shapeCast ⟨2, ![a, b]⟩
    (View.ld p (Rect.unit (s := ⟨3, ![8, a, b]⟩) ![n.val, 0, 0] ![1, a, b] (slab_inb a b n))) h) h') (by decide)) = _
  unfold blockGrad
  congr 1
  funext n
  rw [shapeCast_shapeCast, ld_slab p n.val n.isLt]

/-! ## The gradient of a weight of several layers -/

/-- What one device sent for each layer, its padding rows left out. -/
def sent {α : Type} {L R R' C : Nat} (hR : R ≤ R') (p : Fin L → (⟨3, ![8, R', C]⟩ : Shape).Idx → α) (k : Fin 8) :
    (⟨3, ![L, R, C]⟩ : Shape).Idx → α :=
  fun i => p (i 0) (ValueIdx.ix3 k (Fin.castLE hR (i 1)) (i 2))

/-- The gradient: the sum over the devices, in their order, of what each sent. -/
def grad {F : FTy → Type} [FloatOps F] {L R R' C : Nat} (hR : R ≤ R') (p : Fin L → FVec F ⟨3, ![8, R', C]⟩ .bf16) :
    FVec F ⟨3, ![L, R, C]⟩ .f32 :=
  sum8 fun k => extf .f32 (sent hR p k) (by decide)

/-- A block of rows of one layer of it, from the block of the same rows of that layer's pieces: `e` says where the pieces'
    block lies in them, `f` where the gradient's lies in it, and `r` is the first row of both. -/
theorem blockGrad_eq {F : FTy → Type} [FloatOps F] {L R R' C a b : Nat} (hR : R ≤ R') (p : Fin L → FVec F ⟨3, ![8, R', C]⟩ .bf16)
    (l r : Nat) (hl : l < L) (e : (⟨3, ![8, a, b]⟩ : Shape).Idx → (⟨3, ![8, R', C]⟩ : Shape).Idx)
    (f : (⟨3, ![1, a, b]⟩ : Shape).Idx → (⟨3, ![L, R, C]⟩ : Shape).Idx)
    (he : ∀ z, (e z 0).val = (z 0).val ∧ (e z 1).val = r + (z 1).val ∧ (e z 2).val = (z 2).val)
    (hf : ∀ y, (f y 0).val = l ∧ (f y 1).val = r + (y 1).val ∧ (f y 2).val = (y 2).val) :
    blockGrad (fun z => p ⟨l, hl⟩ (e z)) = fun y => grad hR p (f y) := by
  funext y
  refine sum8_at fun k => ?_
  obtain ⟨e0, e1, e2⟩ := he (ValueIdx.ix3 k (y 1) (y 2))
  obtain ⟨f0, f1, f2⟩ := hf y
  have i : e (ValueIdx.ix3 k (y 1) (y 2)) = ValueIdx.ix3 k (Fin.castLE hR (f y 1)) (f y 2) := funext fun d => Fin.ext (by
    match d with
    | ⟨0, _⟩ => exact e0
    | ⟨1, _⟩ => exact e1.trans f1.symm
    | ⟨2, _⟩ => exact e2.trans f2.symm)
  have key : slab (fun z => p ⟨l, hl⟩ (e z)) k y = sent hR p k (f y) := by
    show p ⟨l, hl⟩ (e (ValueIdx.ix3 k (y 1) (y 2))) = p (f y 0) _
    rw [i, show f y 0 = ⟨l, hl⟩ from Fin.ext f0]
    rfl
  simp only [extf, key]

/-- The layers' pieces put one after another along a new first axis, read at an index. -/
theorem stack_apply {α : Type} {L R C : Nat} (p : Fin L → (⟨3, ![8, R, C]⟩ : Shape).Idx → α)
    (hb : (⟨3, ![8, R, C]⟩ : Shape).BroadcastsInDim ⟨4, ![1, 8, R, C]⟩ (![1, 2, 3] : Fin 3 → Fin 4))
    (hc : Shape.Concatenates ((List.ofFn fun l : Fin L =>
      (⟨⟨4, ![1, 8, R, C]⟩, broadcastInDim ⟨4, ![1, 8, R, C]⟩ ![1, 2, 3] hb (p l)⟩ : (s : Shape) × (s.Idx → α))).map (·.1))
      ⟨4, ![L, 8, R, C]⟩ 0)
    (j : (⟨4, ![L, 8, R, C]⟩ : Shape).Idx) :
    concatenate ⟨4, ![L, 8, R, C]⟩ 0 (List.ofFn fun l : Fin L =>
      (⟨⟨4, ![1, 8, R, C]⟩, broadcastInDim ⟨4, ![1, 8, R, C]⟩ ![1, 2, 3] hb (p l)⟩ : (s : Shape) × (s.Idx → α))) hc j
      = p (j 0) (ValueIdx.ix3 (j 1) (j 2) (j 3)) := by
  refine (concatenate_ofFn_unit_apply (t := ⟨4, ![L, 8, R, C]⟩) (s₁ := ⟨4, ![1, 8, R, C]⟩) (0 : Fin 4)
    (fun l => broadcastInDim ⟨4, ![1, 8, R, C]⟩ ![1, 2, 3] hb (p l)) hc rfl rfl j (j 0) rfl
    (ValueIdx.ix4 0 (j 1) (j 2) (j 3)) fun b hb' => ?_).trans ?_
  · match b with
    | ⟨0, _⟩ => exact absurd rfl hb'
    | ⟨1, _⟩ => rfl
    | ⟨2, _⟩ => rfl
    | ⟨3, _⟩ => rfl
  · refine broadcastInDim_apply _ _ _ _ _ fun a => ?_
    match a with
    | ⟨0, _⟩ => rfl
    | ⟨1, _⟩ =>
      show (j 2).val = if R = 1 then 0 else (j 2).val
      have h : (j 2).val < R := (j 2).isLt
      split <;> omega
    | ⟨2, _⟩ =>
      show (j 3).val = if C = 1 then 0 else (j 3).val
      have h : (j 3).val < C := (j 3).isLt
      split <;> omega

/-- Over the extended reals the gradient is the host's sum over the second axis of an array that holds the pieces. -/
theorem grad_host {L R R' C : Nat} (hR : R ≤ R') (p : Fin L → FVec Ideal ⟨3, ![8, R', C]⟩ .bf16)
    (X : FVec Ideal ⟨4, ![L, 8, R, C]⟩ .bf16)
    (hX : ∀ j, X j = p (j 0) (ValueIdx.ix3 (j 1) (Fin.castLE hR (j 2)) (j 3)))
    (h : (⟨4, ![L, 8, R, C]⟩ : Shape).ReducesTo [1] ⟨3, ![L, R, C]⟩) (hu : 0 < (⟨0, ![]⟩ : Shape).numel)
    (hl : FTy.bits .bf16 < FTy.bits .f32) :
    Host.reduceAdd (extf .f32 X hl) (constant ⟨0, ![]⟩ .f32 0x00000000#32) h hu = grad hR p := by
  funext y
  pointwise
  simp only [hX]
  exact (Fin.sum_univ_eight _).trans rfl

/-- For two layers without padding. -/
theorem grad_host2 {R C : Nat} (p : Fin 2 → FVec Ideal ⟨3, ![8, R, C]⟩ .bf16)
    (hb : (⟨3, ![8, R, C]⟩ : Shape).BroadcastsInDim ⟨4, ![1, 8, R, C]⟩ (![1, 2, 3] : Fin 3 → Fin 4))
    (hc : Shape.Concatenates [(⟨4, ![1, 8, R, C]⟩ : Shape), ⟨4, ![1, 8, R, C]⟩] ⟨4, ![2, 8, R, C]⟩ 0)
    (h : (⟨4, ![2, 8, R, C]⟩ : Shape).ReducesTo [1] ⟨3, ![2, R, C]⟩) (hu : 0 < (⟨0, ![]⟩ : Shape).numel)
    (hl : FTy.bits .bf16 < FTy.bits .f32) :
    Host.reduceAdd (extf .f32 (concatenate ⟨4, ![2, 8, R, C]⟩ 0
        [⟨_, broadcastInDim ⟨4, ![1, 8, R, C]⟩ ![1, 2, 3] hb (p 0)⟩, ⟨_, broadcastInDim ⟨4, ![1, 8, R, C]⟩ ![1, 2, 3] hb (p 1)⟩] hc) hl)
      (constant ⟨0, ![]⟩ .f32 0x00000000#32) h hu = grad le_rfl p :=
  grad_host le_rfl p _ (fun j => stack_apply p hb hc j) h hu hl

/-- For four layers, the padding rows cut off. -/
theorem grad_host4 {R R' C : Nat} (hR : R ≤ R') (p : Fin 4 → FVec Ideal ⟨3, ![8, R', C]⟩ .bf16)
    (hb : (⟨3, ![8, R', C]⟩ : Shape).BroadcastsInDim ⟨4, ![1, 8, R', C]⟩ (![1, 2, 3] : Fin 3 → Fin 4))
    (hc : Shape.Concatenates [(⟨4, ![1, 8, R', C]⟩ : Shape), ⟨4, ![1, 8, R', C]⟩, ⟨4, ![1, 8, R', C]⟩, ⟨4, ![1, 8, R', C]⟩]
      ⟨4, ![4, 8, R', C]⟩ 0)
    (hs : (⟨4, ![4, 8, R', C]⟩ : Shape).Slices ![0, 0, 0, 0] ⟨4, ![4, 8, R, C]⟩)
    (h : (⟨4, ![4, 8, R, C]⟩ : Shape).ReducesTo [1] ⟨3, ![4, R, C]⟩) (hu : 0 < (⟨0, ![]⟩ : Shape).numel)
    (hl : FTy.bits .bf16 < FTy.bits .f32) :
    Host.reduceAdd (extf .f32 (extractStridedSlice ⟨4, ![4, 8, R, C]⟩ ![0, 0, 0, 0] (concatenate ⟨4, ![4, 8, R', C]⟩ 0
        [⟨_, broadcastInDim ⟨4, ![1, 8, R', C]⟩ ![1, 2, 3] hb (p 0)⟩, ⟨_, broadcastInDim ⟨4, ![1, 8, R', C]⟩ ![1, 2, 3] hb (p 1)⟩,
          ⟨_, broadcastInDim ⟨4, ![1, 8, R', C]⟩ ![1, 2, 3] hb (p 2)⟩, ⟨_, broadcastInDim ⟨4, ![1, 8, R', C]⟩ ![1, 2, 3] hb (p 3)⟩] hc) hs) hl)
      (constant ⟨0, ![]⟩ .f32 0x00000000#32) h hu = grad hR p :=
  grad_host hR p _ (fun j =>
    (extractStridedSlice_apply _ _ hs j (ValueIdx.ix4 (j 0) (j 1) (Fin.castLE hR (j 2)) (j 3)) fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm).trans (stack_apply p hb hc _)) h hu hl

end Cert.Adam
-- ==== Proof.StepFfn.lean ====
/-
  The step of a feed-forward weight: a point of the grid takes one block of rows of one of the four layers, sums the
  eight devices' pieces of its gradient in their order, and steps the weight with the sum.

    leftA … leftD   what a point leaves in its blocks of the results, for each layer
    final7 … 10     the results over the whole arrays
    algebraic       they are the reference's over the extended reals
-/
module

public import proofs.«01_k».proof.Defs
public import proofs.«01_k».proof.Proof.Adam
public import proofs.«01_k».proof.Proof.Gen.AdamFfnIdeal.Value
public import proofs.«01_k».proof.Proof.Gen.StepFfnIdeal.Run

@[expose] public section

noncomputable section

open Idealize.ShloMosaic Idealize.ShloMosaic.TcCoe Idealize.SL.Sem
open Idealize.ShloMosaic.Pipeline (Dat)

namespace Cert.AdamFfnIdeal.Value

open Cert.AdamFfnIdeal Cert.AdamFfnIdeal.Gen

section
variable {F : FTy → Type} [FloatOps F]
variable (m : (ℓ : Loc nD τ sig) → Buf (Elt F) ℓ)

theorem zeros : (![0, 0, 0] : Fin 3 → Nat) = fun _ => 0 := funext fun a => by fin_cases a <;> rfl

/-- The pieces the eight devices sent for the four layers. -/
def pieces (c : Dev nD) : Fin 4 → FVec F S8x384x1024 .bf16 := ![V m c main_arg3, V m c main_arg4, V m c main_arg5, V m c main_arg6]

/-- The gradient of the whole weight. -/
def G (c : Dev nD) : FVec F S4x352x1024 .f32 := Adam.grad (R := 352) (R' := 384) (C := 1024) (by decide) (pieces m c)

/-- Which block of the results a point writes. -/
theorem index7 : ∀ t : Fin cfg0.N, win0_7.index t = ![t.val / 11, t.val % 11, 0] :=
  (by decide +kernel : ∀ t : Fin grid0.N, win0_7.index t = ![t.val / 11, t.val % 11, 0])

theorem at7 (t : Fin cfg0.N) (y : S1x32x1024.Idx) : (((win0_7.rect t).emb y) 0).val = t.val / 11 ∧
    (((win0_7.rect t).emb y) 1).val = t.val % 11 * 32 + (y 1).val ∧ (((win0_7.rect t).emb y) 2).val = (y 2).val := by
  have h := fun a => Pipeline.Window.rect_emb_val win0_7 t y a
  rw [index7] at h
  have h0 : (y 0).val < 1 := (y 0).isLt
  exact ⟨(h 0).trans (by show t.val / 11 * 1 + (y 0).val = _; omega), h 1, (h 2).trans (by show 0 * 1024 + (y 2).val = _; omega)⟩

/-- A point's block of the gradient. -/
def part (c : Dev nD) (t : Fin cfg0.N) : FVec F S1x32x1024 .f32 := fun y => G m c ((win0_7.rect t).emb y)

/-- It is the sum of the blocks of the same rows of its layer's pieces. -/
theorem part_eq (c : Dev nD) (t : Fin cfg0.N) (l : Nat) (hl : l < 4) (ht : t.val / 11 = l) (e : S8x32x1024.Idx → S8x384x1024.Idx)
    (he : ∀ z, (e z 0).val = (z 0).val ∧ (e z 1).val = t.val % 11 * 32 + (z 1).val ∧ (e z 2).val = (z 2).val) :
    Adam.blockGrad (a := 32) (b := 1024) (fun z => pieces m c ⟨l, hl⟩ (e z)) = part m c t :=
  Adam.blockGrad_eq (a := 32) (b := 1024) (L := 4) (R := 352) (R' := 384) (C := 1024) (by decide) (pieces m c) l (t.val % 11 * 32) hl
    e (win0_7.rect t).emb he fun y => ⟨(at7 t y).1.trans ht, (at7 t y).2⟩

/-- The block of the first layer's pieces. -/
theorem grad3 (c : Dev nD) (t : Fin cfg0.N) (h : t.val / 11 = 0) :
    Adam.blockGrad (a := 32) (b := 1024) (fun z => V m c main_arg3 ((win0_3.rect t).emb z)) = part m c t := by
  have j : win0_3.index t = ![0, t.val % 11, 0] :=
    (by decide +kernel : ∀ t : Fin grid0.N, t.val / 11 = 0 → win0_3.index t = ![0, t.val % 11, 0]) t h
  have key := part_eq m c t 0 (by decide) h (win0_3.rect t).emb fun z => by
    have i := fun a => Pipeline.Window.rect_emb_val win0_3 t z a
    rw [j] at i
    exact ⟨(i 0).trans (by show 0 * 8 + (z 0).val = _; omega), i 1, (i 2).trans (by show 0 * 1024 + (z 2).val = _; omega)⟩
  exact key

/-- The block of the second layer's pieces. -/
theorem grad4 (c : Dev nD) (t : Fin cfg0.N) (h : t.val / 11 = 1) :
    Adam.blockGrad (a := 32) (b := 1024) (fun z => V m c main_arg4 ((win0_4.rect t).emb z)) = part m c t := by
  have j : win0_4.index t = ![0, t.val % 11, 0] :=
    (by decide +kernel : ∀ t : Fin grid0.N, t.val / 11 = 1 → win0_4.index t = ![0, t.val % 11, 0]) t h
  have key := part_eq m c t 1 (by decide) h (win0_4.rect t).emb fun z => by
    have i := fun a => Pipeline.Window.rect_emb_val win0_4 t z a
    rw [j] at i
    exact ⟨(i 0).trans (by show 0 * 8 + (z 0).val = _; omega), i 1, (i 2).trans (by show 0 * 1024 + (z 2).val = _; omega)⟩
  exact key

/-- The block of the third layer's pieces. -/
theorem grad5 (c : Dev nD) (t : Fin cfg0.N) (h : t.val / 11 = 2) :
    Adam.blockGrad (a := 32) (b := 1024) (fun z => V m c main_arg5 ((win0_5.rect t).emb z)) = part m c t := by
  have j : win0_5.index t = ![0, t.val % 11, 0] :=
    (by decide +kernel : ∀ t : Fin grid0.N, t.val / 11 = 2 → win0_5.index t = ![0, t.val % 11, 0]) t h
  have key := part_eq m c t 2 (by decide) h (win0_5.rect t).emb fun z => by
    have i := fun a => Pipeline.Window.rect_emb_val win0_5 t z a
    rw [j] at i
    exact ⟨(i 0).trans (by show 0 * 8 + (z 0).val = _; omega), i 1, (i 2).trans (by show 0 * 1024 + (z 2).val = _; omega)⟩
  exact key

/-- The block of the fourth layer's pieces. -/
theorem grad6 (c : Dev nD) (t : Fin cfg0.N) (h : t.val / 11 = 3) :
    Adam.blockGrad (a := 32) (b := 1024) (fun z => V m c main_arg6 ((win0_6.rect t).emb z)) = part m c t := by
  have j : win0_6.index t = ![0, t.val % 11, 0] :=
    (by decide +kernel : ∀ t : Fin grid0.N, t.val / 11 = 3 → win0_6.index t = ![0, t.val % 11, 0]) t h
  have key := part_eq m c t 3 (by decide) h (win0_6.rect t).emb fun z => by
    have i := fun a => Pipeline.Window.rect_emb_val win0_6 t z a
    rw [j] at i
    exact ⟨(i 0).trans (by show 0 * 8 + (z 0).val = _; omega), i 1, (i 2).trans (by show 0 * 1024 + (z 2).val = _; omega)⟩
  exact key

/-- What a point leaves in its blocks of the four results: the gradient, the change of the weight and the new moments. -/
abbrev Leaves (c : Dev nD) (t : Fin cfg0.N) : Prop :=
    (dats m 0 c).flushed 7 t = (cfg0.win 7).cut (grid0.coords t) (part m c t)
    ∧ (dats m 0 c).flushed 8 t = (cfg0.win 8).cut (grid0.coords t) (Adam.delta (part m c t) (iblk m c 0 t) (iblk m c 1 t) (iblk m c 2 t))
    ∧ (dats m 0 c).flushed 9 t = (cfg0.win 9).cut (grid0.coords t) (Adam.newM (part m c t) (iblk m c 1 t))
    ∧ (dats m 0 c).flushed 10 t = (cfg0.win 10).cut (grid0.coords t) (Adam.newV (part m c t) (iblk m c 2 t))

/-- What a point of the first layer leaves in its blocks of the four results. -/
theorem leftA (c : Dev nD) (t : Fin cfg0.N) (h : t.val / 11 = 0) : Leaves m c t := by
  have hN : t.val < 44 := lt_of_lt_of_eq t.isLt N_0
  refine ⟨?_, ?_, ?_, ?_⟩
  on_goal 1 => rw [flushed7_A m c t (by omega) (by omega) (by omega) (by omega)]; unfold out0_A_7; rw [View.read_writes_eq_canon _ _ _ (fun y => cover0_A_7 (y := y) ..)]
  on_goal 2 => rw [flushed8_A m c t (by omega) (by omega) (by omega) (by omega)]; unfold out0_A_8; rw [View.read_writes_eq_canon _ _ _ (fun y => cover0_A_8 (y := y) ..)]
  on_goal 3 => rw [flushed9_A m c t (by omega) (by omega) (by omega) (by omega)]; unfold out0_A_9; rw [View.read_writes_eq_canon _ _ _ (fun y => cover0_A_9 (y := y) ..)]
  on_goal 4 => rw [flushed10_A m c t (by omega) (by omega) (by omega) (by omega)]; unfold out0_A_10; rw [View.read_writes_eq_canon _ _ _ (fun y => cover0_A_10 (y := y) ..)]
  all_goals
    (unfold kernelRun0_A
     dsimp only
     sl_unfold_words
     rw [View.canon_unit_zero zeros]
     simp only [View.readAt_eq_ld, Memref.IsWhole.read_unread, View.ld_unit_zero (S := S1x32x1024) zeros]
     rw [← grad3 m c t h, ← Adam.cast_loads (a := 32) (b := 1024) _ shapeCasts_S1x32x1024_S32x1024 shapeCasts_S32x1024_S1x32x1024])
  · rfl
  · exact congrArg _ (Adam.cast_delta shapeCasts_S1x32x1024_S32x1024 shapeCasts_S32x1024_S1x32x1024 _ (iblk m c 0 t) (iblk m c 1 t) (iblk m c 2 t))
  · exact congrArg _ (Adam.cast_newM shapeCasts_S1x32x1024_S32x1024 shapeCasts_S32x1024_S1x32x1024 _ (iblk m c 1 t))
  · exact congrArg _ (Adam.cast_newV shapeCasts_S1x32x1024_S32x1024 shapeCasts_S32x1024_S1x32x1024 _ (iblk m c 2 t))

/-- What a point of the second layer leaves in its blocks of the four results. -/
theorem leftB (c : Dev nD) (t : Fin cfg0.N) (h : t.val / 11 = 1) : Leaves m c t := by
  have hN : t.val < 44 := lt_of_lt_of_eq t.isLt N_0
  refine ⟨?_, ?_, ?_, ?_⟩
  on_goal 1 => rw [flushed7_B m c t (by omega) (by omega) (by omega) (by omega)]; unfold out0_B_7; rw [View.read_writes_eq_canon _ _ _ (fun y => cover0_B_7 (y := y) ..)]
  on_goal 2 => rw [flushed8_B m c t (by omega) (by omega) (by omega) (by omega)]; unfold out0_B_8; rw [View.read_writes_eq_canon _ _ _ (fun y => cover0_B_8 (y := y) ..)]
  on_goal 3 => rw [flushed9_B m c t (by omega) (by omega) (by omega) (by omega)]; unfold out0_B_9; rw [View.read_writes_eq_canon _ _ _ (fun y => cover0_B_9 (y := y) ..)]
  on_goal 4 => rw [flushed10_B m c t (by omega) (by omega) (by omega) (by omega)]; unfold out0_B_10; rw [View.read_writes_eq_canon _ _ _ (fun y => cover0_B_10 (y := y) ..)]
  all_goals
    (unfold kernelRun0_B
     dsimp only
     sl_unfold_words
     rw [View.canon_unit_zero zeros]
     simp only [View.readAt_eq_ld, Memref.IsWhole.read_unread, View.ld_unit_zero (S := S1x32x1024) zeros]
     rw [← grad4 m c t h, ← Adam.cast_loads (a := 32) (b := 1024) _ shapeCasts_S1x32x1024_S32x1024 shapeCasts_S32x1024_S1x32x1024])
  · rfl
  · exact congrArg _ (Adam.cast_delta shapeCasts_S1x32x1024_S32x1024 shapeCasts_S32x1024_S1x32x1024 _ (iblk m c 0 t) (iblk m c 1 t) (iblk m c 2 t))
  · exact congrArg _ (Adam.cast_newM shapeCasts_S1x32x1024_S32x1024 shapeCasts_S32x1024_S1x32x1024 _ (iblk m c 1 t))
  · exact congrArg _ (Adam.cast_newV shapeCasts_S1x32x1024_S32x1024 shapeCasts_S32x1024_S1x32x1024 _ (iblk m c 2 t))

/-- What a point of the third layer leaves in its blocks of the four results. -/
theorem leftC (c : Dev nD) (t : Fin cfg0.N) (h : t.val / 11 = 2) : Leaves m c t := by
  have hN : t.val < 44 := lt_of_lt_of_eq t.isLt N_0
  refine ⟨?_, ?_, ?_, ?_⟩
  on_goal 1 => rw [flushed7_C m c t (by omega) (by omega) (by omega) (by omega)]; unfold out0_C_7; rw [View.read_writes_eq_canon _ _ _ (fun y => cover0_C_7 (y := y) ..)]
  on_goal 2 => rw [flushed8_C m c t (by omega) (by omega) (by omega) (by omega)]; unfold out0_C_8; rw [View.read_writes_eq_canon _ _ _ (fun y => cover0_C_8 (y := y) ..)]
  on_goal 3 => rw [flushed9_C m c t (by omega) (by omega) (by omega) (by omega)]; unfold out0_C_9; rw [View.read_writes_eq_canon _ _ _ (fun y => cover0_C_9 (y := y) ..)]
  on_goal 4 => rw [flushed10_C m c t (by omega) (by omega) (by omega) (by omega)]; unfold out0_C_10; rw [View.read_writes_eq_canon _ _ _ (fun y => cover0_C_10 (y := y) ..)]
  all_goals
    (unfold kernelRun0_C
     dsimp only
     sl_unfold_words
     rw [View.canon_unit_zero zeros]
     simp only [View.readAt_eq_ld, Memref.IsWhole.read_unread, View.ld_unit_zero (S := S1x32x1024) zeros]
     rw [← grad5 m c t h, ← Adam.cast_loads (a := 32) (b := 1024) _ shapeCasts_S1x32x1024_S32x1024 shapeCasts_S32x1024_S1x32x1024])
  · rfl
  · exact congrArg _ (Adam.cast_delta shapeCasts_S1x32x1024_S32x1024 shapeCasts_S32x1024_S1x32x1024 _ (iblk m c 0 t) (iblk m c 1 t) (iblk m c 2 t))
  · exact congrArg _ (Adam.cast_newM shapeCasts_S1x32x1024_S32x1024 shapeCasts_S32x1024_S1x32x1024 _ (iblk m c 1 t))
  · exact congrArg _ (Adam.cast_newV shapeCasts_S1x32x1024_S32x1024 shapeCasts_S32x1024_S1x32x1024 _ (iblk m c 2 t))

/-- What a point of the fourth layer leaves in its blocks of the four results. -/
theorem leftD (c : Dev nD) (t : Fin cfg0.N) (h : t.val / 11 = 3) : Leaves m c t := by
  have hN : t.val < 44 := lt_of_lt_of_eq t.isLt N_0
  refine ⟨?_, ?_, ?_, ?_⟩
  on_goal 1 => rw [flushed7_D m c t (by omega) (by omega) (by omega) (by omega)]; unfold out0_D_7; rw [View.read_writes_eq_canon _ _ _ (fun y => cover0_D_7 (y := y) ..)]
  on_goal 2 => rw [flushed8_D m c t (by omega) (by omega) (by omega) (by omega)]; unfold out0_D_8; rw [View.read_writes_eq_canon _ _ _ (fun y => cover0_D_8 (y := y) ..)]
  on_goal 3 => rw [flushed9_D m c t (by omega) (by omega) (by omega) (by omega)]; unfold out0_D_9; rw [View.read_writes_eq_canon _ _ _ (fun y => cover0_D_9 (y := y) ..)]
  on_goal 4 => rw [flushed10_D m c t (by omega) (by omega) (by omega) (by omega)]; unfold out0_D_10; rw [View.read_writes_eq_canon _ _ _ (fun y => cover0_D_10 (y := y) ..)]
  all_goals
    (unfold kernelRun0_D
     dsimp only
     sl_unfold_words
     rw [View.canon_unit_zero zeros]
     simp only [View.readAt_eq_ld, Memref.IsWhole.read_unread, View.ld_unit_zero (S := S1x32x1024) zeros]
     rw [← grad6 m c t h, ← Adam.cast_loads (a := 32) (b := 1024) _ shapeCasts_S1x32x1024_S32x1024 shapeCasts_S32x1024_S1x32x1024])
  · rfl
  · exact congrArg _ (Adam.cast_delta shapeCasts_S1x32x1024_S32x1024 shapeCasts_S32x1024_S1x32x1024 _ (iblk m c 0 t) (iblk m c 1 t) (iblk m c 2 t))
  · exact congrArg _ (Adam.cast_newM shapeCasts_S1x32x1024_S32x1024 shapeCasts_S32x1024_S1x32x1024 _ (iblk m c 1 t))
  · exact congrArg _ (Adam.cast_newV shapeCasts_S1x32x1024_S32x1024 shapeCasts_S32x1024_S1x32x1024 _ (iblk m c 2 t))

/-- So a point of any layer. -/
theorem left (c : Dev nD) (t : Fin cfg0.N) : Leaves m c t := by
  have hN : t.val < 44 := lt_of_lt_of_eq t.isLt N_0
  have h : t.val / 11 = 0 ∨ t.val / 11 = 1 ∨ t.val / 11 = 2 ∨ t.val / 11 = 3 := by omega
  obtain h | h | h | h := h
  · exact leftA m c t h
  · exact leftB m c t h
  · exact leftC m c t h
  · exact leftD m c t h

/-- Every element of a result is in the block of some point. -/
theorem covered (i : S4x352x1024.Idx) : ∃ t : Fin cfg0.N, i ∈ (win0_7.rect t).set := by
  have h0 : (i 0 : Nat) < 4 := (i 0).isLt
  have h1 : (i 1 : Nat) < 352 := (i 1).isLt
  have h2 : (i 2 : Nat) < 1024 := (i 2).isLt
  have hN : (i 0 : Nat) * 11 + (i 1 : Nat) / 32 < cfg0.N := by rw [show cfg0.N = 44 from N_0]; omega
  refine ⟨⟨(i 0 : Nat) * 11 + (i 1 : Nat) / 32, hN⟩, ?_⟩
  rw [Rect.mem_set_unit]
  intro a
  show win0_7.index _ a * _ ≤ _ ∧ _ < win0_7.index _ a * _ + _
  rw [index7]
  match a with
  | ⟨0, _⟩ =>
    show ((i 0 : Nat) * 11 + (i 1 : Nat) / 32) / 11 * 1 ≤ (i 0 : Nat) ∧ (i 0 : Nat) < ((i 0 : Nat) * 11 + (i 1 : Nat) / 32) / 11 * 1 + 1
    omega
  | ⟨1, _⟩ =>
    show ((i 0 : Nat) * 11 + (i 1 : Nat) / 32) % 11 * 32 ≤ (i 1 : Nat) ∧ (i 1 : Nat) < ((i 0 : Nat) * 11 + (i 1 : Nat) / 32) % 11 * 32 + 32
    omega
  | ⟨2, _⟩ => show 0 * 1024 ≤ (i 2 : Nat) ∧ (i 2 : Nat) < 0 * 1024 + 1024; omega

/-- The first result is the gradient. -/
theorem final7 (c : Dev nD) : (dats m 0 c).arrAt 7 cfg0.N = G m c :=
  (dats m 0 c).arrAt_eq_of_cover 7 _ (fun t _ => by rw [(left m c t).1]; rfl) fun i => let ⟨t, h⟩ := covered i
    ⟨t, flush0_7 t, by
      show i ∈ ((View.whole main_v0_0).slice (win0_7.rect t)).set
      rw [View.set_slice_whole]; exact h⟩

/-- The second result is the change of the weight. -/
theorem final8 (c : Dev nD) : (dats m 0 c).arrAt 8 cfg0.N = Adam.delta (G m c) (V m c main_arg0) (V m c main_arg1) (V m c main_arg2) :=
  (dats m 0 c).arrAt_eq_of_cover 8 _ (fun t _ => by rw [(left m c t).2.1]; rfl) fun i => let ⟨t, h⟩ := covered i
    ⟨t, flush0_8 t, by
      show i ∈ ((View.whole main_v0_1).slice (win0_8.rect t)).set
      rw [View.set_slice_whole]; exact h⟩

/-- The third result is the new first moment. -/
theorem final9 (c : Dev nD) : (dats m 0 c).arrAt 9 cfg0.N = Adam.newM (G m c) (V m c main_arg1) :=
  (dats m 0 c).arrAt_eq_of_cover 9 _ (fun t _ => by rw [(left m c t).2.2.1]; rfl) fun i => let ⟨t, h⟩ := covered i
    ⟨t, flush0_9 t, by
      show i ∈ ((View.whole main_v0_2).slice (win0_9.rect t)).set
      rw [View.set_slice_whole]; exact h⟩

/-- The fourth result is the new second moment. -/
theorem final10 (c : Dev nD) : (dats m 0 c).arrAt 10 cfg0.N = Adam.newV (G m c) (V m c main_arg2) :=
  (dats m 0 c).arrAt_eq_of_cover 10 _ (fun t _ => by rw [(left m c t).2.2.2]; rfl) fun i => let ⟨t, h⟩ := covered i
    ⟨t, flush0_10 t, by
      show i ∈ ((View.whole main_v0_3).slice (win0_10.rect t)).set
      rw [View.set_slice_whole]; exact h⟩

end

/-- The four results are the reference's, over the extended reals. -/
theorem algebraic : Cert.algebraic_AdamFfnIdeal_StepFfnIdeal := by
  intro m g m' g' _ hin
  refine ⟨fun c => G m c, fun c => Adam.delta (G m c) (V m c main_arg0) (V m c main_arg1) (V m c main_arg2),
    fun c => Adam.newM (G m c) (V m c main_arg1), fun c => Adam.newV (G m c) (V m c main_arg2),
    (θ_run defs _ _).mono (fun r h c => ?_) (run_blocks m g),
    (θ_run Cert.StepFfnIdeal.defs _ _).mono (fun r h c => ?_) (Cert.StepFfnIdeal.Value.run m' g')⟩
  · obtain ⟨r0, r1, r2, r3, kept⟩ := h c
    exact ⟨r0.trans (final7 m c), r1.trans (final8 m c), r2.trans (final9 m c), r3.trans (final10 m c), kept⟩
  · obtain ⟨r0, r1, r2, r3, kept⟩ := h c
    obtain ⟨h0, h1, h2, h3, h4, h5, h6⟩ := hin c
    have hG := Adam.grad_host4 (R := 352) (R' := 384) (C := 1024) (by decide) (pieces m c)
      Cert.StepFfnIdeal.Facts₀.bcast_S8x384x1024_S1x8x384x1024_1_2_3
      Cert.StepFfnIdeal.Facts₀.concatenates_S1x8x384x1024_S1x8x384x1024_S1x8x384x1024_S1x8x384x1024_S4x8x384x1024_d0
      Cert.StepFfnIdeal.Facts₀.slices_S4x8x384x1024_S4x8x352x1024_0_0_0_0
      Cert.StepFfnIdeal.Facts₀.reducesTo_S4x8x352x1024_S4x352x1024_d1 Cert.StepFfnIdeal.Facts₀.h_S_ Cert.StepFfnIdeal.Facts₀.bitsLt_bf16_f32
    unfold Cert.StepFfnIdeal.Value.res_main_v31 at r1
    rw [← r0] at r1 r2 r3
    rw [h3, h4, h5, h6] at r0
    replace r0 := r0.trans hG
    rw [r0, h0, h1, h2] at r1
    rw [r0, h1] at r2
    rw [r0, h2] at r3
    exact ⟨r0, r1.trans rfl, r2.trans rfl, r3.trans rfl, kept⟩

end Cert.AdamFfnIdeal.Value
-- ==== Proof.StepOut.lean ====
/-
  The step of the even layers' output weight: a point of the grid takes one block of rows of one of the two layers, sums the
  eight devices' pieces of its gradient in their order, and steps the weight with the sum.

    leftA, leftB    what a point leaves in its blocks of the results, for either layer
    final5 … 8      the results over the whole arrays
    algebraic       they are the reference's over the extended reals
-/
module

public import proofs.«01_k».proof.Defs
public import proofs.«01_k».proof.Proof.Adam
public import proofs.«01_k».proof.Proof.Gen.AdamOutIdeal.Value
public import proofs.«01_k».proof.Proof.Gen.StepOutIdeal.Run

@[expose] public section

noncomputable section

open Idealize.ShloMosaic Idealize.ShloMosaic.TcCoe Idealize.SL.Sem
open Idealize.ShloMosaic.Pipeline (Dat)

namespace Cert.AdamOutIdeal.Value

open Cert.AdamOutIdeal Cert.AdamOutIdeal.Gen

section
variable {F : FTy → Type} [FloatOps F]
variable (m : (ℓ : Loc nD τ sig) → Buf (Elt F) ℓ)

theorem zeros : (![0, 0, 0] : Fin 3 → Nat) = fun _ => 0 := funext fun a => by fin_cases a <;> rfl

/-- The pieces the eight devices sent for the two layers. -/
def pieces (c : Dev nD) : Fin 2 → FVec F S8x128x1024 .bf16 := ![V m c main_arg3, V m c main_arg4]

/-- The gradient of the whole weight. -/
def G (c : Dev nD) : FVec F S2x128x1024 .f32 := Adam.grad (R := 128) (C := 1024) le_rfl (pieces m c)

/-- Which block of the results a point writes. -/
theorem index5 : ∀ t : Fin cfg0.N, win0_5.index t = ![t.val / 1, t.val % 1, 0] :=
  (by decide +kernel : ∀ t : Fin grid0.N, win0_5.index t = ![t.val / 1, t.val % 1, 0])

/-- Which block of a layer's pieces it reads, in that layer's half of the points. -/
theorem index3 : ∀ t : Fin cfg0.N, t.val < 1 → win0_3.index t = ![0, t.val % 1, 0] :=
  (by decide +kernel : ∀ t : Fin grid0.N, t.val < 1 → win0_3.index t = ![0, t.val % 1, 0])

theorem index4 : ∀ t : Fin cfg0.N, 1 ≤ t.val → win0_4.index t = ![0, t.val % 1, 0] :=
  (by decide +kernel : ∀ t : Fin grid0.N, 1 ≤ t.val → win0_4.index t = ![0, t.val % 1, 0])

theorem at5 (t : Fin cfg0.N) (y : S1x128x1024.Idx) : (((win0_5.rect t).emb y) 0).val = t.val / 1 ∧
    (((win0_5.rect t).emb y) 1).val = t.val % 1 * 128 + (y 1).val ∧ (((win0_5.rect t).emb y) 2).val = (y 2).val := by
  have h := fun a => Pipeline.Window.rect_emb_val win0_5 t y a
  rw [index5] at h
  have h0 : (y 0).val < 1 := (y 0).isLt
  exact ⟨(h 0).trans (by show t.val / 1 * 1 + (y 0).val = _; omega), h 1, (h 2).trans (by show 0 * 1024 + (y 2).val = _; omega)⟩

theorem at3 (t : Fin cfg0.N) (h : t.val < 1) (z : S8x128x1024.Idx) : (((win0_3.rect t).emb z) 0).val = (z 0).val ∧
    (((win0_3.rect t).emb z) 1).val = t.val % 1 * 128 + (z 1).val ∧ (((win0_3.rect t).emb z) 2).val = (z 2).val := by
  have i := fun a => Pipeline.Window.rect_emb_val win0_3 t z a
  rw [index3 t h] at i
  exact ⟨(i 0).trans (by show 0 * 8 + (z 0).val = _; omega), i 1, (i 2).trans (by show 0 * 1024 + (z 2).val = _; omega)⟩

theorem at4 (t : Fin cfg0.N) (h : 1 ≤ t.val) (z : S8x128x1024.Idx) : (((win0_4.rect t).emb z) 0).val = (z 0).val ∧
    (((win0_4.rect t).emb z) 1).val = t.val % 1 * 128 + (z 1).val ∧ (((win0_4.rect t).emb z) 2).val = (z 2).val := by
  have i := fun a => Pipeline.Window.rect_emb_val win0_4 t z a
  rw [index4 t h] at i
  exact ⟨(i 0).trans (by show 0 * 8 + (z 0).val = _; omega), i 1, (i 2).trans (by show 0 * 1024 + (z 2).val = _; omega)⟩

/-- A point's block of the gradient. -/
def part (c : Dev nD) (t : Fin cfg0.N) : FVec F S1x128x1024 .f32 := fun y => G m c ((win0_5.rect t).emb y)

/-- In the first half of the points the sum of the blocks is the block of the gradient. -/
theorem grad3 (c : Dev nD) (t : Fin cfg0.N) (h : t.val < 1) :
    Adam.blockGrad (a := 128) (b := 1024) (fun z => V m c main_arg3 ((win0_3.rect t).emb z)) = part m c t := by
  have key := Adam.blockGrad_eq (a := 128) (b := 1024) (L := 2) (R := 128) (R' := 128) (C := 1024) le_rfl (pieces m c) 0 (t.val % 1 * 128) (by decide)
    (win0_3.rect t).emb (win0_5.rect t).emb (at3 t h) fun y => ⟨(at5 t y).1.trans (by omega), (at5 t y).2⟩
  exact key

/-- In the other half likewise. -/
theorem grad4 (c : Dev nD) (t : Fin cfg0.N) (h : 1 ≤ t.val) :
    Adam.blockGrad (a := 128) (b := 1024) (fun z => V m c main_arg4 ((win0_4.rect t).emb z)) = part m c t := by
  have key := Adam.blockGrad_eq (a := 128) (b := 1024) (L := 2) (R := 128) (R' := 128) (C := 1024) le_rfl (pieces m c) 1 (t.val % 1 * 128) (by decide)
    (win0_4.rect t).emb (win0_5.rect t).emb (at4 t h)
    fun y => ⟨(at5 t y).1.trans (by have := t.isLt; have : cfg0.N = 2 := N_0; omega), (at5 t y).2⟩
  exact key

/-- What a point leaves in its blocks of the four results: the gradient, the change of the weight and the new moments. -/
abbrev Leaves (c : Dev nD) (t : Fin cfg0.N) : Prop :=
    (dats m 0 c).flushed 5 t = (cfg0.win 5).cut (grid0.coords t) (part m c t)
    ∧ (dats m 0 c).flushed 6 t = (cfg0.win 6).cut (grid0.coords t) (Adam.delta (part m c t) (iblk m c 0 t) (iblk m c 1 t) (iblk m c 2 t))
    ∧ (dats m 0 c).flushed 7 t = (cfg0.win 7).cut (grid0.coords t) (Adam.newM (part m c t) (iblk m c 1 t))
    ∧ (dats m 0 c).flushed 8 t = (cfg0.win 8).cut (grid0.coords t) (Adam.newV (part m c t) (iblk m c 2 t))

/-- What a point of the first half leaves in its blocks of the four results. -/
theorem leftA (c : Dev nD) (t : Fin cfg0.N) (h : t.val < 1) : Leaves m c t := by
  refine ⟨?_, ?_, ?_, ?_⟩
  on_goal 1 => rw [flushed5_A m c t (by omega) (by omega)]; unfold out0_A_5; rw [View.read_writes_eq_canon _ _ _ (fun y => cover0_A_5 (y := y) ..)]
  on_goal 2 => rw [flushed6_A m c t (by omega) (by omega)]; unfold out0_A_6; rw [View.read_writes_eq_canon _ _ _ (fun y => cover0_A_6 (y := y) ..)]
  on_goal 3 => rw [flushed7_A m c t (by omega) (by omega)]; unfold out0_A_7; rw [View.read_writes_eq_canon _ _ _ (fun y => cover0_A_7 (y := y) ..)]
  on_goal 4 => rw [flushed8_A m c t (by omega) (by omega)]; unfold out0_A_8; rw [View.read_writes_eq_canon _ _ _ (fun y => cover0_A_8 (y := y) ..)]
  all_goals
    (unfold kernelRun0_A
     dsimp only
     sl_unfold_words
     rw [View.canon_unit_zero zeros]
     simp only [View.readAt_eq_ld, Memref.IsWhole.read_unread, View.ld_unit_zero (S := S1x128x1024) zeros]
     rw [← grad3 m c t h, ← Adam.cast_loads (a := 128) (b := 1024) _ shapeCasts_S1x128x1024_S128x1024 shapeCasts_S128x1024_S1x128x1024])
  · rfl
  · exact congrArg _ (Adam.cast_delta shapeCasts_S1x128x1024_S128x1024 shapeCasts_S128x1024_S1x128x1024 _ (iblk m c 0 t) (iblk m c 1 t) (iblk m c 2 t))
  · exact congrArg _ (Adam.cast_newM shapeCasts_S1x128x1024_S128x1024 shapeCasts_S128x1024_S1x128x1024 _ (iblk m c 1 t))
  · exact congrArg _ (Adam.cast_newV shapeCasts_S1x128x1024_S128x1024 shapeCasts_S128x1024_S1x128x1024 _ (iblk m c 2 t))

/-- What a point of the second half leaves in its blocks of the four results. -/
theorem leftB (c : Dev nD) (t : Fin cfg0.N) (h : 1 ≤ t.val) : Leaves m c t := by
  refine ⟨?_, ?_, ?_, ?_⟩
  on_goal 1 => rw [flushed5_B m c t (by have := t.isLt; have : cfg0.N = 2 := N_0; omega) (by have := t.isLt; have : cfg0.N = 2 := N_0; omega)]; unfold out0_B_5; rw [View.read_writes_eq_canon _ _ _ (fun y => cover0_B_5 (y := y) ..)]
  on_goal 2 => rw [flushed6_B m c t (by have := t.isLt; have : cfg0.N = 2 := N_0; omega) (by have := t.isLt; have : cfg0.N = 2 := N_0; omega)]; unfold out0_B_6; rw [View.read_writes_eq_canon _ _ _ (fun y => cover0_B_6 (y := y) ..)]
  on_goal 3 => rw [flushed7_B m c t (by have := t.isLt; have : cfg0.N = 2 := N_0; omega) (by have := t.isLt; have : cfg0.N = 2 := N_0; omega)]; unfold out0_B_7; rw [View.read_writes_eq_canon _ _ _ (fun y => cover0_B_7 (y := y) ..)]
  on_goal 4 => rw [flushed8_B m c t (by have := t.isLt; have : cfg0.N = 2 := N_0; omega) (by have := t.isLt; have : cfg0.N = 2 := N_0; omega)]; unfold out0_B_8; rw [View.read_writes_eq_canon _ _ _ (fun y => cover0_B_8 (y := y) ..)]
  all_goals
    (unfold kernelRun0_B
     dsimp only
     sl_unfold_words
     rw [View.canon_unit_zero zeros]
     simp only [View.readAt_eq_ld, Memref.IsWhole.read_unread, View.ld_unit_zero (S := S1x128x1024) zeros]
     rw [← grad4 m c t h, ← Adam.cast_loads (a := 128) (b := 1024) _ shapeCasts_S1x128x1024_S128x1024 shapeCasts_S128x1024_S1x128x1024])
  · rfl
  · exact congrArg _ (Adam.cast_delta shapeCasts_S1x128x1024_S128x1024 shapeCasts_S128x1024_S1x128x1024 _ (iblk m c 0 t) (iblk m c 1 t) (iblk m c 2 t))
  · exact congrArg _ (Adam.cast_newM shapeCasts_S1x128x1024_S128x1024 shapeCasts_S128x1024_S1x128x1024 _ (iblk m c 1 t))
  · exact congrArg _ (Adam.cast_newV shapeCasts_S1x128x1024_S128x1024 shapeCasts_S128x1024_S1x128x1024 _ (iblk m c 2 t))

/-- So a point of either half. -/
theorem left (c : Dev nD) (t : Fin cfg0.N) : Leaves m c t :=
  (Nat.lt_or_ge t.val 1).elim (leftA m c t) (leftB m c t)

/-- Every element of a result is in the block of some point. -/
theorem covered (i : S2x128x1024.Idx) : ∃ t : Fin cfg0.N, i ∈ (win0_5.rect t).set := by
  have h0 : (i 0 : Nat) < 2 := (i 0).isLt
  have h1 : (i 1 : Nat) < 128 := (i 1).isLt
  have h2 : (i 2 : Nat) < 1024 := (i 2).isLt
  have hN : (i 0 : Nat) * 1 + (i 1 : Nat) / 128 < cfg0.N := by rw [show cfg0.N = 2 from N_0]; omega
  refine ⟨⟨(i 0 : Nat) * 1 + (i 1 : Nat) / 128, hN⟩, ?_⟩
  rw [Rect.mem_set_unit]
  intro a
  show win0_5.index _ a * _ ≤ _ ∧ _ < win0_5.index _ a * _ + _
  rw [index5]
  match a with
  | ⟨0, _⟩ =>
    show ((i 0 : Nat) * 1 + (i 1 : Nat) / 128) / 1 * 1 ≤ (i 0 : Nat) ∧ (i 0 : Nat) < ((i 0 : Nat) * 1 + (i 1 : Nat) / 128) / 1 * 1 + 1
    omega
  | ⟨1, _⟩ =>
    show ((i 0 : Nat) * 1 + (i 1 : Nat) / 128) % 1 * 128 ≤ (i 1 : Nat) ∧ (i 1 : Nat) < ((i 0 : Nat) * 1 + (i 1 : Nat) / 128) % 1 * 128 + 128
    omega
  | ⟨2, _⟩ => show 0 * 1024 ≤ (i 2 : Nat) ∧ (i 2 : Nat) < 0 * 1024 + 1024; omega

/-- The first result is the gradient. -/
theorem final5 (c : Dev nD) : (dats m 0 c).arrAt 5 cfg0.N = G m c :=
  (dats m 0 c).arrAt_eq_of_cover 5 _ (fun t _ => by rw [(left m c t).1]; rfl) fun i => let ⟨t, h⟩ := covered i
    ⟨t, flush0_5 t, by
      show i ∈ ((View.whole main_v0_0).slice (win0_5.rect t)).set
      rw [View.set_slice_whole]; exact h⟩

/-- The second result is the change of the weight. -/
theorem final6 (c : Dev nD) : (dats m 0 c).arrAt 6 cfg0.N = Adam.delta (G m c) (V m c main_arg0) (V m c main_arg1) (V m c main_arg2) :=
  (dats m 0 c).arrAt_eq_of_cover 6 _ (fun t _ => by rw [(left m c t).2.1]; rfl) fun i => let ⟨t, h⟩ := covered i
    ⟨t, flush0_6 t, by
      show i ∈ ((View.whole main_v0_1).slice (win0_6.rect t)).set
      rw [View.set_slice_whole]; exact h⟩

/-- The third result is the new first moment. -/
theorem final7 (c : Dev nD) : (dats m 0 c).arrAt 7 cfg0.N = Adam.newM (G m c) (V m c main_arg1) :=
  (dats m 0 c).arrAt_eq_of_cover 7 _ (fun t _ => by rw [(left m c t).2.2.1]; rfl) fun i => let ⟨t, h⟩ := covered i
    ⟨t, flush0_7 t, by
      show i ∈ ((View.whole main_v0_2).slice (win0_7.rect t)).set
      rw [View.set_slice_whole]; exact h⟩

/-- The fourth result is the new second moment. -/
theorem final8 (c : Dev nD) : (dats m 0 c).arrAt 8 cfg0.N = Adam.newV (G m c) (V m c main_arg2) :=
  (dats m 0 c).arrAt_eq_of_cover 8 _ (fun t _ => by rw [(left m c t).2.2.2]; rfl) fun i => let ⟨t, h⟩ := covered i
    ⟨t, flush0_8 t, by
      show i ∈ ((View.whole main_v0_3).slice (win0_8.rect t)).set
      rw [View.set_slice_whole]; exact h⟩

end

/-- The four results are the reference's, over the extended reals. -/
theorem algebraic : Cert.algebraic_AdamOutIdeal_StepOutIdeal := by
  intro m g m' g' _ hin
  refine ⟨fun c => G m c, fun c => Adam.delta (G m c) (V m c main_arg0) (V m c main_arg1) (V m c main_arg2),
    fun c => Adam.newM (G m c) (V m c main_arg1), fun c => Adam.newV (G m c) (V m c main_arg2),
    (θ_run defs _ _).mono (fun r h c => ?_) (run_blocks m g),
    (θ_run Cert.StepOutIdeal.defs _ _).mono (fun r h c => ?_) (Cert.StepOutIdeal.Value.run m' g')⟩
  · obtain ⟨r0, r1, r2, r3, kept⟩ := h c
    exact ⟨r0.trans (final5 m c), r1.trans (final6 m c), r2.trans (final7 m c), r3.trans (final8 m c), kept⟩
  · obtain ⟨r0, r1, r2, r3, kept⟩ := h c
    obtain ⟨h0, h1, h2, h3, h4⟩ := hin c
    have hG := Adam.grad_host2 (R := 128) (C := 1024) (pieces m c) Cert.StepOutIdeal.Facts₀.bcast_S8x128x1024_S1x8x128x1024_1_2_3
      Cert.StepOutIdeal.Facts₀.concatenates_S1x8x128x1024_S1x8x128x1024_S2x8x128x1024_d0
      Cert.StepOutIdeal.Facts₀.reducesTo_S2x8x128x1024_S2x128x1024_d1 Cert.StepOutIdeal.Facts₀.h_S_ Cert.StepOutIdeal.Facts₀.bitsLt_bf16_f32
    rw [← r0] at r1 r2 r3
    rw [h3, h4] at r0
    replace r0 := r0.trans hG
    rw [r0, h0, h1, h2] at r1
    rw [r0, h1] at r2
    rw [r0, h2] at r3
    exact ⟨r0, r1.trans rfl, r2.trans rfl, r3.trans rfl, kept⟩

end Cert.AdamOutIdeal.Value
-- ==== Proof.StepEven.lean ====
/-
  The step of the even layers' input weight: a point of the grid takes one block of rows of one of the two layers, sums the
  eight devices' pieces of its gradient in their order, and steps the weight with the sum.

    leftA, leftB    what a point leaves in its blocks of the results, for either layer
    final5 … 8      the results over the whole arrays
    algebraic       they are the reference's over the extended reals
-/
module

public import proofs.«01_k».proof.Defs
public import proofs.«01_k».proof.Proof.Adam
public import proofs.«01_k».proof.Proof.Gen.AdamEvenIdeal.Value
public import proofs.«01_k».proof.Proof.Gen.StepEvenIdeal.Run

@[expose] public section

noncomputable section

open Idealize.ShloMosaic Idealize.ShloMosaic.TcCoe Idealize.SL.Sem
open Idealize.ShloMosaic.Pipeline (Dat)

namespace Cert.AdamEvenIdeal.Value

open Cert.AdamEvenIdeal Cert.AdamEvenIdeal.Gen

section
variable {F : FTy → Type} [FloatOps F]
variable (m : (ℓ : Loc nD τ sig) → Buf (Elt F) ℓ)

theorem zeros : (![0, 0, 0] : Fin 3 → Nat) = fun _ => 0 := funext fun a => by fin_cases a <;> rfl

/-- The pieces the eight devices sent for the two layers. -/
def pieces (c : Dev nD) : Fin 2 → FVec F S8x1024x384 .bf16 := ![V m c main_arg3, V m c main_arg4]

/-- The gradient of the whole weight. -/
def G (c : Dev nD) : FVec F S2x1024x384 .f32 := Adam.grad (R := 1024) (C := 384) le_rfl (pieces m c)

/-- Which block of the results a point writes. -/
theorem index5 : ∀ t : Fin cfg0.N, win0_5.index t = ![t.val / 4, t.val % 4, 0] :=
  (by decide +kernel : ∀ t : Fin grid0.N, win0_5.index t = ![t.val / 4, t.val % 4, 0])

/-- Which block of a layer's pieces it reads, in that layer's half of the points. -/
theorem index3 : ∀ t : Fin cfg0.N, t.val < 4 → win0_3.index t = ![0, t.val % 4, 0] :=
  (by decide +kernel : ∀ t : Fin grid0.N, t.val < 4 → win0_3.index t = ![0, t.val % 4, 0])

theorem index4 : ∀ t : Fin cfg0.N, 4 ≤ t.val → win0_4.index t = ![0, t.val % 4, 0] :=
  (by decide +kernel : ∀ t : Fin grid0.N, 4 ≤ t.val → win0_4.index t = ![0, t.val % 4, 0])

theorem at5 (t : Fin cfg0.N) (y : S1x256x384.Idx) : (((win0_5.rect t).emb y) 0).val = t.val / 4 ∧
    (((win0_5.rect t).emb y) 1).val = t.val % 4 * 256 + (y 1).val ∧ (((win0_5.rect t).emb y) 2).val = (y 2).val := by
  have h := fun a => Pipeline.Window.rect_emb_val win0_5 t y a
  rw [index5] at h
  have h0 : (y 0).val < 1 := (y 0).isLt
  exact ⟨(h 0).trans (by show t.val / 4 * 1 + (y 0).val = _; omega), h 1, (h 2).trans (by show 0 * 384 + (y 2).val = _; omega)⟩

theorem at3 (t : Fin cfg0.N) (h : t.val < 4) (z : S8x256x384.Idx) : (((win0_3.rect t).emb z) 0).val = (z 0).val ∧
    (((win0_3.rect t).emb z) 1).val = t.val % 4 * 256 + (z 1).val ∧ (((win0_3.rect t).emb z) 2).val = (z 2).val := by
  have i := fun a => Pipeline.Window.rect_emb_val win0_3 t z a
  rw [index3 t h] at i
  exact ⟨(i 0).trans (by show 0 * 8 + (z 0).val = _; omega), i 1, (i 2).trans (by show 0 * 384 + (z 2).val = _; omega)⟩

theorem at4 (t : Fin cfg0.N) (h : 4 ≤ t.val) (z : S8x256x384.Idx) : (((win0_4.rect t).emb z) 0).val = (z 0).val ∧
    (((win0_4.rect t).emb z) 1).val = t.val % 4 * 256 + (z 1).val ∧ (((win0_4.rect t).emb z) 2).val = (z 2).val := by
  have i := fun a => Pipeline.Window.rect_emb_val win0_4 t z a
  rw [index4 t h] at i
  exact ⟨(i 0).trans (by show 0 * 8 + (z 0).val = _; omega), i 1, (i 2).trans (by show 0 * 384 + (z 2).val = _; omega)⟩

/-- A point's block of the gradient. -/
def part (c : Dev nD) (t : Fin cfg0.N) : FVec F S1x256x384 .f32 := fun y => G m c ((win0_5.rect t).emb y)

/-- In the first half of the points the sum of the blocks is the block of the gradient. -/
theorem grad3 (c : Dev nD) (t : Fin cfg0.N) (h : t.val < 4) :
    Adam.blockGrad (a := 256) (b := 384) (fun z => V m c main_arg3 ((win0_3.rect t).emb z)) = part m c t := by
  have key := Adam.blockGrad_eq (a := 256) (b := 384) (L := 2) (R := 1024) (R' := 1024) (C := 384) le_rfl (pieces m c) 0 (t.val % 4 * 256) (by decide)
    (win0_3.rect t).emb (win0_5.rect t).emb (at3 t h) fun y => ⟨(at5 t y).1.trans (by omega), (at5 t y).2⟩
  exact key

/-- In the other half likewise. -/
theorem grad4 (c : Dev nD) (t : Fin cfg0.N) (h : 4 ≤ t.val) :
    Adam.blockGrad (a := 256) (b := 384) (fun z => V m c main_arg4 ((win0_4.rect t).emb z)) = part m c t := by
  have key := Adam.blockGrad_eq (a := 256) (b := 384) (L := 2) (R := 1024) (R' := 1024) (C := 384) le_rfl (pieces m c) 1 (t.val % 4 * 256) (by decide)
    (win0_4.rect t).emb (win0_5.rect t).emb (at4 t h)
    fun y => ⟨(at5 t y).1.trans (by have := t.isLt; have : cfg0.N = 8 := N_0; omega), (at5 t y).2⟩
  exact key

/-- What a point leaves in its blocks of the four results: the gradient, the change of the weight and the new moments. -/
abbrev Leaves (c : Dev nD) (t : Fin cfg0.N) : Prop :=
    (dats m 0 c).flushed 5 t = (cfg0.win 5).cut (grid0.coords t) (part m c t)
    ∧ (dats m 0 c).flushed 6 t = (cfg0.win 6).cut (grid0.coords t) (Adam.delta (part m c t) (iblk m c 0 t) (iblk m c 1 t) (iblk m c 2 t))
    ∧ (dats m 0 c).flushed 7 t = (cfg0.win 7).cut (grid0.coords t) (Adam.newM (part m c t) (iblk m c 1 t))
    ∧ (dats m 0 c).flushed 8 t = (cfg0.win 8).cut (grid0.coords t) (Adam.newV (part m c t) (iblk m c 2 t))

/-- What a point of the first half leaves in its blocks of the four results. -/
theorem leftA (c : Dev nD) (t : Fin cfg0.N) (h : t.val < 4) : Leaves m c t := by
  refine ⟨?_, ?_, ?_, ?_⟩
  on_goal 1 => rw [flushed5_A m c t h (by omega)]; unfold out0_A_5; rw [View.read_writes_eq_canon _ _ _ (fun y => cover0_A_5 (y := y) ..)]
  on_goal 2 => rw [flushed6_A m c t h (by omega)]; unfold out0_A_6; rw [View.read_writes_eq_canon _ _ _ (fun y => cover0_A_6 (y := y) ..)]
  on_goal 3 => rw [flushed7_A m c t h (by omega)]; unfold out0_A_7; rw [View.read_writes_eq_canon _ _ _ (fun y => cover0_A_7 (y := y) ..)]
  on_goal 4 => rw [flushed8_A m c t h (by omega)]; unfold out0_A_8; rw [View.read_writes_eq_canon _ _ _ (fun y => cover0_A_8 (y := y) ..)]
  all_goals
    (unfold kernelRun0_A
     dsimp only
     sl_unfold_words
     rw [View.canon_unit_zero zeros]
     simp only [View.readAt_eq_ld, Memref.IsWhole.read_unread, View.ld_unit_zero (S := S1x256x384) zeros]
     rw [← grad3 m c t h, ← Adam.cast_loads (a := 256) (b := 384) _ shapeCasts_S1x256x384_S256x384 shapeCasts_S256x384_S1x256x384])
  · rfl
  · exact congrArg _ (Adam.cast_delta shapeCasts_S1x256x384_S256x384 shapeCasts_S256x384_S1x256x384 _ (iblk m c 0 t) (iblk m c 1 t) (iblk m c 2 t))
  · exact congrArg _ (Adam.cast_newM shapeCasts_S1x256x384_S256x384 shapeCasts_S256x384_S1x256x384 _ (iblk m c 1 t))
  · exact congrArg _ (Adam.cast_newV shapeCasts_S1x256x384_S256x384 shapeCasts_S256x384_S1x256x384 _ (iblk m c 2 t))

/-- What a point of the second half leaves in its blocks of the four results. -/
theorem leftB (c : Dev nD) (t : Fin cfg0.N) (h : 4 ≤ t.val) : Leaves m c t := by
  refine ⟨?_, ?_, ?_, ?_⟩
  on_goal 1 => rw [flushed5_B m c t (by omega) h]; unfold out0_B_5; rw [View.read_writes_eq_canon _ _ _ (fun y => cover0_B_5 (y := y) ..)]
  on_goal 2 => rw [flushed6_B m c t (by omega) h]; unfold out0_B_6; rw [View.read_writes_eq_canon _ _ _ (fun y => cover0_B_6 (y := y) ..)]
  on_goal 3 => rw [flushed7_B m c t (by omega) h]; unfold out0_B_7; rw [View.read_writes_eq_canon _ _ _ (fun y => cover0_B_7 (y := y) ..)]
  on_goal 4 => rw [flushed8_B m c t (by omega) h]; unfold out0_B_8; rw [View.read_writes_eq_canon _ _ _ (fun y => cover0_B_8 (y := y) ..)]
  all_goals
    (unfold kernelRun0_B
     dsimp only
     sl_unfold_words
     rw [View.canon_unit_zero zeros]
     simp only [View.readAt_eq_ld, Memref.IsWhole.read_unread, View.ld_unit_zero (S := S1x256x384) zeros]
     rw [← grad4 m c t h, ← Adam.cast_loads (a := 256) (b := 384) _ shapeCasts_S1x256x384_S256x384 shapeCasts_S256x384_S1x256x384])
  · rfl
  · exact congrArg _ (Adam.cast_delta shapeCasts_S1x256x384_S256x384 shapeCasts_S256x384_S1x256x384 _ (iblk m c 0 t) (iblk m c 1 t) (iblk m c 2 t))
  · exact congrArg _ (Adam.cast_newM shapeCasts_S1x256x384_S256x384 shapeCasts_S256x384_S1x256x384 _ (iblk m c 1 t))
  · exact congrArg _ (Adam.cast_newV shapeCasts_S1x256x384_S256x384 shapeCasts_S256x384_S1x256x384 _ (iblk m c 2 t))

/-- So a point of either half. -/
theorem left (c : Dev nD) (t : Fin cfg0.N) : Leaves m c t :=
  (Nat.lt_or_ge t.val 4).elim (leftA m c t) (leftB m c t)

/-- Every element of a result is in the block of some point. -/
theorem covered (i : S2x1024x384.Idx) : ∃ t : Fin cfg0.N, i ∈ (win0_5.rect t).set := by
  have h0 : (i 0 : Nat) < 2 := (i 0).isLt
  have h1 : (i 1 : Nat) < 1024 := (i 1).isLt
  have h2 : (i 2 : Nat) < 384 := (i 2).isLt
  have hN : (i 0 : Nat) * 4 + (i 1 : Nat) / 256 < cfg0.N := by rw [show cfg0.N = 8 from N_0]; omega
  refine ⟨⟨(i 0 : Nat) * 4 + (i 1 : Nat) / 256, hN⟩, ?_⟩
  rw [Rect.mem_set_unit]
  intro a
  show win0_5.index _ a * _ ≤ _ ∧ _ < win0_5.index _ a * _ + _
  rw [index5]
  match a with
  | ⟨0, _⟩ =>
    show ((i 0 : Nat) * 4 + (i 1 : Nat) / 256) / 4 * 1 ≤ (i 0 : Nat) ∧ (i 0 : Nat) < ((i 0 : Nat) * 4 + (i 1 : Nat) / 256) / 4 * 1 + 1
    omega
  | ⟨1, _⟩ =>
    show ((i 0 : Nat) * 4 + (i 1 : Nat) / 256) % 4 * 256 ≤ (i 1 : Nat) ∧ (i 1 : Nat) < ((i 0 : Nat) * 4 + (i 1 : Nat) / 256) % 4 * 256 + 256
    omega
  | ⟨2, _⟩ => show 0 * 384 ≤ (i 2 : Nat) ∧ (i 2 : Nat) < 0 * 384 + 384; omega

/-- The first result is the gradient. -/
theorem final5 (c : Dev nD) : (dats m 0 c).arrAt 5 cfg0.N = G m c :=
  (dats m 0 c).arrAt_eq_of_cover 5 _ (fun t _ => by rw [(left m c t).1]; rfl) fun i => let ⟨t, h⟩ := covered i
    ⟨t, flush0_5 t, by
      show i ∈ ((View.whole main_v0_0).slice (win0_5.rect t)).set
      rw [View.set_slice_whole]; exact h⟩

/-- The second result is the change of the weight. -/
theorem final6 (c : Dev nD) : (dats m 0 c).arrAt 6 cfg0.N = Adam.delta (G m c) (V m c main_arg0) (V m c main_arg1) (V m c main_arg2) :=
  (dats m 0 c).arrAt_eq_of_cover 6 _ (fun t _ => by rw [(left m c t).2.1]; rfl) fun i => let ⟨t, h⟩ := covered i
    ⟨t, flush0_6 t, by
      show i ∈ ((View.whole main_v0_1).slice (win0_6.rect t)).set
      rw [View.set_slice_whole]; exact h⟩

/-- The third result is the new first moment. -/
theorem final7 (c : Dev nD) : (dats m 0 c).arrAt 7 cfg0.N = Adam.newM (G m c) (V m c main_arg1) :=
  (dats m 0 c).arrAt_eq_of_cover 7 _ (fun t _ => by rw [(left m c t).2.2.1]; rfl) fun i => let ⟨t, h⟩ := covered i
    ⟨t, flush0_7 t, by
      show i ∈ ((View.whole main_v0_2).slice (win0_7.rect t)).set
      rw [View.set_slice_whole]; exact h⟩

/-- The fourth result is the new second moment. -/
theorem final8 (c : Dev nD) : (dats m 0 c).arrAt 8 cfg0.N = Adam.newV (G m c) (V m c main_arg2) :=
  (dats m 0 c).arrAt_eq_of_cover 8 _ (fun t _ => by rw [(left m c t).2.2.2]; rfl) fun i => let ⟨t, h⟩ := covered i
    ⟨t, flush0_8 t, by
      show i ∈ ((View.whole main_v0_3).slice (win0_8.rect t)).set
      rw [View.set_slice_whole]; exact h⟩

end

/-- The four results are the reference's, over the extended reals. -/
theorem algebraic : Cert.algebraic_AdamEvenIdeal_StepEvenIdeal := by
  intro m g m' g' _ hin
  refine ⟨fun c => G m c, fun c => Adam.delta (G m c) (V m c main_arg0) (V m c main_arg1) (V m c main_arg2),
    fun c => Adam.newM (G m c) (V m c main_arg1), fun c => Adam.newV (G m c) (V m c main_arg2),
    (θ_run defs _ _).mono (fun r h c => ?_) (run_blocks m g),
    (θ_run Cert.StepEvenIdeal.defs _ _).mono (fun r h c => ?_) (Cert.StepEvenIdeal.Value.run m' g')⟩
  · obtain ⟨r0, r1, r2, r3, kept⟩ := h c
    exact ⟨r0.trans (final5 m c), r1.trans (final6 m c), r2.trans (final7 m c), r3.trans (final8 m c), kept⟩
  · obtain ⟨r0, r1, r2, r3, kept⟩ := h c
    obtain ⟨h0, h1, h2, h3, h4⟩ := hin c
    have hG := Adam.grad_host2 (R := 1024) (C := 384) (pieces m c) Cert.StepEvenIdeal.Facts₀.bcast_S8x1024x384_S1x8x1024x384_1_2_3
      Cert.StepEvenIdeal.Facts₀.concatenates_S1x8x1024x384_S1x8x1024x384_S2x8x1024x384_d0
      Cert.StepEvenIdeal.Facts₀.reducesTo_S2x8x1024x384_S2x1024x384_d1 Cert.StepEvenIdeal.Facts₀.h_S_ Cert.StepEvenIdeal.Facts₀.bitsLt_bf16_f32
    rw [← r0] at r1 r2 r3
    rw [h3, h4] at r0
    replace r0 := r0.trans hG
    rw [r0, h0, h1, h2] at r1
    rw [r0, h1] at r2
    rw [r0, h2] at r3
    exact ⟨r0, r1.trans rfl, r2.trans rfl, r3.trans rfl, kept⟩

end Cert.AdamEvenIdeal.Value
-- ==== Proof.StepOdd.lean ====
/-
  The step of the odd layers' weights: a point of the grid takes one block of rows of one of the two layers, sums the
  eight devices' pieces of its gradient in their order, and steps the weight with the sum.

    leftA, leftB    what a point leaves in its blocks of the results, for either layer
    final5 … 8      the results over the whole arrays
    algebraic       they are the reference's over the extended reals
-/
module

public import proofs.«01_k».proof.Defs
public import proofs.«01_k».proof.Proof.Adam
public import proofs.«01_k».proof.Proof.Gen.AdamOddIdeal.Value
public import proofs.«01_k».proof.Proof.Gen.StepOddIdeal.Run

@[expose] public section

noncomputable section

open Idealize.ShloMosaic Idealize.ShloMosaic.TcCoe Idealize.SL.Sem
open Idealize.ShloMosaic.Pipeline (Dat)

namespace Cert.AdamOddIdeal.Value

open Cert.AdamOddIdeal Cert.AdamOddIdeal.Gen

section
variable {F : FTy → Type} [FloatOps F]
variable (m : (ℓ : Loc nD τ sig) → Buf (Elt F) ℓ)

theorem zeros : (![0, 0, 0] : Fin 3 → Nat) = fun _ => 0 := funext fun a => by fin_cases a <;> rfl

/-- The pieces the eight devices sent for the two layers. -/
def pieces (c : Dev nD) : Fin 2 → FVec F S8x192x1024 .bf16 := ![V m c main_arg3, V m c main_arg4]

/-- The gradient of the whole weight. -/
def G (c : Dev nD) : FVec F S2x192x1024 .f32 := Adam.grad (R := 192) (C := 1024) le_rfl (pieces m c)

/-- Which block of the results a point writes. -/
theorem index5 : ∀ t : Fin cfg0.N, win0_5.index t = ![t.val / 3, t.val % 3, 0] :=
  (by decide +kernel : ∀ t : Fin grid0.N, win0_5.index t = ![t.val / 3, t.val % 3, 0])

/-- Which block of a layer's pieces it reads, in that layer's half of the points. -/
theorem index3 : ∀ t : Fin cfg0.N, t.val < 3 → win0_3.index t = ![0, t.val % 3, 0] :=
  (by decide +kernel : ∀ t : Fin grid0.N, t.val < 3 → win0_3.index t = ![0, t.val % 3, 0])

theorem index4 : ∀ t : Fin cfg0.N, 3 ≤ t.val → win0_4.index t = ![0, t.val % 3, 0] :=
  (by decide +kernel : ∀ t : Fin grid0.N, 3 ≤ t.val → win0_4.index t = ![0, t.val % 3, 0])

theorem at5 (t : Fin cfg0.N) (y : S1x64x1024.Idx) : (((win0_5.rect t).emb y) 0).val = t.val / 3 ∧
    (((win0_5.rect t).emb y) 1).val = t.val % 3 * 64 + (y 1).val ∧ (((win0_5.rect t).emb y) 2).val = (y 2).val := by
  have h := fun a => Pipeline.Window.rect_emb_val win0_5 t y a
  rw [index5] at h
  have h0 : (y 0).val < 1 := (y 0).isLt
  exact ⟨(h 0).trans (by show t.val / 3 * 1 + (y 0).val = _; omega), h 1, (h 2).trans (by show 0 * 1024 + (y 2).val = _; omega)⟩

theorem at3 (t : Fin cfg0.N) (h : t.val < 3) (z : S8x64x1024.Idx) : (((win0_3.rect t).emb z) 0).val = (z 0).val ∧
    (((win0_3.rect t).emb z) 1).val = t.val % 3 * 64 + (z 1).val ∧ (((win0_3.rect t).emb z) 2).val = (z 2).val := by
  have i := fun a => Pipeline.Window.rect_emb_val win0_3 t z a
  rw [index3 t h] at i
  exact ⟨(i 0).trans (by show 0 * 8 + (z 0).val = _; omega), i 1, (i 2).trans (by show 0 * 1024 + (z 2).val = _; omega)⟩

theorem at4 (t : Fin cfg0.N) (h : 3 ≤ t.val) (z : S8x64x1024.Idx) : (((win0_4.rect t).emb z) 0).val = (z 0).val ∧
    (((win0_4.rect t).emb z) 1).val = t.val % 3 * 64 + (z 1).val ∧ (((win0_4.rect t).emb z) 2).val = (z 2).val := by
  have i := fun a => Pipeline.Window.rect_emb_val win0_4 t z a
  rw [index4 t h] at i
  exact ⟨(i 0).trans (by show 0 * 8 + (z 0).val = _; omega), i 1, (i 2).trans (by show 0 * 1024 + (z 2).val = _; omega)⟩

/-- A point's block of the gradient. -/
def part (c : Dev nD) (t : Fin cfg0.N) : FVec F S1x64x1024 .f32 := fun y => G m c ((win0_5.rect t).emb y)

/-- In the first half of the points the sum of the blocks is the block of the gradient. -/
theorem grad3 (c : Dev nD) (t : Fin cfg0.N) (h : t.val < 3) :
    Adam.blockGrad (a := 64) (b := 1024) (fun z => V m c main_arg3 ((win0_3.rect t).emb z)) = part m c t := by
  have key := Adam.blockGrad_eq (a := 64) (b := 1024) (L := 2) (R := 192) (R' := 192) (C := 1024) le_rfl (pieces m c) 0 (t.val % 3 * 64) (by decide)
    (win0_3.rect t).emb (win0_5.rect t).emb (at3 t h) fun y => ⟨(at5 t y).1.trans (by omega), (at5 t y).2⟩
  exact key

/-- In the other half likewise. -/
theorem grad4 (c : Dev nD) (t : Fin cfg0.N) (h : 3 ≤ t.val) :
    Adam.blockGrad (a := 64) (b := 1024) (fun z => V m c main_arg4 ((win0_4.rect t).emb z)) = part m c t := by
  have key := Adam.blockGrad_eq (a := 64) (b := 1024) (L := 2) (R := 192) (R' := 192) (C := 1024) le_rfl (pieces m c) 1 (t.val % 3 * 64) (by decide)
    (win0_4.rect t).emb (win0_5.rect t).emb (at4 t h)
    fun y => ⟨(at5 t y).1.trans (by have := t.isLt; have : cfg0.N = 6 := N_0; omega), (at5 t y).2⟩
  exact key

/-- What a point leaves in its blocks of the four results: the gradient, the change of the weight and the new moments. -/
abbrev Leaves (c : Dev nD) (t : Fin cfg0.N) : Prop :=
    (dats m 0 c).flushed 5 t = (cfg0.win 5).cut (grid0.coords t) (part m c t)
    ∧ (dats m 0 c).flushed 6 t = (cfg0.win 6).cut (grid0.coords t) (Adam.delta (part m c t) (iblk m c 0 t) (iblk m c 1 t) (iblk m c 2 t))
    ∧ (dats m 0 c).flushed 7 t = (cfg0.win 7).cut (grid0.coords t) (Adam.newM (part m c t) (iblk m c 1 t))
    ∧ (dats m 0 c).flushed 8 t = (cfg0.win 8).cut (grid0.coords t) (Adam.newV (part m c t) (iblk m c 2 t))

/-- What a point of the first half leaves in its blocks of the four results. -/
theorem leftA (c : Dev nD) (t : Fin cfg0.N) (h : t.val < 3) : Leaves m c t := by
  refine ⟨?_, ?_, ?_, ?_⟩
  on_goal 1 => rw [flushed5_A m c t h (by omega)]; unfold out0_A_5; rw [View.read_writes_eq_canon _ _ _ (fun y => cover0_A_5 (y := y) ..)]
  on_goal 2 => rw [flushed6_A m c t h (by omega)]; unfold out0_A_6; rw [View.read_writes_eq_canon _ _ _ (fun y => cover0_A_6 (y := y) ..)]
  on_goal 3 => rw [flushed7_A m c t h (by omega)]; unfold out0_A_7; rw [View.read_writes_eq_canon _ _ _ (fun y => cover0_A_7 (y := y) ..)]
  on_goal 4 => rw [flushed8_A m c t h (by omega)]; unfold out0_A_8; rw [View.read_writes_eq_canon _ _ _ (fun y => cover0_A_8 (y := y) ..)]
  all_goals
    (unfold kernelRun0_A
     dsimp only
     sl_unfold_words
     rw [View.canon_unit_zero zeros]
     simp only [View.readAt_eq_ld, Memref.IsWhole.read_unread, View.ld_unit_zero (S := S1x64x1024) zeros]
     rw [← grad3 m c t h, ← Adam.cast_loads (a := 64) (b := 1024) _ shapeCasts_S1x64x1024_S64x1024 shapeCasts_S64x1024_S1x64x1024])
  · rfl
  · exact congrArg _ (Adam.cast_delta shapeCasts_S1x64x1024_S64x1024 shapeCasts_S64x1024_S1x64x1024 _ (iblk m c 0 t) (iblk m c 1 t) (iblk m c 2 t))
  · exact congrArg _ (Adam.cast_newM shapeCasts_S1x64x1024_S64x1024 shapeCasts_S64x1024_S1x64x1024 _ (iblk m c 1 t))
  · exact congrArg _ (Adam.cast_newV shapeCasts_S1x64x1024_S64x1024 shapeCasts_S64x1024_S1x64x1024 _ (iblk m c 2 t))

/-- What a point of the second half leaves in its blocks of the four results. -/
theorem leftB (c : Dev nD) (t : Fin cfg0.N) (h : 3 ≤ t.val) : Leaves m c t := by
  refine ⟨?_, ?_, ?_, ?_⟩
  on_goal 1 => rw [flushed5_B m c t (by omega) h]; unfold out0_B_5; rw [View.read_writes_eq_canon _ _ _ (fun y => cover0_B_5 (y := y) ..)]
  on_goal 2 => rw [flushed6_B m c t (by omega) h]; unfold out0_B_6; rw [View.read_writes_eq_canon _ _ _ (fun y => cover0_B_6 (y := y) ..)]
  on_goal 3 => rw [flushed7_B m c t (by omega) h]; unfold out0_B_7; rw [View.read_writes_eq_canon _ _ _ (fun y => cover0_B_7 (y := y) ..)]
  on_goal 4 => rw [flushed8_B m c t (by omega) h]; unfold out0_B_8; rw [View.read_writes_eq_canon _ _ _ (fun y => cover0_B_8 (y := y) ..)]
  all_goals
    (unfold kernelRun0_B
     dsimp only
     sl_unfold_words
     rw [View.canon_unit_zero zeros]
     simp only [View.readAt_eq_ld, Memref.IsWhole.read_unread, View.ld_unit_zero (S := S1x64x1024) zeros]
     rw [← grad4 m c t h, ← Adam.cast_loads (a := 64) (b := 1024) _ shapeCasts_S1x64x1024_S64x1024 shapeCasts_S64x1024_S1x64x1024])
  · rfl
  · exact congrArg _ (Adam.cast_delta shapeCasts_S1x64x1024_S64x1024 shapeCasts_S64x1024_S1x64x1024 _ (iblk m c 0 t) (iblk m c 1 t) (iblk m c 2 t))
  · exact congrArg _ (Adam.cast_newM shapeCasts_S1x64x1024_S64x1024 shapeCasts_S64x1024_S1x64x1024 _ (iblk m c 1 t))
  · exact congrArg _ (Adam.cast_newV shapeCasts_S1x64x1024_S64x1024 shapeCasts_S64x1024_S1x64x1024 _ (iblk m c 2 t))

/-- So a point of either half. -/
theorem left (c : Dev nD) (t : Fin cfg0.N) : Leaves m c t :=
  (Nat.lt_or_ge t.val 3).elim (leftA m c t) (leftB m c t)

/-- Every element of a result is in the block of some point. -/
theorem covered (i : S2x192x1024.Idx) : ∃ t : Fin cfg0.N, i ∈ (win0_5.rect t).set := by
  have h0 : (i 0 : Nat) < 2 := (i 0).isLt
  have h1 : (i 1 : Nat) < 192 := (i 1).isLt
  have h2 : (i 2 : Nat) < 1024 := (i 2).isLt
  have hN : (i 0 : Nat) * 3 + (i 1 : Nat) / 64 < cfg0.N := by rw [show cfg0.N = 6 from N_0]; omega
  refine ⟨⟨(i 0 : Nat) * 3 + (i 1 : Nat) / 64, hN⟩, ?_⟩
  rw [Rect.mem_set_unit]
  intro a
  show win0_5.index _ a * _ ≤ _ ∧ _ < win0_5.index _ a * _ + _
  rw [index5]
  match a with
  | ⟨0, _⟩ =>
    show ((i 0 : Nat) * 3 + (i 1 : Nat) / 64) / 3 * 1 ≤ (i 0 : Nat) ∧ (i 0 : Nat) < ((i 0 : Nat) * 3 + (i 1 : Nat) / 64) / 3 * 1 + 1
    omega
  | ⟨1, _⟩ =>
    show ((i 0 : Nat) * 3 + (i 1 : Nat) / 64) % 3 * 64 ≤ (i 1 : Nat) ∧ (i 1 : Nat) < ((i 0 : Nat) * 3 + (i 1 : Nat) / 64) % 3 * 64 + 64
    omega
  | ⟨2, _⟩ => show 0 * 1024 ≤ (i 2 : Nat) ∧ (i 2 : Nat) < 0 * 1024 + 1024; omega

/-- The first result is the gradient. -/
theorem final5 (c : Dev nD) : (dats m 0 c).arrAt 5 cfg0.N = G m c :=
  (dats m 0 c).arrAt_eq_of_cover 5 _ (fun t _ => by rw [(left m c t).1]; rfl) fun i => let ⟨t, h⟩ := covered i
    ⟨t, flush0_5 t, by
      show i ∈ ((View.whole main_v0_0).slice (win0_5.rect t)).set
      rw [View.set_slice_whole]; exact h⟩

/-- The second result is the change of the weight. -/
theorem final6 (c : Dev nD) : (dats m 0 c).arrAt 6 cfg0.N = Adam.delta (G m c) (V m c main_arg0) (V m c main_arg1) (V m c main_arg2) :=
  (dats m 0 c).arrAt_eq_of_cover 6 _ (fun t _ => by rw [(left m c t).2.1]; rfl) fun i => let ⟨t, h⟩ := covered i
    ⟨t, flush0_6 t, by
      show i ∈ ((View.whole main_v0_1).slice (win0_6.rect t)).set
      rw [View.set_slice_whole]; exact h⟩

/-- The third result is the new first moment. -/
theorem final7 (c : Dev nD) : (dats m 0 c).arrAt 7 cfg0.N = Adam.newM (G m c) (V m c main_arg1) :=
  (dats m 0 c).arrAt_eq_of_cover 7 _ (fun t _ => by rw [(left m c t).2.2.1]; rfl) fun i => let ⟨t, h⟩ := covered i
    ⟨t, flush0_7 t, by
      show i ∈ ((View.whole main_v0_2).slice (win0_7.rect t)).set
      rw [View.set_slice_whole]; exact h⟩

/-- The fourth result is the new second moment. -/
theorem final8 (c : Dev nD) : (dats m 0 c).arrAt 8 cfg0.N = Adam.newV (G m c) (V m c main_arg2) :=
  (dats m 0 c).arrAt_eq_of_cover 8 _ (fun t _ => by rw [(left m c t).2.2.2]; rfl) fun i => let ⟨t, h⟩ := covered i
    ⟨t, flush0_8 t, by
      show i ∈ ((View.whole main_v0_3).slice (win0_8.rect t)).set
      rw [View.set_slice_whole]; exact h⟩

end

/-- The four results are the reference's, over the extended reals. -/
theorem algebraic : Cert.algebraic_AdamOddIdeal_StepOddIdeal := by
  intro m g m' g' _ hin
  refine ⟨fun c => G m c, fun c => Adam.delta (G m c) (V m c main_arg0) (V m c main_arg1) (V m c main_arg2),
    fun c => Adam.newM (G m c) (V m c main_arg1), fun c => Adam.newV (G m c) (V m c main_arg2),
    (θ_run defs _ _).mono (fun r h c => ?_) (run_blocks m g),
    (θ_run Cert.StepOddIdeal.defs _ _).mono (fun r h c => ?_) (Cert.StepOddIdeal.Value.run m' g')⟩
  · obtain ⟨r0, r1, r2, r3, kept⟩ := h c
    exact ⟨r0.trans (final5 m c), r1.trans (final6 m c), r2.trans (final7 m c), r3.trans (final8 m c), kept⟩
  · obtain ⟨r0, r1, r2, r3, kept⟩ := h c
    obtain ⟨h0, h1, h2, h3, h4⟩ := hin c
    have hG := Adam.grad_host2 (R := 192) (C := 1024) (pieces m c) Cert.StepOddIdeal.Facts₀.bcast_S8x192x1024_S1x8x192x1024_1_2_3
      Cert.StepOddIdeal.Facts₀.concatenates_S1x8x192x1024_S1x8x192x1024_S2x8x192x1024_d0
      Cert.StepOddIdeal.Facts₀.reducesTo_S2x8x192x1024_S2x192x1024_d1 Cert.StepOddIdeal.Facts₀.h_S_ Cert.StepOddIdeal.Facts₀.bitsLt_bf16_f32
    rw [← r0] at r1 r2 r3
    rw [h3, h4] at r0
    replace r0 := r0.trans hG
    rw [r0, h0, h1, h2] at r1
    rw [r0, h1] at r2
    rw [r0, h2] at r3
    exact ⟨r0, r1.trans rfl, r2.trans rfl, r3.trans rfl, kept⟩

end Cert.AdamOddIdeal.Value
-- ==== Proof.StepAda.lean ====
/-
  The AdamW call of the modulation weight: a point of its grid takes one block of rows of the weight, the gradient and
  the two moments, and writes that block of the gradient, the change, and the two new moments.

    final4 … final7   each result is one function of the whole arguments
    algebraic         they are the reference's results over the extended reals
-/
module

public import proofs.«01_k».proof.Defs
public import proofs.«01_k».proof.Proof.Adam
public import proofs.«01_k».proof.Proof.Gen.AdamAdaIdeal.Value
public import proofs.«01_k».proof.Proof.Gen.StepAdaIdeal.Run

@[expose] public section

noncomputable section

open Idealize.ShloMosaic Idealize.ShloMosaic.TcCoe Idealize.SL.Sem
open Idealize.ShloMosaic.Pipeline (Dat)

namespace Cert.AdamAdaIdeal.Value

open Cert.AdamAdaIdeal Cert.AdamAdaIdeal.Gen

section
variable {F : FTy → Type} [FloatOps F]
variable (m : (ℓ : Loc nD τ sig) → Buf (Elt F) ℓ)

/-- Every element of a result is in the block of some point. -/
theorem covered (i : S4096x768.Idx) : ∃ t : Fin cfg0.N, i ∈ (win0_4.rect t).set := by
  have h0 : (i 0 : Nat) < 4096 := (i 0).isLt
  have h1 : (i 1 : Nat) < 768 := (i 1).isLt
  obtain ⟨t, ht⟩ := (by decide +kernel : ∀ q : Fin 8, ∃ t : Fin grid0.N, win0_4.index t = ![q.val, 0])
    ⟨(i 0 : Nat) / 512, by omega⟩
  refine ⟨t, ?_⟩
  rw [Rect.mem_set_unit]
  intro a
  show win0_4.index t a * _ ≤ _ ∧ _ < win0_4.index t a * _ + _
  rw [ht]
  match a with
  | ⟨0, _⟩ => show (i 0 : Nat) / 512 * 512 ≤ (i 0 : Nat) ∧ (i 0 : Nat) < (i 0 : Nat) / 512 * 512 + 512; omega
  | ⟨1, _⟩ => show 0 * 768 ≤ (i 1 : Nat) ∧ (i 1 : Nat) < 0 * 768 + 768; omega

theorem zeros : (![0, 0] : Fin 2 → Nat) = fun _ => 0 := funext fun a => by fin_cases a <;> rfl

/-- The first result is the gradient. -/
theorem final4 (c : Dev nD) : (dats m 0 c).arrAt 4 cfg0.N = V m c main_arg1 :=
  (dats m 0 c).arrAt_eq_of_cover 4 _
    (fun t _ => by
      rw [flushed4]; unfold out0_4
      rw [View.canon_unit_zero zeros]
      simp only [View.ld_unit_zero (S := S512x768) zeros]
      rfl)
    fun i => let ⟨t, h⟩ := covered i
      ⟨t, flush0_4 t, by
        show i ∈ ((View.whole main_v0_0).slice (win0_4.rect t)).set
        rw [View.set_slice_whole]; exact h⟩

/-- The second is the change of the weight. -/
theorem final5 (c : Dev nD) : (dats m 0 c).arrAt 5 cfg0.N =
    Adam.delta (V m c main_arg1) (V m c main_arg0) (V m c main_arg2) (V m c main_arg3) :=
  (dats m 0 c).arrAt_eq_of_cover 5 _
    (fun t _ => by
      rw [flushed5]; unfold out0_5
      rw [View.canon_unit_zero zeros]
      simp only [View.ld_unit_zero (S := S512x768) zeros]
      rfl)
    fun i => let ⟨t, h⟩ := covered i
      ⟨t, flush0_5 t, by
        show i ∈ ((View.whole main_v0_1).slice (win0_5.rect t)).set
        rw [View.set_slice_whole]; exact h⟩

/-- The third is the new first moment. -/
theorem final6 (c : Dev nD) : (dats m 0 c).arrAt 6 cfg0.N = Adam.newM (V m c main_arg1) (V m c main_arg2) :=
  (dats m 0 c).arrAt_eq_of_cover 6 _
    (fun t _ => by
      rw [flushed6]; unfold out0_6
      rw [View.canon_unit_zero zeros]
      simp only [View.ld_unit_zero (S := S512x768) zeros]
      rfl)
    fun i => let ⟨t, h⟩ := covered i
      ⟨t, flush0_6 t, by
        show i ∈ ((View.whole main_v0_2).slice (win0_6.rect t)).set
        rw [View.set_slice_whole]; exact h⟩

/-- The fourth is the new second moment. -/
theorem final7 (c : Dev nD) : (dats m 0 c).arrAt 7 cfg0.N = Adam.newV (V m c main_arg1) (V m c main_arg3) :=
  (dats m 0 c).arrAt_eq_of_cover 7 _
    (fun t _ => by
      rw [flushed7]; unfold out0_7
      rw [View.canon_unit_zero zeros]
      simp only [View.ld_unit_zero (S := S512x768) zeros]
      rfl)
    fun i => let ⟨t, h⟩ := covered i
      ⟨t, flush0_7 t, by
        show i ∈ ((View.whole main_v0_3).slice (win0_7.rect t)).set
        rw [View.set_slice_whole]; exact h⟩

end

/-- The four results are the reference's, over the extended reals. -/
theorem algebraic : Cert.algebraic_AdamAdaIdeal_StepAdaIdeal := by
  intro m g m' g' _ hin
  refine ⟨fun c => V m c main_arg1, fun c => Adam.delta (F := Ideal) (S := S4096x768) (V m c main_arg1) (V m c main_arg0) (V m c main_arg2) (V m c main_arg3),
    fun c => Adam.newM (F := Ideal) (S := S4096x768) (V m c main_arg1) (V m c main_arg2), fun c => Adam.newV (F := Ideal) (S := S4096x768) (V m c main_arg1) (V m c main_arg3),
    (θ_run defs _ _).mono (fun r h c => ?_) (run_blocks m g),
    (θ_run Cert.StepAdaIdeal.defs _ _).mono (fun r h c => ?_) (Cert.StepAdaIdeal.Value.run m' g')⟩
  · obtain ⟨r0, r1, r2, r3, kept⟩ := h c
    exact ⟨r0.trans (final4 m c), r1.trans (final5 m c), r2.trans (final6 m c), r3.trans (final7 m c), kept⟩
  · obtain ⟨r0, r1, r2, r3, kept⟩ := h c
    obtain ⟨h0, h1, h2, h3⟩ := hin c
    rw [h0, h1, h2, h3] at r1
    rw [h1, h2] at r2
    rw [h1, h3] at r3
    exact ⟨r0.trans h1, r1.trans rfl, r2.trans rfl, r3.trans rfl, kept⟩

end Cert.AdamAdaIdeal.Value
-- ==== Proof.StepSmall.lean ====
/-
  The AdamW call of the fourteen small weights, packed one after another: a point of its grid takes one block of rows of the weight, the gradient and
  the two moments, and writes that block of the gradient, the change, and the two new moments.

    final4 … final7   each result is one function of the whole arguments
    algebraic         they are the reference's results over the extended reals
-/
module

public import proofs.«01_k».proof.Defs
public import proofs.«01_k».proof.Proof.Adam
public import proofs.«01_k».proof.Proof.Gen.AdamSmallIdeal.Value
public import proofs.«01_k».proof.Proof.Gen.StepSmallIdeal.Run

@[expose] public section

noncomputable section

open Idealize.ShloMosaic Idealize.ShloMosaic.TcCoe Idealize.SL.Sem
open Idealize.ShloMosaic.Pipeline (Dat)

namespace Cert.AdamSmallIdeal.Value

open Cert.AdamSmallIdeal Cert.AdamSmallIdeal.Gen

section
variable {F : FTy → Type} [FloatOps F]
variable (m : (ℓ : Loc nD τ sig) → Buf (Elt F) ℓ)

/-- Every element of a result is in the block of some point. -/
theorem covered (i : S2560x128.Idx) : ∃ t : Fin cfg0.N, i ∈ (win0_4.rect t).set := by
  have h0 : (i 0 : Nat) < 2560 := (i 0).isLt
  have h1 : (i 1 : Nat) < 128 := (i 1).isLt
  obtain ⟨t, ht⟩ := (by decide +kernel : ∀ q : Fin 5, ∃ t : Fin grid0.N, win0_4.index t = ![q.val, 0])
    ⟨(i 0 : Nat) / 512, by omega⟩
  refine ⟨t, ?_⟩
  rw [Rect.mem_set_unit]
  intro a
  show win0_4.index t a * _ ≤ _ ∧ _ < win0_4.index t a * _ + _
  rw [ht]
  match a with
  | ⟨0, _⟩ => show (i 0 : Nat) / 512 * 512 ≤ (i 0 : Nat) ∧ (i 0 : Nat) < (i 0 : Nat) / 512 * 512 + 512; omega
  | ⟨1, _⟩ => show 0 * 128 ≤ (i 1 : Nat) ∧ (i 1 : Nat) < 0 * 128 + 128; omega

theorem zeros : (![0, 0] : Fin 2 → Nat) = fun _ => 0 := funext fun a => by fin_cases a <;> rfl

/-- The first result is the gradient. -/
theorem final4 (c : Dev nD) : (dats m 0 c).arrAt 4 cfg0.N = V m c main_arg1 :=
  (dats m 0 c).arrAt_eq_of_cover 4 _
    (fun t _ => by
      rw [flushed4]; unfold out0_4
      rw [View.canon_unit_zero zeros]
      simp only [View.ld_unit_zero (S := S512x128) zeros]
      rfl)
    fun i => let ⟨t, h⟩ := covered i
      ⟨t, flush0_4 t, by
        show i ∈ ((View.whole main_v0_0).slice (win0_4.rect t)).set
        rw [View.set_slice_whole]; exact h⟩

/-- The second is the change of the weight. -/
theorem final5 (c : Dev nD) : (dats m 0 c).arrAt 5 cfg0.N =
    Adam.delta (V m c main_arg1) (V m c main_arg0) (V m c main_arg2) (V m c main_arg3) :=
  (dats m 0 c).arrAt_eq_of_cover 5 _
    (fun t _ => by
      rw [flushed5]; unfold out0_5
      rw [View.canon_unit_zero zeros]
      simp only [View.ld_unit_zero (S := S512x128) zeros]
      rfl)
    fun i => let ⟨t, h⟩ := covered i
      ⟨t, flush0_5 t, by
        show i ∈ ((View.whole main_v0_1).slice (win0_5.rect t)).set
        rw [View.set_slice_whole]; exact h⟩

/-- The third is the new first moment. -/
theorem final6 (c : Dev nD) : (dats m 0 c).arrAt 6 cfg0.N = Adam.newM (V m c main_arg1) (V m c main_arg2) :=
  (dats m 0 c).arrAt_eq_of_cover 6 _
    (fun t _ => by
      rw [flushed6]; unfold out0_6
      rw [View.canon_unit_zero zeros]
      simp only [View.ld_unit_zero (S := S512x128) zeros]
      rfl)
    fun i => let ⟨t, h⟩ := covered i
      ⟨t, flush0_6 t, by
        show i ∈ ((View.whole main_v0_2).slice (win0_6.rect t)).set
        rw [View.set_slice_whole]; exact h⟩

/-- The fourth is the new second moment. -/
theorem final7 (c : Dev nD) : (dats m 0 c).arrAt 7 cfg0.N = Adam.newV (V m c main_arg1) (V m c main_arg3) :=
  (dats m 0 c).arrAt_eq_of_cover 7 _
    (fun t _ => by
      rw [flushed7]; unfold out0_7
      rw [View.canon_unit_zero zeros]
      simp only [View.ld_unit_zero (S := S512x128) zeros]
      rfl)
    fun i => let ⟨t, h⟩ := covered i
      ⟨t, flush0_7 t, by
        show i ∈ ((View.whole main_v0_3).slice (win0_7.rect t)).set
        rw [View.set_slice_whole]; exact h⟩

end

/-- The four results are the reference's, over the extended reals. -/
theorem algebraic : Cert.algebraic_AdamSmallIdeal_StepSmallIdeal := by
  intro m g m' g' _ hin
  refine ⟨fun c => V m c main_arg1, fun c => Adam.delta (F := Ideal) (S := S2560x128) (V m c main_arg1) (V m c main_arg0) (V m c main_arg2) (V m c main_arg3),
    fun c => Adam.newM (F := Ideal) (S := S2560x128) (V m c main_arg1) (V m c main_arg2), fun c => Adam.newV (F := Ideal) (S := S2560x128) (V m c main_arg1) (V m c main_arg3),
    (θ_run defs _ _).mono (fun r h c => ?_) (run_blocks m g),
    (θ_run Cert.StepSmallIdeal.defs _ _).mono (fun r h c => ?_) (Cert.StepSmallIdeal.Value.run m' g')⟩
  · obtain ⟨r0, r1, r2, r3, kept⟩ := h c
    exact ⟨r0.trans (final4 m c), r1.trans (final5 m c), r2.trans (final6 m c), r3.trans (final7 m c), kept⟩
  · obtain ⟨r0, r1, r2, r3, kept⟩ := h c
    obtain ⟨h0, h1, h2, h3⟩ := hin c
    rw [h0, h1, h2, h3] at r1
    rw [h1, h2] at r2
    rw [h1, h3] at r3
    exact ⟨r0.trans h1, r1.trans rfl, r2.trans rfl, r3.trans rfl, kept⟩

end Cert.AdamSmallIdeal.Value
-- ==== Proof.CutFrame.lean ====
/-
  The small weights' gradients, summed over the devices by one call and cut, on each device, to its own columns: the run.
  The lines before the call compute the device's number, the call adds the eight devices' arrays, the lines after it cut.

    body_run     a point of the call's grid leaves the sum of its blocks
    run_all      the run: every buffer is what the lines after the call leave, every counter is zero
    frame        the argument ends unchanged, the counters at zero
    whole1       the call's result is the sum of the whole arrays
-/
module

public import proofs.«01_k».proof.Defs
public import proofs.«01_k».proof.Proof.Adam
public import proofs.«01_k».proof.Proof.Gen.CutGradsIdeal.Launch
public import proofs.«01_k».proof.Proof.Gen.CutGradsIdeal.Points
public import proofs.«01_k».proof.Proof.Gen.CutGradsIdeal.Skeleton
public import Idealize.ShloMosaic.Lib.Pipeline.FrameSuffix
public import Idealize.ShloMosaic.Lib.Tactic

@[expose] public section

set_option maxRecDepth 16384

noncomputable section

namespace Cert.CutGradsIdeal.Cut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.CutGradsIdeal Cert.CutGradsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What device `c` holds when the call begins. -/
abbrev start (c : Dev nD) : Valuation τ sig (Elt F) := StableHlo.after (List.flatten [hostOps0 c]) (fun b => m (c, b))

theorem start_arg0 (c : Dev nD) : start m c main_arg0 = m ((c : Thread nD τ).loc main_arg0) := by
  unfold start hostOps0
  simp only [List.flatten_cons, List.flatten_nil, List.append_nil]
  after_results <;> rfl

/-! ## The lines around the call -/

theorem fresh0 (c : Dev nD) : (hostOps0 c : List (HloOp τ sig (Elt F))).Forall fun op => op.fresh = ∅ := by
  simp only [List.Forall]; repeat' constructor

theorem fresh1 : (hostOps1 : List (HloOp τ sig (Elt F))).Forall fun op => op.fresh = ∅ := by
  simp only [List.Forall]; repeat' constructor

set_option maxHeartbeats 4000000 in
theorem keeps1 : (hostOps1 : List (HloOp τ sig (Elt F))).Forall fun op => ∀ w, Proc.devRef .tc (Pipeline.arrRef spec0 w) ∉ op.writes := by
  simp only [List.Forall]
  repeat' apply And.intro
  all_goals
    intro w
    fin_cases w <;>
      simp only [StableHlo.nullary_writes, StableHlo.unary_writes, StableHlo.binary_writes, StableHlo.ternary_writes,
        StableHlo.reshape_writes, StableHlo.unaryIndexed_writes, Finset.mem_singleton] <;>
      exact StableHlo.devRef_ne_of_ne (by decide)

theorem sub1 : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton.1 hops] at hop
  exact Pipeline.sub_ucRefs op (List.forall_iff_forall_mem.mp hostOps1_sub op hop)

set_option maxHeartbeats 800000 in
/-- On each device the program is its lines before the call, the call, and the lines after it. -/
theorem around (𝒱₀ : Variants) : Pipeline.HMainK (Ix := Unit) (Name := ℕ) (U := UR sig nD τ) (Lvl := ℕ) cfgs 0 defs₀ 𝒱₀ m (main (F := F))
      (fun c b => start m c (Proc.devRef .tc b)) (fun _ => Pipeline.chain ([hostOps1].map StableHlo.seq)) := fun c =>
  (Pipeline.hmain_around cfgs 0 defs₀ 𝒱₀ m (fun _ => main c) [hostOps0 c] [hostOps1]
    (by simp only [List.Forall]; exact hostOps0_sub c) (by simp only [List.Forall]; exact fresh0 c) (fun _ => main_chain c)) c

/-! ## The call's body -/

abbrev part (k : Nat) (h : ∀ a, ![k, 0, 0] a + S1x128x128.size a ≤ S8x128x128.size a := by decide) : Rect S8x128x128 :=
  Rect.unit (s := S8x128x128) ![k, 0, 0] S1x128x128.size h
abbrev full : Rect S128x128 := Rect.unit (s := S128x128) ![0, 0] S128x128.size inb_S128x128_S128x128_0_0

/-- What the body leaves of a block of the argument. -/
def left (x : Vec F S8x128x128 .f32) : Vec F S128x128 .f32 :=
  View.canon [⟨full, k0_pay1 (View.ld x (part 0)) (View.ld x (part 1)) (View.ld x (part 2)) (View.ld x (part 3))
    (View.ld x (part 4)) (View.ld x (part 5)) (View.ld x (part 6)) (View.ld x (part 7))⟩]

theorem left_covers (p : Vec F S128x128 .f32) (y : S128x128.Idx) : ∃ pc ∈ ([⟨full, p⟩] : List (View.Piece (Elt F) S128x128 .f32)), y ∈ pc.1.set :=
  View.cover_of_tiled [⟨full, p⟩] S128x128.size (by rfl) y

set_option maxHeartbeats 1000000 in
/-- The body on two whole buffers: the argument's keeps its block, the result's has what the body leaves of it. -/
theorem body_run (c : Dev nD) (i : grid0.Coords) (a : Memref sig .tc .vmem S8x128x128 .f32) (ha : a.IsWhole)
    (b : Memref sig .tc .vmem S128x128 .f32) (hb : b.IsWhole) (x : Vec F S8x128x128 .f32) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (left x)) -∗ K ⟨⟩))
      ⊢ wp frame (wpE (defs₀ (F := F)) Variants.none c none) Set.univ (cc0_sum_small_grads i a ha b hb) K := by
  simp only [cc0_sum_small_grads_eq_skeleton]; unfold cc0_sum_small_grads_skel
  unfold owns
  iintro ⟨⟨%f, %hf, A⟩, ⟨%d, %g, -, B⟩, W⟩
  subst hf
  sl_exec
  sl_step
  iapply W
  isplitl [A]
  · iexists f; isplitr; · ipureintro; rfl
    iexact A
  iexists _; isplitr
  swap; · iexact B
  ipureintro
  exact View.read_writes_eq_canon _ _ _ (left_covers _)

/-! ## The call's data -/

/-- A window's block at a point, of what the device holds when the call begins. -/
def blk (c : Dev nD) (w : Fin cfg0.W) (t : Fin cfg0.N) : ((cfg0.win w).xblock (cfg0.grid.coords t)).Idx → Elt F (cfg0.win w).elt :=
  ((cfg0.win w).blk t).view.read (Elt F) (start m c (Pipeline.arrRef spec0 w))

def dats (_ : Fin 1) (c : Dev nD) : Dat τ (Elt F) Unit ℕ (UR sig nD τ) ℕ cfg0 c where
  A w := start m c (Pipeline.arrRef spec0 w)
  after w t := match w with
    | ⟨0, _⟩ => blk m c 0 t
    | ⟨1, _⟩ => left (blk m c 0 t)
  Φ _ := Pipeline.ΦA spec0 c
  q _ := fullShare
  owed _ := 0

theorem A_eq (c : Dev nD) (w : Fin cfg0.W) : (dats m 0 c).A w = start m c (Pipeline.arrRef spec0 w) := by
  dsimp only [dats]
theorem after0 (c : Dev nD) (t : Fin cfg0.N) : (dats m 0 c).after 0 t = blk m c 0 t := by dsimp only [dats]
theorem after1 (c : Dev nD) (t : Fin cfg0.N) : (dats m 0 c).after 1 t = left (blk m c 0 t) := by dsimp only [dats]

theorem before0 (c : Dev nD) (t : Fin cfg0.N) (d) : (dats m 0 c).before 0 t d = blk m c 0 t :=
  ((dats m 0 c).before_in_eq_fetched 0 rfl (fun _ => rfl) (fun _ _ _ => rfl)
      (fun t => by rw [after0]; unfold Dat.blockOf blk; rw [A_eq]) t d).trans
    (by unfold Dat.fetched Dat.blockOf blk; rw [A_eq]; rfl)

/-- The body at a point of the grid. -/
theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t))) := by
  unfold bodyAt0
  simp only [before0]
  rw [show (dats m 0 c).Φ t.succ = (dats m 0 c).Φ t.castSucc from rfl,
    show (dats m 0 c).owesAt () t.succ = (dats m 0 c).owesAt () t.castSucc from rfl, after0, after1]
  iintro ⟨Φ, O, ⟨%_, A⟩, ⟨%_, B⟩⟩
  iapply (body_run c (grid0.coords t) _ _ _ _ (blk m c 0 t) _)
  isplitl [A]; · iexact A
  isplitl [B]; · iexists _; iexact B
  iintro ⟨A, B⟩
  isplitl [Φ]; · iexact Φ
  isplitl [O]; · iexact O
  isplitl [A]; · iexact A
  iexact B

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point m c t) rfl .rfl fun _ => .rfl

/-! ## The run -/

set_option backward.isDefEq.respectTransparency.types false in
set_option maxHeartbeats 800000 in
theorem run_all : θ_run defs (onTc (τ := τ) (main (F := F))) ⟨m, fun _ => 0, ρ⟩ (fun r =>
    Pipeline.FramePost cfgs (dats m) 0 (Pipeline.afterTail₀ cfgs (dats m) 0 (start m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := start m) (opss := [hostOps1]) (hsub := sub1)
    (hfresh := fun ops hops op hop => List.forall_iff_forall_mem.mp fresh1 op (by rwa [List.mem_singleton.1 hops] at hop))
    (hkeep := fun ops hops op hop => List.forall_iff_forall_mem.mp keeps1 op (by rwa [List.mem_singleton.1 hops] at hop))
    (hmain := around m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).1 0).trans
    (((dats m 0 c).arrAt_in 0 rfl _).trans ((A_eq m c 0).trans (start_arg0 m c))), h.2⟩) (run_all m ρ)

/-! ## The call's result -/

theorem zeros : (![0, 0] : Fin 2 → Nat) = fun _ => 0 := funext fun a => by fin_cases a <;> rfl

theorem left_total (x : Vec F S8x128x128 .f32) : left x = Adam.total x := by
  unfold left
  rw [View.canon_unit_zero zeros]
  exact Adam.total_loads (a := 128) (b := 128) x shapeCasts_S1x128x128_S128x128

theorem index_rows : ∀ t : Fin cfg0.N, win0_1.index t = ![t.val, 0] ∧ win0_0.index t = ![0, t.val, 0] :=
  (by decide +kernel : ∀ t : Fin grid0.N, win0_1.index t = ![t.val, 0] ∧ win0_0.index t = ![0, t.val, 0])

theorem whole1 (c : Dev nD) : (dats m 0 c).arrAt 1 cfg0.N = Adam.total (m ((c : Thread nD τ).loc main_arg0)) :=
  (dats m 0 c).arrAt_eq_of_cover 1 _
    (fun t _ => by
      unfold Dat.flushed
      rw [after1, left_total]
      funext y
      obtain ⟨h1, h0⟩ := index_rows t
      have e : ∀ k : Fin 8, (win0_0.rect t).emb (ValueIdx.ix3 k (y 0) (y 1))
          = ValueIdx.ix3 k ((win0_1.rect t).emb y 0) ((win0_1.rect t).emb y 1) := fun k => funext fun a => Fin.ext (by
        refine (Pipeline.Window.rect_emb_val win0_0 t _ a).trans ?_
        rw [h0]
        match a with
        | ⟨0, _⟩ => exact Nat.zero_add _
        | ⟨1, _⟩ =>
          refine Eq.trans ?_ (Pipeline.Window.rect_emb_val win0_1 t y 0).symm
          rw [h1]; rfl
        | ⟨2, _⟩ =>
          refine Eq.trans ?_ (Pipeline.Window.rect_emb_val win0_1 t y 1).symm
          rw [h1]; rfl)
      rw [← start_arg0 m c]
      show Adam.total (fun z => start m c main_arg0 ((win0_0.rect t).emb z)) y = Adam.total (start m c main_arg0) ((win0_1.rect t).emb y)
      exact Adam.sum8_at fun k => congrArg (start m c main_arg0) (e k))
    fun i => by
      have h0 : (i 0 : Nat) < 384 := (i 0).isLt
      have h1 : (i 1 : Nat) < 128 := (i 1).isLt
      have hN : (i 0 : Nat) / 128 < cfg0.N := by rw [show cfg0.N = 3 from N_0]; omega
      refine ⟨⟨(i 0 : Nat) / 128, hN⟩, flush0_1 _, ?_⟩
      show i ∈ ((View.whole main_v17).slice (win0_1.rect ⟨(i 0 : Nat) / 128, hN⟩)).set
      rw [View.set_slice_whole, Rect.mem_set_unit]
      intro a
      show win0_1.index _ a * _ ≤ _ ∧ _ < win0_1.index _ a * _ + _
      rw [(index_rows _).1]
      match a with
      | ⟨0, _⟩ => show (i 0 : Nat) / 128 * 128 ≤ (i 0 : Nat) ∧ (i 0 : Nat) < (i 0 : Nat) / 128 * 128 + 128; omega
      | ⟨1, _⟩ => show 0 * 128 ≤ (i 1 : Nat) ∧ (i 1 : Nat) < 0 * 128 + 128; omega

end Cert.CutGradsIdeal.Cut
-- ==== Proof.CutValue.lean ====
/-
  The small weights' gradients, summed over the devices by one call and cut, on each device, to its own columns: the values.

    cut          a slice that starts at a device's own columns is the device's block
    begins       where the lines after the call start their slices
    algebraic    each result is the device's block of the reference's sum, over the extended reals
-/
module

public import proofs.«01_k».proof.Proof.CutFrame
public import proofs.«01_k».proof.Proof.Gen.WeightTotalsIdeal.Run
public import Idealize.ShloMosaic.Lib.StableHlo.RunClose
public import Idealize.ShloMosaic.Lib.DynamicIndex
public import Idealize.ShloMosaic.Lib.Claim

@[expose] public section

noncomputable section

namespace Cert.CutGradsIdeal.Cut

open Idealize.ShloMosaic Idealize.ShloMosaic.TcCoe Idealize.SL.Sem
open Cert.CutGradsIdeal Cert.CutGradsIdeal.Gen

theorem cut {α : Type} {S T : Shape} (a : Nat) (c : Fin 8) (x : T.Idx → α) (start : Fin T.rank → Int)
    (h : T.Slices (fun _ => 0) S) (hT : Layout.Tiles S T a 8)
    (hs : ∀ b : Fin T.rank, start b = ((if b.val = a then c.val * S.size (b.cast hT.rank.symm) else 0 : Nat) : Int)) :
    Host.dynamicSlice S x start h = Layout.block S T a 8 c x hT := by
  have hoff : T.Slices (fun b => if b.val = a then c.val * S.size (b.cast hT.rank.symm) else 0) S := ⟨h.1, fun b => by
    have e := hT.size (b.cast hT.rank.symm)
    have hc := c.isLt
    show (if b.val = a then c.val * S.size (b.cast hT.rank.symm) else 0) + S.size (b.cast hT.rank.symm) ≤ T.size b
    change T.size b = if b.val = a then 8 * S.size (b.cast hT.rank.symm) else S.size (b.cast hT.rank.symm) at e
    rw [e]
    split
    · have := Nat.mul_le_mul_right (S.size (b.cast hT.rank.symm)) (show c.val + 1 ≤ 8 from hc)
      rw [Nat.succ_mul] at this
      exact this
    · exact (Nat.zero_add _).le⟩
  rw [Host.dynamicSlice_eq_extractStridedSlice S x start _ h hoff hs]
  funext i
  refine congrArg x (funext fun b => Fin.ext ?_)
  refine Eq.trans ?_ (hT.idx_val c i b).symm
  show (if b.val = a then c.val * S.size (b.cast hT.rank.symm) else 0) + (i (b.cast hT.rank.symm)).val = _
  split
  · rw [if_pos ‹_›]
  · rw [if_neg ‹_›, Nat.zero_add]

/-- Where a slice of `n` columns of `e` starts, from a device's number: its number of slices on, or, counted from below
    zero, that from the end. -/
def begins (n e : BitVec 32) (w : IVec S_ 32) : IVec S_ 32 :=
  select (cmpi .slt (muli w (constantI S_ 32 n)) (constantI S_ 32 0#32)) (addi (muli w (constantI S_ 32 n)) (constantI S_ 32 e))
    (muli w (constantI S_ 32 n))

section
variable {F : FTy → Type} [FloatOps F]
variable (m : (ℓ : Loc nD τ sig) → Buf (Elt F) ℓ)

theorem number : ∀ c : Fin 8,
    IntOp.addi (IntOp.addi (IntOp.muli 4#32 (IntOp.remui .host (IntOp.divui .host (BitVec.ofNat 32 c.val) 4#32) 2#32))
        (IntOp.muli 2#32 (IntOp.remui .host (IntOp.divui .host (BitVec.ofNat 32 c.val) 2#32) 2#32)))
      (IntOp.remui .host (IntOp.divui .host (BitVec.ofNat 32 c.val) 1#32) 2#32) = BitVec.ofNat 32 c.val := by
  decide +kernel

/-- The lines before the call leave the device's number. -/
theorem start_me (c : Dev nD) : start m c main_v16 = (constantI S_ 32 (BitVec.ofNat 32 c.val) : IVec S_ 32) := by
  unfold start hostOps0
  simp only [List.flatten_cons, List.flatten_nil, List.append_nil]
  after_results
  funext j
  exact number c

theorem begins_128 (c : Dev nD) (j : S_.Idx) : (begins 128#32 1024#32 (constantI S_ 32 (BitVec.ofNat 32 c.val)) j).toInt = ((c.val * 128 : Nat) : Int) := by
  fin_cases c <;> rfl

theorem begins_64 (c : Dev nD) (j : S_.Idx) : (begins 64#32 512#32 (constantI S_ 32 (BitVec.ofNat 32 c.val)) j).toInt = ((c.val * 64 : Nat) : Int) := by
  fin_cases c <;> rfl

/-! ## What the lines after the call leave -/

/-- The norms' weights' part of the sums, -/
def norms (x : Vec F S384x128 .f32) : Vec F S4x2x1024 .f32 :=
  shapeCast S4x2x1024 (shapeCast S8192 (extractStridedSlice S64x128 ![8, 0] x slices_S384x128_S64x128_8_0) shapeCasts_S64x128_S8192) shapeCasts_S8192_S4x2x1024
/-- the convolutions', -/
def convs (x : Vec F S384x128 .f32) : Vec F S2x31x512 .f32 :=
  shapeCast S2x31x512 (shapeCast S31744 (extractStridedSlice S248x128 ![80, 0] x slices_S384x128_S248x128_80_0) shapeCasts_S248x128_S31744) shapeCasts_S31744_S2x31x512
/-- and a part of eight rows from row `r`. -/
def eight (r : Nat) (h : S384x128.Slices ![r, 0] S8x128) (x : Vec F S384x128 .f32) : Vec F S2x512 .f32 :=
  shapeCast S2x512 (shapeCast S1024 (extractStridedSlice S8x128 ![r, 0] x h) shapeCasts_S8x128_S1024) shapeCasts_S1024_S2x512

variable (W : Valuation τ sig (Elt F))

theorem tail54 : StableHlo.after hostOps1 W main_v54 = Host.dynamicSlice S4x2x128 (norms (W main_v17))
    (fun k => ((![constantI S_ 32 0#32, constantI S_ 32 0#32, begins 128#32 1024#32 (W main_v16 : IVec S_ 32)] : Fin 3 → IVec S_ 32) k (Shape.Idx.first h_S_)).toInt)
    sliceFits_S4x2x1024_S4x2x128 := by
  after_results_simp_entrywise
  rfl

theorem tail59 : StableHlo.after hostOps1 W main_v59 = Host.dynamicSlice S2x31x64 (convs (W main_v17))
    (fun k => ((![constantI S_ 32 0#32, constantI S_ 32 0#32, begins 64#32 512#32 (W main_v16 : IVec S_ 32)] : Fin 3 → IVec S_ 32) k (Shape.Idx.first h_S_)).toInt)
    sliceFits_S2x31x512_S2x31x64 := by
  after_results_simp_entrywise
  rfl

theorem tail64 : StableHlo.after hostOps1 W main_v64 = Host.dynamicSlice S2x64 (eight 344 slices_S384x128_S8x128_344_0 (W main_v17))
    (fun k => ((![constantI S_ 32 0#32, begins 64#32 512#32 (W main_v16 : IVec S_ 32)] : Fin 2 → IVec S_ 32) k (Shape.Idx.first h_S_)).toInt)
    sliceFits_S2x512_S2x64 := by
  after_results_simp_entrywise
  rfl

theorem tail69 : StableHlo.after hostOps1 W main_v69 = Host.dynamicSlice S2x64 (eight 352 slices_S384x128_S8x128_352_0 (W main_v17))
    (fun k => ((![constantI S_ 32 0#32, begins 64#32 512#32 (W main_v16 : IVec S_ 32)] : Fin 2 → IVec S_ 32) k (Shape.Idx.first h_S_)).toInt)
    sliceFits_S2x512_S2x64 := by
  after_results_simp_entrywise
  rfl

theorem tail74 : StableHlo.after hostOps1 W main_v74 = Host.dynamicSlice S2x64 (eight 360 slices_S384x128_S8x128_360_0 (W main_v17))
    (fun k => ((![constantI S_ 32 0#32, begins 64#32 512#32 (W main_v16 : IVec S_ 32)] : Fin 2 → IVec S_ 32) k (Shape.Idx.first h_S_)).toInt)
    sliceFits_S2x512_S2x64 := by
  after_results_simp_entrywise
  rfl

/-! ## The run -/

/-- On each device, each part of the sums, cut to the device's columns. -/
theorem run (ρ : Dev nD → PrngReg) : θ_run defs (onTc (τ := τ) (main (F := F))) ⟨m, fun _ => 0, ρ⟩ (fun r => ∀ c : Dev nD,
      r.2.mem ((c.tc : Thread nD τ).loc main_v54) = Layout.block S4x2x128 S4x2x1024 2 8 c (norms (Adam.total (m ((c : Thread nD τ).loc main_arg0))))
      ∧ r.2.mem ((c.tc : Thread nD τ).loc main_v59) = Layout.block S2x31x64 S2x31x512 2 8 c (convs (Adam.total (m ((c : Thread nD τ).loc main_arg0))))
      ∧ r.2.mem ((c.tc : Thread nD τ).loc main_v64) = Layout.block S2x64 S2x512 1 8 c (eight 344 slices_S384x128_S8x128_344_0 (Adam.total (m ((c : Thread nD τ).loc main_arg0))))
      ∧ r.2.mem ((c.tc : Thread nD τ).loc main_v69) = Layout.block S2x64 S2x512 1 8 c (eight 352 slices_S384x128_S8x128_352_0 (Adam.total (m ((c : Thread nD τ).loc main_arg0))))
      ∧ r.2.mem ((c.tc : Thread nD τ).loc main_v74) = Layout.block S2x64 S2x512 1 8 c (eight 360 slices_S384x128_S8x128_360_0 (Adam.total (m ((c : Thread nD τ).loc main_arg0))))
      ∧ r.2.mem ((c.tc : Thread nD τ).loc main_arg0) = m ((c.tc : Thread nD τ).loc main_arg0)) :=
  (θ_run defs _ _).mono (fun r h c => by
    have h17 := (Pipeline.withArrays_arr spec0 launch0.win.arr_inj c (start m c) (fun w => (dats m 0 c).arrAt w cfg0.N) 1).trans (whole1 m c)
    have h16 := (Pipeline.withArrays_of_ne spec0 c (start m c) (fun w => (dats m 0 c).arrAt w cfg0.N) main_v16 (by decide)).trans (start_me m c)
    have e128 : ∀ b : Fin 3, ((![constantI S_ 32 0#32, constantI S_ 32 0#32, begins 128#32 1024#32 (constantI S_ 32 (BitVec.ofNat 32 c.val))] : Fin 3 → IVec S_ 32) b (Shape.Idx.first h_S_)).toInt
        = ((if b.val = 2 then c.val * 128 else 0 : Nat) : Int) := fun b => by
      match b with
      | ⟨0, _⟩ => rfl
      | ⟨1, _⟩ => rfl
      | ⟨2, _⟩ => exact begins_128 c _
    have e64 : ∀ b : Fin 3, ((![constantI S_ 32 0#32, constantI S_ 32 0#32, begins 64#32 512#32 (constantI S_ 32 (BitVec.ofNat 32 c.val))] : Fin 3 → IVec S_ 32) b (Shape.Idx.first h_S_)).toInt
        = ((if b.val = 2 then c.val * 64 else 0 : Nat) : Int) := fun b => by
      match b with
      | ⟨0, _⟩ => rfl
      | ⟨1, _⟩ => rfl
      | ⟨2, _⟩ => exact begins_64 c _
    have f64 : ∀ b : Fin 2, ((![constantI S_ 32 0#32, begins 64#32 512#32 (constantI S_ 32 (BitVec.ofNat 32 c.val))] : Fin 2 → IVec S_ 32) b (Shape.Idx.first h_S_)).toInt
        = ((if b.val = 1 then c.val * 64 else 0 : Nat) : Int) := fun b => by
      match b with
      | ⟨0, _⟩ => rfl
      | ⟨1, _⟩ => exact begins_64 c _
    refine ⟨((h.1.1 c).2 main_v54 (by decide)).trans ?_, ((h.1.1 c).2 main_v59 (by decide)).trans ?_, ((h.1.1 c).2 main_v64 (by decide)).trans ?_,
      ((h.1.1 c).2 main_v69 (by decide)).trans ?_, ((h.1.1 c).2 main_v74 (by decide)).trans ?_, h.2.1 c⟩ <;>
      unfold Pipeline.afterTail₀
    · refine (tail54 _).trans ?_
      rw [h17, h16]
      exact cut 2 c _ _ _ _ fun b => by match b with
        | ⟨0, _⟩ => exact e128 0
        | ⟨1, _⟩ => exact e128 1
        | ⟨2, _⟩ => exact e128 2
    · refine (tail59 _).trans ?_
      rw [h17, h16]
      exact cut 2 c _ _ _ _ fun b => by match b with
        | ⟨0, _⟩ => exact e64 0
        | ⟨1, _⟩ => exact e64 1
        | ⟨2, _⟩ => exact e64 2
    · refine (tail64 _).trans ?_
      rw [h17, h16]
      exact cut 1 c _ _ _ _ fun b => by match b with
        | ⟨0, _⟩ => exact f64 0
        | ⟨1, _⟩ => exact f64 1
    · refine (tail69 _).trans ?_
      rw [h17, h16]
      exact cut 1 c _ _ _ _ fun b => by match b with
        | ⟨0, _⟩ => exact f64 0
        | ⟨1, _⟩ => exact f64 1
    · refine (tail74 _).trans ?_
      rw [h17, h16]
      exact cut 1 c _ _ _ _ fun b => by match b with
        | ⟨0, _⟩ => exact f64 0
        | ⟨1, _⟩ => exact f64 1)
    (θ_run_and (run_all m ρ) (frame m ρ))

end

/-! ## The reference's sums, over the extended reals -/

theorem norms_host (x : FVec Ideal S8x384x128 .f32) (hs : S8x384x128.Slices ![0, 8, 0] ⟨3, ![8, 64, 128]⟩)
    (hc : (⟨3, ![8, 64, 128]⟩ : Shape).ShapeCasts ⟨4, ![8, 4, 2, 1024]⟩) (h : (⟨4, ![8, 4, 2, 1024]⟩ : Shape).ReducesTo [0] S4x2x1024)
    (hu : 0 < (⟨0, ![]⟩ : Shape).numel) :
    Host.reduceAdd (shapeCast ⟨4, ![8, 4, 2, 1024]⟩ (extractStridedSlice ⟨3, ![8, 64, 128]⟩ ![0, 8, 0] x hs) hc)
      (constant (F := Ideal) ⟨0, ![]⟩ .f32 0x00000000#32) h hu = norms (F := Ideal) (Adam.total x) := by
  funext y
  unfold norms
  pointwise
  exact (Fin.sum_univ_eight _).trans rfl

theorem convs_host (x : FVec Ideal S8x384x128 .f32) (hs : S8x384x128.Slices ![0, 80, 0] ⟨3, ![8, 248, 128]⟩)
    (hc : (⟨3, ![8, 248, 128]⟩ : Shape).ShapeCasts ⟨4, ![8, 2, 31, 512]⟩) (h : (⟨4, ![8, 2, 31, 512]⟩ : Shape).ReducesTo [0] S2x31x512)
    (hu : 0 < (⟨0, ![]⟩ : Shape).numel) :
    Host.reduceAdd (shapeCast ⟨4, ![8, 2, 31, 512]⟩ (extractStridedSlice ⟨3, ![8, 248, 128]⟩ ![0, 80, 0] x hs) hc)
      (constant (F := Ideal) ⟨0, ![]⟩ .f32 0x00000000#32) h hu = convs (F := Ideal) (Adam.total x) := by
  funext y
  unfold convs
  pointwise
  exact (Fin.sum_univ_eight _).trans rfl

theorem eight_host (r : Nat) (k : S384x128.Slices ![r, 0] S8x128) (x : FVec Ideal S8x384x128 .f32) (hs : S8x384x128.Slices ![0, r, 0] ⟨3, ![8, 8, 128]⟩)
    (hc : (⟨3, ![8, 8, 128]⟩ : Shape).ShapeCasts ⟨3, ![8, 2, 512]⟩) (h : (⟨3, ![8, 2, 512]⟩ : Shape).ReducesTo [0] S2x512)
    (hu : 0 < (⟨0, ![]⟩ : Shape).numel) :
    Host.reduceAdd (shapeCast ⟨3, ![8, 2, 512]⟩ (extractStridedSlice ⟨3, ![8, 8, 128]⟩ ![0, r, 0] x hs) hc)
      (constant (F := Ideal) ⟨0, ![]⟩ .f32 0x00000000#32) h hu = eight (F := Ideal) r k (Adam.total x) := by
  funext y
  unfold eight
  pointwise
  exact (Fin.sum_univ_eight _).trans rfl

/-- Each result is the device's block of the reference's, over the extended reals. -/
theorem algebraic : Cert.algebraic_CutGradsIdeal_WeightTotalsIdeal := by
  intro m g m' g' _ hin
  let sums : Vec Ideal S384x128 .f32 := Adam.total (F := Ideal) (a := 384) (b := 128)
    (m' (((0 : Dev Cert.WeightTotalsIdeal.nD).tc : Thread Cert.WeightTotalsIdeal.nD Cert.WeightTotalsIdeal.τ).loc Cert.WeightTotalsIdeal.main_arg0))
  refine ⟨norms (F := Ideal) sums, convs (F := Ideal) sums,
    eight (F := Ideal) 344 slices_S384x128_S8x128_344_0 sums,
    eight (F := Ideal) 352 slices_S384x128_S8x128_352_0 sums,
    eight (F := Ideal) 360 slices_S384x128_S8x128_360_0 sums,
    (θ_run defs _ _).mono (fun r h c => ?_) (run m g),
    (θ_run Cert.WeightTotalsIdeal.defs _ _).mono (fun r h => ?_) (Cert.WeightTotalsIdeal.Value.run m' g')⟩
  · have hc := h c
    rw [hin c] at hc
    rw [hin c]
    exact hc
  · obtain ⟨h0, h1, h2, h3, h4, h5⟩ := h 0
    exact ⟨h0.trans (norms_host _ _ _ _ _), h1.trans (convs_host _ _ _ _ _), h2.trans (eight_host 344 _ _ _ _ _ _),
      h3.trans (eight_host 352 _ _ _ _ _ _), h4.trans (eight_host 360 _ _ _ _ _ _), h5⟩

end Cert.CutGradsIdeal.Cut
-- ==== Proof.TotalBias.lean ====
/-
  The gradient of the modulations' bias: the eight devices' gradients added up, and then, layer by layer, the row of
  the latent stream and the row of the context.

    whole1       the call's result is the sum of the whole arrays
    algebraic    the sum of the two rows is the reference's over the extended reals
-/
module

public import proofs.«01_k».proof.Defs
public import proofs.«01_k».proof.Proof.Adam
public import proofs.«01_k».proof.Proof.Gen.BiasGradsIdeal.Frame
public import proofs.«01_k».proof.Proof.Gen.BiasTotalIdeal.Run

@[expose] public section

noncomputable section

open Idealize.ShloMosaic Idealize.ShloMosaic.TcCoe Idealize.SL.Sem
open Idealize.ShloMosaic.Pipeline (Dat)

namespace Cert.BiasGradsIdeal.Value

open Cert.BiasGradsIdeal Cert.BiasGradsIdeal.Gen

section
variable {F : FTy → Type} [FloatOps F]
variable (m : (ℓ : Loc nD τ sig) → Buf (Elt F) ℓ)

theorem zeros : (![0, 0] : Fin 2 → Nat) = fun _ => 0 := funext fun a => by fin_cases a <;> rfl

/-- A point's block of the result is the sum of its block of the argument. -/
theorem block (x : Vec F S8x8x6144 .f32) : out0_1 x = Adam.total x := by
  unfold out0_1
  rw [View.canon_unit_zero zeros]
  exact Adam.total_loads (a := 8) (b := 6144) x shapeCasts_S1x8x6144_S8x6144

/-- The argument's block goes down its rows with the result's. -/
theorem index_rows : ∀ t : Fin cfg0.N, win0_1.index t = ![t.val, 0] ∧ win0_0.index t = ![0, t.val, 0] :=
  (by decide +kernel : ∀ t : Fin grid0.N, win0_1.index t = ![t.val, 0] ∧ win0_0.index t = ![0, t.val, 0])

theorem flushed1 (c : Dev nD) (t : Fin cfg0.N) :
    (dats m 0 c).flushed 1 t = (cfg0.win 1).cut (grid0.coords t) (out0_1 (iblk m c 0 t)) := by
  unfold Pipeline.Dat.flushed
  rw [after0_1]

theorem whole1 (c : Dev nD) : (dats m 0 c).arrAt 1 cfg0.N = Adam.total (V m c main_arg0) :=
  (dats m 0 c).arrAt_eq_of_cover 1 _
    (fun t _ => by
      rw [flushed1, block]
      funext y
      obtain ⟨h1, h0⟩ := index_rows t
      have e : ∀ k : Fin 8, (win0_0.rect t).emb (ValueIdx.ix3 k (y 0) (y 1))
          = ValueIdx.ix3 k ((win0_1.rect t).emb y 0) ((win0_1.rect t).emb y 1) := fun k => funext fun a => Fin.ext (by
        refine (Pipeline.Window.rect_emb_val win0_0 t _ a).trans ?_
        rw [h0]
        match a with
        | ⟨0, _⟩ => exact Nat.zero_add _
        | ⟨1, _⟩ =>
          refine Eq.trans ?_ (Pipeline.Window.rect_emb_val win0_1 t y 0).symm
          rw [h1]; rfl
        | ⟨2, _⟩ =>
          refine Eq.trans ?_ (Pipeline.Window.rect_emb_val win0_1 t y 1).symm
          rw [h1]; rfl)
      show Adam.total (fun z => V m c main_arg0 ((win0_0.rect t).emb z)) y = Adam.total (V m c main_arg0) ((win0_1.rect t).emb y)
      exact Adam.sum8_at fun k => congrArg (V m c main_arg0) (e k))
    fun i => by
      have h0 : (i 0 : Nat) < 8 := (i 0).isLt
      have h1 : (i 1 : Nat) < 6144 := (i 1).isLt
      have hN : (i 0 : Nat) / 8 < cfg0.N := by rw [show cfg0.N = 1 from N_0]; omega
      refine ⟨⟨(i 0 : Nat) / 8, hN⟩, flush0_1 _, ?_⟩
      show i ∈ ((View.whole main_v0).slice (win0_1.rect ⟨(i 0 : Nat) / 8, hN⟩)).set
      rw [View.set_slice_whole, Rect.mem_set_unit]
      intro a
      show win0_1.index _ a * _ ≤ _ ∧ _ < win0_1.index _ a * _ + _
      rw [(index_rows _).1]
      match a with
      | ⟨0, _⟩ => show (i 0 : Nat) / 8 * 8 ≤ (i 0 : Nat) ∧ (i 0 : Nat) < (i 0 : Nat) / 8 * 8 + 8; omega
      | ⟨1, _⟩ => show 0 * 6144 ≤ (i 1 : Nat) ∧ (i 1 : Nat) < 0 * 6144 + 6144; omega

/-- Of eight rows, the even and the odd ones added pairwise. -/
def pairs (x : Vec F S8x6144 .f32) : Vec F S4x6144 .f32 :=
  addf (shapeCast S4x6144 (extractStridedSlice S4x1x6144 ![0, 0, 0] (shapeCast S4x2x6144 x shapeCasts_S8x6144_S4x2x6144)
      slices_S4x2x6144_S4x1x6144_0_0_0) shapeCasts_S4x1x6144_S4x6144)
    (shapeCast S4x6144 (extractStridedSlice S4x1x6144 ![0, 1, 0] (shapeCast S4x2x6144 x shapeCasts_S8x6144_S4x2x6144)
      slices_S4x2x6144_S4x1x6144_0_1_0) shapeCasts_S4x1x6144_S4x6144)

/-- The lines after the call leave that of the call's result. -/
theorem tail_eq (W : Valuation τ sig (Elt F)) : StableHlo.after hostOps1 W main_v6 = pairs (W main_v0) := by
  unfold hostOps1
  after_results <;> rfl

/-- The run: the result is the pairwise sum of the devices' sum, the argument unchanged. -/
theorem run (ρ : Dev nD → PrngReg) : θ_run defs (onTc (τ := τ) (main (F := F))) ⟨m, fun _ => 0, ρ⟩ (fun r => ∀ c : Dev nD,
      r.2.mem ((c.tc : Thread nD τ).loc main_v6) = pairs (Adam.total (V m c main_arg0))
      ∧ r.2.mem ((c.tc : Thread nD τ).loc main_arg0) = m ((c.tc : Thread nD τ).loc main_arg0)) :=
  (θ_run defs _ _).mono (fun r h c => by
    refine ⟨((h.1 c).2 main_v6 (by decide)).trans ?_, h.2 c⟩
    unfold Pipeline.afterTail₀
    refine (tail_eq _).trans (congrArg pairs ?_)
    exact (Pipeline.withArrays_arr spec0 launch0.win.arr_inj c _ _ 1).trans (whole1 m c))
    (θ_run_and (run_main m ρ) (unchanged m ρ))

end

/-- Over the extended reals, the reference's sum of the two rows of what the devices' sum left is the same. -/
theorem pairs_host (x : FVec Ideal S8x6144 .f32)
    (h : (⟨3, ![4, 2, 6144]⟩ : Shape).ReducesTo [1] ⟨2, ![4, 6144]⟩) (hu : 0 < (⟨0, ![]⟩ : Shape).numel)
    (hc : S8x6144.ShapeCasts ⟨3, ![4, 2, 6144]⟩) :
    Host.reduceAdd (shapeCast ⟨3, ![4, 2, 6144]⟩ x hc) (constant (F := Ideal) ⟨0, ![]⟩ .f32 0x00000000#32) h hu
      = pairs (F := Ideal) x := by
  funext y
  unfold pairs
  pointwise
  exact Fin.sum_univ_two _

/-- The result is the reference's, over the extended reals. -/
theorem algebraic : Cert.algebraic_BiasGradsIdeal_BiasTotalIdeal := by
  intro m g m' g' _ hin
  refine ⟨fun c => pairs (F := Ideal) (Adam.total (F := Ideal) (a := 8) (b := 6144) (V m c main_arg0)), run m g,
    (θ_run Cert.BiasTotalIdeal.defs _ _).mono (fun r h c => ⟨?_, (h c).2⟩) (Cert.BiasTotalIdeal.Value.run m' g')⟩
  have r0 := (h c).1
  rw [hin c] at r0
  rw [Adam.total_host] at r0
  exact r0.trans (pairs_host _ _ _ _)

end Cert.BiasGradsIdeal.Value
-- ==== Proof.TotalGrads.lean ====
/-
  The sum of eight devices' gathered gradients of the small weights: a point of the grid takes one block of rows of all
  eight and adds them in the order of the devices.

    final1       the result is the sum of the whole arrays
    algebraic    it is the reference's over the extended reals
-/
module

public import proofs.«01_k».proof.Defs
public import proofs.«01_k».proof.Proof.Adam
public import proofs.«01_k».proof.Proof.Gen.SumGradsIdeal.Value
public import proofs.«01_k».proof.Proof.Gen.TotalGradsIdeal.Run

@[expose] public section

noncomputable section

open Idealize.ShloMosaic Idealize.ShloMosaic.TcCoe Idealize.SL.Sem
open Idealize.ShloMosaic.Pipeline (Dat)

namespace Cert.SumGradsIdeal.Value

open Cert.SumGradsIdeal Cert.SumGradsIdeal.Gen

section
variable {F : FTy → Type} [FloatOps F]
variable (m : (ℓ : Loc nD τ sig) → Buf (Elt F) ℓ)

theorem zeros : (![0, 0] : Fin 2 → Nat) = fun _ => 0 := funext fun a => by fin_cases a <;> rfl

/-- A point's block of the result is the sum of its block of the argument. -/
theorem block (x : Vec F S8x128x128 .f32) : out0_1 x = Adam.total x := by
  unfold out0_1
  rw [View.canon_unit_zero zeros]
  exact Adam.total_loads (a := 128) (b := 128) x shapeCasts_S1x128x128_S128x128

/-- The argument's block goes down its rows with the result's. -/
theorem index_rows : ∀ t : Fin cfg0.N, win0_1.index t = ![t.val, 0] ∧ win0_0.index t = ![0, t.val, 0] :=
  (by decide +kernel : ∀ t : Fin grid0.N, win0_1.index t = ![t.val, 0] ∧ win0_0.index t = ![0, t.val, 0])

theorem final1 (c : Dev nD) : (dats m 0 c).arrAt 1 cfg0.N = Adam.total (V m c main_arg0) :=
  (dats m 0 c).arrAt_eq_of_cover 1 _
    (fun t _ => by
      rw [flushed1, block]
      funext y
      obtain ⟨h1, h0⟩ := index_rows t
      have e : ∀ k : Fin 8, (win0_0.rect t).emb (ValueIdx.ix3 k (y 0) (y 1))
          = ValueIdx.ix3 k ((win0_1.rect t).emb y 0) ((win0_1.rect t).emb y 1) := fun k => funext fun a => Fin.ext (by
        refine (Pipeline.Window.rect_emb_val win0_0 t _ a).trans ?_
        rw [h0]
        match a with
        | ⟨0, _⟩ => exact Nat.zero_add _
        | ⟨1, _⟩ =>
          refine Eq.trans ?_ (Pipeline.Window.rect_emb_val win0_1 t y 0).symm
          rw [h1]; rfl
        | ⟨2, _⟩ =>
          refine Eq.trans ?_ (Pipeline.Window.rect_emb_val win0_1 t y 1).symm
          rw [h1]; rfl)
      show Adam.total (fun z => V m c main_arg0 ((win0_0.rect t).emb z)) y = Adam.total (V m c main_arg0) ((win0_1.rect t).emb y)
      exact Adam.sum8_at fun k => congrArg (V m c main_arg0) (e k))
    fun i => by
      have h0 : (i 0 : Nat) < 384 := (i 0).isLt
      have h1 : (i 1 : Nat) < 128 := (i 1).isLt
      have hN : (i 0 : Nat) / 128 < cfg0.N := by rw [show cfg0.N = 3 from N_0]; omega
      refine ⟨⟨(i 0 : Nat) / 128, hN⟩, flush0_1 _, ?_⟩
      show i ∈ ((View.whole main_v0).slice (win0_1.rect ⟨(i 0 : Nat) / 128, hN⟩)).set
      rw [View.set_slice_whole, Rect.mem_set_unit]
      intro a
      show win0_1.index _ a * _ ≤ _ ∧ _ < win0_1.index _ a * _ + _
      rw [(index_rows _).1]
      match a with
      | ⟨0, _⟩ => show (i 0 : Nat) / 128 * 128 ≤ (i 0 : Nat) ∧ (i 0 : Nat) < (i 0 : Nat) / 128 * 128 + 128; omega
      | ⟨1, _⟩ => show 0 * 128 ≤ (i 1 : Nat) ∧ (i 1 : Nat) < 0 * 128 + 128; omega

end

/-- The result is the reference's, over the extended reals. -/
theorem algebraic : Cert.algebraic_SumGradsIdeal_TotalGradsIdeal := by
  intro m g m' g' _ hin
  refine ⟨fun c => Adam.total (F := Ideal) (a := 384) (b := 128) (V m c main_arg0),
    (θ_run defs _ _).mono (fun r h c => ⟨(h c).1.trans (final1 m c), (h c).2⟩) (run_blocks m g),
    (θ_run Cert.TotalGradsIdeal.defs _ _).mono (fun r h c => ⟨?_, (h c).2⟩) (Cert.TotalGradsIdeal.Value.run m' g')⟩
  have r0 := (h c).1
  rw [hin c] at r0
  exact r0.trans (Adam.total_host _ _ _)

end Cert.SumGradsIdeal.Value
-- ==== Proof.TotalEarly.lean ====
/-
  The sum of eight devices' gathered gradients that are exchanged early: a point of the grid takes one block of rows of all
  eight and adds them in the order of the devices.

    final1       the result is the sum of the whole arrays
    algebraic    it is the reference's over the extended reals
-/
module

public import proofs.«01_k».proof.Defs
public import proofs.«01_k».proof.Proof.Adam
public import proofs.«01_k».proof.Proof.Gen.SumEarlyIdeal.Value
public import proofs.«01_k».proof.Proof.Gen.TotalEarlyIdeal.Run

@[expose] public section

noncomputable section

open Idealize.ShloMosaic Idealize.ShloMosaic.TcCoe Idealize.SL.Sem
open Idealize.ShloMosaic.Pipeline (Dat)

namespace Cert.SumEarlyIdeal.Value

open Cert.SumEarlyIdeal Cert.SumEarlyIdeal.Gen

section
variable {F : FTy → Type} [FloatOps F]
variable (m : (ℓ : Loc nD τ sig) → Buf (Elt F) ℓ)

theorem zeros : (![0, 0] : Fin 2 → Nat) = fun _ => 0 := funext fun a => by fin_cases a <;> rfl

/-- A point's block of the result is the sum of its block of the argument. -/
theorem block (x : Vec F S8x512x128 .f32) : out0_1 x = Adam.total x := by
  unfold out0_1
  rw [View.canon_unit_zero zeros]
  exact Adam.total_loads (a := 512) (b := 128) x shapeCasts_S1x512x128_S512x128

/-- The argument's block goes down its rows with the result's. -/
theorem index_rows : ∀ t : Fin cfg0.N, win0_1.index t = ![t.val, 0] ∧ win0_0.index t = ![0, t.val, 0] :=
  (by decide +kernel : ∀ t : Fin grid0.N, win0_1.index t = ![t.val, 0] ∧ win0_0.index t = ![0, t.val, 0])

theorem final1 (c : Dev nD) : (dats m 0 c).arrAt 1 cfg0.N = Adam.total (V m c main_arg0) :=
  (dats m 0 c).arrAt_eq_of_cover 1 _
    (fun t _ => by
      rw [flushed1, block]
      funext y
      obtain ⟨h1, h0⟩ := index_rows t
      have e : ∀ k : Fin 8, (win0_0.rect t).emb (ValueIdx.ix3 k (y 0) (y 1))
          = ValueIdx.ix3 k ((win0_1.rect t).emb y 0) ((win0_1.rect t).emb y 1) := fun k => funext fun a => Fin.ext (by
        refine (Pipeline.Window.rect_emb_val win0_0 t _ a).trans ?_
        rw [h0]
        match a with
        | ⟨0, _⟩ => exact Nat.zero_add _
        | ⟨1, _⟩ =>
          refine Eq.trans ?_ (Pipeline.Window.rect_emb_val win0_1 t y 0).symm
          rw [h1]; rfl
        | ⟨2, _⟩ =>
          refine Eq.trans ?_ (Pipeline.Window.rect_emb_val win0_1 t y 1).symm
          rw [h1]; rfl)
      show Adam.total (fun z => V m c main_arg0 ((win0_0.rect t).emb z)) y = Adam.total (V m c main_arg0) ((win0_1.rect t).emb y)
      exact Adam.sum8_at fun k => congrArg (V m c main_arg0) (e k))
    fun i => by
      have h0 : (i 0 : Nat) < 2048 := (i 0).isLt
      have h1 : (i 1 : Nat) < 128 := (i 1).isLt
      have hN : (i 0 : Nat) / 512 < cfg0.N := by rw [show cfg0.N = 4 from N_0]; omega
      refine ⟨⟨(i 0 : Nat) / 512, hN⟩, flush0_1 _, ?_⟩
      show i ∈ ((View.whole main_v0).slice (win0_1.rect ⟨(i 0 : Nat) / 512, hN⟩)).set
      rw [View.set_slice_whole, Rect.mem_set_unit]
      intro a
      show win0_1.index _ a * _ ≤ _ ∧ _ < win0_1.index _ a * _ + _
      rw [(index_rows _).1]
      match a with
      | ⟨0, _⟩ => show (i 0 : Nat) / 512 * 512 ≤ (i 0 : Nat) ∧ (i 0 : Nat) < (i 0 : Nat) / 512 * 512 + 512; omega
      | ⟨1, _⟩ => show 0 * 128 ≤ (i 1 : Nat) ∧ (i 1 : Nat) < 0 * 128 + 128; omega

end

/-- The result is the reference's, over the extended reals. -/
theorem algebraic : Cert.algebraic_SumEarlyIdeal_TotalEarlyIdeal := by
  intro m g m' g' _ hin
  refine ⟨fun c => Adam.total (F := Ideal) (a := 2048) (b := 128) (V m c main_arg0),
    (θ_run defs _ _).mono (fun r h c => ⟨(h c).1.trans (final1 m c), (h c).2⟩) (run_blocks m g),
    (θ_run Cert.TotalEarlyIdeal.defs _ _).mono (fun r h c => ⟨?_, (h c).2⟩) (Cert.TotalEarlyIdeal.Value.run m' g')⟩
  have r0 := (h c).1
  rw [hin c] at r0
  exact r0.trans (Adam.total_host _ _ _)

end Cert.SumEarlyIdeal.Value
-- ==== Proof.Tile.lean ====
/-
What a tile's body loads and stores: the whole of a buffer, or a rectangle of it.
-/
module

public import Idealize.ShloMosaic.Lib.Pipeline.ReadBack

@[expose] public section

namespace Cert.Tile

open Idealize.ShloMosaic

variable {F : FTy → Type} [FloatOps F] {sig : RefSig}

/-- A load of a whole buffer reads its contents; -/
theorem load_all {S : Shape} {e : EltTy} {a : Memref sig .tc .vmem S e} (h : a.IsWhole) (X : S.Idx → Elt F e)
    {off : Fin S.rank → ℕ} (h0 : off = fun _ => 0) (inb : ∀ k, off k + S.size k ≤ S.size k) :
    View.readAt (Elt F) a.view (Rect.unit off S.size inb).toLoadRect (h.unread X) = X := by
  rw [View.readAt_eq_ld, h.read_unread, View.ld_unit_zero h0]

/-- and a load of a part of it, the part. -/
theorem load_part {S : Shape} {e : EltTy} {a : Memref sig .tc .vmem S e} (h : a.IsWhole) (X : S.Idx → Elt F e) (r : Rect S) :
    View.readAt (Elt F) a.view r.toLoadRect (h.unread X) = View.ld X r := by
  rw [View.readAt_eq_ld, h.read_unread]

/-- A store of a whole buffer, last, leaves what it stores. -/
theorem store_all {S : Shape} {e : EltTy} (v : View sig .tc .vmem S e) (f : v.ty.Contents (Elt F)) (X : S.Idx → Elt F e)
    {off : Fin S.rank → ℕ} (h0 : off = fun _ => 0) (inb : ∀ k, off k + S.size k ≤ S.size k) :
    v.read (Elt F) (v.writes (Elt F) f [⟨Rect.unit off S.size inb, X⟩]) = X := by
  rw [View.read_writes_eq_canon v f _ fun y => ⟨_, List.mem_singleton_self _, View.mem_set_unit_zero h0 inb y⟩,
    View.canon_unit_zero h0]

theorem two0 : (![0, 0] : Fin 2 → ℕ) = fun _ => 0 := by funext a; fin_cases a <;> rfl
theorem three0 : (![0, 0, 0] : Fin 3 → ℕ) = fun _ => 0 := by funext a; fin_cases a <;> rfl

end Cert.Tile

end
-- ==== Proof.Silu.lean ====
/-
  The silu `x / (1 + e⁻ˣ)` over the extended reals.

    silu     of one number, the negation written as a difference from zero
    host     the reference's silu of an array, with its own negation, exponential and division, is this one of each element
-/
module

public import Idealize.ShloMosaic.Lib.Pointwise

@[expose] public section

noncomputable section

namespace Cert

open Idealize.ShloMosaic

/-- The silu of one number. -/
def silu (x : EReal) : EReal := x * Ideal.div 1 (1 + Ideal.exp (0 - x))

/-- The reference's silu of an array. -/
theorem silu_host {S : Shape} (x : FVec Ideal S .f32) (h : Shape.BroadcastsInDim ⟨0, ![]⟩ S (![] : Fin 0 → Fin S.rank)) :
    mulf x (Host.divf (broadcastInDim S ![] h (constant ⟨0, ![]⟩ .f32 0x3F800000#32))
      (addf (broadcastInDim S ![] h (constant ⟨0, ![]⟩ .f32 0x3F800000#32)) (Host.exp (Host.negf x)))) = fun i => silu (x i) := by
  funext i
  pointwise
  rw [silu, zero_sub]

end Cert
-- ==== Proof.Modulate.lean ====
/-
  The call that makes the modulations: a point of its grid takes all the conditioning rows, the weight and the bias of one
  layer, and writes that layer's modulations: the silu of the rows times the weight, plus the bias.

    modulation       the result of the whole call, index by index
    block            a point's block of it
    whole3           the result is that function of the whole arguments
    algebraic        it is the reference's over the extended reals
-/
module

public import proofs.«01_k».proof.Defs
public import proofs.«01_k».proof.Proof.Adam
public import proofs.«01_k».proof.Proof.Tile
public import proofs.«01_k».proof.Proof.Silu
public import proofs.«01_k».proof.Proof.Gen.AdaFwdIdeal.Value
public import proofs.«01_k».proof.Proof.Gen.ModulationIdeal.Run

@[expose] public section

noncomputable section

open Idealize.ShloMosaic Idealize.ShloMosaic.TcCoe Idealize.SL.Sem
open Idealize.ShloMosaic.Pipeline (Dat)

namespace Cert.AdaFwdIdeal.Value

open Cert.AdaFwdIdeal Cert.AdaFwdIdeal.Gen

variable (m : (ℓ : Loc nD τ sig) → Buf (Elt Ideal) ℓ)

/-- The modulations of every layer. -/
def modulation (x : Vec Ideal S16x1024 .f32) (w : Vec Ideal S4x1024x768 .f32) (b : Vec Ideal S4x1x768 .f32) : Vec Ideal S4x16x768 .f32 :=
  fun i => (∑ k : Fin 1024, silu (x (ix2 (i 1) k)) * w (ix3 (i 0) k (i 2))) + b (ix3 (i 0) 0 (i 2))

/-- A point's block is computed from its layer's weight and bias. -/
theorem block (x : Vec Ideal S16x1024 .f32) (w : Vec Ideal S1x1024x768 .f32) (b : Vec Ideal S1x1x768 .f32) (y : S1x16x768.Idx) :
    out0_3 x w b y = (∑ k : Fin 1024, silu (x (ix2 (y 1) k)) * w (ix3 0 k (y 2))) + b (ix3 0 0 (y 2)) := by
  unfold out0_3
  rw [View.canon_unit_zero Tile.three0]
  simp only [View.ld_unit_zero (S := S16x1024) Tile.two0, View.ld_unit_zero (S := S1x1024x768) Tile.three0, View.ld_unit_zero (S := S1x1x768) Tile.three0]
  unfold k0_pay1 silu
  pointwise

/-- A point takes all of the rows, and of the weight, the bias and the result the layer of its number. -/
theorem layers : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, win0_0.index t = ![0, 0] ∧ win0_1.index t = ![t.val, 0, 0] ∧ win0_2.index t = ![t.val, 0, 0]
    ∧ win0_3.index t = ![t.val, 0, 0])

/-- Where a point's block of the rows lies. -/
theorem emb0 (t : Fin cfg0.N) (r : Fin 16) (k : Fin 1024) : (win0_0.rect t).emb (ix2 r k) = ix2 r k := funext fun a => Fin.ext (by
  refine (Pipeline.Window.rect_emb_val win0_0 t (ix2 r k) a).trans ?_
  rw [(layers t).1]
  match a with
  | ⟨0, _⟩ => exact Nat.zero_add _
  | ⟨1, _⟩ => exact Nat.zero_add _)

/-- The number of a point is that of a layer. -/
def layer (t : Fin cfg0.N) : Fin 4 := ⟨t.val, lt_of_lt_of_eq t.isLt N_0⟩

/-- Where its block of the weight lies. -/
theorem emb1 (t : Fin cfg0.N) (k : Fin 1024) (n : Fin 768) : (win0_1.rect t).emb (ix3 0 k n) = ix3 (layer t) k n :=
  funext fun a => Fin.ext (by
    refine (Pipeline.Window.rect_emb_val win0_1 t (ix3 0 k n) a).trans ?_
    rw [(layers t).2.1]
    match a with
    | ⟨0, _⟩ => exact Nat.mul_one _
    | ⟨1, _⟩ => exact Nat.zero_add _
    | ⟨2, _⟩ => exact Nat.zero_add _)

/-- Where its block of the bias lies. -/
theorem emb2 (t : Fin cfg0.N) (n : Fin 768) : (win0_2.rect t).emb (ix3 0 0 n) = ix3 (layer t) 0 n :=
  funext fun a => Fin.ext (by
    refine (Pipeline.Window.rect_emb_val win0_2 t (ix3 0 0 n) a).trans ?_
    rw [(layers t).2.2.1]
    match a with
    | ⟨0, _⟩ => exact Nat.mul_one _
    | ⟨1, _⟩ => rfl
    | ⟨2, _⟩ => exact Nat.zero_add _)

/-- Where its block of the result lies. -/
theorem emb3 (t : Fin cfg0.N) (y : S1x16x768.Idx) : (win0_3.rect t).emb y = ix3 (layer t) (y 1) (y 2) :=
  funext fun a => Fin.ext (by
    refine (Pipeline.Window.rect_emb_val win0_3 t y a).trans ?_
    rw [(layers t).2.2.2]
    match a with
    | ⟨0, _⟩ =>
      have h : (y 0 : Nat) < 1 := (y 0).isLt
      show t.val * 1 + (y 0 : Nat) = t.val
      omega
    | ⟨1, _⟩ => exact Nat.zero_add _
    | ⟨2, _⟩ => exact Nat.zero_add _)

/-- The result is the modulations of every layer. -/
theorem whole3 (c : Dev nD) : (dats m 0 c).arrAt 3 cfg0.N = modulation (V m c main_arg0) (V m c main_arg1) (V m c main_arg2) :=
  (dats m 0 c).arrAt_eq_of_cover 3 _
    (fun t _ => by
      rw [flushed3]
      funext y
      refine (block (fun z => V m c main_arg0 ((win0_0.rect t).emb z)) (fun z => V m c main_arg1 ((win0_1.rect t).emb z))
        (fun z => V m c main_arg2 ((win0_2.rect t).emb z)) y).trans ?_
      show _ = modulation (V m c main_arg0) (V m c main_arg1) (V m c main_arg2) ((win0_3.rect t).emb y)
      rw [emb3 t y]
      exact congrArg₂ (· + ·)
        (Finset.sum_congr rfl fun k _ => congrArg₂ (fun a b => silu a * b) (congrArg (V m c main_arg0) (emb0 t (y 1) k))
          (congrArg (V m c main_arg1) (emb1 t k (y 2))))
        (congrArg (V m c main_arg2) (emb2 t (y 2))))
    fun i => by
      have hN : (i 0 : Nat) < cfg0.N := lt_of_lt_of_eq (i 0).isLt N_0.symm
      refine ⟨⟨(i 0 : Nat), hN⟩, flush0_3 _, ?_⟩
      have e : ((View.whole main_v0).slice (win0_3.rect ⟨(i 0 : Nat), hN⟩)).emb (ix3 0 (i 1) (i 2)) = i :=
        (emb3 ⟨(i 0 : Nat), hN⟩ (ix3 0 (i 1) (i 2))).trans (ix3_eta i)
      exact Eq.mp (congrArg (· ∈ ((View.whole main_v0).slice (win0_3.rect ⟨(i 0 : Nat), hN⟩)).set) e) (View.emb_mem_set _ _)

/-- The result is the reference's, over the extended reals. -/
theorem algebraic : Cert.algebraic_AdaFwdIdeal_ModulationIdeal := by
  intro m g m' g' _ hin
  refine ⟨fun c => modulation (V m c main_arg0) (V m c main_arg1) (V m c main_arg2),
    (θ_run defs _ _).mono (fun r h c => ⟨(h c).1.trans (whole3 m c), (h c).2⟩) (run_blocks m g),
    (θ_run Cert.ModulationIdeal.defs _ _).mono (fun r h c => ⟨?_, (h c).2⟩) (Cert.ModulationIdeal.Value.run m' g')⟩
  have r0 := (h c).1
  obtain ⟨h0, h1, h2⟩ := hin c
  rw [h0, h1, h2] at r0
  refine r0.trans ?_
  rw [silu_host]
  funext i
  unfold modulation
  pointwise

end Cert.AdaFwdIdeal.Value
-- ==== Proof.ModGrads.lean ====
/-
  The backward call of the modulations: a point of its grid takes all the conditioning rows, and of the modulations'
  gradient and the weight one layer. It writes that layer's gradient of the weight, and adds to an accumulator, that is
  written back after the last point only, the layer's part of the gradient of the context row.

    ctx              the gradient that the context row gets: the sum of the last eight rows
    weightGrad       the gradient of the weight, index by index; contextGrad that of the context row
    block3, step4    what a point writes of the one, and adds to the other
    left4            what the accumulator holds after a point: the sum over the layers so far
    whole3, whole4   the two results are those functions of the whole arguments
    algebraic        they are the reference's over the extended reals
-/
module

public import proofs.«01_k».proof.Defs
public import proofs.«01_k».proof.Proof.Adam
public import proofs.«01_k».proof.Proof.Tile
public import proofs.«01_k».proof.Proof.Silu
public import proofs.«01_k».proof.Proof.Gen.AdaBwdIdeal.Value
public import proofs.«01_k».proof.Proof.Gen.ModGradsIdeal.Run

@[expose] public section

noncomputable section

open Idealize.ShloMosaic Idealize.ShloMosaic.TcCoe Idealize.SL.Sem
open Idealize.ShloMosaic.Pipeline (Dat)

namespace Cert.AdaBwdIdeal.Value

open Cert.AdaBwdIdeal Cert.AdaBwdIdeal.Gen

/-! ## The two results, index by index -/

section
variable {a : Nat} (x : Vec Ideal S16x1024 .f32) (g : (⟨3, ![a, 16, 768]⟩ : Shape).Idx → EReal)
  (w : (⟨3, ![a, 1024, 768]⟩ : Shape).Idx → EReal)

/-- A row among the first eight. -/
abbrev lo (r : Fin 8) : Fin 16 := ⟨r.val, by omega⟩
/-- A row among the last eight. -/
abbrev hi (r : Fin 8) : Fin 16 := ⟨8 + r.val, by omega⟩

/-- The last eight rows of the modulations' gradient, summed. -/
def ctx (l : Fin a) (n : Fin 768) : EReal := ∑ r : Fin 8, g (ix3 l (hi r) n)

/-- The gradient of the weight: each row's silu times the row of the gradient it has, the context row with the sum. -/
def weightGrad (l : Fin a) (k : Fin 1024) (n : Fin 768) : EReal :=
  (∑ r : Fin 8, silu (x (ix2 (lo r) k)) * g (ix3 l (lo r) n)) + silu (x (ix2 8 k)) * ctx g l n

/-- A layer's part of the gradient of the context row's silu. -/
def layerGrad (l : Fin a) (k : Fin 1024) : EReal := ∑ n : Fin 768, ctx g l n * w (ix3 l k n)

end

/-- The gradient of the context row's silu, in the first of eight rows, the others zero. -/
def contextGrad (g : Vec Ideal S4x16x768 .f32) (w : Vec Ideal S4x1024x768 .f32) : Vec Ideal S8x1024 .f32 :=
  fun j => if (j 0).val = 0 then ∑ l : Fin 4, layerGrad g w l (j 1) else 0

/-! ## What a point computes -/

/-- A choice by the number of the row. -/
theorem first_row (r : Fin 8) (u v : EReal) :
    Scalar.select (IntOp.cmpi .eq (BitVec.ofNat 32 r.val) 0#32) u v = if r.val = 0 then u else v := by
  fin_cases r <;> rfl

/-- The context's gradient in the first of eight rows. -/
theorem ctx_rows (g : Vec Ideal S1x16x768 .f32) (y : S8x768.Idx) :
    k0_pay5 g y = if (y 0).val = 0 then ctx g 0 (y 1) else 0 := by
  unfold k0_pay5 k0_pay4
  pointwise
  refine (first_row (y 0) _ _).trans ?_
  unfold ctx
  rw [Fin.sum_univ_eight]
  rfl

/-- A point's block of the weight's gradient. -/
theorem block3 (x : Vec Ideal S16x1024 .f32) (g : Vec Ideal S1x16x768 .f32) (y : S1x1024x768.Idx) :
    k0_pay1 (k0_pay6 x g) y = weightGrad x g 0 (y 1) (y 2) := by
  unfold k0_pay1 k0_pay6 k0_pay4 weightGrad silu
  pointwise
  congr 1
  refine (Fin.sum_univ_succ _).trans ?_
  simp only [ctx_rows]
  rw [Finset.sum_eq_zero]
  · rw [add_zero]; rfl
  · intro r _
    rw [if_neg (by simp), mul_zero]

/-- What a point adds to the accumulator. -/
theorem step4 (g : Vec Ideal S1x16x768 .f32) (o : Vec Ideal S8x1024 .f32) (w : Vec Ideal S1x1024x768 .f32) (y : S8x1024.Idx) :
    k0_pay2 (k0_pay5 g) o w y = o y + if (y 0).val = 0 then layerGrad g w 0 (y 1) else 0 := by
  unfold k0_pay2
  pointwise
  simp only [ctx_rows]
  congr 1
  by_cases h : (y 0).val = 0
  · rw [if_pos h]
    exact Finset.sum_congr rfl fun n _ => congrArg (· * w (ix3 0 (y 1) n)) (if_pos h)
  · rw [if_neg h]
    exact Finset.sum_eq_zero fun n _ => (congrArg (· * w (ix3 0 (y 1) n)) (if_neg h)).trans (zero_mul _)

section
variable {F : FTy → Type} [FloatOps F]
  (c : Dev nD) (i : grid0.Coords)
  (a1 : Memref sig .tc .vmem S16x1024 .f32) (h1 : a1.IsWhole) (a2 : Memref sig .tc .vmem S1x16x768 .f32) (h2 : a2.IsWhole)
  (a3 : Memref sig .tc .vmem S1x1024x768 .f32) (h3 : a3.IsWhole) (a4 : Memref sig .tc .vmem S1x1024x768 .f32) (h4 : a4.IsWhole)
  (a5 : Memref sig .tc .vmem S8x1024 .f32) (h5 : a5.IsWhole)
  (x : Vec F S16x1024 .f32) (g : Vec F S1x16x768 .f32) (w : Vec F S1x1024x768 .f32)

/-- The first point's block of the weight's gradient. -/
theorem first3 (hc : cond0_0 i) : out0_A_3 c i a1 h1 a2 h2 a3 h3 a4 h4 a5 h5 hc x g w = k0_pay1 (k0_pay6 x g) := by
  unfold out0_A_3
  rw [View.read_writes_eq_canon _ _ _ (cover0_A_3 c i a1 h1 a2 h2 a3 h3 a4 h4 a5 h5 hc x g w)]
  unfold kernelRun0_A
  dsimp only
  sl_unfold_words
  rw [View.canon_unit_zero Tile.three0]
  simp only [View.readAt_eq_ld, h1.read_unread, h2.read_unread, View.ld_unit_zero (S := S16x1024) Tile.two0,
    View.ld_unit_zero (S := S1x16x768) Tile.three0]

/-- Another point's block of it. -/
theorem later3 (hc : ¬cond0_0 i) (o : Vec F S8x1024 .f32) :
    out0_B_3 c i a1 h1 a2 h2 a3 h3 a4 h4 a5 h5 hc x g w o = k0_pay1 (k0_pay6 x g) := by
  unfold out0_B_3
  rw [View.read_writes_eq_canon _ _ _ (cover0_B_3 c i a1 h1 a2 h2 a3 h3 a4 h4 a5 h5 hc x g w o)]
  unfold kernelRun0_B
  dsimp only
  sl_unfold_words
  rw [View.canon_unit_zero Tile.three0]
  simp only [View.readAt_eq_ld, h1.read_unread, h2.read_unread, View.ld_unit_zero (S := S16x1024) Tile.two0,
    View.ld_unit_zero (S := S1x16x768) Tile.three0]

/-- The first point starts the accumulator from zeros. -/
theorem first4 (hc : cond0_0 i) :
    out0_A_4 c i a1 h1 a2 h2 a3 h3 a4 h4 a5 h5 hc x g w = k0_pay2 (k0_pay5 g) k0_pay3 w := by
  unfold out0_A_4
  rw [View.read_writes_eq_canon _ _ _ (cover0_A_4 c i a1 h1 a2 h2 a3 h3 a4 h4 a5 h5 hc x g w)]
  unfold kernelRun0_A
  dsimp only
  sl_unfold_words
  rw [View.canon_cons_unit_zero (S := S8x1024) Tile.two0, View.readCov_unit_zero (S := S8x1024) _ Tile.two0]
  simp only [View.readAt_eq_ld, h2.read_unread, h3.read_unread, View.ld_unit_zero (S := S1x1024x768) Tile.three0,
    View.ld_unit_zero (S := S1x16x768) Tile.three0]

/-- Another adds to what it finds. -/
theorem later4 (hc : ¬cond0_0 i) (o : Vec F S8x1024 .f32) :
    out0_B_4 c i a1 h1 a2 h2 a3 h3 a4 h4 a5 h5 hc x g w o = k0_pay2 (k0_pay5 g) o w := by
  unfold out0_B_4
  rw [View.read_writes_eq_canon _ _ _ (cover0_B_4 c i a1 h1 a2 h2 a3 h3 a4 h4 a5 h5 hc x g w o)]
  unfold kernelRun0_B
  dsimp only
  sl_unfold_words
  rw [View.canon_unit_zero Tile.two0]
  simp only [View.readAt_eq_ld, h2.read_unread, h3.read_unread, h5.read_unread, View.ld_unit_zero (S := S1x1024x768) Tile.three0,
    View.ld_unit_zero (S := S1x16x768) Tile.three0, View.ld_unit_zero (S := S8x1024) Tile.two0]

end

/-! ## Where the blocks lie -/

/-- A point takes all of the rows, of the gradient, the weight and the weight's gradient the layer of its number, and the
    whole accumulator. -/
theorem layers : ∀ t : Fin cfg0.N, win0_0.index t = ![0, 0] ∧ win0_1.index t = ![t.val, 0, 0] ∧ win0_2.index t = ![t.val, 0, 0]
    ∧ win0_3.index t = ![t.val, 0, 0] ∧ win0_4.index t = ![0, 0] :=
  (by decide +kernel : ∀ t : Fin grid0.N, win0_0.index t = ![0, 0] ∧ win0_1.index t = ![t.val, 0, 0] ∧ win0_2.index t = ![t.val, 0, 0]
    ∧ win0_3.index t = ![t.val, 0, 0] ∧ win0_4.index t = ![0, 0])

/-- The number of a point is that of a layer. -/
def layer (t : Fin cfg0.N) : Fin 4 := ⟨t.val, lt_of_lt_of_eq t.isLt N_0⟩

theorem emb0 (t : Fin cfg0.N) (r : Fin 16) (k : Fin 1024) : (win0_0.rect t).emb (ix2 r k) = ix2 r k := funext fun a => Fin.ext (by
  refine (Pipeline.Window.rect_emb_val win0_0 t (ix2 r k) a).trans ?_
  rw [(layers t).1]
  match a with
  | ⟨0, _⟩ => exact Nat.zero_add _
  | ⟨1, _⟩ => exact Nat.zero_add _)

theorem emb1 (t : Fin cfg0.N) (r : Fin 16) (n : Fin 768) : (win0_1.rect t).emb (ix3 0 r n) = ix3 (layer t) r n :=
  funext fun a => Fin.ext (by
    refine (Pipeline.Window.rect_emb_val win0_1 t (ix3 0 r n) a).trans ?_
    rw [(layers t).2.1]
    match a with
    | ⟨0, _⟩ => exact Nat.mul_one _
    | ⟨1, _⟩ => exact Nat.zero_add _
    | ⟨2, _⟩ => exact Nat.zero_add _)

theorem emb2 (t : Fin cfg0.N) (k : Fin 1024) (n : Fin 768) : (win0_2.rect t).emb (ix3 0 k n) = ix3 (layer t) k n :=
  funext fun a => Fin.ext (by
    refine (Pipeline.Window.rect_emb_val win0_2 t (ix3 0 k n) a).trans ?_
    rw [(layers t).2.2.1]
    match a with
    | ⟨0, _⟩ => exact Nat.mul_one _
    | ⟨1, _⟩ => exact Nat.zero_add _
    | ⟨2, _⟩ => exact Nat.zero_add _)

theorem emb3 (t : Fin cfg0.N) (y : S1x1024x768.Idx) : (win0_3.rect t).emb y = ix3 (layer t) (y 1) (y 2) :=
  funext fun a => Fin.ext (by
    refine (Pipeline.Window.rect_emb_val win0_3 t y a).trans ?_
    rw [(layers t).2.2.2.1]
    match a with
    | ⟨0, _⟩ =>
      have h : (y 0 : Nat) < 1 := (y 0).isLt
      show t.val * 1 + (y 0 : Nat) = t.val
      omega
    | ⟨1, _⟩ => exact Nat.zero_add _
    | ⟨2, _⟩ => exact Nat.zero_add _)

theorem emb4 (t : Fin cfg0.N) (y : S8x1024.Idx) : (win0_4.rect t).emb y = y := funext fun a => Fin.ext (by
  refine (Pipeline.Window.rect_emb_val win0_4 t y a).trans ?_
  rw [(layers t).2.2.2.2]
  match a with
  | ⟨0, _⟩ => exact Nat.zero_add _
  | ⟨1, _⟩ => exact Nat.zero_add _)

/-! ## The whole results -/

section
variable (m : (ℓ : Loc nD τ sig) → Buf (Elt Ideal) ℓ) (c : Dev nD)

/-- A block's context gradient is its layer's. -/
theorem ctx_block (t : Fin cfg0.N) (n : Fin 768) :
    ctx (a := 1) (fun z => V m c main_arg1 ((win0_1.rect t).emb z)) 0 n = ctx (a := 4) (V m c main_arg1) (layer t) n :=
  Finset.sum_congr rfl fun r _ => congrArg (V m c main_arg1) (emb1 t (hi r) n)

/-- A block's gradient of the weight is its layer's. -/
theorem weightGrad_block (t : Fin cfg0.N) (k : Fin 1024) (n : Fin 768) :
    weightGrad (a := 1) (fun z => V m c main_arg0 ((win0_0.rect t).emb z)) (fun z => V m c main_arg1 ((win0_1.rect t).emb z)) 0 k n
      = weightGrad (a := 4) (V m c main_arg0) (V m c main_arg1) (layer t) k n :=
  congrArg₂ (· + ·)
    (Finset.sum_congr rfl fun r _ => congrArg₂ (fun u v => silu u * v) (congrArg (V m c main_arg0) (emb0 t (lo r) k))
      (congrArg (V m c main_arg1) (emb1 t (lo r) n)))
    (congrArg₂ (fun u v => silu u * v) (congrArg (V m c main_arg0) (emb0 t 8 k)) (ctx_block m c t n))

/-- A block's part of the context's gradient is its layer's. -/
theorem layerGrad_block (t : Fin cfg0.N) (k : Fin 1024) :
    layerGrad (a := 1) (fun z => V m c main_arg1 ((win0_1.rect t).emb z)) (fun z => V m c main_arg2 ((win0_2.rect t).emb z)) 0 k
      = layerGrad (a := 4) (V m c main_arg1) (V m c main_arg2) (layer t) k :=
  Finset.sum_congr rfl fun n _ => congrArg₂ (· * ·) (ctx_block m c t n) (congrArg (V m c main_arg2) (emb2 t k n))

/-- Only the first point starts anew. -/
theorem point_zero (t : Fin cfg0.N) : t.val % 4 = 0 ↔ t.val = 0 := by
  have := lt_of_lt_of_eq t.isLt N_0
  omega

/-- After any point the block of the weight's gradient is that of the whole arguments. -/
theorem left3 (t : Fin cfg0.N) : (outsAt0 m c t.val t.isLt).1 =
    k0_pay1 (k0_pay6 (iblk m c 0 t) (iblk m c 1 t)) := by
  by_cases h : t.val % 4 = 0
  · rw [outsAt0_A m c t h]; dsimp only; rw [first3]
  · rw [outsAt0_B m c t h]; dsimp only; rw [later3]

/-- After point `n` the accumulator's first row is the sum of the layers up to `n`, the others zero. -/
theorem left4 (y : S8x1024.Idx) : ∀ (n : ℕ) (h : n < cfg0.N), (outsAt0 m c n h).2 y =
    if (y 0).val = 0 then ∑ s : Fin (n + 1), layerGrad (a := 4) (V m c main_arg1) (V m c main_arg2)
      (layer ⟨s.val, lt_of_le_of_lt (Nat.le_of_lt_succ s.isLt) h⟩) (y 1) else 0
  | 0, h => by
    rw [outsAt0_A m c ⟨0, h⟩ rfl]
    dsimp only
    rw [first4, step4]
    have z : k0_pay3 (F := Ideal) y = 0 := by unfold k0_pay3; pointwise
    rw [z, zero_add]
    by_cases hy : (y 0).val = 0
    · rw [if_pos hy, if_pos hy, Fin.sum_univ_one]; exact layerGrad_block m c ⟨0, h⟩ (y 1)
    · rw [if_neg hy, if_neg hy]
  | n + 1, h => by
    have hB : ¬(⟨n + 1, h⟩ : Fin cfg0.N).val % 4 = 0 := fun e => absurd ((point_zero ⟨n + 1, h⟩).mp e) (Nat.succ_ne_zero n)
    rw [outsAt0_B m c ⟨n + 1, h⟩ hB]
    dsimp only
    rw [later4, step4]
    refine (congrArg (· + _) (left4 y n (Nat.lt_of_succ_lt h))).trans ?_
    by_cases hy : (y 0).val = 0
    · rw [if_pos hy, if_pos hy, if_pos hy]
      refine Eq.trans ?_ (Fin.sum_univ_castSucc _).symm
      exact congrArg (_ + ·) (layerGrad_block m c ⟨n + 1, h⟩ (y 1))
    · rw [if_neg hy, if_neg hy, if_neg hy, add_zero]

/-- The first result is the weight's gradient in every layer. -/
theorem whole3 : (dats m 0 c).arrAt 3 cfg0.N = fun i : S4x1024x768.Idx => weightGrad (a := 4) (V m c main_arg0) (V m c main_arg1) (i 0) (i 1) (i 2) :=
  (dats m 0 c).arrAt_eq_of_cover 3 _
    (fun t _ => by
      rw [flushed3, left3]
      funext y
      refine (block3 _ _ y).trans ((weightGrad_block m c t (y 1) (y 2)).trans ?_)
      show _ = (fun i : S4x1024x768.Idx => weightGrad (a := 4) (V m c main_arg0) (V m c main_arg1) (i 0) (i 1) (i 2)) ((win0_3.rect t).emb y)
      rw [emb3 t y]
      rfl)
    fun i => by
      have hN : (i 0 : Nat) < cfg0.N := lt_of_lt_of_eq (i 0).isLt N_0.symm
      refine ⟨⟨(i 0 : Nat), hN⟩, flush0_3 _, ?_⟩
      have e : ((View.whole main_v0_0).slice (win0_3.rect ⟨(i 0 : Nat), hN⟩)).emb (ix3 0 (i 1) (i 2)) = i :=
        (emb3 ⟨(i 0 : Nat), hN⟩ (ix3 0 (i 1) (i 2))).trans (ix3_eta i)
      exact Eq.mp (congrArg (· ∈ ((View.whole main_v0_0).slice (win0_3.rect ⟨(i 0 : Nat), hN⟩)).set) e) (View.emb_mem_set _ _)

/-- The second is the gradient of the context row. -/
theorem whole4 : (dats m 0 c).arrAt 4 cfg0.N = contextGrad (V m c main_arg1) (V m c main_arg2) :=
  (dats m 0 c).arrAt_eq_of_cover 4 _
    (fun t hf => by
      have h3 : t.val = 3 := by
        have := (flush0_4 t).mp hf
        have := lt_of_lt_of_eq t.isLt N_0
        omega
      rw [flushed4]
      funext y
      refine (left4 m c y t.val t.isLt).trans ?_
      show _ = contextGrad (V m c main_arg1) (V m c main_arg2) ((win0_4.rect t).emb y)
      rw [emb4 t y]
      obtain ⟨n, hn⟩ := t
      obtain rfl : n = 3 := h3
      rfl)
    fun i => by
      have hN : 3 < cfg0.N := lt_of_lt_of_eq (by decide) N_0.symm
      refine ⟨⟨3, hN⟩, (flush0_4 _).mpr rfl, ?_⟩
      have e : ((View.whole main_v0_1).slice (win0_4.rect ⟨3, hN⟩)).emb i = i := emb4 ⟨3, hN⟩ i
      exact Eq.mp (congrArg (· ∈ ((View.whole main_v0_1).slice (win0_4.rect ⟨3, hN⟩)).set) e) (View.emb_mem_set _ _)

end

/-- The two results are the reference's, over the extended reals. -/
theorem algebraic : Cert.algebraic_AdaBwdIdeal_ModGradsIdeal := by
  intro m g m' g' _ hin
  refine ⟨fun c => (fun i : S4x1024x768.Idx => weightGrad (a := 4) (V m c main_arg0) (V m c main_arg1) (i 0) (i 1) (i 2)),
    fun c => contextGrad (V m c main_arg1) (V m c main_arg2),
    (θ_run defs _ _).mono (fun r h c => ⟨(h c).1.trans (whole3 m c), (h c).2.1.trans (whole4 m c), (h c).2.2⟩) (run_blocks m g),
    (θ_run Cert.ModGradsIdeal.defs _ _).mono (fun r h c => ⟨?_, ?_, (h c).2.2⟩) (Cert.ModGradsIdeal.Value.run m' g')⟩
  · have r0 := (h c).1
    rw [(hin c).1, (hin c).2.1] at r0
    refine r0.trans ?_
    funext i
    unfold weightGrad ctx silu
    pointwise
    simp only [zero_sub]
    exact congrArg₂ (· + ·) (Finset.sum_congr rfl fun r _ => mul_comm _ _) rfl
  · have r0 := (h c).2.1
    rw [(hin c).2.1, (hin c).2.2] at r0
    refine r0.trans ?_
    funext j
    unfold contextGrad layerGrad ctx
    pointwise
    by_cases hj : (j 0).val = 0
    · rw [dif_pos (by omega), if_pos hj]
    · rw [dif_neg (by omega), if_neg hj]
      show ((((0#32 : BitVec 32).toInt : ℝ)) : EReal) = 0
      simp

end Cert.AdaBwdIdeal.Value
-- ==== Proof.LossFrame.lean ====
/-
The head of the loss: one pass over the rows in seventeen tiles of 256, then a sum over the eight devices.
A tile of image rows writes the gradient of its rows and adds two column sums to the statistics' block, which the
first tile clears; the last tile, of text rows, writes zeros and leaves the statistics.  This module states what the
two outputs hold after every tile, proves the run, and names the sum that every device ends with.
-/
module

public import proofs.«01_k».proof.Proof.Gen.LossHeadIdeal.Launch
public import proofs.«01_k».proof.Proof.Gen.LossHeadIdeal.Points
public import proofs.«01_k».proof.Proof.Gen.LossHeadIdeal.Skeleton
public import Idealize.ShloMosaic.Lib.Pipeline.RegionArraysS
public import proofs.«01_k».proof.Proof.Tile
public import Idealize.ShloMosaic.Lib.WritesUnit
public import Idealize.ShloMosaic.Lib.Pointwise.Index
public import Idealize.ShloMosaic.Lib.StableHlo.RunClose
public import Idealize.ShloMosaic.Lib.Claim

@[expose] public section

set_option maxRecDepth 16384

noncomputable section

namespace Cert.LossHeadIdeal.Run

open Cert.LossHeadIdeal Cert.LossHeadIdeal.Gen Cert.Tile
open Cert.LossHeadIdeal.Gen.Sites (L lv)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The staging of the tiles, and the cells of the sum over the devices. -/
abbrev UU : Type := UR sig nD τ × Sites.UC

local notation "𝕄" => MT nD τ sig ℕ (Elt F) ℕ UU ℕ

variable (m : (ℓ : Loc nD τ sig) → Buf (Elt F) ℓ) (ρ : Dev nD → PrngReg)

/-! ## What a tile leaves -/

/-- The two rows of the statistics' block that the kernel adds to. -/
abbrev row0 : Rect S8x1024 := Rect.unit ![0, 0] S1x1024.size inb_S8x1024_S1x1024_0_0
abbrev row1 : Rect S8x1024 := Rect.unit ![1, 0] S1x1024.size inb_S8x1024_S1x1024_1_0

/-- The statistics' block after a tile of image rows, from its contents before. -/
def statOf (x : Vec F S256x1024 .f32) (w : Vec F S1x1024 .f32) (tgt : Vec F S256x1024 .f32) (acc : Vec F S8x1024 .f32) :
    Vec F S8x1024 .f32 :=
  fun y =>
    if (y 0).val = 1 then k0_pay2 (k0_pay8 x w tgt) (View.ld acc row1) (ix2 0 (y 1))
    else if (y 0).val = 0 then k0_pay11 x w tgt (View.ld acc row0) (ix2 0 (y 1))
    else acc y

/-- Two rows stored over contents that read `acc` leave `statOf`. -/
theorem read_rows (v : View sig .tc .vmem S8x1024 .f32) (f : v.ty.Contents (Elt F))
    (Ls : List (View.Piece (Elt F) S8x1024 .f32)) (x : Vec F S256x1024 .f32) (w : Vec F S1x1024 .f32) (tgt : Vec F S256x1024 .f32)
    (acc : Vec F S8x1024 .f32) (hf : v.read (Elt F) (v.writes (Elt F) f Ls) = acc) :
    v.read (Elt F) (v.writes (Elt F) f
      (⟨row1, k0_pay2 (k0_pay8 x w tgt) (View.ld acc row1)⟩ :: ⟨row0, k0_pay11 x w tgt (View.ld acc row0)⟩ :: Ls)) = statOf x w tgt acc := by
  funext y
  unfold statOf
  by_cases h1 : (y 0).val = 1
  · rw [if_pos h1]
    refine View.read_writes_cons_unit_of_mem v f _ _ _ y (ix2 0 (y 1)) rfl fun a => ?_
    fin_cases a
    · show (y 0).val = 1 + 0; omega
    · show (y 1).val = 0 + (y 1).val; omega
  rw [if_neg h1]
  refine (View.read_writes_cons_unit_of_not_mem v f _ _ _ y rfl 0 ?_).trans ?_
  · show (y 0).val < 1 ∨ 1 + 1 ≤ (y 0).val; omega
  by_cases h0 : (y 0).val = 0
  · rw [if_pos h0]
    refine View.read_writes_cons_unit_of_mem v f _ _ _ y (ix2 0 (y 1)) rfl fun a => ?_
    fin_cases a
    · show (y 0).val = 0 + 0; omega
    · show (y 1).val = 0 + (y 1).val; omega
  rw [if_neg h0]
  refine (View.read_writes_cons_unit_of_not_mem v f _ _ _ y rfl 0 ?_).trans ?_
  · show (y 0).val < 0 ∨ 0 + 1 ≤ (y 0).val; omega
  exact congrFun hf y

/-! ## The body -/

/-- The three kinds of tile. -/
theorem first_iff : ∀ t : Fin cfg0.N, k0_cond1 (grid0.coords t) = 1#1 ↔ t.val = 0 :=
  (by decide +kernel : ∀ t : Fin grid0.N, k0_cond1 (grid0.coords t) = 1#1 ↔ t.val = 0)
theorem image_iff : ∀ t : Fin cfg0.N, k0_cond2 (grid0.coords t) = 1#1 ↔ t.val < 16 :=
  (by decide +kernel : ∀ t : Fin grid0.N, k0_cond2 (grid0.coords t) = 1#1 ↔ t.val < 16)
theorem text_iff : ∀ t : Fin cfg0.N, k0_cond3 (grid0.coords t) = 1#1 ↔ ¬t.val < 16 :=
  (by decide +kernel : ∀ t : Fin grid0.N, k0_cond3 (grid0.coords t) = 1#1 ↔ ¬t.val < 16)

section
variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S1x1024 .f32) (harg3 : arg3.IsWhole) (arg4 : Memref sig .tc .vmem S256x1024 .f32) (harg4 : arg4.IsWhole)
  (arg5 : Memref sig .tc .vmem S8x1024 .f32) (harg5 : arg5.IsWhole)
  (x tgt : Vec F S256x1024 .f32) (w : Vec F S1x1024 .f32) (acc : Vec F S8x1024 .f32)

/-- The three inputs' buffers at their contents. -/
def ins : sProp 𝕄 :=
  iprop(owns (c : Thread nD τ) arg1 fullShare x ∗ owns (c : Thread nD τ) arg2 fullShare tgt ∗ owns (c : Thread nD τ) arg3 fullShare w)

set_option maxHeartbeats 2000000 in
/-- The body at a later tile of image rows: the statistics go from `acc` to `statOf … acc`. -/
theorem body_adds (h1 : ¬k0_cond1 i = 1#1) (h2 : k0_cond2 i = 1#1) (h3 : ¬k0_cond3 i = 1#1) (E : Set ℕ) (K : PUnit → sProp 𝕄) :
    iprop(ins c arg1 arg2 arg3 x tgt w ∗ (∃ d, owns (c : Thread nD τ) arg4 fullShare d) ∗ owns (c : Thread nD τ) arg5 fullShare acc
        ∗ (iprop(ins c arg1 arg2 arg3 x tgt w ∗ owns (c : Thread nD τ) arg4 fullShare (k0_pay10 x w tgt)
            ∗ owns (c : Thread nD τ) arg5 fullShare (statOf x w tgt acc)) -∗ K ⟨⟩))
      ⊢ wp frame (wpE (defs₀ (F := F)) Variants.none c none) E
          (cc0_loss_head i arg1 harg1 arg2 harg2 arg3 harg3 arg4 harg4 arg5 harg5) K := by
  simp only [cc0_loss_head_eq_skeleton]; unfold cc0_loss_head_skel
  simp only [k0_part1_eq_skeleton]
  unfold ins owns
  iintro ⟨⟨⟨%f1, %hf1, H1⟩, ⟨%f2, %hf2, H2⟩, ⟨%f3, %hf3, H3⟩⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | sl_exact h1 | sl_exact h2 | sl_exact h3)
  sl_step
  iapply Hk
  isplitl [H1 H2 H3]
  · isplitl [H1]
    · iexists _; isplitr; · ipureintro; exact harg1.read_unread _
      iexact H1
    isplitl [H2]
    · iexists _; isplitr; · ipureintro; exact harg2.read_unread _
      iexact H2
    iexists _; isplitr; · ipureintro; exact harg3.read_unread _
    iexact H3
  isplitl [H4]
  · iexists _; isplitr
    swap; · iexact H4
    ipureintro
    rw [load_all harg1 x two0, load_all harg3 w two0, load_all harg2 tgt two0]
    exact store_all _ _ _ two0 _
  iexists _; isplitr
  swap; · iexact H5
  ipureintro
  have e1 : body_adds.sl.r c arg1 harg1 arg2 harg2 arg3 harg3 x tgt w = k0_pay8 x w tgt := by
    unfold body_adds.sl.r
    rw [load_all harg1 x two0, load_all harg3 w two0, load_all harg2 tgt two0]
  have e2 : body_adds.sl.v50 c arg5 harg5 acc = View.ld acc row1 := load_part harg5 acc row1
  have e3 : body_adds.sl.r_1 c arg1 harg1 arg2 harg2 arg3 harg3 arg5 harg5 x tgt w acc = k0_pay11 x w tgt (View.ld acc row0) := by
    unfold body_adds.sl.r_1
    rw [load_all harg1 x two0, load_all harg3 w two0, load_all harg2 tgt two0, load_part harg5 acc row0]
  rw [e1, e2, e3]
  exact read_rows arg5.view _ [] x w tgt acc (harg5.read_unread acc)

set_option maxHeartbeats 2000000 in
/-- The body at the first tile: the statistics go to what it leaves over zeros. -/
theorem body_clears (h1 : k0_cond1 i = 1#1) (h2 : k0_cond2 i = 1#1) (h3 : ¬k0_cond3 i = 1#1) (E : Set ℕ) (K : PUnit → sProp 𝕄) :
    iprop(ins c arg1 arg2 arg3 x tgt w ∗ (∃ d, owns (c : Thread nD τ) arg4 fullShare d) ∗ (∃ d, owns (c : Thread nD τ) arg5 fullShare d)
        ∗ (iprop(ins c arg1 arg2 arg3 x tgt w ∗ owns (c : Thread nD τ) arg4 fullShare (k0_pay10 x w tgt)
            ∗ owns (c : Thread nD τ) arg5 fullShare (statOf x w tgt (k0_pay1 (F := F)))) -∗ K ⟨⟩))
      ⊢ wp frame (wpE (defs₀ (F := F)) Variants.none c none) E
          (cc0_loss_head i arg1 harg1 arg2 harg2 arg3 harg3 arg4 harg4 arg5 harg5) K := by
  simp only [cc0_loss_head_eq_skeleton]; unfold cc0_loss_head_skel
  simp only [k0_part1_eq_skeleton]
  unfold ins owns
  iintro ⟨⟨⟨%f1, %hf1, H1⟩, ⟨%f2, %hf2, H2⟩, ⟨%f3, %hf3, H3⟩⟩, ⟨%d4, %f4, -, H4⟩, ⟨%d5, %f5, -, H5⟩, Hk⟩
  obtain rfl := harg1.eq_unread hf1; obtain rfl := harg2.eq_unread hf2; obtain rfl := harg3.eq_unread hf3
  sl_exec (disch := first | sl_exact h1 | sl_exact h2 | sl_exact h3)
  sl_step
  iapply Hk
  isplitl [H1 H2 H3]
  · isplitl [H1]
    · iexists _; isplitr; · ipureintro; exact harg1.read_unread _
      iexact H1
    isplitl [H2]
    · iexists _; isplitr; · ipureintro; exact harg2.read_unread _
      iexact H2
    iexists _; isplitr; · ipureintro; exact harg3.read_unread _
    iexact H3
  isplitl [H4]
  · iexists _; isplitr
    swap; · iexact H4
    ipureintro
    rw [load_all harg1 x two0, load_all harg3 w two0, load_all harg2 tgt two0]
    exact store_all _ _ _ two0 _
  iexists _; isplitr
  swap; · iexact H5
  ipureintro
  have f0 (a : Fin 2) : (![0, 0] : Fin 2 → ℕ) a = 0 := congrFun two0 a
  have e1 : body_clears.sl.r c arg1 harg1 arg2 harg2 arg3 harg3 x tgt w = k0_pay8 x w tgt := by
    unfold body_clears.sl.r
    rw [load_all harg1 x two0, load_all harg3 w two0, load_all harg2 tgt two0]
  have e2 : body_clears.sl.v50 c arg1 harg1 arg2 harg2 arg3 harg3 arg5 x tgt w = View.ld (k0_pay1 (F := F)) row1 := by
    unfold body_clears.sl.v50 body_clears.sl.H5_2
    rw [View.readCov_skip _ _ _ _ _ (by decide)]
    exact View.readCov_fill _ _ _ _ row1 f0
  have e3 : body_clears.sl.r_1 c arg1 harg1 arg2 harg2 arg3 harg3 arg5 x tgt w = k0_pay11 x w tgt (View.ld (k0_pay1 (F := F)) row0) := by
    unfold body_clears.sl.r_1
    rw [load_all harg1 x two0, load_all harg3 w two0, load_all harg2 tgt two0]
    exact congrArg _ (View.readCov_fill _ _ _ _ row0 f0)
  rw [e1, e2]
  unfold body_clears.sl.H5_2
  rw [e3]
  refine read_rows arg5.view f5 _ x w tgt _ ?_
  unfold body_clears.sl.H5_1
  exact store_all _ _ _ two0 _

set_option maxHeartbeats 800000 in
/-- The body at the tile of text rows: it writes zeros and leaves the statistics. -/
theorem body_text (h1 : ¬k0_cond1 i = 1#1) (h2 : ¬k0_cond2 i = 1#1) (h3 : k0_cond3 i = 1#1) (E : Set ℕ) (K : PUnit → sProp 𝕄) :
    iprop(ins c arg1 arg2 arg3 x tgt w ∗ (∃ d, owns (c : Thread nD τ) arg4 fullShare d) ∗ owns (c : Thread nD τ) arg5 fullShare acc
        ∗ (iprop(ins c arg1 arg2 arg3 x tgt w ∗ owns (c : Thread nD τ) arg4 fullShare (k0_pay3 (F := F))
            ∗ owns (c : Thread nD τ) arg5 fullShare acc) -∗ K ⟨⟩))
      ⊢ wp frame (wpE (defs₀ (F := F)) Variants.none c none) E
          (cc0_loss_head i arg1 harg1 arg2 harg2 arg3 harg3 arg4 harg4 arg5 harg5) K := by
  simp only [cc0_loss_head_eq_skeleton]; unfold cc0_loss_head_skel
  unfold owns
  iintro ⟨HI, ⟨%d4, %f4, -, H4⟩, H5, Hk⟩
  sl_exec (disch := first | sl_exact h1 | sl_exact h2 | sl_exact h3)
  sl_step
  iapply Hk
  isplitl [HI]; · iexact HI
  isplitl [H4]
  · iexists _; isplitr
    swap; · iexact H4
    ipureintro
    exact store_all _ _ _ two0 _
  iexact H5

end

/-! ## The tiles -/

/-- Core `c`'s buffers as launched. -/
abbrev V₀ (c : Dev nD) : Valuation τ sig (Elt F) := fun b => m (c, b)

/-- Window `w`'s block at tile `t`, of its array as launched. -/
def iblk (c : Dev nD) (w : Fin cfg0.W) (t : Fin cfg0.N) : ((cfg0.win w).xblock (cfg0.grid.coords t)).Idx → Elt F (cfg0.win w).elt :=
  ((cfg0.win w).blk t).view.read (Elt F) (V₀ m c (Pipeline.arrRef spec0 w))

/-- What tile `t` makes of the contents `acc` of the statistics' block. -/
def stepAt (c : Dev nD) (t : Fin cfg0.N) (acc : Vec F S8x1024 .f32) : Vec F S8x1024 .f32 :=
  if t.val < 16 then statOf (iblk m c 0 t) (iblk m c 2 t) (iblk m c 1 t) acc else acc

/-- The statistics' block after tile `n`. -/
def statAt (c : Dev nD) : (n : ℕ) → n < cfg0.N → Vec F S8x1024 .f32
  | 0, hn => stepAt m c ⟨0, hn⟩ k0_pay1
  | n + 1, hn => stepAt m c ⟨n + 1, hn⟩ (statAt c n (Nat.lt_of_succ_lt hn))

theorem statAt_later (c : Dev nD) (t : Fin cfg0.N) (h : ¬t.val = 0) :
    statAt m c t.val t.isLt = stepAt m c t (statAt m c (t.val - 1) (Nat.lt_of_le_of_lt (Nat.sub_le _ _) t.isLt)) := by
  obtain ⟨n, hn⟩ := t
  cases n with
  | zero => exact absurd rfl h
  | succ n => rfl

/-- The gradient of the rows that tile `t` writes. -/
def dxAt (c : Dev nD) (t : Fin cfg0.N) : Vec F S256x1024 .f32 :=
  if t.val < 16 then k0_pay10 (iblk m c 0 t) (iblk m c 2 t) (iblk m c 1 t) else k0_pay3

/-- What every buffer holds after tile `t`; the core owes throughout what its part of the sum will pay. -/
def dats (_ : Fin 1) (c : Dev nD) : Dat τ (Elt F) ℕ ℕ UU ℕ cfg0 c where
  A w := V₀ m c (Pipeline.arrRef spec0 w)
  after w t := match w with
    | ⟨0, _⟩ => iblk m c 0 t
    | ⟨1, _⟩ => iblk m c 1 t
    | ⟨2, _⟩ => iblk m c 2 t
    | ⟨3, _⟩ => dxAt m c t
    | ⟨4, _⟩ => statAt m c t.val t.isLt
  Φ _ := iprop(Pipeline.scopedRest spec0 c ∗ ∃ r, prngReg c r)
  q _ := fullShare
  owed _ := Sites.O0 (F := F) c

theorem A_eq (c : Dev nD) (w : Fin cfg0.W) : (dats m 0 c).A w = V₀ m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = dxAt m c t := by dsimp only [dats]
theorem after4 (c : Dev nD) (t : Fin cfg0.N) : (dats m 0 c).after 4 t = statAt m c t.val t.isLt := by dsimp only [dats]

/-! Before the body, an input's buffer holds its block at every tile, fetched there or not. -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- After the first tile, the statistics are found as the tile before left them. -/
theorem before4 (c : Dev nD) (t : Fin cfg0.N) (h : ¬t.val = 0) (d) :
    (dats m 0 c).before 4 t d = statAt m c (t.val - 1) (Nat.lt_of_le_of_lt (Nat.sub_le _ _) t.isLt) := by
  have hN : t.val < 17 := lt_of_lt_of_eq t.isLt (show cfg0.N = 17 from N_0)
  have hi : cfg0.idle 4 (cfg0.grid.coords ⟨t.val - 1, Nat.lt_of_le_of_lt (Nat.sub_le _ _) t.isLt⟩) = false := by
    show (!(k0_cond1 (grid0.coords _) == 1#1) && !(k0_cond2 (grid0.coords _) == 1#1)) = false
    rw [(image_iff ⟨t.val - 1, Nat.lt_of_le_of_lt (Nat.sub_le _ _) t.isLt⟩).mpr (show t.val - 1 < 16 by omega), Bool.and_comm]; rfl
  have hf : (cfg0.win 4).flush ⟨t.val - 1, Nat.lt_of_le_of_lt (Nat.sub_le _ _) t.isLt⟩ = false :=
    Bool.eq_false_iff.mpr fun h => by have := (flush0_4 _).mp h; dsimp only at this; omega
  rw [Dat.before_of_pos _ 4 t h ((cfg0.win 4).fetch_out rfl t), hf, if_neg Bool.false_ne_true]
  unfold Dat.left
  rw [hi]
  show Dat.kept _ _ _ _ = _
  unfold Dat.kept
  rw [Pipeline.fill_of_clip_none (cfg := cfg0) 4 _ (fun _ => rfl) d ((dats m 0 c).after 4 _), Pipeline.Window.fill_cut]
  dsimp only [dats]

/-- What the body is called with at tile `t`, -/
def bodyPre (c : Dev nD) (t : Fin cfg0.N) : sProp 𝕄 :=
  iprop((dats m 0 c).Φ t.castSucc ∗ (dats m 0 c).owesAt 0 t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt 0 t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body's run, between these two, from its run over the buffers it changes. -/
theorem wrap (c : Dev nD) (t : Fin cfg0.N) (P4 : sProp 𝕄)
    (h4 : iprop(∃ d, owns (c : Thread nD τ) (st0_4 t) fullShare ((dats m 0 c).before 4 t d)) ⊢ P4)
    (hb : ∀ K : PUnit → sProp 𝕄, iprop(ins c (st0_0 t) (st0_1 t) (st0_2 t) (iblk m c 0 t) (iblk m c 1 t) (iblk m c 2 t)
        ∗ (∃ d, owns (c : Thread nD τ) (st0_3 t) fullShare d) ∗ P4
        ∗ (iprop(ins c (st0_0 t) (st0_1 t) (st0_2 t) (iblk m c 0 t) (iblk m c 1 t) (iblk m c 2 t)
            ∗ owns (c : Thread nD τ) (st0_3 t) fullShare (dxAt m c t)
            ∗ owns (c : Thread nD τ) (st0_4 t) fullShare (statAt m c t.val t.isLt)) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0, before1, before2]
  rw [show (dats m 0 c).Φ t.succ = (dats m 0 c).Φ t.castSucc from rfl,
    show (dats m 0 c).owesAt 0 t.succ = (dats m 0 c).owesAt 0 t.castSucc from rfl, after0, after1, after2, after3, after4]
  iintro ⟨HΦ, Ho, ⟨%d0, H0⟩, ⟨%d1, H1⟩, ⟨%d2, H2⟩, ⟨%d3, H3⟩, H4⟩
  ihave H4 := h4 $$ H4
  iapply (hb _)
  unfold ins
  isplitl [H0 H1 H2]
  · isplitl [H0]; · iexact H0
    isplitl [H1]; · iexact H1
    iexact H2
  isplitl [H3]; · iexists _; iexact H3
  isplitl [H4]; · iexact H4
  iintro ⟨⟨H0, H1, H2⟩, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · have hi : t.val < 16 := by omega
    have hs : statAt m c t.val t.isLt = statOf (iblk m c 0 t) (iblk m c 2 t) (iblk m c 1 t) k0_pay1 := by
      obtain ⟨n, hn⟩ := t; obtain rfl : n = 0 := h0
      show stepAt m c ⟨0, hn⟩ k0_pay1 = _
      unfold stepAt
      rw [if_pos hi]
    refine wrap m c t iprop(∃ d, owns (c : Thread nD τ) (st0_4 t) fullShare d) ?_ fun K => ?_
    · iintro ⟨%d, H⟩; iexists _; iexact H
    rw [hs, show dxAt m c t = k0_pay10 (iblk m c 0 t) (iblk m c 2 t) (iblk m c 1 t) from if_pos hi]
    exact body_clears c (grid0.coords t) _ _ _ _ _ _ _ _ _ _ _ _ _ ((first_iff t).mpr h0) ((image_iff t).mpr hi)
      (fun h => (text_iff t).mp h hi) Set.univ K
  by_cases hi : t.val < 16
  · refine wrap m c t (owns (c : Thread nD τ) (st0_4 t) fullShare (statAt m c (t.val - 1) (Nat.lt_of_le_of_lt (Nat.sub_le _ _) t.isLt))) ?_ fun K => ?_
    · simp only [before4 m c t h0]; iintro ⟨%d, H⟩; iexact H
    rw [statAt_later m c t h0, show ∀ a, stepAt m c t a = statOf (iblk m c 0 t) (iblk m c 2 t) (iblk m c 1 t) a from fun _ => if_pos hi,
      show dxAt m c t = k0_pay10 (iblk m c 0 t) (iblk m c 2 t) (iblk m c 1 t) from if_pos hi]
    exact body_adds c (grid0.coords t) _ _ _ _ _ _ _ _ _ _ _ _ _ _ (fun h => h0 ((first_iff t).mp h)) ((image_iff t).mpr hi)
      (fun h => (text_iff t).mp h hi) Set.univ K
  · refine wrap m c t (owns (c : Thread nD τ) (st0_4 t) fullShare (statAt m c (t.val - 1) (Nat.lt_of_le_of_lt (Nat.sub_le _ _) t.isLt))) ?_ fun K => ?_
    · simp only [before4 m c t h0]; iintro ⟨%d, H⟩; iexact H
    rw [statAt_later m c t h0, show ∀ a, stepAt m c t a = a from fun _ => if_neg hi, show dxAt m c t = k0_pay3 from if_neg hi]
    exact body_text c (grid0.coords t) _ _ _ _ _ _ _ _ _ _ _ _ _ _ (fun h => h0 ((first_iff t).mp h)) (fun h => hi ((image_iff t).mp h))
      ((text_iff t).mpr hi) Set.univ K

theorem body_obligation (c : Dev nD) : BodyObligation (dats (F := F) m 0 c) (defs₀ (F := F)) Variants.none 0 Set.univ := fun t => by
  rw [bigSep_W0, bigSep_W0, show defs₀ (F := F) .tc cfg0.body (cfg0.bodyArgs t (cfg0.slots t)) = bodyAt0 t from by
    unfold defs₀; rw [Defs.onTc_tc]]
  refine triple_restated (sound_body m c t) rfl .rfl fun _ => ?_
  have hN : t.val < 17 := lt_of_lt_of_eq t.isLt (show cfg0.N = 17 from N_0)
  have i3 : cfg0.idle 3 (cfg0.grid.coords t) = false := by
    show (!(k0_cond2 (grid0.coords t) == 1#1) && !(k0_cond3 (grid0.coords t) == 1#1)) = false
    by_cases hi : t.val < 16
    · rw [(image_iff t).mpr hi]; rfl
    · rw [(text_iff t).mpr hi, Bool.and_comm]; rfl
  rw [i3]
  by_cases hi : t.val < 16
  · have i4 : cfg0.idle 4 (cfg0.grid.coords t) = false := by
      show (!(k0_cond1 (grid0.coords t) == 1#1) && !(k0_cond2 (grid0.coords t) == 1#1)) = false
      rw [(image_iff t).mpr hi, Bool.and_comm]; rfl
    rw [i4]; exact .rfl
  · rw [(flush0_4 t).mpr (by omega)]
    cases cfg0.idle 4 (cfg0.grid.coords t) <;> exact .rfl

/-! ## The run -/

abbrev EP : Emb (UR sig nD τ) 𝕄 := embL
abbrev EC : Emb Sites.UC 𝕄 := embR
abbrev adm : (p : Fin 1) → (pcfgs (F := F) p).Adm := fun p => (cfgs p).toPCfg_adm
abbrev pdats : (p : Fin 1) → (c : Dev nD) → Dat τ (Elt F) ℕ ℕ UU ℕ (Pipeline.pin (pcfgs (F := F)) adm p) c := dats m

/-- Core `c`'s buffers after the tiles, and after the sum of the squares' row. -/
abbrev V₁ (c : Dev nD) : Valuation τ sig (Elt F) := Pipeline.afterRegion (dats m 0 c) (V₀ m c)
abbrev V₂ (c : Dev nD) : Valuation τ sig (Elt F) := StableHlo.after hostOps1 (V₁ m c)

/-- The records that the cells of the sum over the devices are under their invariants. -/
abbrev invs : sProp 𝕄 := iprop(∃ κ, (AllReduce.Dat.once (ar0 (F := F)) (V₂ m)).cellInvs (Sites.E0 EC) κ)

abbrev st (j : Fin 2) (c : Dev nD) : sProp 𝕄 := Sites.Es EC (V₂ m) j c

/-- The tiles, the core owing its part of the sum. -/
def reg0 : Pipeline.RegionSeg (pcfgs (F := F)) adm (pdats m) 0 defs₀ Variants.none L lv 0 :=
  Pipeline.RegionSeg.ofHeldIn (pcfgs (F := F)) adm (pdats m) 0 defs₀ Variants.none L lv 0 (fun c => Sites.O0 (F := F) c)
    (Pipeline.ucRefs τ sig) (fun c => iprop(∃ r, prngReg c r)) (fun c => iprop(∃ r, prngReg c r)) launch0.toP rfl
    (fun c => (body_obligation m c).loose) (fun _ _ => rfl) (fun _ => rfl) (fun c => (dats m 0 c).share_full fun _ => rfl)
    (fun _ => .rfl) (fun _ => .rfl) (fun _ => 0)
    ⟨fun _ _ _ => Sites.mem_L _ _ (by decide), fun _ _ _ => le_refl _, fun _ _ _ hg => ⟨(Sites.O0_pos hg).1, (Sites.O0_pos hg).2⟩⟩
    (fun c => Sites.rides0 EC (V₂ m) c) (V₀ m) (fun _ _ => rfl)

/-- The sum over the squares' row. -/
def seg1 : Pipeline.HostSeg (Ix := ℕ) (Name := ℕ) (U := UU) (Lvl := ℕ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => by fin_cases h <;> rfl) (V₁ m) (st m 0)

/-- The sum over the devices. -/
def seg2 : Pipeline.HostSeg (Ix := ℕ) (Name := ℕ) (U := UU) (Lvl := ℕ) (pcfgs (F := F)) defs₀ Variants.none L lv :=
  Sites.seg0 EC Variants.none (V₂ m) (Sites.Rest0 (V₂ m) fun _ => invs m)

abbrev segs : List (Pipeline.Seg (pcfgs (F := F)) adm (pdats m) 0 defs₀ Variants.none L lv) := [.region (reg0 m), .host (seg1 m), .host (seg2 m)]

abbrev T₀ (c : Dev nD) : sProp 𝕄 := iprop(StableHlo.held (c : Thread nD τ) (Pipeline.ucRefs τ sig) (V₀ m c) ∗ st m 0 c)
abbrev Tₙ (c : Dev nD) : sProp 𝕄 :=
  iprop(StableHlo.held (c : Thread nD τ) (Pipeline.ucRefs τ sig) ((ar0 (F := F)).after₀ (V₂ m) c) ∗ (Sites.Ghost0 EC c ∗ invs m))

theorem hS : Pipeline.arrRefs (pcfgs (F := F) 0).spec ⊆ Pipeline.ucRefs τ sig :=
  Pipeline.arrRefs_sub_ucRefs spec0 (by decide)

theorem link0 (c : Dev nD) : T₀ m c ⊢ (reg0 (F := F) m).pre c := by
  unfold reg0
  refine BIBase.Entails.trans ?_ (Pipeline.RegionSeg.ofHeldIn_pre (pcs := pcfgs (F := F)) (a := adm) (pdats := pdats m) (hS (F := F)) c)
  exact .rfl
theorem link1 (c : Dev nD) : (reg0 (F := F) m).post c ⊢ (seg1 m).pre c := Pipeline.RegionSeg.ofHeldIn_post (hS (F := F)) c
theorem link2 (c : Dev nD) : (seg1 (F := F) m).post c ⊢ (seg2 m).pre c := by
  refine BIBase.Entails.trans ?_ (Sites.pre0 EC Variants.none (V₂ m) (fun _ => invs m) c)
  show (iprop(StableHlo.held (c : Thread nD τ) (Pipeline.ucRefs τ sig) (V₂ m c) ∗ st m 0 c) : sProp 𝕄) ⊢ _
  unfold st
  rw [Sites.Es_0]
  iintro ⟨Hh, HO, Hp, Hr⟩
  ihave #Hi := (show (AllReduce.Dat.once (ar0 (F := F)) (V₂ m)).rides (Sites.E0 EC) c 1 2 ⊢ invs m from by
    unfold AllReduce.Dat.rides; iintro ⟨Hi, -⟩; iexact Hi) $$ Hr
  isplitl [Hh]; · iexact Hh
  isplitl [HO Hp Hr]
  · isplitl [HO]; · iexact HO
    isplitl [Hp] <;> iassumption
  iexact Hi
theorem link3 (c : Dev nD) : (seg2 (F := F) m).post c ⊢ iprop(Tₙ m c ∗ ∃ W, owes (c : Thread nD τ) (0 : CellTallies nD τ sig ℕ) W) := by
  refine (Sites.post0 EC Variants.none (V₂ m) (fun _ => invs m) c).trans ?_
  iintro ⟨Hh, HE, HG⟩
  isplitr [HE]
  · isplitl [Hh]; · iexact Hh
    iexact HG
  iapply (Sites.hE_last EC (V₂ m) c); iexact HE

abbrev bare (c : Dev nD) : sProp 𝕄 := iprop(unscopedSems0 c ∗ owes (c : Thread nD τ) (Sites.O0 (F := F) c) ∅
    ∗ Pipeline.launchCred (Sites.O0 (F := F)) c ∗ prngReg c (ρ c) ∗ Sites.G EC (V₂ m) c)

theorem init : iprop((bigSep Finset.univ fun c : Dev nD => iprop(unscopedBufs c (fun b => m ((c : Thread nD τ).loc b)) ∗ bare m ρ c)) ∗ levAts L lv)
      ⊢ (|={Set.univ}=> bigSep Finset.univ (T₀ m) : sProp 𝕄) := by
  have h (c : Dev nD) : (unscopedBufs c (fun b => m ((c : Thread nD τ).loc b)) : sProp 𝕄)
      = StableHlo.held (c : Thread nD τ) (Pipeline.ucRefs τ sig) (V₀ m c) :=
    Pipeline.unscopedBufs_held (Ix := ℕ) (Name := ℕ) (U := UU) (Lvl := ℕ) c (V₀ m c)
  simp only [h]
  unfold T₀
  rw [bigSep_sep' Finset.univ _ (bare m ρ), bigSep_sep' Finset.univ _ (st m 0)]
  iintro ⟨⟨Hh, Hr⟩, Hl⟩
  imod (Sites.hE0 EC (V₂ m) ρ) $$ [Hr Hl] with HE
  · isplitl [Hr]; · iexact Hr
    iexact Hl
  imodintro
  isplitl [Hh]; · iexact Hh
  iexact HE

set_option backward.isDefEq.respectTransparency.types false in
/-- Every run ends, with the buffers as stated and every semaphore at zero. -/
theorem run_all : θ_run defs (onTc (τ := τ) (main (F := F))) (s₀ m ρ)
    (fun r => (∀ c : Dev nD, ∀ b ∈ Pipeline.ucRefs τ sig, r.2.mem (c, b) = (ar0 (F := F)).after₀ (V₂ m) c b) ∧ r.2.sem = fun _ => 0) :=
  Pipeline.θ_run_regions_kit_sems (pcfgs (F := F)) adm (pdats m) 0 cellOf_inj EP defs₀ Variants.none L lv m ρ main (segs m)
    (fun c Q => by rw [main_segs adm (pdats m) 0 Variants.none L lv (seg1 m) (seg2 m) (reg0 m) rfl rfl c])
    (by simp only [Pipeline.Seg.pipes_host, Pipeline.Seg.pipes_region, Pipeline.Seg.pipes_nil]; decide)
    (O₀ := Sites.O0 (F := F)) (hL := Sites.hL) (G := Sites.G EC (V₂ m))
    (u₀ := (initOf (Pipeline.cells (Pipeline.pin (pcfgs (F := F)) adm) cellOf_inj) (Pipeline.launchToks (Pipeline.pin (pcfgs (F := F)) adm) cellOf_inj),
      Sites.uC (U := UU) (V₂ m)))
    (hu₀ := by
      iintro Hu
      ihave H := (ownU_pair _ _) $$ Hu
      icases H with ⟨HP, HX⟩
      imodintro
      isplitl [HP]; · iexact HP
      rw [Sites.bigSep_G]; iexact HX)
    (T₀ := T₀ m) (Tₙ := Tₙ m) (hch := ⟨link0 m, link1 m, link2 m, link3 m⟩) (hinit := init m ρ)
    (QY := fun c s => (∀ b ∈ Pipeline.ucRefs τ sig, s.mem (c, b) = (ar0 (F := F)).after₀ (V₂ m) c b)
      ∧ s.sem ((ar0 (F := F)).barrierCell c) = 0 ∧ s.sem ((ar0 (F := F)).recvCell c) = 0 ∧ s.sem ((ar0 (F := F)).sendCell c) = 0)
    (hfin := fun c s' => by
      unfold Tₙ StableHlo.held
      iintro ⟨⟨Hh, Hg, Hi⟩, HSI⟩
      ihave Hr := (pointsTo_read_all (Pipeline.ucRefs τ sig) (fun b => ((c : Thread nD τ).1, b)) ((ar0 (F := F)).after₀ (V₂ m) c) s') $$ [Hh HSI]
      · isplitl [Hh] <;> iassumption
      icases Hr with ⟨%h, HSI⟩
      imod ((AllReduce.Dat.once (ar0 (F := F)) (V₂ m)).ghostAfter_read (Sites.E0 EC) c (k := 0) le_rfl s') $$ [Hg Hi HSI] with ⟨%ha, HSI⟩
      · isplitl [Hg Hi]; · isplitl [Hi] <;> iassumption
        iexact HSI
      imodintro
      isplitr; · ipureintro; exact ⟨h, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- An unscoped buffer that no operation writes ends as launched. -/
theorem kept (c : Dev nD) (r : Ref sig .tc) (h : r ∈ [main_arg0, main_arg1, main_arg2]) :
    (ar0 (F := F)).after₀ (V₂ m) c r = m ((c : Thread nD τ).loc r) := by
  have h1 : (Proc.devRef .tc r : DevRef τ sig) ∉ (ar0 (F := F)).foldBufs := fun hb => by
    rcases Finset.mem_insert.mp hb with hb | hb
    · exact absurd (Proc.devRef_injective _ hb) ((by decide : ∀ r ∈ [main_arg0, main_arg1, main_arg2], r ≠ main_v5) r h)
    · obtain ⟨j, hj⟩ := (ar0 (F := F)).mem_stageRefs.mp hb
      exact absurd (Proc.devRef_injective _ hj) ((by decide : ∀ r ∈ [main_arg0, main_arg1, main_arg2], ∀ j : Fin 8, r ≠ ar0_stage j) r h j)
  refine ((ar0 (F := F)).after₀_of_notMem (V₂ m) c h1).trans ?_
  refine (StableHlo.after_of_writes_sub hostOps1 _ (W := [main_v2, main_v3, main_cst, main_v4]) (StableHlo.forall_writes_sub_of_map rfl)
    ((by decide : ∀ r ∈ [main_arg0, main_arg1, main_arg2], r ∉ [main_v2, main_v3, main_cst, main_v4]) r h)).trans ?_
  exact Pipeline.afterRegion_keeps (dats m 0 c) (V₀ m c) launch0.win.arr_inj (A_eq m c) r
    ((by decide : ∀ r ∈ [main_arg0, main_arg1, main_arg2], ∀ w : Fin 5, Pipeline.arrRef spec0 w = r → (cfg0.win w).isOut = false) r h)

theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- What device `c` sends: the sum over the squares' row of its statistics. -/
theorem sent (c : Dev nD) : V₂ m c main_v4 = Host.reduceAdd (shapeCast S1024 (extractStridedSlice S1x1024 ![1, 0]
    ((dats m 0 c).arrAt 4 cfg0.N) slices_S8x1024_S1x1024_1_0) shapeCasts_S1x1024_S1024) (constant S_ .f32 0x00000000#32) reducesTo_S1024_S_d0 h_S_ := by
  have e : V₁ m c main_v1_1 = (dats m 0 c).arrAt 4 cfg0.N := Pipeline.afterRegion_arr (dats m 0 c) (V₀ m c) launch0.win.arr_inj 4
  rw [← e]
  after_results_simp_entrywise
  rfl

/-- The run with the result named: the sum, in the devices' order, of what they send. -/
theorem run_sum : θ_run defs (onTc (τ := τ) (main (F := F))) ⟨m, fun _ => 0, ρ⟩ (fun r => ∀ c : Dev nD,
      r.2.mem ((c.tc : Thread nD τ).loc main_v5) = (ar0 (F := F)).foldGroup (fun j => V₂ m ((ar0 (F := F)).peer c j) main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c _ (mem_uc main_v5 rfl)).trans ((ar0 (F := F)).after₀_result (Vs := V₂ m) (d := c)),
    (h.1 c _ (mem_uc main_arg0 rfl)).trans (kept m c _ (by decide)), (h.1 c _ (mem_uc main_arg1 rfl)).trans (kept m c _ (by decide)),
    (h.1 c _ (mem_uc main_arg2 rfl)).trans (kept m c _ (by decide))⟩) (run_all m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2.2⟩) (θ_run_and (run_sum m ρ) (run_all m ρ))

end Cert.LossHeadIdeal.Run

end
-- ==== Proof.NormFrame.lean ====
/-
The gradient of a modulated norm, run point by point: one pass over the rows in seventeen tiles of 256.
At every tile the kernel writes the gradient of the norm's input, and adds the tile's three column sums to the
statistics' block, which it clears first at the first tile of either stream (the tiles 0 and 16).  This module
states what the two outputs hold after every tile and proves the run.
-/
module

public import proofs.«01_k».proof.Proof.Gen.NormBwdIdeal.Launch
public import proofs.«01_k».proof.Proof.Gen.NormBwdIdeal.Skeleton
public import Idealize.ShloMosaic.Lib.Ring
public import proofs.«01_k».proof.Proof.Tile
public import Idealize.ShloMosaic.Lib.WritesUnit
public import Idealize.ShloMosaic.Lib.Pointwise.Index
public import Idealize.ShloMosaic.Lib.Claim

@[expose] public section

set_option maxRecDepth 16384

noncomputable section

namespace Cert.NormBwdIdeal.Run

open Cert.NormBwdIdeal Cert.NormBwdIdeal.Gen Cert.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a tile leaves -/

/-- The three rows of the statistics' block, as the rectangles the kernel loads and stores. -/
abbrev row0 : Rect S1x8x1024 := Rect.unit ![0, 0, 0] S1x1x1024.size inb_S1x8x1024_S1x1x1024_0_0_0
abbrev row1 : Rect S1x8x1024 := Rect.unit ![0, 1, 0] S1x1x1024.size inb_S1x8x1024_S1x1x1024_0_1_0
abbrev row2 : Rect S1x8x1024 := Rect.unit ![0, 2, 0] S1x1x1024.size inb_S1x8x1024_S1x1x1024_0_2_0

/-- The gradient of the norm's input, at one tile. -/
def dxOf (dh x : Vec F S256x1024 .f32) (w : Vec F S1x1024 .f32) (md : Vec F S1x6x1024 .f32)
    (dres : Vec F S256x1024 .f32) : Vec F S256x1024 .f32 :=
  k0_pay1 dres (k0_pay9 x w md dh)

/-- The statistics' block after a tile, from its contents before. -/
def statOf (dh x : Vec F S256x1024 .f32) (w : Vec F S1x1024 .f32) (md : Vec F S1x6x1024 .f32)
    (acc : Vec F S1x8x1024 .f32) : Vec F S1x8x1024 .f32 :=
  fun y =>
    if (y 1).val = 2 then k0_pay4 (k0_pay7 x) (k0_pay8 md dh) (View.ld acc row2) (ix3 0 0 (y 2))
    else if (y 1).val = 1 then k0_pay3 (k0_pay7 x) w dh (View.ld acc row1) (ix3 0 0 (y 2))
    else if (y 1).val = 0 then k0_pay2 dh (View.ld acc row0) (ix3 0 0 (y 2))
    else acc y

/-- Three rows stored over contents that read `acc` leave `statOf`. -/
theorem read_rows (v : View sig .tc .vmem S1x8x1024 .f32) (f : v.ty.Contents (Elt F))
    (L : List (View.Piece (Elt F) S1x8x1024 .f32)) (dh x : Vec F S256x1024 .f32)
    (w : Vec F S1x1024 .f32) (md : Vec F S1x6x1024 .f32) (acc : Vec F S1x8x1024 .f32) (hf : v.read (Elt F) (v.writes (Elt F) f L) = acc) :
    v.read (Elt F) (v.writes (Elt F) f
      (⟨row2, k0_pay4 (k0_pay7 x) (k0_pay8 md dh) (View.ld acc row2)⟩ ::
       ⟨row1, k0_pay3 (k0_pay7 x) w dh (View.ld acc row1)⟩ ::
       ⟨row0, k0_pay2 dh (View.ld acc row0)⟩ :: L)) = statOf dh x w md acc := by
  funext y
  have hy0 : (y 0).val < 1 := (y 0).isLt
  unfold statOf
  by_cases h2 : (y 1).val = 2
  · rw [if_pos h2]
    refine View.read_writes_cons_unit_of_mem v f _ _ _ y (ix3 0 0 (y 2)) rfl fun a => ?_
    fin_cases a
    · show (y 0).val = 0 + 0; omega
    · show (y 1).val = 2 + 0; omega
    · show (y 2).val = 0 + (y 2).val; omega
  rw [if_neg h2]
  refine (View.read_writes_cons_unit_of_not_mem v f _ _ _ y rfl 1 ?_).trans ?_
  · show (y 1).val < 2 ∨ 2 + 1 ≤ (y 1).val; omega
  by_cases h1 : (y 1).val = 1
  · rw [if_pos h1]
    refine View.read_writes_cons_unit_of_mem v f _ _ _ y (ix3 0 0 (y 2)) rfl fun a => ?_
    fin_cases a
    · show (y 0).val = 0 + 0; omega
    · show (y 1).val = 1 + 0; omega
    · show (y 2).val = 0 + (y 2).val; omega
  rw [if_neg h1]
  refine (View.read_writes_cons_unit_of_not_mem v f _ _ _ y rfl 1 ?_).trans ?_
  · show (y 1).val < 1 ∨ 1 + 1 ≤ (y 1).val; omega
  by_cases h0 : (y 1).val = 0
  · rw [if_pos h0]
    refine View.read_writes_cons_unit_of_mem v f _ _ _ y (ix3 0 0 (y 2)) rfl fun a => ?_
    fin_cases a
    · show (y 0).val = 0 + 0; omega
    · show (y 1).val = 0 + 0; omega
    · show (y 2).val = 0 + (y 2).val; omega
  rw [if_neg h0]
  refine (View.read_writes_cons_unit_of_not_mem v f _ _ _ y rfl 1 ?_).trans ?_
  · show (y 1).val < 0 ∨ 0 + 1 ≤ (y 1).val; omega
  exact congrFun hf y

/-! ## The body -/

/-- The condition under which the body clears the statistics' block. -/
abbrev clears (i : grid0.Coords) : Prop :=
  (Scalar.cmpi .ne (Scalar.extui (Scalar.ori (Scalar.cmpi .eq (BitVec.ofNat 32 (i 0).val) 0#32)
    (Scalar.cmpi .eq (BitVec.ofNat 32 (i 0).val) 16#32))) 0#32) = 1#1

/-- It holds at the tiles 0 and 16. -/
theorem clears_iff : ∀ t : Fin cfg0.N, clears (grid0.coords t) ↔ t.val % 16 = 0 :=
  (by decide +kernel : ∀ t : Fin grid0.N, clears (grid0.coords t) ↔ t.val % 16 = 0)

section
variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S1x1024 .f32) (harg3 : arg3.IsWhole) (arg4 : Memref sig .tc .vmem S1x6x1024 .f32) (harg4 : arg4.IsWhole)
  (arg5 : Memref sig .tc .vmem S256x1024 .f32) (harg5 : arg5.IsWhole) (arg6 : Memref sig .tc .vmem S256x1024 .f32) (harg6 : arg6.IsWhole)
  (arg7 : Memref sig .tc .vmem S1x8x1024 .f32) (harg7 : arg7.IsWhole)
  (dh x : Vec F S256x1024 .f32) (w : Vec F S1x1024 .f32) (md : Vec F S1x6x1024 .f32) (dres : Vec F S256x1024 .f32)
  (acc : Vec F S1x8x1024 .f32)

/-- The five inputs' buffers at their contents. -/
def ins : sProp 𝕄 :=
  iprop(owns (c : Thread nD τ) arg1 fullShare dh ∗ owns (c : Thread nD τ) arg2 fullShare x ∗ owns (c : Thread nD τ) arg3 fullShare w
    ∗ owns (c : Thread nD τ) arg4 fullShare md ∗ owns (c : Thread nD τ) arg5 fullShare dres)

set_option maxHeartbeats 2000000 in
/-- The body at a tile that does not clear the statistics: they go from `acc` to `statOf … acc`. -/
theorem body_adds (hc : ¬clears i) (E : Set ℕ) (K : PUnit → sProp 𝕄) :
    iprop(ins c arg1 arg2 arg3 arg4 arg5 dh x w md dres ∗ (∃ d, owns (c : Thread nD τ) arg6 fullShare d)
        ∗ owns (c : Thread nD τ) arg7 fullShare acc
        ∗ (iprop(ins c arg1 arg2 arg3 arg4 arg5 dh x w md dres ∗ owns (c : Thread nD τ) arg6 fullShare (dxOf dh x w md dres)
            ∗ owns (c : Thread nD τ) arg7 fullShare (statOf dh x w md acc)) -∗ K ⟨⟩))
      ⊢ wp frame (wpE (defs₀ (F := F)) Variants.none c none) E
          (cc0_norm_bwd i arg1 harg1 arg2 harg2 arg3 harg3 arg4 harg4 arg5 harg5 arg6 harg6 arg7 harg7) K := by
  simp only [cc0_norm_bwd_eq_skeleton]; unfold cc0_norm_bwd_skel
  simp only [k0_part1_eq_skeleton]
  unfold ins owns
  iintro ⟨⟨⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := first | sl_exact hc)
  sl_step
  iapply Hk
  isplitl [H1 H2 H3 H4 H5]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr
    swap; · iexact H6
    ipureintro
    have e1 : body_adds.sl.r_4 c arg5 harg5 dres = dres := load_all harg5 dres two0 _
    have e2 : body_adds.sl.r_5 c arg1 harg1 arg2 harg2 arg3 harg3 arg4 harg4 dh x w md = k0_pay9 x w md dh := by
      unfold body_adds.sl.r_5
      rw [load_all harg2 x two0, load_all harg3 w two0, load_all harg4 md three0, load_all harg1 dh two0]
    rw [e1, e2]
    exact store_all _ _ _ two0 _
  iexists _; isplitr
  swap; · iexact H7
  ipureintro
  have e0 : body_adds.sl.r c arg2 harg2 x = k0_pay7 x := by
    unfold body_adds.sl.r
    rw [load_all harg2 x two0]
  have e1 : body_adds.sl.r_1 c arg3 harg3 w = w := load_all harg3 w two0 _
  have e2 : body_adds.sl.r_2 c arg1 harg1 dh = dh := load_all harg1 dh two0 _
  have e3 : body_adds.sl.r_3 c arg1 harg1 arg4 harg4 dh md = k0_pay8 md dh := by
    unfold body_adds.sl.r_3
    rw [load_all harg4 md three0, load_all harg1 dh two0]
  have e4 : body_adds.sl.v59 c arg7 harg7 acc = View.ld acc row2 := load_part harg7 acc row2
  have e5 : body_adds.sl.v48 c arg7 harg7 acc = View.ld acc row1 := load_part harg7 acc row1
  rw [e0, e1, e2, e3, e4, e5, load_part harg7 acc row0]
  exact read_rows arg7.view _ [] dh x w md acc (harg7.read_unread acc)

set_option maxHeartbeats 2000000 in
/-- The body at a tile that clears the statistics: they go to what it leaves over zeros. -/
theorem body_clears (hc : clears i) (E : Set ℕ) (K : PUnit → sProp 𝕄) :
    iprop(ins c arg1 arg2 arg3 arg4 arg5 dh x w md dres ∗ (∃ d, owns (c : Thread nD τ) arg6 fullShare d)
        ∗ (∃ d, owns (c : Thread nD τ) arg7 fullShare d)
        ∗ (iprop(ins c arg1 arg2 arg3 arg4 arg5 dh x w md dres ∗ owns (c : Thread nD τ) arg6 fullShare (dxOf dh x w md dres)
            ∗ owns (c : Thread nD τ) arg7 fullShare (statOf dh x w md (k0_pay5 (F := F)))) -∗ K ⟨⟩))
      ⊢ wp frame (wpE (defs₀ (F := F)) Variants.none c none) E
          (cc0_norm_bwd i arg1 harg1 arg2 harg2 arg3 harg3 arg4 harg4 arg5 harg5 arg6 harg6 arg7 harg7) K := by
  simp only [cc0_norm_bwd_eq_skeleton]; unfold cc0_norm_bwd_skel
  simp only [k0_part1_eq_skeleton]
  unfold ins owns
  iintro ⟨⟨⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | sl_exact hc)
  sl_step
  iapply Hk
  isplitl [H1 H2 H3 H4 H5]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr
    swap; · iexact H6
    ipureintro
    have e1 : body_clears.sl.r_4 c arg5 harg5 dres = dres := load_all harg5 dres two0 _
    have e2 : body_clears.sl.r_5 c arg1 harg1 arg2 harg2 arg3 harg3 arg4 harg4 dh x w md = k0_pay9 x w md dh := by
      unfold body_clears.sl.r_5
      rw [load_all harg2 x two0, load_all harg3 w two0, load_all harg4 md three0, load_all harg1 dh two0]
    rw [e1, e2]
    exact store_all _ _ _ two0 _
  iexists _; isplitr
  swap; · iexact H7
  ipureintro
  have e0 : body_clears.sl.r c arg2 harg2 x = k0_pay7 x := by
    unfold body_clears.sl.r
    rw [load_all harg2 x two0]
  have e1 : body_clears.sl.r_1 c arg3 harg3 w = w := load_all harg3 w two0 _
  have e2 : body_clears.sl.r_2 c arg1 harg1 dh = dh := load_all harg1 dh two0 _
  have e3 : body_clears.sl.r_3 c arg1 harg1 arg4 harg4 dh md = k0_pay8 md dh := by
    unfold body_clears.sl.r_3
    rw [load_all harg4 md three0, load_all harg1 dh two0]
  have f0 (a : Fin 3) : (![0, 0, 0] : Fin 3 → ℕ) a = 0 := congrFun three0 a
  have e4 : body_clears.sl.v59 c arg1 harg1 arg2 harg2 arg3 harg3 arg7 dh x w = View.ld (k0_pay5 (F := F)) row2 := by
    unfold body_clears.sl.v59 body_clears.sl.H7_3
    rw [View.readCov_skip _ _ _ _ _ (by decide)]
    unfold body_clears.sl.H7_2
    rw [View.readCov_skip _ _ _ _ _ (by decide)]
    exact View.readCov_fill _ _ _ _ row2 f0
  have e5 : body_clears.sl.v48 c arg1 harg1 arg7 dh = View.ld (k0_pay5 (F := F)) row1 := by
    unfold body_clears.sl.v48 body_clears.sl.H7_2
    rw [View.readCov_skip _ _ _ _ _ (by decide)]
    exact View.readCov_fill _ _ _ _ row1 f0
  unfold body_clears.sl.H7_3 body_clears.sl.H7_2
  rw [e0, e1, e2, e3, e4, e5]
  have e6 : body_clears.sl.v40 c arg7 = View.ld (k0_pay5 (F := F)) row0 := View.readCov_fill _ _ _ _ row0 f0
  rw [e6]
  refine read_rows arg7.view f7 _ dh x w md _ ?_
  unfold body_clears.sl.H7_1
  exact store_all _ _ _ three0 _

end

/-! ## The run -/

/-- Core `c`'s buffers when the region is entered: as launched. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at tile `t`, of its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The gradient of the norm's input is written back at every tile, -/
theorem flush5 : ∀ t : Fin cfg0.N, (cfg0.win 5).flush t = true :=
  (by decide +kernel : ∀ t : Fin grid0.N, win0_5.flush t = true)
/-- the statistics at the last tile of either stream. -/
theorem flush6 : ∀ t : Fin cfg0.N, (cfg0.win 6).flush t = true ↔ 15 ≤ t.val :=
  (by decide +kernel : ∀ t : Fin grid0.N, win0_6.flush t = true ↔ 15 ≤ t.val)

/-- The windows' current buffers at tile `t`, and that they are whole. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x6x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x1024 .f32 := win0_6.stage (cfg0.slots t 6)
abbrev hs6 (t : Fin cfg0.N) : (ms6 t).IsWhole := hstage0_6 ((cfg0.slots t 6).cast nbuf0_6)

/-- The body at tile `t`. -/
abbrev bodyAt (t : Fin cfg0.N) : Prog (TpuEff nD τ sig (Elt F) Λ₀ .tc) PUnit :=
  cc0_norm_bwd (grid0.coords t) (ms0 t) (hs0 t) (ms1 t) (hs1 t) (ms2 t) (hs2 t) (ms3 t) (hs3 t) (ms4 t) (hs4 t) (ms5 t) (hs5 t) (ms6 t) (hs6 t)

/-- What tile `t` makes of the contents `acc` of the statistics' block. -/
def stepAt (c : Dev nD) (t : Fin cfg0.N) (acc : Vec F S1x8x1024 .f32) : Vec F S1x8x1024 .f32 :=
  statOf (iblk m c 0 t) (iblk m c 1 t) (iblk m c 2 t) (iblk m c 3 t) acc

/-- The statistics' block after tile `n`: over zeros at the first tile of either stream, else over what the tile
    before left. -/
def statAt (c : Dev nD) : (n : ℕ) → n < cfg0.N → Vec F S1x8x1024 .f32
  | 0, hn => stepAt m c ⟨0, hn⟩ k0_pay5
  | n + 1, hn => stepAt m c ⟨n + 1, hn⟩ (if (n + 1) % 16 = 0 then k0_pay5 else statAt c n (Nat.lt_of_succ_lt hn))

theorem statAt_first (c : Dev nD) (t : Fin cfg0.N) (h : t.val % 16 = 0) : statAt m c t.val t.isLt = stepAt m c t k0_pay5 := by
  obtain ⟨n, hn⟩ := t
  cases n with
  | zero => rfl
  | succ n => exact congrArg (stepAt m c ⟨n + 1, hn⟩) (if_pos h)

theorem statAt_later (c : Dev nD) (t : Fin cfg0.N) (h : ¬t.val % 16 = 0) :
    statAt m c t.val t.isLt = stepAt m c t (statAt m c (t.val - 1) (Nat.lt_of_le_of_lt (Nat.sub_le _ _) t.isLt)) := by
  obtain ⟨n, hn⟩ := t
  cases n with
  | zero => exact absurd (Nat.zero_mod _) h
  | succ n => exact congrArg (stepAt m c ⟨n + 1, hn⟩) (if_neg h)

/-- The gradient of the norm's input that tile `t` writes. -/
def dxAt (c : Dev nD) (t : Fin cfg0.N) : Vec F S256x1024 .f32 :=
  dxOf (iblk m c 0 t) (iblk m c 1 t) (iblk m c 2 t) (iblk m c 3 t) (iblk m c 4 t)

/-- What every buffer holds after tile `t`: the inputs their blocks, the outputs what is stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => statAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dxAt m c t := by dsimp only [dats]
theorem after6 (c : Dev nD) (t : Fin cfg0.N) : (dats m 0 c).after 6 t = statAt m c t.val t.isLt := by dsimp only [dats]

/-! Before the body, an input's buffer holds its block at every tile, fetched there or not. -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- At a tile that does not clear them, the statistics are as the tile before left them. -/
theorem before6 (c : Dev nD) (t : Fin cfg0.N) (h : ¬t.val % 16 = 0) (d) :
    (dats m 0 c).before 6 t d = statAt m c (t.val - 1) (Nat.lt_of_le_of_lt (Nat.sub_le _ _) t.isLt) := by
  have hN : t.val < 17 := lt_of_lt_of_eq t.isLt (show cfg0.N = 17 from N_0)
  rw [Dat.before_out_kept _ 6 rfl t (by omega) (Bool.eq_false_iff.mpr fun h => by have := (flush6 _).mp h; dsimp only at this; omega)
    (fun _ => rfl) (fun _ _ => rfl)]
  dsimp only [dats]

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  by_cases h : t.val % 16 = 0
  · rw [statAt_first m c t h]
    unfold dxAt stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_clears c (grid0.coords t) _ _ _ _ _ _ _ _ _ _ _ _ _ _ (iblk m c 0 t) (iblk m c 1 t) (iblk m c 2 t) (iblk m c 3 t) (iblk m c 4 t) ((clears_iff t).mpr h) Set.univ _)
    unfold ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    iintro ⟨⟨H0, H1, H2, H3, H4⟩, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [statAt_later m c t h]
    simp only [before6 m c t h]
    unfold dxAt stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_adds c (grid0.coords t) _ _ _ _ _ _ _ _ _ _ _ _ _ _ (iblk m c 0 t) (iblk m c 1 t) (iblk m c 2 t) (iblk m c 3 t) (iblk m c 4 t) _ (fun h' => h ((clears_iff t).mp h')) Set.univ _)
    unfold ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    iintro ⟨⟨H0, H1, H2, H3, H4⟩, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays as the tiles' write-backs leave them and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument's array is never written back. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans (A_eq m c 0)),
   ((h c).1 1).trans (((dats m 0 c).arrAt_in 1 rfl _).trans (A_eq m c 1)),
   ((h c).1 2).trans (((dats m 0 c).arrAt_in 2 rfl _).trans (A_eq m c 2)),
   ((h c).1 3).trans (((dats m 0 c).arrAt_in 3 rfl _).trans (A_eq m c 3)),
   ((h c).1 4).trans (((dats m 0 c).arrAt_in 4 rfl _).trans (A_eq m c 4))⟩

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_quiet m ρ)

/-- The run with the two results named. -/
theorem run_blocks : θ_run defs (onTc (τ := τ) (main (F := F))) ⟨m, fun _ => 0, ρ⟩ (fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, (h.1 c).1 6, kept m r h.1 c⟩) (run_quiet m ρ)

end Cert.NormBwdIdeal.Run

end
-- ==== Proof.NormGrads.lean ====
/-
  The gradient of a modulated norm over the extended reals. Everything is a function of a row: of the gradient `d` that
  the norm's modulated output gets, the norm's input `x`, its weight `w`, the scale `s` of the row's stream, and the
  gradient `e` that comes along the residual.

    inv              one over the root of the row's mean square, with the constant that keeps it finite
    inGrad           the gradient of the norm's input
    part             a row's part of the three statistics: of the shift's gradient, the scale's and the weight's
    dx_tile          a tile writes `inGrad` of its rows
    stat_tile        and adds its rows' parts to the statistics
    left6            what the statistics are after a tile: the sum over the stream's tiles so far
    whole5, whole6   the two results are those functions of the whole arguments
    algebraic        they are the reference's over the extended reals
-/
module

public import proofs.«01_k».proof.Defs
public import proofs.«01_k».proof.Proof.Adam
public import proofs.«01_k».proof.Proof.NormFrame
public import proofs.«01_k».proof.Proof.Gen.NormGradsIdeal.Run

@[expose] public section

noncomputable section

open Idealize.ShloMosaic Idealize.ShloMosaic.TcCoe Idealize.SL.Sem
open Idealize.ShloMosaic.Pipeline (Dat)

namespace Cert.NormBwdIdeal.Run

open Cert.NormBwdIdeal Cert.NormBwdIdeal.Gen

/-! ## One row -/

section
variable (d x w s e : Fin 1024 → EReal)

/-- A row's mean. -/
def mean (v : Fin 1024 → EReal) : EReal := Ideal.div (∑ j, v j) (Ideal.ofBits FTy.f32 1149239296#32)

def inv : EReal := Ideal.rsqrt (mean (fun j => x j * x j) + Ideal.ofBits FTy.f32 897988541#32)

def inGrad (k : Fin 1024) : EReal :=
  e k + inv x * (d k * (1 + s k) * w k - x k * inv x * mean fun j => d j * (1 + s j) * w j * (x j * inv x))

/-- Row `q` of the statistics; those from the third on are zero. -/
def part (q : ℕ) (k : Fin 1024) : EReal :=
  if q = 0 then d k else if q = 1 then d k * (x k * inv x * w k) else if q = 2 then d k * (1 + s k) * (x k * inv x) else 0

theorem part_rest {q : ℕ} (h : ¬q < 3) (k : Fin 1024) : part d x w s q k = 0 := by
  unfold part
  rw [if_neg (by omega), if_neg (by omega), if_neg (by omega)]

end

/-- A row of an array, -/
def line {T : ℕ} (A : (⟨2, ![T, 1024]⟩ : Shape).Idx → EReal) (r : Fin T) : Fin 1024 → EReal := fun k => A (ix2 r k)
/-- and the scale among a stream's modulations. -/
def scale {a : ℕ} (A : (⟨3, ![a, 6, 1024]⟩ : Shape).Idx → EReal) (l : Fin a) : Fin 1024 → EReal := fun k => A (ix3 l 1 k)

/-! ## One tile -/

section
variable (d x : Vec Ideal S256x1024 .f32) (w : Vec Ideal S1x1024 .f32) (md : Vec Ideal S1x6x1024 .f32)
  (e : Vec Ideal S256x1024 .f32) (acc : Vec Ideal S1x8x1024 .f32)

theorem inv_tile (r : Fin 256) (z : Fin 1) : k0_pay6 x (ix2 r z) = inv (line x r) := by
  unfold k0_pay6 inv mean line
  pointwise

theorem dy_tile (r : Fin 256) (k : Fin 1024) : k0_pay8 md d (ix2 r k) = line d r k * (1 + scale md 0 k) := by
  unfold k0_pay8 scale line
  pointwise

theorem dx_tile (r : Fin 256) (k : Fin 1024) :
    dxOf d x w md e (ix2 r k) = inGrad (line d r) (line x r) (line w 0) (scale md 0) (line e r) k := by
  unfold dxOf k0_pay1 k0_pay9 k0_pay7 inGrad mean
  pointwise
  simp only [inv_tile, dy_tile]
  rfl

theorem stat_tile (y : S1x8x1024.Idx) :
    statOf d x w md acc y = acc y + ∑ r : Fin 256, part (line d r) (line x r) (line w 0) (scale md 0) (y 1).val (y 2) := by
  have hy0 : (y 0).val < 1 := (y 0).isLt
  have hy (q : Fin 8) (h : (y 1).val = q.val) : (ix3 0 q (y 2) : S1x8x1024.Idx) = y := funext fun a => Fin.ext (by
    match a with
    | ⟨0, _⟩ => show 0 = (y 0).val; omega
    | ⟨1, _⟩ => exact h.symm
    | ⟨2, _⟩ => rfl)
  unfold statOf part
  by_cases h2 : (y 1).val = 2
  · simp only [h2]
    unfold k0_pay4 k0_pay7
    pointwise
    simp only [inv_tile]
    exact congrArg₂ (· + ·) (congrArg acc (hy 2 h2)) (Finset.sum_congr rfl fun r _ => congrArg (· * _) (dy_tile d md r (y 2)))
  by_cases h1 : (y 1).val = 1
  · simp only [h1]
    unfold k0_pay3 k0_pay7
    pointwise
    simp only [inv_tile]
    exact congrArg₂ (· + ·) (congrArg acc (hy 1 h1)) (Finset.sum_congr rfl fun r _ => mul_assoc _ _ _)
  by_cases h0 : (y 1).val = 0
  · simp only [h0]
    unfold k0_pay2
    pointwise
    exact congrArg₂ (· + ·) (congrArg acc (hy 0 h0)) rfl
  simp only [h0, h1, h2, if_false, Finset.sum_const_zero, add_zero]

end

/-! ## Where the blocks lie -/

/-- A tile takes the rows of its number, the whole weight, and its stream's modulations and statistics. -/
theorem tiles : ∀ t : Fin cfg0.N, win0_0.index t = ![t.val, 0] ∧ win0_1.index t = ![t.val, 0] ∧ win0_2.index t = ![0, 0]
    ∧ win0_3.index t = ![t.val / 16, 0, 0] ∧ win0_4.index t = ![t.val, 0] ∧ win0_5.index t = ![t.val, 0]
    ∧ win0_6.index t = ![t.val / 16, 0, 0] :=
  (by decide +kernel : ∀ t : Fin grid0.N, win0_0.index t = ![t.val, 0] ∧ win0_1.index t = ![t.val, 0] ∧ win0_2.index t = ![0, 0]
    ∧ win0_3.index t = ![t.val / 16, 0, 0] ∧ win0_4.index t = ![t.val, 0] ∧ win0_5.index t = ![t.val, 0]
    ∧ win0_6.index t = ![t.val / 16, 0, 0])

theorem lt17 (t : Fin cfg0.N) : t.val < 17 := lt_of_lt_of_eq t.isLt N_0

/-- A row of a tile, among all the rows, -/
def row (t : Fin cfg0.N) (r : Fin 256) : Fin 4352 := ⟨t.val * 256 + r.val, by have := lt17 t; omega⟩
/-- and the tile's stream. -/
def stream (t : Fin cfg0.N) : Fin 2 := ⟨t.val / 16, by have := lt17 t; omega⟩

section
variable (m : (ℓ : Loc nD τ sig) → Buf (Elt Ideal) ℓ) (c : Dev nD) (t : Fin cfg0.N)

theorem line0 (r : Fin 256) : line (iblk m c 0 t : Vec Ideal S256x1024 .f32) r = line (V m c main_arg0 : Vec Ideal S4352x1024 .f32) (row t r) := funext fun k =>
  congrArg (V m c main_arg0) (funext fun a => Fin.ext (by
    refine (Pipeline.Window.rect_emb_val win0_0 t (ix2 r k) a).trans ?_
    rw [(tiles t).1]
    match a with
    | ⟨0, _⟩ => rfl
    | ⟨1, _⟩ => exact Nat.zero_add _))

theorem line1 (r : Fin 256) : line (iblk m c 1 t : Vec Ideal S256x1024 .f32) r = line (V m c main_arg1 : Vec Ideal S4352x1024 .f32) (row t r) := funext fun k =>
  congrArg (V m c main_arg1) (funext fun a => Fin.ext (by
    refine (Pipeline.Window.rect_emb_val win0_1 t (ix2 r k) a).trans ?_
    rw [(tiles t).2.1]
    match a with
    | ⟨0, _⟩ => rfl
    | ⟨1, _⟩ => exact Nat.zero_add _))

theorem line2 : line (iblk m c 2 t : Vec Ideal S1x1024 .f32) 0 = line (V m c main_arg2 : Vec Ideal S1x1024 .f32) 0 := funext fun k =>
  congrArg (V m c main_arg2) (funext fun a => Fin.ext (by
    refine (Pipeline.Window.rect_emb_val win0_2 t (ix2 0 k) a).trans ?_
    rw [(tiles t).2.2.1]
    match a with
    | ⟨0, _⟩ => rfl
    | ⟨1, _⟩ => exact Nat.zero_add _))

theorem scale3 : scale (iblk m c 3 t : Vec Ideal S1x6x1024 .f32) 0 = scale (V m c main_arg3 : Vec Ideal S2x6x1024 .f32) (stream t) := funext fun k =>
  congrArg (V m c main_arg3) (funext fun a => Fin.ext (by
    refine (Pipeline.Window.rect_emb_val win0_3 t (ix3 0 1 k) a).trans ?_
    rw [(tiles t).2.2.2.1]
    match a with
    | ⟨0, _⟩ => exact Nat.mul_one _
    | ⟨1, _⟩ => rfl
    | ⟨2, _⟩ => exact Nat.zero_add _))

theorem line4 (r : Fin 256) : line (iblk m c 4 t : Vec Ideal S256x1024 .f32) r = line (V m c main_arg4 : Vec Ideal S4352x1024 .f32) (row t r) := funext fun k =>
  congrArg (V m c main_arg4) (funext fun a => Fin.ext (by
    refine (Pipeline.Window.rect_emb_val win0_4 t (ix2 r k) a).trans ?_
    rw [(tiles t).2.2.2.2.1]
    match a with
    | ⟨0, _⟩ => rfl
    | ⟨1, _⟩ => exact Nat.zero_add _))

theorem emb5 (y : S256x1024.Idx) : (win0_5.rect t).emb y = ix2 (row t (y 0)) (y 1) := funext fun a => Fin.ext (by
  refine (Pipeline.Window.rect_emb_val win0_5 t y a).trans ?_
  rw [(tiles t).2.2.2.2.2.1]
  match a with
  | ⟨0, _⟩ => rfl
  | ⟨1, _⟩ => exact Nat.zero_add _)

theorem emb6 (y : S1x8x1024.Idx) : (win0_6.rect t).emb y = ix3 (stream t) (y 1) (y 2) := funext fun a => Fin.ext (by
  refine (Pipeline.Window.rect_emb_val win0_6 t y a).trans ?_
  rw [(tiles t).2.2.2.2.2.2]
  match a with
  | ⟨0, _⟩ =>
    have h : (y 0 : Nat) < 1 := (y 0).isLt
    show t.val / 16 * 1 + (y 0 : Nat) = t.val / 16
    omega
  | ⟨1, _⟩ => exact Nat.zero_add _
  | ⟨2, _⟩ => exact Nat.zero_add _)

/-! ## The whole results -/

/-- The gradient of the input in row `i`, of stream `l`. -/
def gradRow (i : Fin 4352) (l : Fin 2) (k : Fin 1024) : EReal :=
  inGrad (line (V m c main_arg0 : Vec Ideal S4352x1024 .f32) i) (line (V m c main_arg1 : Vec Ideal S4352x1024 .f32) i)
    (line (V m c main_arg2 : Vec Ideal S1x1024 .f32) 0) (scale (V m c main_arg3 : Vec Ideal S2x6x1024 .f32) l)
    (line (V m c main_arg4 : Vec Ideal S4352x1024 .f32) i) k

/-- What row `i`, of stream `l`, adds to row `q` of the statistics. -/
def partRow (i : Fin 4352) (l : Fin 2) (q : ℕ) (k : Fin 1024) : EReal :=
  part (line (V m c main_arg0 : Vec Ideal S4352x1024 .f32) i) (line (V m c main_arg1 : Vec Ideal S4352x1024 .f32) i)
    (line (V m c main_arg2 : Vec Ideal S1x1024 .f32) 0) (scale (V m c main_arg3 : Vec Ideal S2x6x1024 .f32) l) q k

/-- The first result: the first 4096 rows are of the first stream. -/
def grads (i : S4352x1024.Idx) : EReal := gradRow m c (i 0) (if (i 0).val < 4096 then 0 else 1) (i 1)

/-- The second: each stream's sum over its rows. -/
def stats (i : S2x8x1024.Idx) : EReal :=
  if (i 0).val = 0 then ∑ r : Fin 4096, partRow m c ⟨r.val, by omega⟩ 0 (i 1).val (i 2)
  else ∑ r : Fin 256, partRow m c ⟨4096 + r.val, by omega⟩ 1 (i 1).val (i 2)

theorem stats_first {j : S2x8x1024.Idx} (hs : (j 0).val = 0) {q : ℕ} (h : (j 1).val = q) :
    stats m c j = ∑ r : Fin 4096, partRow m c ⟨r.val, by omega⟩ 0 q (j 2) := by
  unfold stats
  rw [if_pos hs, h]

theorem stats_second {j : S2x8x1024.Idx} (hs : ¬(j 0).val = 0) {q : ℕ} (h : (j 1).val = q) :
    stats m c j = ∑ r : Fin 256, partRow m c ⟨4096 + r.val, by omega⟩ 1 q (j 2) := by
  unfold stats
  rw [if_neg hs, h]

theorem stats_rest {j : S2x8x1024.Idx} (h : ¬(j 1).val < 3) : stats m c j = 0 := by
  unfold stats
  by_cases hs : (j 0).val = 0
  · rw [if_pos hs]
    exact Finset.sum_eq_zero fun r _ => part_rest _ _ _ _ h _
  · rw [if_neg hs]
    exact Finset.sum_eq_zero fun r _ => part_rest _ _ _ _ h _

theorem left5 (r : Fin 256) (k : Fin 1024) : dxAt m c t (ix2 r k) = gradRow m c (row t r) (stream t) k := by
  unfold dxAt
  refine (dx_tile _ _ _ _ _ r k).trans ?_
  rw [line0, line1, line2, scale3, line4]
  rfl

theorem step6 (acc : Vec Ideal S1x8x1024 .f32) (y : S1x8x1024.Idx) : stepAt m c t acc y =
    acc y + ∑ r : Fin 256, partRow m c (row t r) (stream t) (y 1).val (y 2) := by
  unfold stepAt
  refine (stat_tile _ _ _ _ _ y).trans ?_
  simp only [line0, line1, line2, scale3]
  rfl

theorem cleared (y : S1x8x1024.Idx) : k0_pay5 (F := Ideal) y = 0 := by
  unfold k0_pay5
  pointwise

/-- After a tile of the first stream the statistics are the sum over its tiles so far. -/
theorem left6 (y : S1x8x1024.Idx) : ∀ (n : ℕ) (h : n < cfg0.N), n < 16 → statAt m c n h y =
    ∑ s : Fin (n + 1), ∑ r : Fin 256,
      partRow m c (row ⟨s.val, lt_of_le_of_lt (Nat.le_of_lt_succ s.isLt) h⟩ r) 0 (y 1).val (y 2)
  | 0, h, _ => by
    refine (congrFun (statAt_first m c ⟨0, h⟩ rfl) y).trans ?_
    have e : stream ⟨0, h⟩ = 0 := Fin.ext (Nat.zero_div 16)
    rw [step6, cleared, zero_add, Fin.sum_univ_one, e]
    rfl
  | n + 1, h, hn => by
    refine (congrFun (statAt_later m c ⟨n + 1, h⟩ (by show ¬(n + 1) % 16 = 0; omega)) y).trans ?_
    rw [step6]
    refine (congrArg (· + _) (left6 y n (Nat.lt_of_succ_lt h) (by omega))).trans ?_
    refine Eq.trans ?_ (Fin.sum_univ_castSucc _).symm
    have e : stream ⟨n + 1, h⟩ = 0 := Fin.ext (by show (n + 1) / 16 = 0; omega)
    rw [e]
    rfl

/-- The rows of the first stream, tile by tile. -/
theorem sum_rows (f : Fin 4096 → EReal) :
    ∑ s : Fin 16, ∑ r : Fin 256, f ⟨s.val * 256 + r.val, by omega⟩ = ∑ i : Fin 4096, f i := by
  rw [← Fintype.sum_prod_type']
  refine Fintype.sum_equiv (finProdFinEquiv (m := 16) (n := 256)) _ _ fun p => congrArg f (Fin.ext ?_)
  show p.1.val * 256 + p.2.val = p.2.val + 256 * p.1.val
  omega

/-- The first result is the gradient in every row. -/
theorem whole5 : (dats m 0 c).arrAt 5 cfg0.N = grads m c :=
  (dats m 0 c).arrAt_eq_of_cover 5 _
    (fun t _ => by
      show (cfg0.win 5).cut (grid0.coords t) ((dats m 0 c).after 5 t) = _
      rw [after5]
      funext y
      refine (congrArg (dxAt m c t) (ix2_eta (n0 := 256) (n1 := 1024) y).symm).trans ((left5 m c t (y 0) (y 1)).trans ?_)
      show _ = grads m c ((win0_5.rect t).emb y)
      rw [emb5 t y]
      refine congrArg (fun l => gradRow m c (row t (y 0)) l (y 1)) ?_
      show stream t = if t.val * 256 + (y 0 : Nat) < 4096 then 0 else 1
      have hr : (y 0 : Nat) < 256 := (y 0).isLt
      have ht := lt17 t
      by_cases h : t.val < 16
      · rw [if_pos (show t.val * 256 + (y 0 : Nat) < 4096 by omega)]
        exact Fin.ext (show t.val / 16 = 0 by omega)
      · rw [if_neg (show ¬t.val * 256 + (y 0 : Nat) < 4096 by omega)]
        exact Fin.ext (show t.val / 16 = 1 by omega))
    fun i => by
      have hi : (i 0 : Nat) < 4352 := (i 0).isLt
      have hN : (i 0 : Nat) / 256 < cfg0.N := lt_of_lt_of_eq (by omega) N_0.symm
      refine ⟨⟨(i 0 : Nat) / 256, hN⟩, flush5 _, ?_⟩
      have e : ((View.whole main_v0_0).slice (win0_5.rect ⟨(i 0 : Nat) / 256, hN⟩)).emb
          (ix2 (⟨(i 0 : Nat) % 256, by omega⟩ : Fin 256) (i 1)) = i := by
        refine (emb5 ⟨(i 0 : Nat) / 256, hN⟩ (ix2 _ (i 1))).trans (Eq.trans ?_ (ix2_eta i))
        exact congrArg (fun r => ix2 r (i 1)) (Fin.ext (show (i 0 : Nat) / 256 * 256 + (i 0 : Nat) % 256 = (i 0 : Nat) by omega))
      exact Eq.mp (congrArg (· ∈ ((View.whole main_v0_0).slice (win0_5.rect ⟨(i 0 : Nat) / 256, hN⟩)).set) e) (View.emb_mem_set _ _)

/-- The second is the sum over each stream. -/
theorem whole6 : (dats m 0 c).arrAt 6 cfg0.N = stats m c :=
  (dats m 0 c).arrAt_eq_of_cover 6 _
    (fun t hf => by
      have h15 : 15 ≤ t.val := (flush6 t).mp hf
      have ht := lt17 t
      show (cfg0.win 6).cut (grid0.coords t) ((dats m 0 c).after 6 t) = _
      rw [after6]
      funext y
      show statAt m c t.val t.isLt y = stats m c ((win0_6.rect t).emb y)
      rw [emb6 t y]
      obtain ⟨n, hn⟩ := t
      rcases (show n = 15 ∨ n = 16 by dsimp only at h15 ht; omega) with rfl | rfl
      · refine (left6 m c y 15 hn (by omega)).trans ?_
        exact (sum_rows fun i => partRow m c ⟨i.val, by omega⟩ 0 (y 1).val (y 2)).trans (if_pos (show 15 / 16 = 0 by decide)).symm
      · refine (congrFun (statAt_first m c ⟨16, hn⟩ (Nat.mod_self 16)) y).trans ?_
        have e : stream ⟨16, hn⟩ = 1 := Fin.ext (show 16 / 16 = 1 by decide)
        rw [step6, cleared, zero_add, e]
        exact (if_neg (show ¬(1 : Fin 2).val = 0 by decide)).symm)
    fun i => by
      have hi : (i 0 : Nat) < 2 := (i 0).isLt
      have hN : 15 + (i 0 : Nat) < cfg0.N := lt_of_lt_of_eq (by omega) N_0.symm
      refine ⟨⟨15 + (i 0 : Nat), hN⟩, (flush6 _).mpr (Nat.le_add_right _ _), ?_⟩
      have e : ((View.whole main_v0_1).slice (win0_6.rect ⟨15 + (i 0 : Nat), hN⟩)).emb (ix3 0 (i 1) (i 2)) = i := by
        refine (emb6 ⟨15 + (i 0 : Nat), hN⟩ (ix3 0 (i 1) (i 2))).trans (Eq.trans ?_ (ix3_eta i))
        exact congrArg (fun l => ix3 l (i 1) (i 2)) (Fin.ext (show (15 + (i 0 : Nat)) / 16 = (i 0 : Nat) by omega))
      exact Eq.mp (congrArg (· ∈ ((View.whole main_v0_1).slice (win0_6.rect ⟨15 + (i 0 : Nat), hN⟩)).set) e) (View.emb_mem_set _ _)

end

/-- The two results are the reference's, over the extended reals. -/
theorem algebraic : Cert.algebraic_NormBwdIdeal_NormGradsIdeal := by
  intro m g m' g' _ hin
  refine ⟨grads m, stats m,
    (θ_run defs _ _).mono (fun r h c => ⟨(h c).1.trans (whole5 m c), (h c).2.1.trans (whole6 m c), (h c).2.2⟩) (run_blocks m g),
    (θ_run Cert.NormGradsIdeal.defs _ _).mono (fun r h c => ⟨?_, ?_, (h c).2.2⟩) (Cert.NormGradsIdeal.Value.run m' g')⟩
  · have r0 := (h c).1
    unfold Cert.NormGradsIdeal.Value.res_main_v88 at r0
    rw [(hin c).1, (hin c).2.1, (hin c).2.2.1, (hin c).2.2.2.1, (hin c).2.2.2.2] at r0
    refine r0.trans ?_
    funext i
    unfold grads gradRow inGrad inv mean line scale
    pointwise
    by_cases hi : (i 0).val < 4096
    · rw [dif_pos hi, if_pos hi]
    · rw [dif_neg hi, if_neg hi]
      have e (h) : (⟨4096 + ((i 0).val - 4096), h⟩ : Fin 4352) = i 0 :=
        Fin.ext (show 4096 + ((i 0).val - 4096) = (i 0).val by omega)
      simp only [e, ix2_eta]
  · have r0 := (h c).2.1
    unfold Cert.NormGradsIdeal.Value.res_main_v92 at r0
    rw [(hin c).1, (hin c).2.1, (hin c).2.2.1, (hin c).2.2.2.1] at r0
    refine r0.trans ?_
    clear r0
    funext j
    pointwise
    have h2 : (j 0).val < 2 := (j 0).isLt
    by_cases h3 : (j 1).val < 3
    · rw [dif_pos h3]
      by_cases hs : (j 0).val = 0
      · rw [dif_pos (show (j 0).val < 1 by omega)]
        by_cases h0 : (j 1).val = 0
        · rw [dif_pos (show (j 1).val < 1 by omega)]
          exact (stats_first m c hs h0).symm
        rw [dif_neg (show ¬(j 1).val < 1 by omega)]
        by_cases h1 : (j 1).val = 1
        · rw [dif_pos (show (j 1).val - 1 < 1 by omega)]
          exact (stats_first m c hs h1).symm
        · rw [dif_neg (show ¬(j 1).val - 1 < 1 by omega)]
          exact (stats_first m c hs (show (j 1).val = 2 by omega)).symm
      · rw [dif_neg (show ¬(j 0).val < 1 by omega)]
        by_cases h0 : (j 1).val = 0
        · rw [dif_pos (show (j 1).val < 1 by omega)]
          exact (stats_second m c hs h0).symm
        rw [dif_neg (show ¬(j 1).val < 1 by omega)]
        by_cases h1 : (j 1).val = 1
        · rw [dif_pos (show (j 1).val - 1 < 1 by omega)]
          exact (stats_second m c hs h1).symm
        · rw [dif_neg (show ¬(j 1).val - 1 < 1 by omega)]
          exact (stats_second m c hs (show (j 1).val = 2 by omega)).symm
    · rw [dif_neg h3, stats_rest m c h3]
      show ((((0#32 : BitVec 32).toInt : ℝ)) : EReal) = 0
      simp

end Cert.NormBwdIdeal.Run
-- ==== Proof.Loss.lean ====
/-
The loss: half the mean square error of the image rows, each row's mean square added over the rows of eight devices.
The kernel halves and divides inside each tile's column sums, and adds over columns last.
-/
module

public import proofs.«01_k».proof.Proof.LossFrame
public import proofs.«01_k».proof.Proof.NormGrads
public import proofs.«01_k».proof.Proof.Gen.LossIdeal.Run

@[expose] public section

noncomputable section

open Idealize.ShloMosaic Idealize.ShloMosaic.TcCoe Idealize.SL.Sem
open Idealize.ShloMosaic.Pipeline (Dat)
open Cert.NormBwdIdeal.Run (mean inv line sum_rows)

namespace Cert.LossHeadIdeal.Run

open Cert.LossHeadIdeal Cert.LossHeadIdeal.Gen

/-! ## Sums of squares -/

theorem square_nonneg (x : EReal) : 0 ≤ x * x := by
  rcases le_total 0 x with h | h
  · exact EReal.mul_nonneg h h
  · rw [← neg_mul_neg]
    have h' : 0 ≤ -x := by rw [← neg_zero]; exact EReal.neg_le_neg_iff.mpr h
    exact EReal.mul_nonneg h' h'

theorem mul_total {ι : Type} (s : Finset ι) (k : EReal) (f : ι → EReal) (hf : ∀ i, 0 ≤ f i) : k * ∑ i ∈ s, f i = ∑ i ∈ s, k * f i := by
  classical
  induction s using Finset.induction_on with
  | empty => simp
  | insert a s ha ih => rw [Finset.sum_insert ha, Finset.sum_insert ha, EReal.left_distrib_of_nonneg (hf a) (Finset.sum_nonneg fun i _ => hf i), ih]

/-- What the kernel multiplies the squares by. -/
abbrev fac : EReal := Ideal.ofBits FTy.f32 0x3A000000#32

theorem fac_eq : fac = ((1 / 2048 : ℝ) : EReal) := by
  simp [fac, Ideal.ofBits, Ideal.ieee, -EReal.coe_mul]; norm_num

theorem half_eq : Ideal.ofBits FTy.f32 1056964608#32 = ((1 / 2 : ℝ) : EReal) := by
  simp [Ideal.ofBits, Ideal.ieee, -EReal.coe_mul]; norm_num

theorem length_eq : Ideal.ofBits FTy.f32 1149239296#32 = ((1024 : ℝ) : EReal) := by
  simp [Ideal.ofBits, Ideal.ieee, -EReal.coe_mul]; norm_num

theorem over_length (x : EReal) : Ideal.div x (Ideal.ofBits FTy.f32 1149239296#32) = x * ((1 / 1024 : ℝ) : EReal) := by
  unfold Ideal.div
  rw [length_eq, if_neg (by norm_cast), ← EReal.coe_inv]
  norm_num

/-- The kernel's factor is half of the division by a row's length. -/
theorem factor (x : EReal) :
    Ideal.ofBits FTy.f32 1056964608#32 * Ideal.div x (Ideal.ofBits FTy.f32 1149239296#32) = fac * x := by
  rw [over_length, half_eq, fac_eq, mul_comm x, ← mul_assoc, ← EReal.coe_mul]
  norm_num

/-- Half the sum of the rows' means, with the factor inside every sum. -/
theorem halves (S : Fin 8 → Fin 4096 → Fin 1024 → EReal) (hS : ∀ d i k, 0 ≤ S d i k) :
    Ideal.ofBits FTy.f32 1056964608#32 * ∑ d, ∑ i, Ideal.div (∑ k, S d i k) (Ideal.ofBits FTy.f32 1149239296#32)
      = ∑ d, ∑ i, ∑ k, fac * S d i k := by
  have hd (d i) : 0 ≤ Ideal.div (∑ k, S d i k) (Ideal.ofBits FTy.f32 1149239296#32) := by
    rw [over_length]
    exact EReal.mul_nonneg (Finset.sum_nonneg fun k _ => hS d i k) (EReal.coe_nonneg.mpr (by norm_num))
  refine (mul_total _ _ _ fun d => Finset.sum_nonneg fun i _ => hd d i).trans (Finset.sum_congr rfl fun d _ => ?_)
  refine (mul_total _ _ _ fun i => hd d i).trans (Finset.sum_congr rfl fun i _ => ?_)
  exact (factor _).trans (mul_total _ _ _ fun k => hS d i k)

/-- The square of a row's error. -/
def sq (x w tgt : Fin 1024 → EReal) (k : Fin 1024) : EReal := (x k * inv x * w k - tgt k) * (x k * inv x * w k - tgt k)

/-! ## One tile -/

section
variable (x : Vec Ideal S256x1024 .f32) (w : Vec Ideal S1x1024 .f32) (tgt : Vec Ideal S256x1024 .f32) (acc : Vec Ideal S8x1024 .f32)

theorem inv_tile (r : Fin 256) (z : Fin 1) : k0_pay5 x (ix2 r z) = inv (line x r) := by
  unfold k0_pay5 k0_pay4 Cert.NormBwdIdeal.Run.inv mean line
  pointwise

theorem stat_tile (k : Fin 1024) : statOf x w tgt acc (ix2 1 k)
    = acc (ix2 1 k) + fac * ∑ r : Fin 256, sq (line x r) (line w 0) (line tgt r) k := by
  unfold statOf
  refine (if_pos rfl).trans ?_
  unfold k0_pay2 k0_pay8 k0_pay6 k0_pay7 k0_pay4 sq line
  pointwise
  simp only [inv_tile]
  rfl

end

/-! ## Where the blocks lie -/

theorem tiles : ∀ t : Fin cfg0.N, win0_0.index t = ![t.val, 0] ∧ (t.val < 16 → win0_1.index t = ![t.val, 0]) ∧ win0_2.index t = ![0, 0]
    ∧ win0_4.index t = ![0, 0] :=
  (by decide +kernel : ∀ t : Fin grid0.N, win0_0.index t = ![t.val, 0] ∧ (t.val < 16 → win0_1.index t = ![t.val, 0]) ∧ win0_2.index t = ![0, 0]
    ∧ win0_4.index t = ![0, 0])

/-- The square of the error of image row `i` on device `c`. -/
def sqRow (m : (ℓ : Loc nD τ sig) → Buf (Elt Ideal) ℓ) (c : Dev nD) (i : Fin 4096) (k : Fin 1024) : EReal :=
  sq (line (V₀ m c main_arg0 : Vec Ideal S4352x1024 .f32) ⟨i.val, by omega⟩) (line (V₀ m c main_arg2 : Vec Ideal S1x1024 .f32) 0)
    (line (V₀ m c main_arg1 : Vec Ideal S4096x1024 .f32) i) k

theorem sqRow_nonneg (m : (ℓ : Loc nD τ sig) → Buf (Elt Ideal) ℓ) (c : Dev nD) (i : Fin 4096) (k : Fin 1024) : 0 ≤ sqRow m c i k := square_nonneg _

section
variable (m : (ℓ : Loc nD τ sig) → Buf (Elt Ideal) ℓ) (c : Dev nD) (t : Fin cfg0.N) (ht : t.val < 16)

theorem line0 (r : Fin 256) : line (iblk m c 0 t : Vec Ideal S256x1024 .f32) r
    = line (V₀ m c main_arg0 : Vec Ideal S4352x1024 .f32) ⟨t.val * 256 + r.val, by omega⟩ := funext fun k =>
  congrArg (V₀ m c main_arg0) (funext fun a => Fin.ext (by
    refine (Pipeline.Window.rect_emb_val win0_0 t (ix2 r k) a).trans ?_
    rw [(tiles t).1]
    match a with
    | ⟨0, _⟩ => rfl
    | ⟨1, _⟩ => exact Nat.zero_add _))

theorem line1 (r : Fin 256) : line (iblk m c 1 t : Vec Ideal S256x1024 .f32) r
    = line (V₀ m c main_arg1 : Vec Ideal S4096x1024 .f32) ⟨t.val * 256 + r.val, by omega⟩ := funext fun k =>
  congrArg (V₀ m c main_arg1) (funext fun a => Fin.ext (by
    refine (Pipeline.Window.rect_emb_val win0_1 t (ix2 r k) a).trans ?_
    rw [(tiles t).2.1 ht]
    match a with
    | ⟨0, _⟩ => rfl
    | ⟨1, _⟩ => exact Nat.zero_add _))

theorem line2 : line (iblk m c 2 t : Vec Ideal S1x1024 .f32) 0 = line (V₀ m c main_arg2 : Vec Ideal S1x1024 .f32) 0 := funext fun k =>
  congrArg (V₀ m c main_arg2) (funext fun a => Fin.ext (by
    refine (Pipeline.Window.rect_emb_val win0_2 t (ix2 0 k) a).trans ?_
    rw [(tiles t).2.2.1]
    match a with
    | ⟨0, _⟩ => rfl
    | ⟨1, _⟩ => exact Nat.zero_add _))

theorem step (acc : Vec Ideal S8x1024 .f32) (k : Fin 1024) : stepAt m c t acc (ix2 1 k) =
    acc (ix2 1 k) + fac * ∑ r : Fin 256, sqRow m c ⟨t.val * 256 + r.val, by omega⟩ k := by
  unfold stepAt
  rw [if_pos ht]
  refine (stat_tile _ _ _ _ k).trans ?_
  simp only [line0 m c t ht, line1 m c t ht, line2]
  rfl

end

section
variable (m : (ℓ : Loc nD τ sig) → Buf (Elt Ideal) ℓ) (c : Dev nD)

/-- After a tile of image rows the second row of the statistics is the sum over the tiles so far. -/
theorem left4 (k : Fin 1024) : ∀ (n : ℕ) (h : n < cfg0.N) (hn : n < 16), statAt m c n h (ix2 1 k) =
    ∑ s : Fin (n + 1), fac * ∑ r : Fin 256, sqRow m c ⟨s.val * 256 + r.val, by omega⟩ k
  | 0, h, hn => by
    refine (step m c ⟨0, h⟩ hn _ k).trans ?_
    rw [Fin.sum_univ_one]
    refine (congrArg (· + _) ?_).trans (zero_add _)
    unfold k0_pay1
    pointwise
  | n + 1, h, hn => by
    refine (step m c ⟨n + 1, h⟩ hn _ k).trans ?_
    refine (congrArg (· + _) (left4 k n (Nat.lt_of_succ_lt h) (by omega))).trans ?_
    exact (Fin.sum_univ_castSucc (n := n + 1) fun s => fac * ∑ r : Fin 256, sqRow m c ⟨s.val * 256 + r.val, by omega⟩ k).symm

theorem emb4 (t : Fin cfg0.N) (y : S8x1024.Idx) : (win0_4.rect t).emb y = y := funext fun a => Fin.ext (by
  refine (Pipeline.Window.rect_emb_val win0_4 t y a).trans ?_
  rw [(tiles t).2.2.2]
  match a with
  | ⟨0, _⟩ => exact Nat.zero_add _
  | ⟨1, _⟩ => exact Nat.zero_add _)

theorem last : 16 < cfg0.N := lt_of_lt_of_eq (by decide) N_0.symm

/-- The statistics' array ends as the last tile leaves the block. -/
theorem whole4 : (dats m 0 c).arrAt 4 cfg0.N = (statAt m c 16 last : Vec Ideal S8x1024 .f32) :=
  (dats m 0 c).arrAt_eq_of_cover 4 _
    (fun t hf => by
      have h16 := (flush0_4 t).mp hf
      have hN : t.val < 17 := lt_of_lt_of_eq t.isLt N_0
      obtain ⟨n, hn⟩ := t
      obtain rfl : n = 16 := by dsimp only at h16 hN; omega
      show (cfg0.win 4).cut (grid0.coords ⟨16, hn⟩) ((dats m 0 c).after 4 ⟨16, hn⟩) = _
      rw [after4]
      funext y
      exact (congrArg (statAt m c 16 last) (emb4 ⟨16, hn⟩ y)).symm)
    fun i => by
      refine ⟨⟨16, last⟩, (flush0_4 _).mpr rfl, ?_⟩
      exact Eq.mp (congrArg (· ∈ ((View.whole main_v1_1).slice (win0_4.rect ⟨16, last⟩)).set) (emb4 ⟨16, last⟩ i)) (View.emb_mem_set _ _)

/-- What device `c` sends, over the extended reals. -/
theorem sends (z : S_.Idx) : (V₂ m c main_v4 : Vec Ideal S_ .f32) z =
    ∑ i : Fin 4096, ∑ k : Fin 1024, fac * sqRow m c i k := by
  rw [sent, whole4]
  have e (k : Fin 1024) : statAt m c 16 last (ix2 1 k) = ∑ i : Fin 4096, fac * sqRow m c i k := by
    show stepAt m c ⟨16, last⟩ (statAt m c 15 (Nat.lt_of_succ_lt last)) (ix2 1 k) = _
    unfold stepAt
    rw [if_neg (show ¬16 < 16 by decide)]
    refine (left4 m c k 15 (Nat.lt_of_succ_lt last) (by decide)).trans ?_
    rw [← sum_rows]
    exact Finset.sum_congr rfl fun s _ => mul_total _ _ _ fun r => sqRow_nonneg m c _ k
  have h : ∑ k : Fin 1024, ∑ i : Fin 4096, fac * sqRow m c i k = ∑ i, ∑ k, fac * sqRow m c i k := Finset.sum_comm
  refine Eq.trans (α := EReal) ?_ h
  pointwise
  exact Finset.sum_congr rfl fun k _ => e k

end

/-- The sum over the devices. -/
theorem total (v : Fin 8 → S_.Idx → EReal) : (ar0 (F := Ideal)).foldGroup v = fun z => ∑ j, v j z := by
  funext z
  show ((List.finRange 8).drop 1).foldl (fun a j => a + v j z) (v 0 z) = _
  rw [show (List.finRange 8).drop 1 = [1, 2, 3, 4, 5, 6, 7] by decide, Fin.sum_univ_eight]
  rfl

theorem peers : ∀ (c : Dev nD) (j : Fin 8), (ar0 (F := Ideal)).peer c j = j :=
  (by decide : ∀ c j : Fin 8, (ar0 (F := Ideal)).peer c j = j)

/-- The loss is the reference's, over the extended reals. -/
theorem algebraic : Cert.algebraic_LossHeadIdeal_LossIdeal := by
  intro m g m' g' _ hin
  refine ⟨fun _ => (∑ d : Fin 8, ∑ i : Fin 4096, ∑ k : Fin 1024, fac * sqRow m d i k : EReal),
    (θ_run defs _ _).mono (fun r h c => ⟨(h c).1.trans ?_, (h c).2⟩) (run_sum m g),
    (θ_run Cert.LossIdeal.defs _ _).mono (fun r h => ⟨(h 0).1.trans ?_, (h 0).2⟩) (Cert.LossIdeal.Value.run m' g')⟩
  · refine (total _).trans (funext fun z => Finset.sum_congr rfl fun d _ => ?_)
    rw [peers]
    exact sends m d z
  · funext z
    unfold sqRow sq Cert.NormBwdIdeal.Run.inv mean line
    pointwise
    refine (halves _ fun _ _ _ => square_nonneg _).trans (Finset.sum_congr rfl fun d _ => ?_)
    have a0 (i : Fin 4352) (k : Fin 1024) : V₀ m d main_arg0 (ix2 i k)
        = m' (((0 : Dev Cert.LossIdeal.nD).tc : Thread Cert.LossIdeal.nD Cert.LossIdeal.τ).loc Cert.LossIdeal.main_arg0) (ix2 ⟨d.val * 4352 + i.val, by omega⟩ k) := by
      refine (congrFun (hin d).1 (ix2 i k)).trans (congrArg (m' _) (funext fun a => Fin.ext ?_))
      match a with
      | ⟨0, _⟩ => rfl
      | ⟨1, _⟩ => rfl
    have a1 (i : Fin 4096) (k : Fin 1024) : V₀ m d main_arg1 (ix2 i k)
        = m' (((0 : Dev Cert.LossIdeal.nD).tc : Thread Cert.LossIdeal.nD Cert.LossIdeal.τ).loc Cert.LossIdeal.main_arg1) (ix2 ⟨d.val * 4096 + i.val, by omega⟩ k) := by
      refine (congrFun (hin d).2.1 (ix2 i k)).trans (congrArg (m' _) (funext fun a => Fin.ext ?_))
      match a with
      | ⟨0, _⟩ => rfl
      | ⟨1, _⟩ => rfl
    have a2 (k : Fin 1024) : V₀ m d main_arg2 (ix2 0 k)
        = m' (((0 : Dev Cert.LossIdeal.nD).tc : Thread Cert.LossIdeal.nD Cert.LossIdeal.τ).loc Cert.LossIdeal.main_arg2) (ix2 0 k) :=
      congrFun (hin d).2.2 (ix2 0 k)
    simp only [a0, a1, a2]

end Cert.LossHeadIdeal.Run

end
-- ==== Proof.WeightGrads.lean ====
/-
  The call that makes a weight's gradient: a point of its grid takes a block of the columns of the layer's input and the whole
  gradient of its output, and writes that block's rows of the product, summed over all the rows of both.

    product     the result of the whole call, index by index
    block       a point's block of it
    whole2      the result is that function of the whole arguments
    algebraic   it is the reference's over the extended reals
-/
module

public import proofs.«01_k».proof.Defs
public import proofs.«01_k».proof.Proof.Tile
public import proofs.«01_k».proof.Proof.Adam
public import proofs.«01_k».proof.Proof.Gen.WeightGradIdeal.Value
public import proofs.«01_k».proof.Proof.Gen.ProductGradIdeal.Run

@[expose] public section

noncomputable section

open Idealize.ShloMosaic Idealize.ShloMosaic.TcCoe Idealize.SL.Sem
open Idealize.ShloMosaic.Pipeline (Dat)

namespace Cert.WeightGradIdeal.Value

open Cert.WeightGradIdeal Cert.WeightGradIdeal.Gen

variable (m : (ℓ : Loc nD τ sig) → Buf (Elt Ideal) ℓ)

/-- The transpose of the input times the gradient of the output. -/
def product (a : Vec Ideal S4352x3072 .bf16) (b : Vec Ideal S4352x1024 .bf16) : Vec Ideal S3072x1024 .bf16 :=
  fun i => ∑ k : Fin 4352, a (ix2 k (i 0)) * b (ix2 k (i 1))

/-- A point's block is computed from its columns of the input. -/
theorem block (a : Vec Ideal S4352x768 .bf16) (b : Vec Ideal S4352x1024 .bf16) (y : S768x1024.Idx) :
    out0_2 a b y = ∑ k : Fin 4352, a (ix2 k (y 0)) * b (ix2 k (y 1)) := by
  unfold out0_2
  rw [View.canon_unit_zero Tile.two0]
  simp only [View.ld_unit_zero (S := S4352x768) Tile.two0, View.ld_unit_zero (S := S4352x1024) Tile.two0]
  unfold k0_pay1
  pointwise

/-- A point takes the columns of its number, all of the gradient, and the rows of its number of the result. -/
theorem blocks : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- A point's place in the columns of the input, or in the rows of the result. -/
def place (t : Fin cfg0.N) (r : Fin 768) : Fin 3072 :=
  ⟨t.val * 768 + r.val, by have h := lt_of_lt_of_eq t.isLt N_0; omega⟩

/-- Where a point's block of the input lies. -/
theorem emb0 (t : Fin cfg0.N) (k : Fin 4352) (r : Fin 768) : (win0_0.rect t).emb (ix2 k r) = ix2 k (place t r) :=
  funext fun a => Fin.ext (by
    refine (Pipeline.Window.rect_emb_val win0_0 t (ix2 k r) a).trans ?_
    rw [(blocks t).1]
    match a with
    | ⟨0, _⟩ => exact (congrArg (· + k.val) (Nat.zero_mul 4352)).trans (Nat.zero_add _)
    | ⟨1, _⟩ => rfl)

/-- Where the gradient of the output lies. -/
theorem emb1 (t : Fin cfg0.N) (y : S4352x1024.Idx) : (win0_1.rect t).emb y = y := funext fun a => Fin.ext (by
  refine (Pipeline.Window.rect_emb_val win0_1 t y a).trans ?_
  rw [(blocks t).2.1]
  match a with
  | ⟨0, _⟩ => exact (congrArg (· + (y 0).val) (Nat.zero_mul 4352)).trans (Nat.zero_add _)
  | ⟨1, _⟩ => exact Nat.zero_add _)

/-- Where a point's block of the result lies. -/
theorem emb2 (t : Fin cfg0.N) (y : S768x1024.Idx) : (win0_2.rect t).emb y = ix2 (place t (y 0)) (y 1) :=
  funext fun a => Fin.ext (by
    refine (Pipeline.Window.rect_emb_val win0_2 t y a).trans ?_
    rw [(blocks t).2.2]
    match a with
    | ⟨0, _⟩ => rfl
    | ⟨1, _⟩ => exact Nat.zero_add _)

/-- The result is the product of the whole arguments. -/
theorem whole2 (c : Dev nD) : (dats m 0 c).arrAt 2 cfg0.N = product (V m c main_arg0) (V m c main_arg1) :=
  (dats m 0 c).arrAt_eq_of_cover 2 _
    (fun t _ => by
      rw [flushed2]
      funext y
      refine (block (fun z => V m c main_arg0 ((win0_0.rect t).emb z)) (fun z => V m c main_arg1 ((win0_1.rect t).emb z)) y).trans ?_
      show _ = product (V m c main_arg0) (V m c main_arg1) ((win0_2.rect t).emb y)
      rw [emb2 t y]
      exact Finset.sum_congr rfl fun k _ => congrArg₂ (· * ·) (congrArg (V m c main_arg0) (emb0 t k (y 0)))
        (congrArg (V m c main_arg1) (emb1 t (ix2 k (y 1)))))
    fun i => by
      have hi : (i 0 : Nat) < 3072 := (i 0).isLt
      have hN : (i 0 : Nat) / 768 < cfg0.N := lt_of_lt_of_eq (show (i 0 : Nat) / 768 < 4 by omega) N_0.symm
      refine ⟨⟨_, hN⟩, flush0_2 _, ?_⟩
      have e : ((View.whole main_v0).slice (win0_2.rect ⟨_, hN⟩)).emb (ix2 ⟨(i 0 : Nat) % 768, Nat.mod_lt _ (by decide)⟩ (i 1)) = i :=
        (emb2 ⟨_, hN⟩ _).trans ((congrArg (ix2 · (i 1)) (Fin.ext (Nat.div_add_mod' _ _))).trans (ix2_eta i))
      exact Eq.mp (congrArg (· ∈ ((View.whole main_v0).slice (win0_2.rect ⟨_, hN⟩)).set) e) (View.emb_mem_set _ _)

/-- The result is the reference's, over the extended reals. -/
theorem algebraic : Cert.algebraic_WeightGradIdeal_ProductGradIdeal := by
  intro m g m' g' _ hin
  refine ⟨fun c => product (V m c main_arg0) (V m c main_arg1),
    (θ_run defs _ _).mono (fun r h c => ⟨(h c).1.trans (whole2 m c), (h c).2⟩) (run_blocks m g),
    (θ_run Cert.ProductGradIdeal.defs _ _).mono (fun r h c => ⟨?_, (h c).2⟩) (Cert.ProductGradIdeal.Value.run m' g')⟩
  have r0 := (h c).1
  obtain ⟨h0, h1⟩ := hin c
  rw [h0, h1] at r0
  refine r0.trans ?_
  funext i
  unfold product
  pointwise

end Cert.WeightGradIdeal.Value
-- ==== Proof.Hidden.lean ====
/-
  The call that makes the hidden activation: a point of its grid takes 256 rows of the layer's input and both weights, and
  writes those rows of the two products and of the silu of the first times the second.

    product         rows times rows, index by index
    in0, in1, in2   what a point reads
    whole3 … 5      the results are those functions of the whole arguments
    algebraic       they are the reference's over the extended reals
-/
module

public import proofs.«01_k».proof.Defs
public import proofs.«01_k».proof.Proof.Tile
public import proofs.«01_k».proof.Proof.Silu
public import proofs.«01_k».proof.Proof.Gen.FfnUpIdeal.Value
public import proofs.«01_k».proof.Proof.Gen.HiddenIdeal.Run

@[expose] public section

noncomputable section

open Idealize.ShloMosaic Idealize.ShloMosaic.TcCoe Idealize.SL.Sem
open Idealize.ShloMosaic.Pipeline (Dat)

namespace Cert.FfnUpIdeal.Value

open Cert.FfnUpIdeal Cert.FfnUpIdeal.Gen

variable (m : (ℓ : Loc nD τ sig) → Buf (Elt Ideal) ℓ)

/-- The products of the rows of one array with the rows of another. -/
def product {n : ℕ} (x : FVec Ideal ⟨2, ![n, 1024]⟩ .bf16) (w : FVec Ideal S3072x1024 .bf16) (i : Fin n) (j : Fin 3072) : EReal :=
  ∑ k : Fin 1024, x (ix2 i k) * w (ix2 j k)

/-- A point's block of the first product. -/
theorem block3 (x : Vec Ideal S256x1024 .bf16) (w u : Vec Ideal S3072x1024 .bf16) (y : S256x3072.Idx) :
    out0_3 x w u y = product x w (y 0) (y 1) := by
  unfold out0_3
  rw [View.canon_unit_zero Tile.two0]
  simp only [View.ld_unit_zero (S := S256x1024) Tile.two0, View.ld_unit_zero (S := S3072x1024) Tile.two0]
  unfold k0_pay3 k0_pay1 product
  pointwise

/-- A point's block of the second. -/
theorem block4 (x : Vec Ideal S256x1024 .bf16) (w u : Vec Ideal S3072x1024 .bf16) (y : S256x3072.Idx) :
    out0_4 x w u y = product x u (y 0) (y 1) := by
  unfold out0_4
  rw [View.canon_unit_zero Tile.two0]
  simp only [View.ld_unit_zero (S := S256x1024) Tile.two0, View.ld_unit_zero (S := S3072x1024) Tile.two0]
  unfold k0_pay4 k0_pay2 product
  pointwise

/-- A point's block of the activation. -/
theorem block5 (x : Vec Ideal S256x1024 .bf16) (w u : Vec Ideal S3072x1024 .bf16) (y : S256x3072.Idx) :
    out0_5 x w u y = silu (product x w (y 0) (y 1)) * product x u (y 0) (y 1) := by
  unfold out0_5
  rw [View.canon_unit_zero Tile.two0]
  simp only [View.ld_unit_zero (S := S256x1024) Tile.two0, View.ld_unit_zero (S := S3072x1024) Tile.two0]
  unfold k0_pay5 k0_pay1 k0_pay2 silu product
  pointwise

/-- A point takes the rows of its number, both weights whole, and the rows of its number of the results. -/
theorem tiles : ∀ t : Fin cfg0.N, win0_0.index t = ![t.val, 0] ∧ win0_1.index t = ![0, 0] ∧ win0_3.index t = ![t.val, 0] :=
  (by decide +kernel : ∀ t : Fin grid0.N, win0_0.index t = ![t.val, 0] ∧ win0_1.index t = ![0, 0] ∧ win0_3.index t = ![t.val, 0])

/-- A row of a point's block, among all the rows. -/
def row (t : Fin 17) (r : Fin 256) : Fin 4352 := ⟨t.val * 256 + r.val, by omega⟩

/-- Where a point's rows lie in the input. -/
theorem emb0 (t : Fin cfg0.N) (y : S256x1024.Idx) : (win0_0.rect t).emb y = ix2 (row t (y 0)) (y 1) :=
  funext fun a => Fin.ext (by
    refine (Pipeline.Window.rect_emb_val win0_0 t y a).trans ?_
    rw [(tiles t).1]
    match a with
    | ⟨0, _⟩ => rfl
    | ⟨1, _⟩ => exact Nat.zero_add _)

/-- Where a weight lies. -/
theorem emb1 (t : Fin cfg0.N) (y : S3072x1024.Idx) : (win0_1.rect t).emb y = y := funext fun a => Fin.ext (by
  refine (Pipeline.Window.rect_emb_val win0_1 t y a).trans ?_
  rw [(tiles t).2.1]
  match a with
  | ⟨0, _⟩ => exact (congrArg (· + (y 0).val) (Nat.zero_mul 3072)).trans (Nat.zero_add _)
  | ⟨1, _⟩ => exact Nat.zero_add _)

/-- Where a point's rows lie in a result. -/
theorem emb3 (t : Fin cfg0.N) (y : S256x3072.Idx) : (win0_3.rect t).emb y = ix2 (row t (y 0)) (y 1) :=
  funext fun a => Fin.ext (by
    refine (Pipeline.Window.rect_emb_val win0_3 t y a).trans ?_
    rw [(tiles t).2.2]
    match a with
    | ⟨0, _⟩ => rfl
    | ⟨1, _⟩ => exact (congrArg (· + (y 1).val) (Nat.zero_mul 3072)).trans (Nat.zero_add _))

/-- What a point reads of the input. -/
theorem in0 (c : Dev nD) (t : Fin cfg0.N) : iblk m c 0 t = fun z => V m c main_arg0 (ix2 (row t (z 0)) (z 1)) :=
  funext fun z => congrArg (V m c main_arg0) (emb0 t z)

/-- It reads the first weight whole. -/
theorem in1 (c : Dev nD) (t : Fin cfg0.N) : iblk m c 1 t = V m c main_arg1 :=
  funext fun z => congrArg (V m c main_arg1) (emb1 t z)

/-- It reads the second weight whole. -/
theorem in2 (c : Dev nD) (t : Fin cfg0.N) : iblk m c 2 t = V m c main_arg2 :=
  funext fun z => congrArg (V m c main_arg2) (emb1 t z)

/-- The products of a point's rows are rows of the whole products. -/
theorem product_rows (x : FVec Ideal S4352x1024 .bf16) (w : FVec Ideal S3072x1024 .bf16) (t : Fin 17) (r : Fin 256) (j : Fin 3072) :
    product (fun z : S256x1024.Idx => x (ix2 (row t (z 0)) (z 1))) w r j = product x w (row t r) j := rfl

/-- Every place of a result is in some point's rows. -/
theorem covered (i : S4352x3072.Idx) : ∃ (t : Fin cfg0.N) (y : S256x3072.Idx), (win0_3.rect t).emb y = i :=
  have hi : (i 0 : Nat) < 4352 := (i 0).isLt
  have hN : (i 0 : Nat) / 256 < cfg0.N := lt_of_lt_of_eq (show (i 0 : Nat) / 256 < 17 by omega) N_0.symm
  ⟨⟨_, hN⟩, ix2 ⟨(i 0 : Nat) % 256, Nat.mod_lt _ (by decide)⟩ (i 1),
    (emb3 ⟨_, hN⟩ _).trans ((congrArg (ix2 · (i 1)) (Fin.ext (Nat.div_add_mod' _ _))).trans (ix2_eta i))⟩

/-- The first result is the product with the first weight. -/
theorem whole3 (c : Dev nD) : (dats m 0 c).arrAt 3 cfg0.N = fun i => product (V m c main_arg0) (V m c main_arg1) (i 0) (i 1) :=
  (dats m 0 c).arrAt_eq_of_cover 3 _
    (fun t _ => by
      rw [flushed3, in0, in1, in2]
      funext y
      refine (block3 _ _ _ y).trans ?_
      exact congrArg (fun i : S4352x3072.Idx => product (V m c main_arg0) (V m c main_arg1) (i 0) (i 1)) (emb3 t y).symm)
    fun i => by
      obtain ⟨t, y, h⟩ := covered i
      exact ⟨t, flush0_3 t, Eq.mp (congrArg (· ∈ ((View.whole main_v0_0).slice (win0_3.rect t)).set) h) (View.emb_mem_set _ y)⟩

/-- The second is the product with the second. -/
theorem whole4 (c : Dev nD) : (dats m 0 c).arrAt 4 cfg0.N = fun i => product (V m c main_arg0) (V m c main_arg2) (i 0) (i 1) :=
  (dats m 0 c).arrAt_eq_of_cover 4 _
    (fun t _ => by
      rw [flushed4, in0, in1, in2]
      funext y
      refine (block4 _ _ _ y).trans ?_
      exact congrArg (fun i : S4352x3072.Idx => product (V m c main_arg0) (V m c main_arg2) (i 0) (i 1)) (emb3 t y).symm)
    fun i => by
      obtain ⟨t, y, h⟩ := covered i
      exact ⟨t, flush0_4 t, Eq.mp (congrArg (· ∈ ((View.whole main_v0_1).slice (win0_4.rect t)).set) h) (View.emb_mem_set _ y)⟩

/-- The activation, from the whole arguments. -/
def active (c : Dev nD) (i : S4352x3072.Idx) : EReal :=
  silu (product (V m c main_arg0) (V m c main_arg1) (i 0) (i 1)) * product (V m c main_arg0) (V m c main_arg2) (i 0) (i 1)

/-- A point's block of the activation is its rows of the whole. -/
theorem step5 (c : Dev nD) (t : Fin cfg0.N) (y : S256x3072.Idx) :
    out0_5 (iblk m c 0 t) (iblk m c 1 t) (iblk m c 2 t) y = active m c ((win0_3.rect t).emb y) := by
  rw [in0, in1, in2, emb3]
  exact (block5 _ _ _ y).trans (congrArg₂ (fun a b => silu a * b) (product_rows _ _ t _ _) (product_rows _ _ t _ _))

/-- Every place of the third result is written. -/
theorem covered5 (i : S4352x3072.Idx) :
    ∃ t : Fin cfg0.N, (cfg0.win 5).flush t = true ∧ i ∈ ((View.whole main_v0_2).slice (win0_5.rect t)).set := by
  obtain ⟨t, y, h⟩ := covered i
  exact ⟨t, flush0_5 t, Eq.mp (congrArg (· ∈ ((View.whole main_v0_2).slice (win0_5.rect t)).set) h) (View.emb_mem_set _ y)⟩

/-- The third is the silu of the first times the second. -/
theorem whole5 (c : Dev nD) : (dats m 0 c).arrAt 5 cfg0.N = active m c :=
  (dats m 0 c).arrAt_eq_of_cover 5 (active m c) (fun t _ => (flushed5 m c t).trans (funext fun y => step5 m c t y)) covered5

/-- The results are the reference's, over the extended reals. -/
theorem algebraic : Cert.algebraic_FfnUpIdeal_HiddenIdeal := by
  intro m g m' g' _ hin
  refine ⟨fun c i => product (V m c main_arg0) (V m c main_arg1) (i 0) (i 1),
    fun c i => product (V m c main_arg0) (V m c main_arg2) (i 0) (i 1),
    active m,
    (θ_run defs _ _).mono (fun r h c => ⟨(h c).1.trans (whole3 m c), (h c).2.1.trans (whole4 m c),
      (h c).2.2.1.trans (whole5 m c), (h c).2.2.2⟩) (run_blocks m g),
    (θ_run Cert.HiddenIdeal.defs _ _).mono (fun r h c => ⟨?_, ?_, ?_, (h c).2.2.2⟩) (Cert.HiddenIdeal.Value.run m' g')⟩
  all_goals obtain ⟨h0, h1, h2⟩ := hin c
  · have r0 := (h c).1
    rw [h0, h1] at r0
    refine r0.trans ?_
    funext i
    unfold product
    pointwise
  · have r0 := (h c).2.1
    rw [h0, h2] at r0
    refine r0.trans ?_
    funext i
    unfold product
    pointwise
  · have r0 := (h c).2.2.1
    rw [h0, h1, h2, silu_host] at r0
    refine r0.trans ?_
    funext i
    unfold active product
    pointwise

end Cert.FfnUpIdeal.Value
-- ==== Proof.HiddenGrads.lean ====
/-
  The call that takes the gradient of a layer's output back to the two products of its hidden activation: a point of its grid
  takes 256 rows of that gradient and of the products, and the weight after the activation, and writes those rows of the
  gradients of the two products.

    sig1, dgate, dup  the gradients, element by element
    in0 … in3         what a point reads
    whole4, whole5    the results are those functions of the whole arguments
    algebraic         they are the reference's over the extended reals
-/
module

public import proofs.«01_k».proof.Defs
public import proofs.«01_k».proof.Proof.Hidden
public import proofs.«01_k».proof.Proof.Gen.FfnDactIdeal.Value
public import proofs.«01_k».proof.Proof.Gen.HiddenGradsIdeal.Run

@[expose] public section

noncomputable section

open Idealize.ShloMosaic Idealize.ShloMosaic.TcCoe Idealize.SL.Sem
open Idealize.ShloMosaic.Pipeline (Dat)

namespace Cert.FfnDactIdeal.Value

open Cert.FfnDactIdeal Cert.FfnDactIdeal.Gen
open Cert.FfnUpIdeal.Value (product row)

variable (m : (ℓ : Loc nD τ sig) → Buf (Elt Ideal) ℓ)

/-- The logistic function of one number. -/
def sig1 (g : EReal) : EReal := Ideal.div 1 (1 + Ideal.exp (0 - g))

/-- The gradient of the first product, from that of the activation and both products. -/
def dgate (d g u : EReal) : EReal := d * u * sig1 g * (1 + g * (1 - sig1 g))

/-- The gradient of the second, from that of the activation and the first. -/
def dup (d g : EReal) : EReal := d * g * sig1 g

/-- A point's block of the gradient of the first product. -/
theorem block4 (x : Vec Ideal S256x1024 .bf16) (w : Vec Ideal S3072x1024 .bf16) (g u : Vec Ideal S256x3072 .bf16)
    (y : S256x3072.Idx) : out0_4 x w g u y = dgate (product x w (y 0) (y 1)) (g y) (u y) := by
  unfold out0_4
  rw [View.canon_unit_zero Tile.two0]
  simp only [View.ld_unit_zero (S := S256x1024) Tile.two0, View.ld_unit_zero (S := S3072x1024) Tile.two0,
    View.ld_unit_zero (S := S256x3072) Tile.two0]
  unfold k0_pay5 k0_pay3 k0_pay2 k0_pay1 dgate sig1 product
  pointwise

/-- A point's block of the gradient of the second. -/
theorem block5 (x : Vec Ideal S256x1024 .bf16) (w : Vec Ideal S3072x1024 .bf16) (g u : Vec Ideal S256x3072 .bf16)
    (y : S256x3072.Idx) : out0_5 x w g u y = dup (product x w (y 0) (y 1)) (g y) := by
  unfold out0_5
  rw [View.canon_unit_zero Tile.two0]
  simp only [View.ld_unit_zero (S := S256x1024) Tile.two0, View.ld_unit_zero (S := S3072x1024) Tile.two0,
    View.ld_unit_zero (S := S256x3072) Tile.two0]
  unfold k0_pay4 k0_pay3 k0_pay2 k0_pay1 dup sig1 product
  pointwise

/-- What a point reads of the gradient of the layer's output. -/
theorem in0 (c : Dev nD) (t : Fin cfg0.N) : iblk m c 0 t = fun z => V m c main_arg0 (ix2 (row t (z 0)) (z 1)) :=
  funext fun z => congrArg (V m c main_arg0) (Cert.FfnUpIdeal.Value.emb0 t z)

/-- It reads the weight whole. -/
theorem in1 (c : Dev nD) (t : Fin cfg0.N) : iblk m c 1 t = V m c main_arg1 :=
  funext fun z => congrArg (V m c main_arg1) (Cert.FfnUpIdeal.Value.emb1 t z)

/-- What it reads of the first product. -/
theorem in2 (c : Dev nD) (t : Fin cfg0.N) : iblk m c 2 t = fun z => V m c main_arg2 (ix2 (row t (z 0)) (z 1)) :=
  funext fun z => congrArg (V m c main_arg2) (Cert.FfnUpIdeal.Value.emb3 t z)

/-- What it reads of the second. -/
theorem in3 (c : Dev nD) (t : Fin cfg0.N) : iblk m c 3 t = fun z => V m c main_arg3 (ix2 (row t (z 0)) (z 1)) :=
  funext fun z => congrArg (V m c main_arg3) (Cert.FfnUpIdeal.Value.emb3 t z)

/-- The first result, index by index. -/
def first (c : Dev nD) (i : S4352x3072.Idx) : EReal :=
  dgate (product (V m c main_arg0) (V m c main_arg1) (i 0) (i 1)) (V m c main_arg2 i) (V m c main_arg3 i)

/-- The second. -/
def second (c : Dev nD) (i : S4352x3072.Idx) : EReal :=
  dup (product (V m c main_arg0) (V m c main_arg1) (i 0) (i 1)) (V m c main_arg2 i)

/-- A point's block of the first result is its rows of the whole. -/
theorem step4 (c : Dev nD) (t : Fin cfg0.N) (y : S256x3072.Idx) :
    out0_4 (iblk m c 0 t) (iblk m c 1 t) (iblk m c 2 t) (iblk m c 3 t) y = first m c ((win0_4.rect t).emb y) := by
  rw [in0, in1, in2, in3]
  refine (block4 _ _ _ _ y).trans ?_
  rw [show (win0_4.rect t).emb y = ix2 (row t (y 0)) (y 1) from Cert.FfnUpIdeal.Value.emb3 t y]
  exact congrArg (fun d => dgate d _ _) (Cert.FfnUpIdeal.Value.product_rows _ _ t _ _)

/-- Every place of the first result is written. -/
theorem covered4 (i : S4352x3072.Idx) :
    ∃ t : Fin cfg0.N, (cfg0.win 4).flush t = true ∧ i ∈ ((View.whole main_v0_0).slice (win0_4.rect t)).set := by
  obtain ⟨t, y, h⟩ := Cert.FfnUpIdeal.Value.covered i
  exact ⟨t, flush0_4 t, Eq.mp (congrArg (· ∈ ((View.whole main_v0_0).slice (win0_4.rect t)).set) h) (View.emb_mem_set _ y)⟩

/-- The first result is the gradient of the first product. -/
theorem whole4 (c : Dev nD) : (dats m 0 c).arrAt 4 cfg0.N = first m c :=
  (dats m 0 c).arrAt_eq_of_cover 4 (first m c) (fun t _ => (flushed4 m c t).trans (funext fun y => step4 m c t y)) covered4

/-- A point's block of the second result is its rows of the whole. -/
theorem step5 (c : Dev nD) (t : Fin cfg0.N) (y : S256x3072.Idx) :
    out0_5 (iblk m c 0 t) (iblk m c 1 t) (iblk m c 2 t) (iblk m c 3 t) y = second m c ((win0_4.rect t).emb y) := by
  rw [in0, in1, in2, in3]
  refine (block5 _ _ _ _ y).trans ?_
  rw [show (win0_4.rect t).emb y = ix2 (row t (y 0)) (y 1) from Cert.FfnUpIdeal.Value.emb3 t y]
  exact congrArg (fun d => dup d _) (Cert.FfnUpIdeal.Value.product_rows _ _ t _ _)

/-- Every place of the second result is written. -/
theorem covered5 (i : S4352x3072.Idx) :
    ∃ t : Fin cfg0.N, (cfg0.win 5).flush t = true ∧ i ∈ ((View.whole main_v0_1).slice (win0_5.rect t)).set := by
  obtain ⟨t, y, h⟩ := Cert.FfnUpIdeal.Value.covered i
  exact ⟨t, flush0_5 t, Eq.mp (congrArg (· ∈ ((View.whole main_v0_1).slice (win0_5.rect t)).set) h) (View.emb_mem_set _ y)⟩

/-- The second is that of the second. -/
theorem whole5 (c : Dev nD) : (dats m 0 c).arrAt 5 cfg0.N = second m c :=
  (dats m 0 c).arrAt_eq_of_cover 5 (second m c) (fun t _ => (flushed5 m c t).trans (funext fun y => step5 m c t y)) covered5

/-- The results are the reference's, over the extended reals. -/
theorem algebraic : Cert.algebraic_FfnDactIdeal_HiddenGradsIdeal := by
  intro m g m' g' _ hin
  refine ⟨first m, second m,
    (θ_run defs _ _).mono (fun r h c => ⟨(h c).1.trans (whole4 m c), (h c).2.1.trans (whole5 m c), (h c).2.2⟩) (run_blocks m g),
    (θ_run Cert.HiddenGradsIdeal.defs _ _).mono (fun r h c => ⟨?_, ?_, (h c).2.2⟩) (Cert.HiddenGradsIdeal.Value.run m' g')⟩
  all_goals obtain ⟨h0, h1, h2, h3⟩ := hin c
  · have r0 := (h c).1
    rw [h0, h1, h2, h3] at r0
    refine r0.trans ?_
    funext i
    unfold first dgate sig1 product
    rw [mul_assoc (_ * _), zero_sub]
    pointwise
  · have r0 := (h c).2.1
    rw [h0, h1, h2] at r0
    refine r0.trans ?_
    funext i
    unfold second dup sig1 product
    rw [mul_assoc, zero_sub]
    pointwise

end Cert.FfnDactIdeal.Value
-- ==== Proof.Back.lean ====
/-
  The two calls that take the gradients of a feed-forward layer's two products back to its input: a point of the grid takes
  544 rows of a gradient and the whole weight, and writes those rows of their product, the second call's added to what it is given.

    times       the product, index by index
    whole2      the first call's result is that of the whole arguments
    whole3      the second's is the argument plus that
    algebraic   they are the references' over the extended reals
-/
module

public import proofs.«01_k».proof.Defs
public import proofs.«01_k».proof.Proof.Tile
public import proofs.«01_k».proof.Proof.Silu
public import proofs.«01_k».proof.Proof.Gen.BackGateIdeal.Value
public import proofs.«01_k».proof.Proof.Gen.ThroughGateIdeal.Run
public import proofs.«01_k».proof.Proof.Gen.BackUpIdeal.Value
public import proofs.«01_k».proof.Proof.Gen.ThroughUpIdeal.Run

@[expose] public section

noncomputable section

open Idealize.ShloMosaic Idealize.ShloMosaic.TcCoe Idealize.SL.Sem
open Idealize.ShloMosaic.Pipeline (Dat)

namespace Cert.BackGateIdeal.Value

open Cert.BackGateIdeal Cert.BackGateIdeal.Gen

variable (m : (ℓ : Loc nD τ sig) → Buf (Elt Ideal) ℓ)

/-- The product of two arrays. -/
def times {n : ℕ} (x : FVec Ideal ⟨2, ![n, 3072]⟩ .bf16) (w : FVec Ideal S3072x1024 .bf16) (i : Fin n) (j : Fin 1024) : EReal :=
  ∑ k : Fin 3072, x (ix2 i k) * w (ix2 k j)

/-- A point's block. -/
theorem block2 (x : Vec Ideal S544x3072 .bf16) (w : Vec Ideal S3072x1024 .bf16) (y : S544x1024.Idx) :
    out0_2 x w y = times x w (y 0) (y 1) := by
  unfold out0_2
  rw [View.canon_unit_zero Tile.two0]
  simp only [View.ld_unit_zero (S := S544x3072) Tile.two0, View.ld_unit_zero (S := S3072x1024) Tile.two0]
  unfold k0_pay1 times
  pointwise

/-- A point takes the rows of its number, the weight whole, and the rows of its number of the result. -/
theorem tiles : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- A row of a point's block, among all the rows. -/
def row (t : Fin 8) (r : Fin 544) : Fin 4352 := ⟨t.val * 544 + r.val, by omega⟩

/-- Where a point's rows lie in the gradient. -/
theorem emb0 (t : Fin cfg0.N) (y : S544x3072.Idx) : (win0_0.rect t).emb y = ix2 (row t (y 0)) (y 1) :=
  funext fun a => Fin.ext (by
    refine (Pipeline.Window.rect_emb_val win0_0 t y a).trans ?_
    rw [(tiles t).1]
    match a with
    | ⟨0, _⟩ => rfl
    | ⟨1, _⟩ => exact (congrArg (· + (y 1).val) (Nat.zero_mul 3072)).trans (Nat.zero_add _))

/-- Where the weight lies. -/
theorem emb1 (t : Fin cfg0.N) (y : S3072x1024.Idx) : (win0_1.rect t).emb y = y := funext fun a => Fin.ext (by
  refine (Pipeline.Window.rect_emb_val win0_1 t y a).trans ?_
  rw [(tiles t).2.1]
  match a with
  | ⟨0, _⟩ => exact (congrArg (· + (y 0).val) (Nat.zero_mul 3072)).trans (Nat.zero_add _)
  | ⟨1, _⟩ => exact Nat.zero_add _)

/-- Where a point's rows lie in the result. -/
theorem emb2 (t : Fin cfg0.N) (y : S544x1024.Idx) : (win0_2.rect t).emb y = ix2 (row t (y 0)) (y 1) :=
  funext fun a => Fin.ext (by
    refine (Pipeline.Window.rect_emb_val win0_2 t y a).trans ?_
    rw [(tiles t).2.2]
    match a with
    | ⟨0, _⟩ => rfl
    | ⟨1, _⟩ => exact Nat.zero_add _)

/-- A point's rows of the product are the product of its rows. -/
theorem times_at (x : FVec Ideal S4352x3072 .bf16) (w : FVec Ideal S3072x1024 .bf16) (t : Fin cfg0.N) (r : Fin 544) (j : Fin 1024) :
    times (n := 544) (fun z => x ((win0_0.rect t).emb z)) (fun z => w ((win0_1.rect t).emb z)) r j = times x w (row t r) j :=
  Finset.sum_congr rfl fun k _ => congrArg₂ (· * ·) (congrArg x (emb0 t (ix2 r k))) (congrArg w (emb1 t (ix2 k j)))

/-- Every place of the result is in some point's rows. -/
theorem covered (i : S4352x1024.Idx) : ∃ (t : Fin cfg0.N) (y : S544x1024.Idx), (win0_2.rect t).emb y = i :=
  have hi : (i 0 : Nat) < 4352 := (i 0).isLt
  have hN : (i 0 : Nat) / 544 < cfg0.N := lt_of_lt_of_eq (show (i 0 : Nat) / 544 < 8 by omega) N_0.symm
  ⟨⟨_, hN⟩, ix2 ⟨(i 0 : Nat) % 544, Nat.mod_lt _ (by decide)⟩ (i 1),
    (emb2 ⟨_, hN⟩ _).trans ((congrArg (ix2 · (i 1)) (Fin.ext (Nat.div_add_mod' _ _))).trans (ix2_eta i))⟩

/-- The whole product. -/
def back (c : Dev nD) (i : S4352x1024.Idx) : EReal := times (V m c main_arg0) (V m c main_arg1) (i 0) (i 1)

/-- A point's block is its rows of the whole product. -/
theorem step2 (c : Dev nD) (t : Fin cfg0.N) (y : S544x1024.Idx) :
    out0_2 (iblk m c 0 t) (iblk m c 1 t) y = back m c ((win0_2.rect t).emb y) := by
  rw [emb2]
  exact (block2 _ _ y).trans (times_at _ _ t _ _)

/-- Every place of the result is written. -/
theorem covered2 (i : S4352x1024.Idx) :
    ∃ t : Fin cfg0.N, (cfg0.win 2).flush t = true ∧ i ∈ ((View.whole main_v0).slice (win0_2.rect t)).set := by
  obtain ⟨t, y, h⟩ := covered i
  exact ⟨t, flush0_2 t, Eq.mp (congrArg (· ∈ ((View.whole main_v0).slice (win0_2.rect t)).set) h) (View.emb_mem_set _ y)⟩

/-- The result is the product of the whole arguments. -/
theorem whole2 (c : Dev nD) : (dats m 0 c).arrAt 2 cfg0.N = back m c :=
  (dats m 0 c).arrAt_eq_of_cover 2 (back m c) (fun t _ => (flushed2 m c t).trans (funext fun y => step2 m c t y)) covered2

/-- It is the reference's, over the extended reals. -/
theorem algebraic : Cert.algebraic_BackGateIdeal_ThroughGateIdeal := by
  intro m g m' g' _ hin
  refine ⟨back m, (θ_run defs _ _).mono (fun r h c => ⟨(h c).1.trans (whole2 m c), (h c).2⟩) (run_blocks m g),
    (θ_run Cert.ThroughGateIdeal.defs _ _).mono (fun r h c => ⟨?_, (h c).2⟩) (Cert.ThroughGateIdeal.Value.run m' g')⟩
  have r0 := (h c).1
  rw [(hin c).1, (hin c).2] at r0
  refine r0.trans ?_
  funext i
  unfold back times
  pointwise

end Cert.BackGateIdeal.Value

namespace Cert.BackUpIdeal.Value

open Cert.BackUpIdeal Cert.BackUpIdeal.Gen
open Cert.BackGateIdeal.Value (times row times_at emb2 covered)

variable (m : (ℓ : Loc nD τ sig) → Buf (Elt Ideal) ℓ)

/-- A point's block. -/
theorem block3 (x : Vec Ideal S544x3072 .bf16) (w : Vec Ideal S3072x1024 .bf16) (d : Vec Ideal S544x1024 .f32) (y : S544x1024.Idx) :
    out0_3 x w d y = d y + times x w (y 0) (y 1) := by
  unfold out0_3
  rw [View.canon_unit_zero Tile.two0]
  simp only [View.ld_unit_zero (S := S544x3072) Tile.two0, View.ld_unit_zero (S := S3072x1024) Tile.two0,
    View.ld_unit_zero (S := S544x1024) Tile.two0]
  unfold k0_pay1 times
  pointwise

/-- An array plus the product of two. -/
def plus (x : Vec Ideal S4352x3072 .bf16) (w : Vec Ideal S3072x1024 .bf16) (d : Vec Ideal S4352x1024 .f32) (i : S4352x1024.Idx) : EReal :=
  d i + times x w (i 0) (i 1)

/-- The whole result. -/
def added (c : Dev nD) : S4352x1024.Idx → EReal := plus (V m c main_arg0) (V m c main_arg1) (V m c main_arg2)

/-- A point's block is its rows of the whole result. -/
theorem step3 (c : Dev nD) (t : Fin cfg0.N) (y : S544x1024.Idx) :
    out0_3 (iblk m c 0 t) (iblk m c 1 t) (iblk m c 2 t) y = added m c ((win0_3.rect t).emb y) := by
  refine (block3 _ _ _ y).trans ?_
  rw [show (win0_3.rect t).emb y = ix2 (row t (y 0)) (y 1) from emb2 t y]
  exact congrArg₂ (fun a b : EReal => a + b) (congrArg (V m c main_arg2) (emb2 t y)) (times_at _ _ t _ _)

/-- Every place of the result is written. -/
theorem covered3 (i : S4352x1024.Idx) :
    ∃ t : Fin cfg0.N, (cfg0.win 3).flush t = true ∧ i ∈ ((View.whole main_v0).slice (win0_3.rect t)).set := by
  obtain ⟨t, y, h⟩ := covered i
  exact ⟨t, flush0_3 t, Eq.mp (congrArg (· ∈ ((View.whole main_v0).slice (win0_3.rect t)).set) h) (View.emb_mem_set _ y)⟩

/-- The result is the argument plus the product of the other two. -/
theorem whole3 (c : Dev nD) : (dats m 0 c).arrAt 3 cfg0.N = added m c :=
  (dats m 0 c).arrAt_eq_of_cover 3 (added m c) (fun t _ => (flushed3 m c t).trans (funext fun y => step3 m c t y)) covered3

/-- It is the reference's, over the extended reals. -/
theorem algebraic : Cert.algebraic_BackUpIdeal_ThroughUpIdeal := by
  intro m g m' g' _ hin
  refine ⟨added m, (θ_run defs _ _).mono (fun r h c => ⟨(h c).1.trans (whole3 m c), (h c).2⟩) (run_blocks m g),
    (θ_run Cert.ThroughUpIdeal.defs _ _).mono (fun r h c => ⟨?_, (h c).2⟩) (Cert.ThroughUpIdeal.Value.run m' g')⟩
  have r0 := (h c).1
  rw [(hin c).1, (hin c).2.1, (hin c).2.2] at r0
  refine r0.trans ?_
  funext i
  unfold added plus times
  pointwise

end Cert.BackUpIdeal.Value
-- ==== Proof.lean ====
/-
# The certificate

Ten exchanges among eight devices, each its own program. The run of each, written once for any float values, gives both its
frames; read at whole arrays, with the reference's own run, it gives the two value claims, over the extended reals and bit for bit.
Then the sums over the devices, the steps of the weights, and the modulations with their gradients, each a program on one device:
their frames, and their values over the extended reals.
-/
module

public import proofs.«01_k».proof.Proof.Gen.AdamFfn
public import proofs.«01_k».proof.Proof.Gen.AdamOut
public import proofs.«01_k».proof.Proof.Gen.AdamEven
public import proofs.«01_k».proof.Proof.Gen.AdamOdd
public import proofs.«01_k».proof.Proof.Gen.AdamAda
public import proofs.«01_k».proof.Proof.Gen.AdamSmall
public import proofs.«01_k».proof.Proof.Gen.SumGrads
public import proofs.«01_k».proof.Proof.Gen.SumEarly
public import proofs.«01_k».proof.Proof.Gen.BiasGrads
public import proofs.«01_k».proof.Proof.Gen.CutGrads
public import proofs.«01_k».proof.Proof.Gen.AdaFwd
public import proofs.«01_k».proof.Proof.Gen.AdaBwd
public import proofs.«01_k».proof.Proof.Gen.Kernel
public import proofs.«01_k».proof.Proof.Gen.GatherFfn
public import proofs.«01_k».proof.Proof.Gen.WholeFfn
public import proofs.«01_k».proof.Proof.Gen.ScatterEven
public import proofs.«01_k».proof.Proof.Gen.ScatterOdd
public import proofs.«01_k».proof.Proof.Gen.GatherEven
public import proofs.«01_k».proof.Proof.Gen.WholeEven
public import proofs.«01_k».proof.Proof.Gen.GatherOdd
public import proofs.«01_k».proof.Proof.Gen.WholeOdd
public import proofs.«01_k».proof.Proof.Gen.GatherSmall
public import proofs.«01_k».proof.Proof.Gen.GatherMod
public import proofs.«01_k».proof.Proof.Gen.GatherDmod
public import proofs.«01_k».proof.Proof.Gen.GatherGrads
public import proofs.«01_k».proof.Proof.ScatterValue
public import proofs.«01_k».proof.Proof.GatherFfn
public import proofs.«01_k».proof.Proof.ScatterEven
public import proofs.«01_k».proof.Proof.ScatterOdd
public import proofs.«01_k».proof.Proof.GatherEven
public import proofs.«01_k».proof.Proof.GatherOdd
public import proofs.«01_k».proof.Proof.GatherSmall
public import proofs.«01_k».proof.Proof.GatherMod
public import proofs.«01_k».proof.Proof.GatherDmod
public import proofs.«01_k».proof.Proof.GatherGrads
public import proofs.«01_k».proof.Proof.Whole
public import proofs.«01_k».proof.Proof.StepFfn
public import proofs.«01_k».proof.Proof.StepOut
public import proofs.«01_k».proof.Proof.StepEven
public import proofs.«01_k».proof.Proof.StepOdd
public import proofs.«01_k».proof.Proof.StepAda
public import proofs.«01_k».proof.Proof.StepSmall
public import proofs.«01_k».proof.Proof.CutValue
public import proofs.«01_k».proof.Proof.TotalBias
public import proofs.«01_k».proof.Proof.TotalGrads
public import proofs.«01_k».proof.Proof.TotalEarly
public import proofs.«01_k».proof.Proof.Modulate
public import proofs.«01_k».proof.Proof.ModGrads
public import proofs.«01_k».proof.Proof.Gen.NormBwd
public import proofs.«01_k».proof.Proof.Gen.LossHead
public import proofs.«01_k».proof.Proof.Loss
public import proofs.«01_k».proof.Proof.Gen.WeightGrad
public import proofs.«01_k».proof.Proof.WeightGrads
public import proofs.«01_k».proof.Proof.Gen.FfnUp
public import proofs.«01_k».proof.Proof.Hidden
public import proofs.«01_k».proof.Proof.Gen.FfnDact
public import proofs.«01_k».proof.Proof.HiddenGrads
public import proofs.«01_k».proof.Proof.Gen.BackGate
public import proofs.«01_k».proof.Proof.Gen.BackUp
public import proofs.«01_k».proof.Proof.Back
public import proofs.«01_k».proof.Proof.Gen.ReferenceIdeal.Run
public import proofs.«01_k».proof.Proof.Gen.Reference.Run
public import proofs.«01_k».proof.Proof.Gen.SentEven.Run
public import proofs.«01_k».proof.Proof.Gen.SentEvenIdeal.Run
public import proofs.«01_k».proof.Proof.Gen.SentOdd.Run
public import proofs.«01_k».proof.Proof.Gen.SentOddIdeal.Run
public import proofs.«01_k».proof.Proof.Gen.StackedSmall.Run
public import proofs.«01_k».proof.Proof.Gen.StackedSmallIdeal.Run
public import proofs.«01_k».proof.Proof.Gen.StackedMod.Run
public import proofs.«01_k».proof.Proof.Gen.StackedModIdeal.Run
public import proofs.«01_k».proof.Proof.Gen.StackedDmod.Run
public import proofs.«01_k».proof.Proof.Gen.StackedDmodIdeal.Run
public import proofs.«01_k».proof.Proof.Gen.StackedGrads.Run
public import proofs.«01_k».proof.Proof.Gen.StackedGradsIdeal.Run

@[expose] public section

noncomputable section

namespace Cert.Proof

open Idealize.ShloMosaic
open Idealize.SL.Sem
open Cert.KernelIdeal.Scatter

/-- A program that owns no counter leaves every counter at zero, whatever else is known of its end. -/
theorem quiet {nD : ℕ} {τ : Topo} {sig : RefSig} {Λ : Labels} {Val : EltTy → Type} {d : Defs nD τ sig Val Λ}
    {p : (c : Thread nD τ) → Prog (TpuEff nD τ sig Val Λ c.2) PUnit} {s : MemSt nD τ sig Val}
    (e : sig.nSem + sig.nDmaSem = 0) {Q R : PUnit × MemSt nD τ sig Val → Dev nD → Prop} (q : ∀ r c, Q r c → R r c)
    (h : θ_run d p s (fun r => ∀ c, Q r c)) : θ_run d p s (fun r => (∀ c, R r c) ∧ r.2.sem = fun _ => 0) :=
  (θ_run d p s).mono (fun r h => ⟨fun c => q r c (h c), sem_eq_zero_of_no_sems e r.2⟩) h

/-- Of what is known of each device the second part, and of the whole the rest. -/
theorem kept {nD : ℕ} {τ : Topo} {sig : RefSig} {Λ : Labels} {Val : EltTy → Type} {d : Defs nD τ sig Val Λ}
    {p : (c : Thread nD τ) → Prog (TpuEff nD τ sig Val Λ c.2) PUnit} {s : MemSt nD τ sig Val}
    {Q R : PUnit × MemSt nD τ sig Val → Dev nD → Prop} {Z : PUnit × MemSt nD τ sig Val → Prop}
    (h : θ_run d p s (fun r => (∀ c, Q r c ∧ R r c) ∧ Z r)) : θ_run d p s (fun r => (∀ c, R r c) ∧ Z r) :=
  (θ_run d p s).mono (fun _ h => ⟨fun c => (h.1 c).2, h.2⟩) h

/-- The kernel over the bits terminates, faults nowhere, leaves its arguments and every counter as they were; so does every
    program below. -/
theorem frame_kernel : quiescent_Kernel := fun m g _ =>
  kept (KernelIdeal.Scatter.run_main (F := Bits) m g)

/-- The same over the extended reals. -/
theorem frame_ideal : quiescent_KernelIdeal := fun m g _ =>
  kept (KernelIdeal.Scatter.run_main (F := Ideal) m g)

/-- The reference over the extended reals. -/
theorem frame_reference_ideal : quiescent_ReferenceIdeal := fun m g _ =>
  quiet (by decide) (fun _ _ h => h.2.2.2) (ReferenceIdeal.Value.run (F := Ideal) m g)

/-- The reference over the bits. -/
theorem frame_reference : quiescent_Reference := fun m g _ =>
  quiet (by decide) (fun _ _ h => h.2.2.2) (Reference.Value.run (F := Bits) m g)

/-- The kernel's blocks are the reference's results, over the extended reals. -/
theorem algebraic : algebraic_KernelIdeal_ReferenceIdeal := by
  intro m g m' g' _ hin
  have h0 : (fun c : Dev 8 => m (c.tc.loc KernelIdeal.main_arg0)) = _ := funext fun c => (hin c).1
  have h1 : (fun c : Dev 8 => m (c.tc.loc KernelIdeal.main_arg1)) = _ := funext fun c => (hin c).2.1
  have h2 : (fun c : Dev 8 => m (c.tc.loc KernelIdeal.main_arg2)) = _ := funext fun c => (hin c).2.2
  refine ⟨shapeCast _ (m' ((Dev.tc 0).loc ReferenceIdeal.main_arg0)) ReferenceIdeal.Gen.shapeCasts_S24576x1024_S8x3072x1024,
    shapeCast _ (m' ((Dev.tc 0).loc ReferenceIdeal.main_arg1)) ReferenceIdeal.Gen.shapeCasts_S24576x1024_S8x3072x1024,
    shapeCast _ (m' ((Dev.tc 0).loc ReferenceIdeal.main_arg2)) ReferenceIdeal.Gen.shapeCasts_S24576x1024_S8x3072x1024, (θ_run _ _ _).mono ?_ (KernelIdeal.Scatter.run_main (F := Ideal) m g),
    (θ_run _ _ _).mono ?_ (ReferenceIdeal.Value.run (F := Ideal) m' g')⟩
  rotate_left
  · exact fun r h => ⟨(h 0).1, (h 0).2.1, (h 0).2.2.1, (h 0).2.2.2⟩
  · intro r h c
    obtain ⟨⟨r0, r1, r2⟩, kept⟩ := h.1 c
    exact ⟨r0.trans ((congrArg (fun x => sent x c) h0).trans (sent_block _ _ c)),
      r1.trans ((congrArg (fun x => sent x c) h1).trans (sent_block _ _ c)),
      r2.trans ((congrArg (fun x => sent x c) h2).trans (sent_block _ _ c)), kept⟩

/-- The kernel's blocks are the reference's results, bit for bit. -/
theorem bitexact : bitexact_Kernel_Reference := by
  intro m g m' g' _ hin
  have h0 : (fun c : Dev 8 => m (c.tc.loc Kernel.main_arg0)) = _ := funext fun c => (hin c).1
  have h1 : (fun c : Dev 8 => m (c.tc.loc Kernel.main_arg1)) = _ := funext fun c => (hin c).2.1
  have h2 : (fun c : Dev 8 => m (c.tc.loc Kernel.main_arg2)) = _ := funext fun c => (hin c).2.2
  refine ⟨shapeCast _ (m' ((Dev.tc 0).loc Reference.main_arg0)) Reference.Gen.shapeCasts_S24576x1024_S8x3072x1024,
    shapeCast _ (m' ((Dev.tc 0).loc Reference.main_arg1)) Reference.Gen.shapeCasts_S24576x1024_S8x3072x1024,
    shapeCast _ (m' ((Dev.tc 0).loc Reference.main_arg2)) Reference.Gen.shapeCasts_S24576x1024_S8x3072x1024, (θ_run _ _ _).mono ?_ (KernelIdeal.Scatter.run_main (F := Bits) m g),
    (θ_run _ _ _).mono ?_ (Reference.Value.run (F := Bits) m' g')⟩
  rotate_left
  · exact fun r h => ⟨(h 0).1, (h 0).2.1, (h 0).2.2.1, (h 0).2.2.2⟩
  · intro r h c
    obtain ⟨⟨r0, r1, r2⟩, kept⟩ := h.1 c
    exact ⟨r0.trans ((congrArg (fun x => sent x c) h0).trans (sent_block _ _ c)),
      r1.trans ((congrArg (fun x => sent x c) h1).trans (sent_block _ _ c)),
      r2.trans ((congrArg (fun x => sent x c) h2).trans (sent_block _ _ c)), kept⟩

/-! ## The gather of a layer's feed-forward weights -/

/-- `GatherFfn` over the bits. -/
theorem frame_gather_ffn : quiescent_GatherFfn := fun m g _ =>
  kept (GatherFfnIdeal.Move.run_main (F := Bits) m g)

/-- `GatherFfn` over the extended reals. -/
theorem frame_gather_ffn_ideal : quiescent_GatherFfnIdeal := fun m g _ =>
  kept (GatherFfnIdeal.Move.run_main (F := Ideal) m g)

/-- Its reference over the extended reals. -/
theorem frame_gather_ffn_reference_ideal : quiescent_WholeFfnIdeal := fun m g _ =>
  quiet (by decide) (fun _ _ h => ⟨h _, h _, h _⟩) (WholeFfnIdeal.Still.run (F := Ideal) m g)

/-- Its reference over the bits. -/
theorem frame_gather_ffn_reference : quiescent_WholeFfn := fun m g _ =>
  quiet (by decide) (fun _ _ h => ⟨h _, h _, h _⟩) (WholeFfnIdeal.Still.run (F := Bits) m g)

/-- `GatherFfn`'s results are its reference's, over the extended reals. -/
theorem algebraic_gather_ffn : algebraic_GatherFfnIdeal_WholeFfnIdeal := by
  intro m g m' g' _ hin
  exact ⟨m' ((Dev.tc 0).loc WholeFfnIdeal.main_arg0),
    m' ((Dev.tc 0).loc WholeFfnIdeal.main_arg1),
    m' ((Dev.tc 0).loc WholeFfnIdeal.main_arg2),
    (θ_run _ _ _).mono (fun r h c => ⟨(GatherFfnIdeal.Move.whole0 (h.1 c).1 _ fun p => (hin p).1),
      (GatherFfnIdeal.Move.whole1 (h.1 c).1 _ fun p => (hin p).2.1),
      (GatherFfnIdeal.Move.whole2 (h.1 c).1 _ fun p => (hin p).2.2),
      (h.1 c).2⟩) (GatherFfnIdeal.Move.run_main (F := Ideal) m g),
    (θ_run _ _ _).mono (fun r h => ⟨h 0 _, h 0 _, h 0 _, h 0 _, h 0 _, h 0 _⟩) (WholeFfnIdeal.Still.run (F := Ideal) m' g')⟩

/-- `GatherFfn`'s results are its reference's, bit for bit. -/
theorem bitexact_gather_ffn : bitexact_GatherFfn_WholeFfn := by
  intro m g m' g' _ hin
  exact ⟨m' ((Dev.tc 0).loc WholeFfn.main_arg0),
    m' ((Dev.tc 0).loc WholeFfn.main_arg1),
    m' ((Dev.tc 0).loc WholeFfn.main_arg2),
    (θ_run _ _ _).mono (fun r h c => ⟨(GatherFfnIdeal.Move.whole0 (h.1 c).1 _ fun p => (hin p).1),
      (GatherFfnIdeal.Move.whole1 (h.1 c).1 _ fun p => (hin p).2.1),
      (GatherFfnIdeal.Move.whole2 (h.1 c).1 _ fun p => (hin p).2.2),
      (h.1 c).2⟩) (GatherFfnIdeal.Move.run_main (F := Bits) m g),
    (θ_run _ _ _).mono (fun r h => ⟨h 0 _, h 0 _, h 0 _, h 0 _, h 0 _, h 0 _⟩) (WholeFfnIdeal.Still.run (F := Bits) m' g')⟩

/-! ## The scatter of an even layer's mixing gradients -/

/-- `ScatterEven` over the bits. -/
theorem frame_scatter_even : quiescent_ScatterEven := fun m g _ =>
  kept (ScatterEvenIdeal.Move.run_main (F := Bits) m g)

/-- `ScatterEven` over the extended reals. -/
theorem frame_scatter_even_ideal : quiescent_ScatterEvenIdeal := fun m g _ =>
  kept (ScatterEvenIdeal.Move.run_main (F := Ideal) m g)

/-- Its reference over the extended reals. -/
theorem frame_scatter_even_reference_ideal : quiescent_SentEvenIdeal := fun m g _ =>
  quiet (by decide) (fun _ _ h => h.2.2) (SentEvenIdeal.Value.run (F := Ideal) m g)

/-- Its reference over the bits. -/
theorem frame_scatter_even_reference : quiescent_SentEven := fun m g _ =>
  quiet (by decide) (fun _ _ h => h.2.2) (SentEven.Value.run (F := Bits) m g)

/-- `ScatterEven`'s results are its reference's, over the extended reals. -/
theorem algebraic_scatter_even : algebraic_ScatterEvenIdeal_SentEvenIdeal := by
  intro m g m' g' _ hin
  exact ⟨shapeCast _ (m' ((Dev.tc 0).loc SentEvenIdeal.main_arg0)) SentEvenIdeal.Gen.shapeCasts_S8192x1024_S8x1024x1024,
    shapeCast _ (m' ((Dev.tc 0).loc SentEvenIdeal.main_arg1)) SentEvenIdeal.Gen.shapeCasts_S8192x3072_S8x1024x3072,
    (θ_run _ _ _).mono (fun r h c => ⟨(ScatterEvenIdeal.Move.whole0 (h.1 c).1 _ _ fun p => (hin p).1),
      (ScatterEvenIdeal.Move.whole1 (h.1 c).1 _ _ fun p => (hin p).2),
      (h.1 c).2⟩) (ScatterEvenIdeal.Move.run_main (F := Ideal) m g),
    (θ_run _ _ _).mono (fun r h => h 0) (SentEvenIdeal.Value.run (F := Ideal) m' g')⟩

/-- `ScatterEven`'s results are its reference's, bit for bit. -/
theorem bitexact_scatter_even : bitexact_ScatterEven_SentEven := by
  intro m g m' g' _ hin
  exact ⟨shapeCast _ (m' ((Dev.tc 0).loc SentEven.main_arg0)) SentEven.Gen.shapeCasts_S8192x1024_S8x1024x1024,
    shapeCast _ (m' ((Dev.tc 0).loc SentEven.main_arg1)) SentEven.Gen.shapeCasts_S8192x3072_S8x1024x3072,
    (θ_run _ _ _).mono (fun r h c => ⟨(ScatterEvenIdeal.Move.whole0 (h.1 c).1 _ _ fun p => (hin p).1),
      (ScatterEvenIdeal.Move.whole1 (h.1 c).1 _ _ fun p => (hin p).2),
      (h.1 c).2⟩) (ScatterEvenIdeal.Move.run_main (F := Bits) m g),
    (θ_run _ _ _).mono (fun r h => h 0) (SentEven.Value.run (F := Bits) m' g')⟩

/-! ## The scatter of an odd layer's mixing gradients -/

/-- `ScatterOdd` over the bits. -/
theorem frame_scatter_odd : quiescent_ScatterOdd := fun m g _ =>
  kept (ScatterOddIdeal.Move.run_main (F := Bits) m g)

/-- `ScatterOdd` over the extended reals. -/
theorem frame_scatter_odd_ideal : quiescent_ScatterOddIdeal := fun m g _ =>
  kept (ScatterOddIdeal.Move.run_main (F := Ideal) m g)

/-- Its reference over the extended reals. -/
theorem frame_scatter_odd_reference_ideal : quiescent_SentOddIdeal := fun m g _ =>
  quiet (by decide) (fun _ _ h => h.2.2) (SentOddIdeal.Value.run (F := Ideal) m g)

/-- Its reference over the bits. -/
theorem frame_scatter_odd_reference : quiescent_SentOdd := fun m g _ =>
  quiet (by decide) (fun _ _ h => h.2.2) (SentOdd.Value.run (F := Bits) m g)

/-- `ScatterOdd`'s results are its reference's, over the extended reals. -/
theorem algebraic_scatter_odd : algebraic_ScatterOddIdeal_SentOddIdeal := by
  intro m g m' g' _ hin
  exact ⟨shapeCast _ (m' ((Dev.tc 0).loc SentOddIdeal.main_arg0)) SentOddIdeal.Gen.shapeCasts_S8192x1024_S8x1024x1024,
    shapeCast _ (m' ((Dev.tc 0).loc SentOddIdeal.main_arg1)) SentOddIdeal.Gen.shapeCasts_S12288x1024_S8x1536x1024,
    (θ_run _ _ _).mono (fun r h c => ⟨(ScatterOddIdeal.Move.whole0 (h.1 c).1 _ _ fun p => (hin p).1),
      (ScatterOddIdeal.Move.whole1 (h.1 c).1 _ _ fun p => (hin p).2),
      (h.1 c).2⟩) (ScatterOddIdeal.Move.run_main (F := Ideal) m g),
    (θ_run _ _ _).mono (fun r h => h 0) (SentOddIdeal.Value.run (F := Ideal) m' g')⟩

/-- `ScatterOdd`'s results are its reference's, bit for bit. -/
theorem bitexact_scatter_odd : bitexact_ScatterOdd_SentOdd := by
  intro m g m' g' _ hin
  exact ⟨shapeCast _ (m' ((Dev.tc 0).loc SentOdd.main_arg0)) SentOdd.Gen.shapeCasts_S8192x1024_S8x1024x1024,
    shapeCast _ (m' ((Dev.tc 0).loc SentOdd.main_arg1)) SentOdd.Gen.shapeCasts_S12288x1024_S8x1536x1024,
    (θ_run _ _ _).mono (fun r h c => ⟨(ScatterOddIdeal.Move.whole0 (h.1 c).1 _ _ fun p => (hin p).1),
      (ScatterOddIdeal.Move.whole1 (h.1 c).1 _ _ fun p => (hin p).2),
      (h.1 c).2⟩) (ScatterOddIdeal.Move.run_main (F := Bits) m g),
    (θ_run _ _ _).mono (fun r h => h 0) (SentOdd.Value.run (F := Bits) m' g')⟩

/-! ## The gather of an even layer's mixing weights -/

/-- `GatherEven` over the bits. -/
theorem frame_gather_even : quiescent_GatherEven := fun m g _ =>
  kept (GatherEvenIdeal.Move.run_main (F := Bits) m g)

/-- `GatherEven` over the extended reals. -/
theorem frame_gather_even_ideal : quiescent_GatherEvenIdeal := fun m g _ =>
  kept (GatherEvenIdeal.Move.run_main (F := Ideal) m g)

/-- Its reference over the extended reals. -/
theorem frame_gather_even_reference_ideal : quiescent_WholeEvenIdeal := fun m g _ =>
  quiet (by decide) (fun _ _ h => ⟨h _, h _⟩) (WholeEvenIdeal.Still.run (F := Ideal) m g)

/-- Its reference over the bits. -/
theorem frame_gather_even_reference : quiescent_WholeEven := fun m g _ =>
  quiet (by decide) (fun _ _ h => ⟨h _, h _⟩) (WholeEvenIdeal.Still.run (F := Bits) m g)

/-- `GatherEven`'s results are its reference's, over the extended reals. -/
theorem algebraic_gather_even : algebraic_GatherEvenIdeal_WholeEvenIdeal := by
  intro m g m' g' _ hin
  exact ⟨m' ((Dev.tc 0).loc WholeEvenIdeal.main_arg0),
    m' ((Dev.tc 0).loc WholeEvenIdeal.main_arg1),
    (θ_run _ _ _).mono (fun r h c => ⟨(GatherEvenIdeal.Move.whole0 (h.1 c).1 _ fun p => (hin p).1),
      (GatherEvenIdeal.Move.whole1 (h.1 c).1 _ fun p => (hin p).2),
      (h.1 c).2⟩) (GatherEvenIdeal.Move.run_main (F := Ideal) m g),
    (θ_run _ _ _).mono (fun r h => ⟨h 0 _, h 0 _, h 0 _, h 0 _⟩) (WholeEvenIdeal.Still.run (F := Ideal) m' g')⟩

/-- `GatherEven`'s results are its reference's, bit for bit. -/
theorem bitexact_gather_even : bitexact_GatherEven_WholeEven := by
  intro m g m' g' _ hin
  exact ⟨m' ((Dev.tc 0).loc WholeEven.main_arg0),
    m' ((Dev.tc 0).loc WholeEven.main_arg1),
    (θ_run _ _ _).mono (fun r h c => ⟨(GatherEvenIdeal.Move.whole0 (h.1 c).1 _ fun p => (hin p).1),
      (GatherEvenIdeal.Move.whole1 (h.1 c).1 _ fun p => (hin p).2),
      (h.1 c).2⟩) (GatherEvenIdeal.Move.run_main (F := Bits) m g),
    (θ_run _ _ _).mono (fun r h => ⟨h 0 _, h 0 _, h 0 _, h 0 _⟩) (WholeEvenIdeal.Still.run (F := Bits) m' g')⟩

/-! ## The gather of an odd layer's mixing weights -/

/-- `GatherOdd` over the bits. -/
theorem frame_gather_odd : quiescent_GatherOdd := fun m g _ =>
  kept (GatherOddIdeal.Move.run_main (F := Bits) m g)

/-- `GatherOdd` over the extended reals. -/
theorem frame_gather_odd_ideal : quiescent_GatherOddIdeal := fun m g _ =>
  kept (GatherOddIdeal.Move.run_main (F := Ideal) m g)

/-- Its reference over the extended reals. -/
theorem frame_gather_odd_reference_ideal : quiescent_WholeOddIdeal := fun m g _ =>
  quiet (by decide) (fun _ _ h => ⟨h _, h _⟩) (WholeOddIdeal.Still.run (F := Ideal) m g)

/-- Its reference over the bits. -/
theorem frame_gather_odd_reference : quiescent_WholeOdd := fun m g _ =>
  quiet (by decide) (fun _ _ h => ⟨h _, h _⟩) (WholeOddIdeal.Still.run (F := Bits) m g)

/-- `GatherOdd`'s results are its reference's, over the extended reals. -/
theorem algebraic_gather_odd : algebraic_GatherOddIdeal_WholeOddIdeal := by
  intro m g m' g' _ hin
  exact ⟨m' ((Dev.tc 0).loc WholeOddIdeal.main_arg0),
    m' ((Dev.tc 0).loc WholeOddIdeal.main_arg1),
    (θ_run _ _ _).mono (fun r h c => ⟨(GatherOddIdeal.Move.whole0 (h.1 c).1 _ fun p => (hin p).1),
      (GatherOddIdeal.Move.whole1 (h.1 c).1 _ fun p => (hin p).2),
      (h.1 c).2⟩) (GatherOddIdeal.Move.run_main (F := Ideal) m g),
    (θ_run _ _ _).mono (fun r h => ⟨h 0 _, h 0 _, h 0 _, h 0 _⟩) (WholeOddIdeal.Still.run (F := Ideal) m' g')⟩

/-- `GatherOdd`'s results are its reference's, bit for bit. -/
theorem bitexact_gather_odd : bitexact_GatherOdd_WholeOdd := by
  intro m g m' g' _ hin
  exact ⟨m' ((Dev.tc 0).loc WholeOdd.main_arg0),
    m' ((Dev.tc 0).loc WholeOdd.main_arg1),
    (θ_run _ _ _).mono (fun r h c => ⟨(GatherOddIdeal.Move.whole0 (h.1 c).1 _ fun p => (hin p).1),
      (GatherOddIdeal.Move.whole1 (h.1 c).1 _ fun p => (hin p).2),
      (h.1 c).2⟩) (GatherOddIdeal.Move.run_main (F := Bits) m g),
    (θ_run _ _ _).mono (fun r h => ⟨h 0 _, h 0 _, h 0 _, h 0 _⟩) (WholeOddIdeal.Still.run (F := Bits) m' g')⟩

/-! ## The gather of the small parameters -/

/-- `GatherSmall` over the bits. -/
theorem frame_gather_small : quiescent_GatherSmall := fun m g _ =>
  kept (GatherSmallIdeal.Move.run_main (F := Bits) m g)

/-- `GatherSmall` over the extended reals. -/
theorem frame_gather_small_ideal : quiescent_GatherSmallIdeal := fun m g _ =>
  kept (GatherSmallIdeal.Move.run_main (F := Ideal) m g)

/-- Its reference over the extended reals. -/
theorem frame_gather_small_reference_ideal : quiescent_StackedSmallIdeal := fun m g _ =>
  quiet (by decide) (fun _ _ h => h.2) (StackedSmallIdeal.Value.run (F := Ideal) m g)

/-- Its reference over the bits. -/
theorem frame_gather_small_reference : quiescent_StackedSmall := fun m g _ =>
  quiet (by decide) (fun _ _ h => h.2) (StackedSmall.Value.run (F := Bits) m g)

/-- `GatherSmall`'s results are its reference's, over the extended reals. -/
theorem algebraic_gather_small : algebraic_GatherSmallIdeal_StackedSmallIdeal := by
  intro m g m' g' _ hin
  exact ⟨shapeCast _ (m' ((Dev.tc 0).loc StackedSmallIdeal.main_arg0)) StackedSmallIdeal.Gen.shapeCasts_S576x128_S8x72x128,
    (θ_run _ _ _).mono (fun r h c => ⟨(GatherSmallIdeal.Move.whole0 (h.1 c).1 _ _ fun p => (hin p)),
      (h.1 c).2⟩) (GatherSmallIdeal.Move.run_main (F := Ideal) m g),
    (θ_run _ _ _).mono (fun r h => h 0) (StackedSmallIdeal.Value.run (F := Ideal) m' g')⟩

/-- `GatherSmall`'s results are its reference's, bit for bit. -/
theorem bitexact_gather_small : bitexact_GatherSmall_StackedSmall := by
  intro m g m' g' _ hin
  exact ⟨shapeCast _ (m' ((Dev.tc 0).loc StackedSmall.main_arg0)) StackedSmall.Gen.shapeCasts_S576x128_S8x72x128,
    (θ_run _ _ _).mono (fun r h c => ⟨(GatherSmallIdeal.Move.whole0 (h.1 c).1 _ _ fun p => (hin p)),
      (h.1 c).2⟩) (GatherSmallIdeal.Move.run_main (F := Bits) m g),
    (θ_run _ _ _).mono (fun r h => h 0) (StackedSmall.Value.run (F := Bits) m' g')⟩

/-! ## The gather of the modulation vectors -/

/-- `GatherMod` over the bits. -/
theorem frame_gather_mod : quiescent_GatherMod := fun m g _ =>
  kept (GatherModIdeal.Move.run_main (F := Bits) m g)

/-- `GatherMod` over the extended reals. -/
theorem frame_gather_mod_ideal : quiescent_GatherModIdeal := fun m g _ =>
  kept (GatherModIdeal.Move.run_main (F := Ideal) m g)

/-- Its reference over the extended reals. -/
theorem frame_gather_mod_reference_ideal : quiescent_StackedModIdeal := fun m g _ =>
  quiet (by decide) (fun _ _ h => h.2) (StackedModIdeal.Value.run (F := Ideal) m g)

/-- Its reference over the bits. -/
theorem frame_gather_mod_reference : quiescent_StackedMod := fun m g _ =>
  quiet (by decide) (fun _ _ h => h.2) (StackedMod.Value.run (F := Bits) m g)

/-- `GatherMod`'s results are its reference's, over the extended reals. -/
theorem algebraic_gather_mod : algebraic_GatherModIdeal_StackedModIdeal := by
  intro m g m' g' _ hin
  exact ⟨shapeCast _ (m' ((Dev.tc 0).loc StackedModIdeal.main_arg0)) StackedModIdeal.Gen.shapeCasts_S512x768_S8x64x768,
    (θ_run _ _ _).mono (fun r h c => ⟨(GatherModIdeal.Move.whole0 (h.1 c).1 _ _ fun p => (hin p)),
      (h.1 c).2⟩) (GatherModIdeal.Move.run_main (F := Ideal) m g),
    (θ_run _ _ _).mono (fun r h => h 0) (StackedModIdeal.Value.run (F := Ideal) m' g')⟩

/-- `GatherMod`'s results are its reference's, bit for bit. -/
theorem bitexact_gather_mod : bitexact_GatherMod_StackedMod := by
  intro m g m' g' _ hin
  exact ⟨shapeCast _ (m' ((Dev.tc 0).loc StackedMod.main_arg0)) StackedMod.Gen.shapeCasts_S512x768_S8x64x768,
    (θ_run _ _ _).mono (fun r h c => ⟨(GatherModIdeal.Move.whole0 (h.1 c).1 _ _ fun p => (hin p)),
      (h.1 c).2⟩) (GatherModIdeal.Move.run_main (F := Bits) m g),
    (θ_run _ _ _).mono (fun r h => h 0) (StackedMod.Value.run (F := Bits) m' g')⟩

/-! ## The gather of the modulation gradients -/

/-- `GatherDmod` over the bits. -/
theorem frame_gather_dmod : quiescent_GatherDmod := fun m g _ =>
  kept (GatherDmodIdeal.Move.run_main (F := Bits) m g)

/-- `GatherDmod` over the extended reals. -/
theorem frame_gather_dmod_ideal : quiescent_GatherDmodIdeal := fun m g _ =>
  kept (GatherDmodIdeal.Move.run_main (F := Ideal) m g)

/-- Its reference over the extended reals. -/
theorem frame_gather_dmod_reference_ideal : quiescent_StackedDmodIdeal := fun m g _ =>
  quiet (by decide) (fun _ _ h => h.2) (StackedDmodIdeal.Value.run (F := Ideal) m g)

/-- Its reference over the bits. -/
theorem frame_gather_dmod_reference : quiescent_StackedDmod := fun m g _ =>
  quiet (by decide) (fun _ _ h => h.2) (StackedDmod.Value.run (F := Bits) m g)

/-- `GatherDmod`'s results are its reference's, over the extended reals. -/
theorem algebraic_gather_dmod : algebraic_GatherDmodIdeal_StackedDmodIdeal := by
  intro m g m' g' _ hin
  exact ⟨shapeCast _ (m' ((Dev.tc 0).loc StackedDmodIdeal.main_arg0)) StackedDmodIdeal.Gen.shapeCasts_S64x6144_S8x8x6144,
    (θ_run _ _ _).mono (fun r h c => ⟨(GatherDmodIdeal.Move.whole0 (h.1 c).1 _ _ fun p => (hin p)),
      (h.1 c).2⟩) (GatherDmodIdeal.Move.run_main (F := Ideal) m g),
    (θ_run _ _ _).mono (fun r h => h 0) (StackedDmodIdeal.Value.run (F := Ideal) m' g')⟩

/-- `GatherDmod`'s results are its reference's, bit for bit. -/
theorem bitexact_gather_dmod : bitexact_GatherDmod_StackedDmod := by
  intro m g m' g' _ hin
  exact ⟨shapeCast _ (m' ((Dev.tc 0).loc StackedDmod.main_arg0)) StackedDmod.Gen.shapeCasts_S64x6144_S8x8x6144,
    (θ_run _ _ _).mono (fun r h c => ⟨(GatherDmodIdeal.Move.whole0 (h.1 c).1 _ _ fun p => (hin p)),
      (h.1 c).2⟩) (GatherDmodIdeal.Move.run_main (F := Bits) m g),
    (θ_run _ _ _).mono (fun r h => h 0) (StackedDmod.Value.run (F := Bits) m' g')⟩

/-! ## The gather of the small gradients -/

/-- `GatherGrads` over the bits. -/
theorem frame_gather_grads : quiescent_GatherGrads := fun m g _ =>
  kept (GatherGradsIdeal.Move.run_main (F := Bits) m g)

/-- `GatherGrads` over the extended reals. -/
theorem frame_gather_grads_ideal : quiescent_GatherGradsIdeal := fun m g _ =>
  kept (GatherGradsIdeal.Move.run_main (F := Ideal) m g)

/-- Its reference over the extended reals. -/
theorem frame_gather_grads_reference_ideal : quiescent_StackedGradsIdeal := fun m g _ =>
  quiet (by decide) (fun _ _ h => h.2) (StackedGradsIdeal.Value.run (F := Ideal) m g)

/-- Its reference over the bits. -/
theorem frame_gather_grads_reference : quiescent_StackedGrads := fun m g _ =>
  quiet (by decide) (fun _ _ h => h.2) (StackedGrads.Value.run (F := Bits) m g)

/-- `GatherGrads`'s results are its reference's, over the extended reals. -/
theorem algebraic_gather_grads : algebraic_GatherGradsIdeal_StackedGradsIdeal := by
  intro m g m' g' _ hin
  exact ⟨shapeCast _ (m' ((Dev.tc 0).loc StackedGradsIdeal.main_arg0)) StackedGradsIdeal.Gen.shapeCasts_S3072x128_S8x384x128,
    (θ_run _ _ _).mono (fun r h c => ⟨(GatherGradsIdeal.Move.whole0 (h.1 c).1 _ _ fun p => (hin p)),
      (h.1 c).2⟩) (GatherGradsIdeal.Move.run_main (F := Ideal) m g),
    (θ_run _ _ _).mono (fun r h => h 0) (StackedGradsIdeal.Value.run (F := Ideal) m' g')⟩

/-- `GatherGrads`'s results are its reference's, bit for bit. -/
theorem bitexact_gather_grads : bitexact_GatherGrads_StackedGrads := by
  intro m g m' g' _ hin
  exact ⟨shapeCast _ (m' ((Dev.tc 0).loc StackedGrads.main_arg0)) StackedGrads.Gen.shapeCasts_S3072x128_S8x384x128,
    (θ_run _ _ _).mono (fun r h c => ⟨(GatherGradsIdeal.Move.whole0 (h.1 c).1 _ _ fun p => (hin p)),
      (h.1 c).2⟩) (GatherGradsIdeal.Move.run_main (F := Bits) m g),
    (θ_run _ _ _).mono (fun r h => h 0) (StackedGrads.Value.run (F := Bits) m' g')⟩

/-! ## The step of a feed-forward weight -/

/-- `AdamFfn` over the bits: the two prints of the program call the same body, here and below. -/
theorem frame_adam_ffn : quiescent_AdamFfn := fun m g _ => by
  unfold AdamFfn.defs
  rw [show AdamFfn.defs₀ (F := Bits) = AdamFfnIdeal.defs₀ from congrArg Defs.onTc (funext fun l => match l with | 0 => rfl)]
  exact AdamFfnIdeal.Gen.frame (F := Bits) m g

/-- `AdamFfn` over the extended reals. -/
theorem frame_adam_ffn_ideal : quiescent_AdamFfnIdeal := fun m g _ => AdamFfnIdeal.Gen.frame (F := Ideal) m g

/-- Its reference over the extended reals. -/
theorem frame_step_ffn_ideal : quiescent_StepFfnIdeal := fun m g _ =>
  quiet (by decide) (fun _ _ h => h.2.2.2.2) (StepFfnIdeal.Value.run (F := Ideal) m g)

/-! ## The step of an output weight -/

/-- `AdamOut` over the bits. -/
theorem frame_adam_out : quiescent_AdamOut := fun m g _ => by
  unfold AdamOut.defs
  rw [show AdamOut.defs₀ (F := Bits) = AdamOutIdeal.defs₀ from congrArg Defs.onTc (funext fun l => match l with | 0 => rfl)]
  exact AdamOutIdeal.Gen.frame (F := Bits) m g

/-- `AdamOut` over the extended reals. -/
theorem frame_adam_out_ideal : quiescent_AdamOutIdeal := fun m g _ => AdamOutIdeal.Gen.frame (F := Ideal) m g

/-- Its reference over the extended reals. -/
theorem frame_step_out_ideal : quiescent_StepOutIdeal := fun m g _ =>
  quiet (by decide) (fun _ _ h => h.2.2.2.2) (StepOutIdeal.Value.run (F := Ideal) m g)

/-! ## The step of the even layers' input weight -/

/-- `AdamEven` over the bits. -/
theorem frame_adam_even : quiescent_AdamEven := fun m g _ => by
  unfold AdamEven.defs
  rw [show AdamEven.defs₀ (F := Bits) = AdamEvenIdeal.defs₀ from congrArg Defs.onTc (funext fun l => match l with | 0 => rfl)]
  exact AdamEvenIdeal.Gen.frame (F := Bits) m g

/-- `AdamEven` over the extended reals. -/
theorem frame_adam_even_ideal : quiescent_AdamEvenIdeal := fun m g _ => AdamEvenIdeal.Gen.frame (F := Ideal) m g

/-- Its reference over the extended reals. -/
theorem frame_step_even_ideal : quiescent_StepEvenIdeal := fun m g _ =>
  quiet (by decide) (fun _ _ h => h.2.2.2.2) (StepEvenIdeal.Value.run (F := Ideal) m g)

/-! ## The step of the odd layers' input weight -/

/-- `AdamOdd` over the bits. -/
theorem frame_adam_odd : quiescent_AdamOdd := fun m g _ => by
  unfold AdamOdd.defs
  rw [show AdamOdd.defs₀ (F := Bits) = AdamOddIdeal.defs₀ from congrArg Defs.onTc (funext fun l => match l with | 0 => rfl)]
  exact AdamOddIdeal.Gen.frame (F := Bits) m g

/-- `AdamOdd` over the extended reals. -/
theorem frame_adam_odd_ideal : quiescent_AdamOddIdeal := fun m g _ => AdamOddIdeal.Gen.frame (F := Ideal) m g

/-- Its reference over the extended reals. -/
theorem frame_step_odd_ideal : quiescent_StepOddIdeal := fun m g _ =>
  quiet (by decide) (fun _ _ h => h.2.2.2.2) (StepOddIdeal.Value.run (F := Ideal) m g)

/-! ## The step of the modulation's weight -/

/-- `AdamAda` over the bits. -/
theorem frame_adam_ada : quiescent_AdamAda := fun m g _ => by
  unfold AdamAda.defs
  rw [show AdamAda.defs₀ (F := Bits) = AdamAdaIdeal.defs₀ from congrArg Defs.onTc (funext fun l => match l with | 0 => rfl)]
  exact AdamAdaIdeal.Gen.frame (F := Bits) m g

/-- `AdamAda` over the extended reals. -/
theorem frame_adam_ada_ideal : quiescent_AdamAdaIdeal := fun m g _ => AdamAdaIdeal.Gen.frame (F := Ideal) m g

/-- Its reference over the extended reals. -/
theorem frame_step_ada_ideal : quiescent_StepAdaIdeal := fun m g _ =>
  quiet (by decide) (fun _ _ h => h.2.2.2.2) (StepAdaIdeal.Value.run (F := Ideal) m g)

/-! ## The step of the small weights -/

/-- `AdamSmall` over the bits. -/
theorem frame_adam_small : quiescent_AdamSmall := fun m g _ => by
  unfold AdamSmall.defs
  rw [show AdamSmall.defs₀ (F := Bits) = AdamSmallIdeal.defs₀ from congrArg Defs.onTc (funext fun l => match l with | 0 => rfl)]
  exact AdamSmallIdeal.Gen.frame (F := Bits) m g

/-- `AdamSmall` over the extended reals. -/
theorem frame_adam_small_ideal : quiescent_AdamSmallIdeal := fun m g _ => AdamSmallIdeal.Gen.frame (F := Ideal) m g

/-- Its reference over the extended reals. -/
theorem frame_step_small_ideal : quiescent_StepSmallIdeal := fun m g _ =>
  quiet (by decide) (fun _ _ h => h.2.2.2.2) (StepSmallIdeal.Value.run (F := Ideal) m g)

/-! ## The sum of the gradients of the modulations -/

/-- `BiasGrads` over the bits. -/
theorem frame_bias_grads : quiescent_BiasGrads := fun m g _ => by
  unfold BiasGrads.defs
  rw [show BiasGrads.defs₀ (F := Bits) = BiasGradsIdeal.defs₀ from congrArg Defs.onTc (funext fun l => match l with | 0 => rfl)]
  exact BiasGradsIdeal.Gen.frame (F := Bits) m g

/-- `BiasGrads` over the extended reals. -/
theorem frame_bias_grads_ideal : quiescent_BiasGradsIdeal := fun m g _ => BiasGradsIdeal.Gen.frame (F := Ideal) m g

/-- Its reference over the extended reals. -/
theorem frame_bias_total_ideal : quiescent_BiasTotalIdeal := fun m g _ =>
  quiet (by decide) (fun _ _ h => h.2) (BiasTotalIdeal.Value.run (F := Ideal) m g)

set_option maxHeartbeats 4000000 in
/-- `CutGrads` over the bits. -/
theorem frame_cut_grads : quiescent_CutGrads := fun m g _ => by
  unfold CutGrads.defs
  rw [show CutGrads.defs₀ (F := Bits) = CutGradsIdeal.defs₀ from congrArg Defs.onTc (funext fun l => match l with | 0 => rfl)]
  exact CutGradsIdeal.Cut.frame (F := Bits) m g

/-- `CutGrads` over the extended reals. -/
theorem frame_cut_grads_ideal : quiescent_CutGradsIdeal := fun m g _ => CutGradsIdeal.Cut.frame (F := Ideal) m g

/-- Its reference over the extended reals. -/
theorem frame_weight_totals_ideal : quiescent_WeightTotalsIdeal := fun m g _ =>
  quiet (by decide) (fun _ _ h => h.2.2.2.2.2) (WeightTotalsIdeal.Value.run (F := Ideal) m g)

/-! ## The sum of the gradients of the small weights -/

/-- `SumGrads` over the bits. -/
theorem frame_sum_grads : quiescent_SumGrads := fun m g _ => by
  unfold SumGrads.defs
  rw [show SumGrads.defs₀ (F := Bits) = SumGradsIdeal.defs₀ from congrArg Defs.onTc (funext fun l => match l with | 0 => rfl)]
  exact SumGradsIdeal.Gen.frame (F := Bits) m g

/-- `SumGrads` over the extended reals. -/
theorem frame_sum_grads_ideal : quiescent_SumGradsIdeal := fun m g _ => SumGradsIdeal.Gen.frame (F := Ideal) m g

/-- Its reference over the extended reals. -/
theorem frame_total_grads_ideal : quiescent_TotalGradsIdeal := fun m g _ =>
  quiet (by decide) (fun _ _ h => h.2) (TotalGradsIdeal.Value.run (F := Ideal) m g)

/-! ## The sum of the gradients exchanged early -/

/-- `SumEarly` over the bits. -/
theorem frame_sum_early : quiescent_SumEarly := fun m g _ => by
  unfold SumEarly.defs
  rw [show SumEarly.defs₀ (F := Bits) = SumEarlyIdeal.defs₀ from congrArg Defs.onTc (funext fun l => match l with | 0 => rfl)]
  exact SumEarlyIdeal.Gen.frame (F := Bits) m g

/-- `SumEarly` over the extended reals. -/
theorem frame_sum_early_ideal : quiescent_SumEarlyIdeal := fun m g _ => SumEarlyIdeal.Gen.frame (F := Ideal) m g

/-- Its reference over the extended reals. -/
theorem frame_total_early_ideal : quiescent_TotalEarlyIdeal := fun m g _ =>
  quiet (by decide) (fun _ _ h => h.2) (TotalEarlyIdeal.Value.run (F := Ideal) m g)

/-! ## The modulations -/

/-- `AdaFwd` over the bits. -/
theorem frame_ada_fwd : quiescent_AdaFwd := fun m g _ => by
  unfold AdaFwd.defs
  rw [show AdaFwd.defs₀ (F := Bits) = AdaFwdIdeal.defs₀ from congrArg Defs.onTc (funext fun l => match l with | 0 => rfl)]
  exact AdaFwdIdeal.Gen.frame (F := Bits) m g

/-- `AdaFwd` over the extended reals. -/
theorem frame_ada_fwd_ideal : quiescent_AdaFwdIdeal := fun m g _ => AdaFwdIdeal.Gen.frame (F := Ideal) m g

/-- Its reference over the extended reals. -/
theorem frame_modulation_ideal : quiescent_ModulationIdeal := fun m g _ =>
  quiet (by decide) (fun _ _ h => h.2) (ModulationIdeal.Value.run (F := Ideal) m g)

/-! ## The gradients through the modulations -/

/-- `AdaBwd` over the bits. -/
theorem frame_ada_bwd : quiescent_AdaBwd := fun m g _ => by
  unfold AdaBwd.defs
  rw [show AdaBwd.defs₀ (F := Bits) = AdaBwdIdeal.defs₀ from congrArg Defs.onTc (funext fun l => match l with | 0 => rfl)]
  exact AdaBwdIdeal.Gen.frame (F := Bits) m g

/-- `AdaBwd` over the extended reals. -/
theorem frame_ada_bwd_ideal : quiescent_AdaBwdIdeal := fun m g _ => AdaBwdIdeal.Gen.frame (F := Ideal) m g

/-- Its reference over the extended reals. -/
theorem frame_mod_grads_ideal : quiescent_ModGradsIdeal := fun m g _ =>
  quiet (by decide) (fun _ _ h => h.2.2) (ModGradsIdeal.Value.run (F := Ideal) m g)

/-! ## The gradient through the first norm -/

/-- `NormBwd` over the bits. -/
theorem frame_norm_bwd : quiescent_NormBwd := fun m g _ => by
  unfold NormBwd.defs
  rw [show NormBwd.defs₀ (F := Bits) = NormBwdIdeal.defs₀ from congrArg Defs.onTc (funext fun l => match l with | 0 => rfl)]
  exact NormBwdIdeal.Run.frame (F := Bits) m g

/-- `NormBwd` over the extended reals. -/
theorem frame_norm_bwd_ideal : quiescent_NormBwdIdeal := fun m g _ => NormBwdIdeal.Run.frame (F := Ideal) m g

/-- Its reference over the extended reals. -/
theorem frame_norm_grads_ideal : quiescent_NormGradsIdeal := fun m g _ =>
  quiet (by decide) (fun _ _ h => h.2.2) (NormGradsIdeal.Value.run (F := Ideal) m g)

/-- `LossHead` over the bits. -/
theorem frame_loss_head : quiescent_LossHead := fun m g _ => by
  unfold LossHead.defs
  rw [show LossHead.defs₀ (F := Bits) = LossHeadIdeal.defs₀ from congrArg Defs.onTc (funext fun l => match l with | 0 => rfl)]
  exact LossHeadIdeal.Run.frame (F := Bits) m g

/-- `LossHead` over the extended reals. -/
theorem frame_loss_head_ideal : quiescent_LossHeadIdeal := fun m g _ => LossHeadIdeal.Run.frame (F := Ideal) m g

/-- Its reference over the extended reals. -/
theorem frame_loss_ideal : quiescent_LossIdeal := fun m g _ =>
  quiet (by decide) (fun _ _ h => h.2) (LossIdeal.Value.run (F := Ideal) m g)

/-! ## The gradient of a feed-forward weight -/

/-- `WeightGrad` over the bits. -/
theorem frame_weight_grad : quiescent_WeightGrad := fun m g _ => by
  unfold WeightGrad.defs
  rw [show WeightGrad.defs₀ (F := Bits) = WeightGradIdeal.defs₀ from congrArg Defs.onTc (funext fun l => match l with | 0 => rfl)]
  exact WeightGradIdeal.Gen.frame (F := Bits) m g

/-- `WeightGrad` over the extended reals. -/
theorem frame_weight_grad_ideal : quiescent_WeightGradIdeal := fun m g _ => WeightGradIdeal.Gen.frame (F := Ideal) m g

/-- Its reference over the extended reals. -/
theorem frame_product_grad_ideal : quiescent_ProductGradIdeal := fun m g _ =>
  quiet (by decide) (fun _ _ h => h.2) (ProductGradIdeal.Value.run (F := Ideal) m g)

/-! ## The hidden activation -/

/-- `FfnUp` over the bits. -/
theorem frame_ffn_up : quiescent_FfnUp := fun m g _ => by
  unfold FfnUp.defs
  rw [show FfnUp.defs₀ (F := Bits) = FfnUpIdeal.defs₀ from congrArg Defs.onTc (funext fun l => match l with | 0 => rfl)]
  exact FfnUpIdeal.Gen.frame (F := Bits) m g

/-- `FfnUp` over the extended reals. -/
theorem frame_ffn_up_ideal : quiescent_FfnUpIdeal := fun m g _ => FfnUpIdeal.Gen.frame (F := Ideal) m g

/-- Its reference over the extended reals. -/
theorem frame_hidden_ideal : quiescent_HiddenIdeal := fun m g _ =>
  quiet (by decide) (fun _ _ h => h.2.2.2) (HiddenIdeal.Value.run (F := Ideal) m g)

/-! ## Its gradient -/

/-- `FfnDact` over the bits. -/
theorem frame_ffn_dact : quiescent_FfnDact := fun m g _ => by
  unfold FfnDact.defs
  rw [show FfnDact.defs₀ (F := Bits) = FfnDactIdeal.defs₀ from congrArg Defs.onTc (funext fun l => match l with | 0 => rfl)]
  exact FfnDactIdeal.Gen.frame (F := Bits) m g

/-- `FfnDact` over the extended reals. -/
theorem frame_ffn_dact_ideal : quiescent_FfnDactIdeal := fun m g _ => FfnDactIdeal.Gen.frame (F := Ideal) m g

/-- Its reference over the extended reals. -/
theorem frame_hidden_grads_ideal : quiescent_HiddenGradsIdeal := fun m g _ =>
  quiet (by decide) (fun _ _ h => h.2.2) (HiddenGradsIdeal.Value.run (F := Ideal) m g)

/-! ## The gradient of the layer's input -/

/-- `BackGate` over the bits. -/
theorem frame_back_gate : quiescent_BackGate := fun m g _ => by
  unfold BackGate.defs
  rw [show BackGate.defs₀ (F := Bits) = BackGateIdeal.defs₀ from congrArg Defs.onTc (funext fun l => match l with | 0 => rfl)]
  exact BackGateIdeal.Gen.frame (F := Bits) m g

/-- `BackGate` over the extended reals. -/
theorem frame_back_gate_ideal : quiescent_BackGateIdeal := fun m g _ => BackGateIdeal.Gen.frame (F := Ideal) m g

/-- Its reference over the extended reals. -/
theorem frame_through_gate_ideal : quiescent_ThroughGateIdeal := fun m g _ =>
  quiet (by decide) (fun _ _ h => h.2) (ThroughGateIdeal.Value.run (F := Ideal) m g)

/-- `BackUp` over the bits. -/
theorem frame_back_up : quiescent_BackUp := fun m g _ => by
  unfold BackUp.defs
  rw [show BackUp.defs₀ (F := Bits) = BackUpIdeal.defs₀ from congrArg Defs.onTc (funext fun l => match l with | 0 => rfl)]
  exact BackUpIdeal.Gen.frame (F := Bits) m g

/-- `BackUp` over the extended reals. -/
theorem frame_back_up_ideal : quiescent_BackUpIdeal := fun m g _ => BackUpIdeal.Gen.frame (F := Ideal) m g

/-- Its reference over the extended reals. -/
theorem frame_through_up_ideal : quiescent_ThroughUpIdeal := fun m g _ =>
  quiet (by decide) (fun _ _ h => h.2) (ThroughUpIdeal.Value.run (F := Ideal) m g)

/-- Everything claimed. -/
theorem claim : Cert.Claim :=
  ⟨Kernel.Gen.facts, KernelIdeal.Gen.facts, ReferenceIdeal.Gen.facts, Reference.Gen.facts,
    GatherFfn.Gen.facts, GatherFfnIdeal.Gen.facts, WholeFfnIdeal.Gen.facts, WholeFfn.Gen.facts,
    ScatterEven.Gen.facts, ScatterEvenIdeal.Gen.facts, SentEvenIdeal.Gen.facts, SentEven.Gen.facts,
    ScatterOdd.Gen.facts, ScatterOddIdeal.Gen.facts, SentOddIdeal.Gen.facts, SentOdd.Gen.facts,
    GatherEven.Gen.facts, GatherEvenIdeal.Gen.facts, WholeEvenIdeal.Gen.facts, WholeEven.Gen.facts,
    GatherOdd.Gen.facts, GatherOddIdeal.Gen.facts, WholeOddIdeal.Gen.facts, WholeOdd.Gen.facts,
    GatherSmall.Gen.facts, GatherSmallIdeal.Gen.facts, StackedSmallIdeal.Gen.facts, StackedSmall.Gen.facts,
    GatherMod.Gen.facts, GatherModIdeal.Gen.facts, StackedModIdeal.Gen.facts, StackedMod.Gen.facts,
    GatherDmod.Gen.facts, GatherDmodIdeal.Gen.facts, StackedDmodIdeal.Gen.facts, StackedDmod.Gen.facts,
    GatherGrads.Gen.facts, GatherGradsIdeal.Gen.facts, StackedGradsIdeal.Gen.facts, StackedGrads.Gen.facts,
    AdamFfn.Gen.facts, AdamFfnIdeal.Gen.facts, StepFfnIdeal.Gen.facts, AdamOut.Gen.facts,
    AdamOutIdeal.Gen.facts, StepOutIdeal.Gen.facts, AdamEven.Gen.facts, AdamEvenIdeal.Gen.facts,
    StepEvenIdeal.Gen.facts, AdamOdd.Gen.facts, AdamOddIdeal.Gen.facts, StepOddIdeal.Gen.facts,
    AdamAda.Gen.facts, AdamAdaIdeal.Gen.facts, StepAdaIdeal.Gen.facts, AdamSmall.Gen.facts,
    AdamSmallIdeal.Gen.facts, StepSmallIdeal.Gen.facts, BiasGrads.Gen.facts, BiasGradsIdeal.Gen.facts,
    BiasTotalIdeal.Gen.facts, CutGrads.Gen.facts, CutGradsIdeal.Gen.facts, WeightTotalsIdeal.Gen.facts,
    SumGrads.Gen.facts, SumGradsIdeal.Gen.facts, TotalGradsIdeal.Gen.facts,
    SumEarly.Gen.facts, SumEarlyIdeal.Gen.facts, TotalEarlyIdeal.Gen.facts, AdaFwd.Gen.facts,
    AdaFwdIdeal.Gen.facts, ModulationIdeal.Gen.facts, AdaBwd.Gen.facts, AdaBwdIdeal.Gen.facts,
    ModGradsIdeal.Gen.facts, NormBwd.Gen.facts, NormBwdIdeal.Gen.facts, NormGradsIdeal.Gen.facts,
    LossHead.Gen.facts, LossHeadIdeal.Gen.facts, LossIdeal.Gen.facts, WeightGrad.Gen.facts,
    WeightGradIdeal.Gen.facts, ProductGradIdeal.Gen.facts, FfnUp.Gen.facts, FfnUpIdeal.Gen.facts, HiddenIdeal.Gen.facts,
    FfnDact.Gen.facts, FfnDactIdeal.Gen.facts, HiddenGradsIdeal.Gen.facts,
    BackGate.Gen.facts, BackGateIdeal.Gen.facts, ThroughGateIdeal.Gen.facts, BackUp.Gen.facts, BackUpIdeal.Gen.facts,
    ThroughUpIdeal.Gen.facts,
    frame_kernel, frame_ideal,
    frame_reference_ideal, frame_reference, frame_gather_ffn, frame_gather_ffn_ideal, frame_gather_ffn_reference_ideal,
    frame_gather_ffn_reference, frame_scatter_even, frame_scatter_even_ideal, frame_scatter_even_reference_ideal,
    frame_scatter_even_reference, frame_scatter_odd, frame_scatter_odd_ideal, frame_scatter_odd_reference_ideal,
    frame_scatter_odd_reference, frame_gather_even, frame_gather_even_ideal, frame_gather_even_reference_ideal,
    frame_gather_even_reference, frame_gather_odd, frame_gather_odd_ideal, frame_gather_odd_reference_ideal,
    frame_gather_odd_reference, frame_gather_small, frame_gather_small_ideal, frame_gather_small_reference_ideal,
    frame_gather_small_reference, frame_gather_mod, frame_gather_mod_ideal, frame_gather_mod_reference_ideal,
    frame_gather_mod_reference, frame_gather_dmod, frame_gather_dmod_ideal, frame_gather_dmod_reference_ideal,
    frame_gather_dmod_reference, frame_gather_grads, frame_gather_grads_ideal, frame_gather_grads_reference_ideal,
    frame_gather_grads_reference, frame_adam_ffn, frame_adam_ffn_ideal, frame_step_ffn_ideal, frame_adam_out,
    frame_adam_out_ideal, frame_step_out_ideal, frame_adam_even, frame_adam_even_ideal, frame_step_even_ideal, frame_adam_odd,
    frame_adam_odd_ideal, frame_step_odd_ideal, frame_adam_ada, frame_adam_ada_ideal, frame_step_ada_ideal, frame_adam_small,
    frame_adam_small_ideal, frame_step_small_ideal, frame_bias_grads, frame_bias_grads_ideal, frame_bias_total_ideal,
    frame_cut_grads, frame_cut_grads_ideal, frame_weight_totals_ideal,
    frame_sum_grads, frame_sum_grads_ideal, frame_total_grads_ideal, frame_sum_early, frame_sum_early_ideal,
    frame_total_early_ideal, frame_ada_fwd, frame_ada_fwd_ideal, frame_modulation_ideal, frame_ada_bwd, frame_ada_bwd_ideal,
    frame_mod_grads_ideal, frame_norm_bwd, frame_norm_bwd_ideal, frame_norm_grads_ideal, frame_loss_head, frame_loss_head_ideal,
    frame_loss_ideal, frame_weight_grad, frame_weight_grad_ideal, frame_product_grad_ideal, frame_ffn_up, frame_ffn_up_ideal,
    frame_hidden_ideal, frame_ffn_dact, frame_ffn_dact_ideal, frame_hidden_grads_ideal, frame_back_gate,
    frame_back_gate_ideal, frame_through_gate_ideal, frame_back_up, frame_back_up_ideal, frame_through_up_ideal, trivial, algebraic, bitexact, trivial, algebraic_gather_ffn, bitexact_gather_ffn, trivial,
    algebraic_scatter_even, bitexact_scatter_even, trivial, algebraic_scatter_odd, bitexact_scatter_odd, trivial,
    algebraic_gather_even, bitexact_gather_even, trivial, algebraic_gather_odd, bitexact_gather_odd, trivial,
    algebraic_gather_small, bitexact_gather_small, trivial, algebraic_gather_mod, bitexact_gather_mod, trivial,
    algebraic_gather_dmod, bitexact_gather_dmod, trivial, algebraic_gather_grads, bitexact_gather_grads, trivial,
    AdamFfnIdeal.Value.algebraic, trivial, AdamOutIdeal.Value.algebraic, trivial, AdamEvenIdeal.Value.algebraic,
    trivial, AdamOddIdeal.Value.algebraic, trivial, AdamAdaIdeal.Value.algebraic, trivial,
    AdamSmallIdeal.Value.algebraic, trivial, BiasGradsIdeal.Value.algebraic, trivial, CutGradsIdeal.Cut.algebraic,
    trivial, SumGradsIdeal.Value.algebraic,
    trivial, SumEarlyIdeal.Value.algebraic, trivial, AdaFwdIdeal.Value.algebraic, trivial,
    AdaBwdIdeal.Value.algebraic, trivial, NormBwdIdeal.Run.algebraic, trivial,
    LossHeadIdeal.Run.algebraic, trivial, WeightGradIdeal.Value.algebraic, trivial,
    FfnUpIdeal.Value.algebraic, trivial, FfnDactIdeal.Value.algebraic,
    trivial, BackGateIdeal.Value.algebraic, trivial, BackUpIdeal.Value.algebraic⟩

end Cert.Proof

end
